-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))) = (fun _ => 1#1)

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_finite_scores [hPre_finite_scores : Cert.Pre_finite_scores.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_finite_scores.fn (F := Ideal) (m ((c.tc : Thread Cert.KernelAttnFwdIdeal.nD Cert.KernelAttnFwdIdeal.τ).loc Cert.KernelAttnFwdIdeal.main_arg0)) (m ((c.tc : Thread Cert.KernelAttnFwdIdeal.nD Cert.KernelAttnFwdIdeal.τ).loc Cert.KernelAttnFwdIdeal.main_arg1)) (m ((c.tc : Thread Cert.KernelAttnFwdIdeal.nD Cert.KernelAttnFwdIdeal.τ).loc Cert.KernelAttnFwdIdeal.main_arg2))) = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_finite_scores [hPre_finite_scores : Cert.Pre_finite_scores.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_finite_scores.fn (F := Ideal) (m ((c.tc : Thread Cert.ReferenceAttnFwdIdeal.nD Cert.ReferenceAttnFwdIdeal.τ).loc Cert.ReferenceAttnFwdIdeal.main_arg0)) (m ((c.tc : Thread Cert.ReferenceAttnFwdIdeal.nD Cert.ReferenceAttnFwdIdeal.τ).loc Cert.ReferenceAttnFwdIdeal.main_arg1)) (m ((c.tc : Thread Cert.ReferenceAttnFwdIdeal.nD Cert.ReferenceAttnFwdIdeal.τ).loc Cert.ReferenceAttnFwdIdeal.main_arg2))) = (fun _ => 1#1)

def Pre_KernelLat (m : (ℓ : Loc Cert.KernelLat.nD Cert.KernelLat.τ Cert.KernelLat.sig) → Buf (Elt Bits) ℓ) : Prop :=
  True

def Pre_KernelLatIdeal (m : (ℓ : Loc Cert.KernelLatIdeal.nD Cert.KernelLatIdeal.τ Cert.KernelLatIdeal.sig) → Buf (Elt Ideal) ℓ) : Prop :=
  True

def Pre_KernelLatIdeal_finite_lat [hPre_finite_lat : Cert.Pre_finite_lat.Facts] (m : (ℓ : Loc Cert.KernelLatIdeal.nD Cert.KernelLatIdeal.τ Cert.KernelLatIdeal.sig) → Buf (Elt Ideal) ℓ) : Prop :=
  ∀ c : Dev Cert.KernelLatIdeal.nD,
    (Cert.Pre_finite_lat.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4))) = (fun _ => 1#1)

def Pre_ReferenceLatIdeal (m : (ℓ : Loc Cert.ReferenceLatIdeal.nD Cert.ReferenceLatIdeal.τ Cert.ReferenceLatIdeal.sig) → Buf (Elt Ideal) ℓ) : Prop :=
  True

def Pre_ReferenceLatIdeal_finite_lat [hPre_finite_lat : Cert.Pre_finite_lat.Facts] (m : (ℓ : Loc Cert.ReferenceLatIdeal.nD Cert.ReferenceLatIdeal.τ Cert.ReferenceLatIdeal.sig) → Buf (Elt Ideal) ℓ) : Prop :=
  ∀ c : Dev Cert.ReferenceLatIdeal.nD,
    (Cert.Pre_finite_lat.fn (F := Ideal) (m ((c.tc : Thread Cert.ReferenceLatIdeal.nD Cert.ReferenceLatIdeal.τ).loc Cert.ReferenceLatIdeal.main_arg0)) (m ((c.tc : Thread Cert.ReferenceLatIdeal.nD Cert.ReferenceLatIdeal.τ).loc Cert.ReferenceLatIdeal.main_arg1)) (m ((c.tc : Thread Cert.ReferenceLatIdeal.nD Cert.ReferenceLatIdeal.τ).loc Cert.ReferenceLatIdeal.main_arg2)) (m ((c.tc : Thread Cert.ReferenceLatIdeal.nD Cert.ReferenceLatIdeal.τ).loc Cert.ReferenceLatIdeal.main_arg3)) (m ((c.tc : Thread Cert.ReferenceLatIdeal.nD Cert.ReferenceLatIdeal.τ).loc Cert.ReferenceLatIdeal.main_arg4))) = (fun _ => 1#1)

def Pre_KernelNorm1 (m : (ℓ : Loc Cert.KernelNorm1.nD Cert.KernelNorm1.τ Cert.KernelNorm1.sig) → Buf (Elt Bits) ℓ) : Prop :=
  True

def Pre_KernelNorm1Ideal (m : (ℓ : Loc Cert.KernelNorm1Ideal.nD Cert.KernelNorm1Ideal.τ Cert.KernelNorm1Ideal.sig) → Buf (Elt Ideal) ℓ) : Prop :=
  True

def Pre_KernelNorm1Ideal_finite_norm1 [hPre_finite_norm1 : Cert.Pre_finite_norm1.Facts] (m : (ℓ : Loc Cert.KernelNorm1Ideal.nD Cert.KernelNorm1Ideal.τ Cert.KernelNorm1Ideal.sig) → Buf (Elt Ideal) ℓ) : Prop :=
  ∀ c : Dev Cert.KernelNorm1Ideal.nD,
    (Cert.Pre_finite_norm1.fn (F := Ideal) (m ((c.tc : Thread Cert.KernelNorm1Ideal.nD Cert.KernelNorm1Ideal.τ).loc Cert.KernelNorm1Ideal.main_arg0)) (m ((c.tc : Thread Cert.KernelNorm1Ideal.nD Cert.KernelNorm1Ideal.τ).loc Cert.KernelNorm1Ideal.main_arg1)) (m ((c.tc : Thread Cert.KernelNorm1Ideal.nD Cert.KernelNorm1Ideal.τ).loc Cert.KernelNorm1Ideal.main_arg2)) (m ((c.tc : Thread Cert.KernelNorm1Ideal.nD Cert.KernelNorm1Ideal.τ).loc Cert.KernelNorm1Ideal.main_arg3)) (m ((c.tc : Thread Cert.KernelNorm1Ideal.nD Cert.KernelNorm1Ideal.τ).loc Cert.KernelNorm1Ideal.main_arg4))) = (fun _ => 1#1)

def Pre_ReferenceNorm1Ideal (m : (ℓ : Loc Cert.ReferenceNorm1Ideal.nD Cert.ReferenceNorm1Ideal.τ Cert.ReferenceNorm1Ideal.sig) → Buf (Elt Ideal) ℓ) : Prop :=
  True

def Pre_ReferenceNorm1Ideal_finite_norm1 [hPre_finite_norm1 : Cert.Pre_finite_norm1.Facts] (m : (ℓ : Loc Cert.ReferenceNorm1Ideal.nD Cert.ReferenceNorm1Ideal.τ Cert.ReferenceNorm1Ideal.sig) → Buf (Elt Ideal) ℓ) : Prop :=
  ∀ c : Dev Cert.ReferenceNorm1Ideal.nD,
    (Cert.Pre_finite_norm1.fn (F := Ideal) (m ((c.tc : Thread Cert.ReferenceNorm1Ideal.nD Cert.ReferenceNorm1Ideal.τ).loc Cert.ReferenceNorm1Ideal.main_arg0)) (m ((c.tc : Thread Cert.ReferenceNorm1Ideal.nD Cert.ReferenceNorm1Ideal.τ).loc Cert.ReferenceNorm1Ideal.main_arg1)) (m ((c.tc : Thread Cert.ReferenceNorm1Ideal.nD Cert.ReferenceNorm1Ideal.τ).loc Cert.ReferenceNorm1Ideal.main_arg2)) (m ((c.tc : Thread Cert.ReferenceNorm1Ideal.nD Cert.ReferenceNorm1Ideal.τ).loc Cert.ReferenceNorm1Ideal.main_arg3)) (m ((c.tc : Thread Cert.ReferenceNorm1Ideal.nD Cert.ReferenceNorm1Ideal.τ).loc Cert.ReferenceNorm1Ideal.main_arg4))) = (fun _ => 1#1)

def Pre_KernelNorm2 (m : (ℓ : Loc Cert.KernelNorm2.nD Cert.KernelNorm2.τ Cert.KernelNorm2.sig) → Buf (Elt Bits) ℓ) : Prop :=
  True

def Pre_KernelNorm2Ideal (m : (ℓ : Loc Cert.KernelNorm2Ideal.nD Cert.KernelNorm2Ideal.τ Cert.KernelNorm2Ideal.sig) → Buf (Elt Ideal) ℓ) : Prop :=
  True

def Pre_KernelNorm2Ideal_finite_norm2 [hPre_finite_norm2 : Cert.Pre_finite_norm2.Facts] (m : (ℓ : Loc Cert.KernelNorm2Ideal.nD Cert.KernelNorm2Ideal.τ Cert.KernelNorm2Ideal.sig) → Buf (Elt Ideal) ℓ) : Prop :=
  ∀ c : Dev Cert.KernelNorm2Ideal.nD,
    (Cert.Pre_finite_norm2.fn (F := Ideal) (m ((c.tc : Thread Cert.KernelNorm2Ideal.nD Cert.KernelNorm2Ideal.τ).loc Cert.KernelNorm2Ideal.main_arg0)) (m ((c.tc : Thread Cert.KernelNorm2Ideal.nD Cert.KernelNorm2Ideal.τ).loc Cert.KernelNorm2Ideal.main_arg1)) (m ((c.tc : Thread Cert.KernelNorm2Ideal.nD Cert.KernelNorm2Ideal.τ).loc Cert.KernelNorm2Ideal.main_arg2)) (m ((c.tc : Thread Cert.KernelNorm2Ideal.nD Cert.KernelNorm2Ideal.τ).loc Cert.KernelNorm2Ideal.main_arg3)) (m ((c.tc : Thread Cert.KernelNorm2Ideal.nD Cert.KernelNorm2Ideal.τ).loc Cert.KernelNorm2Ideal.main_arg4)) (m ((c.tc : Thread Cert.KernelNorm2Ideal.nD Cert.KernelNorm2Ideal.τ).loc Cert.KernelNorm2Ideal.main_arg5)) (m ((c.tc : Thread Cert.KernelNorm2Ideal.nD Cert.KernelNorm2Ideal.τ).loc Cert.KernelNorm2Ideal.main_arg6)) (m ((c.tc : Thread Cert.KernelNorm2Ideal.nD Cert.KernelNorm2Ideal.τ).loc Cert.KernelNorm2Ideal.main_arg7))) = (fun _ => 1#1)

def Pre_ReferenceNorm2Ideal (m : (ℓ : Loc Cert.ReferenceNorm2Ideal.nD Cert.ReferenceNorm2Ideal.τ Cert.ReferenceNorm2Ideal.sig) → Buf (Elt Ideal) ℓ) : Prop :=
  True

def Pre_ReferenceNorm2Ideal_finite_norm2 [hPre_finite_norm2 : Cert.Pre_finite_norm2.Facts] (m : (ℓ : Loc Cert.ReferenceNorm2Ideal.nD Cert.ReferenceNorm2Ideal.τ Cert.ReferenceNorm2Ideal.sig) → Buf (Elt Ideal) ℓ) : Prop :=
  ∀ c : Dev Cert.ReferenceNorm2Ideal.nD,
    (Cert.Pre_finite_norm2.fn (F := Ideal) (m ((c.tc : Thread Cert.ReferenceNorm2Ideal.nD Cert.ReferenceNorm2Ideal.τ).loc Cert.ReferenceNorm2Ideal.main_arg0)) (m ((c.tc : Thread Cert.ReferenceNorm2Ideal.nD Cert.ReferenceNorm2Ideal.τ).loc Cert.ReferenceNorm2Ideal.main_arg1)) (m ((c.tc : Thread Cert.ReferenceNorm2Ideal.nD Cert.ReferenceNorm2Ideal.τ).loc Cert.ReferenceNorm2Ideal.main_arg2)) (m ((c.tc : Thread Cert.ReferenceNorm2Ideal.nD Cert.ReferenceNorm2Ideal.τ).loc Cert.ReferenceNorm2Ideal.main_arg3)) (m ((c.tc : Thread Cert.ReferenceNorm2Ideal.nD Cert.ReferenceNorm2Ideal.τ).loc Cert.ReferenceNorm2Ideal.main_arg4)) (m ((c.tc : Thread Cert.ReferenceNorm2Ideal.nD Cert.ReferenceNorm2Ideal.τ).loc Cert.ReferenceNorm2Ideal.main_arg5)) (m ((c.tc : Thread Cert.ReferenceNorm2Ideal.nD Cert.ReferenceNorm2Ideal.τ).loc Cert.ReferenceNorm2Ideal.main_arg6)) (m ((c.tc : Thread Cert.ReferenceNorm2Ideal.nD Cert.ReferenceNorm2Ideal.τ).loc Cert.ReferenceNorm2Ideal.main_arg7))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelRelu2 (m : (ℓ : Loc Cert.KernelRelu2.nD Cert.KernelRelu2.τ Cert.KernelRelu2.sig) → Buf (Elt Bits) ℓ) : Prop :=
  True

def Pre_KernelRelu2Ideal (m : (ℓ : Loc Cert.KernelRelu2Ideal.nD Cert.KernelRelu2Ideal.τ Cert.KernelRelu2Ideal.sig) → Buf (Elt Ideal) ℓ) : Prop :=
  True

def Pre_ReferenceRelu2Ideal (m : (ℓ : Loc Cert.ReferenceRelu2Ideal.nD Cert.ReferenceRelu2Ideal.τ Cert.ReferenceRelu2Ideal.sig) → Buf (Elt Ideal) ℓ) : Prop :=
  True

def Pre_KernelQk (m : (ℓ : Loc Cert.KernelQk.nD Cert.KernelQk.τ Cert.KernelQk.sig) → Buf (Elt Bits) ℓ) : Prop :=
  True

def Pre_KernelQkIdeal (m : (ℓ : Loc Cert.KernelQkIdeal.nD Cert.KernelQkIdeal.τ Cert.KernelQkIdeal.sig) → Buf (Elt Ideal) ℓ) : Prop :=
  True

def Pre_KernelQkIdeal_finite_qk [hPre_finite_qk : Cert.Pre_finite_qk.Facts] (m : (ℓ : Loc Cert.KernelQkIdeal.nD Cert.KernelQkIdeal.τ Cert.KernelQkIdeal.sig) → Buf (Elt Ideal) ℓ) : Prop :=
  ∀ c : Dev Cert.KernelQkIdeal.nD,
    (Cert.Pre_finite_qk.fn (F := Ideal) (m ((c.tc : Thread Cert.KernelQkIdeal.nD Cert.KernelQkIdeal.τ).loc Cert.KernelQkIdeal.main_arg0)) (m ((c.tc : Thread Cert.KernelQkIdeal.nD Cert.KernelQkIdeal.τ).loc Cert.KernelQkIdeal.main_arg1)) (m ((c.tc : Thread Cert.KernelQkIdeal.nD Cert.KernelQkIdeal.τ).loc Cert.KernelQkIdeal.main_arg2)) (m ((c.tc : Thread Cert.KernelQkIdeal.nD Cert.KernelQkIdeal.τ).loc Cert.KernelQkIdeal.main_arg3)) (m ((c.tc : Thread Cert.KernelQkIdeal.nD Cert.KernelQkIdeal.τ).loc Cert.KernelQkIdeal.main_arg4)) (m ((c.tc : Thread Cert.KernelQkIdeal.nD Cert.KernelQkIdeal.τ).loc Cert.KernelQkIdeal.main_arg5)) (m ((c.tc : Thread Cert.KernelQkIdeal.nD Cert.KernelQkIdeal.τ).loc Cert.KernelQkIdeal.main_arg6)) (m ((c.tc : Thread Cert.KernelQkIdeal.nD Cert.KernelQkIdeal.τ).loc Cert.KernelQkIdeal.main_arg7)) (m ((c.tc : Thread Cert.KernelQkIdeal.nD Cert.KernelQkIdeal.τ).loc Cert.KernelQkIdeal.main_arg8))) = (fun _ => 1#1)

def Pre_ReferenceQkIdeal (m : (ℓ : Loc Cert.ReferenceQkIdeal.nD Cert.ReferenceQkIdeal.τ Cert.ReferenceQkIdeal.sig) → Buf (Elt Ideal) ℓ) : Prop :=
  True

def Pre_ReferenceQkIdeal_finite_qk [hPre_finite_qk : Cert.Pre_finite_qk.Facts] (m : (ℓ : Loc Cert.ReferenceQkIdeal.nD Cert.ReferenceQkIdeal.τ Cert.ReferenceQkIdeal.sig) → Buf (Elt Ideal) ℓ) : Prop :=
  ∀ c : Dev Cert.ReferenceQkIdeal.nD,
    (Cert.Pre_finite_qk.fn (F := Ideal) (m ((c.tc : Thread Cert.ReferenceQkIdeal.nD Cert.ReferenceQkIdeal.τ).loc Cert.ReferenceQkIdeal.main_arg0)) (m ((c.tc : Thread Cert.ReferenceQkIdeal.nD Cert.ReferenceQkIdeal.τ).loc Cert.ReferenceQkIdeal.main_arg1)) (m ((c.tc : Thread Cert.ReferenceQkIdeal.nD Cert.ReferenceQkIdeal.τ).loc Cert.ReferenceQkIdeal.main_arg2)) (m ((c.tc : Thread Cert.ReferenceQkIdeal.nD Cert.ReferenceQkIdeal.τ).loc Cert.ReferenceQkIdeal.main_arg3)) (m ((c.tc : Thread Cert.ReferenceQkIdeal.nD Cert.ReferenceQkIdeal.τ).loc Cert.ReferenceQkIdeal.main_arg4)) (m ((c.tc : Thread Cert.ReferenceQkIdeal.nD Cert.ReferenceQkIdeal.τ).loc Cert.ReferenceQkIdeal.main_arg5)) (m ((c.tc : Thread Cert.ReferenceQkIdeal.nD Cert.ReferenceQkIdeal.τ).loc Cert.ReferenceQkIdeal.main_arg6)) (m ((c.tc : Thread Cert.ReferenceQkIdeal.nD Cert.ReferenceQkIdeal.τ).loc Cert.ReferenceQkIdeal.main_arg7)) (m ((c.tc : Thread Cert.ReferenceQkIdeal.nD Cert.ReferenceQkIdeal.τ).loc Cert.ReferenceQkIdeal.main_arg8))) = (fun _ => 1#1)

def Pre_KernelMergeFwd (m : (ℓ : Loc Cert.KernelMergeFwd.nD Cert.KernelMergeFwd.τ Cert.KernelMergeFwd.sig) → Buf (Elt Bits) ℓ) : Prop :=
  True

def Pre_KernelMergeFwdIdeal (m : (ℓ : Loc Cert.KernelMergeFwdIdeal.nD Cert.KernelMergeFwdIdeal.τ Cert.KernelMergeFwdIdeal.sig) → Buf (Elt Ideal) ℓ) : Prop :=
  True

def Pre_ReferenceMergeFwdIdeal (m : (ℓ : Loc Cert.ReferenceMergeFwdIdeal.nD Cert.ReferenceMergeFwdIdeal.τ Cert.ReferenceMergeFwdIdeal.sig) → Buf (Elt Ideal) ℓ) : Prop :=
  True

def Pre_KernelNorm1Fwd (m : (ℓ : Loc Cert.KernelNorm1Fwd.nD Cert.KernelNorm1Fwd.τ Cert.KernelNorm1Fwd.sig) → Buf (Elt Bits) ℓ) : Prop :=
  True

def Pre_KernelNorm1FwdIdeal (m : (ℓ : Loc Cert.KernelNorm1FwdIdeal.nD Cert.KernelNorm1FwdIdeal.τ Cert.KernelNorm1FwdIdeal.sig) → Buf (Elt Ideal) ℓ) : Prop :=
  True

def Pre_ReferenceNorm1FwdIdeal (m : (ℓ : Loc Cert.ReferenceNorm1FwdIdeal.nD Cert.ReferenceNorm1FwdIdeal.τ Cert.ReferenceNorm1FwdIdeal.sig) → Buf (Elt Ideal) ℓ) : Prop :=
  True

def Pre_KernelNorm2Fwd (m : (ℓ : Loc Cert.KernelNorm2Fwd.nD Cert.KernelNorm2Fwd.τ Cert.KernelNorm2Fwd.sig) → Buf (Elt Bits) ℓ) : Prop :=
  True

def Pre_KernelNorm2FwdIdeal (m : (ℓ : Loc Cert.KernelNorm2FwdIdeal.nD Cert.KernelNorm2FwdIdeal.τ Cert.KernelNorm2FwdIdeal.sig) → Buf (Elt Ideal) ℓ) : Prop :=
  True

def Pre_ReferenceNorm2FwdIdeal (m : (ℓ : Loc Cert.ReferenceNorm2FwdIdeal.nD Cert.ReferenceNorm2FwdIdeal.τ Cert.ReferenceNorm2FwdIdeal.sig) → Buf (Elt Ideal) ℓ) : Prop :=
  True

def Pre_KernelLatFwd (m : (ℓ : Loc Cert.KernelLatFwd.nD Cert.KernelLatFwd.τ Cert.KernelLatFwd.sig) → Buf (Elt Bits) ℓ) : Prop :=
  True

def Pre_KernelLatFwdIdeal (m : (ℓ : Loc Cert.KernelLatFwdIdeal.nD Cert.KernelLatFwdIdeal.τ Cert.KernelLatFwdIdeal.sig) → Buf (Elt Ideal) ℓ) : Prop :=
  True

def Pre_ReferenceLatFwdIdeal (m : (ℓ : Loc Cert.ReferenceLatFwdIdeal.nD Cert.ReferenceLatFwdIdeal.τ Cert.ReferenceLatFwdIdeal.sig) → Buf (Elt Ideal) ℓ) : Prop :=
  True

def Pre_KernelQkFwd (m : (ℓ : Loc Cert.KernelQkFwd.nD Cert.KernelQkFwd.τ Cert.KernelQkFwd.sig) → Buf (Elt Bits) ℓ) : Prop :=
  True

def Pre_KernelQkFwdIdeal (m : (ℓ : Loc Cert.KernelQkFwdIdeal.nD Cert.KernelQkFwdIdeal.τ Cert.KernelQkFwdIdeal.sig) → Buf (Elt Ideal) ℓ) : Prop :=
  True

def Pre_ReferenceQkFwdIdeal (m : (ℓ : Loc Cert.ReferenceQkFwdIdeal.nD Cert.ReferenceQkFwdIdeal.τ Cert.ReferenceQkFwdIdeal.sig) → Buf (Elt Ideal) ℓ) : Prop :=
  True

def Pre_KernelGla (m : (ℓ : Loc Cert.KernelGla.nD Cert.KernelGla.τ Cert.KernelGla.sig) → Buf (Elt Bits) ℓ) : Prop :=
  True

def Pre_KernelGlaIdeal (m : (ℓ : Loc Cert.KernelGlaIdeal.nD Cert.KernelGlaIdeal.τ Cert.KernelGlaIdeal.sig) → Buf (Elt Ideal) ℓ) : Prop :=
  True

def Pre_KernelGlaFwd (m : (ℓ : Loc Cert.KernelGlaFwd.nD Cert.KernelGlaFwd.τ Cert.KernelGlaFwd.sig) → Buf (Elt Bits) ℓ) : Prop :=
  True

def Pre_KernelGlaFwdIdeal (m : (ℓ : Loc Cert.KernelGlaFwdIdeal.nD Cert.KernelGlaFwdIdeal.τ Cert.KernelGlaFwdIdeal.sig) → Buf (Elt Ideal) ℓ) : Prop :=
  True

def Pre_ReferenceGlaFwdIdeal (m : (ℓ : Loc Cert.ReferenceGlaFwdIdeal.nD Cert.ReferenceGlaFwdIdeal.τ Cert.ReferenceGlaFwdIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelProjDx (m : (ℓ : Loc Cert.KernelProjDx.nD Cert.KernelProjDx.τ Cert.KernelProjDx.sig) → Buf (Elt Bits) ℓ) : Prop :=
  True

def Pre_KernelProjDxIdeal (m : (ℓ : Loc Cert.KernelProjDxIdeal.nD Cert.KernelProjDxIdeal.τ Cert.KernelProjDxIdeal.sig) → Buf (Elt Ideal) ℓ) : Prop :=
  True

def Pre_ReferenceProjDxIdeal (m : (ℓ : Loc Cert.ReferenceProjDxIdeal.nD Cert.ReferenceProjDxIdeal.τ Cert.ReferenceProjDxIdeal.sig) → Buf (Elt Ideal) ℓ) : Prop :=
  True

def Pre_KernelProjDw (m : (ℓ : Loc Cert.KernelProjDw.nD Cert.KernelProjDw.τ Cert.KernelProjDw.sig) → Buf (Elt Bits) ℓ) : Prop :=
  True

def Pre_KernelProjDwIdeal (m : (ℓ : Loc Cert.KernelProjDwIdeal.nD Cert.KernelProjDwIdeal.τ Cert.KernelProjDwIdeal.sig) → Buf (Elt Ideal) ℓ) : Prop :=
  True

def Pre_ReferenceProjDwIdeal (m : (ℓ : Loc Cert.ReferenceProjDwIdeal.nD Cert.ReferenceProjDwIdeal.τ Cert.ReferenceProjDwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0)
      ∧ r.2.mem ((c.tc : Thread Cert.KernelAttnFwd.nD Cert.KernelAttnFwd.τ).loc Cert.KernelAttnFwd.main_arg1) = m ((c.tc : Thread Cert.KernelAttnFwd.nD Cert.KernelAttnFwd.τ).loc Cert.KernelAttnFwd.main_arg1)
      ∧ r.2.mem ((c.tc : Thread Cert.KernelAttnFwd.nD Cert.KernelAttnFwd.τ).loc Cert.KernelAttnFwd.main_arg2) = m ((c.tc : Thread Cert.KernelAttnFwd.nD Cert.KernelAttnFwd.τ).loc Cert.KernelAttnFwd.main_arg2))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ r.2.sem = fun _ => 0)

def quiescent_KernelAttnFwdIdeal_pre_finite_scores [hKernelAttnFwdIdeal : Cert.KernelAttnFwdIdeal.Facts] [hPre_finite_scores : Cert.Pre_finite_scores.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_finite_scores m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2))
      ∧ r.2.sem = fun _ => 0)

def quiescent_ReferenceAttnFwdIdeal_pre_finite_scores [hReferenceAttnFwdIdeal : Cert.ReferenceAttnFwdIdeal.Facts] [hPre_finite_scores : Cert.Pre_finite_scores.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_finite_scores m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2))
      ∧ r.2.sem = fun _ => 0)

def quiescent_KernelLat [hKernelLat : Cert.KernelLat.Facts] : Prop :=
  ∀ (m : (ℓ : Loc Cert.KernelLat.nD Cert.KernelLat.τ Cert.KernelLat.sig) → Buf (Elt Bits) ℓ) (g : Dev Cert.KernelLat.nD → PrngReg), Pre_KernelLat m →
    θ_run (Cert.KernelLat.defs (F := Bits)) (onTc (τ := Cert.KernelLat.τ) (Cert.KernelLat.main (F := Bits))) ⟨m, fun _ => 0, g⟩ (fun r => (∀ c : Dev Cert.KernelLat.nD,
      r.2.mem ((c.tc : Thread Cert.KernelLat.nD Cert.KernelLat.τ).loc Cert.KernelLat.main_arg0) = m ((c.tc : Thread Cert.KernelLat.nD Cert.KernelLat.τ).loc Cert.KernelLat.main_arg0)
      ∧ r.2.mem ((c.tc : Thread Cert.KernelLat.nD Cert.KernelLat.τ).loc Cert.KernelLat.main_arg1) = m ((c.tc : Thread Cert.KernelLat.nD Cert.KernelLat.τ).loc Cert.KernelLat.main_arg1)
      ∧ r.2.mem ((c.tc : Thread Cert.KernelLat.nD Cert.KernelLat.τ).loc Cert.KernelLat.main_arg2) = m ((c.tc : Thread Cert.KernelLat.nD Cert.KernelLat.τ).loc Cert.KernelLat.main_arg2)
      ∧ r.2.mem ((c.tc : Thread Cert.KernelLat.nD Cert.KernelLat.τ).loc Cert.KernelLat.main_arg3) = m ((c.tc : Thread Cert.KernelLat.nD Cert.KernelLat.τ).loc Cert.KernelLat.main_arg3)
      ∧ r.2.mem ((c.tc : Thread Cert.KernelLat.nD Cert.KernelLat.τ).loc Cert.KernelLat.main_arg4) = m ((c.tc : Thread Cert.KernelLat.nD Cert.KernelLat.τ).loc Cert.KernelLat.main_arg4))
      ∧ r.2.sem = fun _ => 0)

def quiescent_KernelLatIdeal [hKernelLatIdeal : Cert.KernelLatIdeal.Facts] : Prop :=
  ∀ (m : (ℓ : Loc Cert.KernelLatIdeal.nD Cert.KernelLatIdeal.τ Cert.KernelLatIdeal.sig) → Buf (Elt Ideal) ℓ) (g : Dev Cert.KernelLatIdeal.nD → PrngReg), Pre_KernelLatIdeal m →
    θ_run (Cert.KernelLatIdeal.defs (F := Ideal)) (onTc (τ := Cert.KernelLatIdeal.τ) (Cert.KernelLatIdeal.main (F := Ideal))) ⟨m, fun _ => 0, g⟩ (fun r => (∀ c : Dev Cert.KernelLatIdeal.nD,
      r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
      ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
      ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
      ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
      ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4))
      ∧ r.2.sem = fun _ => 0)

def quiescent_KernelLatIdeal_pre_finite_lat [hKernelLatIdeal : Cert.KernelLatIdeal.Facts] [hPre_finite_lat : Cert.Pre_finite_lat.Facts] : Prop :=
  ∀ (m : (ℓ : Loc Cert.KernelLatIdeal.nD Cert.KernelLatIdeal.τ Cert.KernelLatIdeal.sig) → Buf (Elt Ideal) ℓ) (g : Dev Cert.KernelLatIdeal.nD → PrngReg), Pre_KernelLatIdeal_finite_lat m →
    θ_run (Cert.KernelLatIdeal.defs (F := Ideal)) (onTc (τ := Cert.KernelLatIdeal.τ) (Cert.KernelLatIdeal.main (F := Ideal))) ⟨m, fun _ => 0, g⟩ (fun r => (∀ c : Dev Cert.KernelLatIdeal.nD,
      r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
      ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
      ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
      ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
      ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4))
      ∧ r.2.sem = fun _ => 0)

def quiescent_ReferenceLatIdeal [hReferenceLatIdeal : Cert.ReferenceLatIdeal.Facts] : Prop :=
  ∀ (m : (ℓ : Loc Cert.ReferenceLatIdeal.nD Cert.ReferenceLatIdeal.τ Cert.ReferenceLatIdeal.sig) → Buf (Elt Ideal) ℓ) (g : Dev Cert.ReferenceLatIdeal.nD → PrngReg), Pre_ReferenceLatIdeal m →
    θ_run (Cert.ReferenceLatIdeal.defs (F := Ideal)) (onTc (τ := Cert.ReferenceLatIdeal.τ) (Cert.ReferenceLatIdeal.main (F := Ideal))) ⟨m, fun _ => 0, g⟩ (fun r => (∀ c : Dev Cert.ReferenceLatIdeal.nD,
      r.2.mem ((c.tc : Thread Cert.ReferenceLatIdeal.nD Cert.ReferenceLatIdeal.τ).loc Cert.ReferenceLatIdeal.main_arg0) = m ((c.tc : Thread Cert.ReferenceLatIdeal.nD Cert.ReferenceLatIdeal.τ).loc Cert.ReferenceLatIdeal.main_arg0)
      ∧ r.2.mem ((c.tc : Thread Cert.ReferenceLatIdeal.nD Cert.ReferenceLatIdeal.τ).loc Cert.ReferenceLatIdeal.main_arg1) = m ((c.tc : Thread Cert.ReferenceLatIdeal.nD Cert.ReferenceLatIdeal.τ).loc Cert.ReferenceLatIdeal.main_arg1)
      ∧ r.2.mem ((c.tc : Thread Cert.ReferenceLatIdeal.nD Cert.ReferenceLatIdeal.τ).loc Cert.ReferenceLatIdeal.main_arg2) = m ((c.tc : Thread Cert.ReferenceLatIdeal.nD Cert.ReferenceLatIdeal.τ).loc Cert.ReferenceLatIdeal.main_arg2)
      ∧ r.2.mem ((c.tc : Thread Cert.ReferenceLatIdeal.nD Cert.ReferenceLatIdeal.τ).loc Cert.ReferenceLatIdeal.main_arg3) = m ((c.tc : Thread Cert.ReferenceLatIdeal.nD Cert.ReferenceLatIdeal.τ).loc Cert.ReferenceLatIdeal.main_arg3)
      ∧ r.2.mem ((c.tc : Thread Cert.ReferenceLatIdeal.nD Cert.ReferenceLatIdeal.τ).loc Cert.ReferenceLatIdeal.main_arg4) = m ((c.tc : Thread Cert.ReferenceLatIdeal.nD Cert.ReferenceLatIdeal.τ).loc Cert.ReferenceLatIdeal.main_arg4))
      ∧ r.2.sem = fun _ => 0)

def quiescent_ReferenceLatIdeal_pre_finite_lat [hReferenceLatIdeal : Cert.ReferenceLatIdeal.Facts] [hPre_finite_lat : Cert.Pre_finite_lat.Facts] : Prop :=
  ∀ (m : (ℓ : Loc Cert.ReferenceLatIdeal.nD Cert.ReferenceLatIdeal.τ Cert.ReferenceLatIdeal.sig) → Buf (Elt Ideal) ℓ) (g : Dev Cert.ReferenceLatIdeal.nD → PrngReg), Pre_ReferenceLatIdeal_finite_lat m →
    θ_run (Cert.ReferenceLatIdeal.defs (F := Ideal)) (onTc (τ := Cert.ReferenceLatIdeal.τ) (Cert.ReferenceLatIdeal.main (F := Ideal))) ⟨m, fun _ => 0, g⟩ (fun r => (∀ c : Dev Cert.ReferenceLatIdeal.nD,
      r.2.mem ((c.tc : Thread Cert.ReferenceLatIdeal.nD Cert.ReferenceLatIdeal.τ).loc Cert.ReferenceLatIdeal.main_arg0) = m ((c.tc : Thread Cert.ReferenceLatIdeal.nD Cert.ReferenceLatIdeal.τ).loc Cert.ReferenceLatIdeal.main_arg0)
      ∧ r.2.mem ((c.tc : Thread Cert.ReferenceLatIdeal.nD Cert.ReferenceLatIdeal.τ).loc Cert.ReferenceLatIdeal.main_arg1) = m ((c.tc : Thread Cert.ReferenceLatIdeal.nD Cert.ReferenceLatIdeal.τ).loc Cert.ReferenceLatIdeal.main_arg1)
      ∧ r.2.mem ((c.tc : Thread Cert.ReferenceLatIdeal.nD Cert.ReferenceLatIdeal.τ).loc Cert.ReferenceLatIdeal.main_arg2) = m ((c.tc : Thread Cert.ReferenceLatIdeal.nD Cert.ReferenceLatIdeal.τ).loc Cert.ReferenceLatIdeal.main_arg2)
      ∧ r.2.mem ((c.tc : Thread Cert.ReferenceLatIdeal.nD Cert.ReferenceLatIdeal.τ).loc Cert.ReferenceLatIdeal.main_arg3) = m ((c.tc : Thread Cert.ReferenceLatIdeal.nD Cert.ReferenceLatIdeal.τ).loc Cert.ReferenceLatIdeal.main_arg3)
      ∧ r.2.mem ((c.tc : Thread Cert.ReferenceLatIdeal.nD Cert.ReferenceLatIdeal.τ).loc Cert.ReferenceLatIdeal.main_arg4) = m ((c.tc : Thread Cert.ReferenceLatIdeal.nD Cert.ReferenceLatIdeal.τ).loc Cert.ReferenceLatIdeal.main_arg4))
      ∧ r.2.sem = fun _ => 0)

def quiescent_KernelNorm1 [hKernelNorm1 : Cert.KernelNorm1.Facts] : Prop :=
  ∀ (m : (ℓ : Loc Cert.KernelNorm1.nD Cert.KernelNorm1.τ Cert.KernelNorm1.sig) → Buf (Elt Bits) ℓ) (g : Dev Cert.KernelNorm1.nD → PrngReg), Pre_KernelNorm1 m →
    θ_run (Cert.KernelNorm1.defs (F := Bits)) (onTc (τ := Cert.KernelNorm1.τ) (Cert.KernelNorm1.main (F := Bits))) ⟨m, fun _ => 0, g⟩ (fun r => (∀ c : Dev Cert.KernelNorm1.nD,
      r.2.mem ((c.tc : Thread Cert.KernelNorm1.nD Cert.KernelNorm1.τ).loc Cert.KernelNorm1.main_arg0) = m ((c.tc : Thread Cert.KernelNorm1.nD Cert.KernelNorm1.τ).loc Cert.KernelNorm1.main_arg0)
      ∧ r.2.mem ((c.tc : Thread Cert.KernelNorm1.nD Cert.KernelNorm1.τ).loc Cert.KernelNorm1.main_arg1) = m ((c.tc : Thread Cert.KernelNorm1.nD Cert.KernelNorm1.τ).loc Cert.KernelNorm1.main_arg1)
      ∧ r.2.mem ((c.tc : Thread Cert.KernelNorm1.nD Cert.KernelNorm1.τ).loc Cert.KernelNorm1.main_arg2) = m ((c.tc : Thread Cert.KernelNorm1.nD Cert.KernelNorm1.τ).loc Cert.KernelNorm1.main_arg2)
      ∧ r.2.mem ((c.tc : Thread Cert.KernelNorm1.nD Cert.KernelNorm1.τ).loc Cert.KernelNorm1.main_arg3) = m ((c.tc : Thread Cert.KernelNorm1.nD Cert.KernelNorm1.τ).loc Cert.KernelNorm1.main_arg3)
      ∧ r.2.mem ((c.tc : Thread Cert.KernelNorm1.nD Cert.KernelNorm1.τ).loc Cert.KernelNorm1.main_arg4) = m ((c.tc : Thread Cert.KernelNorm1.nD Cert.KernelNorm1.τ).loc Cert.KernelNorm1.main_arg4))
      ∧ r.2.sem = fun _ => 0)

def quiescent_KernelNorm1Ideal [hKernelNorm1Ideal : Cert.KernelNorm1Ideal.Facts] : Prop :=
  ∀ (m : (ℓ : Loc Cert.KernelNorm1Ideal.nD Cert.KernelNorm1Ideal.τ Cert.KernelNorm1Ideal.sig) → Buf (Elt Ideal) ℓ) (g : Dev Cert.KernelNorm1Ideal.nD → PrngReg), Pre_KernelNorm1Ideal m →
    θ_run (Cert.KernelNorm1Ideal.defs (F := Ideal)) (onTc (τ := Cert.KernelNorm1Ideal.τ) (Cert.KernelNorm1Ideal.main (F := Ideal))) ⟨m, fun _ => 0, g⟩ (fun r => (∀ c : Dev Cert.KernelNorm1Ideal.nD,
      r.2.mem ((c.tc : Thread Cert.KernelNorm1Ideal.nD Cert.KernelNorm1Ideal.τ).loc Cert.KernelNorm1Ideal.main_arg0) = m ((c.tc : Thread Cert.KernelNorm1Ideal.nD Cert.KernelNorm1Ideal.τ).loc Cert.KernelNorm1Ideal.main_arg0)
      ∧ r.2.mem ((c.tc : Thread Cert.KernelNorm1Ideal.nD Cert.KernelNorm1Ideal.τ).loc Cert.KernelNorm1Ideal.main_arg1) = m ((c.tc : Thread Cert.KernelNorm1Ideal.nD Cert.KernelNorm1Ideal.τ).loc Cert.KernelNorm1Ideal.main_arg1)
      ∧ r.2.mem ((c.tc : Thread Cert.KernelNorm1Ideal.nD Cert.KernelNorm1Ideal.τ).loc Cert.KernelNorm1Ideal.main_arg2) = m ((c.tc : Thread Cert.KernelNorm1Ideal.nD Cert.KernelNorm1Ideal.τ).loc Cert.KernelNorm1Ideal.main_arg2)
      ∧ r.2.mem ((c.tc : Thread Cert.KernelNorm1Ideal.nD Cert.KernelNorm1Ideal.τ).loc Cert.KernelNorm1Ideal.main_arg3) = m ((c.tc : Thread Cert.KernelNorm1Ideal.nD Cert.KernelNorm1Ideal.τ).loc Cert.KernelNorm1Ideal.main_arg3)
      ∧ r.2.mem ((c.tc : Thread Cert.KernelNorm1Ideal.nD Cert.KernelNorm1Ideal.τ).loc Cert.KernelNorm1Ideal.main_arg4) = m ((c.tc : Thread Cert.KernelNorm1Ideal.nD Cert.KernelNorm1Ideal.τ).loc Cert.KernelNorm1Ideal.main_arg4))
      ∧ r.2.sem = fun _ => 0)

def quiescent_KernelNorm1Ideal_pre_finite_norm1 [hKernelNorm1Ideal : Cert.KernelNorm1Ideal.Facts] [hPre_finite_norm1 : Cert.Pre_finite_norm1.Facts] : Prop :=
  ∀ (m : (ℓ : Loc Cert.KernelNorm1Ideal.nD Cert.KernelNorm1Ideal.τ Cert.KernelNorm1Ideal.sig) → Buf (Elt Ideal) ℓ) (g : Dev Cert.KernelNorm1Ideal.nD → PrngReg), Pre_KernelNorm1Ideal_finite_norm1 m →
    θ_run (Cert.KernelNorm1Ideal.defs (F := Ideal)) (onTc (τ := Cert.KernelNorm1Ideal.τ) (Cert.KernelNorm1Ideal.main (F := Ideal))) ⟨m, fun _ => 0, g⟩ (fun r => (∀ c : Dev Cert.KernelNorm1Ideal.nD,
      r.2.mem ((c.tc : Thread Cert.KernelNorm1Ideal.nD Cert.KernelNorm1Ideal.τ).loc Cert.KernelNorm1Ideal.main_arg0) = m ((c.tc : Thread Cert.KernelNorm1Ideal.nD Cert.KernelNorm1Ideal.τ).loc Cert.KernelNorm1Ideal.main_arg0)
      ∧ r.2.mem ((c.tc : Thread Cert.KernelNorm1Ideal.nD Cert.KernelNorm1Ideal.τ).loc Cert.KernelNorm1Ideal.main_arg1) = m ((c.tc : Thread Cert.KernelNorm1Ideal.nD Cert.KernelNorm1Ideal.τ).loc Cert.KernelNorm1Ideal.main_arg1)
      ∧ r.2.mem ((c.tc : Thread Cert.KernelNorm1Ideal.nD Cert.KernelNorm1Ideal.τ).loc Cert.KernelNorm1Ideal.main_arg2) = m ((c.tc : Thread Cert.KernelNorm1Ideal.nD Cert.KernelNorm1Ideal.τ).loc Cert.KernelNorm1Ideal.main_arg2)
      ∧ r.2.mem ((c.tc : Thread Cert.KernelNorm1Ideal.nD Cert.KernelNorm1Ideal.τ).loc Cert.KernelNorm1Ideal.main_arg3) = m ((c.tc : Thread Cert.KernelNorm1Ideal.nD Cert.KernelNorm1Ideal.τ).loc Cert.KernelNorm1Ideal.main_arg3)
      ∧ r.2.mem ((c.tc : Thread Cert.KernelNorm1Ideal.nD Cert.KernelNorm1Ideal.τ).loc Cert.KernelNorm1Ideal.main_arg4) = m ((c.tc : Thread Cert.KernelNorm1Ideal.nD Cert.KernelNorm1Ideal.τ).loc Cert.KernelNorm1Ideal.main_arg4))
      ∧ r.2.sem = fun _ => 0)

def quiescent_ReferenceNorm1Ideal [hReferenceNorm1Ideal : Cert.ReferenceNorm1Ideal.Facts] : Prop :=
  ∀ (m : (ℓ : Loc Cert.ReferenceNorm1Ideal.nD Cert.ReferenceNorm1Ideal.τ Cert.ReferenceNorm1Ideal.sig) → Buf (Elt Ideal) ℓ) (g : Dev Cert.ReferenceNorm1Ideal.nD → PrngReg), Pre_ReferenceNorm1Ideal m →
    θ_run (Cert.ReferenceNorm1Ideal.defs (F := Ideal)) (onTc (τ := Cert.ReferenceNorm1Ideal.τ) (Cert.ReferenceNorm1Ideal.main (F := Ideal))) ⟨m, fun _ => 0, g⟩ (fun r => (∀ c : Dev Cert.ReferenceNorm1Ideal.nD,
      r.2.mem ((c.tc : Thread Cert.ReferenceNorm1Ideal.nD Cert.ReferenceNorm1Ideal.τ).loc Cert.ReferenceNorm1Ideal.main_arg0) = m ((c.tc : Thread Cert.ReferenceNorm1Ideal.nD Cert.ReferenceNorm1Ideal.τ).loc Cert.ReferenceNorm1Ideal.main_arg0)
      ∧ r.2.mem ((c.tc : Thread Cert.ReferenceNorm1Ideal.nD Cert.ReferenceNorm1Ideal.τ).loc Cert.ReferenceNorm1Ideal.main_arg1) = m ((c.tc : Thread Cert.ReferenceNorm1Ideal.nD Cert.ReferenceNorm1Ideal.τ).loc Cert.ReferenceNorm1Ideal.main_arg1)
      ∧ r.2.mem ((c.tc : Thread Cert.ReferenceNorm1Ideal.nD Cert.ReferenceNorm1Ideal.τ).loc Cert.ReferenceNorm1Ideal.main_arg2) = m ((c.tc : Thread Cert.ReferenceNorm1Ideal.nD Cert.ReferenceNorm1Ideal.τ).loc Cert.ReferenceNorm1Ideal.main_arg2)
      ∧ r.2.mem ((c.tc : Thread Cert.ReferenceNorm1Ideal.nD Cert.ReferenceNorm1Ideal.τ).loc Cert.ReferenceNorm1Ideal.main_arg3) = m ((c.tc : Thread Cert.ReferenceNorm1Ideal.nD Cert.ReferenceNorm1Ideal.τ).loc Cert.ReferenceNorm1Ideal.main_arg3)
      ∧ r.2.mem ((c.tc : Thread Cert.ReferenceNorm1Ideal.nD Cert.ReferenceNorm1Ideal.τ).loc Cert.ReferenceNorm1Ideal.main_arg4) = m ((c.tc : Thread Cert.ReferenceNorm1Ideal.nD Cert.ReferenceNorm1Ideal.τ).loc Cert.ReferenceNorm1Ideal.main_arg4))
      ∧ r.2.sem = fun _ => 0)

def quiescent_ReferenceNorm1Ideal_pre_finite_norm1 [hReferenceNorm1Ideal : Cert.ReferenceNorm1Ideal.Facts] [hPre_finite_norm1 : Cert.Pre_finite_norm1.Facts] : Prop :=
  ∀ (m : (ℓ : Loc Cert.ReferenceNorm1Ideal.nD Cert.ReferenceNorm1Ideal.τ Cert.ReferenceNorm1Ideal.sig) → Buf (Elt Ideal) ℓ) (g : Dev Cert.ReferenceNorm1Ideal.nD → PrngReg), Pre_ReferenceNorm1Ideal_finite_norm1 m →
    θ_run (Cert.ReferenceNorm1Ideal.defs (F := Ideal)) (onTc (τ := Cert.ReferenceNorm1Ideal.τ) (Cert.ReferenceNorm1Ideal.main (F := Ideal))) ⟨m, fun _ => 0, g⟩ (fun r => (∀ c : Dev Cert.ReferenceNorm1Ideal.nD,
      r.2.mem ((c.tc : Thread Cert.ReferenceNorm1Ideal.nD Cert.ReferenceNorm1Ideal.τ).loc Cert.ReferenceNorm1Ideal.main_arg0) = m ((c.tc : Thread Cert.ReferenceNorm1Ideal.nD Cert.ReferenceNorm1Ideal.τ).loc Cert.ReferenceNorm1Ideal.main_arg0)
      ∧ r.2.mem ((c.tc : Thread Cert.ReferenceNorm1Ideal.nD Cert.ReferenceNorm1Ideal.τ).loc Cert.ReferenceNorm1Ideal.main_arg1) = m ((c.tc : Thread Cert.ReferenceNorm1Ideal.nD Cert.ReferenceNorm1Ideal.τ).loc Cert.ReferenceNorm1Ideal.main_arg1)
      ∧ r.2.mem ((c.tc : Thread Cert.ReferenceNorm1Ideal.nD Cert.ReferenceNorm1Ideal.τ).loc Cert.ReferenceNorm1Ideal.main_arg2) = m ((c.tc : Thread Cert.ReferenceNorm1Ideal.nD Cert.ReferenceNorm1Ideal.τ).loc Cert.ReferenceNorm1Ideal.main_arg2)
      ∧ r.2.mem ((c.tc : Thread Cert.ReferenceNorm1Ideal.nD Cert.ReferenceNorm1Ideal.τ).loc Cert.ReferenceNorm1Ideal.main_arg3) = m ((c.tc : Thread Cert.ReferenceNorm1Ideal.nD Cert.ReferenceNorm1Ideal.τ).loc Cert.ReferenceNorm1Ideal.main_arg3)
      ∧ r.2.mem ((c.tc : Thread Cert.ReferenceNorm1Ideal.nD Cert.ReferenceNorm1Ideal.τ).loc Cert.ReferenceNorm1Ideal.main_arg4) = m ((c.tc : Thread Cert.ReferenceNorm1Ideal.nD Cert.ReferenceNorm1Ideal.τ).loc Cert.ReferenceNorm1Ideal.main_arg4))
      ∧ r.2.sem = fun _ => 0)

def quiescent_KernelNorm2 [hKernelNorm2 : Cert.KernelNorm2.Facts] : Prop :=
  ∀ (m : (ℓ : Loc Cert.KernelNorm2.nD Cert.KernelNorm2.τ Cert.KernelNorm2.sig) → Buf (Elt Bits) ℓ) (g : Dev Cert.KernelNorm2.nD → PrngReg), Pre_KernelNorm2 m →
    θ_run (Cert.KernelNorm2.defs (F := Bits)) (onTc (τ := Cert.KernelNorm2.τ) (Cert.KernelNorm2.main (F := Bits))) ⟨m, fun _ => 0, g⟩ (fun r => (∀ c : Dev Cert.KernelNorm2.nD,
      r.2.mem ((c.tc : Thread Cert.KernelNorm2.nD Cert.KernelNorm2.τ).loc Cert.KernelNorm2.main_arg0) = m ((c.tc : Thread Cert.KernelNorm2.nD Cert.KernelNorm2.τ).loc Cert.KernelNorm2.main_arg0)
      ∧ r.2.mem ((c.tc : Thread Cert.KernelNorm2.nD Cert.KernelNorm2.τ).loc Cert.KernelNorm2.main_arg1) = m ((c.tc : Thread Cert.KernelNorm2.nD Cert.KernelNorm2.τ).loc Cert.KernelNorm2.main_arg1)
      ∧ r.2.mem ((c.tc : Thread Cert.KernelNorm2.nD Cert.KernelNorm2.τ).loc Cert.KernelNorm2.main_arg2) = m ((c.tc : Thread Cert.KernelNorm2.nD Cert.KernelNorm2.τ).loc Cert.KernelNorm2.main_arg2)
      ∧ r.2.mem ((c.tc : Thread Cert.KernelNorm2.nD Cert.KernelNorm2.τ).loc Cert.KernelNorm2.main_arg3) = m ((c.tc : Thread Cert.KernelNorm2.nD Cert.KernelNorm2.τ).loc Cert.KernelNorm2.main_arg3)
      ∧ r.2.mem ((c.tc : Thread Cert.KernelNorm2.nD Cert.KernelNorm2.τ).loc Cert.KernelNorm2.main_arg4) = m ((c.tc : Thread Cert.KernelNorm2.nD Cert.KernelNorm2.τ).loc Cert.KernelNorm2.main_arg4)
      ∧ r.2.mem ((c.tc : Thread Cert.KernelNorm2.nD Cert.KernelNorm2.τ).loc Cert.KernelNorm2.main_arg5) = m ((c.tc : Thread Cert.KernelNorm2.nD Cert.KernelNorm2.τ).loc Cert.KernelNorm2.main_arg5)
      ∧ r.2.mem ((c.tc : Thread Cert.KernelNorm2.nD Cert.KernelNorm2.τ).loc Cert.KernelNorm2.main_arg6) = m ((c.tc : Thread Cert.KernelNorm2.nD Cert.KernelNorm2.τ).loc Cert.KernelNorm2.main_arg6)
      ∧ r.2.mem ((c.tc : Thread Cert.KernelNorm2.nD Cert.KernelNorm2.τ).loc Cert.KernelNorm2.main_arg7) = m ((c.tc : Thread Cert.KernelNorm2.nD Cert.KernelNorm2.τ).loc Cert.KernelNorm2.main_arg7))
      ∧ r.2.sem = fun _ => 0)

def quiescent_KernelNorm2Ideal [hKernelNorm2Ideal : Cert.KernelNorm2Ideal.Facts] : Prop :=
  ∀ (m : (ℓ : Loc Cert.KernelNorm2Ideal.nD Cert.KernelNorm2Ideal.τ Cert.KernelNorm2Ideal.sig) → Buf (Elt Ideal) ℓ) (g : Dev Cert.KernelNorm2Ideal.nD → PrngReg), Pre_KernelNorm2Ideal m →
    θ_run (Cert.KernelNorm2Ideal.defs (F := Ideal)) (onTc (τ := Cert.KernelNorm2Ideal.τ) (Cert.KernelNorm2Ideal.main (F := Ideal))) ⟨m, fun _ => 0, g⟩ (fun r => (∀ c : Dev Cert.KernelNorm2Ideal.nD,
      r.2.mem ((c.tc : Thread Cert.KernelNorm2Ideal.nD Cert.KernelNorm2Ideal.τ).loc Cert.KernelNorm2Ideal.main_arg0) = m ((c.tc : Thread Cert.KernelNorm2Ideal.nD Cert.KernelNorm2Ideal.τ).loc Cert.KernelNorm2Ideal.main_arg0)
      ∧ r.2.mem ((c.tc : Thread Cert.KernelNorm2Ideal.nD Cert.KernelNorm2Ideal.τ).loc Cert.KernelNorm2Ideal.main_arg1) = m ((c.tc : Thread Cert.KernelNorm2Ideal.nD Cert.KernelNorm2Ideal.τ).loc Cert.KernelNorm2Ideal.main_arg1)
      ∧ r.2.mem ((c.tc : Thread Cert.KernelNorm2Ideal.nD Cert.KernelNorm2Ideal.τ).loc Cert.KernelNorm2Ideal.main_arg2) = m ((c.tc : Thread Cert.KernelNorm2Ideal.nD Cert.KernelNorm2Ideal.τ).loc Cert.KernelNorm2Ideal.main_arg2)
      ∧ r.2.mem ((c.tc : Thread Cert.KernelNorm2Ideal.nD Cert.KernelNorm2Ideal.τ).loc Cert.KernelNorm2Ideal.main_arg3) = m ((c.tc : Thread Cert.KernelNorm2Ideal.nD Cert.KernelNorm2Ideal.τ).loc Cert.KernelNorm2Ideal.main_arg3)
      ∧ r.2.mem ((c.tc : Thread Cert.KernelNorm2Ideal.nD Cert.KernelNorm2Ideal.τ).loc Cert.KernelNorm2Ideal.main_arg4) = m ((c.tc : Thread Cert.KernelNorm2Ideal.nD Cert.KernelNorm2Ideal.τ).loc Cert.KernelNorm2Ideal.main_arg4)
      ∧ r.2.mem ((c.tc : Thread Cert.KernelNorm2Ideal.nD Cert.KernelNorm2Ideal.τ).loc Cert.KernelNorm2Ideal.main_arg5) = m ((c.tc : Thread Cert.KernelNorm2Ideal.nD Cert.KernelNorm2Ideal.τ).loc Cert.KernelNorm2Ideal.main_arg5)
      ∧ r.2.mem ((c.tc : Thread Cert.KernelNorm2Ideal.nD Cert.KernelNorm2Ideal.τ).loc Cert.KernelNorm2Ideal.main_arg6) = m ((c.tc : Thread Cert.KernelNorm2Ideal.nD Cert.KernelNorm2Ideal.τ).loc Cert.KernelNorm2Ideal.main_arg6)
      ∧ r.2.mem ((c.tc : Thread Cert.KernelNorm2Ideal.nD Cert.KernelNorm2Ideal.τ).loc Cert.KernelNorm2Ideal.main_arg7) = m ((c.tc : Thread Cert.KernelNorm2Ideal.nD Cert.KernelNorm2Ideal.τ).loc Cert.KernelNorm2Ideal.main_arg7))
      ∧ r.2.sem = fun _ => 0)

def quiescent_KernelNorm2Ideal_pre_finite_norm2 [hKernelNorm2Ideal : Cert.KernelNorm2Ideal.Facts] [hPre_finite_norm2 : Cert.Pre_finite_norm2.Facts] : Prop :=
  ∀ (m : (ℓ : Loc Cert.KernelNorm2Ideal.nD Cert.KernelNorm2Ideal.τ Cert.KernelNorm2Ideal.sig) → Buf (Elt Ideal) ℓ) (g : Dev Cert.KernelNorm2Ideal.nD → PrngReg), Pre_KernelNorm2Ideal_finite_norm2 m →
    θ_run (Cert.KernelNorm2Ideal.defs (F := Ideal)) (onTc (τ := Cert.KernelNorm2Ideal.τ) (Cert.KernelNorm2Ideal.main (F := Ideal))) ⟨m, fun _ => 0, g⟩ (fun r => (∀ c : Dev Cert.KernelNorm2Ideal.nD,
      r.2.mem ((c.tc : Thread Cert.KernelNorm2Ideal.nD Cert.KernelNorm2Ideal.τ).loc Cert.KernelNorm2Ideal.main_arg0) = m ((c.tc : Thread Cert.KernelNorm2Ideal.nD Cert.KernelNorm2Ideal.τ).loc Cert.KernelNorm2Ideal.main_arg0)
      ∧ r.2.mem ((c.tc : Thread Cert.KernelNorm2Ideal.nD Cert.KernelNorm2Ideal.τ).loc Cert.KernelNorm2Ideal.main_arg1) = m ((c.tc : Thread Cert.KernelNorm2Ideal.nD Cert.KernelNorm2Ideal.τ).loc Cert.KernelNorm2Ideal.main_arg1)
      ∧ r.2.mem ((c.tc : Thread Cert.KernelNorm2Ideal.nD Cert.KernelNorm2Ideal.τ).loc Cert.KernelNorm2Ideal.main_arg2) = m ((c.tc : Thread Cert.KernelNorm2Ideal.nD Cert.KernelNorm2Ideal.τ).loc Cert.KernelNorm2Ideal.main_arg2)
      ∧ r.2.mem ((c.tc : Thread Cert.KernelNorm2Ideal.nD Cert.KernelNorm2Ideal.τ).loc Cert.KernelNorm2Ideal.main_arg3) = m ((c.tc : Thread Cert.KernelNorm2Ideal.nD Cert.KernelNorm2Ideal.τ).loc Cert.KernelNorm2Ideal.main_arg3)
      ∧ r.2.mem ((c.tc : Thread Cert.KernelNorm2Ideal.nD Cert.KernelNorm2Ideal.τ).loc Cert.KernelNorm2Ideal.main_arg4) = m ((c.tc : Thread Cert.KernelNorm2Ideal.nD Cert.KernelNorm2Ideal.τ).loc Cert.KernelNorm2Ideal.main_arg4)
      ∧ r.2.mem ((c.tc : Thread Cert.KernelNorm2Ideal.nD Cert.KernelNorm2Ideal.τ).loc Cert.KernelNorm2Ideal.main_arg5) = m ((c.tc : Thread Cert.KernelNorm2Ideal.nD Cert.KernelNorm2Ideal.τ).loc Cert.KernelNorm2Ideal.main_arg5)
      ∧ r.2.mem ((c.tc : Thread Cert.KernelNorm2Ideal.nD Cert.KernelNorm2Ideal.τ).loc Cert.KernelNorm2Ideal.main_arg6) = m ((c.tc : Thread Cert.KernelNorm2Ideal.nD Cert.KernelNorm2Ideal.τ).loc Cert.KernelNorm2Ideal.main_arg6)
      ∧ r.2.mem ((c.tc : Thread Cert.KernelNorm2Ideal.nD Cert.KernelNorm2Ideal.τ).loc Cert.KernelNorm2Ideal.main_arg7) = m ((c.tc : Thread Cert.KernelNorm2Ideal.nD Cert.KernelNorm2Ideal.τ).loc Cert.KernelNorm2Ideal.main_arg7))
      ∧ r.2.sem = fun _ => 0)

def quiescent_ReferenceNorm2Ideal [hReferenceNorm2Ideal : Cert.ReferenceNorm2Ideal.Facts] : Prop :=
  ∀ (m : (ℓ : Loc Cert.ReferenceNorm2Ideal.nD Cert.ReferenceNorm2Ideal.τ Cert.ReferenceNorm2Ideal.sig) → Buf (Elt Ideal) ℓ) (g : Dev Cert.ReferenceNorm2Ideal.nD → PrngReg), Pre_ReferenceNorm2Ideal m →
    θ_run (Cert.ReferenceNorm2Ideal.defs (F := Ideal)) (onTc (τ := Cert.ReferenceNorm2Ideal.τ) (Cert.ReferenceNorm2Ideal.main (F := Ideal))) ⟨m, fun _ => 0, g⟩ (fun r => (∀ c : Dev Cert.ReferenceNorm2Ideal.nD,
      r.2.mem ((c.tc : Thread Cert.ReferenceNorm2Ideal.nD Cert.ReferenceNorm2Ideal.τ).loc Cert.ReferenceNorm2Ideal.main_arg0) = m ((c.tc : Thread Cert.ReferenceNorm2Ideal.nD Cert.ReferenceNorm2Ideal.τ).loc Cert.ReferenceNorm2Ideal.main_arg0)
      ∧ r.2.mem ((c.tc : Thread Cert.ReferenceNorm2Ideal.nD Cert.ReferenceNorm2Ideal.τ).loc Cert.ReferenceNorm2Ideal.main_arg1) = m ((c.tc : Thread Cert.ReferenceNorm2Ideal.nD Cert.ReferenceNorm2Ideal.τ).loc Cert.ReferenceNorm2Ideal.main_arg1)
      ∧ r.2.mem ((c.tc : Thread Cert.ReferenceNorm2Ideal.nD Cert.ReferenceNorm2Ideal.τ).loc Cert.ReferenceNorm2Ideal.main_arg2) = m ((c.tc : Thread Cert.ReferenceNorm2Ideal.nD Cert.ReferenceNorm2Ideal.τ).loc Cert.ReferenceNorm2Ideal.main_arg2)
      ∧ r.2.mem ((c.tc : Thread Cert.ReferenceNorm2Ideal.nD Cert.ReferenceNorm2Ideal.τ).loc Cert.ReferenceNorm2Ideal.main_arg3) = m ((c.tc : Thread Cert.ReferenceNorm2Ideal.nD Cert.ReferenceNorm2Ideal.τ).loc Cert.ReferenceNorm2Ideal.main_arg3)
      ∧ r.2.mem ((c.tc : Thread Cert.ReferenceNorm2Ideal.nD Cert.ReferenceNorm2Ideal.τ).loc Cert.ReferenceNorm2Ideal.main_arg4) = m ((c.tc : Thread Cert.ReferenceNorm2Ideal.nD Cert.ReferenceNorm2Ideal.τ).loc Cert.ReferenceNorm2Ideal.main_arg4)
      ∧ r.2.mem ((c.tc : Thread Cert.ReferenceNorm2Ideal.nD Cert.ReferenceNorm2Ideal.τ).loc Cert.ReferenceNorm2Ideal.main_arg5) = m ((c.tc : Thread Cert.ReferenceNorm2Ideal.nD Cert.ReferenceNorm2Ideal.τ).loc Cert.ReferenceNorm2Ideal.main_arg5)
      ∧ r.2.mem ((c.tc : Thread Cert.ReferenceNorm2Ideal.nD Cert.ReferenceNorm2Ideal.τ).loc Cert.ReferenceNorm2Ideal.main_arg6) = m ((c.tc : Thread Cert.ReferenceNorm2Ideal.nD Cert.ReferenceNorm2Ideal.τ).loc Cert.ReferenceNorm2Ideal.main_arg6)
      ∧ r.2.mem ((c.tc : Thread Cert.ReferenceNorm2Ideal.nD Cert.ReferenceNorm2Ideal.τ).loc Cert.ReferenceNorm2Ideal.main_arg7) = m ((c.tc : Thread Cert.ReferenceNorm2Ideal.nD Cert.ReferenceNorm2Ideal.τ).loc Cert.ReferenceNorm2Ideal.main_arg7))
      ∧ r.2.sem = fun _ => 0)

def quiescent_ReferenceNorm2Ideal_pre_finite_norm2 [hReferenceNorm2Ideal : Cert.ReferenceNorm2Ideal.Facts] [hPre_finite_norm2 : Cert.Pre_finite_norm2.Facts] : Prop :=
  ∀ (m : (ℓ : Loc Cert.ReferenceNorm2Ideal.nD Cert.ReferenceNorm2Ideal.τ Cert.ReferenceNorm2Ideal.sig) → Buf (Elt Ideal) ℓ) (g : Dev Cert.ReferenceNorm2Ideal.nD → PrngReg), Pre_ReferenceNorm2Ideal_finite_norm2 m →
    θ_run (Cert.ReferenceNorm2Ideal.defs (F := Ideal)) (onTc (τ := Cert.ReferenceNorm2Ideal.τ) (Cert.ReferenceNorm2Ideal.main (F := Ideal))) ⟨m, fun _ => 0, g⟩ (fun r => (∀ c : Dev Cert.ReferenceNorm2Ideal.nD,
      r.2.mem ((c.tc : Thread Cert.ReferenceNorm2Ideal.nD Cert.ReferenceNorm2Ideal.τ).loc Cert.ReferenceNorm2Ideal.main_arg0) = m ((c.tc : Thread Cert.ReferenceNorm2Ideal.nD Cert.ReferenceNorm2Ideal.τ).loc Cert.ReferenceNorm2Ideal.main_arg0)
      ∧ r.2.mem ((c.tc : Thread Cert.ReferenceNorm2Ideal.nD Cert.ReferenceNorm2Ideal.τ).loc Cert.ReferenceNorm2Ideal.main_arg1) = m ((c.tc : Thread Cert.ReferenceNorm2Ideal.nD Cert.ReferenceNorm2Ideal.τ).loc Cert.ReferenceNorm2Ideal.main_arg1)
      ∧ r.2.mem ((c.tc : Thread Cert.ReferenceNorm2Ideal.nD Cert.ReferenceNorm2Ideal.τ).loc Cert.ReferenceNorm2Ideal.main_arg2) = m ((c.tc : Thread Cert.ReferenceNorm2Ideal.nD Cert.ReferenceNorm2Ideal.τ).loc Cert.ReferenceNorm2Ideal.main_arg2)
      ∧ r.2.mem ((c.tc : Thread Cert.ReferenceNorm2Ideal.nD Cert.ReferenceNorm2Ideal.τ).loc Cert.ReferenceNorm2Ideal.main_arg3) = m ((c.tc : Thread Cert.ReferenceNorm2Ideal.nD Cert.ReferenceNorm2Ideal.τ).loc Cert.ReferenceNorm2Ideal.main_arg3)
      ∧ r.2.mem ((c.tc : Thread Cert.ReferenceNorm2Ideal.nD Cert.ReferenceNorm2Ideal.τ).loc Cert.ReferenceNorm2Ideal.main_arg4) = m ((c.tc : Thread Cert.ReferenceNorm2Ideal.nD Cert.ReferenceNorm2Ideal.τ).loc Cert.ReferenceNorm2Ideal.main_arg4)
      ∧ r.2.mem ((c.tc : Thread Cert.ReferenceNorm2Ideal.nD Cert.ReferenceNorm2Ideal.τ).loc Cert.ReferenceNorm2Ideal.main_arg5) = m ((c.tc : Thread Cert.ReferenceNorm2Ideal.nD Cert.ReferenceNorm2Ideal.τ).loc Cert.ReferenceNorm2Ideal.main_arg5)
      ∧ r.2.mem ((c.tc : Thread Cert.ReferenceNorm2Ideal.nD Cert.ReferenceNorm2Ideal.τ).loc Cert.ReferenceNorm2Ideal.main_arg6) = m ((c.tc : Thread Cert.ReferenceNorm2Ideal.nD Cert.ReferenceNorm2Ideal.τ).loc Cert.ReferenceNorm2Ideal.main_arg6)
      ∧ r.2.mem ((c.tc : Thread Cert.ReferenceNorm2Ideal.nD Cert.ReferenceNorm2Ideal.τ).loc Cert.ReferenceNorm2Ideal.main_arg7) = m ((c.tc : Thread Cert.ReferenceNorm2Ideal.nD Cert.ReferenceNorm2Ideal.τ).loc Cert.ReferenceNorm2Ideal.main_arg7))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def quiescent_KernelRelu2 [hKernelRelu2 : Cert.KernelRelu2.Facts] : Prop :=
  ∀ (m : (ℓ : Loc Cert.KernelRelu2.nD Cert.KernelRelu2.τ Cert.KernelRelu2.sig) → Buf (Elt Bits) ℓ) (g : Dev Cert.KernelRelu2.nD → PrngReg), Pre_KernelRelu2 m →
    θ_run (Cert.KernelRelu2.defs (F := Bits)) (onTc (τ := Cert.KernelRelu2.τ) (Cert.KernelRelu2.main (F := Bits))) ⟨m, fun _ => 0, g⟩ (fun r => (∀ c : Dev Cert.KernelRelu2.nD,
      r.2.mem ((c.tc : Thread Cert.KernelRelu2.nD Cert.KernelRelu2.τ).loc Cert.KernelRelu2.main_arg0) = m ((c.tc : Thread Cert.KernelRelu2.nD Cert.KernelRelu2.τ).loc Cert.KernelRelu2.main_arg0)
      ∧ r.2.mem ((c.tc : Thread Cert.KernelRelu2.nD Cert.KernelRelu2.τ).loc Cert.KernelRelu2.main_arg1) = m ((c.tc : Thread Cert.KernelRelu2.nD Cert.KernelRelu2.τ).loc Cert.KernelRelu2.main_arg1)
      ∧ r.2.mem ((c.tc : Thread Cert.KernelRelu2.nD Cert.KernelRelu2.τ).loc Cert.KernelRelu2.main_arg2) = m ((c.tc : Thread Cert.KernelRelu2.nD Cert.KernelRelu2.τ).loc Cert.KernelRelu2.main_arg2)
      ∧ r.2.mem ((c.tc : Thread Cert.KernelRelu2.nD Cert.KernelRelu2.τ).loc Cert.KernelRelu2.main_arg3) = m ((c.tc : Thread Cert.KernelRelu2.nD Cert.KernelRelu2.τ).loc Cert.KernelRelu2.main_arg3))
      ∧ r.2.sem = fun _ => 0)

def quiescent_KernelRelu2Ideal [hKernelRelu2Ideal : Cert.KernelRelu2Ideal.Facts] : Prop :=
  ∀ (m : (ℓ : Loc Cert.KernelRelu2Ideal.nD Cert.KernelRelu2Ideal.τ Cert.KernelRelu2Ideal.sig) → Buf (Elt Ideal) ℓ) (g : Dev Cert.KernelRelu2Ideal.nD → PrngReg), Pre_KernelRelu2Ideal m →
    θ_run (Cert.KernelRelu2Ideal.defs (F := Ideal)) (onTc (τ := Cert.KernelRelu2Ideal.τ) (Cert.KernelRelu2Ideal.main (F := Ideal))) ⟨m, fun _ => 0, g⟩ (fun r => (∀ c : Dev Cert.KernelRelu2Ideal.nD,
      r.2.mem ((c.tc : Thread Cert.KernelRelu2Ideal.nD Cert.KernelRelu2Ideal.τ).loc Cert.KernelRelu2Ideal.main_arg0) = m ((c.tc : Thread Cert.KernelRelu2Ideal.nD Cert.KernelRelu2Ideal.τ).loc Cert.KernelRelu2Ideal.main_arg0)
      ∧ r.2.mem ((c.tc : Thread Cert.KernelRelu2Ideal.nD Cert.KernelRelu2Ideal.τ).loc Cert.KernelRelu2Ideal.main_arg1) = m ((c.tc : Thread Cert.KernelRelu2Ideal.nD Cert.KernelRelu2Ideal.τ).loc Cert.KernelRelu2Ideal.main_arg1)
      ∧ r.2.mem ((c.tc : Thread Cert.KernelRelu2Ideal.nD Cert.KernelRelu2Ideal.τ).loc Cert.KernelRelu2Ideal.main_arg2) = m ((c.tc : Thread Cert.KernelRelu2Ideal.nD Cert.KernelRelu2Ideal.τ).loc Cert.KernelRelu2Ideal.main_arg2)
      ∧ r.2.mem ((c.tc : Thread Cert.KernelRelu2Ideal.nD Cert.KernelRelu2Ideal.τ).loc Cert.KernelRelu2Ideal.main_arg3) = m ((c.tc : Thread Cert.KernelRelu2Ideal.nD Cert.KernelRelu2Ideal.τ).loc Cert.KernelRelu2Ideal.main_arg3))
      ∧ r.2.sem = fun _ => 0)

def quiescent_ReferenceRelu2Ideal [hReferenceRelu2Ideal : Cert.ReferenceRelu2Ideal.Facts] : Prop :=
  ∀ (m : (ℓ : Loc Cert.ReferenceRelu2Ideal.nD Cert.ReferenceRelu2Ideal.τ Cert.ReferenceRelu2Ideal.sig) → Buf (Elt Ideal) ℓ) (g : Dev Cert.ReferenceRelu2Ideal.nD → PrngReg), Pre_ReferenceRelu2Ideal m →
    θ_run (Cert.ReferenceRelu2Ideal.defs (F := Ideal)) (onTc (τ := Cert.ReferenceRelu2Ideal.τ) (Cert.ReferenceRelu2Ideal.main (F := Ideal))) ⟨m, fun _ => 0, g⟩ (fun r => (∀ c : Dev Cert.ReferenceRelu2Ideal.nD,
      r.2.mem ((c.tc : Thread Cert.ReferenceRelu2Ideal.nD Cert.ReferenceRelu2Ideal.τ).loc Cert.ReferenceRelu2Ideal.main_arg0) = m ((c.tc : Thread Cert.ReferenceRelu2Ideal.nD Cert.ReferenceRelu2Ideal.τ).loc Cert.ReferenceRelu2Ideal.main_arg0)
      ∧ r.2.mem ((c.tc : Thread Cert.ReferenceRelu2Ideal.nD Cert.ReferenceRelu2Ideal.τ).loc Cert.ReferenceRelu2Ideal.main_arg1) = m ((c.tc : Thread Cert.ReferenceRelu2Ideal.nD Cert.ReferenceRelu2Ideal.τ).loc Cert.ReferenceRelu2Ideal.main_arg1)
      ∧ r.2.mem ((c.tc : Thread Cert.ReferenceRelu2Ideal.nD Cert.ReferenceRelu2Ideal.τ).loc Cert.ReferenceRelu2Ideal.main_arg2) = m ((c.tc : Thread Cert.ReferenceRelu2Ideal.nD Cert.ReferenceRelu2Ideal.τ).loc Cert.ReferenceRelu2Ideal.main_arg2)
      ∧ r.2.mem ((c.tc : Thread Cert.ReferenceRelu2Ideal.nD Cert.ReferenceRelu2Ideal.τ).loc Cert.ReferenceRelu2Ideal.main_arg3) = m ((c.tc : Thread Cert.ReferenceRelu2Ideal.nD Cert.ReferenceRelu2Ideal.τ).loc Cert.ReferenceRelu2Ideal.main_arg3))
      ∧ r.2.sem = fun _ => 0)

def quiescent_KernelQk [hKernelQk : Cert.KernelQk.Facts] : Prop :=
  ∀ (m : (ℓ : Loc Cert.KernelQk.nD Cert.KernelQk.τ Cert.KernelQk.sig) → Buf (Elt Bits) ℓ) (g : Dev Cert.KernelQk.nD → PrngReg), Pre_KernelQk m →
    θ_run (Cert.KernelQk.defs (F := Bits)) (onTc (τ := Cert.KernelQk.τ) (Cert.KernelQk.main (F := Bits))) ⟨m, fun _ => 0, g⟩ (fun r => (∀ c : Dev Cert.KernelQk.nD,
      r.2.mem ((c.tc : Thread Cert.KernelQk.nD Cert.KernelQk.τ).loc Cert.KernelQk.main_arg0) = m ((c.tc : Thread Cert.KernelQk.nD Cert.KernelQk.τ).loc Cert.KernelQk.main_arg0)
      ∧ r.2.mem ((c.tc : Thread Cert.KernelQk.nD Cert.KernelQk.τ).loc Cert.KernelQk.main_arg1) = m ((c.tc : Thread Cert.KernelQk.nD Cert.KernelQk.τ).loc Cert.KernelQk.main_arg1)
      ∧ r.2.mem ((c.tc : Thread Cert.KernelQk.nD Cert.KernelQk.τ).loc Cert.KernelQk.main_arg2) = m ((c.tc : Thread Cert.KernelQk.nD Cert.KernelQk.τ).loc Cert.KernelQk.main_arg2)
      ∧ r.2.mem ((c.tc : Thread Cert.KernelQk.nD Cert.KernelQk.τ).loc Cert.KernelQk.main_arg3) = m ((c.tc : Thread Cert.KernelQk.nD Cert.KernelQk.τ).loc Cert.KernelQk.main_arg3)
      ∧ r.2.mem ((c.tc : Thread Cert.KernelQk.nD Cert.KernelQk.τ).loc Cert.KernelQk.main_arg4) = m ((c.tc : Thread Cert.KernelQk.nD Cert.KernelQk.τ).loc Cert.KernelQk.main_arg4)
      ∧ r.2.mem ((c.tc : Thread Cert.KernelQk.nD Cert.KernelQk.τ).loc Cert.KernelQk.main_arg5) = m ((c.tc : Thread Cert.KernelQk.nD Cert.KernelQk.τ).loc Cert.KernelQk.main_arg5)
      ∧ r.2.mem ((c.tc : Thread Cert.KernelQk.nD Cert.KernelQk.τ).loc Cert.KernelQk.main_arg6) = m ((c.tc : Thread Cert.KernelQk.nD Cert.KernelQk.τ).loc Cert.KernelQk.main_arg6)
      ∧ r.2.mem ((c.tc : Thread Cert.KernelQk.nD Cert.KernelQk.τ).loc Cert.KernelQk.main_arg7) = m ((c.tc : Thread Cert.KernelQk.nD Cert.KernelQk.τ).loc Cert.KernelQk.main_arg7)
      ∧ r.2.mem ((c.tc : Thread Cert.KernelQk.nD Cert.KernelQk.τ).loc Cert.KernelQk.main_arg8) = m ((c.tc : Thread Cert.KernelQk.nD Cert.KernelQk.τ).loc Cert.KernelQk.main_arg8))
      ∧ r.2.sem = fun _ => 0)

def quiescent_KernelQkIdeal [hKernelQkIdeal : Cert.KernelQkIdeal.Facts] : Prop :=
  ∀ (m : (ℓ : Loc Cert.KernelQkIdeal.nD Cert.KernelQkIdeal.τ Cert.KernelQkIdeal.sig) → Buf (Elt Ideal) ℓ) (g : Dev Cert.KernelQkIdeal.nD → PrngReg), Pre_KernelQkIdeal m →
    θ_run (Cert.KernelQkIdeal.defs (F := Ideal)) (onTc (τ := Cert.KernelQkIdeal.τ) (Cert.KernelQkIdeal.main (F := Ideal))) ⟨m, fun _ => 0, g⟩ (fun r => (∀ c : Dev Cert.KernelQkIdeal.nD,
      r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
      ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
      ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2)
      ∧ r.2.mem ((c.tc : Thread Cert.KernelQkIdeal.nD Cert.KernelQkIdeal.τ).loc Cert.KernelQkIdeal.main_arg3) = m ((c.tc : Thread Cert.KernelQkIdeal.nD Cert.KernelQkIdeal.τ).loc Cert.KernelQkIdeal.main_arg3)
      ∧ r.2.mem ((c.tc : Thread Cert.KernelQkIdeal.nD Cert.KernelQkIdeal.τ).loc Cert.KernelQkIdeal.main_arg4) = m ((c.tc : Thread Cert.KernelQkIdeal.nD Cert.KernelQkIdeal.τ).loc Cert.KernelQkIdeal.main_arg4)
      ∧ r.2.mem ((c.tc : Thread Cert.KernelQkIdeal.nD Cert.KernelQkIdeal.τ).loc Cert.KernelQkIdeal.main_arg5) = m ((c.tc : Thread Cert.KernelQkIdeal.nD Cert.KernelQkIdeal.τ).loc Cert.KernelQkIdeal.main_arg5)
      ∧ r.2.mem ((c.tc : Thread Cert.KernelQkIdeal.nD Cert.KernelQkIdeal.τ).loc Cert.KernelQkIdeal.main_arg6) = m ((c.tc : Thread Cert.KernelQkIdeal.nD Cert.KernelQkIdeal.τ).loc Cert.KernelQkIdeal.main_arg6)
      ∧ r.2.mem ((c.tc : Thread Cert.KernelQkIdeal.nD Cert.KernelQkIdeal.τ).loc Cert.KernelQkIdeal.main_arg7) = m ((c.tc : Thread Cert.KernelQkIdeal.nD Cert.KernelQkIdeal.τ).loc Cert.KernelQkIdeal.main_arg7)
      ∧ r.2.mem ((c.tc : Thread Cert.KernelQkIdeal.nD Cert.KernelQkIdeal.τ).loc Cert.KernelQkIdeal.main_arg8) = m ((c.tc : Thread Cert.KernelQkIdeal.nD Cert.KernelQkIdeal.τ).loc Cert.KernelQkIdeal.main_arg8))
      ∧ r.2.sem = fun _ => 0)

def quiescent_KernelQkIdeal_pre_finite_qk [hKernelQkIdeal : Cert.KernelQkIdeal.Facts] [hPre_finite_qk : Cert.Pre_finite_qk.Facts] : Prop :=
  ∀ (m : (ℓ : Loc Cert.KernelQkIdeal.nD Cert.KernelQkIdeal.τ Cert.KernelQkIdeal.sig) → Buf (Elt Ideal) ℓ) (g : Dev Cert.KernelQkIdeal.nD → PrngReg), Pre_KernelQkIdeal_finite_qk m →
    θ_run (Cert.KernelQkIdeal.defs (F := Ideal)) (onTc (τ := Cert.KernelQkIdeal.τ) (Cert.KernelQkIdeal.main (F := Ideal))) ⟨m, fun _ => 0, g⟩ (fun r => (∀ c : Dev Cert.KernelQkIdeal.nD,
      r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
      ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
      ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2)
      ∧ r.2.mem ((c.tc : Thread Cert.KernelQkIdeal.nD Cert.KernelQkIdeal.τ).loc Cert.KernelQkIdeal.main_arg3) = m ((c.tc : Thread Cert.KernelQkIdeal.nD Cert.KernelQkIdeal.τ).loc Cert.KernelQkIdeal.main_arg3)
      ∧ r.2.mem ((c.tc : Thread Cert.KernelQkIdeal.nD Cert.KernelQkIdeal.τ).loc Cert.KernelQkIdeal.main_arg4) = m ((c.tc : Thread Cert.KernelQkIdeal.nD Cert.KernelQkIdeal.τ).loc Cert.KernelQkIdeal.main_arg4)
      ∧ r.2.mem ((c.tc : Thread Cert.KernelQkIdeal.nD Cert.KernelQkIdeal.τ).loc Cert.KernelQkIdeal.main_arg5) = m ((c.tc : Thread Cert.KernelQkIdeal.nD Cert.KernelQkIdeal.τ).loc Cert.KernelQkIdeal.main_arg5)
      ∧ r.2.mem ((c.tc : Thread Cert.KernelQkIdeal.nD Cert.KernelQkIdeal.τ).loc Cert.KernelQkIdeal.main_arg6) = m ((c.tc : Thread Cert.KernelQkIdeal.nD Cert.KernelQkIdeal.τ).loc Cert.KernelQkIdeal.main_arg6)
      ∧ r.2.mem ((c.tc : Thread Cert.KernelQkIdeal.nD Cert.KernelQkIdeal.τ).loc Cert.KernelQkIdeal.main_arg7) = m ((c.tc : Thread Cert.KernelQkIdeal.nD Cert.KernelQkIdeal.τ).loc Cert.KernelQkIdeal.main_arg7)
      ∧ r.2.mem ((c.tc : Thread Cert.KernelQkIdeal.nD Cert.KernelQkIdeal.τ).loc Cert.KernelQkIdeal.main_arg8) = m ((c.tc : Thread Cert.KernelQkIdeal.nD Cert.KernelQkIdeal.τ).loc Cert.KernelQkIdeal.main_arg8))
      ∧ r.2.sem = fun _ => 0)

def quiescent_ReferenceQkIdeal [hReferenceQkIdeal : Cert.ReferenceQkIdeal.Facts] : Prop :=
  ∀ (m : (ℓ : Loc Cert.ReferenceQkIdeal.nD Cert.ReferenceQkIdeal.τ Cert.ReferenceQkIdeal.sig) → Buf (Elt Ideal) ℓ) (g : Dev Cert.ReferenceQkIdeal.nD → PrngReg), Pre_ReferenceQkIdeal m →
    θ_run (Cert.ReferenceQkIdeal.defs (F := Ideal)) (onTc (τ := Cert.ReferenceQkIdeal.τ) (Cert.ReferenceQkIdeal.main (F := Ideal))) ⟨m, fun _ => 0, g⟩ (fun r => (∀ c : Dev Cert.ReferenceQkIdeal.nD,
      r.2.mem ((c.tc : Thread Cert.ReferenceQkIdeal.nD Cert.ReferenceQkIdeal.τ).loc Cert.ReferenceQkIdeal.main_arg0) = m ((c.tc : Thread Cert.ReferenceQkIdeal.nD Cert.ReferenceQkIdeal.τ).loc Cert.ReferenceQkIdeal.main_arg0)
      ∧ r.2.mem ((c.tc : Thread Cert.ReferenceQkIdeal.nD Cert.ReferenceQkIdeal.τ).loc Cert.ReferenceQkIdeal.main_arg1) = m ((c.tc : Thread Cert.ReferenceQkIdeal.nD Cert.ReferenceQkIdeal.τ).loc Cert.ReferenceQkIdeal.main_arg1)
      ∧ r.2.mem ((c.tc : Thread Cert.ReferenceQkIdeal.nD Cert.ReferenceQkIdeal.τ).loc Cert.ReferenceQkIdeal.main_arg2) = m ((c.tc : Thread Cert.ReferenceQkIdeal.nD Cert.ReferenceQkIdeal.τ).loc Cert.ReferenceQkIdeal.main_arg2)
      ∧ r.2.mem ((c.tc : Thread Cert.ReferenceQkIdeal.nD Cert.ReferenceQkIdeal.τ).loc Cert.ReferenceQkIdeal.main_arg3) = m ((c.tc : Thread Cert.ReferenceQkIdeal.nD Cert.ReferenceQkIdeal.τ).loc Cert.ReferenceQkIdeal.main_arg3)
      ∧ r.2.mem ((c.tc : Thread Cert.ReferenceQkIdeal.nD Cert.ReferenceQkIdeal.τ).loc Cert.ReferenceQkIdeal.main_arg4) = m ((c.tc : Thread Cert.ReferenceQkIdeal.nD Cert.ReferenceQkIdeal.τ).loc Cert.ReferenceQkIdeal.main_arg4)
      ∧ r.2.mem ((c.tc : Thread Cert.ReferenceQkIdeal.nD Cert.ReferenceQkIdeal.τ).loc Cert.ReferenceQkIdeal.main_arg5) = m ((c.tc : Thread Cert.ReferenceQkIdeal.nD Cert.ReferenceQkIdeal.τ).loc Cert.ReferenceQkIdeal.main_arg5)
      ∧ r.2.mem ((c.tc : Thread Cert.ReferenceQkIdeal.nD Cert.ReferenceQkIdeal.τ).loc Cert.ReferenceQkIdeal.main_arg6) = m ((c.tc : Thread Cert.ReferenceQkIdeal.nD Cert.ReferenceQkIdeal.τ).loc Cert.ReferenceQkIdeal.main_arg6)
      ∧ r.2.mem ((c.tc : Thread Cert.ReferenceQkIdeal.nD Cert.ReferenceQkIdeal.τ).loc Cert.ReferenceQkIdeal.main_arg7) = m ((c.tc : Thread Cert.ReferenceQkIdeal.nD Cert.ReferenceQkIdeal.τ).loc Cert.ReferenceQkIdeal.main_arg7)
      ∧ r.2.mem ((c.tc : Thread Cert.ReferenceQkIdeal.nD Cert.ReferenceQkIdeal.τ).loc Cert.ReferenceQkIdeal.main_arg8) = m ((c.tc : Thread Cert.ReferenceQkIdeal.nD Cert.ReferenceQkIdeal.τ).loc Cert.ReferenceQkIdeal.main_arg8))
      ∧ r.2.sem = fun _ => 0)

def quiescent_ReferenceQkIdeal_pre_finite_qk [hReferenceQkIdeal : Cert.ReferenceQkIdeal.Facts] [hPre_finite_qk : Cert.Pre_finite_qk.Facts] : Prop :=
  ∀ (m : (ℓ : Loc Cert.ReferenceQkIdeal.nD Cert.ReferenceQkIdeal.τ Cert.ReferenceQkIdeal.sig) → Buf (Elt Ideal) ℓ) (g : Dev Cert.ReferenceQkIdeal.nD → PrngReg), Pre_ReferenceQkIdeal_finite_qk m →
    θ_run (Cert.ReferenceQkIdeal.defs (F := Ideal)) (onTc (τ := Cert.ReferenceQkIdeal.τ) (Cert.ReferenceQkIdeal.main (F := Ideal))) ⟨m, fun _ => 0, g⟩ (fun r => (∀ c : Dev Cert.ReferenceQkIdeal.nD,
      r.2.mem ((c.tc : Thread Cert.ReferenceQkIdeal.nD Cert.ReferenceQkIdeal.τ).loc Cert.ReferenceQkIdeal.main_arg0) = m ((c.tc : Thread Cert.ReferenceQkIdeal.nD Cert.ReferenceQkIdeal.τ).loc Cert.ReferenceQkIdeal.main_arg0)
      ∧ r.2.mem ((c.tc : Thread Cert.ReferenceQkIdeal.nD Cert.ReferenceQkIdeal.τ).loc Cert.ReferenceQkIdeal.main_arg1) = m ((c.tc : Thread Cert.ReferenceQkIdeal.nD Cert.ReferenceQkIdeal.τ).loc Cert.ReferenceQkIdeal.main_arg1)
      ∧ r.2.mem ((c.tc : Thread Cert.ReferenceQkIdeal.nD Cert.ReferenceQkIdeal.τ).loc Cert.ReferenceQkIdeal.main_arg2) = m ((c.tc : Thread Cert.ReferenceQkIdeal.nD Cert.ReferenceQkIdeal.τ).loc Cert.ReferenceQkIdeal.main_arg2)
      ∧ r.2.mem ((c.tc : Thread Cert.ReferenceQkIdeal.nD Cert.ReferenceQkIdeal.τ).loc Cert.ReferenceQkIdeal.main_arg3) = m ((c.tc : Thread Cert.ReferenceQkIdeal.nD Cert.ReferenceQkIdeal.τ).loc Cert.ReferenceQkIdeal.main_arg3)
      ∧ r.2.mem ((c.tc : Thread Cert.ReferenceQkIdeal.nD Cert.ReferenceQkIdeal.τ).loc Cert.ReferenceQkIdeal.main_arg4) = m ((c.tc : Thread Cert.ReferenceQkIdeal.nD Cert.ReferenceQkIdeal.τ).loc Cert.ReferenceQkIdeal.main_arg4)
      ∧ r.2.mem ((c.tc : Thread Cert.ReferenceQkIdeal.nD Cert.ReferenceQkIdeal.τ).loc Cert.ReferenceQkIdeal.main_arg5) = m ((c.tc : Thread Cert.ReferenceQkIdeal.nD Cert.ReferenceQkIdeal.τ).loc Cert.ReferenceQkIdeal.main_arg5)
      ∧ r.2.mem ((c.tc : Thread Cert.ReferenceQkIdeal.nD Cert.ReferenceQkIdeal.τ).loc Cert.ReferenceQkIdeal.main_arg6) = m ((c.tc : Thread Cert.ReferenceQkIdeal.nD Cert.ReferenceQkIdeal.τ).loc Cert.ReferenceQkIdeal.main_arg6)
      ∧ r.2.mem ((c.tc : Thread Cert.ReferenceQkIdeal.nD Cert.ReferenceQkIdeal.τ).loc Cert.ReferenceQkIdeal.main_arg7) = m ((c.tc : Thread Cert.ReferenceQkIdeal.nD Cert.ReferenceQkIdeal.τ).loc Cert.ReferenceQkIdeal.main_arg7)
      ∧ r.2.mem ((c.tc : Thread Cert.ReferenceQkIdeal.nD Cert.ReferenceQkIdeal.τ).loc Cert.ReferenceQkIdeal.main_arg8) = m ((c.tc : Thread Cert.ReferenceQkIdeal.nD Cert.ReferenceQkIdeal.τ).loc Cert.ReferenceQkIdeal.main_arg8))
      ∧ r.2.sem = fun _ => 0)

def quiescent_KernelMergeFwd [hKernelMergeFwd : Cert.KernelMergeFwd.Facts] : Prop :=
  ∀ (m : (ℓ : Loc Cert.KernelMergeFwd.nD Cert.KernelMergeFwd.τ Cert.KernelMergeFwd.sig) → Buf (Elt Bits) ℓ) (g : Dev Cert.KernelMergeFwd.nD → PrngReg), Pre_KernelMergeFwd m →
    θ_run (Cert.KernelMergeFwd.defs (F := Bits)) (onTc (τ := Cert.KernelMergeFwd.τ) (Cert.KernelMergeFwd.main (F := Bits))) ⟨m, fun _ => 0, g⟩ (fun r => (∀ c : Dev Cert.KernelMergeFwd.nD,
      r.2.mem ((c.tc : Thread Cert.KernelMergeFwd.nD Cert.KernelMergeFwd.τ).loc Cert.KernelMergeFwd.main_arg0) = m ((c.tc : Thread Cert.KernelMergeFwd.nD Cert.KernelMergeFwd.τ).loc Cert.KernelMergeFwd.main_arg0)
      ∧ r.2.mem ((c.tc : Thread Cert.KernelMergeFwd.nD Cert.KernelMergeFwd.τ).loc Cert.KernelMergeFwd.main_arg1) = m ((c.tc : Thread Cert.KernelMergeFwd.nD Cert.KernelMergeFwd.τ).loc Cert.KernelMergeFwd.main_arg1)
      ∧ r.2.mem ((c.tc : Thread Cert.KernelMergeFwd.nD Cert.KernelMergeFwd.τ).loc Cert.KernelMergeFwd.main_arg2) = m ((c.tc : Thread Cert.KernelMergeFwd.nD Cert.KernelMergeFwd.τ).loc Cert.KernelMergeFwd.main_arg2)
      ∧ r.2.mem ((c.tc : Thread Cert.KernelMergeFwd.nD Cert.KernelMergeFwd.τ).loc Cert.KernelMergeFwd.main_arg3) = m ((c.tc : Thread Cert.KernelMergeFwd.nD Cert.KernelMergeFwd.τ).loc Cert.KernelMergeFwd.main_arg3))
      ∧ r.2.sem = fun _ => 0)

def quiescent_KernelMergeFwdIdeal [hKernelMergeFwdIdeal : Cert.KernelMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg), Pre_KernelMergeFwdIdeal m →
    θ_run (Cert.KernelMergeFwdIdeal.defs (F := Ideal)) (onTc (τ := Cert.KernelMergeFwdIdeal.τ) (Cert.KernelMergeFwdIdeal.main (F := Ideal))) ⟨m, fun _ => 0, g⟩ (fun r => (∀ c : Dev Cert.KernelMergeFwdIdeal.nD,
      r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
      ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
      ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
      ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3))
      ∧ r.2.sem = fun _ => 0)

def quiescent_ReferenceMergeFwdIdeal [hReferenceMergeFwdIdeal : Cert.ReferenceMergeFwdIdeal.Facts] : Prop :=
  ∀ (m : (ℓ : Loc Cert.ReferenceMergeFwdIdeal.nD Cert.ReferenceMergeFwdIdeal.τ Cert.ReferenceMergeFwdIdeal.sig) → Buf (Elt Ideal) ℓ) (g : Dev Cert.ReferenceMergeFwdIdeal.nD → PrngReg), Pre_ReferenceMergeFwdIdeal m →
    θ_run (Cert.ReferenceMergeFwdIdeal.defs (F := Ideal)) (onTc (τ := Cert.ReferenceMergeFwdIdeal.τ) (Cert.ReferenceMergeFwdIdeal.main (F := Ideal))) ⟨m, fun _ => 0, g⟩ (fun r => (∀ c : Dev Cert.ReferenceMergeFwdIdeal.nD,
      r.2.mem ((c.tc : Thread Cert.ReferenceMergeFwdIdeal.nD Cert.ReferenceMergeFwdIdeal.τ).loc Cert.ReferenceMergeFwdIdeal.main_arg0) = m ((c.tc : Thread Cert.ReferenceMergeFwdIdeal.nD Cert.ReferenceMergeFwdIdeal.τ).loc Cert.ReferenceMergeFwdIdeal.main_arg0)
      ∧ r.2.mem ((c.tc : Thread Cert.ReferenceMergeFwdIdeal.nD Cert.ReferenceMergeFwdIdeal.τ).loc Cert.ReferenceMergeFwdIdeal.main_arg1) = m ((c.tc : Thread Cert.ReferenceMergeFwdIdeal.nD Cert.ReferenceMergeFwdIdeal.τ).loc Cert.ReferenceMergeFwdIdeal.main_arg1)
      ∧ r.2.mem ((c.tc : Thread Cert.ReferenceMergeFwdIdeal.nD Cert.ReferenceMergeFwdIdeal.τ).loc Cert.ReferenceMergeFwdIdeal.main_arg2) = m ((c.tc : Thread Cert.ReferenceMergeFwdIdeal.nD Cert.ReferenceMergeFwdIdeal.τ).loc Cert.ReferenceMergeFwdIdeal.main_arg2)
      ∧ r.2.mem ((c.tc : Thread Cert.ReferenceMergeFwdIdeal.nD Cert.ReferenceMergeFwdIdeal.τ).loc Cert.ReferenceMergeFwdIdeal.main_arg3) = m ((c.tc : Thread Cert.ReferenceMergeFwdIdeal.nD Cert.ReferenceMergeFwdIdeal.τ).loc Cert.ReferenceMergeFwdIdeal.main_arg3))
      ∧ r.2.sem = fun _ => 0)

def quiescent_KernelNorm1Fwd [hKernelNorm1Fwd : Cert.KernelNorm1Fwd.Facts] : Prop :=
  ∀ (m : (ℓ : Loc Cert.KernelNorm1Fwd.nD Cert.KernelNorm1Fwd.τ Cert.KernelNorm1Fwd.sig) → Buf (Elt Bits) ℓ) (g : Dev Cert.KernelNorm1Fwd.nD → PrngReg), Pre_KernelNorm1Fwd m →
    θ_run (Cert.KernelNorm1Fwd.defs (F := Bits)) (onTc (τ := Cert.KernelNorm1Fwd.τ) (Cert.KernelNorm1Fwd.main (F := Bits))) ⟨m, fun _ => 0, g⟩ (fun r => (∀ c : Dev Cert.KernelNorm1Fwd.nD,
      r.2.mem ((c.tc : Thread Cert.KernelNorm1Fwd.nD Cert.KernelNorm1Fwd.τ).loc Cert.KernelNorm1Fwd.main_arg0) = m ((c.tc : Thread Cert.KernelNorm1Fwd.nD Cert.KernelNorm1Fwd.τ).loc Cert.KernelNorm1Fwd.main_arg0)
      ∧ r.2.mem ((c.tc : Thread Cert.KernelNorm1Fwd.nD Cert.KernelNorm1Fwd.τ).loc Cert.KernelNorm1Fwd.main_arg1) = m ((c.tc : Thread Cert.KernelNorm1Fwd.nD Cert.KernelNorm1Fwd.τ).loc Cert.KernelNorm1Fwd.main_arg1)
      ∧ r.2.mem ((c.tc : Thread Cert.KernelNorm1Fwd.nD Cert.KernelNorm1Fwd.τ).loc Cert.KernelNorm1Fwd.main_arg2) = m ((c.tc : Thread Cert.KernelNorm1Fwd.nD Cert.KernelNorm1Fwd.τ).loc Cert.KernelNorm1Fwd.main_arg2)
      ∧ r.2.mem ((c.tc : Thread Cert.KernelNorm1Fwd.nD Cert.KernelNorm1Fwd.τ).loc Cert.KernelNorm1Fwd.main_arg3) = m ((c.tc : Thread Cert.KernelNorm1Fwd.nD Cert.KernelNorm1Fwd.τ).loc Cert.KernelNorm1Fwd.main_arg3))
      ∧ r.2.sem = fun _ => 0)

def quiescent_KernelNorm1FwdIdeal [hKernelNorm1FwdIdeal : Cert.KernelNorm1FwdIdeal.Facts] : Prop :=
  ∀ (m : (ℓ : Loc Cert.KernelNorm1FwdIdeal.nD Cert.KernelNorm1FwdIdeal.τ Cert.KernelNorm1FwdIdeal.sig) → Buf (Elt Ideal) ℓ) (g : Dev Cert.KernelNorm1FwdIdeal.nD → PrngReg), Pre_KernelNorm1FwdIdeal m →
    θ_run (Cert.KernelNorm1FwdIdeal.defs (F := Ideal)) (onTc (τ := Cert.KernelNorm1FwdIdeal.τ) (Cert.KernelNorm1FwdIdeal.main (F := Ideal))) ⟨m, fun _ => 0, g⟩ (fun r => (∀ c : Dev Cert.KernelNorm1FwdIdeal.nD,
      r.2.mem ((c.tc : Thread Cert.KernelNorm1FwdIdeal.nD Cert.KernelNorm1FwdIdeal.τ).loc Cert.KernelNorm1FwdIdeal.main_arg0) = m ((c.tc : Thread Cert.KernelNorm1FwdIdeal.nD Cert.KernelNorm1FwdIdeal.τ).loc Cert.KernelNorm1FwdIdeal.main_arg0)
      ∧ r.2.mem ((c.tc : Thread Cert.KernelNorm1FwdIdeal.nD Cert.KernelNorm1FwdIdeal.τ).loc Cert.KernelNorm1FwdIdeal.main_arg1) = m ((c.tc : Thread Cert.KernelNorm1FwdIdeal.nD Cert.KernelNorm1FwdIdeal.τ).loc Cert.KernelNorm1FwdIdeal.main_arg1)
      ∧ r.2.mem ((c.tc : Thread Cert.KernelNorm1FwdIdeal.nD Cert.KernelNorm1FwdIdeal.τ).loc Cert.KernelNorm1FwdIdeal.main_arg2) = m ((c.tc : Thread Cert.KernelNorm1FwdIdeal.nD Cert.KernelNorm1FwdIdeal.τ).loc Cert.KernelNorm1FwdIdeal.main_arg2)
      ∧ r.2.mem ((c.tc : Thread Cert.KernelNorm1FwdIdeal.nD Cert.KernelNorm1FwdIdeal.τ).loc Cert.KernelNorm1FwdIdeal.main_arg3) = m ((c.tc : Thread Cert.KernelNorm1FwdIdeal.nD Cert.KernelNorm1FwdIdeal.τ).loc Cert.KernelNorm1FwdIdeal.main_arg3))
      ∧ r.2.sem = fun _ => 0)

def quiescent_ReferenceNorm1FwdIdeal [hReferenceNorm1FwdIdeal : Cert.ReferenceNorm1FwdIdeal.Facts] : Prop :=
  ∀ (m : (ℓ : Loc Cert.ReferenceNorm1FwdIdeal.nD Cert.ReferenceNorm1FwdIdeal.τ Cert.ReferenceNorm1FwdIdeal.sig) → Buf (Elt Ideal) ℓ) (g : Dev Cert.ReferenceNorm1FwdIdeal.nD → PrngReg), Pre_ReferenceNorm1FwdIdeal m →
    θ_run (Cert.ReferenceNorm1FwdIdeal.defs (F := Ideal)) (onTc (τ := Cert.ReferenceNorm1FwdIdeal.τ) (Cert.ReferenceNorm1FwdIdeal.main (F := Ideal))) ⟨m, fun _ => 0, g⟩ (fun r => (∀ c : Dev Cert.ReferenceNorm1FwdIdeal.nD,
      r.2.mem ((c.tc : Thread Cert.ReferenceNorm1FwdIdeal.nD Cert.ReferenceNorm1FwdIdeal.τ).loc Cert.ReferenceNorm1FwdIdeal.main_arg0) = m ((c.tc : Thread Cert.ReferenceNorm1FwdIdeal.nD Cert.ReferenceNorm1FwdIdeal.τ).loc Cert.ReferenceNorm1FwdIdeal.main_arg0)
      ∧ r.2.mem ((c.tc : Thread Cert.ReferenceNorm1FwdIdeal.nD Cert.ReferenceNorm1FwdIdeal.τ).loc Cert.ReferenceNorm1FwdIdeal.main_arg1) = m ((c.tc : Thread Cert.ReferenceNorm1FwdIdeal.nD Cert.ReferenceNorm1FwdIdeal.τ).loc Cert.ReferenceNorm1FwdIdeal.main_arg1)
      ∧ r.2.mem ((c.tc : Thread Cert.ReferenceNorm1FwdIdeal.nD Cert.ReferenceNorm1FwdIdeal.τ).loc Cert.ReferenceNorm1FwdIdeal.main_arg2) = m ((c.tc : Thread Cert.ReferenceNorm1FwdIdeal.nD Cert.ReferenceNorm1FwdIdeal.τ).loc Cert.ReferenceNorm1FwdIdeal.main_arg2)
      ∧ r.2.mem ((c.tc : Thread Cert.ReferenceNorm1FwdIdeal.nD Cert.ReferenceNorm1FwdIdeal.τ).loc Cert.ReferenceNorm1FwdIdeal.main_arg3) = m ((c.tc : Thread Cert.ReferenceNorm1FwdIdeal.nD Cert.ReferenceNorm1FwdIdeal.τ).loc Cert.ReferenceNorm1FwdIdeal.main_arg3))
      ∧ r.2.sem = fun _ => 0)

def quiescent_KernelNorm2Fwd [hKernelNorm2Fwd : Cert.KernelNorm2Fwd.Facts] : Prop :=
  ∀ (m : (ℓ : Loc Cert.KernelNorm2Fwd.nD Cert.KernelNorm2Fwd.τ Cert.KernelNorm2Fwd.sig) → Buf (Elt Bits) ℓ) (g : Dev Cert.KernelNorm2Fwd.nD → PrngReg), Pre_KernelNorm2Fwd m →
    θ_run (Cert.KernelNorm2Fwd.defs (F := Bits)) (onTc (τ := Cert.KernelNorm2Fwd.τ) (Cert.KernelNorm2Fwd.main (F := Bits))) ⟨m, fun _ => 0, g⟩ (fun r => (∀ c : Dev Cert.KernelNorm2Fwd.nD,
      r.2.mem ((c.tc : Thread Cert.KernelNorm2Fwd.nD Cert.KernelNorm2Fwd.τ).loc Cert.KernelNorm2Fwd.main_arg0) = m ((c.tc : Thread Cert.KernelNorm2Fwd.nD Cert.KernelNorm2Fwd.τ).loc Cert.KernelNorm2Fwd.main_arg0)
      ∧ r.2.mem ((c.tc : Thread Cert.KernelNorm2Fwd.nD Cert.KernelNorm2Fwd.τ).loc Cert.KernelNorm2Fwd.main_arg1) = m ((c.tc : Thread Cert.KernelNorm2Fwd.nD Cert.KernelNorm2Fwd.τ).loc Cert.KernelNorm2Fwd.main_arg1)
      ∧ r.2.mem ((c.tc : Thread Cert.KernelNorm2Fwd.nD Cert.KernelNorm2Fwd.τ).loc Cert.KernelNorm2Fwd.main_arg2) = m ((c.tc : Thread Cert.KernelNorm2Fwd.nD Cert.KernelNorm2Fwd.τ).loc Cert.KernelNorm2Fwd.main_arg2)
      ∧ r.2.mem ((c.tc : Thread Cert.KernelNorm2Fwd.nD Cert.KernelNorm2Fwd.τ).loc Cert.KernelNorm2Fwd.main_arg3) = m ((c.tc : Thread Cert.KernelNorm2Fwd.nD Cert.KernelNorm2Fwd.τ).loc Cert.KernelNorm2Fwd.main_arg3)
      ∧ r.2.mem ((c.tc : Thread Cert.KernelNorm2Fwd.nD Cert.KernelNorm2Fwd.τ).loc Cert.KernelNorm2Fwd.main_arg4) = m ((c.tc : Thread Cert.KernelNorm2Fwd.nD Cert.KernelNorm2Fwd.τ).loc Cert.KernelNorm2Fwd.main_arg4)
      ∧ r.2.mem ((c.tc : Thread Cert.KernelNorm2Fwd.nD Cert.KernelNorm2Fwd.τ).loc Cert.KernelNorm2Fwd.main_arg5) = m ((c.tc : Thread Cert.KernelNorm2Fwd.nD Cert.KernelNorm2Fwd.τ).loc Cert.KernelNorm2Fwd.main_arg5))
      ∧ r.2.sem = fun _ => 0)

def quiescent_KernelNorm2FwdIdeal [hKernelNorm2FwdIdeal : Cert.KernelNorm2FwdIdeal.Facts] : Prop :=
  ∀ (m : (ℓ : Loc Cert.KernelNorm2FwdIdeal.nD Cert.KernelNorm2FwdIdeal.τ Cert.KernelNorm2FwdIdeal.sig) → Buf (Elt Ideal) ℓ) (g : Dev Cert.KernelNorm2FwdIdeal.nD → PrngReg), Pre_KernelNorm2FwdIdeal m →
    θ_run (Cert.KernelNorm2FwdIdeal.defs (F := Ideal)) (onTc (τ := Cert.KernelNorm2FwdIdeal.τ) (Cert.KernelNorm2FwdIdeal.main (F := Ideal))) ⟨m, fun _ => 0, g⟩ (fun r => (∀ c : Dev Cert.KernelNorm2FwdIdeal.nD,
      r.2.mem ((c.tc : Thread Cert.KernelNorm2FwdIdeal.nD Cert.KernelNorm2FwdIdeal.τ).loc Cert.KernelNorm2FwdIdeal.main_arg0) = m ((c.tc : Thread Cert.KernelNorm2FwdIdeal.nD Cert.KernelNorm2FwdIdeal.τ).loc Cert.KernelNorm2FwdIdeal.main_arg0)
      ∧ r.2.mem ((c.tc : Thread Cert.KernelNorm2FwdIdeal.nD Cert.KernelNorm2FwdIdeal.τ).loc Cert.KernelNorm2FwdIdeal.main_arg1) = m ((c.tc : Thread Cert.KernelNorm2FwdIdeal.nD Cert.KernelNorm2FwdIdeal.τ).loc Cert.KernelNorm2FwdIdeal.main_arg1)
      ∧ r.2.mem ((c.tc : Thread Cert.KernelNorm2FwdIdeal.nD Cert.KernelNorm2FwdIdeal.τ).loc Cert.KernelNorm2FwdIdeal.main_arg2) = m ((c.tc : Thread Cert.KernelNorm2FwdIdeal.nD Cert.KernelNorm2FwdIdeal.τ).loc Cert.KernelNorm2FwdIdeal.main_arg2)
      ∧ r.2.mem ((c.tc : Thread Cert.KernelNorm2FwdIdeal.nD Cert.KernelNorm2FwdIdeal.τ).loc Cert.KernelNorm2FwdIdeal.main_arg3) = m ((c.tc : Thread Cert.KernelNorm2FwdIdeal.nD Cert.KernelNorm2FwdIdeal.τ).loc Cert.KernelNorm2FwdIdeal.main_arg3)
      ∧ r.2.mem ((c.tc : Thread Cert.KernelNorm2FwdIdeal.nD Cert.KernelNorm2FwdIdeal.τ).loc Cert.KernelNorm2FwdIdeal.main_arg4) = m ((c.tc : Thread Cert.KernelNorm2FwdIdeal.nD Cert.KernelNorm2FwdIdeal.τ).loc Cert.KernelNorm2FwdIdeal.main_arg4)
      ∧ r.2.mem ((c.tc : Thread Cert.KernelNorm2FwdIdeal.nD Cert.KernelNorm2FwdIdeal.τ).loc Cert.KernelNorm2FwdIdeal.main_arg5) = m ((c.tc : Thread Cert.KernelNorm2FwdIdeal.nD Cert.KernelNorm2FwdIdeal.τ).loc Cert.KernelNorm2FwdIdeal.main_arg5))
      ∧ r.2.sem = fun _ => 0)

def quiescent_ReferenceNorm2FwdIdeal [hReferenceNorm2FwdIdeal : Cert.ReferenceNorm2FwdIdeal.Facts] : Prop :=
  ∀ (m : (ℓ : Loc Cert.ReferenceNorm2FwdIdeal.nD Cert.ReferenceNorm2FwdIdeal.τ Cert.ReferenceNorm2FwdIdeal.sig) → Buf (Elt Ideal) ℓ) (g : Dev Cert.ReferenceNorm2FwdIdeal.nD → PrngReg), Pre_ReferenceNorm2FwdIdeal m →
    θ_run (Cert.ReferenceNorm2FwdIdeal.defs (F := Ideal)) (onTc (τ := Cert.ReferenceNorm2FwdIdeal.τ) (Cert.ReferenceNorm2FwdIdeal.main (F := Ideal))) ⟨m, fun _ => 0, g⟩ (fun r => (∀ c : Dev Cert.ReferenceNorm2FwdIdeal.nD,
      r.2.mem ((c.tc : Thread Cert.ReferenceNorm2FwdIdeal.nD Cert.ReferenceNorm2FwdIdeal.τ).loc Cert.ReferenceNorm2FwdIdeal.main_arg0) = m ((c.tc : Thread Cert.ReferenceNorm2FwdIdeal.nD Cert.ReferenceNorm2FwdIdeal.τ).loc Cert.ReferenceNorm2FwdIdeal.main_arg0)
      ∧ r.2.mem ((c.tc : Thread Cert.ReferenceNorm2FwdIdeal.nD Cert.ReferenceNorm2FwdIdeal.τ).loc Cert.ReferenceNorm2FwdIdeal.main_arg1) = m ((c.tc : Thread Cert.ReferenceNorm2FwdIdeal.nD Cert.ReferenceNorm2FwdIdeal.τ).loc Cert.ReferenceNorm2FwdIdeal.main_arg1)
      ∧ r.2.mem ((c.tc : Thread Cert.ReferenceNorm2FwdIdeal.nD Cert.ReferenceNorm2FwdIdeal.τ).loc Cert.ReferenceNorm2FwdIdeal.main_arg2) = m ((c.tc : Thread Cert.ReferenceNorm2FwdIdeal.nD Cert.ReferenceNorm2FwdIdeal.τ).loc Cert.ReferenceNorm2FwdIdeal.main_arg2)
      ∧ r.2.mem ((c.tc : Thread Cert.ReferenceNorm2FwdIdeal.nD Cert.ReferenceNorm2FwdIdeal.τ).loc Cert.ReferenceNorm2FwdIdeal.main_arg3) = m ((c.tc : Thread Cert.ReferenceNorm2FwdIdeal.nD Cert.ReferenceNorm2FwdIdeal.τ).loc Cert.ReferenceNorm2FwdIdeal.main_arg3)
      ∧ r.2.mem ((c.tc : Thread Cert.ReferenceNorm2FwdIdeal.nD Cert.ReferenceNorm2FwdIdeal.τ).loc Cert.ReferenceNorm2FwdIdeal.main_arg4) = m ((c.tc : Thread Cert.ReferenceNorm2FwdIdeal.nD Cert.ReferenceNorm2FwdIdeal.τ).loc Cert.ReferenceNorm2FwdIdeal.main_arg4)
      ∧ r.2.mem ((c.tc : Thread Cert.ReferenceNorm2FwdIdeal.nD Cert.ReferenceNorm2FwdIdeal.τ).loc Cert.ReferenceNorm2FwdIdeal.main_arg5) = m ((c.tc : Thread Cert.ReferenceNorm2FwdIdeal.nD Cert.ReferenceNorm2FwdIdeal.τ).loc Cert.ReferenceNorm2FwdIdeal.main_arg5))
      ∧ r.2.sem = fun _ => 0)

def quiescent_KernelLatFwd [hKernelLatFwd : Cert.KernelLatFwd.Facts] : Prop :=
  ∀ (m : (ℓ : Loc Cert.KernelLatFwd.nD Cert.KernelLatFwd.τ Cert.KernelLatFwd.sig) → Buf (Elt Bits) ℓ) (g : Dev Cert.KernelLatFwd.nD → PrngReg), Pre_KernelLatFwd m →
    θ_run (Cert.KernelLatFwd.defs (F := Bits)) (onTc (τ := Cert.KernelLatFwd.τ) (Cert.KernelLatFwd.main (F := Bits))) ⟨m, fun _ => 0, g⟩ (fun r => (∀ c : Dev Cert.KernelLatFwd.nD,
      r.2.mem ((c.tc : Thread Cert.KernelLatFwd.nD Cert.KernelLatFwd.τ).loc Cert.KernelLatFwd.main_arg0) = m ((c.tc : Thread Cert.KernelLatFwd.nD Cert.KernelLatFwd.τ).loc Cert.KernelLatFwd.main_arg0)
      ∧ r.2.mem ((c.tc : Thread Cert.KernelLatFwd.nD Cert.KernelLatFwd.τ).loc Cert.KernelLatFwd.main_arg1) = m ((c.tc : Thread Cert.KernelLatFwd.nD Cert.KernelLatFwd.τ).loc Cert.KernelLatFwd.main_arg1)
      ∧ r.2.mem ((c.tc : Thread Cert.KernelLatFwd.nD Cert.KernelLatFwd.τ).loc Cert.KernelLatFwd.main_arg2) = m ((c.tc : Thread Cert.KernelLatFwd.nD Cert.KernelLatFwd.τ).loc Cert.KernelLatFwd.main_arg2))
      ∧ r.2.sem = fun _ => 0)

def quiescent_KernelLatFwdIdeal [hKernelLatFwdIdeal : Cert.KernelLatFwdIdeal.Facts] : Prop :=
  ∀ (m : (ℓ : Loc Cert.KernelLatFwdIdeal.nD Cert.KernelLatFwdIdeal.τ Cert.KernelLatFwdIdeal.sig) → Buf (Elt Ideal) ℓ) (g : Dev Cert.KernelLatFwdIdeal.nD → PrngReg), Pre_KernelLatFwdIdeal m →
    θ_run (Cert.KernelLatFwdIdeal.defs (F := Ideal)) (onTc (τ := Cert.KernelLatFwdIdeal.τ) (Cert.KernelLatFwdIdeal.main (F := Ideal))) ⟨m, fun _ => 0, g⟩ (fun r => (∀ c : Dev Cert.KernelLatFwdIdeal.nD,
      r.2.mem ((c.tc : Thread Cert.KernelLatFwdIdeal.nD Cert.KernelLatFwdIdeal.τ).loc Cert.KernelLatFwdIdeal.main_arg0) = m ((c.tc : Thread Cert.KernelLatFwdIdeal.nD Cert.KernelLatFwdIdeal.τ).loc Cert.KernelLatFwdIdeal.main_arg0)
      ∧ r.2.mem ((c.tc : Thread Cert.KernelLatFwdIdeal.nD Cert.KernelLatFwdIdeal.τ).loc Cert.KernelLatFwdIdeal.main_arg1) = m ((c.tc : Thread Cert.KernelLatFwdIdeal.nD Cert.KernelLatFwdIdeal.τ).loc Cert.KernelLatFwdIdeal.main_arg1)
      ∧ r.2.mem ((c.tc : Thread Cert.KernelLatFwdIdeal.nD Cert.KernelLatFwdIdeal.τ).loc Cert.KernelLatFwdIdeal.main_arg2) = m ((c.tc : Thread Cert.KernelLatFwdIdeal.nD Cert.KernelLatFwdIdeal.τ).loc Cert.KernelLatFwdIdeal.main_arg2))
      ∧ r.2.sem = fun _ => 0)

def quiescent_ReferenceLatFwdIdeal [hReferenceLatFwdIdeal : Cert.ReferenceLatFwdIdeal.Facts] : Prop :=
  ∀ (m : (ℓ : Loc Cert.ReferenceLatFwdIdeal.nD Cert.ReferenceLatFwdIdeal.τ Cert.ReferenceLatFwdIdeal.sig) → Buf (Elt Ideal) ℓ) (g : Dev Cert.ReferenceLatFwdIdeal.nD → PrngReg), Pre_ReferenceLatFwdIdeal m →
    θ_run (Cert.ReferenceLatFwdIdeal.defs (F := Ideal)) (onTc (τ := Cert.ReferenceLatFwdIdeal.τ) (Cert.ReferenceLatFwdIdeal.main (F := Ideal))) ⟨m, fun _ => 0, g⟩ (fun r => (∀ c : Dev Cert.ReferenceLatFwdIdeal.nD,
      r.2.mem ((c.tc : Thread Cert.ReferenceLatFwdIdeal.nD Cert.ReferenceLatFwdIdeal.τ).loc Cert.ReferenceLatFwdIdeal.main_arg0) = m ((c.tc : Thread Cert.ReferenceLatFwdIdeal.nD Cert.ReferenceLatFwdIdeal.τ).loc Cert.ReferenceLatFwdIdeal.main_arg0)
      ∧ r.2.mem ((c.tc : Thread Cert.ReferenceLatFwdIdeal.nD Cert.ReferenceLatFwdIdeal.τ).loc Cert.ReferenceLatFwdIdeal.main_arg1) = m ((c.tc : Thread Cert.ReferenceLatFwdIdeal.nD Cert.ReferenceLatFwdIdeal.τ).loc Cert.ReferenceLatFwdIdeal.main_arg1)
      ∧ r.2.mem ((c.tc : Thread Cert.ReferenceLatFwdIdeal.nD Cert.ReferenceLatFwdIdeal.τ).loc Cert.ReferenceLatFwdIdeal.main_arg2) = m ((c.tc : Thread Cert.ReferenceLatFwdIdeal.nD Cert.ReferenceLatFwdIdeal.τ).loc Cert.ReferenceLatFwdIdeal.main_arg2))
      ∧ r.2.sem = fun _ => 0)

def quiescent_KernelQkFwd [hKernelQkFwd : Cert.KernelQkFwd.Facts] : Prop :=
  ∀ (m : (ℓ : Loc Cert.KernelQkFwd.nD Cert.KernelQkFwd.τ Cert.KernelQkFwd.sig) → Buf (Elt Bits) ℓ) (g : Dev Cert.KernelQkFwd.nD → PrngReg), Pre_KernelQkFwd m →
    θ_run (Cert.KernelQkFwd.defs (F := Bits)) (onTc (τ := Cert.KernelQkFwd.τ) (Cert.KernelQkFwd.main (F := Bits))) ⟨m, fun _ => 0, g⟩ (fun r => (∀ c : Dev Cert.KernelQkFwd.nD,
      r.2.mem ((c.tc : Thread Cert.KernelQkFwd.nD Cert.KernelQkFwd.τ).loc Cert.KernelQkFwd.main_arg0) = m ((c.tc : Thread Cert.KernelQkFwd.nD Cert.KernelQkFwd.τ).loc Cert.KernelQkFwd.main_arg0)
      ∧ r.2.mem ((c.tc : Thread Cert.KernelQkFwd.nD Cert.KernelQkFwd.τ).loc Cert.KernelQkFwd.main_arg1) = m ((c.tc : Thread Cert.KernelQkFwd.nD Cert.KernelQkFwd.τ).loc Cert.KernelQkFwd.main_arg1)
      ∧ r.2.mem ((c.tc : Thread Cert.KernelQkFwd.nD Cert.KernelQkFwd.τ).loc Cert.KernelQkFwd.main_arg2) = m ((c.tc : Thread Cert.KernelQkFwd.nD Cert.KernelQkFwd.τ).loc Cert.KernelQkFwd.main_arg2)
      ∧ r.2.mem ((c.tc : Thread Cert.KernelQkFwd.nD Cert.KernelQkFwd.τ).loc Cert.KernelQkFwd.main_arg3) = m ((c.tc : Thread Cert.KernelQkFwd.nD Cert.KernelQkFwd.τ).loc Cert.KernelQkFwd.main_arg3)
      ∧ r.2.mem ((c.tc : Thread Cert.KernelQkFwd.nD Cert.KernelQkFwd.τ).loc Cert.KernelQkFwd.main_arg4) = m ((c.tc : Thread Cert.KernelQkFwd.nD Cert.KernelQkFwd.τ).loc Cert.KernelQkFwd.main_arg4)
      ∧ r.2.mem ((c.tc : Thread Cert.KernelQkFwd.nD Cert.KernelQkFwd.τ).loc Cert.KernelQkFwd.main_arg5) = m ((c.tc : Thread Cert.KernelQkFwd.nD Cert.KernelQkFwd.τ).loc Cert.KernelQkFwd.main_arg5))
      ∧ r.2.sem = fun _ => 0)

def quiescent_KernelQkFwdIdeal [hKernelQkFwdIdeal : Cert.KernelQkFwdIdeal.Facts] : Prop :=
  ∀ (m : (ℓ : Loc Cert.KernelQkFwdIdeal.nD Cert.KernelQkFwdIdeal.τ Cert.KernelQkFwdIdeal.sig) → Buf (Elt Ideal) ℓ) (g : Dev Cert.KernelQkFwdIdeal.nD → PrngReg), Pre_KernelQkFwdIdeal m →
    θ_run (Cert.KernelQkFwdIdeal.defs (F := Ideal)) (onTc (τ := Cert.KernelQkFwdIdeal.τ) (Cert.KernelQkFwdIdeal.main (F := Ideal))) ⟨m, fun _ => 0, g⟩ (fun r => (∀ c : Dev Cert.KernelQkFwdIdeal.nD,
      r.2.mem ((c.tc : Thread Cert.KernelQkFwdIdeal.nD Cert.KernelQkFwdIdeal.τ).loc Cert.KernelQkFwdIdeal.main_arg0) = m ((c.tc : Thread Cert.KernelQkFwdIdeal.nD Cert.KernelQkFwdIdeal.τ).loc Cert.KernelQkFwdIdeal.main_arg0)
      ∧ r.2.mem ((c.tc : Thread Cert.KernelQkFwdIdeal.nD Cert.KernelQkFwdIdeal.τ).loc Cert.KernelQkFwdIdeal.main_arg1) = m ((c.tc : Thread Cert.KernelQkFwdIdeal.nD Cert.KernelQkFwdIdeal.τ).loc Cert.KernelQkFwdIdeal.main_arg1)
      ∧ r.2.mem ((c.tc : Thread Cert.KernelQkFwdIdeal.nD Cert.KernelQkFwdIdeal.τ).loc Cert.KernelQkFwdIdeal.main_arg2) = m ((c.tc : Thread Cert.KernelQkFwdIdeal.nD Cert.KernelQkFwdIdeal.τ).loc Cert.KernelQkFwdIdeal.main_arg2)
      ∧ r.2.mem ((c.tc : Thread Cert.KernelQkFwdIdeal.nD Cert.KernelQkFwdIdeal.τ).loc Cert.KernelQkFwdIdeal.main_arg3) = m ((c.tc : Thread Cert.KernelQkFwdIdeal.nD Cert.KernelQkFwdIdeal.τ).loc Cert.KernelQkFwdIdeal.main_arg3)
      ∧ r.2.mem ((c.tc : Thread Cert.KernelQkFwdIdeal.nD Cert.KernelQkFwdIdeal.τ).loc Cert.KernelQkFwdIdeal.main_arg4) = m ((c.tc : Thread Cert.KernelQkFwdIdeal.nD Cert.KernelQkFwdIdeal.τ).loc Cert.KernelQkFwdIdeal.main_arg4)
      ∧ r.2.mem ((c.tc : Thread Cert.KernelQkFwdIdeal.nD Cert.KernelQkFwdIdeal.τ).loc Cert.KernelQkFwdIdeal.main_arg5) = m ((c.tc : Thread Cert.KernelQkFwdIdeal.nD Cert.KernelQkFwdIdeal.τ).loc Cert.KernelQkFwdIdeal.main_arg5))
      ∧ r.2.sem = fun _ => 0)

def quiescent_ReferenceQkFwdIdeal [hReferenceQkFwdIdeal : Cert.ReferenceQkFwdIdeal.Facts] : Prop :=
  ∀ (m : (ℓ : Loc Cert.ReferenceQkFwdIdeal.nD Cert.ReferenceQkFwdIdeal.τ Cert.ReferenceQkFwdIdeal.sig) → Buf (Elt Ideal) ℓ) (g : Dev Cert.ReferenceQkFwdIdeal.nD → PrngReg), Pre_ReferenceQkFwdIdeal m →
    θ_run (Cert.ReferenceQkFwdIdeal.defs (F := Ideal)) (onTc (τ := Cert.ReferenceQkFwdIdeal.τ) (Cert.ReferenceQkFwdIdeal.main (F := Ideal))) ⟨m, fun _ => 0, g⟩ (fun r => (∀ c : Dev Cert.ReferenceQkFwdIdeal.nD,
      r.2.mem ((c.tc : Thread Cert.ReferenceQkFwdIdeal.nD Cert.ReferenceQkFwdIdeal.τ).loc Cert.ReferenceQkFwdIdeal.main_arg0) = m ((c.tc : Thread Cert.ReferenceQkFwdIdeal.nD Cert.ReferenceQkFwdIdeal.τ).loc Cert.ReferenceQkFwdIdeal.main_arg0)
      ∧ r.2.mem ((c.tc : Thread Cert.ReferenceQkFwdIdeal.nD Cert.ReferenceQkFwdIdeal.τ).loc Cert.ReferenceQkFwdIdeal.main_arg1) = m ((c.tc : Thread Cert.ReferenceQkFwdIdeal.nD Cert.ReferenceQkFwdIdeal.τ).loc Cert.ReferenceQkFwdIdeal.main_arg1)
      ∧ r.2.mem ((c.tc : Thread Cert.ReferenceQkFwdIdeal.nD Cert.ReferenceQkFwdIdeal.τ).loc Cert.ReferenceQkFwdIdeal.main_arg2) = m ((c.tc : Thread Cert.ReferenceQkFwdIdeal.nD Cert.ReferenceQkFwdIdeal.τ).loc Cert.ReferenceQkFwdIdeal.main_arg2)
      ∧ r.2.mem ((c.tc : Thread Cert.ReferenceQkFwdIdeal.nD Cert.ReferenceQkFwdIdeal.τ).loc Cert.ReferenceQkFwdIdeal.main_arg3) = m ((c.tc : Thread Cert.ReferenceQkFwdIdeal.nD Cert.ReferenceQkFwdIdeal.τ).loc Cert.ReferenceQkFwdIdeal.main_arg3)
      ∧ r.2.mem ((c.tc : Thread Cert.ReferenceQkFwdIdeal.nD Cert.ReferenceQkFwdIdeal.τ).loc Cert.ReferenceQkFwdIdeal.main_arg4) = m ((c.tc : Thread Cert.ReferenceQkFwdIdeal.nD Cert.ReferenceQkFwdIdeal.τ).loc Cert.ReferenceQkFwdIdeal.main_arg4)
      ∧ r.2.mem ((c.tc : Thread Cert.ReferenceQkFwdIdeal.nD Cert.ReferenceQkFwdIdeal.τ).loc Cert.ReferenceQkFwdIdeal.main_arg5) = m ((c.tc : Thread Cert.ReferenceQkFwdIdeal.nD Cert.ReferenceQkFwdIdeal.τ).loc Cert.ReferenceQkFwdIdeal.main_arg5))
      ∧ r.2.sem = fun _ => 0)

def quiescent_KernelGla [hKernelGla : Cert.KernelGla.Facts] : Prop :=
  ∀ (m : (ℓ : Loc Cert.KernelGla.nD Cert.KernelGla.τ Cert.KernelGla.sig) → Buf (Elt Bits) ℓ) (g : Dev Cert.KernelGla.nD → PrngReg), Pre_KernelGla m →
    θ_run (Cert.KernelGla.defs (F := Bits)) (onTc (τ := Cert.KernelGla.τ) (Cert.KernelGla.main (F := Bits))) ⟨m, fun _ => 0, g⟩ (fun r => (∀ c : Dev Cert.KernelGla.nD,
      r.2.mem ((c.tc : Thread Cert.KernelGla.nD Cert.KernelGla.τ).loc Cert.KernelGla.main_arg0) = m ((c.tc : Thread Cert.KernelGla.nD Cert.KernelGla.τ).loc Cert.KernelGla.main_arg0)
      ∧ r.2.mem ((c.tc : Thread Cert.KernelGla.nD Cert.KernelGla.τ).loc Cert.KernelGla.main_arg1) = m ((c.tc : Thread Cert.KernelGla.nD Cert.KernelGla.τ).loc Cert.KernelGla.main_arg1)
      ∧ r.2.mem ((c.tc : Thread Cert.KernelGla.nD Cert.KernelGla.τ).loc Cert.KernelGla.main_arg2) = m ((c.tc : Thread Cert.KernelGla.nD Cert.KernelGla.τ).loc Cert.KernelGla.main_arg2)
      ∧ r.2.mem ((c.tc : Thread Cert.KernelGla.nD Cert.KernelGla.τ).loc Cert.KernelGla.main_arg3) = m ((c.tc : Thread Cert.KernelGla.nD Cert.KernelGla.τ).loc Cert.KernelGla.main_arg3)
      ∧ r.2.mem ((c.tc : Thread Cert.KernelGla.nD Cert.KernelGla.τ).loc Cert.KernelGla.main_arg4) = m ((c.tc : Thread Cert.KernelGla.nD Cert.KernelGla.τ).loc Cert.KernelGla.main_arg4))
      ∧ r.2.sem = fun _ => 0)

def quiescent_KernelGlaIdeal [hKernelGlaIdeal : Cert.KernelGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
      ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
      ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3)
      ∧ r.2.mem ((c.tc : Thread Cert.KernelGlaIdeal.nD Cert.KernelGlaIdeal.τ).loc Cert.KernelGlaIdeal.main_arg4) = m ((c.tc : Thread Cert.KernelGlaIdeal.nD Cert.KernelGlaIdeal.τ).loc Cert.KernelGlaIdeal.main_arg4))
      ∧ r.2.sem = fun _ => 0)

def quiescent_KernelGlaFwd [hKernelGlaFwd : Cert.KernelGlaFwd.Facts] : Prop :=
  ∀ (m : (ℓ : Loc Cert.KernelGlaFwd.nD Cert.KernelGlaFwd.τ Cert.KernelGlaFwd.sig) → Buf (Elt Bits) ℓ) (g : Dev Cert.KernelGlaFwd.nD → PrngReg), Pre_KernelGlaFwd m →
    θ_run (Cert.KernelGlaFwd.defs (F := Bits)) (onTc (τ := Cert.KernelGlaFwd.τ) (Cert.KernelGlaFwd.main (F := Bits))) ⟨m, fun _ => 0, g⟩ (fun r => (∀ c : Dev Cert.KernelGlaFwd.nD,
      r.2.mem ((c.tc : Thread Cert.KernelGlaFwd.nD Cert.KernelGlaFwd.τ).loc Cert.KernelGlaFwd.main_arg0) = m ((c.tc : Thread Cert.KernelGlaFwd.nD Cert.KernelGlaFwd.τ).loc Cert.KernelGlaFwd.main_arg0)
      ∧ r.2.mem ((c.tc : Thread Cert.KernelGlaFwd.nD Cert.KernelGlaFwd.τ).loc Cert.KernelGlaFwd.main_arg1) = m ((c.tc : Thread Cert.KernelGlaFwd.nD Cert.KernelGlaFwd.τ).loc Cert.KernelGlaFwd.main_arg1)
      ∧ r.2.mem ((c.tc : Thread Cert.KernelGlaFwd.nD Cert.KernelGlaFwd.τ).loc Cert.KernelGlaFwd.main_arg2) = m ((c.tc : Thread Cert.KernelGlaFwd.nD Cert.KernelGlaFwd.τ).loc Cert.KernelGlaFwd.main_arg2)
      ∧ r.2.mem ((c.tc : Thread Cert.KernelGlaFwd.nD Cert.KernelGlaFwd.τ).loc Cert.KernelGlaFwd.main_arg3) = m ((c.tc : Thread Cert.KernelGlaFwd.nD Cert.KernelGlaFwd.τ).loc Cert.KernelGlaFwd.main_arg3))
      ∧ r.2.sem = fun _ => 0)

def quiescent_KernelGlaFwdIdeal [hKernelGlaFwdIdeal : Cert.KernelGlaFwdIdeal.Facts] : Prop :=
  ∀ (m : (ℓ : Loc Cert.KernelGlaFwdIdeal.nD Cert.KernelGlaFwdIdeal.τ Cert.KernelGlaFwdIdeal.sig) → Buf (Elt Ideal) ℓ) (g : Dev Cert.KernelGlaFwdIdeal.nD → PrngReg), Pre_KernelGlaFwdIdeal m →
    θ_run (Cert.KernelGlaFwdIdeal.defs (F := Ideal)) (onTc (τ := Cert.KernelGlaFwdIdeal.τ) (Cert.KernelGlaFwdIdeal.main (F := Ideal))) ⟨m, fun _ => 0, g⟩ (fun r => (∀ c : Dev Cert.KernelGlaFwdIdeal.nD,
      r.2.mem ((c.tc : Thread Cert.KernelGlaFwdIdeal.nD Cert.KernelGlaFwdIdeal.τ).loc Cert.KernelGlaFwdIdeal.main_arg0) = m ((c.tc : Thread Cert.KernelGlaFwdIdeal.nD Cert.KernelGlaFwdIdeal.τ).loc Cert.KernelGlaFwdIdeal.main_arg0)
      ∧ r.2.mem ((c.tc : Thread Cert.KernelGlaFwdIdeal.nD Cert.KernelGlaFwdIdeal.τ).loc Cert.KernelGlaFwdIdeal.main_arg1) = m ((c.tc : Thread Cert.KernelGlaFwdIdeal.nD Cert.KernelGlaFwdIdeal.τ).loc Cert.KernelGlaFwdIdeal.main_arg1)
      ∧ r.2.mem ((c.tc : Thread Cert.KernelGlaFwdIdeal.nD Cert.KernelGlaFwdIdeal.τ).loc Cert.KernelGlaFwdIdeal.main_arg2) = m ((c.tc : Thread Cert.KernelGlaFwdIdeal.nD Cert.KernelGlaFwdIdeal.τ).loc Cert.KernelGlaFwdIdeal.main_arg2)
      ∧ r.2.mem ((c.tc : Thread Cert.KernelGlaFwdIdeal.nD Cert.KernelGlaFwdIdeal.τ).loc Cert.KernelGlaFwdIdeal.main_arg3) = m ((c.tc : Thread Cert.KernelGlaFwdIdeal.nD Cert.KernelGlaFwdIdeal.τ).loc Cert.KernelGlaFwdIdeal.main_arg3))
      ∧ r.2.sem = fun _ => 0)

def quiescent_ReferenceGlaFwdIdeal [hReferenceGlaFwdIdeal : Cert.ReferenceGlaFwdIdeal.Facts] : Prop :=
  ∀ (m : (ℓ : Loc Cert.ReferenceGlaFwdIdeal.nD Cert.ReferenceGlaFwdIdeal.τ Cert.ReferenceGlaFwdIdeal.sig) → Buf (Elt Ideal) ℓ) (g : Dev Cert.ReferenceGlaFwdIdeal.nD → PrngReg), Pre_ReferenceGlaFwdIdeal m →
    θ_run (Cert.ReferenceGlaFwdIdeal.defs (F := Ideal)) (onTc (τ := Cert.ReferenceGlaFwdIdeal.τ) (Cert.ReferenceGlaFwdIdeal.main (F := Ideal))) ⟨m, fun _ => 0, g⟩ (fun r => (∀ c : Dev Cert.ReferenceGlaFwdIdeal.nD,
      r.2.mem ((c.tc : Thread Cert.ReferenceGlaFwdIdeal.nD Cert.ReferenceGlaFwdIdeal.τ).loc Cert.ReferenceGlaFwdIdeal.main_arg0) = m ((c.tc : Thread Cert.ReferenceGlaFwdIdeal.nD Cert.ReferenceGlaFwdIdeal.τ).loc Cert.ReferenceGlaFwdIdeal.main_arg0)
      ∧ r.2.mem ((c.tc : Thread Cert.ReferenceGlaFwdIdeal.nD Cert.ReferenceGlaFwdIdeal.τ).loc Cert.ReferenceGlaFwdIdeal.main_arg1) = m ((c.tc : Thread Cert.ReferenceGlaFwdIdeal.nD Cert.ReferenceGlaFwdIdeal.τ).loc Cert.ReferenceGlaFwdIdeal.main_arg1)
      ∧ r.2.mem ((c.tc : Thread Cert.ReferenceGlaFwdIdeal.nD Cert.ReferenceGlaFwdIdeal.τ).loc Cert.ReferenceGlaFwdIdeal.main_arg2) = m ((c.tc : Thread Cert.ReferenceGlaFwdIdeal.nD Cert.ReferenceGlaFwdIdeal.τ).loc Cert.ReferenceGlaFwdIdeal.main_arg2)
      ∧ r.2.mem ((c.tc : Thread Cert.ReferenceGlaFwdIdeal.nD Cert.ReferenceGlaFwdIdeal.τ).loc Cert.ReferenceGlaFwdIdeal.main_arg3) = m ((c.tc : Thread Cert.ReferenceGlaFwdIdeal.nD Cert.ReferenceGlaFwdIdeal.τ).loc Cert.ReferenceGlaFwdIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelProjDx [hKernelProjDx : Cert.KernelProjDx.Facts] : Prop :=
  ∀ (m : (ℓ : Loc Cert.KernelProjDx.nD Cert.KernelProjDx.τ Cert.KernelProjDx.sig) → Buf (Elt Bits) ℓ) (g : Dev Cert.KernelProjDx.nD → PrngReg), Pre_KernelProjDx m →
    θ_run (Cert.KernelProjDx.defs (F := Bits)) (onTc (τ := Cert.KernelProjDx.τ) (Cert.KernelProjDx.main (F := Bits))) ⟨m, fun _ => 0, g⟩ (fun r => (∀ c : Dev Cert.KernelProjDx.nD,
      r.2.mem ((c.tc : Thread Cert.KernelProjDx.nD Cert.KernelProjDx.τ).loc Cert.KernelProjDx.main_arg0) = m ((c.tc : Thread Cert.KernelProjDx.nD Cert.KernelProjDx.τ).loc Cert.KernelProjDx.main_arg0)
      ∧ r.2.mem ((c.tc : Thread Cert.KernelProjDx.nD Cert.KernelProjDx.τ).loc Cert.KernelProjDx.main_arg1) = m ((c.tc : Thread Cert.KernelProjDx.nD Cert.KernelProjDx.τ).loc Cert.KernelProjDx.main_arg1))
      ∧ r.2.sem = fun _ => 0)

def quiescent_KernelProjDxIdeal [hKernelProjDxIdeal : Cert.KernelProjDxIdeal.Facts] : Prop :=
  ∀ (m : (ℓ : Loc Cert.KernelProjDxIdeal.nD Cert.KernelProjDxIdeal.τ Cert.KernelProjDxIdeal.sig) → Buf (Elt Ideal) ℓ) (g : Dev Cert.KernelProjDxIdeal.nD → PrngReg), Pre_KernelProjDxIdeal m →
    θ_run (Cert.KernelProjDxIdeal.defs (F := Ideal)) (onTc (τ := Cert.KernelProjDxIdeal.τ) (Cert.KernelProjDxIdeal.main (F := Ideal))) ⟨m, fun _ => 0, g⟩ (fun r => (∀ c : Dev Cert.KernelProjDxIdeal.nD,
      r.2.mem ((c.tc : Thread Cert.KernelProjDxIdeal.nD Cert.KernelProjDxIdeal.τ).loc Cert.KernelProjDxIdeal.main_arg0) = m ((c.tc : Thread Cert.KernelProjDxIdeal.nD Cert.KernelProjDxIdeal.τ).loc Cert.KernelProjDxIdeal.main_arg0)
      ∧ r.2.mem ((c.tc : Thread Cert.KernelProjDxIdeal.nD Cert.KernelProjDxIdeal.τ).loc Cert.KernelProjDxIdeal.main_arg1) = m ((c.tc : Thread Cert.KernelProjDxIdeal.nD Cert.KernelProjDxIdeal.τ).loc Cert.KernelProjDxIdeal.main_arg1))
      ∧ r.2.sem = fun _ => 0)

def quiescent_ReferenceProjDxIdeal [hReferenceProjDxIdeal : Cert.ReferenceProjDxIdeal.Facts] : Prop :=
  ∀ (m : (ℓ : Loc Cert.ReferenceProjDxIdeal.nD Cert.ReferenceProjDxIdeal.τ Cert.ReferenceProjDxIdeal.sig) → Buf (Elt Ideal) ℓ) (g : Dev Cert.ReferenceProjDxIdeal.nD → PrngReg), Pre_ReferenceProjDxIdeal m →
    θ_run (Cert.ReferenceProjDxIdeal.defs (F := Ideal)) (onTc (τ := Cert.ReferenceProjDxIdeal.τ) (Cert.ReferenceProjDxIdeal.main (F := Ideal))) ⟨m, fun _ => 0, g⟩ (fun r => (∀ c : Dev Cert.ReferenceProjDxIdeal.nD,
      r.2.mem ((c.tc : Thread Cert.ReferenceProjDxIdeal.nD Cert.ReferenceProjDxIdeal.τ).loc Cert.ReferenceProjDxIdeal.main_arg0) = m ((c.tc : Thread Cert.ReferenceProjDxIdeal.nD Cert.ReferenceProjDxIdeal.τ).loc Cert.ReferenceProjDxIdeal.main_arg0)
      ∧ r.2.mem ((c.tc : Thread Cert.ReferenceProjDxIdeal.nD Cert.ReferenceProjDxIdeal.τ).loc Cert.ReferenceProjDxIdeal.main_arg1) = m ((c.tc : Thread Cert.ReferenceProjDxIdeal.nD Cert.ReferenceProjDxIdeal.τ).loc Cert.ReferenceProjDxIdeal.main_arg1))
      ∧ r.2.sem = fun _ => 0)

def quiescent_KernelProjDw [hKernelProjDw : Cert.KernelProjDw.Facts] : Prop :=
  ∀ (m : (ℓ : Loc Cert.KernelProjDw.nD Cert.KernelProjDw.τ Cert.KernelProjDw.sig) → Buf (Elt Bits) ℓ) (g : Dev Cert.KernelProjDw.nD → PrngReg), Pre_KernelProjDw m →
    θ_run (Cert.KernelProjDw.defs (F := Bits)) (onTc (τ := Cert.KernelProjDw.τ) (Cert.KernelProjDw.main (F := Bits))) ⟨m, fun _ => 0, g⟩ (fun r => (∀ c : Dev Cert.KernelProjDw.nD,
      r.2.mem ((c.tc : Thread Cert.KernelProjDw.nD Cert.KernelProjDw.τ).loc Cert.KernelProjDw.main_arg0) = m ((c.tc : Thread Cert.KernelProjDw.nD Cert.KernelProjDw.τ).loc Cert.KernelProjDw.main_arg0)
      ∧ r.2.mem ((c.tc : Thread Cert.KernelProjDw.nD Cert.KernelProjDw.τ).loc Cert.KernelProjDw.main_arg1) = m ((c.tc : Thread Cert.KernelProjDw.nD Cert.KernelProjDw.τ).loc Cert.KernelProjDw.main_arg1))
      ∧ r.2.sem = fun _ => 0)

def quiescent_KernelProjDwIdeal [hKernelProjDwIdeal : Cert.KernelProjDwIdeal.Facts] : Prop :=
  ∀ (m : (ℓ : Loc Cert.KernelProjDwIdeal.nD Cert.KernelProjDwIdeal.τ Cert.KernelProjDwIdeal.sig) → Buf (Elt Ideal) ℓ) (g : Dev Cert.KernelProjDwIdeal.nD → PrngReg), Pre_KernelProjDwIdeal m →
    θ_run (Cert.KernelProjDwIdeal.defs (F := Ideal)) (onTc (τ := Cert.KernelProjDwIdeal.τ) (Cert.KernelProjDwIdeal.main (F := Ideal))) ⟨m, fun _ => 0, g⟩ (fun r => (∀ c : Dev Cert.KernelProjDwIdeal.nD,
      r.2.mem ((c.tc : Thread Cert.KernelProjDwIdeal.nD Cert.KernelProjDwIdeal.τ).loc Cert.KernelProjDwIdeal.main_arg0) = m ((c.tc : Thread Cert.KernelProjDwIdeal.nD Cert.KernelProjDwIdeal.τ).loc Cert.KernelProjDwIdeal.main_arg0)
      ∧ r.2.mem ((c.tc : Thread Cert.KernelProjDwIdeal.nD Cert.KernelProjDwIdeal.τ).loc Cert.KernelProjDwIdeal.main_arg1) = m ((c.tc : Thread Cert.KernelProjDwIdeal.nD Cert.KernelProjDwIdeal.τ).loc Cert.KernelProjDwIdeal.main_arg1))
      ∧ r.2.sem = fun _ => 0)

def quiescent_ReferenceProjDwIdeal [hReferenceProjDwIdeal : Cert.ReferenceProjDwIdeal.Facts] : Prop :=
  ∀ (m : (ℓ : Loc Cert.ReferenceProjDwIdeal.nD Cert.ReferenceProjDwIdeal.τ Cert.ReferenceProjDwIdeal.sig) → Buf (Elt Ideal) ℓ) (g : Dev Cert.ReferenceProjDwIdeal.nD → PrngReg), Pre_ReferenceProjDwIdeal m →
    θ_run (Cert.ReferenceProjDwIdeal.defs (F := Ideal)) (onTc (τ := Cert.ReferenceProjDwIdeal.τ) (Cert.ReferenceProjDwIdeal.main (F := Ideal))) ⟨m, fun _ => 0, g⟩ (fun r => (∀ c : Dev Cert.ReferenceProjDwIdeal.nD,
      r.2.mem ((c.tc : Thread Cert.ReferenceProjDwIdeal.nD Cert.ReferenceProjDwIdeal.τ).loc Cert.ReferenceProjDwIdeal.main_arg0) = m ((c.tc : Thread Cert.ReferenceProjDwIdeal.nD Cert.ReferenceProjDwIdeal.τ).loc Cert.ReferenceProjDwIdeal.main_arg0)
      ∧ r.2.mem ((c.tc : Thread Cert.ReferenceProjDwIdeal.nD Cert.ReferenceProjDwIdeal.τ).loc Cert.ReferenceProjDwIdeal.main_arg1) = m ((c.tc : Thread Cert.ReferenceProjDwIdeal.nD Cert.ReferenceProjDwIdeal.τ).loc Cert.ReferenceProjDwIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelAttn_KernelAttnIdeal : Prop :=
  IdealRules.named_const.Statement Cert.KernelAttnIdeal.κ "prescale" .f32 0x3E16C740#32 (((3424635 / 33554432) * (Real.log 2)⁻¹ : ℝ) : EReal)
  ∧ IdealRules.named_const.Statement Cert.KernelAttnIdeal.κ "mask" .f32 0xF149F2CA#32 ⊥
  ∧ IdealRules.named_const.Statement Cert.KernelAttnIdeal.κ "unscale" .f32 0x40D95360#32 (((3424635 / 33554432)⁻¹ * (Real.log 2) : ℝ) : EReal)

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v12_0)) (v1 : (c : Dev Cert.KernelAttnIdeal.nD) → Buf (Elt Ideal) ((c.tc : Thread Cert.KernelAttnIdeal.nD Cert.KernelAttnIdeal.τ).loc Cert.KernelAttnIdeal.main_v12_1)) (v2 : (c : Dev Cert.KernelAttnIdeal.nD) → Buf (Elt Ideal) ((c.tc : Thread Cert.KernelAttnIdeal.nD Cert.KernelAttnIdeal.τ).loc Cert.KernelAttnIdeal.main_v12_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v12_0) = v0 c
          ∧ r.2.mem ((c.tc : Thread Cert.KernelAttnIdeal.nD Cert.KernelAttnIdeal.τ).loc Cert.KernelAttnIdeal.main_v12_1) = v1 c
          ∧ r.2.mem ((c.tc : Thread Cert.KernelAttnIdeal.nD Cert.KernelAttnIdeal.τ).loc Cert.KernelAttnIdeal.main_v12_2) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v66) = v0 c
          ∧ r.2.mem ((c.tc : Thread Cert.ReferenceAttnIdeal.nD Cert.ReferenceAttnIdeal.τ).loc Cert.ReferenceAttnIdeal.main_v68) = v1 c
          ∧ r.2.mem ((c.tc : Thread Cert.ReferenceAttnIdeal.nD Cert.ReferenceAttnIdeal.τ).loc Cert.ReferenceAttnIdeal.main_v70) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def preserves_KernelAttnFwd_KernelAttnFwdIdeal : Prop :=
  IdealRules.named_const.Statement Cert.KernelAttnFwdIdeal.κ "prescale" .f32 0x3E16C740#32 (((3424635 / 33554432) * (Real.log 2)⁻¹ : ℝ) : EReal)
  ∧ IdealRules.named_const.Statement Cert.KernelAttnFwdIdeal.κ "mask" .f32 0xF149F2CA#32 ⊥

def algebraic_KernelAttnFwdIdeal_ReferenceAttnFwdIdeal_pre_finite_scores [hKernelAttnFwdIdeal : Cert.KernelAttnFwdIdeal.Facts] [hReferenceAttnFwdIdeal : Cert.ReferenceAttnFwdIdeal.Facts] [hPre_finite_scores : Cert.Pre_finite_scores.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_finite_scores m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)
      ∧ m' ((c.tc : Thread Cert.ReferenceAttnFwdIdeal.nD Cert.ReferenceAttnFwdIdeal.τ).loc Cert.ReferenceAttnFwdIdeal.main_arg1) = m ((c.tc : Thread Cert.KernelAttnFwdIdeal.nD Cert.KernelAttnFwdIdeal.τ).loc Cert.KernelAttnFwdIdeal.main_arg1)
      ∧ m' ((c.tc : Thread Cert.ReferenceAttnFwdIdeal.nD Cert.ReferenceAttnFwdIdeal.τ).loc Cert.ReferenceAttnFwdIdeal.main_arg2) = m ((c.tc : Thread Cert.KernelAttnFwdIdeal.nD Cert.KernelAttnFwdIdeal.τ).loc Cert.KernelAttnFwdIdeal.main_arg2)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v9)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v9) = v0 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
          ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
          ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v27) = v0 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0)
          ∧ r.2.mem ((c.tc : Thread Cert.ReferenceAttnFwdIdeal.nD Cert.ReferenceAttnFwdIdeal.τ).loc Cert.ReferenceAttnFwdIdeal.main_arg1) = m' ((c.tc : Thread Cert.ReferenceAttnFwdIdeal.nD Cert.ReferenceAttnFwdIdeal.τ).loc Cert.ReferenceAttnFwdIdeal.main_arg1)
          ∧ r.2.mem ((c.tc : Thread Cert.ReferenceAttnFwdIdeal.nD Cert.ReferenceAttnFwdIdeal.τ).loc Cert.ReferenceAttnFwdIdeal.main_arg2) = m' ((c.tc : Thread Cert.ReferenceAttnFwdIdeal.nD Cert.ReferenceAttnFwdIdeal.τ).loc Cert.ReferenceAttnFwdIdeal.main_arg2))

def preserves_KernelLat_KernelLatIdeal : Prop :=
  True

def algebraic_KernelLatIdeal_ReferenceLatIdeal_pre_finite_lat [hKernelLatIdeal : Cert.KernelLatIdeal.Facts] [hReferenceLatIdeal : Cert.ReferenceLatIdeal.Facts] [hPre_finite_lat : Cert.Pre_finite_lat.Facts] : Prop :=
  ∀ (m : (ℓ : Loc Cert.KernelLatIdeal.nD Cert.KernelLatIdeal.τ Cert.KernelLatIdeal.sig) → Buf (Elt Ideal) ℓ) (g : Dev Cert.KernelLatIdeal.nD → PrngReg)
    (m' : (ℓ : Loc Cert.ReferenceLatIdeal.nD Cert.ReferenceLatIdeal.τ Cert.ReferenceLatIdeal.sig) → Buf (Elt Ideal) ℓ) (g' : Dev Cert.ReferenceLatIdeal.nD → PrngReg), Pre_KernelLatIdeal_finite_lat m →
    (∀ c : Dev Cert.KernelLatIdeal.nD,
      m' ((c.tc : Thread Cert.ReferenceLatIdeal.nD Cert.ReferenceLatIdeal.τ).loc Cert.ReferenceLatIdeal.main_arg0) = m ((c.tc : Thread Cert.KernelLatIdeal.nD Cert.KernelLatIdeal.τ).loc Cert.KernelLatIdeal.main_arg0)
      ∧ m' ((c.tc : Thread Cert.ReferenceLatIdeal.nD Cert.ReferenceLatIdeal.τ).loc Cert.ReferenceLatIdeal.main_arg1) = m ((c.tc : Thread Cert.KernelLatIdeal.nD Cert.KernelLatIdeal.τ).loc Cert.KernelLatIdeal.main_arg1)
      ∧ m' ((c.tc : Thread Cert.ReferenceLatIdeal.nD Cert.ReferenceLatIdeal.τ).loc Cert.ReferenceLatIdeal.main_arg2) = m ((c.tc : Thread Cert.KernelLatIdeal.nD Cert.KernelLatIdeal.τ).loc Cert.KernelLatIdeal.main_arg2)
      ∧ m' ((c.tc : Thread Cert.ReferenceLatIdeal.nD Cert.ReferenceLatIdeal.τ).loc Cert.ReferenceLatIdeal.main_arg3) = m ((c.tc : Thread Cert.KernelLatIdeal.nD Cert.KernelLatIdeal.τ).loc Cert.KernelLatIdeal.main_arg3)
      ∧ m' ((c.tc : Thread Cert.ReferenceLatIdeal.nD Cert.ReferenceLatIdeal.τ).loc Cert.ReferenceLatIdeal.main_arg4) = m ((c.tc : Thread Cert.KernelLatIdeal.nD Cert.KernelLatIdeal.τ).loc Cert.KernelLatIdeal.main_arg4)) →
    ∃ (v0 : (c : Dev Cert.KernelLatIdeal.nD) → Buf (Elt Ideal) ((c.tc : Thread Cert.KernelLatIdeal.nD Cert.KernelLatIdeal.τ).loc Cert.KernelLatIdeal.main_v13_0)) (v1 : (c : Dev Cert.KernelLatIdeal.nD) → Buf (Elt Ideal) ((c.tc : Thread Cert.KernelLatIdeal.nD Cert.KernelLatIdeal.τ).loc Cert.KernelLatIdeal.main_v13_1)) (v2 : (c : Dev Cert.KernelLatIdeal.nD) → Buf (Elt Ideal) ((c.tc : Thread Cert.KernelLatIdeal.nD Cert.KernelLatIdeal.τ).loc Cert.KernelLatIdeal.main_v13_2)) (v3 : (c : Dev Cert.KernelLatIdeal.nD) → Buf (Elt Ideal) ((c.tc : Thread Cert.KernelLatIdeal.nD Cert.KernelLatIdeal.τ).loc Cert.KernelLatIdeal.main_v13_3)),
      θ_run (Cert.KernelLatIdeal.defs (F := Ideal)) (onTc (τ := Cert.KernelLatIdeal.τ) (Cert.KernelLatIdeal.main (F := Ideal))) ⟨m, fun _ => 0, g⟩ (fun r => ∀ c : Dev Cert.KernelLatIdeal.nD,
          r.2.mem ((c.tc : Thread Cert.KernelLatIdeal.nD Cert.KernelLatIdeal.τ).loc Cert.KernelLatIdeal.main_v13_0) = v0 c
          ∧ r.2.mem ((c.tc : Thread Cert.KernelLatIdeal.nD Cert.KernelLatIdeal.τ).loc Cert.KernelLatIdeal.main_v13_1) = v1 c
          ∧ r.2.mem ((c.tc : Thread Cert.KernelLatIdeal.nD Cert.KernelLatIdeal.τ).loc Cert.KernelLatIdeal.main_v13_2) = v2 c
          ∧ r.2.mem ((c.tc : Thread Cert.KernelLatIdeal.nD Cert.KernelLatIdeal.τ).loc Cert.KernelLatIdeal.main_v13_3) = v3 c
          ∧ r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
          ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
          ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
          ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
          ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4))
      ∧ θ_run (Cert.ReferenceLatIdeal.defs (F := Ideal)) (onTc (τ := Cert.ReferenceLatIdeal.τ) (Cert.ReferenceLatIdeal.main (F := Ideal))) ⟨m', fun _ => 0, g'⟩ (fun r => ∀ c : Dev Cert.ReferenceLatIdeal.nD,
          r.2.mem ((c.tc : Thread Cert.ReferenceLatIdeal.nD Cert.ReferenceLatIdeal.τ).loc Cert.ReferenceLatIdeal.main_v86) = v0 c
          ∧ r.2.mem ((c.tc : Thread Cert.ReferenceLatIdeal.nD Cert.ReferenceLatIdeal.τ).loc Cert.ReferenceLatIdeal.main_v88) = v1 c
          ∧ r.2.mem ((c.tc : Thread Cert.ReferenceLatIdeal.nD Cert.ReferenceLatIdeal.τ).loc Cert.ReferenceLatIdeal.main_v46) = v2 c
          ∧ r.2.mem ((c.tc : Thread Cert.ReferenceLatIdeal.nD Cert.ReferenceLatIdeal.τ).loc Cert.ReferenceLatIdeal.main_v84) = v3 c
          ∧ r.2.mem ((c.tc : Thread Cert.ReferenceLatIdeal.nD Cert.ReferenceLatIdeal.τ).loc Cert.ReferenceLatIdeal.main_arg0) = m' ((c.tc : Thread Cert.ReferenceLatIdeal.nD Cert.ReferenceLatIdeal.τ).loc Cert.ReferenceLatIdeal.main_arg0)
          ∧ r.2.mem ((c.tc : Thread Cert.ReferenceLatIdeal.nD Cert.ReferenceLatIdeal.τ).loc Cert.ReferenceLatIdeal.main_arg1) = m' ((c.tc : Thread Cert.ReferenceLatIdeal.nD Cert.ReferenceLatIdeal.τ).loc Cert.ReferenceLatIdeal.main_arg1)
          ∧ r.2.mem ((c.tc : Thread Cert.ReferenceLatIdeal.nD Cert.ReferenceLatIdeal.τ).loc Cert.ReferenceLatIdeal.main_arg2) = m' ((c.tc : Thread Cert.ReferenceLatIdeal.nD Cert.ReferenceLatIdeal.τ).loc Cert.ReferenceLatIdeal.main_arg2)
          ∧ r.2.mem ((c.tc : Thread Cert.ReferenceLatIdeal.nD Cert.ReferenceLatIdeal.τ).loc Cert.ReferenceLatIdeal.main_arg3) = m' ((c.tc : Thread Cert.ReferenceLatIdeal.nD Cert.ReferenceLatIdeal.τ).loc Cert.ReferenceLatIdeal.main_arg3)
          ∧ r.2.mem ((c.tc : Thread Cert.ReferenceLatIdeal.nD Cert.ReferenceLatIdeal.τ).loc Cert.ReferenceLatIdeal.main_arg4) = m' ((c.tc : Thread Cert.ReferenceLatIdeal.nD Cert.ReferenceLatIdeal.τ).loc Cert.ReferenceLatIdeal.main_arg4))

def preserves_KernelNorm1_KernelNorm1Ideal : Prop :=
  True

def algebraic_KernelNorm1Ideal_ReferenceNorm1Ideal_pre_finite_norm1 [hKernelNorm1Ideal : Cert.KernelNorm1Ideal.Facts] [hReferenceNorm1Ideal : Cert.ReferenceNorm1Ideal.Facts] [hPre_finite_norm1 : Cert.Pre_finite_norm1.Facts] : Prop :=
  ∀ (m : (ℓ : Loc Cert.KernelNorm1Ideal.nD Cert.KernelNorm1Ideal.τ Cert.KernelNorm1Ideal.sig) → Buf (Elt Ideal) ℓ) (g : Dev Cert.KernelNorm1Ideal.nD → PrngReg)
    (m' : (ℓ : Loc Cert.ReferenceNorm1Ideal.nD Cert.ReferenceNorm1Ideal.τ Cert.ReferenceNorm1Ideal.sig) → Buf (Elt Ideal) ℓ) (g' : Dev Cert.ReferenceNorm1Ideal.nD → PrngReg), Pre_KernelNorm1Ideal_finite_norm1 m →
    (∀ c : Dev Cert.KernelNorm1Ideal.nD,
      m' ((c.tc : Thread Cert.ReferenceNorm1Ideal.nD Cert.ReferenceNorm1Ideal.τ).loc Cert.ReferenceNorm1Ideal.main_arg0) = m ((c.tc : Thread Cert.KernelNorm1Ideal.nD Cert.KernelNorm1Ideal.τ).loc Cert.KernelNorm1Ideal.main_arg0)
      ∧ m' ((c.tc : Thread Cert.ReferenceNorm1Ideal.nD Cert.ReferenceNorm1Ideal.τ).loc Cert.ReferenceNorm1Ideal.main_arg1) = m ((c.tc : Thread Cert.KernelNorm1Ideal.nD Cert.KernelNorm1Ideal.τ).loc Cert.KernelNorm1Ideal.main_arg1)
      ∧ m' ((c.tc : Thread Cert.ReferenceNorm1Ideal.nD Cert.ReferenceNorm1Ideal.τ).loc Cert.ReferenceNorm1Ideal.main_arg2) = m ((c.tc : Thread Cert.KernelNorm1Ideal.nD Cert.KernelNorm1Ideal.τ).loc Cert.KernelNorm1Ideal.main_arg2)
      ∧ m' ((c.tc : Thread Cert.ReferenceNorm1Ideal.nD Cert.ReferenceNorm1Ideal.τ).loc Cert.ReferenceNorm1Ideal.main_arg3) = m ((c.tc : Thread Cert.KernelNorm1Ideal.nD Cert.KernelNorm1Ideal.τ).loc Cert.KernelNorm1Ideal.main_arg3)
      ∧ m' ((c.tc : Thread Cert.ReferenceNorm1Ideal.nD Cert.ReferenceNorm1Ideal.τ).loc Cert.ReferenceNorm1Ideal.main_arg4) = m ((c.tc : Thread Cert.KernelNorm1Ideal.nD Cert.KernelNorm1Ideal.τ).loc Cert.KernelNorm1Ideal.main_arg4)) →
    ∃ (v0 : (c : Dev Cert.KernelNorm1Ideal.nD) → Buf (Elt Ideal) ((c.tc : Thread Cert.KernelNorm1Ideal.nD Cert.KernelNorm1Ideal.τ).loc Cert.KernelNorm1Ideal.main_v1_0)) (v1 : (c : Dev Cert.KernelNorm1Ideal.nD) → Buf (Elt Ideal) ((c.tc : Thread Cert.KernelNorm1Ideal.nD Cert.KernelNorm1Ideal.τ).loc Cert.KernelNorm1Ideal.main_v1_1)) (v2 : (c : Dev Cert.KernelNorm1Ideal.nD) → Buf (Elt Ideal) ((c.tc : Thread Cert.KernelNorm1Ideal.nD Cert.KernelNorm1Ideal.τ).loc Cert.KernelNorm1Ideal.main_v1_2)) (v3 : (c : Dev Cert.KernelNorm1Ideal.nD) → Buf (Elt Ideal) ((c.tc : Thread Cert.KernelNorm1Ideal.nD Cert.KernelNorm1Ideal.τ).loc Cert.KernelNorm1Ideal.main_v1_3)),
      θ_run (Cert.KernelNorm1Ideal.defs (F := Ideal)) (onTc (τ := Cert.KernelNorm1Ideal.τ) (Cert.KernelNorm1Ideal.main (F := Ideal))) ⟨m, fun _ => 0, g⟩ (fun r => ∀ c : Dev Cert.KernelNorm1Ideal.nD,
          r.2.mem ((c.tc : Thread Cert.KernelNorm1Ideal.nD Cert.KernelNorm1Ideal.τ).loc Cert.KernelNorm1Ideal.main_v1_0) = v0 c
          ∧ r.2.mem ((c.tc : Thread Cert.KernelNorm1Ideal.nD Cert.KernelNorm1Ideal.τ).loc Cert.KernelNorm1Ideal.main_v1_1) = v1 c
          ∧ r.2.mem ((c.tc : Thread Cert.KernelNorm1Ideal.nD Cert.KernelNorm1Ideal.τ).loc Cert.KernelNorm1Ideal.main_v1_2) = v2 c
          ∧ r.2.mem ((c.tc : Thread Cert.KernelNorm1Ideal.nD Cert.KernelNorm1Ideal.τ).loc Cert.KernelNorm1Ideal.main_v1_3) = v3 c
          ∧ r.2.mem ((c.tc : Thread Cert.KernelNorm1Ideal.nD Cert.KernelNorm1Ideal.τ).loc Cert.KernelNorm1Ideal.main_arg0) = m ((c.tc : Thread Cert.KernelNorm1Ideal.nD Cert.KernelNorm1Ideal.τ).loc Cert.KernelNorm1Ideal.main_arg0)
          ∧ r.2.mem ((c.tc : Thread Cert.KernelNorm1Ideal.nD Cert.KernelNorm1Ideal.τ).loc Cert.KernelNorm1Ideal.main_arg1) = m ((c.tc : Thread Cert.KernelNorm1Ideal.nD Cert.KernelNorm1Ideal.τ).loc Cert.KernelNorm1Ideal.main_arg1)
          ∧ r.2.mem ((c.tc : Thread Cert.KernelNorm1Ideal.nD Cert.KernelNorm1Ideal.τ).loc Cert.KernelNorm1Ideal.main_arg2) = m ((c.tc : Thread Cert.KernelNorm1Ideal.nD Cert.KernelNorm1Ideal.τ).loc Cert.KernelNorm1Ideal.main_arg2)
          ∧ r.2.mem ((c.tc : Thread Cert.KernelNorm1Ideal.nD Cert.KernelNorm1Ideal.τ).loc Cert.KernelNorm1Ideal.main_arg3) = m ((c.tc : Thread Cert.KernelNorm1Ideal.nD Cert.KernelNorm1Ideal.τ).loc Cert.KernelNorm1Ideal.main_arg3)
          ∧ r.2.mem ((c.tc : Thread Cert.KernelNorm1Ideal.nD Cert.KernelNorm1Ideal.τ).loc Cert.KernelNorm1Ideal.main_arg4) = m ((c.tc : Thread Cert.KernelNorm1Ideal.nD Cert.KernelNorm1Ideal.τ).loc Cert.KernelNorm1Ideal.main_arg4))
      ∧ θ_run (Cert.ReferenceNorm1Ideal.defs (F := Ideal)) (onTc (τ := Cert.ReferenceNorm1Ideal.τ) (Cert.ReferenceNorm1Ideal.main (F := Ideal))) ⟨m', fun _ => 0, g'⟩ (fun r => ∀ c : Dev Cert.ReferenceNorm1Ideal.nD,
          r.2.mem ((c.tc : Thread Cert.ReferenceNorm1Ideal.nD Cert.ReferenceNorm1Ideal.τ).loc Cert.ReferenceNorm1Ideal.main_v56) = v0 c
          ∧ r.2.mem ((c.tc : Thread Cert.ReferenceNorm1Ideal.nD Cert.ReferenceNorm1Ideal.τ).loc Cert.ReferenceNorm1Ideal.main_v58) = v1 c
          ∧ r.2.mem ((c.tc : Thread Cert.ReferenceNorm1Ideal.nD Cert.ReferenceNorm1Ideal.τ).loc Cert.ReferenceNorm1Ideal.main_v59) = v2 c
          ∧ r.2.mem ((c.tc : Thread Cert.ReferenceNorm1Ideal.nD Cert.ReferenceNorm1Ideal.τ).loc Cert.ReferenceNorm1Ideal.main_v57) = v3 c
          ∧ r.2.mem ((c.tc : Thread Cert.ReferenceNorm1Ideal.nD Cert.ReferenceNorm1Ideal.τ).loc Cert.ReferenceNorm1Ideal.main_arg0) = m' ((c.tc : Thread Cert.ReferenceNorm1Ideal.nD Cert.ReferenceNorm1Ideal.τ).loc Cert.ReferenceNorm1Ideal.main_arg0)
          ∧ r.2.mem ((c.tc : Thread Cert.ReferenceNorm1Ideal.nD Cert.ReferenceNorm1Ideal.τ).loc Cert.ReferenceNorm1Ideal.main_arg1) = m' ((c.tc : Thread Cert.ReferenceNorm1Ideal.nD Cert.ReferenceNorm1Ideal.τ).loc Cert.ReferenceNorm1Ideal.main_arg1)
          ∧ r.2.mem ((c.tc : Thread Cert.ReferenceNorm1Ideal.nD Cert.ReferenceNorm1Ideal.τ).loc Cert.ReferenceNorm1Ideal.main_arg2) = m' ((c.tc : Thread Cert.ReferenceNorm1Ideal.nD Cert.ReferenceNorm1Ideal.τ).loc Cert.ReferenceNorm1Ideal.main_arg2)
          ∧ r.2.mem ((c.tc : Thread Cert.ReferenceNorm1Ideal.nD Cert.ReferenceNorm1Ideal.τ).loc Cert.ReferenceNorm1Ideal.main_arg3) = m' ((c.tc : Thread Cert.ReferenceNorm1Ideal.nD Cert.ReferenceNorm1Ideal.τ).loc Cert.ReferenceNorm1Ideal.main_arg3)
          ∧ r.2.mem ((c.tc : Thread Cert.ReferenceNorm1Ideal.nD Cert.ReferenceNorm1Ideal.τ).loc Cert.ReferenceNorm1Ideal.main_arg4) = m' ((c.tc : Thread Cert.ReferenceNorm1Ideal.nD Cert.ReferenceNorm1Ideal.τ).loc Cert.ReferenceNorm1Ideal.main_arg4))

def preserves_KernelNorm2_KernelNorm2Ideal : Prop :=
  True

def algebraic_KernelNorm2Ideal_ReferenceNorm2Ideal_pre_finite_norm2 [hKernelNorm2Ideal : Cert.KernelNorm2Ideal.Facts] [hReferenceNorm2Ideal : Cert.ReferenceNorm2Ideal.Facts] [hPre_finite_norm2 : Cert.Pre_finite_norm2.Facts] : Prop :=
  ∀ (m : (ℓ : Loc Cert.KernelNorm2Ideal.nD Cert.KernelNorm2Ideal.τ Cert.KernelNorm2Ideal.sig) → Buf (Elt Ideal) ℓ) (g : Dev Cert.KernelNorm2Ideal.nD → PrngReg)
    (m' : (ℓ : Loc Cert.ReferenceNorm2Ideal.nD Cert.ReferenceNorm2Ideal.τ Cert.ReferenceNorm2Ideal.sig) → Buf (Elt Ideal) ℓ) (g' : Dev Cert.ReferenceNorm2Ideal.nD → PrngReg), Pre_KernelNorm2Ideal_finite_norm2 m →
    (∀ c : Dev Cert.KernelNorm2Ideal.nD,
      m' ((c.tc : Thread Cert.ReferenceNorm2Ideal.nD Cert.ReferenceNorm2Ideal.τ).loc Cert.ReferenceNorm2Ideal.main_arg0) = m ((c.tc : Thread Cert.KernelNorm2Ideal.nD Cert.KernelNorm2Ideal.τ).loc Cert.KernelNorm2Ideal.main_arg0)
      ∧ m' ((c.tc : Thread Cert.ReferenceNorm2Ideal.nD Cert.ReferenceNorm2Ideal.τ).loc Cert.ReferenceNorm2Ideal.main_arg1) = m ((c.tc : Thread Cert.KernelNorm2Ideal.nD Cert.KernelNorm2Ideal.τ).loc Cert.KernelNorm2Ideal.main_arg1)
      ∧ m' ((c.tc : Thread Cert.ReferenceNorm2Ideal.nD Cert.ReferenceNorm2Ideal.τ).loc Cert.ReferenceNorm2Ideal.main_arg2) = m ((c.tc : Thread Cert.KernelNorm2Ideal.nD Cert.KernelNorm2Ideal.τ).loc Cert.KernelNorm2Ideal.main_arg2)
      ∧ m' ((c.tc : Thread Cert.ReferenceNorm2Ideal.nD Cert.ReferenceNorm2Ideal.τ).loc Cert.ReferenceNorm2Ideal.main_arg3) = m ((c.tc : Thread Cert.KernelNorm2Ideal.nD Cert.KernelNorm2Ideal.τ).loc Cert.KernelNorm2Ideal.main_arg3)
      ∧ m' ((c.tc : Thread Cert.ReferenceNorm2Ideal.nD Cert.ReferenceNorm2Ideal.τ).loc Cert.ReferenceNorm2Ideal.main_arg4) = m ((c.tc : Thread Cert.KernelNorm2Ideal.nD Cert.KernelNorm2Ideal.τ).loc Cert.KernelNorm2Ideal.main_arg4)
      ∧ m' ((c.tc : Thread Cert.ReferenceNorm2Ideal.nD Cert.ReferenceNorm2Ideal.τ).loc Cert.ReferenceNorm2Ideal.main_arg5) = m ((c.tc : Thread Cert.KernelNorm2Ideal.nD Cert.KernelNorm2Ideal.τ).loc Cert.KernelNorm2Ideal.main_arg5)
      ∧ m' ((c.tc : Thread Cert.ReferenceNorm2Ideal.nD Cert.ReferenceNorm2Ideal.τ).loc Cert.ReferenceNorm2Ideal.main_arg6) = m ((c.tc : Thread Cert.KernelNorm2Ideal.nD Cert.KernelNorm2Ideal.τ).loc Cert.KernelNorm2Ideal.main_arg6)
      ∧ m' ((c.tc : Thread Cert.ReferenceNorm2Ideal.nD Cert.ReferenceNorm2Ideal.τ).loc Cert.ReferenceNorm2Ideal.main_arg7) = m ((c.tc : Thread Cert.KernelNorm2Ideal.nD Cert.KernelNorm2Ideal.τ).loc Cert.KernelNorm2Ideal.main_arg7)) →
    ∃ (v0 : (c : Dev Cert.KernelNorm2Ideal.nD) → Buf (Elt Ideal) ((c.tc : Thread Cert.KernelNorm2Ideal.nD Cert.KernelNorm2Ideal.τ).loc Cert.KernelNorm2Ideal.main_v3_0)) (v1 : (c : Dev Cert.KernelNorm2Ideal.nD) → Buf (Elt Ideal) ((c.tc : Thread Cert.KernelNorm2Ideal.nD Cert.KernelNorm2Ideal.τ).loc Cert.KernelNorm2Ideal.main_v3_1)) (v2 : (c : Dev Cert.KernelNorm2Ideal.nD) → Buf (Elt Ideal) ((c.tc : Thread Cert.KernelNorm2Ideal.nD Cert.KernelNorm2Ideal.τ).loc Cert.KernelNorm2Ideal.main_v4_0)) (v3 : (c : Dev Cert.KernelNorm2Ideal.nD) → Buf (Elt Ideal) ((c.tc : Thread Cert.KernelNorm2Ideal.nD Cert.KernelNorm2Ideal.τ).loc Cert.KernelNorm2Ideal.main_v4_1)) (v4 : (c : Dev Cert.KernelNorm2Ideal.nD) → Buf (Elt Ideal) ((c.tc : Thread Cert.KernelNorm2Ideal.nD Cert.KernelNorm2Ideal.τ).loc Cert.KernelNorm2Ideal.main_v4_2)) (v5 : (c : Dev Cert.KernelNorm2Ideal.nD) → Buf (Elt Ideal) ((c.tc : Thread Cert.KernelNorm2Ideal.nD Cert.KernelNorm2Ideal.τ).loc Cert.KernelNorm2Ideal.main_v4_3)) (v6 : (c : Dev Cert.KernelNorm2Ideal.nD) → Buf (Elt Ideal) ((c.tc : Thread Cert.KernelNorm2Ideal.nD Cert.KernelNorm2Ideal.τ).loc Cert.KernelNorm2Ideal.main_v4_4)) (v7 : (c : Dev Cert.KernelNorm2Ideal.nD) → Buf (Elt Ideal) ((c.tc : Thread Cert.KernelNorm2Ideal.nD Cert.KernelNorm2Ideal.τ).loc Cert.KernelNorm2Ideal.main_v4_5)),
      θ_run (Cert.KernelNorm2Ideal.defs (F := Ideal)) (onTc (τ := Cert.KernelNorm2Ideal.τ) (Cert.KernelNorm2Ideal.main (F := Ideal))) ⟨m, fun _ => 0, g⟩ (fun r => ∀ c : Dev Cert.KernelNorm2Ideal.nD,
          r.2.mem ((c.tc : Thread Cert.KernelNorm2Ideal.nD Cert.KernelNorm2Ideal.τ).loc Cert.KernelNorm2Ideal.main_v3_0) = v0 c
          ∧ r.2.mem ((c.tc : Thread Cert.KernelNorm2Ideal.nD Cert.KernelNorm2Ideal.τ).loc Cert.KernelNorm2Ideal.main_v3_1) = v1 c
          ∧ r.2.mem ((c.tc : Thread Cert.KernelNorm2Ideal.nD Cert.KernelNorm2Ideal.τ).loc Cert.KernelNorm2Ideal.main_v4_0) = v2 c
          ∧ r.2.mem ((c.tc : Thread Cert.KernelNorm2Ideal.nD Cert.KernelNorm2Ideal.τ).loc Cert.KernelNorm2Ideal.main_v4_1) = v3 c
          ∧ r.2.mem ((c.tc : Thread Cert.KernelNorm2Ideal.nD Cert.KernelNorm2Ideal.τ).loc Cert.KernelNorm2Ideal.main_v4_2) = v4 c
          ∧ r.2.mem ((c.tc : Thread Cert.KernelNorm2Ideal.nD Cert.KernelNorm2Ideal.τ).loc Cert.KernelNorm2Ideal.main_v4_3) = v5 c
          ∧ r.2.mem ((c.tc : Thread Cert.KernelNorm2Ideal.nD Cert.KernelNorm2Ideal.τ).loc Cert.KernelNorm2Ideal.main_v4_4) = v6 c
          ∧ r.2.mem ((c.tc : Thread Cert.KernelNorm2Ideal.nD Cert.KernelNorm2Ideal.τ).loc Cert.KernelNorm2Ideal.main_v4_5) = v7 c
          ∧ r.2.mem ((c.tc : Thread Cert.KernelNorm2Ideal.nD Cert.KernelNorm2Ideal.τ).loc Cert.KernelNorm2Ideal.main_arg0) = m ((c.tc : Thread Cert.KernelNorm2Ideal.nD Cert.KernelNorm2Ideal.τ).loc Cert.KernelNorm2Ideal.main_arg0)
          ∧ r.2.mem ((c.tc : Thread Cert.KernelNorm2Ideal.nD Cert.KernelNorm2Ideal.τ).loc Cert.KernelNorm2Ideal.main_arg1) = m ((c.tc : Thread Cert.KernelNorm2Ideal.nD Cert.KernelNorm2Ideal.τ).loc Cert.KernelNorm2Ideal.main_arg1)
          ∧ r.2.mem ((c.tc : Thread Cert.KernelNorm2Ideal.nD Cert.KernelNorm2Ideal.τ).loc Cert.KernelNorm2Ideal.main_arg2) = m ((c.tc : Thread Cert.KernelNorm2Ideal.nD Cert.KernelNorm2Ideal.τ).loc Cert.KernelNorm2Ideal.main_arg2)
          ∧ r.2.mem ((c.tc : Thread Cert.KernelNorm2Ideal.nD Cert.KernelNorm2Ideal.τ).loc Cert.KernelNorm2Ideal.main_arg3) = m ((c.tc : Thread Cert.KernelNorm2Ideal.nD Cert.KernelNorm2Ideal.τ).loc Cert.KernelNorm2Ideal.main_arg3)
          ∧ r.2.mem ((c.tc : Thread Cert.KernelNorm2Ideal.nD Cert.KernelNorm2Ideal.τ).loc Cert.KernelNorm2Ideal.main_arg4) = m ((c.tc : Thread Cert.KernelNorm2Ideal.nD Cert.KernelNorm2Ideal.τ).loc Cert.KernelNorm2Ideal.main_arg4)
          ∧ r.2.mem ((c.tc : Thread Cert.KernelNorm2Ideal.nD Cert.KernelNorm2Ideal.τ).loc Cert.KernelNorm2Ideal.main_arg5) = m ((c.tc : Thread Cert.KernelNorm2Ideal.nD Cert.KernelNorm2Ideal.τ).loc Cert.KernelNorm2Ideal.main_arg5)
          ∧ r.2.mem ((c.tc : Thread Cert.KernelNorm2Ideal.nD Cert.KernelNorm2Ideal.τ).loc Cert.KernelNorm2Ideal.main_arg6) = m ((c.tc : Thread Cert.KernelNorm2Ideal.nD Cert.KernelNorm2Ideal.τ).loc Cert.KernelNorm2Ideal.main_arg6)
          ∧ r.2.mem ((c.tc : Thread Cert.KernelNorm2Ideal.nD Cert.KernelNorm2Ideal.τ).loc Cert.KernelNorm2Ideal.main_arg7) = m ((c.tc : Thread Cert.KernelNorm2Ideal.nD Cert.KernelNorm2Ideal.τ).loc Cert.KernelNorm2Ideal.main_arg7))
      ∧ θ_run (Cert.ReferenceNorm2Ideal.defs (F := Ideal)) (onTc (τ := Cert.ReferenceNorm2Ideal.τ) (Cert.ReferenceNorm2Ideal.main (F := Ideal))) ⟨m', fun _ => 0, g'⟩ (fun r => ∀ c : Dev Cert.ReferenceNorm2Ideal.nD,
          r.2.mem ((c.tc : Thread Cert.ReferenceNorm2Ideal.nD Cert.ReferenceNorm2Ideal.τ).loc Cert.ReferenceNorm2Ideal.main_v3) = v0 c
          ∧ r.2.mem ((c.tc : Thread Cert.ReferenceNorm2Ideal.nD Cert.ReferenceNorm2Ideal.τ).loc Cert.ReferenceNorm2Ideal.main_v68) = v1 c
          ∧ r.2.mem ((c.tc : Thread Cert.ReferenceNorm2Ideal.nD Cert.ReferenceNorm2Ideal.τ).loc Cert.ReferenceNorm2Ideal.main_v59) = v2 c
          ∧ r.2.mem ((c.tc : Thread Cert.ReferenceNorm2Ideal.nD Cert.ReferenceNorm2Ideal.τ).loc Cert.ReferenceNorm2Ideal.main_v69) = v3 c
          ∧ r.2.mem ((c.tc : Thread Cert.ReferenceNorm2Ideal.nD Cert.ReferenceNorm2Ideal.τ).loc Cert.ReferenceNorm2Ideal.main_v70) = v4 c
          ∧ r.2.mem ((c.tc : Thread Cert.ReferenceNorm2Ideal.nD Cert.ReferenceNorm2Ideal.τ).loc Cert.ReferenceNorm2Ideal.main_v60) = v5 c
          ∧ r.2.mem ((c.tc : Thread Cert.ReferenceNorm2Ideal.nD Cert.ReferenceNorm2Ideal.τ).loc Cert.ReferenceNorm2Ideal.main_v71) = v6 c
          ∧ r.2.mem ((c.tc : Thread Cert.ReferenceNorm2Ideal.nD Cert.ReferenceNorm2Ideal.τ).loc Cert.ReferenceNorm2Ideal.main_v72) = v7 c
          ∧ r.2.mem ((c.tc : Thread Cert.ReferenceNorm2Ideal.nD Cert.ReferenceNorm2Ideal.τ).loc Cert.ReferenceNorm2Ideal.main_arg0) = m' ((c.tc : Thread Cert.ReferenceNorm2Ideal.nD Cert.ReferenceNorm2Ideal.τ).loc Cert.ReferenceNorm2Ideal.main_arg0)
          ∧ r.2.mem ((c.tc : Thread Cert.ReferenceNorm2Ideal.nD Cert.ReferenceNorm2Ideal.τ).loc Cert.ReferenceNorm2Ideal.main_arg1) = m' ((c.tc : Thread Cert.ReferenceNorm2Ideal.nD Cert.ReferenceNorm2Ideal.τ).loc Cert.ReferenceNorm2Ideal.main_arg1)
          ∧ r.2.mem ((c.tc : Thread Cert.ReferenceNorm2Ideal.nD Cert.ReferenceNorm2Ideal.τ).loc Cert.ReferenceNorm2Ideal.main_arg2) = m' ((c.tc : Thread Cert.ReferenceNorm2Ideal.nD Cert.ReferenceNorm2Ideal.τ).loc Cert.ReferenceNorm2Ideal.main_arg2)
          ∧ r.2.mem ((c.tc : Thread Cert.ReferenceNorm2Ideal.nD Cert.ReferenceNorm2Ideal.τ).loc Cert.ReferenceNorm2Ideal.main_arg3) = m' ((c.tc : Thread Cert.ReferenceNorm2Ideal.nD Cert.ReferenceNorm2Ideal.τ).loc Cert.ReferenceNorm2Ideal.main_arg3)
          ∧ r.2.mem ((c.tc : Thread Cert.ReferenceNorm2Ideal.nD Cert.ReferenceNorm2Ideal.τ).loc Cert.ReferenceNorm2Ideal.main_arg4) = m' ((c.tc : Thread Cert.ReferenceNorm2Ideal.nD Cert.ReferenceNorm2Ideal.τ).loc Cert.ReferenceNorm2Ideal.main_arg4)
          ∧ r.2.mem ((c.tc : Thread Cert.ReferenceNorm2Ideal.nD Cert.ReferenceNorm2Ideal.τ).loc Cert.ReferenceNorm2Ideal.main_arg5) = m' ((c.tc : Thread Cert.ReferenceNorm2Ideal.nD Cert.ReferenceNorm2Ideal.τ).loc Cert.ReferenceNorm2Ideal.main_arg5)
          ∧ r.2.mem ((c.tc : Thread Cert.ReferenceNorm2Ideal.nD Cert.ReferenceNorm2Ideal.τ).loc Cert.ReferenceNorm2Ideal.main_arg6) = m' ((c.tc : Thread Cert.ReferenceNorm2Ideal.nD Cert.ReferenceNorm2Ideal.τ).loc Cert.ReferenceNorm2Ideal.main_arg6)
          ∧ r.2.mem ((c.tc : Thread Cert.ReferenceNorm2Ideal.nD Cert.ReferenceNorm2Ideal.τ).loc Cert.ReferenceNorm2Ideal.main_arg7) = m' ((c.tc : Thread Cert.ReferenceNorm2Ideal.nD Cert.ReferenceNorm2Ideal.τ).loc Cert.ReferenceNorm2Ideal.main_arg7))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)) (v3 : (c : Dev Cert.KernelLossIdeal.nD) → Buf (Elt Ideal) ((c.tc : Thread Cert.KernelLossIdeal.nD Cert.KernelLossIdeal.τ).loc Cert.KernelLossIdeal.main_v1_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_v1_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v18) = v0 c
          ∧ r.2.mem ((c.tc : Thread Cert.ReferenceLossIdeal.nD Cert.ReferenceLossIdeal.τ).loc Cert.ReferenceLossIdeal.main_v25) = v1 c
          ∧ r.2.mem ((c.tc : Thread Cert.ReferenceLossIdeal.nD Cert.ReferenceLossIdeal.τ).loc Cert.ReferenceLossIdeal.main_v26) = v2 c
          ∧ r.2.mem ((c.tc : Thread Cert.ReferenceLossIdeal.nD Cert.ReferenceLossIdeal.τ).loc Cert.ReferenceLossIdeal.main_v27) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def preserves_KernelRelu2_KernelRelu2Ideal : Prop :=
  True

def algebraic_KernelRelu2Ideal_ReferenceRelu2Ideal [hKernelRelu2Ideal : Cert.KernelRelu2Ideal.Facts] [hReferenceRelu2Ideal : Cert.ReferenceRelu2Ideal.Facts] : Prop :=
  ∀ (m : (ℓ : Loc Cert.KernelRelu2Ideal.nD Cert.KernelRelu2Ideal.τ Cert.KernelRelu2Ideal.sig) → Buf (Elt Ideal) ℓ) (g : Dev Cert.KernelRelu2Ideal.nD → PrngReg)
    (m' : (ℓ : Loc Cert.ReferenceRelu2Ideal.nD Cert.ReferenceRelu2Ideal.τ Cert.ReferenceRelu2Ideal.sig) → Buf (Elt Ideal) ℓ) (g' : Dev Cert.ReferenceRelu2Ideal.nD → PrngReg), Pre_KernelRelu2Ideal m →
    (∀ c : Dev Cert.KernelRelu2Ideal.nD,
      m' ((c.tc : Thread Cert.ReferenceRelu2Ideal.nD Cert.ReferenceRelu2Ideal.τ).loc Cert.ReferenceRelu2Ideal.main_arg0) = m ((c.tc : Thread Cert.KernelRelu2Ideal.nD Cert.KernelRelu2Ideal.τ).loc Cert.KernelRelu2Ideal.main_arg0)
      ∧ m' ((c.tc : Thread Cert.ReferenceRelu2Ideal.nD Cert.ReferenceRelu2Ideal.τ).loc Cert.ReferenceRelu2Ideal.main_arg1) = m ((c.tc : Thread Cert.KernelRelu2Ideal.nD Cert.KernelRelu2Ideal.τ).loc Cert.KernelRelu2Ideal.main_arg1)
      ∧ m' ((c.tc : Thread Cert.ReferenceRelu2Ideal.nD Cert.ReferenceRelu2Ideal.τ).loc Cert.ReferenceRelu2Ideal.main_arg2) = m ((c.tc : Thread Cert.KernelRelu2Ideal.nD Cert.KernelRelu2Ideal.τ).loc Cert.KernelRelu2Ideal.main_arg2)
      ∧ m' ((c.tc : Thread Cert.ReferenceRelu2Ideal.nD Cert.ReferenceRelu2Ideal.τ).loc Cert.ReferenceRelu2Ideal.main_arg3) = m ((c.tc : Thread Cert.KernelRelu2Ideal.nD Cert.KernelRelu2Ideal.τ).loc Cert.KernelRelu2Ideal.main_arg3)) →
    ∃ (v0 : (c : Dev Cert.KernelRelu2Ideal.nD) → Buf (Elt Ideal) ((c.tc : Thread Cert.KernelRelu2Ideal.nD Cert.KernelRelu2Ideal.τ).loc Cert.KernelRelu2Ideal.main_v8)) (v1 : (c : Dev Cert.KernelRelu2Ideal.nD) → Buf (Elt Ideal) ((c.tc : Thread Cert.KernelRelu2Ideal.nD Cert.KernelRelu2Ideal.τ).loc Cert.KernelRelu2Ideal.main_v9)),
      θ_run (Cert.KernelRelu2Ideal.defs (F := Ideal)) (onTc (τ := Cert.KernelRelu2Ideal.τ) (Cert.KernelRelu2Ideal.main (F := Ideal))) ⟨m, fun _ => 0, g⟩ (fun r => ∀ c : Dev Cert.KernelRelu2Ideal.nD,
          r.2.mem ((c.tc : Thread Cert.KernelRelu2Ideal.nD Cert.KernelRelu2Ideal.τ).loc Cert.KernelRelu2Ideal.main_v8) = v0 c
          ∧ r.2.mem ((c.tc : Thread Cert.KernelRelu2Ideal.nD Cert.KernelRelu2Ideal.τ).loc Cert.KernelRelu2Ideal.main_v9) = v1 c
          ∧ r.2.mem ((c.tc : Thread Cert.KernelRelu2Ideal.nD Cert.KernelRelu2Ideal.τ).loc Cert.KernelRelu2Ideal.main_arg0) = m ((c.tc : Thread Cert.KernelRelu2Ideal.nD Cert.KernelRelu2Ideal.τ).loc Cert.KernelRelu2Ideal.main_arg0)
          ∧ r.2.mem ((c.tc : Thread Cert.KernelRelu2Ideal.nD Cert.KernelRelu2Ideal.τ).loc Cert.KernelRelu2Ideal.main_arg1) = m ((c.tc : Thread Cert.KernelRelu2Ideal.nD Cert.KernelRelu2Ideal.τ).loc Cert.KernelRelu2Ideal.main_arg1)
          ∧ r.2.mem ((c.tc : Thread Cert.KernelRelu2Ideal.nD Cert.KernelRelu2Ideal.τ).loc Cert.KernelRelu2Ideal.main_arg2) = m ((c.tc : Thread Cert.KernelRelu2Ideal.nD Cert.KernelRelu2Ideal.τ).loc Cert.KernelRelu2Ideal.main_arg2)
          ∧ r.2.mem ((c.tc : Thread Cert.KernelRelu2Ideal.nD Cert.KernelRelu2Ideal.τ).loc Cert.KernelRelu2Ideal.main_arg3) = m ((c.tc : Thread Cert.KernelRelu2Ideal.nD Cert.KernelRelu2Ideal.τ).loc Cert.KernelRelu2Ideal.main_arg3))
      ∧ θ_run (Cert.ReferenceRelu2Ideal.defs (F := Ideal)) (onTc (τ := Cert.ReferenceRelu2Ideal.τ) (Cert.ReferenceRelu2Ideal.main (F := Ideal))) ⟨m', fun _ => 0, g'⟩ (fun r => ∀ c : Dev Cert.ReferenceRelu2Ideal.nD,
          r.2.mem ((c.tc : Thread Cert.ReferenceRelu2Ideal.nD Cert.ReferenceRelu2Ideal.τ).loc Cert.ReferenceRelu2Ideal.main_v12) = v0 c
          ∧ r.2.mem ((c.tc : Thread Cert.ReferenceRelu2Ideal.nD Cert.ReferenceRelu2Ideal.τ).loc Cert.ReferenceRelu2Ideal.main_v18) = v1 c
          ∧ r.2.mem ((c.tc : Thread Cert.ReferenceRelu2Ideal.nD Cert.ReferenceRelu2Ideal.τ).loc Cert.ReferenceRelu2Ideal.main_arg0) = m' ((c.tc : Thread Cert.ReferenceRelu2Ideal.nD Cert.ReferenceRelu2Ideal.τ).loc Cert.ReferenceRelu2Ideal.main_arg0)
          ∧ r.2.mem ((c.tc : Thread Cert.ReferenceRelu2Ideal.nD Cert.ReferenceRelu2Ideal.τ).loc Cert.ReferenceRelu2Ideal.main_arg1) = m' ((c.tc : Thread Cert.ReferenceRelu2Ideal.nD Cert.ReferenceRelu2Ideal.τ).loc Cert.ReferenceRelu2Ideal.main_arg1)
          ∧ r.2.mem ((c.tc : Thread Cert.ReferenceRelu2Ideal.nD Cert.ReferenceRelu2Ideal.τ).loc Cert.ReferenceRelu2Ideal.main_arg2) = m' ((c.tc : Thread Cert.ReferenceRelu2Ideal.nD Cert.ReferenceRelu2Ideal.τ).loc Cert.ReferenceRelu2Ideal.main_arg2)
          ∧ r.2.mem ((c.tc : Thread Cert.ReferenceRelu2Ideal.nD Cert.ReferenceRelu2Ideal.τ).loc Cert.ReferenceRelu2Ideal.main_arg3) = m' ((c.tc : Thread Cert.ReferenceRelu2Ideal.nD Cert.ReferenceRelu2Ideal.τ).loc Cert.ReferenceRelu2Ideal.main_arg3))

def preserves_KernelQk_KernelQkIdeal : Prop :=
  IdealRules.named_const.Statement Cert.KernelQkIdeal.κ "mean96" .f32 0x3C2AAAAB#32 ((1 / 96 : ℝ) : EReal)

def algebraic_KernelQkIdeal_ReferenceQkIdeal_pre_finite_qk [hKernelQkIdeal : Cert.KernelQkIdeal.Facts] [hReferenceQkIdeal : Cert.ReferenceQkIdeal.Facts] [hPre_finite_qk : Cert.Pre_finite_qk.Facts] : Prop :=
  ∀ (m : (ℓ : Loc Cert.KernelQkIdeal.nD Cert.KernelQkIdeal.τ Cert.KernelQkIdeal.sig) → Buf (Elt Ideal) ℓ) (g : Dev Cert.KernelQkIdeal.nD → PrngReg)
    (m' : (ℓ : Loc Cert.ReferenceQkIdeal.nD Cert.ReferenceQkIdeal.τ Cert.ReferenceQkIdeal.sig) → Buf (Elt Ideal) ℓ) (g' : Dev Cert.ReferenceQkIdeal.nD → PrngReg), Pre_KernelQkIdeal_finite_qk m →
    (∀ c : Dev Cert.KernelQkIdeal.nD,
      m' ((c.tc : Thread Cert.ReferenceQkIdeal.nD Cert.ReferenceQkIdeal.τ).loc Cert.ReferenceQkIdeal.main_arg0) = m ((c.tc : Thread Cert.KernelQkIdeal.nD Cert.KernelQkIdeal.τ).loc Cert.KernelQkIdeal.main_arg0)
      ∧ m' ((c.tc : Thread Cert.ReferenceQkIdeal.nD Cert.ReferenceQkIdeal.τ).loc Cert.ReferenceQkIdeal.main_arg1) = m ((c.tc : Thread Cert.KernelQkIdeal.nD Cert.KernelQkIdeal.τ).loc Cert.KernelQkIdeal.main_arg1)
      ∧ m' ((c.tc : Thread Cert.ReferenceQkIdeal.nD Cert.ReferenceQkIdeal.τ).loc Cert.ReferenceQkIdeal.main_arg2) = m ((c.tc : Thread Cert.KernelQkIdeal.nD Cert.KernelQkIdeal.τ).loc Cert.KernelQkIdeal.main_arg2)
      ∧ m' ((c.tc : Thread Cert.ReferenceQkIdeal.nD Cert.ReferenceQkIdeal.τ).loc Cert.ReferenceQkIdeal.main_arg3) = m ((c.tc : Thread Cert.KernelQkIdeal.nD Cert.KernelQkIdeal.τ).loc Cert.KernelQkIdeal.main_arg3)
      ∧ m' ((c.tc : Thread Cert.ReferenceQkIdeal.nD Cert.ReferenceQkIdeal.τ).loc Cert.ReferenceQkIdeal.main_arg4) = m ((c.tc : Thread Cert.KernelQkIdeal.nD Cert.KernelQkIdeal.τ).loc Cert.KernelQkIdeal.main_arg4)
      ∧ m' ((c.tc : Thread Cert.ReferenceQkIdeal.nD Cert.ReferenceQkIdeal.τ).loc Cert.ReferenceQkIdeal.main_arg5) = m ((c.tc : Thread Cert.KernelQkIdeal.nD Cert.KernelQkIdeal.τ).loc Cert.KernelQkIdeal.main_arg5)
      ∧ m' ((c.tc : Thread Cert.ReferenceQkIdeal.nD Cert.ReferenceQkIdeal.τ).loc Cert.ReferenceQkIdeal.main_arg6) = m ((c.tc : Thread Cert.KernelQkIdeal.nD Cert.KernelQkIdeal.τ).loc Cert.KernelQkIdeal.main_arg6)
      ∧ m' ((c.tc : Thread Cert.ReferenceQkIdeal.nD Cert.ReferenceQkIdeal.τ).loc Cert.ReferenceQkIdeal.main_arg7) = m ((c.tc : Thread Cert.KernelQkIdeal.nD Cert.KernelQkIdeal.τ).loc Cert.KernelQkIdeal.main_arg7)
      ∧ m' ((c.tc : Thread Cert.ReferenceQkIdeal.nD Cert.ReferenceQkIdeal.τ).loc Cert.ReferenceQkIdeal.main_arg8) = m ((c.tc : Thread Cert.KernelQkIdeal.nD Cert.KernelQkIdeal.τ).loc Cert.KernelQkIdeal.main_arg8)) →
    ∃ (v0 : (c : Dev Cert.KernelQkIdeal.nD) → Buf (Elt Ideal) ((c.tc : Thread Cert.KernelQkIdeal.nD Cert.KernelQkIdeal.τ).loc Cert.KernelQkIdeal.main_v51_0)) (v1 : (c : Dev Cert.KernelQkIdeal.nD) → Buf (Elt Ideal) ((c.tc : Thread Cert.KernelQkIdeal.nD Cert.KernelQkIdeal.τ).loc Cert.KernelQkIdeal.main_v51_1)) (v2 : (c : Dev Cert.KernelQkIdeal.nD) → Buf (Elt Ideal) ((c.tc : Thread Cert.KernelQkIdeal.nD Cert.KernelQkIdeal.τ).loc Cert.KernelQkIdeal.main_v51_2)) (v3 : (c : Dev Cert.KernelQkIdeal.nD) → Buf (Elt Ideal) ((c.tc : Thread Cert.KernelQkIdeal.nD Cert.KernelQkIdeal.τ).loc Cert.KernelQkIdeal.main_v51_3)) (v4 : (c : Dev Cert.KernelQkIdeal.nD) → Buf (Elt Ideal) ((c.tc : Thread Cert.KernelQkIdeal.nD Cert.KernelQkIdeal.τ).loc Cert.KernelQkIdeal.main_v51_4)),
      θ_run (Cert.KernelQkIdeal.defs (F := Ideal)) (onTc (τ := Cert.KernelQkIdeal.τ) (Cert.KernelQkIdeal.main (F := Ideal))) ⟨m, fun _ => 0, g⟩ (fun r => ∀ c : Dev Cert.KernelQkIdeal.nD,
          r.2.mem ((c.tc : Thread Cert.KernelQkIdeal.nD Cert.KernelQkIdeal.τ).loc Cert.KernelQkIdeal.main_v51_0) = v0 c
          ∧ r.2.mem ((c.tc : Thread Cert.KernelQkIdeal.nD Cert.KernelQkIdeal.τ).loc Cert.KernelQkIdeal.main_v51_1) = v1 c
          ∧ r.2.mem ((c.tc : Thread Cert.KernelQkIdeal.nD Cert.KernelQkIdeal.τ).loc Cert.KernelQkIdeal.main_v51_2) = v2 c
          ∧ r.2.mem ((c.tc : Thread Cert.KernelQkIdeal.nD Cert.KernelQkIdeal.τ).loc Cert.KernelQkIdeal.main_v51_3) = v3 c
          ∧ r.2.mem ((c.tc : Thread Cert.KernelQkIdeal.nD Cert.KernelQkIdeal.τ).loc Cert.KernelQkIdeal.main_v51_4) = v4 c
          ∧ r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
          ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
          ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2)
          ∧ r.2.mem ((c.tc : Thread Cert.KernelQkIdeal.nD Cert.KernelQkIdeal.τ).loc Cert.KernelQkIdeal.main_arg3) = m ((c.tc : Thread Cert.KernelQkIdeal.nD Cert.KernelQkIdeal.τ).loc Cert.KernelQkIdeal.main_arg3)
          ∧ r.2.mem ((c.tc : Thread Cert.KernelQkIdeal.nD Cert.KernelQkIdeal.τ).loc Cert.KernelQkIdeal.main_arg4) = m ((c.tc : Thread Cert.KernelQkIdeal.nD Cert.KernelQkIdeal.τ).loc Cert.KernelQkIdeal.main_arg4)
          ∧ r.2.mem ((c.tc : Thread Cert.KernelQkIdeal.nD Cert.KernelQkIdeal.τ).loc Cert.KernelQkIdeal.main_arg5) = m ((c.tc : Thread Cert.KernelQkIdeal.nD Cert.KernelQkIdeal.τ).loc Cert.KernelQkIdeal.main_arg5)
          ∧ r.2.mem ((c.tc : Thread Cert.KernelQkIdeal.nD Cert.KernelQkIdeal.τ).loc Cert.KernelQkIdeal.main_arg6) = m ((c.tc : Thread Cert.KernelQkIdeal.nD Cert.KernelQkIdeal.τ).loc Cert.KernelQkIdeal.main_arg6)
          ∧ r.2.mem ((c.tc : Thread Cert.KernelQkIdeal.nD Cert.KernelQkIdeal.τ).loc Cert.KernelQkIdeal.main_arg7) = m ((c.tc : Thread Cert.KernelQkIdeal.nD Cert.KernelQkIdeal.τ).loc Cert.KernelQkIdeal.main_arg7)
          ∧ r.2.mem ((c.tc : Thread Cert.KernelQkIdeal.nD Cert.KernelQkIdeal.τ).loc Cert.KernelQkIdeal.main_arg8) = m ((c.tc : Thread Cert.KernelQkIdeal.nD Cert.KernelQkIdeal.τ).loc Cert.KernelQkIdeal.main_arg8))
      ∧ θ_run (Cert.ReferenceQkIdeal.defs (F := Ideal)) (onTc (τ := Cert.ReferenceQkIdeal.τ) (Cert.ReferenceQkIdeal.main (F := Ideal))) ⟨m', fun _ => 0, g'⟩ (fun r => ∀ c : Dev Cert.ReferenceQkIdeal.nD,
          r.2.mem ((c.tc : Thread Cert.ReferenceQkIdeal.nD Cert.ReferenceQkIdeal.τ).loc Cert.ReferenceQkIdeal.main_v214) = v0 c
          ∧ r.2.mem ((c.tc : Thread Cert.ReferenceQkIdeal.nD Cert.ReferenceQkIdeal.τ).loc Cert.ReferenceQkIdeal.main_v216) = v1 c
          ∧ r.2.mem ((c.tc : Thread Cert.ReferenceQkIdeal.nD Cert.ReferenceQkIdeal.τ).loc Cert.ReferenceQkIdeal.main_v218) = v2 c
          ∧ r.2.mem ((c.tc : Thread Cert.ReferenceQkIdeal.nD Cert.ReferenceQkIdeal.τ).loc Cert.ReferenceQkIdeal.main_v219) = v3 c
          ∧ r.2.mem ((c.tc : Thread Cert.ReferenceQkIdeal.nD Cert.ReferenceQkIdeal.τ).loc Cert.ReferenceQkIdeal.main_v220) = v4 c
          ∧ r.2.mem ((c.tc : Thread Cert.ReferenceQkIdeal.nD Cert.ReferenceQkIdeal.τ).loc Cert.ReferenceQkIdeal.main_arg0) = m' ((c.tc : Thread Cert.ReferenceQkIdeal.nD Cert.ReferenceQkIdeal.τ).loc Cert.ReferenceQkIdeal.main_arg0)
          ∧ r.2.mem ((c.tc : Thread Cert.ReferenceQkIdeal.nD Cert.ReferenceQkIdeal.τ).loc Cert.ReferenceQkIdeal.main_arg1) = m' ((c.tc : Thread Cert.ReferenceQkIdeal.nD Cert.ReferenceQkIdeal.τ).loc Cert.ReferenceQkIdeal.main_arg1)
          ∧ r.2.mem ((c.tc : Thread Cert.ReferenceQkIdeal.nD Cert.ReferenceQkIdeal.τ).loc Cert.ReferenceQkIdeal.main_arg2) = m' ((c.tc : Thread Cert.ReferenceQkIdeal.nD Cert.ReferenceQkIdeal.τ).loc Cert.ReferenceQkIdeal.main_arg2)
          ∧ r.2.mem ((c.tc : Thread Cert.ReferenceQkIdeal.nD Cert.ReferenceQkIdeal.τ).loc Cert.ReferenceQkIdeal.main_arg3) = m' ((c.tc : Thread Cert.ReferenceQkIdeal.nD Cert.ReferenceQkIdeal.τ).loc Cert.ReferenceQkIdeal.main_arg3)
          ∧ r.2.mem ((c.tc : Thread Cert.ReferenceQkIdeal.nD Cert.ReferenceQkIdeal.τ).loc Cert.ReferenceQkIdeal.main_arg4) = m' ((c.tc : Thread Cert.ReferenceQkIdeal.nD Cert.ReferenceQkIdeal.τ).loc Cert.ReferenceQkIdeal.main_arg4)
          ∧ r.2.mem ((c.tc : Thread Cert.ReferenceQkIdeal.nD Cert.ReferenceQkIdeal.τ).loc Cert.ReferenceQkIdeal.main_arg5) = m' ((c.tc : Thread Cert.ReferenceQkIdeal.nD Cert.ReferenceQkIdeal.τ).loc Cert.ReferenceQkIdeal.main_arg5)
          ∧ r.2.mem ((c.tc : Thread Cert.ReferenceQkIdeal.nD Cert.ReferenceQkIdeal.τ).loc Cert.ReferenceQkIdeal.main_arg6) = m' ((c.tc : Thread Cert.ReferenceQkIdeal.nD Cert.ReferenceQkIdeal.τ).loc Cert.ReferenceQkIdeal.main_arg6)
          ∧ r.2.mem ((c.tc : Thread Cert.ReferenceQkIdeal.nD Cert.ReferenceQkIdeal.τ).loc Cert.ReferenceQkIdeal.main_arg7) = m' ((c.tc : Thread Cert.ReferenceQkIdeal.nD Cert.ReferenceQkIdeal.τ).loc Cert.ReferenceQkIdeal.main_arg7)
          ∧ r.2.mem ((c.tc : Thread Cert.ReferenceQkIdeal.nD Cert.ReferenceQkIdeal.τ).loc Cert.ReferenceQkIdeal.main_arg8) = m' ((c.tc : Thread Cert.ReferenceQkIdeal.nD Cert.ReferenceQkIdeal.τ).loc Cert.ReferenceQkIdeal.main_arg8))

def preserves_KernelMergeFwd_KernelMergeFwdIdeal : Prop :=
  True

def algebraic_KernelMergeFwdIdeal_ReferenceMergeFwdIdeal [hKernelMergeFwdIdeal : Cert.KernelMergeFwdIdeal.Facts] [hReferenceMergeFwdIdeal : Cert.ReferenceMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg)
    (m' : (ℓ : Loc Cert.ReferenceMergeFwdIdeal.nD Cert.ReferenceMergeFwdIdeal.τ Cert.ReferenceMergeFwdIdeal.sig) → Buf (Elt Ideal) ℓ) (g' : Dev Cert.ReferenceMergeFwdIdeal.nD → PrngReg), Pre_KernelMergeFwdIdeal m →
    (∀ c : Dev Cert.KernelMergeFwdIdeal.nD,
      m' ((c.tc : Thread Cert.ReferenceMergeFwdIdeal.nD Cert.ReferenceMergeFwdIdeal.τ).loc Cert.ReferenceMergeFwdIdeal.main_arg0) = m ((c.tc : Thread Cert.KernelMergeFwdIdeal.nD Cert.KernelMergeFwdIdeal.τ).loc Cert.KernelMergeFwdIdeal.main_arg0)
      ∧ m' ((c.tc : Thread Cert.ReferenceMergeFwdIdeal.nD Cert.ReferenceMergeFwdIdeal.τ).loc Cert.ReferenceMergeFwdIdeal.main_arg1) = m ((c.tc : Thread Cert.KernelMergeFwdIdeal.nD Cert.KernelMergeFwdIdeal.τ).loc Cert.KernelMergeFwdIdeal.main_arg1)
      ∧ m' ((c.tc : Thread Cert.ReferenceMergeFwdIdeal.nD Cert.ReferenceMergeFwdIdeal.τ).loc Cert.ReferenceMergeFwdIdeal.main_arg2) = m ((c.tc : Thread Cert.KernelMergeFwdIdeal.nD Cert.KernelMergeFwdIdeal.τ).loc Cert.KernelMergeFwdIdeal.main_arg2)
      ∧ m' ((c.tc : Thread Cert.ReferenceMergeFwdIdeal.nD Cert.ReferenceMergeFwdIdeal.τ).loc Cert.ReferenceMergeFwdIdeal.main_arg3) = m ((c.tc : Thread Cert.KernelMergeFwdIdeal.nD Cert.KernelMergeFwdIdeal.τ).loc Cert.KernelMergeFwdIdeal.main_arg3)) →
    ∃ (v0 : (c : Dev Cert.KernelMergeFwdIdeal.nD) → Buf (Elt Ideal) ((c.tc : Thread Cert.KernelMergeFwdIdeal.nD Cert.KernelMergeFwdIdeal.τ).loc Cert.KernelMergeFwdIdeal.main_v12)),
      θ_run (Cert.KernelMergeFwdIdeal.defs (F := Ideal)) (onTc (τ := Cert.KernelMergeFwdIdeal.τ) (Cert.KernelMergeFwdIdeal.main (F := Ideal))) ⟨m, fun _ => 0, g⟩ (fun r => ∀ c : Dev Cert.KernelMergeFwdIdeal.nD,
          r.2.mem ((c.tc : Thread Cert.KernelMergeFwdIdeal.nD Cert.KernelMergeFwdIdeal.τ).loc Cert.KernelMergeFwdIdeal.main_v12) = v0 c
          ∧ r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
          ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
          ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
          ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3))
      ∧ θ_run (Cert.ReferenceMergeFwdIdeal.defs (F := Ideal)) (onTc (τ := Cert.ReferenceMergeFwdIdeal.τ) (Cert.ReferenceMergeFwdIdeal.main (F := Ideal))) ⟨m', fun _ => 0, g'⟩ (fun r => ∀ c : Dev Cert.ReferenceMergeFwdIdeal.nD,
          r.2.mem ((c.tc : Thread Cert.ReferenceMergeFwdIdeal.nD Cert.ReferenceMergeFwdIdeal.τ).loc Cert.ReferenceMergeFwdIdeal.main_v24) = v0 c
          ∧ r.2.mem ((c.tc : Thread Cert.ReferenceMergeFwdIdeal.nD Cert.ReferenceMergeFwdIdeal.τ).loc Cert.ReferenceMergeFwdIdeal.main_arg0) = m' ((c.tc : Thread Cert.ReferenceMergeFwdIdeal.nD Cert.ReferenceMergeFwdIdeal.τ).loc Cert.ReferenceMergeFwdIdeal.main_arg0)
          ∧ r.2.mem ((c.tc : Thread Cert.ReferenceMergeFwdIdeal.nD Cert.ReferenceMergeFwdIdeal.τ).loc Cert.ReferenceMergeFwdIdeal.main_arg1) = m' ((c.tc : Thread Cert.ReferenceMergeFwdIdeal.nD Cert.ReferenceMergeFwdIdeal.τ).loc Cert.ReferenceMergeFwdIdeal.main_arg1)
          ∧ r.2.mem ((c.tc : Thread Cert.ReferenceMergeFwdIdeal.nD Cert.ReferenceMergeFwdIdeal.τ).loc Cert.ReferenceMergeFwdIdeal.main_arg2) = m' ((c.tc : Thread Cert.ReferenceMergeFwdIdeal.nD Cert.ReferenceMergeFwdIdeal.τ).loc Cert.ReferenceMergeFwdIdeal.main_arg2)
          ∧ r.2.mem ((c.tc : Thread Cert.ReferenceMergeFwdIdeal.nD Cert.ReferenceMergeFwdIdeal.τ).loc Cert.ReferenceMergeFwdIdeal.main_arg3) = m' ((c.tc : Thread Cert.ReferenceMergeFwdIdeal.nD Cert.ReferenceMergeFwdIdeal.τ).loc Cert.ReferenceMergeFwdIdeal.main_arg3))

def preserves_KernelNorm1Fwd_KernelNorm1FwdIdeal : Prop :=
  True

def algebraic_KernelNorm1FwdIdeal_ReferenceNorm1FwdIdeal [hKernelNorm1FwdIdeal : Cert.KernelNorm1FwdIdeal.Facts] [hReferenceNorm1FwdIdeal : Cert.ReferenceNorm1FwdIdeal.Facts] : Prop :=
  ∀ (m : (ℓ : Loc Cert.KernelNorm1FwdIdeal.nD Cert.KernelNorm1FwdIdeal.τ Cert.KernelNorm1FwdIdeal.sig) → Buf (Elt Ideal) ℓ) (g : Dev Cert.KernelNorm1FwdIdeal.nD → PrngReg)
    (m' : (ℓ : Loc Cert.ReferenceNorm1FwdIdeal.nD Cert.ReferenceNorm1FwdIdeal.τ Cert.ReferenceNorm1FwdIdeal.sig) → Buf (Elt Ideal) ℓ) (g' : Dev Cert.ReferenceNorm1FwdIdeal.nD → PrngReg), Pre_KernelNorm1FwdIdeal m →
    (∀ c : Dev Cert.KernelNorm1FwdIdeal.nD,
      m' ((c.tc : Thread Cert.ReferenceNorm1FwdIdeal.nD Cert.ReferenceNorm1FwdIdeal.τ).loc Cert.ReferenceNorm1FwdIdeal.main_arg0) = m ((c.tc : Thread Cert.KernelNorm1FwdIdeal.nD Cert.KernelNorm1FwdIdeal.τ).loc Cert.KernelNorm1FwdIdeal.main_arg0)
      ∧ m' ((c.tc : Thread Cert.ReferenceNorm1FwdIdeal.nD Cert.ReferenceNorm1FwdIdeal.τ).loc Cert.ReferenceNorm1FwdIdeal.main_arg1) = m ((c.tc : Thread Cert.KernelNorm1FwdIdeal.nD Cert.KernelNorm1FwdIdeal.τ).loc Cert.KernelNorm1FwdIdeal.main_arg1)
      ∧ m' ((c.tc : Thread Cert.ReferenceNorm1FwdIdeal.nD Cert.ReferenceNorm1FwdIdeal.τ).loc Cert.ReferenceNorm1FwdIdeal.main_arg2) = m ((c.tc : Thread Cert.KernelNorm1FwdIdeal.nD Cert.KernelNorm1FwdIdeal.τ).loc Cert.KernelNorm1FwdIdeal.main_arg2)
      ∧ m' ((c.tc : Thread Cert.ReferenceNorm1FwdIdeal.nD Cert.ReferenceNorm1FwdIdeal.τ).loc Cert.ReferenceNorm1FwdIdeal.main_arg3) = m ((c.tc : Thread Cert.KernelNorm1FwdIdeal.nD Cert.KernelNorm1FwdIdeal.τ).loc Cert.KernelNorm1FwdIdeal.main_arg3)) →
    ∃ (v0 : (c : Dev Cert.KernelNorm1FwdIdeal.nD) → Buf (Elt Ideal) ((c.tc : Thread Cert.KernelNorm1FwdIdeal.nD Cert.KernelNorm1FwdIdeal.τ).loc Cert.KernelNorm1FwdIdeal.main_v2)),
      θ_run (Cert.KernelNorm1FwdIdeal.defs (F := Ideal)) (onTc (τ := Cert.KernelNorm1FwdIdeal.τ) (Cert.KernelNorm1FwdIdeal.main (F := Ideal))) ⟨m, fun _ => 0, g⟩ (fun r => ∀ c : Dev Cert.KernelNorm1FwdIdeal.nD,
          r.2.mem ((c.tc : Thread Cert.KernelNorm1FwdIdeal.nD Cert.KernelNorm1FwdIdeal.τ).loc Cert.KernelNorm1FwdIdeal.main_v2) = v0 c
          ∧ r.2.mem ((c.tc : Thread Cert.KernelNorm1FwdIdeal.nD Cert.KernelNorm1FwdIdeal.τ).loc Cert.KernelNorm1FwdIdeal.main_arg0) = m ((c.tc : Thread Cert.KernelNorm1FwdIdeal.nD Cert.KernelNorm1FwdIdeal.τ).loc Cert.KernelNorm1FwdIdeal.main_arg0)
          ∧ r.2.mem ((c.tc : Thread Cert.KernelNorm1FwdIdeal.nD Cert.KernelNorm1FwdIdeal.τ).loc Cert.KernelNorm1FwdIdeal.main_arg1) = m ((c.tc : Thread Cert.KernelNorm1FwdIdeal.nD Cert.KernelNorm1FwdIdeal.τ).loc Cert.KernelNorm1FwdIdeal.main_arg1)
          ∧ r.2.mem ((c.tc : Thread Cert.KernelNorm1FwdIdeal.nD Cert.KernelNorm1FwdIdeal.τ).loc Cert.KernelNorm1FwdIdeal.main_arg2) = m ((c.tc : Thread Cert.KernelNorm1FwdIdeal.nD Cert.KernelNorm1FwdIdeal.τ).loc Cert.KernelNorm1FwdIdeal.main_arg2)
          ∧ r.2.mem ((c.tc : Thread Cert.KernelNorm1FwdIdeal.nD Cert.KernelNorm1FwdIdeal.τ).loc Cert.KernelNorm1FwdIdeal.main_arg3) = m ((c.tc : Thread Cert.KernelNorm1FwdIdeal.nD Cert.KernelNorm1FwdIdeal.τ).loc Cert.KernelNorm1FwdIdeal.main_arg3))
      ∧ θ_run (Cert.ReferenceNorm1FwdIdeal.defs (F := Ideal)) (onTc (τ := Cert.ReferenceNorm1FwdIdeal.τ) (Cert.ReferenceNorm1FwdIdeal.main (F := Ideal))) ⟨m', fun _ => 0, g'⟩ (fun r => ∀ c : Dev Cert.ReferenceNorm1FwdIdeal.nD,
          r.2.mem ((c.tc : Thread Cert.ReferenceNorm1FwdIdeal.nD Cert.ReferenceNorm1FwdIdeal.τ).loc Cert.ReferenceNorm1FwdIdeal.main_v22) = v0 c
          ∧ r.2.mem ((c.tc : Thread Cert.ReferenceNorm1FwdIdeal.nD Cert.ReferenceNorm1FwdIdeal.τ).loc Cert.ReferenceNorm1FwdIdeal.main_arg0) = m' ((c.tc : Thread Cert.ReferenceNorm1FwdIdeal.nD Cert.ReferenceNorm1FwdIdeal.τ).loc Cert.ReferenceNorm1FwdIdeal.main_arg0)
          ∧ r.2.mem ((c.tc : Thread Cert.ReferenceNorm1FwdIdeal.nD Cert.ReferenceNorm1FwdIdeal.τ).loc Cert.ReferenceNorm1FwdIdeal.main_arg1) = m' ((c.tc : Thread Cert.ReferenceNorm1FwdIdeal.nD Cert.ReferenceNorm1FwdIdeal.τ).loc Cert.ReferenceNorm1FwdIdeal.main_arg1)
          ∧ r.2.mem ((c.tc : Thread Cert.ReferenceNorm1FwdIdeal.nD Cert.ReferenceNorm1FwdIdeal.τ).loc Cert.ReferenceNorm1FwdIdeal.main_arg2) = m' ((c.tc : Thread Cert.ReferenceNorm1FwdIdeal.nD Cert.ReferenceNorm1FwdIdeal.τ).loc Cert.ReferenceNorm1FwdIdeal.main_arg2)
          ∧ r.2.mem ((c.tc : Thread Cert.ReferenceNorm1FwdIdeal.nD Cert.ReferenceNorm1FwdIdeal.τ).loc Cert.ReferenceNorm1FwdIdeal.main_arg3) = m' ((c.tc : Thread Cert.ReferenceNorm1FwdIdeal.nD Cert.ReferenceNorm1FwdIdeal.τ).loc Cert.ReferenceNorm1FwdIdeal.main_arg3))

def preserves_KernelNorm2Fwd_KernelNorm2FwdIdeal : Prop :=
  True

def algebraic_KernelNorm2FwdIdeal_ReferenceNorm2FwdIdeal [hKernelNorm2FwdIdeal : Cert.KernelNorm2FwdIdeal.Facts] [hReferenceNorm2FwdIdeal : Cert.ReferenceNorm2FwdIdeal.Facts] : Prop :=
  ∀ (m : (ℓ : Loc Cert.KernelNorm2FwdIdeal.nD Cert.KernelNorm2FwdIdeal.τ Cert.KernelNorm2FwdIdeal.sig) → Buf (Elt Ideal) ℓ) (g : Dev Cert.KernelNorm2FwdIdeal.nD → PrngReg)
    (m' : (ℓ : Loc Cert.ReferenceNorm2FwdIdeal.nD Cert.ReferenceNorm2FwdIdeal.τ Cert.ReferenceNorm2FwdIdeal.sig) → Buf (Elt Ideal) ℓ) (g' : Dev Cert.ReferenceNorm2FwdIdeal.nD → PrngReg), Pre_KernelNorm2FwdIdeal m →
    (∀ c : Dev Cert.KernelNorm2FwdIdeal.nD,
      m' ((c.tc : Thread Cert.ReferenceNorm2FwdIdeal.nD Cert.ReferenceNorm2FwdIdeal.τ).loc Cert.ReferenceNorm2FwdIdeal.main_arg0) = m ((c.tc : Thread Cert.KernelNorm2FwdIdeal.nD Cert.KernelNorm2FwdIdeal.τ).loc Cert.KernelNorm2FwdIdeal.main_arg0)
      ∧ m' ((c.tc : Thread Cert.ReferenceNorm2FwdIdeal.nD Cert.ReferenceNorm2FwdIdeal.τ).loc Cert.ReferenceNorm2FwdIdeal.main_arg1) = m ((c.tc : Thread Cert.KernelNorm2FwdIdeal.nD Cert.KernelNorm2FwdIdeal.τ).loc Cert.KernelNorm2FwdIdeal.main_arg1)
      ∧ m' ((c.tc : Thread Cert.ReferenceNorm2FwdIdeal.nD Cert.ReferenceNorm2FwdIdeal.τ).loc Cert.ReferenceNorm2FwdIdeal.main_arg2) = m ((c.tc : Thread Cert.KernelNorm2FwdIdeal.nD Cert.KernelNorm2FwdIdeal.τ).loc Cert.KernelNorm2FwdIdeal.main_arg2)
      ∧ m' ((c.tc : Thread Cert.ReferenceNorm2FwdIdeal.nD Cert.ReferenceNorm2FwdIdeal.τ).loc Cert.ReferenceNorm2FwdIdeal.main_arg3) = m ((c.tc : Thread Cert.KernelNorm2FwdIdeal.nD Cert.KernelNorm2FwdIdeal.τ).loc Cert.KernelNorm2FwdIdeal.main_arg3)
      ∧ m' ((c.tc : Thread Cert.ReferenceNorm2FwdIdeal.nD Cert.ReferenceNorm2FwdIdeal.τ).loc Cert.ReferenceNorm2FwdIdeal.main_arg4) = m ((c.tc : Thread Cert.KernelNorm2FwdIdeal.nD Cert.KernelNorm2FwdIdeal.τ).loc Cert.KernelNorm2FwdIdeal.main_arg4)
      ∧ m' ((c.tc : Thread Cert.ReferenceNorm2FwdIdeal.nD Cert.ReferenceNorm2FwdIdeal.τ).loc Cert.ReferenceNorm2FwdIdeal.main_arg5) = m ((c.tc : Thread Cert.KernelNorm2FwdIdeal.nD Cert.KernelNorm2FwdIdeal.τ).loc Cert.KernelNorm2FwdIdeal.main_arg5)) →
    ∃ (v0 : (c : Dev Cert.KernelNorm2FwdIdeal.nD) → Buf (Elt Ideal) ((c.tc : Thread Cert.KernelNorm2FwdIdeal.nD Cert.KernelNorm2FwdIdeal.τ).loc Cert.KernelNorm2FwdIdeal.main_v3_0)) (v1 : (c : Dev Cert.KernelNorm2FwdIdeal.nD) → Buf (Elt Ideal) ((c.tc : Thread Cert.KernelNorm2FwdIdeal.nD Cert.KernelNorm2FwdIdeal.τ).loc Cert.KernelNorm2FwdIdeal.main_v3_1)),
      θ_run (Cert.KernelNorm2FwdIdeal.defs (F := Ideal)) (onTc (τ := Cert.KernelNorm2FwdIdeal.τ) (Cert.KernelNorm2FwdIdeal.main (F := Ideal))) ⟨m, fun _ => 0, g⟩ (fun r => ∀ c : Dev Cert.KernelNorm2FwdIdeal.nD,
          r.2.mem ((c.tc : Thread Cert.KernelNorm2FwdIdeal.nD Cert.KernelNorm2FwdIdeal.τ).loc Cert.KernelNorm2FwdIdeal.main_v3_0) = v0 c
          ∧ r.2.mem ((c.tc : Thread Cert.KernelNorm2FwdIdeal.nD Cert.KernelNorm2FwdIdeal.τ).loc Cert.KernelNorm2FwdIdeal.main_v3_1) = v1 c
          ∧ r.2.mem ((c.tc : Thread Cert.KernelNorm2FwdIdeal.nD Cert.KernelNorm2FwdIdeal.τ).loc Cert.KernelNorm2FwdIdeal.main_arg0) = m ((c.tc : Thread Cert.KernelNorm2FwdIdeal.nD Cert.KernelNorm2FwdIdeal.τ).loc Cert.KernelNorm2FwdIdeal.main_arg0)
          ∧ r.2.mem ((c.tc : Thread Cert.KernelNorm2FwdIdeal.nD Cert.KernelNorm2FwdIdeal.τ).loc Cert.KernelNorm2FwdIdeal.main_arg1) = m ((c.tc : Thread Cert.KernelNorm2FwdIdeal.nD Cert.KernelNorm2FwdIdeal.τ).loc Cert.KernelNorm2FwdIdeal.main_arg1)
          ∧ r.2.mem ((c.tc : Thread Cert.KernelNorm2FwdIdeal.nD Cert.KernelNorm2FwdIdeal.τ).loc Cert.KernelNorm2FwdIdeal.main_arg2) = m ((c.tc : Thread Cert.KernelNorm2FwdIdeal.nD Cert.KernelNorm2FwdIdeal.τ).loc Cert.KernelNorm2FwdIdeal.main_arg2)
          ∧ r.2.mem ((c.tc : Thread Cert.KernelNorm2FwdIdeal.nD Cert.KernelNorm2FwdIdeal.τ).loc Cert.KernelNorm2FwdIdeal.main_arg3) = m ((c.tc : Thread Cert.KernelNorm2FwdIdeal.nD Cert.KernelNorm2FwdIdeal.τ).loc Cert.KernelNorm2FwdIdeal.main_arg3)
          ∧ r.2.mem ((c.tc : Thread Cert.KernelNorm2FwdIdeal.nD Cert.KernelNorm2FwdIdeal.τ).loc Cert.KernelNorm2FwdIdeal.main_arg4) = m ((c.tc : Thread Cert.KernelNorm2FwdIdeal.nD Cert.KernelNorm2FwdIdeal.τ).loc Cert.KernelNorm2FwdIdeal.main_arg4)
          ∧ r.2.mem ((c.tc : Thread Cert.KernelNorm2FwdIdeal.nD Cert.KernelNorm2FwdIdeal.τ).loc Cert.KernelNorm2FwdIdeal.main_arg5) = m ((c.tc : Thread Cert.KernelNorm2FwdIdeal.nD Cert.KernelNorm2FwdIdeal.τ).loc Cert.KernelNorm2FwdIdeal.main_arg5))
      ∧ θ_run (Cert.ReferenceNorm2FwdIdeal.defs (F := Ideal)) (onTc (τ := Cert.ReferenceNorm2FwdIdeal.τ) (Cert.ReferenceNorm2FwdIdeal.main (F := Ideal))) ⟨m', fun _ => 0, g'⟩ (fun r => ∀ c : Dev Cert.ReferenceNorm2FwdIdeal.nD,
          r.2.mem ((c.tc : Thread Cert.ReferenceNorm2FwdIdeal.nD Cert.ReferenceNorm2FwdIdeal.τ).loc Cert.ReferenceNorm2FwdIdeal.main_v3) = v0 c
          ∧ r.2.mem ((c.tc : Thread Cert.ReferenceNorm2FwdIdeal.nD Cert.ReferenceNorm2FwdIdeal.τ).loc Cert.ReferenceNorm2FwdIdeal.main_v26) = v1 c
          ∧ r.2.mem ((c.tc : Thread Cert.ReferenceNorm2FwdIdeal.nD Cert.ReferenceNorm2FwdIdeal.τ).loc Cert.ReferenceNorm2FwdIdeal.main_arg0) = m' ((c.tc : Thread Cert.ReferenceNorm2FwdIdeal.nD Cert.ReferenceNorm2FwdIdeal.τ).loc Cert.ReferenceNorm2FwdIdeal.main_arg0)
          ∧ r.2.mem ((c.tc : Thread Cert.ReferenceNorm2FwdIdeal.nD Cert.ReferenceNorm2FwdIdeal.τ).loc Cert.ReferenceNorm2FwdIdeal.main_arg1) = m' ((c.tc : Thread Cert.ReferenceNorm2FwdIdeal.nD Cert.ReferenceNorm2FwdIdeal.τ).loc Cert.ReferenceNorm2FwdIdeal.main_arg1)
          ∧ r.2.mem ((c.tc : Thread Cert.ReferenceNorm2FwdIdeal.nD Cert.ReferenceNorm2FwdIdeal.τ).loc Cert.ReferenceNorm2FwdIdeal.main_arg2) = m' ((c.tc : Thread Cert.ReferenceNorm2FwdIdeal.nD Cert.ReferenceNorm2FwdIdeal.τ).loc Cert.ReferenceNorm2FwdIdeal.main_arg2)
          ∧ r.2.mem ((c.tc : Thread Cert.ReferenceNorm2FwdIdeal.nD Cert.ReferenceNorm2FwdIdeal.τ).loc Cert.ReferenceNorm2FwdIdeal.main_arg3) = m' ((c.tc : Thread Cert.ReferenceNorm2FwdIdeal.nD Cert.ReferenceNorm2FwdIdeal.τ).loc Cert.ReferenceNorm2FwdIdeal.main_arg3)
          ∧ r.2.mem ((c.tc : Thread Cert.ReferenceNorm2FwdIdeal.nD Cert.ReferenceNorm2FwdIdeal.τ).loc Cert.ReferenceNorm2FwdIdeal.main_arg4) = m' ((c.tc : Thread Cert.ReferenceNorm2FwdIdeal.nD Cert.ReferenceNorm2FwdIdeal.τ).loc Cert.ReferenceNorm2FwdIdeal.main_arg4)
          ∧ r.2.mem ((c.tc : Thread Cert.ReferenceNorm2FwdIdeal.nD Cert.ReferenceNorm2FwdIdeal.τ).loc Cert.ReferenceNorm2FwdIdeal.main_arg5) = m' ((c.tc : Thread Cert.ReferenceNorm2FwdIdeal.nD Cert.ReferenceNorm2FwdIdeal.τ).loc Cert.ReferenceNorm2FwdIdeal.main_arg5))

def preserves_KernelLatFwd_KernelLatFwdIdeal : Prop :=
  True

def algebraic_KernelLatFwdIdeal_ReferenceLatFwdIdeal [hKernelLatFwdIdeal : Cert.KernelLatFwdIdeal.Facts] [hReferenceLatFwdIdeal : Cert.ReferenceLatFwdIdeal.Facts] : Prop :=
  ∀ (m : (ℓ : Loc Cert.KernelLatFwdIdeal.nD Cert.KernelLatFwdIdeal.τ Cert.KernelLatFwdIdeal.sig) → Buf (Elt Ideal) ℓ) (g : Dev Cert.KernelLatFwdIdeal.nD → PrngReg)
    (m' : (ℓ : Loc Cert.ReferenceLatFwdIdeal.nD Cert.ReferenceLatFwdIdeal.τ Cert.ReferenceLatFwdIdeal.sig) → Buf (Elt Ideal) ℓ) (g' : Dev Cert.ReferenceLatFwdIdeal.nD → PrngReg), Pre_KernelLatFwdIdeal m →
    (∀ c : Dev Cert.KernelLatFwdIdeal.nD,
      m' ((c.tc : Thread Cert.ReferenceLatFwdIdeal.nD Cert.ReferenceLatFwdIdeal.τ).loc Cert.ReferenceLatFwdIdeal.main_arg0) = m ((c.tc : Thread Cert.KernelLatFwdIdeal.nD Cert.KernelLatFwdIdeal.τ).loc Cert.KernelLatFwdIdeal.main_arg0)
      ∧ m' ((c.tc : Thread Cert.ReferenceLatFwdIdeal.nD Cert.ReferenceLatFwdIdeal.τ).loc Cert.ReferenceLatFwdIdeal.main_arg1) = m ((c.tc : Thread Cert.KernelLatFwdIdeal.nD Cert.KernelLatFwdIdeal.τ).loc Cert.KernelLatFwdIdeal.main_arg1)
      ∧ m' ((c.tc : Thread Cert.ReferenceLatFwdIdeal.nD Cert.ReferenceLatFwdIdeal.τ).loc Cert.ReferenceLatFwdIdeal.main_arg2) = m ((c.tc : Thread Cert.KernelLatFwdIdeal.nD Cert.KernelLatFwdIdeal.τ).loc Cert.KernelLatFwdIdeal.main_arg2)) →
    ∃ (v0 : (c : Dev Cert.KernelLatFwdIdeal.nD) → Buf (Elt Ideal) ((c.tc : Thread Cert.KernelLatFwdIdeal.nD Cert.KernelLatFwdIdeal.τ).loc Cert.KernelLatFwdIdeal.main_v11_0)) (v1 : (c : Dev Cert.KernelLatFwdIdeal.nD) → Buf (Elt Ideal) ((c.tc : Thread Cert.KernelLatFwdIdeal.nD Cert.KernelLatFwdIdeal.τ).loc Cert.KernelLatFwdIdeal.main_v11_1)),
      θ_run (Cert.KernelLatFwdIdeal.defs (F := Ideal)) (onTc (τ := Cert.KernelLatFwdIdeal.τ) (Cert.KernelLatFwdIdeal.main (F := Ideal))) ⟨m, fun _ => 0, g⟩ (fun r => ∀ c : Dev Cert.KernelLatFwdIdeal.nD,
          r.2.mem ((c.tc : Thread Cert.KernelLatFwdIdeal.nD Cert.KernelLatFwdIdeal.τ).loc Cert.KernelLatFwdIdeal.main_v11_0) = v0 c
          ∧ r.2.mem ((c.tc : Thread Cert.KernelLatFwdIdeal.nD Cert.KernelLatFwdIdeal.τ).loc Cert.KernelLatFwdIdeal.main_v11_1) = v1 c
          ∧ r.2.mem ((c.tc : Thread Cert.KernelLatFwdIdeal.nD Cert.KernelLatFwdIdeal.τ).loc Cert.KernelLatFwdIdeal.main_arg0) = m ((c.tc : Thread Cert.KernelLatFwdIdeal.nD Cert.KernelLatFwdIdeal.τ).loc Cert.KernelLatFwdIdeal.main_arg0)
          ∧ r.2.mem ((c.tc : Thread Cert.KernelLatFwdIdeal.nD Cert.KernelLatFwdIdeal.τ).loc Cert.KernelLatFwdIdeal.main_arg1) = m ((c.tc : Thread Cert.KernelLatFwdIdeal.nD Cert.KernelLatFwdIdeal.τ).loc Cert.KernelLatFwdIdeal.main_arg1)
          ∧ r.2.mem ((c.tc : Thread Cert.KernelLatFwdIdeal.nD Cert.KernelLatFwdIdeal.τ).loc Cert.KernelLatFwdIdeal.main_arg2) = m ((c.tc : Thread Cert.KernelLatFwdIdeal.nD Cert.KernelLatFwdIdeal.τ).loc Cert.KernelLatFwdIdeal.main_arg2))
      ∧ θ_run (Cert.ReferenceLatFwdIdeal.defs (F := Ideal)) (onTc (τ := Cert.ReferenceLatFwdIdeal.τ) (Cert.ReferenceLatFwdIdeal.main (F := Ideal))) ⟨m', fun _ => 0, g'⟩ (fun r => ∀ c : Dev Cert.ReferenceLatFwdIdeal.nD,
          r.2.mem ((c.tc : Thread Cert.ReferenceLatFwdIdeal.nD Cert.ReferenceLatFwdIdeal.τ).loc Cert.ReferenceLatFwdIdeal.main_v24) = v0 c
          ∧ r.2.mem ((c.tc : Thread Cert.ReferenceLatFwdIdeal.nD Cert.ReferenceLatFwdIdeal.τ).loc Cert.ReferenceLatFwdIdeal.main_v40) = v1 c
          ∧ r.2.mem ((c.tc : Thread Cert.ReferenceLatFwdIdeal.nD Cert.ReferenceLatFwdIdeal.τ).loc Cert.ReferenceLatFwdIdeal.main_arg0) = m' ((c.tc : Thread Cert.ReferenceLatFwdIdeal.nD Cert.ReferenceLatFwdIdeal.τ).loc Cert.ReferenceLatFwdIdeal.main_arg0)
          ∧ r.2.mem ((c.tc : Thread Cert.ReferenceLatFwdIdeal.nD Cert.ReferenceLatFwdIdeal.τ).loc Cert.ReferenceLatFwdIdeal.main_arg1) = m' ((c.tc : Thread Cert.ReferenceLatFwdIdeal.nD Cert.ReferenceLatFwdIdeal.τ).loc Cert.ReferenceLatFwdIdeal.main_arg1)
          ∧ r.2.mem ((c.tc : Thread Cert.ReferenceLatFwdIdeal.nD Cert.ReferenceLatFwdIdeal.τ).loc Cert.ReferenceLatFwdIdeal.main_arg2) = m' ((c.tc : Thread Cert.ReferenceLatFwdIdeal.nD Cert.ReferenceLatFwdIdeal.τ).loc Cert.ReferenceLatFwdIdeal.main_arg2))

def preserves_KernelQkFwd_KernelQkFwdIdeal : Prop :=
  IdealRules.named_const.Statement Cert.KernelQkFwdIdeal.κ "mean96" .f32 0x3C2AAAAB#32 ((1 / 96 : ℝ) : EReal)

def algebraic_KernelQkFwdIdeal_ReferenceQkFwdIdeal [hKernelQkFwdIdeal : Cert.KernelQkFwdIdeal.Facts] [hReferenceQkFwdIdeal : Cert.ReferenceQkFwdIdeal.Facts] : Prop :=
  ∀ (m : (ℓ : Loc Cert.KernelQkFwdIdeal.nD Cert.KernelQkFwdIdeal.τ Cert.KernelQkFwdIdeal.sig) → Buf (Elt Ideal) ℓ) (g : Dev Cert.KernelQkFwdIdeal.nD → PrngReg)
    (m' : (ℓ : Loc Cert.ReferenceQkFwdIdeal.nD Cert.ReferenceQkFwdIdeal.τ Cert.ReferenceQkFwdIdeal.sig) → Buf (Elt Ideal) ℓ) (g' : Dev Cert.ReferenceQkFwdIdeal.nD → PrngReg), Pre_KernelQkFwdIdeal m →
    (∀ c : Dev Cert.KernelQkFwdIdeal.nD,
      m' ((c.tc : Thread Cert.ReferenceQkFwdIdeal.nD Cert.ReferenceQkFwdIdeal.τ).loc Cert.ReferenceQkFwdIdeal.main_arg0) = m ((c.tc : Thread Cert.KernelQkFwdIdeal.nD Cert.KernelQkFwdIdeal.τ).loc Cert.KernelQkFwdIdeal.main_arg0)
      ∧ m' ((c.tc : Thread Cert.ReferenceQkFwdIdeal.nD Cert.ReferenceQkFwdIdeal.τ).loc Cert.ReferenceQkFwdIdeal.main_arg1) = m ((c.tc : Thread Cert.KernelQkFwdIdeal.nD Cert.KernelQkFwdIdeal.τ).loc Cert.KernelQkFwdIdeal.main_arg1)
      ∧ m' ((c.tc : Thread Cert.ReferenceQkFwdIdeal.nD Cert.ReferenceQkFwdIdeal.τ).loc Cert.ReferenceQkFwdIdeal.main_arg2) = m ((c.tc : Thread Cert.KernelQkFwdIdeal.nD Cert.KernelQkFwdIdeal.τ).loc Cert.KernelQkFwdIdeal.main_arg2)
      ∧ m' ((c.tc : Thread Cert.ReferenceQkFwdIdeal.nD Cert.ReferenceQkFwdIdeal.τ).loc Cert.ReferenceQkFwdIdeal.main_arg3) = m ((c.tc : Thread Cert.KernelQkFwdIdeal.nD Cert.KernelQkFwdIdeal.τ).loc Cert.KernelQkFwdIdeal.main_arg3)
      ∧ m' ((c.tc : Thread Cert.ReferenceQkFwdIdeal.nD Cert.ReferenceQkFwdIdeal.τ).loc Cert.ReferenceQkFwdIdeal.main_arg4) = m ((c.tc : Thread Cert.KernelQkFwdIdeal.nD Cert.KernelQkFwdIdeal.τ).loc Cert.KernelQkFwdIdeal.main_arg4)
      ∧ m' ((c.tc : Thread Cert.ReferenceQkFwdIdeal.nD Cert.ReferenceQkFwdIdeal.τ).loc Cert.ReferenceQkFwdIdeal.main_arg5) = m ((c.tc : Thread Cert.KernelQkFwdIdeal.nD Cert.KernelQkFwdIdeal.τ).loc Cert.KernelQkFwdIdeal.main_arg5)) →
    ∃ (v0 : (c : Dev Cert.KernelQkFwdIdeal.nD) → Buf (Elt Ideal) ((c.tc : Thread Cert.KernelQkFwdIdeal.nD Cert.KernelQkFwdIdeal.τ).loc Cert.KernelQkFwdIdeal.main_v45_0)) (v1 : (c : Dev Cert.KernelQkFwdIdeal.nD) → Buf (Elt Ideal) ((c.tc : Thread Cert.KernelQkFwdIdeal.nD Cert.KernelQkFwdIdeal.τ).loc Cert.KernelQkFwdIdeal.main_v45_1)) (v2 : (c : Dev Cert.KernelQkFwdIdeal.nD) → Buf (Elt Ideal) ((c.tc : Thread Cert.KernelQkFwdIdeal.nD Cert.KernelQkFwdIdeal.τ).loc Cert.KernelQkFwdIdeal.main_v45_2)),
      θ_run (Cert.KernelQkFwdIdeal.defs (F := Ideal)) (onTc (τ := Cert.KernelQkFwdIdeal.τ) (Cert.KernelQkFwdIdeal.main (F := Ideal))) ⟨m, fun _ => 0, g⟩ (fun r => ∀ c : Dev Cert.KernelQkFwdIdeal.nD,
          r.2.mem ((c.tc : Thread Cert.KernelQkFwdIdeal.nD Cert.KernelQkFwdIdeal.τ).loc Cert.KernelQkFwdIdeal.main_v45_0) = v0 c
          ∧ r.2.mem ((c.tc : Thread Cert.KernelQkFwdIdeal.nD Cert.KernelQkFwdIdeal.τ).loc Cert.KernelQkFwdIdeal.main_v45_1) = v1 c
          ∧ r.2.mem ((c.tc : Thread Cert.KernelQkFwdIdeal.nD Cert.KernelQkFwdIdeal.τ).loc Cert.KernelQkFwdIdeal.main_v45_2) = v2 c
          ∧ r.2.mem ((c.tc : Thread Cert.KernelQkFwdIdeal.nD Cert.KernelQkFwdIdeal.τ).loc Cert.KernelQkFwdIdeal.main_arg0) = m ((c.tc : Thread Cert.KernelQkFwdIdeal.nD Cert.KernelQkFwdIdeal.τ).loc Cert.KernelQkFwdIdeal.main_arg0)
          ∧ r.2.mem ((c.tc : Thread Cert.KernelQkFwdIdeal.nD Cert.KernelQkFwdIdeal.τ).loc Cert.KernelQkFwdIdeal.main_arg1) = m ((c.tc : Thread Cert.KernelQkFwdIdeal.nD Cert.KernelQkFwdIdeal.τ).loc Cert.KernelQkFwdIdeal.main_arg1)
          ∧ r.2.mem ((c.tc : Thread Cert.KernelQkFwdIdeal.nD Cert.KernelQkFwdIdeal.τ).loc Cert.KernelQkFwdIdeal.main_arg2) = m ((c.tc : Thread Cert.KernelQkFwdIdeal.nD Cert.KernelQkFwdIdeal.τ).loc Cert.KernelQkFwdIdeal.main_arg2)
          ∧ r.2.mem ((c.tc : Thread Cert.KernelQkFwdIdeal.nD Cert.KernelQkFwdIdeal.τ).loc Cert.KernelQkFwdIdeal.main_arg3) = m ((c.tc : Thread Cert.KernelQkFwdIdeal.nD Cert.KernelQkFwdIdeal.τ).loc Cert.KernelQkFwdIdeal.main_arg3)
          ∧ r.2.mem ((c.tc : Thread Cert.KernelQkFwdIdeal.nD Cert.KernelQkFwdIdeal.τ).loc Cert.KernelQkFwdIdeal.main_arg4) = m ((c.tc : Thread Cert.KernelQkFwdIdeal.nD Cert.KernelQkFwdIdeal.τ).loc Cert.KernelQkFwdIdeal.main_arg4)
          ∧ r.2.mem ((c.tc : Thread Cert.KernelQkFwdIdeal.nD Cert.KernelQkFwdIdeal.τ).loc Cert.KernelQkFwdIdeal.main_arg5) = m ((c.tc : Thread Cert.KernelQkFwdIdeal.nD Cert.KernelQkFwdIdeal.τ).loc Cert.KernelQkFwdIdeal.main_arg5))
      ∧ θ_run (Cert.ReferenceQkFwdIdeal.defs (F := Ideal)) (onTc (τ := Cert.ReferenceQkFwdIdeal.τ) (Cert.ReferenceQkFwdIdeal.main (F := Ideal))) ⟨m', fun _ => 0, g'⟩ (fun r => ∀ c : Dev Cert.ReferenceQkFwdIdeal.nD,
          r.2.mem ((c.tc : Thread Cert.ReferenceQkFwdIdeal.nD Cert.ReferenceQkFwdIdeal.τ).loc Cert.ReferenceQkFwdIdeal.main_v116) = v0 c
          ∧ r.2.mem ((c.tc : Thread Cert.ReferenceQkFwdIdeal.nD Cert.ReferenceQkFwdIdeal.τ).loc Cert.ReferenceQkFwdIdeal.main_v119) = v1 c
          ∧ r.2.mem ((c.tc : Thread Cert.ReferenceQkFwdIdeal.nD Cert.ReferenceQkFwdIdeal.τ).loc Cert.ReferenceQkFwdIdeal.main_v122) = v2 c
          ∧ r.2.mem ((c.tc : Thread Cert.ReferenceQkFwdIdeal.nD Cert.ReferenceQkFwdIdeal.τ).loc Cert.ReferenceQkFwdIdeal.main_arg0) = m' ((c.tc : Thread Cert.ReferenceQkFwdIdeal.nD Cert.ReferenceQkFwdIdeal.τ).loc Cert.ReferenceQkFwdIdeal.main_arg0)
          ∧ r.2.mem ((c.tc : Thread Cert.ReferenceQkFwdIdeal.nD Cert.ReferenceQkFwdIdeal.τ).loc Cert.ReferenceQkFwdIdeal.main_arg1) = m' ((c.tc : Thread Cert.ReferenceQkFwdIdeal.nD Cert.ReferenceQkFwdIdeal.τ).loc Cert.ReferenceQkFwdIdeal.main_arg1)
          ∧ r.2.mem ((c.tc : Thread Cert.ReferenceQkFwdIdeal.nD Cert.ReferenceQkFwdIdeal.τ).loc Cert.ReferenceQkFwdIdeal.main_arg2) = m' ((c.tc : Thread Cert.ReferenceQkFwdIdeal.nD Cert.ReferenceQkFwdIdeal.τ).loc Cert.ReferenceQkFwdIdeal.main_arg2)
          ∧ r.2.mem ((c.tc : Thread Cert.ReferenceQkFwdIdeal.nD Cert.ReferenceQkFwdIdeal.τ).loc Cert.ReferenceQkFwdIdeal.main_arg3) = m' ((c.tc : Thread Cert.ReferenceQkFwdIdeal.nD Cert.ReferenceQkFwdIdeal.τ).loc Cert.ReferenceQkFwdIdeal.main_arg3)
          ∧ r.2.mem ((c.tc : Thread Cert.ReferenceQkFwdIdeal.nD Cert.ReferenceQkFwdIdeal.τ).loc Cert.ReferenceQkFwdIdeal.main_arg4) = m' ((c.tc : Thread Cert.ReferenceQkFwdIdeal.nD Cert.ReferenceQkFwdIdeal.τ).loc Cert.ReferenceQkFwdIdeal.main_arg4)
          ∧ r.2.mem ((c.tc : Thread Cert.ReferenceQkFwdIdeal.nD Cert.ReferenceQkFwdIdeal.τ).loc Cert.ReferenceQkFwdIdeal.main_arg5) = m' ((c.tc : Thread Cert.ReferenceQkFwdIdeal.nD Cert.ReferenceQkFwdIdeal.τ).loc Cert.ReferenceQkFwdIdeal.main_arg5))

def preserves_KernelGla_KernelGlaIdeal : Prop :=
  True

def preserves_KernelGlaFwd_KernelGlaFwdIdeal : Prop :=
  True

def algebraic_KernelGlaFwdIdeal_ReferenceGlaFwdIdeal [hKernelGlaFwdIdeal : Cert.KernelGlaFwdIdeal.Facts] [hReferenceGlaFwdIdeal : Cert.ReferenceGlaFwdIdeal.Facts] : Prop :=
  ∀ (m : (ℓ : Loc Cert.KernelGlaFwdIdeal.nD Cert.KernelGlaFwdIdeal.τ Cert.KernelGlaFwdIdeal.sig) → Buf (Elt Ideal) ℓ) (g : Dev Cert.KernelGlaFwdIdeal.nD → PrngReg)
    (m' : (ℓ : Loc Cert.ReferenceGlaFwdIdeal.nD Cert.ReferenceGlaFwdIdeal.τ Cert.ReferenceGlaFwdIdeal.sig) → Buf (Elt Ideal) ℓ) (g' : Dev Cert.ReferenceGlaFwdIdeal.nD → PrngReg), Pre_KernelGlaFwdIdeal m →
    (∀ c : Dev Cert.KernelGlaFwdIdeal.nD,
      m' ((c.tc : Thread Cert.ReferenceGlaFwdIdeal.nD Cert.ReferenceGlaFwdIdeal.τ).loc Cert.ReferenceGlaFwdIdeal.main_arg0) = m ((c.tc : Thread Cert.KernelGlaFwdIdeal.nD Cert.KernelGlaFwdIdeal.τ).loc Cert.KernelGlaFwdIdeal.main_arg0)
      ∧ m' ((c.tc : Thread Cert.ReferenceGlaFwdIdeal.nD Cert.ReferenceGlaFwdIdeal.τ).loc Cert.ReferenceGlaFwdIdeal.main_arg1) = m ((c.tc : Thread Cert.KernelGlaFwdIdeal.nD Cert.KernelGlaFwdIdeal.τ).loc Cert.KernelGlaFwdIdeal.main_arg1)
      ∧ m' ((c.tc : Thread Cert.ReferenceGlaFwdIdeal.nD Cert.ReferenceGlaFwdIdeal.τ).loc Cert.ReferenceGlaFwdIdeal.main_arg2) = m ((c.tc : Thread Cert.KernelGlaFwdIdeal.nD Cert.KernelGlaFwdIdeal.τ).loc Cert.KernelGlaFwdIdeal.main_arg2)
      ∧ m' ((c.tc : Thread Cert.ReferenceGlaFwdIdeal.nD Cert.ReferenceGlaFwdIdeal.τ).loc Cert.ReferenceGlaFwdIdeal.main_arg3) = m ((c.tc : Thread Cert.KernelGlaFwdIdeal.nD Cert.KernelGlaFwdIdeal.τ).loc Cert.KernelGlaFwdIdeal.main_arg3)) →
    ∃ (v0 : (c : Dev Cert.KernelGlaFwdIdeal.nD) → Buf (Elt Ideal) ((c.tc : Thread Cert.KernelGlaFwdIdeal.nD Cert.KernelGlaFwdIdeal.τ).loc Cert.KernelGlaFwdIdeal.main_v12_0)) (v1 : (c : Dev Cert.KernelGlaFwdIdeal.nD) → Buf (Elt Ideal) ((c.tc : Thread Cert.KernelGlaFwdIdeal.nD Cert.KernelGlaFwdIdeal.τ).loc Cert.KernelGlaFwdIdeal.main_v12_1)) (v2 : (c : Dev Cert.KernelGlaFwdIdeal.nD) → Buf (Elt Ideal) ((c.tc : Thread Cert.KernelGlaFwdIdeal.nD Cert.KernelGlaFwdIdeal.τ).loc Cert.KernelGlaFwdIdeal.main_v12_2)),
      θ_run (Cert.KernelGlaFwdIdeal.defs (F := Ideal)) (onTc (τ := Cert.KernelGlaFwdIdeal.τ) (Cert.KernelGlaFwdIdeal.main (F := Ideal))) ⟨m, fun _ => 0, g⟩ (fun r => ∀ c : Dev Cert.KernelGlaFwdIdeal.nD,
          r.2.mem ((c.tc : Thread Cert.KernelGlaFwdIdeal.nD Cert.KernelGlaFwdIdeal.τ).loc Cert.KernelGlaFwdIdeal.main_v12_0) = v0 c
          ∧ r.2.mem ((c.tc : Thread Cert.KernelGlaFwdIdeal.nD Cert.KernelGlaFwdIdeal.τ).loc Cert.KernelGlaFwdIdeal.main_v12_1) = v1 c
          ∧ r.2.mem ((c.tc : Thread Cert.KernelGlaFwdIdeal.nD Cert.KernelGlaFwdIdeal.τ).loc Cert.KernelGlaFwdIdeal.main_v12_2) = v2 c
          ∧ r.2.mem ((c.tc : Thread Cert.KernelGlaFwdIdeal.nD Cert.KernelGlaFwdIdeal.τ).loc Cert.KernelGlaFwdIdeal.main_arg0) = m ((c.tc : Thread Cert.KernelGlaFwdIdeal.nD Cert.KernelGlaFwdIdeal.τ).loc Cert.KernelGlaFwdIdeal.main_arg0)
          ∧ r.2.mem ((c.tc : Thread Cert.KernelGlaFwdIdeal.nD Cert.KernelGlaFwdIdeal.τ).loc Cert.KernelGlaFwdIdeal.main_arg1) = m ((c.tc : Thread Cert.KernelGlaFwdIdeal.nD Cert.KernelGlaFwdIdeal.τ).loc Cert.KernelGlaFwdIdeal.main_arg1)
          ∧ r.2.mem ((c.tc : Thread Cert.KernelGlaFwdIdeal.nD Cert.KernelGlaFwdIdeal.τ).loc Cert.KernelGlaFwdIdeal.main_arg2) = m ((c.tc : Thread Cert.KernelGlaFwdIdeal.nD Cert.KernelGlaFwdIdeal.τ).loc Cert.KernelGlaFwdIdeal.main_arg2)
          ∧ r.2.mem ((c.tc : Thread Cert.KernelGlaFwdIdeal.nD Cert.KernelGlaFwdIdeal.τ).loc Cert.KernelGlaFwdIdeal.main_arg3) = m ((c.tc : Thread Cert.KernelGlaFwdIdeal.nD Cert.KernelGlaFwdIdeal.τ).loc Cert.KernelGlaFwdIdeal.main_arg3))
      ∧ θ_run (Cert.ReferenceGlaFwdIdeal.defs (F := Ideal)) (onTc (τ := Cert.ReferenceGlaFwdIdeal.τ) (Cert.ReferenceGlaFwdIdeal.main (F := Ideal))) ⟨m', fun _ => 0, g'⟩ (fun r => ∀ c : Dev Cert.ReferenceGlaFwdIdeal.nD,
          r.2.mem ((c.tc : Thread Cert.ReferenceGlaFwdIdeal.nD Cert.ReferenceGlaFwdIdeal.τ).loc Cert.ReferenceGlaFwdIdeal.main_v353) = v0 c
          ∧ r.2.mem ((c.tc : Thread Cert.ReferenceGlaFwdIdeal.nD Cert.ReferenceGlaFwdIdeal.τ).loc Cert.ReferenceGlaFwdIdeal.main_v355) = v1 c
          ∧ r.2.mem ((c.tc : Thread Cert.ReferenceGlaFwdIdeal.nD Cert.ReferenceGlaFwdIdeal.τ).loc Cert.ReferenceGlaFwdIdeal.main_v356) = v2 c
          ∧ r.2.mem ((c.tc : Thread Cert.ReferenceGlaFwdIdeal.nD Cert.ReferenceGlaFwdIdeal.τ).loc Cert.ReferenceGlaFwdIdeal.main_arg0) = m' ((c.tc : Thread Cert.ReferenceGlaFwdIdeal.nD Cert.ReferenceGlaFwdIdeal.τ).loc Cert.ReferenceGlaFwdIdeal.main_arg0)
          ∧ r.2.mem ((c.tc : Thread Cert.ReferenceGlaFwdIdeal.nD Cert.ReferenceGlaFwdIdeal.τ).loc Cert.ReferenceGlaFwdIdeal.main_arg1) = m' ((c.tc : Thread Cert.ReferenceGlaFwdIdeal.nD Cert.ReferenceGlaFwdIdeal.τ).loc Cert.ReferenceGlaFwdIdeal.main_arg1)
          ∧ r.2.mem ((c.tc : Thread Cert.ReferenceGlaFwdIdeal.nD Cert.ReferenceGlaFwdIdeal.τ).loc Cert.ReferenceGlaFwdIdeal.main_arg2) = m' ((c.tc : Thread Cert.ReferenceGlaFwdIdeal.nD Cert.ReferenceGlaFwdIdeal.τ).loc Cert.ReferenceGlaFwdIdeal.main_arg2)
          ∧ r.2.mem ((c.tc : Thread Cert.ReferenceGlaFwdIdeal.nD Cert.ReferenceGlaFwdIdeal.τ).loc Cert.ReferenceGlaFwdIdeal.main_arg3) = m' ((c.tc : Thread Cert.ReferenceGlaFwdIdeal.nD Cert.ReferenceGlaFwdIdeal.τ).loc Cert.ReferenceGlaFwdIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v12)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v12) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v14) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v3_0)) (v1 : (c : Dev Cert.KernelAdamIdeal.nD) → Buf (Elt Ideal) ((c.tc : Thread Cert.KernelAdamIdeal.nD Cert.KernelAdamIdeal.τ).loc Cert.KernelAdamIdeal.main_v3_1)) (v2 : (c : Dev Cert.KernelAdamIdeal.nD) → Buf (Elt Ideal) ((c.tc : Thread Cert.KernelAdamIdeal.nD Cert.KernelAdamIdeal.τ).loc Cert.KernelAdamIdeal.main_v3_2)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v3_0) = v0 c
          ∧ r.2.mem ((c.tc : Thread Cert.KernelAdamIdeal.nD Cert.KernelAdamIdeal.τ).loc Cert.KernelAdamIdeal.main_v3_1) = v1 c
          ∧ r.2.mem ((c.tc : Thread Cert.KernelAdamIdeal.nD Cert.KernelAdamIdeal.τ).loc Cert.KernelAdamIdeal.main_v3_2) = v2 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v26) = v0 c
          ∧ r.2.mem ((c.tc : Thread Cert.ReferenceAdamIdeal.nD Cert.ReferenceAdamIdeal.τ).loc Cert.ReferenceAdamIdeal.main_v7) = v1 c
          ∧ r.2.mem ((c.tc : Thread Cert.ReferenceAdamIdeal.nD Cert.ReferenceAdamIdeal.τ).loc Cert.ReferenceAdamIdeal.main_v13) = v2 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelProjDx_KernelProjDxIdeal : Prop :=
  True

def algebraic_KernelProjDxIdeal_ReferenceProjDxIdeal [hKernelProjDxIdeal : Cert.KernelProjDxIdeal.Facts] [hReferenceProjDxIdeal : Cert.ReferenceProjDxIdeal.Facts] : Prop :=
  ∀ (m : (ℓ : Loc Cert.KernelProjDxIdeal.nD Cert.KernelProjDxIdeal.τ Cert.KernelProjDxIdeal.sig) → Buf (Elt Ideal) ℓ) (g : Dev Cert.KernelProjDxIdeal.nD → PrngReg)
    (m' : (ℓ : Loc Cert.ReferenceProjDxIdeal.nD Cert.ReferenceProjDxIdeal.τ Cert.ReferenceProjDxIdeal.sig) → Buf (Elt Ideal) ℓ) (g' : Dev Cert.ReferenceProjDxIdeal.nD → PrngReg), Pre_KernelProjDxIdeal m →
    (∀ c : Dev Cert.KernelProjDxIdeal.nD,
      m' ((c.tc : Thread Cert.ReferenceProjDxIdeal.nD Cert.ReferenceProjDxIdeal.τ).loc Cert.ReferenceProjDxIdeal.main_arg0) = m ((c.tc : Thread Cert.KernelProjDxIdeal.nD Cert.KernelProjDxIdeal.τ).loc Cert.KernelProjDxIdeal.main_arg0)
      ∧ m' ((c.tc : Thread Cert.ReferenceProjDxIdeal.nD Cert.ReferenceProjDxIdeal.τ).loc Cert.ReferenceProjDxIdeal.main_arg1) = m ((c.tc : Thread Cert.KernelProjDxIdeal.nD Cert.KernelProjDxIdeal.τ).loc Cert.KernelProjDxIdeal.main_arg1)) →
    ∃ (v0 : (c : Dev Cert.KernelProjDxIdeal.nD) → Buf (Elt Ideal) ((c.tc : Thread Cert.KernelProjDxIdeal.nD Cert.KernelProjDxIdeal.τ).loc Cert.KernelProjDxIdeal.main_v26)),
      θ_run (Cert.KernelProjDxIdeal.defs (F := Ideal)) (onTc (τ := Cert.KernelProjDxIdeal.τ) (Cert.KernelProjDxIdeal.main (F := Ideal))) ⟨m, fun _ => 0, g⟩ (fun r => ∀ c : Dev Cert.KernelProjDxIdeal.nD,
          r.2.mem ((c.tc : Thread Cert.KernelProjDxIdeal.nD Cert.KernelProjDxIdeal.τ).loc Cert.KernelProjDxIdeal.main_v26) = v0 c
          ∧ r.2.mem ((c.tc : Thread Cert.KernelProjDxIdeal.nD Cert.KernelProjDxIdeal.τ).loc Cert.KernelProjDxIdeal.main_arg0) = m ((c.tc : Thread Cert.KernelProjDxIdeal.nD Cert.KernelProjDxIdeal.τ).loc Cert.KernelProjDxIdeal.main_arg0)
          ∧ r.2.mem ((c.tc : Thread Cert.KernelProjDxIdeal.nD Cert.KernelProjDxIdeal.τ).loc Cert.KernelProjDxIdeal.main_arg1) = m ((c.tc : Thread Cert.KernelProjDxIdeal.nD Cert.KernelProjDxIdeal.τ).loc Cert.KernelProjDxIdeal.main_arg1))
      ∧ θ_run (Cert.ReferenceProjDxIdeal.defs (F := Ideal)) (onTc (τ := Cert.ReferenceProjDxIdeal.τ) (Cert.ReferenceProjDxIdeal.main (F := Ideal))) ⟨m', fun _ => 0, g'⟩ (fun r => ∀ c : Dev Cert.ReferenceProjDxIdeal.nD,
          r.2.mem ((c.tc : Thread Cert.ReferenceProjDxIdeal.nD Cert.ReferenceProjDxIdeal.τ).loc Cert.ReferenceProjDxIdeal.main_v3) = v0 c
          ∧ r.2.mem ((c.tc : Thread Cert.ReferenceProjDxIdeal.nD Cert.ReferenceProjDxIdeal.τ).loc Cert.ReferenceProjDxIdeal.main_arg0) = m' ((c.tc : Thread Cert.ReferenceProjDxIdeal.nD Cert.ReferenceProjDxIdeal.τ).loc Cert.ReferenceProjDxIdeal.main_arg0)
          ∧ r.2.mem ((c.tc : Thread Cert.ReferenceProjDxIdeal.nD Cert.ReferenceProjDxIdeal.τ).loc Cert.ReferenceProjDxIdeal.main_arg1) = m' ((c.tc : Thread Cert.ReferenceProjDxIdeal.nD Cert.ReferenceProjDxIdeal.τ).loc Cert.ReferenceProjDxIdeal.main_arg1))

def preserves_KernelProjDw_KernelProjDwIdeal : Prop :=
  True

def algebraic_KernelProjDwIdeal_ReferenceProjDwIdeal [hKernelProjDwIdeal : Cert.KernelProjDwIdeal.Facts] [hReferenceProjDwIdeal : Cert.ReferenceProjDwIdeal.Facts] : Prop :=
  ∀ (m : (ℓ : Loc Cert.KernelProjDwIdeal.nD Cert.KernelProjDwIdeal.τ Cert.KernelProjDwIdeal.sig) → Buf (Elt Ideal) ℓ) (g : Dev Cert.KernelProjDwIdeal.nD → PrngReg)
    (m' : (ℓ : Loc Cert.ReferenceProjDwIdeal.nD Cert.ReferenceProjDwIdeal.τ Cert.ReferenceProjDwIdeal.sig) → Buf (Elt Ideal) ℓ) (g' : Dev Cert.ReferenceProjDwIdeal.nD → PrngReg), Pre_KernelProjDwIdeal m →
    (∀ c : Dev Cert.KernelProjDwIdeal.nD,
      m' ((c.tc : Thread Cert.ReferenceProjDwIdeal.nD Cert.ReferenceProjDwIdeal.τ).loc Cert.ReferenceProjDwIdeal.main_arg0) = m ((c.tc : Thread Cert.KernelProjDwIdeal.nD Cert.KernelProjDwIdeal.τ).loc Cert.KernelProjDwIdeal.main_arg0)
      ∧ m' ((c.tc : Thread Cert.ReferenceProjDwIdeal.nD Cert.ReferenceProjDwIdeal.τ).loc Cert.ReferenceProjDwIdeal.main_arg1) = m ((c.tc : Thread Cert.KernelProjDwIdeal.nD Cert.KernelProjDwIdeal.τ).loc Cert.KernelProjDwIdeal.main_arg1)) →
    ∃ (v0 : (c : Dev Cert.KernelProjDwIdeal.nD) → Buf (Elt Ideal) ((c.tc : Thread Cert.KernelProjDwIdeal.nD Cert.KernelProjDwIdeal.τ).loc Cert.KernelProjDwIdeal.main_v13)),
      θ_run (Cert.KernelProjDwIdeal.defs (F := Ideal)) (onTc (τ := Cert.KernelProjDwIdeal.τ) (Cert.KernelProjDwIdeal.main (F := Ideal))) ⟨m, fun _ => 0, g⟩ (fun r => ∀ c : Dev Cert.KernelProjDwIdeal.nD,
          r.2.mem ((c.tc : Thread Cert.KernelProjDwIdeal.nD Cert.KernelProjDwIdeal.τ).loc Cert.KernelProjDwIdeal.main_v13) = v0 c
          ∧ r.2.mem ((c.tc : Thread Cert.KernelProjDwIdeal.nD Cert.KernelProjDwIdeal.τ).loc Cert.KernelProjDwIdeal.main_arg0) = m ((c.tc : Thread Cert.KernelProjDwIdeal.nD Cert.KernelProjDwIdeal.τ).loc Cert.KernelProjDwIdeal.main_arg0)
          ∧ r.2.mem ((c.tc : Thread Cert.KernelProjDwIdeal.nD Cert.KernelProjDwIdeal.τ).loc Cert.KernelProjDwIdeal.main_arg1) = m ((c.tc : Thread Cert.KernelProjDwIdeal.nD Cert.KernelProjDwIdeal.τ).loc Cert.KernelProjDwIdeal.main_arg1))
      ∧ θ_run (Cert.ReferenceProjDwIdeal.defs (F := Ideal)) (onTc (τ := Cert.ReferenceProjDwIdeal.τ) (Cert.ReferenceProjDwIdeal.main (F := Ideal))) ⟨m', fun _ => 0, g'⟩ (fun r => ∀ c : Dev Cert.ReferenceProjDwIdeal.nD,
          r.2.mem ((c.tc : Thread Cert.ReferenceProjDwIdeal.nD Cert.ReferenceProjDwIdeal.τ).loc Cert.ReferenceProjDwIdeal.main_v6) = v0 c
          ∧ r.2.mem ((c.tc : Thread Cert.ReferenceProjDwIdeal.nD Cert.ReferenceProjDwIdeal.τ).loc Cert.ReferenceProjDwIdeal.main_arg0) = m' ((c.tc : Thread Cert.ReferenceProjDwIdeal.nD Cert.ReferenceProjDwIdeal.τ).loc Cert.ReferenceProjDwIdeal.main_arg0)
          ∧ r.2.mem ((c.tc : Thread Cert.ReferenceProjDwIdeal.nD Cert.ReferenceProjDwIdeal.τ).loc Cert.ReferenceProjDwIdeal.main_arg1) = m' ((c.tc : Thread Cert.ReferenceProjDwIdeal.nD Cert.ReferenceProjDwIdeal.τ).loc Cert.ReferenceProjDwIdeal.main_arg1))

def Claim : Prop :=
  ∃ (hKernel : Cert.Kernel.Facts) (hKernelIdeal : Cert.KernelIdeal.Facts) (hReferenceIdeal : Cert.ReferenceIdeal.Facts) (hKernelAttn : Cert.KernelAttn.Facts) (hKernelAttnIdeal : Cert.KernelAttnIdeal.Facts) (hReferenceAttnIdeal : Cert.ReferenceAttnIdeal.Facts) (hKernelAttnFwd : Cert.KernelAttnFwd.Facts) (hKernelAttnFwdIdeal : Cert.KernelAttnFwdIdeal.Facts) (hReferenceAttnFwdIdeal : Cert.ReferenceAttnFwdIdeal.Facts) (hKernelLat : Cert.KernelLat.Facts) (hKernelLatIdeal : Cert.KernelLatIdeal.Facts) (hReferenceLatIdeal : Cert.ReferenceLatIdeal.Facts) (hKernelNorm1 : Cert.KernelNorm1.Facts) (hKernelNorm1Ideal : Cert.KernelNorm1Ideal.Facts) (hReferenceNorm1Ideal : Cert.ReferenceNorm1Ideal.Facts) (hKernelNorm2 : Cert.KernelNorm2.Facts) (hKernelNorm2Ideal : Cert.KernelNorm2Ideal.Facts) (hReferenceNorm2Ideal : Cert.ReferenceNorm2Ideal.Facts) (hKernelLoss : Cert.KernelLoss.Facts) (hKernelLossIdeal : Cert.KernelLossIdeal.Facts) (hReferenceLossIdeal : Cert.ReferenceLossIdeal.Facts) (hKernelRelu2 : Cert.KernelRelu2.Facts) (hKernelRelu2Ideal : Cert.KernelRelu2Ideal.Facts) (hReferenceRelu2Ideal : Cert.ReferenceRelu2Ideal.Facts) (hKernelQk : Cert.KernelQk.Facts) (hKernelQkIdeal : Cert.KernelQkIdeal.Facts) (hReferenceQkIdeal : Cert.ReferenceQkIdeal.Facts) (hKernelMergeFwd : Cert.KernelMergeFwd.Facts) (hKernelMergeFwdIdeal : Cert.KernelMergeFwdIdeal.Facts) (hReferenceMergeFwdIdeal : Cert.ReferenceMergeFwdIdeal.Facts) (hKernelNorm1Fwd : Cert.KernelNorm1Fwd.Facts) (hKernelNorm1FwdIdeal : Cert.KernelNorm1FwdIdeal.Facts) (hReferenceNorm1FwdIdeal : Cert.ReferenceNorm1FwdIdeal.Facts) (hKernelNorm2Fwd : Cert.KernelNorm2Fwd.Facts) (hKernelNorm2FwdIdeal : Cert.KernelNorm2FwdIdeal.Facts) (hReferenceNorm2FwdIdeal : Cert.ReferenceNorm2FwdIdeal.Facts) (hKernelLatFwd : Cert.KernelLatFwd.Facts) (hKernelLatFwdIdeal : Cert.KernelLatFwdIdeal.Facts) (hReferenceLatFwdIdeal : Cert.ReferenceLatFwdIdeal.Facts) (hKernelQkFwd : Cert.KernelQkFwd.Facts) (hKernelQkFwdIdeal : Cert.KernelQkFwdIdeal.Facts) (hReferenceQkFwdIdeal : Cert.ReferenceQkFwdIdeal.Facts) (hKernelGla : Cert.KernelGla.Facts) (hKernelGlaIdeal : Cert.KernelGlaIdeal.Facts) (hKernelGlaFwd : Cert.KernelGlaFwd.Facts) (hKernelGlaFwdIdeal : Cert.KernelGlaFwdIdeal.Facts) (hReferenceGlaFwdIdeal : Cert.ReferenceGlaFwdIdeal.Facts) (hKernelProj : Cert.KernelProj.Facts) (hKernelProjIdeal : Cert.KernelProjIdeal.Facts) (hReferenceProjIdeal : Cert.ReferenceProjIdeal.Facts) (hKernelAdam : Cert.KernelAdam.Facts) (hKernelAdamIdeal : Cert.KernelAdamIdeal.Facts) (hReferenceAdamIdeal : Cert.ReferenceAdamIdeal.Facts) (hKernelProjDx : Cert.KernelProjDx.Facts) (hKernelProjDxIdeal : Cert.KernelProjDxIdeal.Facts) (hReferenceProjDxIdeal : Cert.ReferenceProjDxIdeal.Facts) (hKernelProjDw : Cert.KernelProjDw.Facts) (hKernelProjDwIdeal : Cert.KernelProjDwIdeal.Facts) (hReferenceProjDwIdeal : Cert.ReferenceProjDwIdeal.Facts) (hPre_finite_attn : Cert.Pre_finite_attn.Facts) (hPre_finite_scores : Cert.Pre_finite_scores.Facts) (hPre_finite_lat : Cert.Pre_finite_lat.Facts) (hPre_finite_norm1 : Cert.Pre_finite_norm1.Facts) (hPre_finite_norm2 : Cert.Pre_finite_norm2.Facts) (hPre_finite_qk : Cert.Pre_finite_qk.Facts),
    quiescent_Kernel (hKernel := hKernel)
    ∧ quiescent_KernelIdeal (hKernelIdeal := hKernelIdeal)
    ∧ quiescent_ReferenceIdeal (hReferenceIdeal := hReferenceIdeal)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_finite_scores (hKernelAttnFwdIdeal := hKernelAttnFwdIdeal) (hPre_finite_scores := hPre_finite_scores)
    ∧ quiescent_ReferenceAttnFwdIdeal (hReferenceAttnFwdIdeal := hReferenceAttnFwdIdeal)
    ∧ quiescent_ReferenceAttnFwdIdeal_pre_finite_scores (hReferenceAttnFwdIdeal := hReferenceAttnFwdIdeal) (hPre_finite_scores := hPre_finite_scores)
    ∧ quiescent_KernelLat (hKernelLat := hKernelLat)
    ∧ quiescent_KernelLatIdeal (hKernelLatIdeal := hKernelLatIdeal)
    ∧ quiescent_KernelLatIdeal_pre_finite_lat (hKernelLatIdeal := hKernelLatIdeal) (hPre_finite_lat := hPre_finite_lat)
    ∧ quiescent_ReferenceLatIdeal (hReferenceLatIdeal := hReferenceLatIdeal)
    ∧ quiescent_ReferenceLatIdeal_pre_finite_lat (hReferenceLatIdeal := hReferenceLatIdeal) (hPre_finite_lat := hPre_finite_lat)
    ∧ quiescent_KernelNorm1 (hKernelNorm1 := hKernelNorm1)
    ∧ quiescent_KernelNorm1Ideal (hKernelNorm1Ideal := hKernelNorm1Ideal)
    ∧ quiescent_KernelNorm1Ideal_pre_finite_norm1 (hKernelNorm1Ideal := hKernelNorm1Ideal) (hPre_finite_norm1 := hPre_finite_norm1)
    ∧ quiescent_ReferenceNorm1Ideal (hReferenceNorm1Ideal := hReferenceNorm1Ideal)
    ∧ quiescent_ReferenceNorm1Ideal_pre_finite_norm1 (hReferenceNorm1Ideal := hReferenceNorm1Ideal) (hPre_finite_norm1 := hPre_finite_norm1)
    ∧ quiescent_KernelNorm2 (hKernelNorm2 := hKernelNorm2)
    ∧ quiescent_KernelNorm2Ideal (hKernelNorm2Ideal := hKernelNorm2Ideal)
    ∧ quiescent_KernelNorm2Ideal_pre_finite_norm2 (hKernelNorm2Ideal := hKernelNorm2Ideal) (hPre_finite_norm2 := hPre_finite_norm2)
    ∧ quiescent_ReferenceNorm2Ideal (hReferenceNorm2Ideal := hReferenceNorm2Ideal)
    ∧ quiescent_ReferenceNorm2Ideal_pre_finite_norm2 (hReferenceNorm2Ideal := hReferenceNorm2Ideal) (hPre_finite_norm2 := hPre_finite_norm2)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelRelu2 (hKernelRelu2 := hKernelRelu2)
    ∧ quiescent_KernelRelu2Ideal (hKernelRelu2Ideal := hKernelRelu2Ideal)
    ∧ quiescent_ReferenceRelu2Ideal (hReferenceRelu2Ideal := hReferenceRelu2Ideal)
    ∧ quiescent_KernelQk (hKernelQk := hKernelQk)
    ∧ quiescent_KernelQkIdeal (hKernelQkIdeal := hKernelQkIdeal)
    ∧ quiescent_KernelQkIdeal_pre_finite_qk (hKernelQkIdeal := hKernelQkIdeal) (hPre_finite_qk := hPre_finite_qk)
    ∧ quiescent_ReferenceQkIdeal (hReferenceQkIdeal := hReferenceQkIdeal)
    ∧ quiescent_ReferenceQkIdeal_pre_finite_qk (hReferenceQkIdeal := hReferenceQkIdeal) (hPre_finite_qk := hPre_finite_qk)
    ∧ quiescent_KernelMergeFwd (hKernelMergeFwd := hKernelMergeFwd)
    ∧ quiescent_KernelMergeFwdIdeal (hKernelMergeFwdIdeal := hKernelMergeFwdIdeal)
    ∧ quiescent_ReferenceMergeFwdIdeal (hReferenceMergeFwdIdeal := hReferenceMergeFwdIdeal)
    ∧ quiescent_KernelNorm1Fwd (hKernelNorm1Fwd := hKernelNorm1Fwd)
    ∧ quiescent_KernelNorm1FwdIdeal (hKernelNorm1FwdIdeal := hKernelNorm1FwdIdeal)
    ∧ quiescent_ReferenceNorm1FwdIdeal (hReferenceNorm1FwdIdeal := hReferenceNorm1FwdIdeal)
    ∧ quiescent_KernelNorm2Fwd (hKernelNorm2Fwd := hKernelNorm2Fwd)
    ∧ quiescent_KernelNorm2FwdIdeal (hKernelNorm2FwdIdeal := hKernelNorm2FwdIdeal)
    ∧ quiescent_ReferenceNorm2FwdIdeal (hReferenceNorm2FwdIdeal := hReferenceNorm2FwdIdeal)
    ∧ quiescent_KernelLatFwd (hKernelLatFwd := hKernelLatFwd)
    ∧ quiescent_KernelLatFwdIdeal (hKernelLatFwdIdeal := hKernelLatFwdIdeal)
    ∧ quiescent_ReferenceLatFwdIdeal (hReferenceLatFwdIdeal := hReferenceLatFwdIdeal)
    ∧ quiescent_KernelQkFwd (hKernelQkFwd := hKernelQkFwd)
    ∧ quiescent_KernelQkFwdIdeal (hKernelQkFwdIdeal := hKernelQkFwdIdeal)
    ∧ quiescent_ReferenceQkFwdIdeal (hReferenceQkFwdIdeal := hReferenceQkFwdIdeal)
    ∧ quiescent_KernelGla (hKernelGla := hKernelGla)
    ∧ quiescent_KernelGlaIdeal (hKernelGlaIdeal := hKernelGlaIdeal)
    ∧ quiescent_KernelGlaFwd (hKernelGlaFwd := hKernelGlaFwd)
    ∧ quiescent_KernelGlaFwdIdeal (hKernelGlaFwdIdeal := hKernelGlaFwdIdeal)
    ∧ quiescent_ReferenceGlaFwdIdeal (hReferenceGlaFwdIdeal := hReferenceGlaFwdIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelProjDx (hKernelProjDx := hKernelProjDx)
    ∧ quiescent_KernelProjDxIdeal (hKernelProjDxIdeal := hKernelProjDxIdeal)
    ∧ quiescent_ReferenceProjDxIdeal (hReferenceProjDxIdeal := hReferenceProjDxIdeal)
    ∧ quiescent_KernelProjDw (hKernelProjDw := hKernelProjDw)
    ∧ quiescent_KernelProjDwIdeal (hKernelProjDwIdeal := hKernelProjDwIdeal)
    ∧ quiescent_ReferenceProjDwIdeal (hReferenceProjDwIdeal := hReferenceProjDwIdeal)
    ∧ preserves_Kernel_KernelIdeal
    ∧ algebraic_KernelIdeal_ReferenceIdeal (hKernelIdeal := hKernelIdeal) (hReferenceIdeal := hReferenceIdeal)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelAttnFwd_KernelAttnFwdIdeal
    ∧ algebraic_KernelAttnFwdIdeal_ReferenceAttnFwdIdeal_pre_finite_scores (hKernelAttnFwdIdeal := hKernelAttnFwdIdeal) (hReferenceAttnFwdIdeal := hReferenceAttnFwdIdeal) (hPre_finite_scores := hPre_finite_scores)
    ∧ preserves_KernelLat_KernelLatIdeal
    ∧ algebraic_KernelLatIdeal_ReferenceLatIdeal_pre_finite_lat (hKernelLatIdeal := hKernelLatIdeal) (hReferenceLatIdeal := hReferenceLatIdeal) (hPre_finite_lat := hPre_finite_lat)
    ∧ preserves_KernelNorm1_KernelNorm1Ideal
    ∧ algebraic_KernelNorm1Ideal_ReferenceNorm1Ideal_pre_finite_norm1 (hKernelNorm1Ideal := hKernelNorm1Ideal) (hReferenceNorm1Ideal := hReferenceNorm1Ideal) (hPre_finite_norm1 := hPre_finite_norm1)
    ∧ preserves_KernelNorm2_KernelNorm2Ideal
    ∧ algebraic_KernelNorm2Ideal_ReferenceNorm2Ideal_pre_finite_norm2 (hKernelNorm2Ideal := hKernelNorm2Ideal) (hReferenceNorm2Ideal := hReferenceNorm2Ideal) (hPre_finite_norm2 := hPre_finite_norm2)
    ∧ preserves_KernelLoss_KernelLossIdeal
    ∧ algebraic_KernelLossIdeal_ReferenceLossIdeal (hKernelLossIdeal := hKernelLossIdeal) (hReferenceLossIdeal := hReferenceLossIdeal)
    ∧ preserves_KernelRelu2_KernelRelu2Ideal
    ∧ algebraic_KernelRelu2Ideal_ReferenceRelu2Ideal (hKernelRelu2Ideal := hKernelRelu2Ideal) (hReferenceRelu2Ideal := hReferenceRelu2Ideal)
    ∧ preserves_KernelQk_KernelQkIdeal
    ∧ algebraic_KernelQkIdeal_ReferenceQkIdeal_pre_finite_qk (hKernelQkIdeal := hKernelQkIdeal) (hReferenceQkIdeal := hReferenceQkIdeal) (hPre_finite_qk := hPre_finite_qk)
    ∧ preserves_KernelMergeFwd_KernelMergeFwdIdeal
    ∧ algebraic_KernelMergeFwdIdeal_ReferenceMergeFwdIdeal (hKernelMergeFwdIdeal := hKernelMergeFwdIdeal) (hReferenceMergeFwdIdeal := hReferenceMergeFwdIdeal)
    ∧ preserves_KernelNorm1Fwd_KernelNorm1FwdIdeal
    ∧ algebraic_KernelNorm1FwdIdeal_ReferenceNorm1FwdIdeal (hKernelNorm1FwdIdeal := hKernelNorm1FwdIdeal) (hReferenceNorm1FwdIdeal := hReferenceNorm1FwdIdeal)
    ∧ preserves_KernelNorm2Fwd_KernelNorm2FwdIdeal
    ∧ algebraic_KernelNorm2FwdIdeal_ReferenceNorm2FwdIdeal (hKernelNorm2FwdIdeal := hKernelNorm2FwdIdeal) (hReferenceNorm2FwdIdeal := hReferenceNorm2FwdIdeal)
    ∧ preserves_KernelLatFwd_KernelLatFwdIdeal
    ∧ algebraic_KernelLatFwdIdeal_ReferenceLatFwdIdeal (hKernelLatFwdIdeal := hKernelLatFwdIdeal) (hReferenceLatFwdIdeal := hReferenceLatFwdIdeal)
    ∧ preserves_KernelQkFwd_KernelQkFwdIdeal
    ∧ algebraic_KernelQkFwdIdeal_ReferenceQkFwdIdeal (hKernelQkFwdIdeal := hKernelQkFwdIdeal) (hReferenceQkFwdIdeal := hReferenceQkFwdIdeal)
    ∧ preserves_KernelGla_KernelGlaIdeal
    ∧ preserves_KernelGlaFwd_KernelGlaFwdIdeal
    ∧ algebraic_KernelGlaFwdIdeal_ReferenceGlaFwdIdeal (hKernelGlaFwdIdeal := hKernelGlaFwdIdeal) (hReferenceGlaFwdIdeal := hReferenceGlaFwdIdeal)
    ∧ preserves_KernelProj_KernelProjIdeal
    ∧ algebraic_KernelProjIdeal_ReferenceProjIdeal (hKernelProjIdeal := hKernelProjIdeal) (hReferenceProjIdeal := hReferenceProjIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelProjDx_KernelProjDxIdeal
    ∧ algebraic_KernelProjDxIdeal_ReferenceProjDxIdeal (hKernelProjDxIdeal := hKernelProjDxIdeal) (hReferenceProjDxIdeal := hReferenceProjDxIdeal)
    ∧ preserves_KernelProjDw_KernelProjDwIdeal
    ∧ algebraic_KernelProjDwIdeal_ReferenceProjDwIdeal (hKernelProjDwIdeal := hKernelProjDwIdeal) (hReferenceProjDwIdeal := hReferenceProjDwIdeal)
-- ==== Pre_finite_attn.lean ====
abbrev S2x2048x16x96 : Shape := ⟨4, ![2, 2048, 16, 96]⟩
abbrev S2x2048x16x64 : Shape := ⟨4, ![2, 2048, 16, 64]⟩
abbrev S_ : Shape := ⟨0, ![]⟩

class Facts : Prop where
  bcast_S_S2x2048x16x96 : S_.BroadcastsInDim S2x2048x16x96 (![] : Fin 0 → Fin S2x2048x16x96.rank)
  reducesTo_S2x2048x16x96_S_d0_1_2_3 : S2x2048x16x96.ReducesTo [0, 1, 2, 3] S_
  h_S_ : 0 < S_.numel
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_

variable [Facts]

def fn_part1 {F : FTy → Type} [FloatOps F] (main_v13 : IVec S_ 1) (main_v16 : IVec S2x2048x16x64 1) : IVec S_ 1 :=
  let main_c_5 : IVec S_ 1 := constantI S_ 1 1#1
  let main_v17 : IVec S_ 1 := (fun x v => Host.reduce IntOp.andi x v reducesTo_S2x2048x16x64_S_d0_1_2_3 h_S_) main_v16 main_c_5
  let main_v18 : IVec S_ 1 := andi main_v13 main_v17
  main_v18

def fn {F : FTy → Type} [FloatOps F] (main_arg0 : FVec F S2x2048x16x96 .f32) (main_arg1 : FVec F S2x2048x16x96 .f32) (main_arg2 : FVec F S2x2048x16x64 .f32) (main_arg3 : FVec F S2x2048x16x64 .f32) : IVec S_ 1 :=
  let main_v0 : FVec F S2x2048x16x96 .f32 := Host.absf main_arg0
  let main_cst : FVec F S_ .f32 := constant S_ .f32 0x7F800000#32
  let main_v1 : FVec F S2x2048x16x96 .f32 := broadcastInDim S2x2048x16x96 ![] bcast_S_S2x2048x16x96 main_cst
  let main_v2 : IVec S2x2048x16x96 1 := cmpf .olt main_v0 main_v1
  let main_c : IVec S_ 1 := constantI S_ 1 1#1
  let main_v3 : IVec S_ 1 := (fun x v => Host.reduce IntOp.andi x v reducesTo_S2x2048x16x96_S_d0_1_2_3 h_S_) main_v2 main_c
  let main_v4 : FVec F S2x2048x16x96 .f32 := Host.absf main_arg1
  let main_cst_0 : FVec F S_ .f32 := constant S_ .f32 0x7F800000#32
  let main_v5 : FVec F S2x2048x16x96 .f32 := broadcastInDim S2x2048x16x96 ![] bcast_S_S2x2048x16x96 main_cst_0
  let main_v6 : IVec S2x2048x16x96 1 := cmpf .olt main_v4 main_v5
  let main_c_1 : IVec S_ 1 := constantI S_ 1 1#1
  let main_v7 : IVec S_ 1 := (fun x v => Host.reduce IntOp.andi x v reducesTo_S2x2048x16x96_S_d0_1_2_3 h_S_) main_v6 main_c_1
  let main_v8 : IVec S_ 1 := andi main_v3 main_v7
  let main_v9 : FVec F S2x2048x16x64 .f32 := Host.absf main_arg2
  let main_cst_2 : FVec F S_ .f32 := constant S_ .f32 0x7F800000#32
  let main_v10 : FVec F S2x2048x16x64 .f32 := broadcastInDim S2x2048x16x64 ![] bcast_S_S2x2048x16x64 main_cst_2
  let main_v11 : IVec S2x2048x16x64 1 := cmpf .olt main_v9 main_v10
  let main_c_3 : IVec S_ 1 := constantI S_ 1 1#1
  let main_v12 : IVec S_ 1 := (fun x v => Host.reduce IntOp.andi x v reducesTo_S2x2048x16x64_S_d0_1_2_3 h_S_) main_v11 main_c_3
  let main_v13 : IVec S_ 1 := andi main_v8 main_v12
  let main_v14 : FVec F S2x2048x16x64 .f32 := Host.absf main_arg3
  let main_cst_4 : FVec F S_ .f32 := constant S_ .f32 0x7F800000#32
  let main_v15 : FVec F S2x2048x16x64 .f32 := broadcastInDim S2x2048x16x64 ![] bcast_S_S2x2048x16x64 main_cst_4
  let main_v16 : IVec S2x2048x16x64 1 := cmpf .olt main_v14 main_v15
  fn_part1 (F := F) main_v13 main_v16
-- ==== Pre_finite_lat.lean ====
abbrev S2x2048x256 : Shape := ⟨3, ![2, 2048, 256]⟩
abbrev S2x2048x128 : Shape := ⟨3, ![2, 2048, 128]⟩
abbrev S2x2048x5552 : Shape := ⟨3, ![2, 2048, 5552]⟩
abbrev S1x256 : Shape := ⟨2, ![1, 256]⟩
abbrev S1x128 : Shape := ⟨2, ![1, 128]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S2x2048x128 : S_.BroadcastsInDim S2x2048x128 (![] : Fin 0 → Fin S2x2048x128.rank)
  reducesTo_S2x2048x128_S_d0_1_2 : S2x2048x128.ReducesTo [0, 1, 2] S_
  bcast_S_S2x2048x5552 : S_.BroadcastsInDim S2x2048x5552 (![] : Fin 0 → Fin S2x2048x5552.rank)
  reducesTo_S2x2048x5552_S_d0_1_2 : S2x2048x5552.ReducesTo [0, 1, 2] S_
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S2x2048x256 .f32) (main_arg1 : FVec F S2x2048x128 .f32) (main_arg2 : FVec F S2x2048x5552 .f32) (main_arg3 : FVec F S1x256 .f32) (main_arg4 : FVec F S1x128 .f32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S2x2048x128 .f32 := Host.absf main_arg1
  let main_cst_0 : FVec F S_ .f32 := constant S_ .f32 0x7F800000#32
  let main_v5 : FVec F S2x2048x128 .f32 := broadcastInDim S2x2048x128 ![] bcast_S_S2x2048x128 main_cst_0
  let main_v6 : IVec S2x2048x128 1 := cmpf .olt main_v4 main_v5
  let main_c_1 : IVec S_ 1 := constantI S_ 1 1#1
  let main_v7 : IVec S_ 1 := (fun x v => Host.reduce IntOp.andi x v reducesTo_S2x2048x128_S_d0_1_2 h_S_) main_v6 main_c_1
  let main_v8 : IVec S_ 1 := andi main_v3 main_v7
  let main_v9 : FVec F S2x2048x5552 .f32 := Host.absf main_arg2
  let main_cst_2 : FVec F S_ .f32 := constant S_ .f32 0x7F800000#32
  let main_v10 : FVec F S2x2048x5552 .f32 := broadcastInDim S2x2048x5552 ![] bcast_S_S2x2048x5552 main_cst_2
  let main_v11 : IVec S2x2048x5552 1 := cmpf .olt main_v9 main_v10
  let main_c_3 : IVec S_ 1 := constantI S_ 1 1#1
  let main_v12 : IVec S_ 1 := (fun x v => Host.reduce IntOp.andi x v reducesTo_S2x2048x5552_S_d0_1_2 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_v13 main_v16
-- ==== Pre_finite_norm1.lean ====
abbrev S2x2048x1024 : Shape := ⟨3, ![2, 2048, 1024]⟩
abbrev S1x1024 : Shape := ⟨2, ![1, 1024]⟩
abbrev S2x1024 : Shape := ⟨2, ![2, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  main_v18

def fn {F : FTy → Type} [FloatOps F] (main_arg0 : FVec F S2x2048x1024 .f32) (main_arg1 : FVec F S2x2048x1024 .f32) (main_arg2 : FVec F S2x2048x1024 .f32) (main_arg3 : FVec F S1x1024 .f32) (main_arg4 : FVec F S2x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2x1024 .f32 := Host.absf main_arg4
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_v13 main_v16
-- ==== Pre_finite_norm2.lean ====
abbrev S2x2048x1024 : Shape := ⟨3, ![2, 2048, 1024]⟩
abbrev S2x1024 : Shape := ⟨2, ![2, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_arg7 : FVec F S2x1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S2x1024 .f32 := Host.absf main_arg7
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  main_v28

def fn {F : FTy → Type} [FloatOps F] (main_arg0 : FVec F S2x2048x1024 .f32) (main_arg1 : FVec F S2x2048x1024 .f32) (main_arg2 : FVec F S2x2048x1024 .f32) (main_arg3 : FVec F S2x2048x1024 .f32) (main_arg4 : FVec F S2x1024 .f32) (main_arg5 : FVec F S1x1024 .f32) (main_arg6 : FVec F S2x1024 .f32) (main_arg7 : FVec F S2x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg2
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2x1024 .f32 := Host.absf main_arg4
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg5 main_arg7 main_v13 main_v16
-- ==== Pre_finite_qk.lean ====
abbrev S2x2048x16x96 : Shape := ⟨4, ![2, 2048, 16, 96]⟩
abbrev S2x2048x16x64 : Shape := ⟨4, ![2, 2048, 16, 64]⟩
abbrev S2x2048x16x128 : Shape := ⟨4, ![2, 2048, 16, 128]⟩
abbrev S2x2048x5552 : Shape := ⟨3, ![2, 2048, 5552]⟩
abbrev S2x2048 : Shape := ⟨2, ![2, 2048]⟩
abbrev S1x96 : Shape := ⟨2, ![1, 96]⟩
abbrev S_ : Shape := ⟨0, ![]⟩

class Facts : Prop where
  bcast_S_S2x2048x16x96 : S_.BroadcastsInDim S2x2048x16x96 (![] : Fin 0 → Fin S2x2048x16x96.rank)
  reducesTo_S2x2048x16x96_S_d0_1_2_3 : S2x2048x16x96.ReducesTo [0, 1, 2, 3] S_
  h_S_ : 0 < S_.numel
  bcast_S_S2x2048x16x128 : S_.BroadcastsInDim S2x2048x16x128 (![] : Fin 0 → Fin S2x2048x16x128.rank)
  reducesTo_S2x2048x16x128_S_d0_1_2_3 : S2x2048x16x128.ReducesTo [0, 1, 2, 3] S_
  bcast_S_S2x2048x5552 : S_.BroadcastsInDim S2x2048x5552 (![] : Fin 0 → Fin S2x2048x5552.rank)
  reducesTo_S2x2048x5552_S_d0_1_2 : S2x2048x5552.ReducesTo [0, 1, 2] S_
  bcast_S_S1x96 : S_.BroadcastsInDim S1x96 (![] : Fin 0 → Fin S1x96.rank)
  reducesTo_S1x96_S_d0_1 : S1x96.ReducesTo [0, 1] S_

variable [Facts]

def fn_part1 {F : FTy → Type} [FloatOps F] (main_arg5 : FVec F S2x2048x5552 .f32) (main_arg7 : FVec F S1x96 .f32) (main_arg8 : FVec F S1x96 .f32) (main_v13 : IVec S_ 1) (main_v16 : IVec S2x2048x16x128 1) : IVec S_ 1 :=
  let main_c_5 : IVec S_ 1 := constantI S_ 1 1#1
  let main_v17 : IVec S_ 1 := (fun x v => Host.reduce IntOp.andi x v reducesTo_S2x2048x16x128_S_d0_1_2_3 h_S_) main_v16 main_c_5
  let main_v18 : IVec S_ 1 := andi main_v13 main_v17
  let main_v19 : FVec F S2x2048x5552 .f32 := Host.absf main_arg5
  let main_cst_6 : FVec F S_ .f32 := constant S_ .f32 0x7F800000#32
  let main_v20 : FVec F S2x2048x5552 .f32 := broadcastInDim S2x2048x5552 ![] bcast_S_S2x2048x5552 main_cst_6
  let main_v21 : IVec S2x2048x5552 1 := cmpf .olt main_v19 main_v20
  let main_c_7 : IVec S_ 1 := constantI S_ 1 1#1
  let main_v22 : IVec S_ 1 := (fun x v => Host.reduce IntOp.andi x v reducesTo_S2x2048x5552_S_d0_1_2 h_S_) main_v21 main_c_7
  let main_v23 : IVec S_ 1 := andi main_v18 main_v22
  let main_v24 : FVec F S1x96 .f32 := Host.absf main_arg7
  let main_cst_8 : FVec F S_ .f32 := constant S_ .f32 0x7F800000#32
  let main_v25 : FVec F S1x96 .f32 := broadcastInDim S1x96 ![] bcast_S_S1x96 main_cst_8
  let main_v26 : IVec S1x96 1 := cmpf .olt main_v24 main_v25
  let main_c_9 : IVec S_ 1 := constantI S_ 1 1#1
  let main_v27 : IVec S_ 1 := (fun x v => Host.reduce IntOp.andi x v reducesTo_S1x96_S_d0_1 h_S_) main_v26 main_c_9
  let main_v28 : IVec S_ 1 := andi main_v23 main_v27
  let main_v29 : FVec F S1x96 .f32 := Host.absf main_arg8
  let main_cst_10 : FVec F S_ .f32 := constant S_ .f32 0x7F800000#32
  let main_v30 : FVec F S1x96 .f32 := broadcastInDim S1x96 ![] bcast_S_S1x96 main_cst_10
  let main_v31 : IVec S1x96 1 := cmpf .olt main_v29 main_v30
  let main_c_11 : IVec S_ 1 := constantI S_ 1 1#1
  let main_v32 : IVec S_ 1 := (fun x v => Host.reduce IntOp.andi x v reducesTo_S1x96_S_d0_1 h_S_) main_v31 main_c_11
  let main_v33 : IVec S_ 1 := andi main_v28 main_v32
  main_v33

def fn {F : FTy → Type} [FloatOps F] (main_arg0 : FVec F S2x2048x16x96 .f32) (main_arg1 : FVec F S2x2048x16x96 .f32) (main_arg2 : FVec F S2x2048x16x64 .f32) (main_arg3 : FVec F S2x2048x16x96 .f32) (main_arg4 : FVec F S2x2048x16x128 .f32) (main_arg5 : FVec F S2x2048x5552 .f32) (main_arg6 : IVec S2x2048 32) (main_arg7 : FVec F S1x96 .f32) (main_arg8 : FVec F S1x96 .f32) : IVec S_ 1 :=
  let main_v0 : FVec F S2x2048x16x96 .f32 := Host.absf main_arg0
  let main_cst : FVec F S_ .f32 := constant S_ .f32 0x7F800000#32
  let main_v1 : FVec F S2x2048x16x96 .f32 := broadcastInDim S2x2048x16x96 ![] bcast_S_S2x2048x16x96 main_cst
  let main_v2 : IVec S2x2048x16x96 1 := cmpf .olt main_v0 main_v1
  let main_c : IVec S_ 1 := constantI S_ 1 1#1
  let main_v3 : IVec S_ 1 := (fun x v => Host.reduce IntOp.andi x v reducesTo_S2x2048x16x96_S_d0_1_2_3 h_S_) main_v2 main_c
  let main_v4 : FVec F S2x2048x16x96 .f32 := Host.absf main_arg1
  let main_cst_0 : FVec F S_ .f32 := constant S_ .f32 0x7F800000#32
  let main_v5 : FVec F S2x2048x16x96 .f32 := broadcastInDim S2x2048x16x96 ![] bcast_S_S2x2048x16x96 main_cst_0
  let main_v6 : IVec S2x2048x16x96 1 := cmpf .olt main_v4 main_v5
  let main_c_1 : IVec S_ 1 := constantI S_ 1 1#1
  let main_v7 : IVec S_ 1 := (fun x v => Host.reduce IntOp.andi x v reducesTo_S2x2048x16x96_S_d0_1_2_3 h_S_) main_v6 main_c_1
  let main_v8 : IVec S_ 1 := andi main_v3 main_v7
  let main_v9 : FVec F S2x2048x16x96 .f32 := Host.absf main_arg3
  let main_cst_2 : FVec F S_ .f32 := constant S_ .f32 0x7F800000#32
  let main_v10 : FVec F S2x2048x16x96 .f32 := broadcastInDim S2x2048x16x96 ![] bcast_S_S2x2048x16x96 main_cst_2
  let main_v11 : IVec S2x2048x16x96 1 := cmpf .olt main_v9 main_v10
  let main_c_3 : IVec S_ 1 := constantI S_ 1 1#1
  let main_v12 : IVec S_ 1 := (fun x v => Host.reduce IntOp.andi x v reducesTo_S2x2048x16x96_S_d0_1_2_3 h_S_) main_v11 main_c_3
  let main_v13 : IVec S_ 1 := andi main_v8 main_v12
  let main_v14 : FVec F S2x2048x16x128 .f32 := Host.absf main_arg4
  let main_cst_4 : FVec F S_ .f32 := constant S_ .f32 0x7F800000#32
  let main_v15 : FVec F S2x2048x16x128 .f32 := broadcastInDim S2x2048x16x128 ![] bcast_S_S2x2048x16x128 main_cst_4
  let main_v16 : IVec S2x2048x16x128 1 := cmpf .olt main_v14 main_v15
  fn_part1 (F := F) main_arg5 main_arg7 main_arg8 main_v13 main_v16
-- ==== Pre_finite_scores.lean ====
abbrev S2x2048x16x96 : Shape := ⟨4, ![2, 2048, 16, 96]⟩
abbrev S2x2048x16x64 : Shape := ⟨4, ![2, 2048, 16, 64]⟩
abbrev S_ : Shape := ⟨0, ![]⟩

class Facts : Prop where
  bcast_S_S2x2048x16x96 : S_.BroadcastsInDim S2x2048x16x96 (![] : Fin 0 → Fin S2x2048x16x96.rank)
  reducesTo_S2x2048x16x96_S_d0_1_2_3 : S2x2048x16x96.ReducesTo [0, 1, 2, 3] S_
  h_S_ : 0 < S_.numel

variable [Facts]

def fn {F : FTy → Type} [FloatOps F] (main_arg0 : FVec F S2x2048x16x96 .f32) (main_arg1 : FVec F S2x2048x16x96 .f32) (main_arg2 : FVec F S2x2048x16x64 .f32) : IVec S_ 1 :=
  let main_v0 : FVec F S2x2048x16x96 .f32 := Host.absf main_arg0
  let main_cst : FVec F S_ .f32 := constant S_ .f32 0x7F800000#32
  let main_v1 : FVec F S2x2048x16x96 .f32 := broadcastInDim S2x2048x16x96 ![] bcast_S_S2x2048x16x96 main_cst
  let main_v2 : IVec S2x2048x16x96 1 := cmpf .olt main_v0 main_v1
  let main_c : IVec S_ 1 := constantI S_ 1 1#1
  let main_v3 : IVec S_ 1 := (fun x v => Host.reduce IntOp.andi x v reducesTo_S2x2048x16x96_S_d0_1_2_3 h_S_) main_v2 main_c
  let main_v4 : FVec F S2x2048x16x96 .f32 := Host.absf main_arg1
  let main_cst_0 : FVec F S_ .f32 := constant S_ .f32 0x7F800000#32
  let main_v5 : FVec F S2x2048x16x96 .f32 := broadcastInDim S2x2048x16x96 ![] bcast_S_S2x2048x16x96 main_cst_0
  let main_v6 : IVec S2x2048x16x96 1 := cmpf .olt main_v4 main_v5
  let main_c_1 : IVec S_ 1 := constantI S_ 1 1#1
  let main_v7 : IVec S_ 1 := (fun x v => Host.reduce IntOp.andi x v reducesTo_S2x2048x16x96_S_d0_1_2_3 h_S_) main_v6 main_c_1
  let main_v8 : IVec S_ 1 := andi main_v3 main_v7
  main_v8
-- ==== Kernel.lean ====
abbrev S2x2048x1024 : Shape := ⟨3, ![2, 2048, 1024]⟩
abbrev S2x2048x5552 : Shape := ⟨3, ![2, 2048, 5552]⟩
abbrev S1x2048 : Shape := ⟨2, ![1, 2048]⟩
abbrev S2x2048x3072 : Shape := ⟨3, ![2, 2048, 3072]⟩
abbrev S2x2048x2048 : Shape := ⟨3, ![2, 2048, 2048]⟩
abbrev S2x2048x256 : Shape := ⟨3, ![2, 2048, 256]⟩
abbrev S2x2048x128 : Shape := ⟨3, ![2, 2048, 128]⟩
abbrev S2x2048x16 : Shape := ⟨3, ![2, 2048, 16]⟩
abbrev S_ : Shape := ⟨0, ![]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S1x1024 : Shape := ⟨2, ![1, 1024]⟩
abbrev S1x512x1024 : Shape := ⟨3, ![1, 512, 1024]⟩
abbrev S512x1024 : Shape := ⟨2, ![512, 1024]⟩
abbrev S1024 : Shape := ⟨1, ![1024]⟩

abbrev nBuf : Space → Nat
  | .hbm => 26
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5552, .f32⟩
  | .hbm, ⟨2, _⟩ => ⟨S1x2048, .f32⟩
  | .hbm, ⟨3, _⟩ => ⟨S2x2048x1024, .f32⟩
  | .hbm, ⟨4, _⟩ => ⟨S2x2048x1024, .f32⟩
  | .hbm, ⟨5, _⟩ => ⟨S2x2048x1024, .bf16⟩
  | .hbm, ⟨6, _⟩ => ⟨S2x2048x5552, .bf16⟩
  | .hbm, ⟨7, _⟩ => ⟨S2x2048x3072, .bf16⟩
  | .hbm, ⟨8, _⟩ => ⟨S2x2048x2048, .bf16⟩
  | .hbm, ⟨9, _⟩ => ⟨S2x2048x256, .bf16⟩
  | .hbm, ⟨10, _⟩ => ⟨S2x2048x128, .bf16⟩
  | .hbm, ⟨11, _⟩ => ⟨S2x2048x16, .bf16⟩
  | .hbm, ⟨12, _⟩ => ⟨S_, .bf16⟩
  | .hbm, ⟨13, _⟩ => ⟨S2x2048x176, .bf16⟩
  | .hbm, ⟨14, _⟩ => ⟨S2x2048x32, .bf16⟩
  | .hbm, ⟨15, _⟩ => ⟨S_, .bf16⟩
  | .hbm, ⟨16, _⟩ => ⟨S2x2048x32, .bf16⟩
  | .hbm, ⟨17, _⟩ => ⟨S2x2048x5760, .bf16⟩
  | .hbm, ⟨18, _⟩ => ⟨S2x2048x1024, .bf16⟩
  | .hbm, ⟨19, _⟩ => ⟨S2x2048x1024, .bf16⟩
  | .hbm, ⟨20, _⟩ => ⟨S2x2048x1024, .bf16⟩
  | .hbm, ⟨21, _⟩ => ⟨S2x2048x1024, .bf16⟩
  | .hbm, ⟨22, _⟩ => ⟨S2x2048x1024, .bf16⟩
  | .hbm, ⟨23, _⟩ => ⟨S2x2048x1024, .bf16⟩
  | .hbm, ⟨24, _⟩ => ⟨S1x1024, .f32⟩
  | .hbm, ⟨25, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024, .f32⟩
  | .local _ .vmem, ⟨21, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S2x2048x1024 : Shape := ⟨3, ![2, 2048, 1024]⟩
abbrev S2x2048x5552 : Shape := ⟨3, ![2, 2048, 5552]⟩
abbrev S1x2048 : Shape := ⟨2, ![1, 2048]⟩
abbrev S2x2048x512 : Shape := ⟨3, ![2, 2048, 512]⟩
abbrev S2x2048x16 : Shape := ⟨3, ![2, 2048, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x2048 : Shape := ⟨3, ![2, 2048, 2048]⟩
abbrev S2048 : Shape := ⟨1, ![2048]⟩
abbrev S1x1x2048 : Shape := ⟨3, ![1, 1, 2048]⟩
abbrev S_ : Shape := ⟨0, ![]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5552, .f32⟩
  | .hbm, ⟨2, _⟩ => ⟨S1x2048, .f32⟩
  | .hbm, ⟨3, _⟩ => ⟨S2x2048x1024, .f32⟩
  | .hbm, ⟨4, _⟩ => ⟨S2x2048x1024, .f32⟩
  | .hbm, ⟨5, _⟩ => ⟨S2x2048x512, .f32⟩
  | .hbm, ⟨6, _⟩ => ⟨S2x2048x512, .f32⟩
  | .hbm, ⟨7, _⟩ => ⟨S2x2048x1024, .f32⟩
  | .hbm, ⟨8, _⟩ => ⟨S2x2048x1024, .f32⟩
  | .hbm, ⟨9, _⟩ => ⟨S2x2048x16, .f32⟩
  | .hbm, ⟨10, _⟩ => ⟨S2x2048x256, .f32⟩
  | .hbm, ⟨11, _⟩ => ⟨S2x2048x128, .f32⟩
  | .hbm, ⟨12, _⟩ => ⟨S2x2048x32, .f32⟩
  | .hbm, ⟨13, _⟩ => ⟨S2x2048x2048, .f32⟩
  | .hbm, ⟨14, _⟩ => ⟨S2048, .f32⟩
  | .hbm, ⟨15, _⟩ => ⟨S1x1x2048, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S2x2048x2048, .f32⟩
  | .hbm, ⟨22, _⟩ => ⟨S2x2048x2048, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048x2048, .f32⟩
  | .hbm, ⟨43, _⟩ => ⟨S_, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S_, .f32⟩
  | .hbm, ⟨48, _⟩ => ⟨S2048, .f32⟩
  | .hbm, ⟨49, _⟩ => ⟨S1x1x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2x2048x1024, .bf16⟩
  | .hbm, ⟨54, _⟩ => ⟨S2x2048x1024, .bf16⟩
  | .hbm, ⟨55, _⟩ => ⟨S2x2048x1024, .f32⟩
  | .hbm, ⟨56, _⟩ => ⟨S2x2048x1024, .bf16⟩
  | .hbm, ⟨57, _⟩ => ⟨S2x2048x1024, .f32⟩
  | .hbm, ⟨58, _⟩ => ⟨S2x2048x1024, .bf16⟩
  | .hbm, ⟨59, _⟩ => ⟨S1x1024, .f32⟩
  | .hbm, ⟨60, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== KernelAttn.lean ====
abbrev S2x2048x16x96 : Shape := ⟨4, ![2, 2048, 16, 96]⟩
abbrev S2x2048x16x64 : Shape := ⟨4, ![2, 2048, 16, 64]⟩
abbrev S_ : Shape := ⟨0, ![]⟩
abbrev S2x2048x16x128 : Shape := ⟨4, ![2, 2048, 16, 128]⟩
abbrev S2x2048x2048 : Shape := ⟨3, ![2, 2048, 2048]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 27
  | .vmem => 14
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S2x2048x16x64, .f32⟩
  | .hbm, ⟨4, _⟩ => ⟨S_, .i32⟩
  | .hbm, ⟨5, _⟩ => ⟨S_, .f32⟩
  | .hbm, ⟨6, _⟩ => ⟨S2x2048x16x128, .f32⟩
  | .hbm, ⟨7, _⟩ => ⟨S2x2048x2048, .f32⟩
  | .hbm, ⟨8, _⟩ => ⟨S2x2048x2048, .bf16⟩
  | .hbm, ⟨9, _⟩ => ⟨S_, .i32⟩
  | .hbm, ⟨10, _⟩ => ⟨S_, .f32⟩
  | .hbm, ⟨11, _⟩ => ⟨S2x2048x16x128, .f32⟩
  | .hbm, ⟨12, _⟩ => ⟨S2x2048x2048, .f32⟩
  | .hbm, ⟨13, _⟩ => ⟨S2x2048x2048, .bf16⟩
  | .hbm, ⟨14, _⟩ => ⟨S_, .i32⟩
  | .hbm, ⟨15, _⟩ => ⟨S_, .f32⟩
  | .hbm, ⟨16, _⟩ => ⟨S2x2048x16x128, .f32⟩
  | .hbm, ⟨17, _⟩ => ⟨S2x2048x2048, .f32⟩
  | .hbm, ⟨18, _⟩ => ⟨S2x2048x2048, .bf16⟩
  | .hbm, ⟨19, _⟩ => ⟨S_, .i32⟩
  | .hbm, ⟨20, _⟩ => ⟨S_, .f32⟩
  | .hbm, ⟨21, _⟩ => ⟨S2x2048x16x128, .f32⟩
  | .hbm, ⟨22, _⟩ => ⟨S2x2048x2048, .f32⟩
  | .hbm, ⟨23, _⟩ => ⟨S2x2048x2048, .bf16⟩
  | .hbm, ⟨24, _⟩ => ⟨S2x2048x2048, .f32⟩
  | .hbm, ⟨25, _⟩ => ⟨S2x2048x2048, .f32⟩
  | .hbm, ⟨26, _⟩ => ⟨S2x2048x2048, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | _, _ => ⟨S2x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAttnIdeal.lean ====
variable {F : FTy → Type} [FloatOps F] [Named F]
def κ : String → Option EReal := fun
  | "mask" => some ⊥
  | "prescale" => some (((3424635 / 33554432) * (Real.log 2)⁻¹ : ℝ) : EReal)
  | "unscale" => some (((3424635 / 33554432)⁻¹ * (Real.log 2) : ℝ) : EReal)
  | _ => none
-- ==== ReferenceAttnIdeal.lean ====
abbrev S2x2048x16x96 : Shape := ⟨4, ![2, 2048, 16, 96]⟩
abbrev S2x2048x16x64 : Shape := ⟨4, ![2, 2048, 16, 64]⟩
abbrev S2048 : Shape := ⟨1, ![2048]⟩
abbrev S_ : Shape := ⟨0, ![]⟩
abbrev S2x16x2048x2048 : Shape := ⟨4, ![2, 16, 2048, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x16x2048x96 : Shape := ⟨4, ![2, 16, 2048, 96]⟩
abbrev S2x2048x16x128 : Shape := ⟨4, ![2, 2048, 16, 128]⟩
abbrev S2x2048x2048 : Shape := ⟨3, ![2, 2048, 2048]⟩

abbrev nBuf : Space → Nat
  | .hbm => 120
  | .vmem => 0
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S2x2048x16x64, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2x16x2048x2048, .f32⟩
  | .hbm, ⟨24, _⟩ => ⟨S_, .f32⟩
  | .hbm, ⟨25, _⟩ => ⟨S2x16x2048x2048, .f32⟩
  | .hbm, ⟨26, _⟩ => ⟨S2x16x2048x2048, .f32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S2x16x2048x2048, .i1⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .i1⟩
  | .hbm, ⟨45, _⟩ => ⟨S2x16x2048x2048, .f32⟩
  | .hbm, ⟨46, _⟩ => ⟨S_, .f32⟩
  | .hbm, ⟨47, _⟩ => ⟨S2x16x2048, .f32⟩
  | .hbm, ⟨48, _⟩ => ⟨S_, .f32⟩
  | .hbm, ⟨49, _⟩ => ⟨S2x16x2048, .f32⟩
  | .hbm, ⟨50, _⟩ => ⟨S2x16x2048, .f32⟩
  | .hbm, ⟨51, _⟩ => ⟨S_, .f32⟩
  | .hbm, ⟨52, _⟩ => ⟨S2x16x2048, .f32⟩
  | .hbm, ⟨53, _⟩ => ⟨S2x16x2048, .i1⟩
  | .hbm, ⟨54, _⟩ => ⟨S_, .f32⟩
  | .hbm, ⟨55, _⟩ => ⟨S2x16x2048, .f32⟩
  | .hbm, ⟨56, _⟩ => ⟨S2x16x2048, .i1⟩
  | .hbm, ⟨57, _⟩ => ⟨S_, .f32⟩
  | .hbm, ⟨58, _⟩ => ⟨S2x16x2048, .f32⟩
  | .hbm, ⟨59, _⟩ => ⟨S_, .f32⟩
  | .hbm, ⟨60, _⟩ => ⟨S2x16x2048, .f32⟩
  | .hbm, ⟨61, _⟩ => ⟨S_, .f32⟩
  | .hbm, ⟨62, _⟩ => ⟨S2x16x2048, .f32⟩
  | .hbm, ⟨63, _⟩ => ⟨S2x16x2048, .f32⟩
  | .hbm, ⟨64, _⟩ => ⟨S2x16x2048, .f32⟩
  | .hbm, ⟨65, _⟩ => ⟨S2x16x2048x1, .f32⟩
  | .hbm, ⟨66, _⟩ => ⟨S2x16x2048x2048, .f32⟩
  | .hbm, ⟨67, _⟩ => ⟨S2x16x2048x2048, .f32⟩
  | .hbm, ⟨68, _⟩ => ⟨S2x16x2048x2048, .f32⟩
  | .hbm, ⟨69, _⟩ => ⟨S_, .f32⟩
  | .hbm, ⟨70, _⟩ => ⟨S2x16x2048, .f32⟩
  | .hbm, ⟨71, _⟩ => ⟨S2x16x2048x1, .f32⟩
  | .hbm, ⟨72, _⟩ => ⟨S2x16x2048x2048, .f32⟩
  | .hbm, ⟨73, _⟩ => ⟨S2x16x2048x2048, .f32⟩
  | .hbm, ⟨74, _⟩ => ⟨S2x16x2048x1, .f32⟩
  | .hbm, ⟨75, _⟩ => ⟨S_, .f32⟩
  | .hbm, ⟨76, _⟩ => ⟨S2x16x2048x1, .f32⟩
  | .hbm, ⟨77, _⟩ => ⟨S2x16x2048x1, .f32⟩
  | .hbm, ⟨78, _⟩ => ⟨S2x16x64x2048, .f32⟩
  | .hbm, ⟨79, _⟩ => ⟨S2x2048x16x64, .f32⟩
  | .hbm, ⟨80, _⟩ => ⟨S2x16x64x2048, .f32⟩
  | .hbm, ⟨81, _⟩ => ⟨S2x16x2048x2048, .f32⟩
  | .hbm, ⟨82, _⟩ => ⟨S2x16x64x2048, .f32⟩
  | .hbm, ⟨83, _⟩ => ⟨S2x2048x16x64, .f32⟩
  | .hbm, ⟨84, _⟩ => ⟨S2x16x2048x2048, .f32⟩
  | .hbm, ⟨85, _⟩ => ⟨S2x16x2048x2048, .f32⟩
  | .hbm, ⟨86, _⟩ => ⟨S2x16x2048x2048, .f32⟩
  | .hbm, ⟨87, _⟩ => ⟨S_, .f32⟩
  | .hbm, ⟨88, _⟩ => ⟨S2x16x2048, .f32⟩
  | .hbm, ⟨89, _⟩ => ⟨S2x16x2048x1, .f32⟩
  | .hbm, ⟨90, _⟩ => ⟨S2x16x2048x1, .f32⟩
  | .hbm, ⟨91, _⟩ => ⟨S2x16x2048x2048, .f32⟩
  | .hbm, ⟨92, _⟩ => ⟨S2x16x2048x2048, .f32⟩
  | .hbm, ⟨93, _⟩ => ⟨S_, .f32⟩
  | .hbm, ⟨94, _⟩ => ⟨S2x16x2048, .f32⟩
  | .hbm, ⟨95, _⟩ => ⟨S2x16x2048x2048, .f32⟩
  | .hbm, ⟨96, _⟩ => ⟨S2x16x2048x2048, .f32⟩
  | .hbm, ⟨97, _⟩ => ⟨S2x16x2048x2048, .f32⟩
  | .hbm, ⟨98, _⟩ => ⟨S_, .f32⟩
  | .hbm, ⟨99, _⟩ => ⟨S2x16x2048x2048, .f32⟩
  | .hbm, ⟨100, _⟩ => ⟨S2x16x2048x2048, .f32⟩
  | .hbm, ⟨101, _⟩ => ⟨S_, .f32⟩
  | .hbm, ⟨102, _⟩ => ⟨S2x16x2048x2048, .f32⟩
  | .hbm, ⟨103, _⟩ => ⟨S2x16x2048x2048, .f32⟩
  | .hbm, ⟨104, _⟩ => ⟨S2x16x2048x96, .f32⟩
  | .hbm, ⟨105, _⟩ => ⟨S2x2048x16x96, .f32⟩
  | .hbm, ⟨106, _⟩ => ⟨S2x16x2048x96, .f32⟩
  | .hbm, ⟨107, _⟩ => ⟨S2x2048x16x96, .f32⟩
  | .hbm, ⟨108, _⟩ => ⟨S_, .i32⟩
  | .hbm, ⟨109, _⟩ => ⟨S_, .f32⟩
  | .hbm, ⟨110, _⟩ => ⟨S2x2048x16x128, .f32⟩
  | .hbm, ⟨111, _⟩ => ⟨S2x2048x2048, .f32⟩
  | .hbm, ⟨112, _⟩ => ⟨S_, .i32⟩
  | .hbm, ⟨113, _⟩ => ⟨S_, .f32⟩
  | .hbm, ⟨114, _⟩ => ⟨S2x2048x16x128, .f32⟩
  | .hbm, ⟨115, _⟩ => ⟨S2x2048x2048, .f32⟩
  | .hbm, ⟨116, _⟩ => ⟨S_, .i32⟩
  | .hbm, ⟨117, _⟩ => ⟨S_, .f32⟩
  | .hbm, ⟨118, _⟩ => ⟨S2x2048x16x128, .f32⟩
  | .hbm, ⟨119, _⟩ => ⟨S2x2048x2048, .f32⟩
  | _, _ => ⟨S2x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_cst_13 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_14 : Ref sig .tc := ⟨.hbm, 108, rfl⟩
abbrev main_call3_v0 : Ref sig .tc := ⟨.hbm, 109, rfl⟩
abbrev main_v65 : Ref sig .tc := ⟨.hbm, 110, rfl⟩
abbrev main_v66 : Ref sig .tc := ⟨.hbm, 111, rfl⟩
abbrev main_c_15 : Ref sig .tc := ⟨.hbm, 112, rfl⟩
abbrev main_call4_v0 : Ref sig .tc := ⟨.hbm, 113, rfl⟩
abbrev main_v67 : Ref sig .tc := ⟨.hbm, 114, rfl⟩
abbrev main_v68 : Ref sig .tc := ⟨.hbm, 115, rfl⟩
abbrev main_c_16 : Ref sig .tc := ⟨.hbm, 116, rfl⟩
abbrev main_call5_v0 : Ref sig .tc := ⟨.hbm, 117, rfl⟩
abbrev main_v69 : Ref sig .tc := ⟨.hbm, 118, rfl⟩
abbrev main_v70 : Ref sig .tc := ⟨.hbm, 119, rfl⟩

abbrev nD : Nat := 1
abbrev τ : Topo := Topo.v7x

variable {F : FTy → Type} [FloatOps F]
-- ==== KernelAttnFwd.lean ====
abbrev S2x2048x16x96 : Shape := ⟨4, ![2, 2048, 16, 96]⟩
abbrev S2x2048x16x64 : Shape := ⟨4, ![2, 2048, 16, 64]⟩
abbrev S_ : Shape := ⟨0, ![]⟩
abbrev S2x2048x16x128 : Shape := ⟨4, ![2, 2048, 16, 128]⟩
abbrev S2x2048x2048 : Shape := ⟨3, ![2, 2048, 2048]⟩
abbrev S1x2048x128 : Shape := ⟨3, ![1, 2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 19
  | .vmem => 8
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S_, .i32⟩
  | .hbm, ⟨4, _⟩ => ⟨S_, .f32⟩
  | .hbm, ⟨5, _⟩ => ⟨S2x2048x16x128, .f32⟩
  | .hbm, ⟨6, _⟩ => ⟨S2x2048x2048, .f32⟩
  | .hbm, ⟨7, _⟩ => ⟨S2x2048x2048, .bf16⟩
  | .hbm, ⟨8, _⟩ => ⟨S_, .i32⟩
  | .hbm, ⟨9, _⟩ => ⟨S_, .f32⟩
  | .hbm, ⟨10, _⟩ => ⟨S2x2048x16x128, .f32⟩
  | .hbm, ⟨11, _⟩ => ⟨S2x2048x2048, .f32⟩
  | .hbm, ⟨12, _⟩ => ⟨S2x2048x2048, .bf16⟩
  | .hbm, ⟨13, _⟩ => ⟨S_, .i32⟩
  | .hbm, ⟨14, _⟩ => ⟨S_, .f32⟩
  | .hbm, ⟨15, _⟩ => ⟨S2x2048x16x128, .f32⟩
  | .hbm, ⟨16, _⟩ => ⟨S2x2048x2048, .f32⟩
  | .hbm, ⟨17, _⟩ => ⟨S2x2048x2048, .bf16⟩
  | .hbm, ⟨18, _⟩ => ⟨S2x2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S2x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelAttnFwdIdeal.lean ====
variable {F : FTy → Type} [FloatOps F] [Named F]
def κ : String → Option EReal := fun
  | "mask" => some ⊥
  | "prescale" => some (((3424635 / 33554432) * (Real.log 2)⁻¹ : ℝ) : EReal)
  | _ => none
-- ==== ReferenceAttnFwdIdeal.lean ====
abbrev S2x2048x16x96 : Shape := ⟨4, ![2, 2048, 16, 96]⟩
abbrev S2x2048x16x64 : Shape := ⟨4, ![2, 2048, 16, 64]⟩
abbrev S2048 : Shape := ⟨1, ![2048]⟩
abbrev S_ : Shape := ⟨0, ![]⟩
abbrev S2x16x2048x2048 : Shape := ⟨4, ![2, 16, 2048, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x2048x16x128 : Shape := ⟨4, ![2, 2048, 16, 128]⟩
abbrev S2x2048x2048 : Shape := ⟨3, ![2, 2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S1x2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S1x1x2048x2048, .i1⟩
  | .hbm, ⟨32, _⟩ => ⟨S_, .f32⟩
  | .hbm, ⟨33, _⟩ => ⟨S_, .f32⟩
  | .hbm, ⟨34, _⟩ => ⟨S2x16x2048x2048, .i1⟩
  | .hbm, ⟨35, _⟩ => ⟨S2x16x2048x2048, .f32⟩
  | .hbm, ⟨36, _⟩ => ⟨S2x16x2048x2048, .f32⟩
  | .hbm, ⟨37, _⟩ => ⟨S_, .f32⟩
  | .hbm, ⟨38, _⟩ => ⟨S2x16x2048, .f32⟩
  | .hbm, ⟨39, _⟩ => ⟨S_, .f32⟩
  | .hbm, ⟨40, _⟩ => ⟨S2x16x2048, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S_, .f32⟩
  | .hbm, ⟨47, _⟩ => ⟨S2x16x2048, .f32⟩
  | .hbm, ⟨48, _⟩ => ⟨S2x16x2048x1, .f32⟩
  | .hbm, ⟨49, _⟩ => ⟨S2x16x2048x2048, .f32⟩
  | .hbm, ⟨50, _⟩ => ⟨S2x16x2048x2048, .f32⟩
  | .hbm, ⟨51, _⟩ => ⟨S2x16x64x2048, .f32⟩
  | .hbm, ⟨52, _⟩ => ⟨S2x2048x16x64, .f32⟩
  | .hbm, ⟨53, _⟩ => ⟨S_, .i32⟩
  | .hbm, ⟨54, _⟩ => ⟨S_, .f32⟩
  | .hbm, ⟨55, _⟩ => ⟨S2x2048x16x128, .f32⟩
  | .hbm, ⟨56, _⟩ => ⟨S2x2048x2048, .f32⟩
  | .hbm, ⟨57, _⟩ => ⟨S2x2048x2048, .bf16⟩
  | _, _ => ⟨S2x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_call2_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== KernelLat.lean ====
abbrev S2x2048x256 : Shape := ⟨3, ![2, 2048, 256]⟩
abbrev S2x2048x128 : Shape := ⟨3, ![2, 2048, 128]⟩
abbrev S2x2048x5552 : Shape := ⟨3, ![2, 2048, 5552]⟩
abbrev S1x256 : Shape := ⟨2, ![1, 256]⟩
abbrev S1x128 : Shape := ⟨2, ![1, 128]⟩
abbrev S4096x256 : Shape := ⟨2, ![4096, 256]⟩
abbrev S4096x128 : Shape := ⟨2, ![4096, 128]⟩
abbrev S2x2048x3072 : Shape := ⟨3, ![2, 2048, 3072]⟩
abbrev S2x2048x2048 : Shape := ⟨3, ![2, 2048, 2048]⟩
abbrev S2x2048x16 : Shape := ⟨3, ![2, 2048, 16]⟩
abbrev S_ : Shape := ⟨0, ![]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S4096x5760 : Shape := ⟨2, ![4096, 5760]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256 : Shape := ⟨1, ![256]⟩
abbrev S128 : Shape := ⟨1, ![128]⟩

abbrev nBuf : Space → Nat
  | .hbm => 24
  | .vmem => 16
  | .smem => 0
  | _ => 0

abbrev bufTy : (tb : Table) → Fin (tcTables nBuf tb) → BufTy
  | .hbm, ⟨0, _⟩ => ⟨S2x2048x256, .f32⟩
  | .hbm, ⟨1, _⟩ => ⟨S2x2048x128, .f32⟩
  | .hbm, ⟨2, _⟩ => ⟨S2x2048x5552, .f32⟩
  | .hbm, ⟨3, _⟩ => ⟨S1x256, .f32⟩
  | .hbm, ⟨4, _⟩ => ⟨S1x128, .f32⟩
  | .hbm, ⟨5, _⟩ => ⟨S4096x256, .f32⟩
  | .hbm, ⟨6, _⟩ => ⟨S4096x128, .f32⟩
  | .hbm, ⟨7, _⟩ => ⟨S2x2048x5552, .bf16⟩
  | .hbm, ⟨8, _⟩ => ⟨S2x2048x3072, .bf16⟩
  | .hbm, ⟨9, _⟩ => ⟨S2x2048x2048, .bf16⟩
  | .hbm, ⟨10, _⟩ => ⟨S2x2048x256, .bf16⟩
  | .hbm, ⟨11, _⟩ => ⟨S2x2048x128, .bf16⟩
  | .hbm, ⟨12, _⟩ => ⟨S2x2048x16, .bf16⟩
  | .hbm, ⟨13, _⟩ => ⟨S_, .bf16⟩
  | .hbm, ⟨14, _⟩ => ⟨S2x2048x176, .bf16⟩
  | .hbm, ⟨15, _⟩ => ⟨S2x2048x32, .bf16⟩
  | .hbm, ⟨16, _⟩ => ⟨S_, .bf16⟩
  | .hbm, ⟨17, _⟩ => ⟨S2x2048x32, .bf16⟩
  | .hbm, ⟨18, _⟩ => ⟨S2x2048x5760, .bf16⟩
  | .hbm, ⟨19, _⟩ => ⟨S4096x5760, .bf16⟩
  | .hbm, ⟨20, _⟩ => ⟨S4096x256, .bf16⟩
  | .hbm, ⟨21, _⟩ => ⟨S4096x128, .bf16⟩
  | .hbm, ⟨22, _⟩ => ⟨S1x256, .f32⟩
  | .hbm, ⟨23, _⟩ => ⟨S1x128, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | .local _ .vmem, ⟨8, _⟩ => ⟨S1x256, .f32⟩
  | .local _ .vmem, ⟨9, _⟩ => ⟨S1x128, .f32⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S1x256, .f32⟩
  | .local _ .vmem, ⟨15, _⟩ => ⟨S1x128, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceLatIdeal.lean ====
abbrev S2x2048x256 : Shape := ⟨3, ![2, 2048, 256]⟩
abbrev S2x2048x128 : Shape := ⟨3, ![2, 2048, 128]⟩
abbrev S2x2048x5552 : Shape := ⟨3, ![2, 2048, 5552]⟩
abbrev S1x256 : Shape := ⟨2, ![1, 256]⟩
abbrev S1x128 : Shape := ⟨2, ![1, 128]⟩
abbrev S2x2048x512 : Shape := ⟨3, ![2, 2048, 512]⟩
abbrev S2x2048x1024 : Shape := ⟨3, ![2, 2048, 1024]⟩
abbrev S2x2048x16 : Shape := ⟨3, ![2, 2048, 16]⟩
abbrev S2x2048x32 : Shape := ⟨3, ![2, 2048, 32]⟩
abbrev S2x2048x2048 : Shape := ⟨3, ![2, 2048, 2048]⟩
abbrev S256 : Shape := ⟨1, ![256]⟩
abbrev S_ : Shape := ⟨0, ![]⟩
abbrev S2x2048 : Shape := ⟨2, ![2, 2048]⟩
abbrev S2x2048x1 : Shape := ⟨3, ![2, 2048, 1]⟩
abbrev S1x1x256 : Shape := ⟨3, ![1, 1, 256]⟩
abbrev S128 : Shape := ⟨1, ![128]⟩
abbrev S1x1x128 : Shape := ⟨3, ![1, 1, 128]⟩
abbrev S4096x256 : Shape := ⟨2, ![4096, 256]⟩
abbrev S4096x128 : Shape := ⟨2, ![4096, 128]⟩

abbrev nBuf : Space → Nat
  | .hbm => 112
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x128, .f32⟩
  | .hbm, ⟨2, _⟩ => ⟨S2x2048x5552, .f32⟩
  | .hbm, ⟨3, _⟩ => ⟨S1x256, .f32⟩
  | .hbm, ⟨4, _⟩ => ⟨S1x128, .f32⟩
  | .hbm, ⟨5, _⟩ => ⟨S2x2048x512, .f32⟩
  | .hbm, ⟨6, _⟩ => ⟨S2x2048x512, .f32⟩
  | .hbm, ⟨7, _⟩ => ⟨S2x2048x1024, .f32⟩
  | .hbm, ⟨8, _⟩ => ⟨S2x2048x1024, .f32⟩
  | .hbm, ⟨9, _⟩ => ⟨S2x2048x16, .f32⟩
  | .hbm, ⟨10, _⟩ => ⟨S2x2048x256, .f32⟩
  | .hbm, ⟨11, _⟩ => ⟨S2x2048x128, .f32⟩
  | .hbm, ⟨12, _⟩ => ⟨S2x2048x32, .f32⟩
  | .hbm, ⟨13, _⟩ => ⟨S2x2048x2048, .f32⟩
  | .hbm, ⟨14, _⟩ => ⟨S256, .f32⟩
  | .hbm, ⟨15, _⟩ => ⟨S2x2048x256, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x256, .f32⟩
  | .hbm, ⟨31, _⟩ => ⟨S2x2048x256, .f32⟩
  | .hbm, ⟨32, _⟩ => ⟨S1x1x256, .f32⟩
  | .hbm, ⟨33, _⟩ => ⟨S2x2048x256, .f32⟩
  | .hbm, ⟨34, _⟩ => ⟨S2x2048x256, .f32⟩
  | .hbm, ⟨35, _⟩ => ⟨S2x2048x256, .f32⟩
  | .hbm, ⟨36, _⟩ => ⟨S_, .f32⟩
  | .hbm, ⟨37, _⟩ => ⟨S256, .f32⟩
  | .hbm, ⟨38, _⟩ => ⟨S1x1x256, .f32⟩
  | .hbm, ⟨39, _⟩ => ⟨S2x2048x256, .f32⟩
  | .hbm, ⟨40, _⟩ => ⟨S2x2048x256, .f32⟩
  | .hbm, ⟨41, _⟩ => ⟨S_, .f32⟩
  | .hbm, ⟨42, _⟩ => ⟨S256, .f32⟩
  | .hbm, ⟨43, _⟩ => ⟨S2x2048x256, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S2x2048x256, .f32⟩
  | .hbm, ⟨48, _⟩ => ⟨S2x2048x256, .f32⟩
  | .hbm, ⟨49, _⟩ => ⟨S2x2048x1, .f32⟩
  | .hbm, ⟨50, _⟩ => ⟨S_, .f32⟩
  | .hbm, ⟨51, _⟩ => ⟨S2x2048x1, .f32⟩
  | .hbm, ⟨52, _⟩ => ⟨S2x2048x1, .f32⟩
  | .hbm, ⟨53, _⟩ => ⟨S_, .f32⟩
  | .hbm, ⟨54, _⟩ => ⟨S2x2048, .f32⟩
  | .hbm, ⟨55, _⟩ => ⟨S2x2048x256, .f32⟩
  | .hbm, ⟨56, _⟩ => ⟨S2x2048x256, .f32⟩
  | .hbm, ⟨57, _⟩ => ⟨S2x2048x256, .f32⟩
  | .hbm, ⟨58, _⟩ => ⟨S2x2048x256, .f32⟩
  | .hbm, ⟨59, _⟩ => ⟨S2x2048x256, .f32⟩
  | .hbm, ⟨60, _⟩ => ⟨S1x256, .f32⟩
  | .hbm, ⟨61, _⟩ => ⟨S128, .f32⟩
  | .hbm, ⟨62, _⟩ => ⟨S2x2048x128, .f32⟩
  | .hbm, ⟨63, _⟩ => ⟨S_, .f32⟩
  | .hbm, ⟨64, _⟩ => ⟨S2x2048, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S2x2048x1, .f32⟩
  | .hbm, ⟨73, _⟩ => ⟨S2x2048x1, .f32⟩
  | .hbm, ⟨74, _⟩ => ⟨S_, .f32⟩
  | .hbm, ⟨75, _⟩ => ⟨S2x2048x1, .f32⟩
  | .hbm, ⟨76, _⟩ => ⟨S2x2048x1, .f32⟩
  | .hbm, ⟨77, _⟩ => ⟨S2x2048x128, .f32⟩
  | .hbm, ⟨78, _⟩ => ⟨S2x2048x128, .f32⟩
  | .hbm, ⟨79, _⟩ => ⟨S1x1x128, .f32⟩
  | .hbm, ⟨80, _⟩ => ⟨S2x2048x128, .f32⟩
  | .hbm, ⟨81, _⟩ => ⟨S2x2048x128, .f32⟩
  | .hbm, ⟨82, _⟩ => ⟨S2x2048x128, .f32⟩
  | .hbm, ⟨83, _⟩ => ⟨S_, .f32⟩
  | .hbm, ⟨84, _⟩ => ⟨S128, .f32⟩
  | .hbm, ⟨85, _⟩ => ⟨S1x1x128, .f32⟩
  | .hbm, ⟨86, _⟩ => ⟨S2x2048x128, .f32⟩
  | .hbm, ⟨87, _⟩ => ⟨S2x2048x128, .f32⟩
  | .hbm, ⟨88, _⟩ => ⟨S_, .f32⟩
  | .hbm, ⟨89, _⟩ => ⟨S128, .f32⟩
  | .hbm, ⟨90, _⟩ => ⟨S2x2048x128, .f32⟩
  | .hbm, ⟨91, _⟩ => ⟨S_, .f32⟩
  | .hbm, ⟨92, _⟩ => ⟨S2x2048, .f32⟩
  | .hbm, ⟨93, _⟩ => ⟨S2x2048x1, .f32⟩
  | .hbm, ⟨94, _⟩ => ⟨S2x2048x128, .f32⟩
  | .hbm, ⟨95, _⟩ => ⟨S2x2048x128, .f32⟩
  | .hbm, ⟨96, _⟩ => ⟨S2x2048x1, .f32⟩
  | .hbm, ⟨97, _⟩ => ⟨S_, .f32⟩
  | .hbm, ⟨98, _⟩ => ⟨S2x2048x1, .f32⟩
  | .hbm, ⟨99, _⟩ => ⟨S2x2048x1, .f32⟩
  | .hbm, ⟨100, _⟩ => ⟨S_, .f32⟩
  | .hbm, ⟨101, _⟩ => ⟨S2x2048, .f32⟩
  | .hbm, ⟨102, _⟩ => ⟨S2x2048x128, .f32⟩
  | .hbm, ⟨103, _⟩ => ⟨S2x2048x128, .f32⟩
  | .hbm, ⟨104, _⟩ => ⟨S2x2048x128, .f32⟩
  | .hbm, ⟨105, _⟩ => ⟨S2x2048x128, .f32⟩
  | .hbm, ⟨106, _⟩ => ⟨S2x2048x128, .f32⟩
  | .hbm, ⟨107, _⟩ => ⟨S1x128, .f32⟩
  | .hbm, ⟨108, _⟩ => ⟨S4096x256, .f32⟩
  | .hbm, ⟨109, _⟩ => ⟨S4096x256, .bf16⟩
  | .hbm, ⟨110, _⟩ => ⟨S4096x128, .f32⟩
  | .hbm, ⟨111, _⟩ => ⟨S4096x128, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_15 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== KernelNorm1.lean ====
abbrev S2x2048x1024 : Shape := ⟨3, ![2, 2048, 1024]⟩
abbrev S1x1024 : Shape := ⟨2, ![1, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1024, .f32⟩
  | .hbm, ⟨4, _⟩ => ⟨S2x1024, .f32⟩
  | .hbm, ⟨5, _⟩ => ⟨S2x1x1024, .f32⟩
  | .hbm, ⟨6, _⟩ => ⟨S2x2048x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceNorm1Ideal.lean ====
abbrev S2x2048x1024 : Shape := ⟨3, ![2, 2048, 1024]⟩
abbrev S1x1024 : Shape := ⟨2, ![1, 1024]⟩
abbrev S2x1024 : Shape := ⟨2, ![2, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x1024, .f32⟩
  | .hbm, ⟨40, _⟩ => ⟨S2x1x1024, .f32⟩
  | .hbm, ⟨41, _⟩ => ⟨S_, .f32⟩
  | .hbm, ⟨42, _⟩ => ⟨S2x1024, .f32⟩
  | .hbm, ⟨43, _⟩ => ⟨S2x2048x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S2x2048x1024, .f32⟩
  | .hbm, ⟨60, _⟩ => ⟨S_, .f32⟩
  | .hbm, ⟨61, _⟩ => ⟨S2x2048, .f32⟩
  | .hbm, ⟨62, _⟩ => ⟨S2x2048x1, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S2x2048x1, .f32⟩
  | .hbm, ⟨67, _⟩ => ⟨S_, .f32⟩
  | .hbm, ⟨68, _⟩ => ⟨S2x2048x1, .f32⟩
  | .hbm, ⟨69, _⟩ => ⟨S2x2048x1, .f32⟩
  | .hbm, ⟨70, _⟩ => ⟨S_, .f32⟩
  | .hbm, ⟨71, _⟩ => ⟨S2x2048, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S1x1024, .f32⟩
  | .hbm, ⟨78, _⟩ => ⟨S2x1x1024, .f32⟩
  | .hbm, ⟨79, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== KernelNorm2.lean ====
abbrev S2x2048x1024 : Shape := ⟨3, ![2, 2048, 1024]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 39
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x1024, .f32⟩
  | .hbm, ⟨5, _⟩ => ⟨S1x1024, .f32⟩
  | .hbm, ⟨6, _⟩ => ⟨S2x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .bf16⟩
  | .hbm, ⟨13, _⟩ => ⟨S2x2048x1024, .f32⟩
  | .hbm, ⟨14, _⟩ => ⟨S2x1x1024, .f32⟩
  | .hbm, ⟨15, _⟩ => ⟨S2x1x1024, .f32⟩
  | .hbm, ⟨16, _⟩ => ⟨S1x1024, .f32⟩
  | .hbm, ⟨17, _⟩ => ⟨S2x1x1024, .f32⟩
  | .hbm, ⟨18, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x512x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x1024, .f32⟩
  | .local _ .vmem, ⟨35, _⟩ => ⟨S1x1x1024, .f32⟩
  | .local _ .vmem, ⟨36, _⟩ => ⟨S1x1x1024, .f32⟩
  | .local _ .vmem, ⟨37, _⟩ => ⟨S1x512x1024, .bf16⟩
  | .local _ .vmem, ⟨38, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg12_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem11_0 : DmaSem sig := 35
abbrev cc1_sem11_1 : DmaSem sig := 36
abbrev cc1_sem12_0 : DmaSem sig := 37
abbrev cc1_sem12_1 : DmaSem sig := 38

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x1x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== ReferenceNorm2Ideal.lean ====
abbrev S2x2048x1024 : Shape := ⟨3, ![2, 2048, 1024]⟩
abbrev S2x1024 : Shape := ⟨2, ![2, 1024]⟩
abbrev S1x1024 : Shape := ⟨2, ![1, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x1024, .f32⟩
  | .hbm, ⟨5, _⟩ => ⟨S1x1024, .f32⟩
  | .hbm, ⟨6, _⟩ => ⟨S2x1024, .f32⟩
  | .hbm, ⟨7, _⟩ => ⟨S2x1024, .f32⟩
  | .hbm, ⟨8, _⟩ => ⟨S2x1x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S2x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x2048x1024, .f32⟩
  | .hbm, ⟨38, _⟩ => ⟨S2x2048x1024, .f32⟩
  | .hbm, ⟨39, _⟩ => ⟨S2x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x1024, .f32⟩
  | .hbm, ⟨48, _⟩ => ⟨S2x2048x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1, .f32⟩
  | .hbm, ⟨72, _⟩ => ⟨S_, .f32⟩
  | .hbm, ⟨73, _⟩ => ⟨S2x2048x1, .f32⟩
  | .hbm, ⟨74, _⟩ => ⟨S2x2048x1, .f32⟩
  | .hbm, ⟨75, _⟩ => ⟨S_, .f32⟩
  | .hbm, ⟨76, _⟩ => ⟨S2x2048, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S1x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S_, .f32⟩
  | .hbm, ⟨88, _⟩ => ⟨S2x1024, .f32⟩
  | .hbm, ⟨89, _⟩ => ⟨S2x1x1024, .f32⟩
  | .hbm, ⟨90, _⟩ => ⟨S_, .f32⟩
  | .hbm, ⟨91, _⟩ => ⟨S2x1024, .f32⟩
  | .hbm, ⟨92, _⟩ => ⟨S2x2048x1024, .bf16⟩
  | .hbm, ⟨93, _⟩ => ⟨S2x1x1024, .f32⟩
  | .hbm, ⟨94, _⟩ => ⟨S2x1x1024, .f32⟩
  | .hbm, ⟨95, _⟩ => ⟨S2x1x1024, .f32⟩
  | .hbm, ⟨96, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== KernelLoss.lean ====
abbrev S2x2048x1024 : Shape := ⟨3, ![2, 2048, 1024]⟩
abbrev S2x1024 : Shape := ⟨2, ![2, 1024]⟩
abbrev S2x1x1024 : Shape := ⟨3, ![2, 1, 1024]⟩
abbrev S8x128 : Shape := ⟨2, ![8, 128]⟩
abbrev S1x512x1024 : Shape := ⟨3, ![1, 512, 1024]⟩
abbrev S1x1x1024 : Shape := ⟨3, ![1, 1, 1024]⟩
abbrev S8x1024 : Shape := ⟨2, ![8, 1024]⟩
abbrev S1x1024 : Shape := ⟨2, ![1, 1024]⟩
abbrev S512x1024 : Shape := ⟨2, ![512, 1024]⟩
abbrev S64x8x1024 : Shape := ⟨3, ![64, 8, 1024]⟩
abbrev S1024 : Shape := ⟨1, ![1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 9
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x2048x1024, .f32⟩
  | .hbm, ⟨4, _⟩ => ⟨S2x1x1024, .f32⟩
  | .hbm, ⟨5, _⟩ => ⟨S2x2048x1024, .f32⟩
  | .hbm, ⟨6, _⟩ => ⟨S2x2048x1024, .bf16⟩
  | .hbm, ⟨7, _⟩ => ⟨S2x1x1024, .f32⟩
  | .hbm, ⟨8, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S8x128, .f32⟩
  | .local _ .vmem, ⟨15, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v48 : BitVec 1 := Scalar.cmpi .eq arg1 c3_i32
  let arg0 : BitVec 32 := BitVec.ofNat 32 (i 0).val
  let c1_i32 : BitVec 32 := 1#32
  let v49 : BitVec 1 := Scalar.cmpi .eq arg0 c1_i32
  let v50 : BitVec 1 := Scalar.andi v48 v49
  let v51 : BitVec 32 := Scalar.extui v50
  let c0_i32_33 : BitVec 32 := 0#32
  let v52 : BitVec 1 := Scalar.cmpi .ne v51 c0_i32_33
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceLossIdeal.lean ====
abbrev S2x2048x1024 : Shape := ⟨3, ![2, 2048, 1024]⟩
abbrev S2x1024 : Shape := ⟨2, ![2, 1024]⟩
abbrev S2x1x1024 : Shape := ⟨3, ![2, 1, 1024]⟩
abbrev S_ : Shape := ⟨0, ![]⟩
abbrev S2x2048 : Shape := ⟨2, ![2, 2048]⟩
abbrev S8x128 : Shape := ⟨2, ![8, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x2048x1024, .f32⟩
  | .hbm, ⟨4, _⟩ => ⟨S2x1x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x1024, .f32⟩
  | .hbm, ⟨36, _⟩ => ⟨S2x1x1024, .f32⟩
  | .hbm, ⟨37, _⟩ => ⟨S_, .f32⟩
  | .hbm, ⟨38, _⟩ => ⟨S2x1024, .f32⟩
  | .hbm, ⟨39, _⟩ => ⟨S2x2048x1024, .bf16⟩
  | .hbm, ⟨40, _⟩ => ⟨S2x1x1024, .f32⟩
  | .hbm, ⟨41, _⟩ => ⟨S8x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== KernelRelu2.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024x4096, .f32⟩
  | .hbm, ⟨3, _⟩ => ⟨S1x4096x1024, .f32⟩
  | .hbm, ⟨4, _⟩ => ⟨S1024x4096, .f32⟩
  | .hbm, ⟨5, _⟩ => ⟨S1024x4096, .bf16⟩
  | .hbm, ⟨6, _⟩ => ⟨S4096x1024, .f32⟩
  | .hbm, ⟨7, _⟩ => ⟨S4096x1024, .bf16⟩
  | .hbm, ⟨8, _⟩ => ⟨S2x2048x1024, .bf16⟩
  | .hbm, ⟨9, _⟩ => ⟨S4096x1024, .bf16⟩
  | .hbm, ⟨10, _⟩ => ⟨S2x2048x1024, .bf16⟩
  | .hbm, ⟨11, _⟩ => ⟨S4096x1024, .bf16⟩
  | .hbm, ⟨12, _⟩ => ⟨S4096x4096, .bf16⟩
  | .hbm, ⟨13, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ReferenceRelu2Ideal.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S2x2048x4096 : Shape := ⟨3, ![2, 2048, 4096]⟩
abbrev S_ : Shape := ⟨0, ![]⟩
abbrev S4096x1024 : Shape := ⟨2, ![4096, 1024]⟩
abbrev S4096x4096 : Shape := ⟨2, ![4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024x4096, .f32⟩
  | .hbm, ⟨3, _⟩ => ⟨S1x4096x1024, .f32⟩
  | .hbm, ⟨4, _⟩ => ⟨S1024x4096, .f32⟩
  | .hbm, ⟨5, _⟩ => ⟨S2x2048x4096, .f32⟩
  | .hbm, ⟨6, _⟩ => ⟨S_, .f32⟩
  | .hbm, ⟨7, _⟩ => ⟨S2x2048x4096, .f32⟩
  | .hbm, ⟨8, _⟩ => ⟨S2x2048x4096, .f32⟩
  | .hbm, ⟨9, _⟩ => ⟨S_, .f32⟩
  | .hbm, ⟨10, _⟩ => ⟨S2x2048x4096, .f32⟩
  | .hbm, ⟨11, _⟩ => ⟨S2x2048x4096, .i1⟩
  | .hbm, ⟨12, _⟩ => ⟨S_, .f32⟩
  | .hbm, ⟨13, _⟩ => ⟨S2x2048x4096, .f32⟩
  | .hbm, ⟨14, _⟩ => ⟨S2x2048x4096, .f32⟩
  | .hbm, ⟨15, _⟩ => ⟨S_, .f32⟩
  | .hbm, ⟨16, _⟩ => ⟨S2x2048x4096, .f32⟩
  | .hbm, ⟨17, _⟩ => ⟨S2x2048x4096, .f32⟩
  | .hbm, ⟨18, _⟩ => ⟨S4096x1024, .f32⟩
  | .hbm, ⟨19, _⟩ => ⟨S2x2048x1024, .f32⟩
  | .hbm, ⟨20, _⟩ => ⟨S4096x4096, .f32⟩
  | .hbm, ⟨21, _⟩ => ⟨S4096x4096, .bf16⟩
  | .hbm, ⟨22, _⟩ => ⟨S2x2048x4096, .f32⟩
  | .hbm, ⟨23, _⟩ => ⟨S2x2048x4096, .f32⟩
  | .hbm, ⟨24, _⟩ => ⟨S_, .f32⟩
  | .hbm, ⟨25, _⟩ => ⟨S2x2048x4096, .f32⟩
  | .hbm, ⟨26, _⟩ => ⟨S2x2048x4096, .f32⟩
  | .hbm, ⟨27, _⟩ => ⟨S4096x4096, .f32⟩
  | .hbm, ⟨28, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KernelQk.lean ====
abbrev S2x2048x16x96 : Shape := ⟨4, ![2, 2048, 16, 96]⟩
abbrev S2x2048x16x64 : Shape := ⟨4, ![2, 2048, 16, 64]⟩
abbrev S2x2048x16x128 : Shape := ⟨4, ![2, 2048, 16, 128]⟩
abbrev S2x2048x5552 : Shape := ⟨3, ![2, 2048, 5552]⟩
abbrev S2x2048 : Shape := ⟨2, ![2, 2048]⟩
abbrev S1x96 : Shape := ⟨2, ![1, 96]⟩
abbrev S128 : Shape := ⟨1, ![128]⟩
abbrev S1x128 : Shape := ⟨2, ![1, 128]⟩
abbrev S16 : Shape := ⟨1, ![16]⟩
abbrev S_ : Shape := ⟨0, ![]⟩
abbrev S128x1 : Shape := ⟨2, ![128, 1]⟩
abbrev S4096x1 : Shape := ⟨2, ![4096, 1]⟩
abbrev S4096x128 : Shape := ⟨2, ![4096, 128]⟩
abbrev S4096x2048 : Shape := ⟨2, ![4096, 2048]⟩
abbrev S2x2048x3072 : Shape := ⟨3, ![2, 2048, 3072]⟩
abbrev S2x2048x2048 : Shape := ⟨3, ![2, 2048, 2048]⟩
abbrev S2x2048x256 : Shape := ⟨3, ![2, 2048, 256]⟩
abbrev S2x2048x128 : Shape := ⟨3, ![2, 2048, 128]⟩
abbrev S2x2048x16 : Shape := ⟨3, ![2, 2048, 16]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S4096x5760 : Shape := ⟨2, ![4096, 5760]⟩
abbrev S2048x128 : Shape := ⟨2, ![2048, 128]⟩
abbrev S2048 : Shape := ⟨1, ![2048]⟩
abbrev S2048x1 : Shape := ⟨2, ![2048, 1]⟩

abbrev nBuf : Space → Nat
  | .hbm => 91
  | .vmem => 26
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S2x2048x16x96, .f32⟩
  | .hbm, ⟨4, _⟩ => ⟨S2x2048x16x128, .f32⟩
  | .hbm, ⟨5, _⟩ => ⟨S2x2048x5552, .f32⟩
  | .hbm, ⟨6, _⟩ => ⟨S2x2048, .i32⟩
  | .hbm, ⟨7, _⟩ => ⟨S1x96, .f32⟩
  | .hbm, ⟨8, _⟩ => ⟨S1x96, .f32⟩
  | .hbm, ⟨9, _⟩ => ⟨S128, .i32⟩
  | .hbm, ⟨10, _⟩ => ⟨S128, .i1⟩
  | .hbm, ⟨11, _⟩ => ⟨S128, .i1⟩
  | .hbm, ⟨12, _⟩ => ⟨S128, .f32⟩
  | .hbm, ⟨13, _⟩ => ⟨S1x128, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S128, .f32⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S2x2048, .f32⟩
  | .hbm, ⟨39, _⟩ => ⟨S4096x1, .f32⟩
  | .hbm, ⟨40, _⟩ => ⟨S1x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S_, .i32⟩
  | .hbm, ⟨49, _⟩ => ⟨S_, .f32⟩
  | .hbm, ⟨50, _⟩ => ⟨S1x128, .f32⟩
  | .hbm, ⟨51, _⟩ => ⟨S_, .i32⟩
  | .hbm, ⟨52, _⟩ => ⟨S_, .f32⟩
  | .hbm, ⟨53, _⟩ => ⟨S1x128, .f32⟩
  | .hbm, ⟨54, _⟩ => ⟨S_, .i32⟩
  | .hbm, ⟨55, _⟩ => ⟨S_, .f32⟩
  | .hbm, ⟨56, _⟩ => ⟨S2x2048x16x128, .f32⟩
  | .hbm, ⟨57, _⟩ => ⟨S4096x2048, .f32⟩
  | .hbm, ⟨58, _⟩ => ⟨S_, .i32⟩
  | .hbm, ⟨59, _⟩ => ⟨S_, .f32⟩
  | .hbm, ⟨60, _⟩ => ⟨S2x2048x16x128, .f32⟩
  | .hbm, ⟨61, _⟩ => ⟨S4096x2048, .f32⟩
  | .hbm, ⟨62, _⟩ => ⟨S_, .i32⟩
  | .hbm, ⟨63, _⟩ => ⟨S_, .f32⟩
  | .hbm, ⟨64, _⟩ => ⟨S2x2048x16x128, .f32⟩
  | .hbm, ⟨65, _⟩ => ⟨S4096x2048, .f32⟩
  | .hbm, ⟨66, _⟩ => ⟨S2x2048x16x96, .bf16⟩
  | .hbm, ⟨67, _⟩ => ⟨S_, .i32⟩
  | .hbm, ⟨68, _⟩ => ⟨S_, .bf16⟩
  | .hbm, ⟨69, _⟩ => ⟨S2x2048x16x128, .bf16⟩
  | .hbm, ⟨70, _⟩ => ⟨S4096x2048, .bf16⟩
  | .hbm, ⟨71, _⟩ => ⟨S2x2048x16x128, .bf16⟩
  | .hbm, ⟨72, _⟩ => ⟨S4096x2048, .bf16⟩
  | .hbm, ⟨73, _⟩ => ⟨S2x2048x5552, .bf16⟩
  | .hbm, ⟨74, _⟩ => ⟨S2x2048x3072, .bf16⟩
  | .hbm, ⟨75, _⟩ => ⟨S2x2048x2048, .bf16⟩
  | .hbm, ⟨76, _⟩ => ⟨S2x2048x256, .bf16⟩
  | .hbm, ⟨77, _⟩ => ⟨S2x2048x128, .bf16⟩
  | .hbm, ⟨78, _⟩ => ⟨S2x2048x16, .bf16⟩
  | .hbm, ⟨79, _⟩ => ⟨S_, .bf16⟩
  | .hbm, ⟨80, _⟩ => ⟨S2x2048x176, .bf16⟩
  | .hbm, ⟨81, _⟩ => ⟨S2x2048x32, .bf16⟩
  | .hbm, ⟨82, _⟩ => ⟨S_, .bf16⟩
  | .hbm, ⟨83, _⟩ => ⟨S2x2048x32, .bf16⟩
  | .hbm, ⟨84, _⟩ => ⟨S2x2048x5760, .bf16⟩
  | .hbm, ⟨85, _⟩ => ⟨S4096x5760, .bf16⟩
  | .hbm, ⟨86, _⟩ => ⟨S4096x2048, .bf16⟩
  | .hbm, ⟨87, _⟩ => ⟨S4096x2048, .bf16⟩
  | .hbm, ⟨88, _⟩ => ⟨S4096x128, .f32⟩
  | .hbm, ⟨89, _⟩ => ⟨S1x128, .f32⟩
  | .hbm, ⟨90, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x128, .f32⟩
  | .local _ .vmem, ⟨17, _⟩ => ⟨S1x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S1x128, .f32⟩
  | .local _ .vmem, ⟨25, _⟩ => ⟨S1x128, .f32⟩
  | _, _ => ⟨S2x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_2 : Ref sig .tc := ⟨.hbm, 15, rfl⟩
abbrev main_v2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_4 : Ref sig .tc := ⟨.hbm, 22, rfl⟩
abbrev main_v7 : Ref sig .tc := ⟨.hbm, 23, rfl⟩
abbrev main_v8 : Ref sig .tc := ⟨.hbm, 24, rfl⟩
abbrev main_cst_5 : Ref sig .tc := ⟨.hbm, 25, rfl⟩
abbrev main_v9 : Ref sig .tc := ⟨.hbm, 26, rfl⟩
abbrev main_v10 : Ref sig .tc := ⟨.hbm, 27, rfl⟩
abbrev main_c_6 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_call1_v0 : Ref sig .tc := ⟨.hbm, 49, rfl⟩
abbrev main_v27 : Ref sig .tc := ⟨.hbm, 50, rfl⟩
abbrev main_c_9 : Ref sig .tc := ⟨.hbm, 51, rfl⟩
abbrev main_call2_v0 : Ref sig .tc := ⟨.hbm, 52, rfl⟩
abbrev main_v28 : Ref sig .tc := ⟨.hbm, 53, rfl⟩
abbrev main_c_10 : Ref sig .tc := ⟨.hbm, 54, rfl⟩
abbrev main_call3_v0 : Ref sig .tc := ⟨.hbm, 55, rfl⟩
abbrev main_v29 : Ref sig .tc := ⟨.hbm, 56, rfl⟩
abbrev main_v30 : Ref sig .tc := ⟨.hbm, 57, rfl⟩
abbrev main_c_11 : Ref sig .tc := ⟨.hbm, 58, rfl⟩
abbrev main_call4_v0 : Ref sig .tc := ⟨.hbm, 59, rfl⟩
abbrev main_v31 : Ref sig .tc := ⟨.hbm, 60, rfl⟩
abbrev main_v32 : Ref sig .tc := ⟨.hbm, 61, rfl⟩
abbrev main_c_12 : Ref sig .tc := ⟨.hbm, 62, rfl⟩
abbrev main_call5_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_13 : Ref sig .tc := ⟨.hbm, 67, rfl⟩
abbrev main_call6_v0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_14 : Ref sig .tc := ⟨.hbm, 79, rfl⟩
abbrev main_v46 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51_0 : Ref sig .tc := ⟨.hbm, 86, rfl⟩
abbrev main_v51_1 : Ref sig .tc := ⟨.hbm, 87, rfl⟩
abbrev main_v51_2 : Ref sig .tc := ⟨.hbm, 88, rfl⟩
abbrev main_v51_3 : Ref sig .tc := ⟨.hbm, 89, rfl⟩
abbrev main_v51_4 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, c44_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== KernelQkIdeal.lean ====
variable {F : FTy → Type} [FloatOps F] [Named F]
def κ : String → Option EReal := fun
  | "mean96" => some ((1 / 96 : ℝ) : EReal)
  | _ => none
-- ==== ReferenceQkIdeal.lean ====
abbrev S2x2048x16x96 : Shape := ⟨4, ![2, 2048, 16, 96]⟩
abbrev S2x2048x16x64 : Shape := ⟨4, ![2, 2048, 16, 64]⟩
abbrev S2x2048x16x128 : Shape := ⟨4, ![2, 2048, 16, 128]⟩
abbrev S2x2048x5552 : Shape := ⟨3, ![2, 2048, 5552]⟩
abbrev S2x2048 : Shape := ⟨2, ![2, 2048]⟩
abbrev S1x96 : Shape := ⟨2, ![1, 96]⟩
abbrev S2x2048x512 : Shape := ⟨3, ![2, 2048, 512]⟩
abbrev S2x2048x1024 : Shape := ⟨3, ![2, 2048, 1024]⟩
abbrev S2x2048x16 : Shape := ⟨3, ![2, 2048, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x2048 : Shape := ⟨3, ![2, 2048, 2048]⟩
abbrev S2x2048x1x32 : Shape := ⟨4, ![2, 2048, 1, 32]⟩
abbrev S2x2048x16x32 : Shape := ⟨4, ![2, 2048, 16, 32]⟩
abbrev S96 : Shape := ⟨1, ![96]⟩
abbrev S_ : Shape := ⟨0, ![]⟩
abbrev S2x2048x16x1 : Shape := ⟨4, ![2, 2048, 16, 1]⟩
abbrev S1x1x1x96 : Shape := ⟨4, ![1, 1, 1, 96]⟩
abbrev S16 : Shape := ⟨1, ![16]⟩
abbrev S2x2048x1 : Shape := ⟨3, ![2, 2048, 1]⟩
abbrev S1x1x16 : Shape := ⟨3, ![1, 1, 16]⟩
abbrev S2x2048x1x16 : Shape := ⟨4, ![2, 2048, 1, 16]⟩
abbrev S2x2048x16x16 : Shape := ⟨4, ![2, 2048, 16, 16]⟩
abbrev S4096x2048 : Shape := ⟨2, ![4096, 2048]⟩
abbrev S4096x128 : Shape := ⟨2, ![4096, 128]⟩
abbrev S1x128 : Shape := ⟨2, ![1, 128]⟩

abbrev nBuf : Space → Nat
  | .hbm => 276
  | .vmem => 0
  | .smem => 0
  | _ => 0

abbrev hbmTy0_0 (i : Nat) : BufTy := match i % 128 with
  | 0 => ⟨S2x2048x16x96, .f32⟩
  | 1 => ⟨S2x2048x16x96, .f32⟩
  | 2 => ⟨S2x2048x16x64, .f32⟩
  | 3 => ⟨S2x2048x16x96, .f32⟩
  | 4 => ⟨S2x2048x16x128, .f32⟩
  | 5 => ⟨S2x2048x5552, .f32⟩
  | 6 => ⟨S2x2048, .i32⟩
  | 7 => ⟨S1x96, .f32⟩
  | 8 => ⟨S1x96, .f32⟩
  | 9 => ⟨S2x2048x512, .f32⟩
  | 10 => ⟨S2x2048x512, .f32⟩
  | 11 => ⟨S2x2048x1024, .f32⟩
  | 12 => ⟨S2x2048x1024, .f32⟩
  | 13 => ⟨S2x2048x16, .f32⟩
  | 14 => ⟨S2x2048x256, .f32⟩
  | 15 => ⟨S2x2048x128, .f32⟩
  | 16 => ⟨S2x2048x32, .f32⟩
  | 17 => ⟨S2x2048x2048, .f32⟩
  | 18 => ⟨S2x2048x16x64, .f32⟩
  | 19 => ⟨S2x2048x16x64, .f32⟩
  | 20 => ⟨S2x2048x1x32, .f32⟩
  | 21 => ⟨S2x2048x16x32, .f32⟩
  | 22 => ⟨S2x2048x16x96, .f32⟩
  | 23 => ⟨S96, .f32⟩
  | 24 => ⟨S2x2048x16x96, .f32⟩
  | 25 => ⟨S_, .f32⟩
  | 26 => ⟨S2x2048x16, .f32⟩
  | 27 => ⟨S2x2048x16x1, .f32⟩
  | 28 => ⟨S_, .f32⟩
  | 29 => ⟨S2x2048x16x1, .f32⟩
  | 30 => ⟨S2x2048x16x1, .f32⟩
  | 31 => ⟨S_, .f32⟩
  | 32 => ⟨S2x2048x16x1, .f32⟩
  | 33 => ⟨S2x2048x16x1, .f32⟩
  | 34 => ⟨S2x2048x16x1, .f32⟩
  | 35 => ⟨S2x2048x16x1, .f32⟩
  | 36 => ⟨S_, .f32⟩
  | 37 => ⟨S2x2048x16x1, .f32⟩
  | 38 => ⟨S2x2048x16x1, .f32⟩
  | 39 => ⟨S2x2048x16x96, .f32⟩
  | 40 => ⟨S2x2048x16x96, .f32⟩
  | 41 => ⟨S1x1x1x96, .f32⟩
  | 42 => ⟨S2x2048x16x96, .f32⟩
  | 43 => ⟨S2x2048x16x96, .f32⟩
  | 44 => ⟨S96, .f32⟩
  | 45 => ⟨S2x2048x16x96, .f32⟩
  | 46 => ⟨S_, .f32⟩
  | 47 => ⟨S2x2048x16, .f32⟩
  | 48 => ⟨S2x2048x16x1, .f32⟩
  | 49 => ⟨S_, .f32⟩
  | 50 => ⟨S2x2048x16x1, .f32⟩
  | 51 => ⟨S2x2048x16x1, .f32⟩
  | 52 => ⟨S_, .f32⟩
  | 53 => ⟨S2x2048x16x1, .f32⟩
  | 54 => ⟨S2x2048x16x1, .f32⟩
  | 55 => ⟨S2x2048x16x1, .f32⟩
  | 56 => ⟨S2x2048x16x1, .f32⟩
  | 57 => ⟨S_, .f32⟩
  | 58 => ⟨S2x2048x16x1, .f32⟩
  | 59 => ⟨S2x2048x16x1, .f32⟩
  | 60 => ⟨S2x2048x16x96, .f32⟩
  | 61 => ⟨S2x2048x16x96, .f32⟩
  | 62 => ⟨S1x1x1x96, .f32⟩
  | 63 => ⟨S2x2048x16x96, .f32⟩
  | 64 => ⟨S2x2048x16x96, .f32⟩
  | 65 => ⟨S2x2048x16x64, .f32⟩
  | 66 => ⟨S2x2048x16x32, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S2x2048, .f32⟩
  | 82 => ⟨S2x2048x1, .f32⟩
  | 83 => ⟨S1x1x16, .f32⟩
  | 84 => ⟨S2x2048x16, .f32⟩
  | 85 => ⟨S2x2048x16, .f32⟩
  | 86 => ⟨S2x2048x16, .f32⟩
  | 87 => ⟨S2x2048x16, .f32⟩
  | 88 => ⟨S2x2048x1x16, .f32⟩
  | 89 => ⟨S2x2048x16, .f32⟩
  | 90 => ⟨S2x2048x1x16, .f32⟩
  | 91 => ⟨S2x2048x16x16, .f32⟩
  | 92 => ⟨S2x2048x16x16, .f32⟩
  | 93 => ⟨S2x2048x16x16, .f32⟩
  | 94 => ⟨S2x2048x16x16, .f32⟩
  | 95 => ⟨S2x2048x16x16, .f32⟩
  | 96 => ⟨S2x2048x16x16, .f32⟩
  | 97 => ⟨S2x2048x16x16, .f32⟩
  | 98 => ⟨S2x2048x16x16, .f32⟩
  | 99 => ⟨S2x2048x16x16, .f32⟩
  | 100 => ⟨S2x2048x16x16, .f32⟩
  | 101 => ⟨S2x2048x16x16, .f32⟩
  | 102 => ⟨S2x2048x16x16, .f32⟩
  | 103 => ⟨S2x2048x16x32, .f32⟩
  | 104 => ⟨S2x2048x16x96, .f32⟩
  | 105 => ⟨S2x2048x16x64, .f32⟩
  | 106 => ⟨S2x2048x16x32, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S2x2048, .f32⟩
  | 122 => ⟨S2x2048x1, .f32⟩
  | 123 => ⟨S1x1x16, .f32⟩
  | 124 => ⟨S2x2048x16, .f32⟩
  | 125 => ⟨S2x2048x16, .f32⟩
  | 126 => ⟨S2x2048x16, .f32⟩
  | 127 => ⟨S2x2048x16, .f32⟩
  | _ => ⟨S2x2048x16x96, .f32⟩

abbrev hbmTy0_1 (i : Nat) : BufTy := match i % 128 with
  | 0 => ⟨S2x2048x1x16, .f32⟩
  | 1 => ⟨S2x2048x16, .f32⟩
  | 2 => ⟨S2x2048x1x16, .f32⟩
  | 3 => ⟨S2x2048x16x16, .f32⟩
  | 4 => ⟨S2x2048x16x16, .f32⟩
  | 5 => ⟨S2x2048x16x16, .f32⟩
  | 6 => ⟨S2x2048x16x16, .f32⟩
  | 7 => ⟨S2x2048x16x16, .f32⟩
  | 8 => ⟨S2x2048x16x16, .f32⟩
  | 9 => ⟨S2x2048x16x16, .f32⟩
  | 10 => ⟨S2x2048x16x16, .f32⟩
  | 11 => ⟨S2x2048x16x16, .f32⟩
  | 12 => ⟨S2x2048x16x16, .f32⟩
  | 13 => ⟨S2x2048x16x16, .f32⟩
  | 14 => ⟨S2x2048x16x16, .f32⟩
  | 15 => ⟨S2x2048x16x32, .f32⟩
  | 16 => ⟨S2x2048x16x96, .f32⟩
  | 17 => ⟨S2x2048x16x64, .f32⟩
  | 18 => ⟨S2x2048x16x32, .f32⟩
  | 19 => ⟨S2x2048x16x16, .f32⟩
  | 20 => ⟨S2x2048x16x16, .f32⟩
  | 21 => ⟨S2x2048x16x16, .f32⟩
  | 22 => ⟨S2x2048x16x16, .f32⟩
  | 23 => ⟨S2x2048x16x16, .f32⟩
  | 24 => ⟨S2x2048x16x16, .f32⟩
  | 25 => ⟨S2x2048x16x16, .f32⟩
  | 26 => ⟨S2x2048x16x16, .f32⟩
  | 27 => ⟨S2x2048x16x16, .f32⟩
  | 28 => ⟨S2x2048x16x16, .f32⟩
  | 29 => ⟨S2x2048x16x16, .f32⟩
  | 30 => ⟨S2x2048x16x16, .f32⟩
  | 31 => ⟨S2x2048x16x16, .f32⟩
  | 32 => ⟨S_, .f32⟩
  | 33 => ⟨S2x2048x16x32, .f32⟩
  | 34 => ⟨S_, .f32⟩
  | 35 => ⟨S2x2048x16x32, .f32⟩
  | 36 => ⟨S2x2048x16x32, .f32⟩
  | 37 => ⟨S_, .f32⟩
  | 38 => ⟨S2x2048x16x96, .f32⟩
  | 39 => ⟨S_, .f32⟩
  | 40 => ⟨S2x2048x16x96, .f32⟩
  | 41 => ⟨S2x2048x16x96, .f32⟩
  | 42 => ⟨S2x2048x16x64, .f32⟩
  | 43 => ⟨S2x2048x16x32, .f32⟩
  | 44 => ⟨S2x2048x16x16, .f32⟩
  | 45 => ⟨S2x2048x16x16, .f32⟩
  | 46 => ⟨S2x2048x16x16, .f32⟩
  | 47 => ⟨S2x2048x16x16, .f32⟩
  | 48 => ⟨S2x2048x16x16, .f32⟩
  | 49 => ⟨S2x2048x16x16, .f32⟩
  | 50 => ⟨S2x2048x16x16, .f32⟩
  | 51 => ⟨S2x2048x16x16, .f32⟩
  | 52 => ⟨S2x2048x16x16, .f32⟩
  | 53 => ⟨S2x2048x16x16, .f32⟩
  | 54 => ⟨S2x2048x16x16, .f32⟩
  | 55 => ⟨S2x2048x16x16, .f32⟩
  | 56 => ⟨S2x2048x16x16, .f32⟩
  | 57 => ⟨S_, .f32⟩
  | 58 => ⟨S2x2048x16x32, .f32⟩
  | 59 => ⟨S_, .f32⟩
  | 60 => ⟨S2x2048x16x32, .f32⟩
  | 61 => ⟨S2x2048x16x32, .f32⟩
  | 62 => ⟨S_, .f32⟩
  | 63 => ⟨S2x2048x16x96, .f32⟩
  | 64 => ⟨S_, .f32⟩
  | 65 => ⟨S2x2048x16x96, .f32⟩
  | 66 => ⟨S2x2048x16x96, .f32⟩
  | 67 => ⟨S2x2048x16x96, .f32⟩
  | 68 => ⟨S_, .f32⟩
  | 69 => ⟨S96, .f32⟩
  | 70 => ⟨S1x1x1x96, .f32⟩
  | 71 => ⟨S2x2048x16x96, .f32⟩
  | 72 => ⟨S2x2048x16x96, .f32⟩
  | 73 => ⟨S_, .f32⟩
  | 74 => ⟨S96, .f32⟩
  | 75 => ⟨S2x2048x16x96, .f32⟩
  | 76 => ⟨S_, .f32⟩
  | 77 => ⟨S2x2048x16, .f32⟩
  | 78 => ⟨S2x2048x16x1, .f32⟩
  | 79 => ⟨S2x2048x16x96, .f32⟩
  | 80 => ⟨S2x2048x16x96, .f32⟩
  | 81 => ⟨S2x2048x16x1, .f32⟩
  | 82 => ⟨S_, .f32⟩
  | 83 => ⟨S2x2048x16x1, .f32⟩
  | 84 => ⟨S2x2048x16x1, .f32⟩
  | 85 => ⟨S_, .f32⟩
  | 86 => ⟨S2x2048x16, .f32⟩
  | 87 => ⟨S2x2048x16x96, .f32⟩
  | 88 => ⟨S2x2048x16x96, .f32⟩
  | 89 => ⟨S2x2048x16x96, .f32⟩
  | 90 => ⟨S2x2048x16x96, .f32⟩
  | 91 => ⟨S2x2048x16x96, .f32⟩
  | 92 => ⟨S1x96, .f32⟩
  | 93 => ⟨S2x2048x16x96, .f32⟩
  | 94 => ⟨S_, .f32⟩
  | 95 => ⟨S96, .f32⟩
  | 96 => ⟨S1x1x1x96, .f32⟩
  | 97 => ⟨S2x2048x16x96, .f32⟩
  | 98 => ⟨S2x2048x16x96, .f32⟩
  | 99 => ⟨S_, .f32⟩
  | 100 => ⟨S96, .f32⟩
  | 101 => ⟨S2x2048x16x96, .f32⟩
  | 102 => ⟨S_, .f32⟩
  | 103 => ⟨S2x2048x16, .f32⟩
  | 104 => ⟨S2x2048x16x1, .f32⟩
  | 105 => ⟨S2x2048x16x96, .f32⟩
  | 106 => ⟨S2x2048x16x96, .f32⟩
  | 107 => ⟨S2x2048x16x1, .f32⟩
  | 108 => ⟨S_, .f32⟩
  | 109 => ⟨S2x2048x16x1, .f32⟩
  | 110 => ⟨S2x2048x16x1, .f32⟩
  | 111 => ⟨S_, .f32⟩
  | 112 => ⟨S2x2048x16, .f32⟩
  | 113 => ⟨S2x2048x16x96, .f32⟩
  | 114 => ⟨S2x2048x16x96, .f32⟩
  | 115 => ⟨S2x2048x16x96, .f32⟩
  | 116 => ⟨S2x2048x16x96, .f32⟩
  | 117 => ⟨S2x2048x16x96, .f32⟩
  | 118 => ⟨S1x96, .f32⟩
  | 119 => ⟨S2x2048x16x64, .f32⟩
  | 120 => ⟨S2x2048x16x32, .f32⟩
  | 121 => ⟨S_, .f32⟩
  | 122 => ⟨S2x2048x32, .f32⟩
  | 123 => ⟨S2x2048x1x32, .f32⟩
  | 124 => ⟨S_, .f32⟩
  | 125 => ⟨S2x2048x32, .f32⟩
  | 126 => ⟨S_, .f32⟩
  | 127 => ⟨S2x2048x16x128, .f32⟩
  | _ => ⟨S2x2048x16x96, .f32⟩

abbrev hbmTy0_2 (i : Nat) : BufTy := match i % 128 with
  | 0 => ⟨S_, .f32⟩
  | 1 => ⟨S2x2048x16x128, .f32⟩
  | 2 => ⟨S2x2048x16x128, .f32⟩
  | 3 => ⟨S_, .i32⟩
  | 4 => ⟨S_, .f32⟩
  | 5 => ⟨S2x2048x16x128, .f32⟩
  | 6 => ⟨S4096x2048, .f32⟩
  | 7 => ⟨S4096x2048, .bf16⟩
  | 8 => ⟨S4096x2048, .f32⟩
  | 9 => ⟨S4096x2048, .bf16⟩
  | 10 => ⟨S_, .i32⟩
  | 11 => ⟨S_, .f32⟩
  | 12 => ⟨S2x2048x128, .f32⟩
  | 13 => ⟨S4096x128, .f32⟩
  | 14 => ⟨S_, .i32⟩
  | 15 => ⟨S_, .f32⟩
  | 16 => ⟨S1x128, .f32⟩
  | 17 => ⟨S_, .i32⟩
  | 18 => ⟨S_, .f32⟩
  | 19 => ⟨S1x128, .f32⟩
  | _ => ⟨S2x2048x16x96, .f32⟩

abbrev hbmTy (i : Nat) : BufTy := match i / 128 with
  | 0 => hbmTy0_0 i
  | 1 => hbmTy0_1 i
  | 2 => hbmTy0_2 i
  | _ => ⟨S2x2048x16x96, .f32⟩

abbrev bufTy : (tb : Table) → Fin (tcTables nBuf tb) → BufTy
  | .hbm, ⟨i, _⟩ => hbmTy i
  | _, _ => ⟨S2x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_13 : Ref sig .tc := ⟨.hbm, 115, rfl⟩
abbrev main_v92 : Ref sig .tc := ⟨.hbm, 116, rfl⟩
abbrev main_v93 : Ref sig .tc := ⟨.hbm, 117, rfl⟩
abbrev main_cst_14 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_15 : Ref sig .tc := ⟨.hbm, 160, rfl⟩
abbrev main_v135 : Ref sig .tc := ⟨.hbm, 161, rfl⟩
abbrev main_cst_16 : Ref sig .tc := ⟨.hbm, 162, rfl⟩
abbrev main_v136 : Ref sig .tc := ⟨.hbm, 163, rfl⟩
abbrev main_v137 : Ref sig .tc := ⟨.hbm, 164, rfl⟩
abbrev main_cst_17 : Ref sig .tc := ⟨.hbm, 165, rfl⟩
abbrev main_v138 : Ref sig .tc := ⟨.hbm, 166, rfl⟩
abbrev main_cst_18 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_cst_19 : Ref sig .tc := ⟨.hbm, 185, rfl⟩
abbrev main_v156 : Ref sig .tc := ⟨.hbm, 186, rfl⟩
abbrev main_cst_20 : Ref sig .tc := ⟨.hbm, 187, rfl⟩
abbrev main_v157 : Ref sig .tc := ⟨.hbm, 188, rfl⟩
abbrev main_v158 : Ref sig .tc := ⟨.hbm, 189, rfl⟩
abbrev main_cst_21 : Ref sig .tc := ⟨.hbm, 190, rfl⟩
abbrev main_v159 : Ref sig .tc := ⟨.hbm, 191, rfl⟩
abbrev main_cst_22 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_23 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_24 : Ref sig .tc := ⟨.hbm, 201, rfl⟩
abbrev main_v167 : Ref sig .tc := ⟨.hbm, 202, rfl⟩
abbrev main_v168 : Ref sig .tc := ⟨.hbm, 203, rfl⟩
abbrev main_cst_25 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_26 : Ref sig .tc := ⟨.hbm, 210, rfl⟩
abbrev main_v174 : Ref sig .tc := ⟨.hbm, 211, rfl⟩
abbrev main_v175 : Ref sig .tc := ⟨.hbm, 212, rfl⟩
abbrev main_cst_27 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_28 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_cst_29 : Ref sig .tc := ⟨.hbm, 227, rfl⟩
abbrev main_v188 : Ref sig .tc := ⟨.hbm, 228, rfl⟩
abbrev main_v189 : Ref sig .tc := ⟨.hbm, 229, rfl⟩
abbrev main_cst_30 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_cst_31 : Ref sig .tc := ⟨.hbm, 236, rfl⟩
abbrev main_v195 : Ref sig .tc := ⟨.hbm, 237, rfl⟩
abbrev main_v196 : Ref sig .tc := ⟨.hbm, 238, rfl⟩
abbrev main_cst_32 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_33 : Ref sig .tc := ⟨.hbm, 249, rfl⟩
abbrev main_v206 : Ref sig .tc := ⟨.hbm, 250, rfl⟩
abbrev main_v207 : Ref sig .tc := ⟨.hbm, 251, rfl⟩
abbrev main_cst_34 : Ref sig .tc := ⟨.hbm, 252, rfl⟩
abbrev main_v208 : Ref sig .tc := ⟨.hbm, 253, rfl⟩
abbrev main_cst_35 : Ref sig .tc := ⟨.hbm, 254, rfl⟩
abbrev main_v209 : Ref sig .tc := ⟨.hbm, 255, rfl⟩
abbrev main_cst_36 : Ref sig .tc := ⟨.hbm, 256, rfl⟩
abbrev main_v210 : Ref sig .tc := ⟨.hbm, 257, rfl⟩
abbrev main_v211 : Ref sig .tc := ⟨.hbm, 258, rfl⟩
abbrev main_c : Ref sig .tc := ⟨.hbm, 259, rfl⟩
abbrev main_call0_v0 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_c_37 : Ref sig .tc := ⟨.hbm, 266, rfl⟩
abbrev main_call1_v0 : Ref sig .tc := ⟨.hbm, 267, rfl⟩
abbrev main_v217 : Ref sig .tc := ⟨.hbm, 268, rfl⟩
abbrev main_v218 : Ref sig .tc := ⟨.hbm, 269, rfl⟩
abbrev main_c_38 : Ref sig .tc := ⟨.hbm, 270, rfl⟩
abbrev main_call2_v0 : Ref sig .tc := ⟨.hbm, 271, rfl⟩
abbrev main_v219 : Ref sig .tc := ⟨.hbm, 272, rfl⟩
abbrev main_c_39 : Ref sig .tc := ⟨.hbm, 273, rfl⟩
abbrev main_call3_v0 : Ref sig .tc := ⟨.hbm, 274, rfl⟩
abbrev main_v220 : Ref sig .tc := ⟨.hbm, 275, rfl⟩

abbrev nD : Nat := 1
abbrev τ : Topo := Topo.v7x

variable {F : FTy → Type} [FloatOps F]
-- ==== KernelMergeFwd.lean ====
abbrev S2x2048x5552 : Shape := ⟨3, ![2, 2048, 5552]⟩
abbrev S1x2048 : Shape := ⟨2, ![1, 2048]⟩
abbrev S2x2048x1024 : Shape := ⟨3, ![2, 2048, 1024]⟩
abbrev S2x2048x3072 : Shape := ⟨3, ![2, 2048, 3072]⟩
abbrev S2x2048x2048 : Shape := ⟨3, ![2, 2048, 2048]⟩
abbrev S2x2048x256 : Shape := ⟨3, ![2, 2048, 256]⟩
abbrev S2x2048x128 : Shape := ⟨3, ![2, 2048, 128]⟩
abbrev S2x2048x16 : Shape := ⟨3, ![2, 2048, 16]⟩
abbrev S_ : Shape := ⟨0, ![]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S1x512x1024 : Shape := ⟨3, ![1, 512, 1024]⟩
abbrev S1x1024 : Shape := ⟨2, ![1, 1024]⟩
abbrev S512x1024 : Shape := ⟨2, ![512, 1024]⟩

abbrev nBuf : Space → Nat
  | .hbm => 19
  | .vmem => 12
  | .smem => 0
  | _ => 0

abbrev bufTy : (tb : Table) → Fin (tcTables nBuf tb) → BufTy
  | .hbm, ⟨0, _⟩ => ⟨S2x2048x5552, .f32⟩
  | .hbm, ⟨1, _⟩ => ⟨S1x2048, .f32⟩
  | .hbm, ⟨2, _⟩ => ⟨S2x2048x1024, .f32⟩
  | .hbm, ⟨3, _⟩ => ⟨S2x2048x1024, .f32⟩
  | .hbm, ⟨4, _⟩ => ⟨S2x2048x5552, .bf16⟩
  | .hbm, ⟨5, _⟩ => ⟨S2x2048x3072, .bf16⟩
  | .hbm, ⟨6, _⟩ => ⟨S2x2048x2048, .bf16⟩
  | .hbm, ⟨7, _⟩ => ⟨S2x2048x256, .bf16⟩
  | .hbm, ⟨8, _⟩ => ⟨S2x2048x128, .bf16⟩
  | .hbm, ⟨9, _⟩ => ⟨S2x2048x16, .bf16⟩
  | .hbm, ⟨10, _⟩ => ⟨S_, .bf16⟩
  | .hbm, ⟨11, _⟩ => ⟨S2x2048x176, .bf16⟩
  | .hbm, ⟨12, _⟩ => ⟨S2x2048x32, .bf16⟩
  | .hbm, ⟨13, _⟩ => ⟨S_, .bf16⟩
  | .hbm, ⟨14, _⟩ => ⟨S2x2048x32, .bf16⟩
  | .hbm, ⟨15, _⟩ => ⟨S2x2048x5760, .bf16⟩
  | .hbm, ⟨16, _⟩ => ⟨S2x2048x1024, .bf16⟩
  | .hbm, ⟨17, _⟩ => ⟨S2x2048x1024, .bf16⟩
  | .hbm, ⟨18, _⟩ => ⟨S2x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | _, _ => ⟨S2x2048x5552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMergeFwdIdeal.lean ====
abbrev S2x2048x5552 : Shape := ⟨3, ![2, 2048, 5552]⟩
abbrev S1x2048 : Shape := ⟨2, ![1, 2048]⟩
abbrev S2x2048x1024 : Shape := ⟨3, ![2, 2048, 1024]⟩
abbrev S2x2048x512 : Shape := ⟨3, ![2, 2048, 512]⟩
abbrev S2x2048x16 : Shape := ⟨3, ![2, 2048, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x2048 : Shape := ⟨3, ![2, 2048, 2048]⟩
abbrev S2048 : Shape := ⟨1, ![2048]⟩
abbrev S1x1x2048 : Shape := ⟨3, ![1, 1, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x5552, .f32⟩
  | .hbm, ⟨1, _⟩ => ⟨S1x2048, .f32⟩
  | .hbm, ⟨2, _⟩ => ⟨S2x2048x1024, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x1024, .f32⟩
  | .hbm, ⟨7, _⟩ => ⟨S2x2048x1024, .f32⟩
  | .hbm, ⟨8, _⟩ => ⟨S2x2048x16, .f32⟩
  | .hbm, ⟨9, _⟩ => ⟨S2x2048x256, .f32⟩
  | .hbm, ⟨10, _⟩ => ⟨S2x2048x128, .f32⟩
  | .hbm, ⟨11, _⟩ => ⟨S2x2048x32, .f32⟩
  | .hbm, ⟨12, _⟩ => ⟨S2x2048x2048, .f32⟩
  | .hbm, ⟨13, _⟩ => ⟨S2048, .f32⟩
  | .hbm, ⟨14, _⟩ => ⟨S1x1x2048, .f32⟩
  | .hbm, ⟨15, _⟩ => ⟨S2x2048x2048, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048x2048, .f32⟩
  | .hbm, ⟨24, _⟩ => ⟨S2x2048x2048, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .bf16⟩
  | _, _ => ⟨S2x2048x5552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelNorm1Fwd.lean ====
abbrev S2x2048x1024 : Shape := ⟨3, ![2, 2048, 1024]⟩
abbrev S1x1024 : Shape := ⟨2, ![1, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1024, .f32⟩
  | .hbm, ⟨3, _⟩ => ⟨S2x1024, .f32⟩
  | .hbm, ⟨4, _⟩ => ⟨S2x1x1024, .f32⟩
  | .hbm, ⟨5, _⟩ => ⟨S2x1x1024, .f32⟩
  | .hbm, ⟨6, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNorm1FwdIdeal.lean ====
abbrev S2x2048x1024 : Shape := ⟨3, ![2, 2048, 1024]⟩
abbrev S1x1024 : Shape := ⟨2, ![1, 1024]⟩
abbrev S2x1024 : Shape := ⟨2, ![2, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelNorm2Fwd.lean ====
abbrev S2x2048x1024 : Shape := ⟨3, ![2, 2048, 1024]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S1x1024, .f32⟩
  | .hbm, ⟨4, _⟩ => ⟨S2x1024, .f32⟩
  | .hbm, ⟨5, _⟩ => ⟨S2x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x2048x1024, .f32⟩
  | .hbm, ⟨10, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceNorm2FwdIdeal.lean ====
abbrev S2x2048x1024 : Shape := ⟨3, ![2, 2048, 1024]⟩
abbrev S2x1024 : Shape := ⟨2, ![2, 1024]⟩
abbrev S1x1024 : Shape := ⟨2, ![1, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S1x1024, .f32⟩
  | .hbm, ⟨4, _⟩ => ⟨S2x1024, .f32⟩
  | .hbm, ⟨5, _⟩ => ⟨S2x1024, .f32⟩
  | .hbm, ⟨6, _⟩ => ⟨S2x1x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x1x1024, .f32⟩
  | .hbm, ⟨34, _⟩ => ⟨S2x2048x1024, .f32⟩
  | .hbm, ⟨35, _⟩ => ⟨S2x2048x1024, .f32⟩
  | .hbm, ⟨36, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelLatFwd.lean ====
abbrev S2x2048x5552 : Shape := ⟨3, ![2, 2048, 5552]⟩
abbrev S1x256 : Shape := ⟨2, ![1, 256]⟩
abbrev S1x128 : Shape := ⟨2, ![1, 128]⟩
abbrev S2x2048x3072 : Shape := ⟨3, ![2, 2048, 3072]⟩
abbrev S2x2048x2048 : Shape := ⟨3, ![2, 2048, 2048]⟩
abbrev S2x2048x256 : Shape := ⟨3, ![2, 2048, 256]⟩
abbrev S2x2048x128 : Shape := ⟨3, ![2, 2048, 128]⟩
abbrev S2x2048x16 : Shape := ⟨3, ![2, 2048, 16]⟩
abbrev S_ : Shape := ⟨0, ![]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S4096x5760 : Shape := ⟨2, ![4096, 5760]⟩
abbrev S4096x256 : Shape := ⟨2, ![4096, 256]⟩
abbrev S4096x128 : Shape := ⟨2, ![4096, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 10
  | .smem => 0
  | _ => 0

abbrev bufTy : (tb : Table) → Fin (tcTables nBuf tb) → BufTy
  | .hbm, ⟨0, _⟩ => ⟨S2x2048x5552, .f32⟩
  | .hbm, ⟨1, _⟩ => ⟨S1x256, .f32⟩
  | .hbm, ⟨2, _⟩ => ⟨S1x128, .f32⟩
  | .hbm, ⟨3, _⟩ => ⟨S2x2048x5552, .bf16⟩
  | .hbm, ⟨4, _⟩ => ⟨S2x2048x3072, .bf16⟩
  | .hbm, ⟨5, _⟩ => ⟨S2x2048x2048, .bf16⟩
  | .hbm, ⟨6, _⟩ => ⟨S2x2048x256, .bf16⟩
  | .hbm, ⟨7, _⟩ => ⟨S2x2048x128, .bf16⟩
  | .hbm, ⟨8, _⟩ => ⟨S2x2048x16, .bf16⟩
  | .hbm, ⟨9, _⟩ => ⟨S_, .bf16⟩
  | .hbm, ⟨10, _⟩ => ⟨S2x2048x176, .bf16⟩
  | .hbm, ⟨11, _⟩ => ⟨S2x2048x32, .bf16⟩
  | .hbm, ⟨12, _⟩ => ⟨S_, .bf16⟩
  | .hbm, ⟨13, _⟩ => ⟨S2x2048x32, .bf16⟩
  | .hbm, ⟨14, _⟩ => ⟨S2x2048x5760, .bf16⟩
  | .hbm, ⟨15, _⟩ => ⟨S4096x5760, .bf16⟩
  | .hbm, ⟨16, _⟩ => ⟨S4096x256, .bf16⟩
  | .hbm, ⟨17, _⟩ => ⟨S4096x128, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S1x256, .f32⟩
  | .local _ .vmem, ⟨5, _⟩ => ⟨S1x128, .f32⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | _, _ => ⟨S2x2048x5552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_1 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLatFwdIdeal.lean ====
abbrev S2x2048x5552 : Shape := ⟨3, ![2, 2048, 5552]⟩
abbrev S1x256 : Shape := ⟨2, ![1, 256]⟩
abbrev S1x128 : Shape := ⟨2, ![1, 128]⟩
abbrev S2x2048x512 : Shape := ⟨3, ![2, 2048, 512]⟩
abbrev S2x2048x1024 : Shape := ⟨3, ![2, 2048, 1024]⟩
abbrev S2x2048x16 : Shape := ⟨3, ![2, 2048, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x2048 : Shape := ⟨3, ![2, 2048, 2048]⟩
abbrev S256 : Shape := ⟨1, ![256]⟩
abbrev S_ : Shape := ⟨0, ![]⟩
abbrev S2x2048 : Shape := ⟨2, ![2, 2048]⟩
abbrev S2x2048x1 : Shape := ⟨3, ![2, 2048, 1]⟩
abbrev S1x1x256 : Shape := ⟨3, ![1, 1, 256]⟩
abbrev S4096x256 : Shape := ⟨2, ![4096, 256]⟩
abbrev S128 : Shape := ⟨1, ![128]⟩
abbrev S1x1x128 : Shape := ⟨3, ![1, 1, 128]⟩
abbrev S4096x128 : Shape := ⟨2, ![4096, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x5552, .f32⟩
  | .hbm, ⟨1, _⟩ => ⟨S1x256, .f32⟩
  | .hbm, ⟨2, _⟩ => ⟨S1x128, .f32⟩
  | .hbm, ⟨3, _⟩ => ⟨S2x2048x512, .f32⟩
  | .hbm, ⟨4, _⟩ => ⟨S2x2048x512, .f32⟩
  | .hbm, ⟨5, _⟩ => ⟨S2x2048x1024, .f32⟩
  | .hbm, ⟨6, _⟩ => ⟨S2x2048x1024, .f32⟩
  | .hbm, ⟨7, _⟩ => ⟨S2x2048x16, .f32⟩
  | .hbm, ⟨8, _⟩ => ⟨S2x2048x256, .f32⟩
  | .hbm, ⟨9, _⟩ => ⟨S2x2048x128, .f32⟩
  | .hbm, ⟨10, _⟩ => ⟨S2x2048x32, .f32⟩
  | .hbm, ⟨11, _⟩ => ⟨S2x2048x2048, .f32⟩
  | .hbm, ⟨12, _⟩ => ⟨S256, .f32⟩
  | .hbm, ⟨13, _⟩ => ⟨S2x2048x256, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x256, .f32⟩
  | .hbm, ⟨25, _⟩ => ⟨S2x2048x256, .f32⟩
  | .hbm, ⟨26, _⟩ => ⟨S1x1x256, .f32⟩
  | .hbm, ⟨27, _⟩ => ⟨S2x2048x256, .f32⟩
  | .hbm, ⟨28, _⟩ => ⟨S2x2048x256, .f32⟩
  | .hbm, ⟨29, _⟩ => ⟨S4096x256, .f32⟩
  | .hbm, ⟨30, _⟩ => ⟨S4096x256, .bf16⟩
  | .hbm, ⟨31, _⟩ => ⟨S128, .f32⟩
  | .hbm, ⟨32, _⟩ => ⟨S2x2048x128, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x128, .f32⟩
  | .hbm, ⟨44, _⟩ => ⟨S2x2048x128, .f32⟩
  | .hbm, ⟨45, _⟩ => ⟨S1x1x128, .f32⟩
  | .hbm, ⟨46, _⟩ => ⟨S2x2048x128, .f32⟩
  | .hbm, ⟨47, _⟩ => ⟨S2x2048x128, .f32⟩
  | .hbm, ⟨48, _⟩ => ⟨S4096x128, .f32⟩
  | .hbm, ⟨49, _⟩ => ⟨S4096x128, .bf16⟩
  | _, _ => ⟨S2x2048x5552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== KernelQkFwd.lean ====
abbrev S2x2048x16x96 : Shape := ⟨4, ![2, 2048, 16, 96]⟩
abbrev S2x2048x16x128 : Shape := ⟨4, ![2, 2048, 16, 128]⟩
abbrev S2x2048x5552 : Shape := ⟨3, ![2, 2048, 5552]⟩
abbrev S2x2048 : Shape := ⟨2, ![2, 2048]⟩
abbrev S1x96 : Shape := ⟨2, ![1, 96]⟩
abbrev S128 : Shape := ⟨1, ![128]⟩
abbrev S1x128 : Shape := ⟨2, ![1, 128]⟩
abbrev S16 : Shape := ⟨1, ![16]⟩
abbrev S_ : Shape := ⟨0, ![]⟩
abbrev S128x1 : Shape := ⟨2, ![128, 1]⟩
abbrev S4096x1 : Shape := ⟨2, ![4096, 1]⟩
abbrev S4096x128 : Shape := ⟨2, ![4096, 128]⟩
abbrev S4096x2048 : Shape := ⟨2, ![4096, 2048]⟩
abbrev S2x2048x3072 : Shape := ⟨3, ![2, 2048, 3072]⟩
abbrev S2x2048x2048 : Shape := ⟨3, ![2, 2048, 2048]⟩
abbrev S2x2048x256 : Shape := ⟨3, ![2, 2048, 256]⟩
abbrev S2x2048x128 : Shape := ⟨3, ![2, 2048, 128]⟩
abbrev S2x2048x16 : Shape := ⟨3, ![2, 2048, 16]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S4096x5760 : Shape := ⟨2, ![4096, 5760]⟩
abbrev S4096 : Shape := ⟨1, ![4096]⟩

abbrev nBuf : Space → Nat
  | .hbm => 74
  | .vmem => 15
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x128, .f32⟩
  | .hbm, ⟨2, _⟩ => ⟨S2x2048x5552, .f32⟩
  | .hbm, ⟨3, _⟩ => ⟨S2x2048, .i32⟩
  | .hbm, ⟨4, _⟩ => ⟨S1x96, .f32⟩
  | .hbm, ⟨5, _⟩ => ⟨S1x96, .f32⟩
  | .hbm, ⟨6, _⟩ => ⟨S128, .i32⟩
  | .hbm, ⟨7, _⟩ => ⟨S128, .i1⟩
  | .hbm, ⟨8, _⟩ => ⟨S128, .i1⟩
  | .hbm, ⟨9, _⟩ => ⟨S128, .f32⟩
  | .hbm, ⟨10, _⟩ => ⟨S1x128, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S2x2048, .f32⟩
  | .hbm, ⟨36, _⟩ => ⟨S4096x1, .f32⟩
  | .hbm, ⟨37, _⟩ => ⟨S1x128, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S_, .i32⟩
  | .hbm, ⟨46, _⟩ => ⟨S_, .f32⟩
  | .hbm, ⟨47, _⟩ => ⟨S1x128, .f32⟩
  | .hbm, ⟨48, _⟩ => ⟨S_, .i32⟩
  | .hbm, ⟨49, _⟩ => ⟨S_, .f32⟩
  | .hbm, ⟨50, _⟩ => ⟨S1x128, .f32⟩
  | .hbm, ⟨51, _⟩ => ⟨S2x2048x16x96, .bf16⟩
  | .hbm, ⟨52, _⟩ => ⟨S_, .i32⟩
  | .hbm, ⟨53, _⟩ => ⟨S_, .bf16⟩
  | .hbm, ⟨54, _⟩ => ⟨S2x2048x16x128, .bf16⟩
  | .hbm, ⟨55, _⟩ => ⟨S4096x2048, .bf16⟩
  | .hbm, ⟨56, _⟩ => ⟨S2x2048x16x128, .bf16⟩
  | .hbm, ⟨57, _⟩ => ⟨S4096x2048, .bf16⟩
  | .hbm, ⟨58, _⟩ => ⟨S2x2048x5552, .bf16⟩
  | .hbm, ⟨59, _⟩ => ⟨S2x2048x3072, .bf16⟩
  | .hbm, ⟨60, _⟩ => ⟨S2x2048x2048, .bf16⟩
  | .hbm, ⟨61, _⟩ => ⟨S2x2048x256, .bf16⟩
  | .hbm, ⟨62, _⟩ => ⟨S2x2048x128, .bf16⟩
  | .hbm, ⟨63, _⟩ => ⟨S2x2048x16, .bf16⟩
  | .hbm, ⟨64, _⟩ => ⟨S_, .bf16⟩
  | .hbm, ⟨65, _⟩ => ⟨S2x2048x176, .bf16⟩
  | .hbm, ⟨66, _⟩ => ⟨S2x2048x32, .bf16⟩
  | .hbm, ⟨67, _⟩ => ⟨S_, .bf16⟩
  | .hbm, ⟨68, _⟩ => ⟨S2x2048x32, .bf16⟩
  | .hbm, ⟨69, _⟩ => ⟨S2x2048x5760, .bf16⟩
  | .hbm, ⟨70, _⟩ => ⟨S4096x5760, .bf16⟩
  | .hbm, ⟨71, _⟩ => ⟨S4096x2048, .bf16⟩
  | .hbm, ⟨72, _⟩ => ⟨S4096x2048, .bf16⟩
  | .hbm, ⟨73, _⟩ => ⟨S4096x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S1x128, .f32⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | _, _ => ⟨S2x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_call1_v0 : Ref sig .tc := ⟨.hbm, 46, rfl⟩
abbrev main_v27 : Ref sig .tc := ⟨.hbm, 47, rfl⟩
abbrev main_c_9 : Ref sig .tc := ⟨.hbm, 48, rfl⟩
abbrev main_call2_v0 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_call3_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v45_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, c44_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelQkFwdIdeal.lean ====
variable {F : FTy → Type} [FloatOps F] [Named F]
def κ : String → Option EReal := fun
  | "mean96" => some ((1 / 96 : ℝ) : EReal)
  | _ => none
-- ==== ReferenceQkFwdIdeal.lean ====
abbrev S2x2048x16x96 : Shape := ⟨4, ![2, 2048, 16, 96]⟩
abbrev S2x2048x16x128 : Shape := ⟨4, ![2, 2048, 16, 128]⟩
abbrev S2x2048x5552 : Shape := ⟨3, ![2, 2048, 5552]⟩
abbrev S2x2048 : Shape := ⟨2, ![2, 2048]⟩
abbrev S1x96 : Shape := ⟨2, ![1, 96]⟩
abbrev S2x2048x512 : Shape := ⟨3, ![2, 2048, 512]⟩
abbrev S2x2048x1024 : Shape := ⟨3, ![2, 2048, 1024]⟩
abbrev S2x2048x16 : Shape := ⟨3, ![2, 2048, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x2048 : Shape := ⟨3, ![2, 2048, 2048]⟩
abbrev S2x2048x16x64 : Shape := ⟨4, ![2, 2048, 16, 64]⟩
abbrev S2x2048x1x32 : Shape := ⟨4, ![2, 2048, 1, 32]⟩
abbrev S2x2048x16x32 : Shape := ⟨4, ![2, 2048, 16, 32]⟩
abbrev S96 : Shape := ⟨1, ![96]⟩
abbrev S_ : Shape := ⟨0, ![]⟩
abbrev S2x2048x16x1 : Shape := ⟨4, ![2, 2048, 16, 1]⟩
abbrev S1x1x1x96 : Shape := ⟨4, ![1, 1, 1, 96]⟩
abbrev S16 : Shape := ⟨1, ![16]⟩
abbrev S2x2048x1 : Shape := ⟨3, ![2, 2048, 1]⟩
abbrev S1x1x16 : Shape := ⟨3, ![1, 1, 16]⟩
abbrev S2x2048x1x16 : Shape := ⟨4, ![2, 2048, 1, 16]⟩
abbrev S2x2048x16x16 : Shape := ⟨4, ![2, 2048, 16, 16]⟩
abbrev S4096x2048 : Shape := ⟨2, ![4096, 2048]⟩

abbrev nBuf : Space → Nat
  | .hbm => 149
  | .vmem => 0
  | .smem => 0
  | _ => 0

abbrev hbmTy0_0 (i : Nat) : BufTy := match i % 128 with
  | 0 => ⟨S2x2048x16x96, .f32⟩
  | 1 => ⟨S2x2048x16x128, .f32⟩
  | 2 => ⟨S2x2048x5552, .f32⟩
  | 3 => ⟨S2x2048, .i32⟩
  | 4 => ⟨S1x96, .f32⟩
  | 5 => ⟨S1x96, .f32⟩
  | 6 => ⟨S2x2048x512, .f32⟩
  | 7 => ⟨S2x2048x512, .f32⟩
  | 8 => ⟨S2x2048x1024, .f32⟩
  | 9 => ⟨S2x2048x1024, .f32⟩
  | 10 => ⟨S2x2048x16, .f32⟩
  | 11 => ⟨S2x2048x256, .f32⟩
  | 12 => ⟨S2x2048x128, .f32⟩
  | 13 => ⟨S2x2048x32, .f32⟩
  | 14 => ⟨S2x2048x2048, .f32⟩
  | 15 => ⟨S2x2048x16x64, .f32⟩
  | 16 => ⟨S2x2048x16x64, .f32⟩
  | 17 => ⟨S2x2048x1x32, .f32⟩
  | 18 => ⟨S2x2048x16x32, .f32⟩
  | 19 => ⟨S2x2048x16x96, .f32⟩
  | 20 => ⟨S96, .f32⟩
  | 21 => ⟨S2x2048x16x96, .f32⟩
  | 22 => ⟨S_, .f32⟩
  | 23 => ⟨S2x2048x16, .f32⟩
  | 24 => ⟨S2x2048x16x1, .f32⟩
  | 25 => ⟨S_, .f32⟩
  | 26 => ⟨S2x2048x16x1, .f32⟩
  | 27 => ⟨S2x2048x16x1, .f32⟩
  | 28 => ⟨S_, .f32⟩
  | 29 => ⟨S2x2048x16x1, .f32⟩
  | 30 => ⟨S2x2048x16x1, .f32⟩
  | 31 => ⟨S2x2048x16x1, .f32⟩
  | 32 => ⟨S2x2048x16x96, .f32⟩
  | 33 => ⟨S2x2048x16x96, .f32⟩
  | 34 => ⟨S1x1x1x96, .f32⟩
  | 35 => ⟨S2x2048x16x96, .f32⟩
  | 36 => ⟨S2x2048x16x96, .f32⟩
  | 37 => ⟨S96, .f32⟩
  | 38 => ⟨S2x2048x16x96, .f32⟩
  | 39 => ⟨S_, .f32⟩
  | 40 => ⟨S2x2048x16, .f32⟩
  | 41 => ⟨S2x2048x16x1, .f32⟩
  | 42 => ⟨S_, .f32⟩
  | 43 => ⟨S2x2048x16x1, .f32⟩
  | 44 => ⟨S2x2048x16x1, .f32⟩
  | 45 => ⟨S_, .f32⟩
  | 46 => ⟨S2x2048x16x1, .f32⟩
  | 47 => ⟨S2x2048x16x1, .f32⟩
  | 48 => ⟨S2x2048x16x1, .f32⟩
  | 49 => ⟨S2x2048x16x96, .f32⟩
  | 50 => ⟨S2x2048x16x96, .f32⟩
  | 51 => ⟨S1x1x1x96, .f32⟩
  | 52 => ⟨S2x2048x16x96, .f32⟩
  | 53 => ⟨S2x2048x16x96, .f32⟩
  | 54 => ⟨S2x2048x16x64, .f32⟩
  | 55 => ⟨S2x2048x16x32, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S2x2048, .f32⟩
  | 71 => ⟨S2x2048x1, .f32⟩
  | 72 => ⟨S1x1x16, .f32⟩
  | 73 => ⟨S2x2048x16, .f32⟩
  | 74 => ⟨S2x2048x16, .f32⟩
  | 75 => ⟨S2x2048x16, .f32⟩
  | 76 => ⟨S2x2048x16, .f32⟩
  | 77 => ⟨S2x2048x1x16, .f32⟩
  | 78 => ⟨S2x2048x16, .f32⟩
  | 79 => ⟨S2x2048x1x16, .f32⟩
  | 80 => ⟨S2x2048x16x16, .f32⟩
  | 81 => ⟨S2x2048x16x16, .f32⟩
  | 82 => ⟨S2x2048x16x16, .f32⟩
  | 83 => ⟨S2x2048x16x16, .f32⟩
  | 84 => ⟨S2x2048x16x16, .f32⟩
  | 85 => ⟨S2x2048x16x16, .f32⟩
  | 86 => ⟨S2x2048x16x16, .f32⟩
  | 87 => ⟨S2x2048x16x16, .f32⟩
  | 88 => ⟨S2x2048x16x16, .f32⟩
  | 89 => ⟨S2x2048x16x16, .f32⟩
  | 90 => ⟨S2x2048x16x16, .f32⟩
  | 91 => ⟨S2x2048x16x16, .f32⟩
  | 92 => ⟨S2x2048x16x32, .f32⟩
  | 93 => ⟨S2x2048x16x96, .f32⟩
  | 94 => ⟨S2x2048x16x64, .f32⟩
  | 95 => ⟨S2x2048x16x32, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S2x2048, .f32⟩
  | 111 => ⟨S2x2048x1, .f32⟩
  | 112 => ⟨S1x1x16, .f32⟩
  | 113 => ⟨S2x2048x16, .f32⟩
  | 114 => ⟨S2x2048x16, .f32⟩
  | 115 => ⟨S2x2048x16, .f32⟩
  | 116 => ⟨S2x2048x16, .f32⟩
  | 117 => ⟨S2x2048x1x16, .f32⟩
  | 118 => ⟨S2x2048x16, .f32⟩
  | 119 => ⟨S2x2048x1x16, .f32⟩
  | 120 => ⟨S2x2048x16x16, .f32⟩
  | 121 => ⟨S2x2048x16x16, .f32⟩
  | 122 => ⟨S2x2048x16x16, .f32⟩
  | 123 => ⟨S2x2048x16x16, .f32⟩
  | 124 => ⟨S2x2048x16x16, .f32⟩
  | 125 => ⟨S2x2048x16x16, .f32⟩
  | 126 => ⟨S2x2048x16x16, .f32⟩
  | 127 => ⟨S2x2048x16x16, .f32⟩
  | _ => ⟨S2x2048x16x96, .f32⟩

abbrev hbmTy0_1 (i : Nat) : BufTy := match i % 128 with
  | 0 => ⟨S2x2048x16x16, .f32⟩
  | 1 => ⟨S2x2048x16x16, .f32⟩
  | 2 => ⟨S2x2048x16x16, .f32⟩
  | 3 => ⟨S2x2048x16x16, .f32⟩
  | 4 => ⟨S2x2048x16x32, .f32⟩
  | 5 => ⟨S2x2048x16x96, .f32⟩
  | 6 => ⟨S_, .i32⟩
  | 7 => ⟨S_, .f32⟩
  | 8 => ⟨S2x2048x16x128, .f32⟩
  | 9 => ⟨S4096x2048, .f32⟩
  | 10 => ⟨S4096x2048, .bf16⟩
  | 11 => ⟨S_, .i32⟩
  | 12 => ⟨S_, .f32⟩
  | 13 => ⟨S2x2048x16x128, .f32⟩
  | 14 => ⟨S4096x2048, .f32⟩
  | 15 => ⟨S4096x2048, .bf16⟩
  | 16 => ⟨S_, .i32⟩
  | 17 => ⟨S_, .f32⟩
  | 18 => ⟨S2x2048x16x128, .f32⟩
  | 19 => ⟨S4096x2048, .f32⟩
  | 20 => ⟨S4096x2048, .bf16⟩
  | _ => ⟨S2x2048x16x96, .f32⟩

abbrev hbmTy (i : Nat) : BufTy := match i / 128 with
  | 0 => hbmTy0_0 i
  | 1 => hbmTy0_1 i
  | _ => ⟨S2x2048x16x96, .f32⟩

abbrev bufTy : (tb : Table) → Fin (tcTables nBuf tb) → BufTy
  | .hbm, ⟨i, _⟩ => hbmTy i
  | _, _ => ⟨S2x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_9 : Ref sig .tc := ⟨.hbm, 97, rfl⟩
abbrev main_v81 : Ref sig .tc := ⟨.hbm, 98, rfl⟩
abbrev main_v82 : Ref sig .tc := ⟨.hbm, 99, rfl⟩
abbrev main_cst_10 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_cst_12 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_c : Ref sig .tc := ⟨.hbm, 134, rfl⟩
abbrev main_call0_v0 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_c_13 : Ref sig .tc := ⟨.hbm, 139, rfl⟩
abbrev main_call1_v0 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_c_14 : Ref sig .tc := ⟨.hbm, 144, rfl⟩
abbrev main_call2_v0 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩

abbrev nD : Nat := 1
abbrev τ : Topo := Topo.v7x

variable {F : FTy → Type} [FloatOps F]
-- ==== KernelGla.lean ====
abbrev S2x2048x1024 : Shape := ⟨3, ![2, 2048, 1024]⟩
abbrev S2x2048x5552 : Shape := ⟨3, ![2, 2048, 5552]⟩
abbrev S1x16x512 : Shape := ⟨3, ![1, 16, 512]⟩
abbrev S1x512 : Shape := ⟨2, ![1, 512]⟩
abbrev S1x256 : Shape := ⟨2, ![1, 256]⟩
abbrev S2x2048x3072 : Shape := ⟨3, ![2, 2048, 3072]⟩
abbrev S2x2048x2048 : Shape := ⟨3, ![2, 2048, 2048]⟩
abbrev S2x2048x256 : Shape := ⟨3, ![2, 2048, 256]⟩
abbrev S2x2048x128 : Shape := ⟨3, ![2, 2048, 128]⟩
abbrev S2x2048x16 : Shape := ⟨3, ![2, 2048, 16]⟩
abbrev S_ : Shape := ⟨0, ![]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S16x512 : Shape := ⟨2, ![16, 512]⟩
abbrev S128x512 : Shape := ⟨2, ![128, 512]⟩
abbrev S2x2048x512 : Shape := ⟨3, ![2, 2048, 512]⟩
abbrev S512 : Shape := ⟨1, ![512]⟩
abbrev S2x32x64x4x128 : Shape := ⟨5, ![2, 32, 64, 4, 128]⟩
abbrev S2x32x64x4x256 : Shape := ⟨5, ![2, 32, 64, 4, 256]⟩
abbrev S1x1x512 : Shape := ⟨3, ![1, 1, 512]⟩
abbrev S2x32x1x4x128 : Shape := ⟨5, ![2, 32, 1, 4, 128]⟩
abbrev S2x32x4x128 : Shape := ⟨4, ![2, 32, 4, 128]⟩
abbrev S32x2x4x128x256 : Shape := ⟨5, ![32, 2, 4, 128, 256]⟩
abbrev S32x2x4x128 : Shape := ⟨4, ![32, 2, 4, 128]⟩
abbrev S2x4x128x256 : Shape := ⟨4, ![2, 4, 128, 256]⟩
abbrev S0x2x4x128 : Shape := ⟨4, ![0, 2, 4, 128]⟩
abbrev S0x2x4x128x256 : Shape := ⟨5, ![0, 2, 4, 128, 256]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S2x4x128x1 : Shape := ⟨4, ![2, 4, 128, 1]⟩
abbrev S16x2x4x128x256 : Shape := ⟨5, ![16, 2, 4, 128, 256]⟩
abbrev S2x32x4x256x64 : Shape := ⟨5, ![2, 32, 4, 256, 64]⟩
abbrev S2x4x32x256x128 : Shape := ⟨5, ![2, 4, 32, 256, 128]⟩
abbrev S1x2048x256 : Shape := ⟨3, ![1, 2048, 256]⟩
abbrev S1x1x32x256x128 : Shape := ⟨5, ![1, 1, 32, 256, 128]⟩
abbrev S1x2048x128 : Shape := ⟨3, ![1, 2048, 128]⟩
abbrev S128x128 : Shape := ⟨2, ![128, 128]⟩
abbrev S1x128 : Shape := ⟨2, ![1, 128]⟩
abbrev S2048x256 : Shape := ⟨2, ![2048, 256]⟩
abbrev S2048x128 : Shape := ⟨2, ![2048, 128]⟩
abbrev S1x512x256 : Shape := ⟨3, ![1, 512, 256]⟩
abbrev S512x256 : Shape := ⟨2, ![512, 256]⟩
abbrev S512x1 : Shape := ⟨2, ![512, 1]⟩
abbrev S256 : Shape := ⟨1, ![256]⟩
abbrev S64x64 : Shape := ⟨2, ![64, 64]⟩
abbrev S256x128 : Shape := ⟨2, ![256, 128]⟩
abbrev S64x128 : Shape := ⟨2, ![64, 128]⟩
abbrev S128 : Shape := ⟨1, ![128]⟩
abbrev S1x64x128 : Shape := ⟨3, ![1, 64, 128]⟩
abbrev S64x256 : Shape := ⟨2, ![64, 256]⟩
abbrev S1x1x1x256x128 : Shape := ⟨5, ![1, 1, 1, 256, 128]⟩
abbrev S1x64x256 : Shape := ⟨3, ![1, 64, 256]⟩

abbrev nBuf : Space → Nat
  | .hbm => 386
  | .vmem => 36
  | .smem => 0
  | _ => 0

abbrev hbmTy0_0 (i : Nat) : BufTy := match i % 128 with
  | 0 => ⟨S2x2048x1024, .f32⟩
  | 1 => ⟨S2x2048x5552, .f32⟩
  | 2 => ⟨S1x16x512, .f32⟩
  | 3 => ⟨S1x512, .f32⟩
  | 4 => ⟨S1x256, .f32⟩
  | 5 => ⟨S2x2048x5552, .bf16⟩
  | 6 => ⟨S2x2048x3072, .bf16⟩
  | 7 => ⟨S2x2048x2048, .bf16⟩
  | 8 => ⟨S2x2048x256, .bf16⟩
  | 9 => ⟨S2x2048x128, .bf16⟩
  | 10 => ⟨S2x2048x16, .bf16⟩
  | 11 => ⟨S_, .bf16⟩
  | 12 => ⟨S2x2048x176, .bf16⟩
  | 13 => ⟨S2x2048x32, .bf16⟩
  | 14 => ⟨S_, .bf16⟩
  | 15 => ⟨S2x2048x32, .bf16⟩
  | 16 => ⟨S2x2048x5760, .bf16⟩
  | 17 => ⟨S16x512, .f32⟩
  | 18 => ⟨S_, .i32⟩
  | 19 => ⟨S_, .f32⟩
  | 20 => ⟨S128x512, .f32⟩
  | 21 => ⟨S2x2048x512, .f32⟩
  | 22 => ⟨S2x2048x512, .f32⟩
  | 23 => ⟨S2x2048x1024, .f32⟩
  | 24 => ⟨S2x2048x1024, .f32⟩
  | 25 => ⟨S2x2048x16, .f32⟩
  | 26 => ⟨S2x2048x256, .f32⟩
  | 27 => ⟨S2x2048x128, .f32⟩
  | 28 => ⟨S2x2048x32, .f32⟩
  | 29 => ⟨S2x2048x2048, .f32⟩
  | 30 => ⟨S16x512, .f32⟩
  | 31 => ⟨S2x2048x512, .f32⟩
  | 32 => ⟨S512, .f32⟩
  | 33 => ⟨S2x32x64x4x128, .f32⟩
  | 34 => ⟨S_, .f32⟩
  | 35 => ⟨S2x32x64x4x128, .f32⟩
  | 36 => ⟨S2x32x64x4x128, .f32⟩
  | 37 => ⟨S2x32x64x4x128, .f32⟩
  | 38 => ⟨S2x32x64x4x256, .f32⟩
  | 39 => ⟨S1x1x512, .f32⟩
  | 40 => ⟨S2x2048x512, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S2x2048x512, .f32⟩
  | 47 => ⟨S2x2048x512, .f32⟩
  | 48 => ⟨S2x2048x512, .i1⟩
  | 49 => ⟨S2x2048x512, .f32⟩
  | 50 => ⟨S2x2048x512, .f32⟩
  | 51 => ⟨S2x2048x512, .f32⟩
  | 52 => ⟨S2x2048x512, .f32⟩
  | 53 => ⟨S2x2048x512, .f32⟩
  | 54 => ⟨S2x2048x512, .f32⟩
  | 55 => ⟨S2x2048x512, .f32⟩
  | 56 => ⟨S2x2048x512, .f32⟩
  | 57 => ⟨S2x2048x512, .f32⟩
  | 58 => ⟨S_, .f32⟩
  | 59 => ⟨S2x2048x512, .f32⟩
  | 60 => ⟨S2x2048x512, .f32⟩
  | 61 => ⟨S2x32x64x4x128, .f32⟩
  | 62 => ⟨S_, .f32⟩
  | 63 => ⟨S_, .f32⟩
  | 64 => ⟨S2x32x64x4x128, .f32⟩
  | 65 => ⟨S2x32x1x4x128, .f32⟩
  | 66 => ⟨S2x32x4x128, .f32⟩
  | 67 => ⟨S2x32x1x4x128, .f32⟩
  | 68 => ⟨S2x32x64x4x128, .f32⟩
  | 69 => ⟨S2x32x64x4x128, .f32⟩
  | 70 => ⟨S2x32x64x4x128, .f32⟩
  | 71 => ⟨S2x32x64x4x128, .f32⟩
  | 72 => ⟨S32x2x4x128x256, .f32⟩
  | 73 => ⟨S2x32x4x128, .f32⟩
  | 74 => ⟨S32x2x4x128, .f32⟩
  | 75 => ⟨S_, .f32⟩
  | 76 => ⟨S2x4x128x256, .f32⟩
  | 77 => ⟨S0x2x4x128, .f32⟩
  | 78 => ⟨S32x2x4x128, .f32⟩
  | 79 => ⟨S0x2x4x128x256, .f32⟩
  | 80 => ⟨S32x2x4x128x256, .f32⟩
  | 81 => ⟨S_, .f32⟩
  | 82 => ⟨S0x2x4x128x256, .f32⟩
  | 83 => ⟨S1x2x4x128, .f32⟩
  | 84 => ⟨S2x4x128, .f32⟩
  | 85 => ⟨S1x2x4x128x256, .f32⟩
  | 86 => ⟨S2x4x128x256, .f32⟩
  | 87 => ⟨S2x4x128x1, .f32⟩
  | 88 => ⟨S2x4x128x256, .f32⟩
  | 89 => ⟨S2x4x128x256, .f32⟩
  | 90 => ⟨S2x4x128x256, .f32⟩
  | 91 => ⟨S1x2x4x128, .f32⟩
  | 92 => ⟨S2x4x128, .f32⟩
  | 93 => ⟨S1x2x4x128x256, .f32⟩
  | 94 => ⟨S2x4x128x256, .f32⟩
  | 95 => ⟨S2x4x128x1, .f32⟩
  | 96 => ⟨S2x4x128x256, .f32⟩
  | 97 => ⟨S2x4x128x256, .f32⟩
  | 98 => ⟨S2x4x128x256, .f32⟩
  | 99 => ⟨S1x2x4x128, .f32⟩
  | 100 => ⟨S2x4x128, .f32⟩
  | 101 => ⟨S1x2x4x128x256, .f32⟩
  | 102 => ⟨S2x4x128x256, .f32⟩
  | 103 => ⟨S2x4x128x1, .f32⟩
  | 104 => ⟨S2x4x128x256, .f32⟩
  | 105 => ⟨S2x4x128x256, .f32⟩
  | 106 => ⟨S2x4x128x256, .f32⟩
  | 107 => ⟨S1x2x4x128, .f32⟩
  | 108 => ⟨S2x4x128, .f32⟩
  | 109 => ⟨S1x2x4x128x256, .f32⟩
  | 110 => ⟨S2x4x128x256, .f32⟩
  | 111 => ⟨S2x4x128x1, .f32⟩
  | 112 => ⟨S2x4x128x256, .f32⟩
  | 113 => ⟨S2x4x128x256, .f32⟩
  | 114 => ⟨S2x4x128x256, .f32⟩
  | 115 => ⟨S1x2x4x128, .f32⟩
  | 116 => ⟨S2x4x128, .f32⟩
  | 117 => ⟨S1x2x4x128x256, .f32⟩
  | 118 => ⟨S2x4x128x256, .f32⟩
  | 119 => ⟨S2x4x128x1, .f32⟩
  | 120 => ⟨S2x4x128x256, .f32⟩
  | 121 => ⟨S2x4x128x256, .f32⟩
  | 122 => ⟨S2x4x128x256, .f32⟩
  | 123 => ⟨S1x2x4x128, .f32⟩
  | 124 => ⟨S2x4x128, .f32⟩
  | 125 => ⟨S1x2x4x128x256, .f32⟩
  | 126 => ⟨S2x4x128x256, .f32⟩
  | 127 => ⟨S2x4x128x1, .f32⟩
  | _ => ⟨S2x2048x1024, .f32⟩

abbrev hbmTy0_1 (i : Nat) : BufTy := match i % 128 with
  | 0 => ⟨S2x4x128x256, .f32⟩
  | 1 => ⟨S2x4x128x256, .f32⟩
  | 2 => ⟨S2x4x128x256, .f32⟩
  | 3 => ⟨S1x2x4x128, .f32⟩
  | 4 => ⟨S2x4x128, .f32⟩
  | 5 => ⟨S1x2x4x128x256, .f32⟩
  | 6 => ⟨S2x4x128x256, .f32⟩
  | 7 => ⟨S2x4x128x1, .f32⟩
  | 8 => ⟨S2x4x128x256, .f32⟩
  | 9 => ⟨S2x4x128x256, .f32⟩
  | 10 => ⟨S2x4x128x256, .f32⟩
  | 11 => ⟨S1x2x4x128, .f32⟩
  | 12 => ⟨S2x4x128, .f32⟩
  | 13 => ⟨S1x2x4x128x256, .f32⟩
  | 14 => ⟨S2x4x128x256, .f32⟩
  | 15 => ⟨S2x4x128x1, .f32⟩
  | 16 => ⟨S2x4x128x256, .f32⟩
  | 17 => ⟨S2x4x128x256, .f32⟩
  | 18 => ⟨S2x4x128x256, .f32⟩
  | 19 => ⟨S1x2x4x128, .f32⟩
  | 20 => ⟨S2x4x128, .f32⟩
  | 21 => ⟨S1x2x4x128x256, .f32⟩
  | 22 => ⟨S2x4x128x256, .f32⟩
  | 23 => ⟨S2x4x128x1, .f32⟩
  | 24 => ⟨S2x4x128x256, .f32⟩
  | 25 => ⟨S2x4x128x256, .f32⟩
  | 26 => ⟨S2x4x128x256, .f32⟩
  | 27 => ⟨S1x2x4x128, .f32⟩
  | 28 => ⟨S2x4x128, .f32⟩
  | 29 => ⟨S1x2x4x128x256, .f32⟩
  | 30 => ⟨S2x4x128x256, .f32⟩
  | 31 => ⟨S2x4x128x1, .f32⟩
  | 32 => ⟨S2x4x128x256, .f32⟩
  | 33 => ⟨S2x4x128x256, .f32⟩
  | 34 => ⟨S2x4x128x256, .f32⟩
  | 35 => ⟨S1x2x4x128, .f32⟩
  | 36 => ⟨S2x4x128, .f32⟩
  | 37 => ⟨S1x2x4x128x256, .f32⟩
  | 38 => ⟨S2x4x128x256, .f32⟩
  | 39 => ⟨S2x4x128x1, .f32⟩
  | 40 => ⟨S2x4x128x256, .f32⟩
  | 41 => ⟨S2x4x128x256, .f32⟩
  | 42 => ⟨S2x4x128x256, .f32⟩
  | 43 => ⟨S1x2x4x128, .f32⟩
  | 44 => ⟨S2x4x128, .f32⟩
  | 45 => ⟨S1x2x4x128x256, .f32⟩
  | 46 => ⟨S2x4x128x256, .f32⟩
  | 47 => ⟨S2x4x128x1, .f32⟩
  | 48 => ⟨S2x4x128x256, .f32⟩
  | 49 => ⟨S2x4x128x256, .f32⟩
  | 50 => ⟨S2x4x128x256, .f32⟩
  | 51 => ⟨S1x2x4x128, .f32⟩
  | 52 => ⟨S2x4x128, .f32⟩
  | 53 => ⟨S1x2x4x128x256, .f32⟩
  | 54 => ⟨S2x4x128x256, .f32⟩
  | 55 => ⟨S2x4x128x1, .f32⟩
  | 56 => ⟨S2x4x128x256, .f32⟩
  | 57 => ⟨S2x4x128x256, .f32⟩
  | 58 => ⟨S2x4x128x256, .f32⟩
  | 59 => ⟨S1x2x4x128, .f32⟩
  | 60 => ⟨S2x4x128, .f32⟩
  | 61 => ⟨S1x2x4x128x256, .f32⟩
  | 62 => ⟨S2x4x128x256, .f32⟩
  | 63 => ⟨S2x4x128x1, .f32⟩
  | 64 => ⟨S2x4x128x256, .f32⟩
  | 65 => ⟨S2x4x128x256, .f32⟩
  | 66 => ⟨S2x4x128x256, .f32⟩
  | 67 => ⟨S1x2x4x128, .f32⟩
  | 68 => ⟨S2x4x128, .f32⟩
  | 69 => ⟨S1x2x4x128x256, .f32⟩
  | 70 => ⟨S2x4x128x256, .f32⟩
  | 71 => ⟨S2x4x128x1, .f32⟩
  | 72 => ⟨S2x4x128x256, .f32⟩
  | 73 => ⟨S2x4x128x256, .f32⟩
  | 74 => ⟨S2x4x128x256, .f32⟩
  | 75 => ⟨S1x2x4x128, .f32⟩
  | 76 => ⟨S2x4x128, .f32⟩
  | 77 => ⟨S1x2x4x128x256, .f32⟩
  | 78 => ⟨S2x4x128x256, .f32⟩
  | 79 => ⟨S2x4x128x1, .f32⟩
  | 80 => ⟨S2x4x128x256, .f32⟩
  | 81 => ⟨S2x4x128x256, .f32⟩
  | 82 => ⟨S2x4x128x256, .f32⟩
  | 83 => ⟨S1x2x4x128, .f32⟩
  | 84 => ⟨S2x4x128, .f32⟩
  | 85 => ⟨S1x2x4x128x256, .f32⟩
  | 86 => ⟨S2x4x128x256, .f32⟩
  | 87 => ⟨S2x4x128x1, .f32⟩
  | 88 => ⟨S2x4x128x256, .f32⟩
  | 89 => ⟨S2x4x128x256, .f32⟩
  | 90 => ⟨S2x4x128x256, .f32⟩
  | 91 => ⟨S1x2x4x128, .f32⟩
  | 92 => ⟨S2x4x128, .f32⟩
  | 93 => ⟨S1x2x4x128x256, .f32⟩
  | 94 => ⟨S2x4x128x256, .f32⟩
  | 95 => ⟨S2x4x128x1, .f32⟩
  | 96 => ⟨S2x4x128x256, .f32⟩
  | 97 => ⟨S2x4x128x256, .f32⟩
  | 98 => ⟨S2x4x128x256, .f32⟩
  | 99 => ⟨S1x2x4x128, .f32⟩
  | 100 => ⟨S2x4x128, .f32⟩
  | 101 => ⟨S1x2x4x128x256, .f32⟩
  | 102 => ⟨S2x4x128x256, .f32⟩
  | 103 => ⟨S2x4x128x1, .f32⟩
  | 104 => ⟨S2x4x128x256, .f32⟩
  | 105 => ⟨S2x4x128x256, .f32⟩
  | 106 => ⟨S2x4x128x256, .f32⟩
  | 107 => ⟨S1x2x4x128, .f32⟩
  | 108 => ⟨S2x4x128, .f32⟩
  | 109 => ⟨S1x2x4x128x256, .f32⟩
  | 110 => ⟨S2x4x128x256, .f32⟩
  | 111 => ⟨S2x4x128x1, .f32⟩
  | 112 => ⟨S2x4x128x256, .f32⟩
  | 113 => ⟨S2x4x128x256, .f32⟩
  | 114 => ⟨S2x4x128x256, .f32⟩
  | 115 => ⟨S1x2x4x128, .f32⟩
  | 116 => ⟨S2x4x128, .f32⟩
  | 117 => ⟨S1x2x4x128x256, .f32⟩
  | 118 => ⟨S2x4x128x256, .f32⟩
  | 119 => ⟨S2x4x128x1, .f32⟩
  | 120 => ⟨S2x4x128x256, .f32⟩
  | 121 => ⟨S2x4x128x256, .f32⟩
  | 122 => ⟨S2x4x128x256, .f32⟩
  | 123 => ⟨S1x2x4x128, .f32⟩
  | 124 => ⟨S2x4x128, .f32⟩
  | 125 => ⟨S1x2x4x128x256, .f32⟩
  | 126 => ⟨S2x4x128x256, .f32⟩
  | 127 => ⟨S2x4x128x1, .f32⟩
  | _ => ⟨S2x2048x1024, .f32⟩

abbrev hbmTy0_2 (i : Nat) : BufTy := match i % 128 with
  | 0 => ⟨S2x4x128x256, .f32⟩
  | 1 => ⟨S2x4x128x256, .f32⟩
  | 2 => ⟨S2x4x128x256, .f32⟩
  | 3 => ⟨S1x2x4x128, .f32⟩
  | 4 => ⟨S2x4x128, .f32⟩
  | 5 => ⟨S1x2x4x128x256, .f32⟩
  | 6 => ⟨S2x4x128x256, .f32⟩
  | 7 => ⟨S2x4x128x1, .f32⟩
  | 8 => ⟨S2x4x128x256, .f32⟩
  | 9 => ⟨S2x4x128x256, .f32⟩
  | 10 => ⟨S2x4x128x256, .f32⟩
  | 11 => ⟨S1x2x4x128, .f32⟩
  | 12 => ⟨S2x4x128, .f32⟩
  | 13 => ⟨S1x2x4x128x256, .f32⟩
  | 14 => ⟨S2x4x128x256, .f32⟩
  | 15 => ⟨S2x4x128x1, .f32⟩
  | 16 => ⟨S2x4x128x256, .f32⟩
  | 17 => ⟨S2x4x128x256, .f32⟩
  | 18 => ⟨S2x4x128x256, .f32⟩
  | 19 => ⟨S1x2x4x128, .f32⟩
  | 20 => ⟨S2x4x128, .f32⟩
  | 21 => ⟨S1x2x4x128x256, .f32⟩
  | 22 => ⟨S2x4x128x256, .f32⟩
  | 23 => ⟨S2x4x128x1, .f32⟩
  | 24 => ⟨S2x4x128x256, .f32⟩
  | 25 => ⟨S2x4x128x256, .f32⟩
  | 26 => ⟨S2x4x128x256, .f32⟩
  | 27 => ⟨S1x2x4x128, .f32⟩
  | 28 => ⟨S2x4x128, .f32⟩
  | 29 => ⟨S1x2x4x128x256, .f32⟩
  | 30 => ⟨S2x4x128x256, .f32⟩
  | 31 => ⟨S2x4x128x1, .f32⟩
  | 32 => ⟨S2x4x128x256, .f32⟩
  | 33 => ⟨S2x4x128x256, .f32⟩
  | 34 => ⟨S2x4x128x256, .f32⟩
  | 35 => ⟨S1x2x4x128, .f32⟩
  | 36 => ⟨S2x4x128, .f32⟩
  | 37 => ⟨S1x2x4x128x256, .f32⟩
  | 38 => ⟨S2x4x128x256, .f32⟩
  | 39 => ⟨S2x4x128x1, .f32⟩
  | 40 => ⟨S2x4x128x256, .f32⟩
  | 41 => ⟨S2x4x128x256, .f32⟩
  | 42 => ⟨S2x4x128x256, .f32⟩
  | 43 => ⟨S1x2x4x128, .f32⟩
  | 44 => ⟨S2x4x128, .f32⟩
  | 45 => ⟨S1x2x4x128x256, .f32⟩
  | 46 => ⟨S2x4x128x256, .f32⟩
  | 47 => ⟨S2x4x128x1, .f32⟩
  | 48 => ⟨S2x4x128x256, .f32⟩
  | 49 => ⟨S2x4x128x256, .f32⟩
  | 50 => ⟨S2x4x128x256, .f32⟩
  | 51 => ⟨S1x2x4x128, .f32⟩
  | 52 => ⟨S2x4x128, .f32⟩
  | 53 => ⟨S1x2x4x128x256, .f32⟩
  | 54 => ⟨S2x4x128x256, .f32⟩
  | 55 => ⟨S2x4x128x1, .f32⟩
  | 56 => ⟨S2x4x128x256, .f32⟩
  | 57 => ⟨S2x4x128x256, .f32⟩
  | 58 => ⟨S2x4x128x256, .f32⟩
  | 59 => ⟨S1x2x4x128, .f32⟩
  | 60 => ⟨S2x4x128, .f32⟩
  | 61 => ⟨S1x2x4x128x256, .f32⟩
  | 62 => ⟨S2x4x128x256, .f32⟩
  | 63 => ⟨S2x4x128x1, .f32⟩
  | 64 => ⟨S2x4x128x256, .f32⟩
  | 65 => ⟨S2x4x128x256, .f32⟩
  | 66 => ⟨S2x4x128x256, .f32⟩
  | 67 => ⟨S1x2x4x128, .f32⟩
  | 68 => ⟨S2x4x128, .f32⟩
  | 69 => ⟨S1x2x4x128x256, .f32⟩
  | 70 => ⟨S2x4x128x256, .f32⟩
  | 71 => ⟨S2x4x128x1, .f32⟩
  | 72 => ⟨S2x4x128x256, .f32⟩
  | 73 => ⟨S2x4x128x256, .f32⟩
  | 74 => ⟨S2x4x128x256, .f32⟩
  | 75 => ⟨S1x2x4x128, .f32⟩
  | 76 => ⟨S2x4x128, .f32⟩
  | 77 => ⟨S1x2x4x128x256, .f32⟩
  | 78 => ⟨S2x4x128x256, .f32⟩
  | 79 => ⟨S2x4x128x1, .f32⟩
  | 80 => ⟨S2x4x128x256, .f32⟩
  | 81 => ⟨S2x4x128x256, .f32⟩
  | 82 => ⟨S2x4x128x256, .f32⟩
  | 83 => ⟨S1x2x4x128x256, .f32⟩
  | 84 => ⟨S1x2x4x128x256, .f32⟩
  | 85 => ⟨S1x2x4x128x256, .f32⟩
  | 86 => ⟨S1x2x4x128x256, .f32⟩
  | 87 => ⟨S1x2x4x128x256, .f32⟩
  | 88 => ⟨S1x2x4x128x256, .f32⟩
  | 89 => ⟨S1x2x4x128x256, .f32⟩
  | 90 => ⟨S1x2x4x128x256, .f32⟩
  | 91 => ⟨S1x2x4x128x256, .f32⟩
  | 92 => ⟨S1x2x4x128x256, .f32⟩
  | 93 => ⟨S1x2x4x128x256, .f32⟩
  | 94 => ⟨S1x2x4x128x256, .f32⟩
  | 95 => ⟨S1x2x4x128x256, .f32⟩
  | 96 => ⟨S1x2x4x128x256, .f32⟩
  | 97 => ⟨S1x2x4x128x256, .f32⟩
  | 98 => ⟨S1x2x4x128x256, .f32⟩
  | 99 => ⟨S1x2x4x128x256, .f32⟩
  | 100 => ⟨S1x2x4x128x256, .f32⟩
  | 101 => ⟨S1x2x4x128x256, .f32⟩
  | 102 => ⟨S1x2x4x128x256, .f32⟩
  | 103 => ⟨S1x2x4x128x256, .f32⟩
  | 104 => ⟨S1x2x4x128x256, .f32⟩
  | 105 => ⟨S1x2x4x128x256, .f32⟩
  | 106 => ⟨S1x2x4x128x256, .f32⟩
  | 107 => ⟨S1x2x4x128x256, .f32⟩
  | 108 => ⟨S1x2x4x128x256, .f32⟩
  | 109 => ⟨S1x2x4x128x256, .f32⟩
  | 110 => ⟨S1x2x4x128x256, .f32⟩
  | 111 => ⟨S1x2x4x128x256, .f32⟩
  | 112 => ⟨S1x2x4x128x256, .f32⟩
  | 113 => ⟨S1x2x4x128x256, .f32⟩
  | 114 => ⟨S1x2x4x128x256, .f32⟩
  | 115 => ⟨S16x2x4x128x256, .f32⟩
  | 116 => ⟨S16x2x4x128x256, .f32⟩
  | 117 => ⟨S32x2x4x128x256, .f32⟩
  | 118 => ⟨S32x2x4x128x256, .f32⟩
  | 119 => ⟨S2x32x4x256x64, .f32⟩
  | 120 => ⟨S2x32x64x4x256, .f32⟩
  | 121 => ⟨S2x2048x1024, .f32⟩
  | 122 => ⟨S2x4x32x256x128, .f32⟩
  | 123 => ⟨S2x2048x512, .bf16⟩
  | 124 => ⟨S2x2048x512, .bf16⟩
  | 125 => ⟨S2x2048x1024, .bf16⟩
  | 126 => ⟨S2x2048x1024, .bf16⟩
  | 127 => ⟨S2x2048x512, .bf16⟩
  | _ => ⟨S2x2048x1024, .f32⟩

abbrev hbmTy0_3 (i : Nat) : BufTy := match i % 128 with
  | 0 => ⟨S1x512, .f32⟩
  | 1 => ⟨S1x256, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | _ => ⟨S2x2048x1024, .f32⟩

abbrev bufTy : (tb : Table) → Fin (tcTables nBuf tb) → BufTy
  | .hbm, ⟨i, _⟩ => hbmTy i
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x32x256x128, .f32⟩
  | .local _ .vmem, ⟨5, _⟩ => ⟨S1x1x32x256x128, .f32⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x128, .bf16⟩
  | .local _ .vmem, ⟨15, _⟩ => ⟨S1x2048x128, .bf16⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S1x256, .f32⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x2048x128, .bf16⟩
  | .local _ .vmem, ⟨25, _⟩ => ⟨S1x2048x256, .bf16⟩
  | .local _ .vmem, ⟨26, _⟩ => ⟨S1x2048x256, .bf16⟩
  | .local _ .vmem, ⟨27, _⟩ => ⟨S1x2048x256, .bf16⟩
  | .local _ .vmem, ⟨28, _⟩ => ⟨S1x2048x256, .bf16⟩
  | .local _ .vmem, ⟨29, _⟩ => ⟨S1x2048x128, .bf16⟩
  | .local _ .vmem, ⟨30, _⟩ => ⟨S1x2048x128, .bf16⟩
  | .local _ .vmem, ⟨31, _⟩ => ⟨S1x128, .f32⟩
  | .local _ .vmem, ⟨32, _⟩ => ⟨S1x128, .f32⟩
  | .local _ .vmem, ⟨33, _⟩ => ⟨S1x256, .f32⟩
  | .local _ .vmem, ⟨34, _⟩ => ⟨S2048x256, .bf16⟩
  | .local _ .vmem, ⟨35, _⟩ => ⟨S2048x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call2_call0_cst : Ref sig .tc := ⟨.hbm, 62, rfl⟩
abbrev main_call2_call0_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_3 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_4 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_v346 : Ref sig .tc := ⟨.hbm, 376, rfl⟩
abbrev main_v347 : Ref sig .tc := ⟨.hbm, 377, rfl⟩
abbrev main_v348 : Ref sig .tc := ⟨.hbm, 378, rfl⟩
abbrev main_v349_0 : Ref sig .tc := ⟨.hbm, 379, rfl⟩
abbrev main_v349_1 : Ref sig .tc := ⟨.hbm, 380, rfl⟩
abbrev main_v349_2 : Ref sig .tc := ⟨.hbm, 381, rfl⟩
abbrev main_v349_3 : Ref sig .tc := ⟨.hbm, 382, rfl⟩
abbrev main_v349_4 : Ref sig .tc := ⟨.hbm, 383, rfl⟩
abbrev main_v349_5 : Ref sig .tc := ⟨.hbm, 384, rfl⟩
abbrev main_v349_6 : Ref sig .tc := ⟨.hbm, 385, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c43_i32 : BitVec 32 := 43#32
  let c0_i32_0 : BitVec 32 := 0#32
  ![arg1.toNat, c0_i32.toNat, c43_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== KernelGlaFwd.lean ====
abbrev S2x2048x5552 : Shape := ⟨3, ![2, 2048, 5552]⟩
abbrev S1x16x512 : Shape := ⟨3, ![1, 16, 512]⟩
abbrev S1x512 : Shape := ⟨2, ![1, 512]⟩
abbrev S1x256 : Shape := ⟨2, ![1, 256]⟩
abbrev S16x512 : Shape := ⟨2, ![16, 512]⟩
abbrev S_ : Shape := ⟨0, ![]⟩
abbrev S128x512 : Shape := ⟨2, ![128, 512]⟩
abbrev S2x2048x3072 : Shape := ⟨3, ![2, 2048, 3072]⟩
abbrev S2x2048x2048 : Shape := ⟨3, ![2, 2048, 2048]⟩
abbrev S2x2048x256 : Shape := ⟨3, ![2, 2048, 256]⟩
abbrev S2x2048x128 : Shape := ⟨3, ![2, 2048, 128]⟩
abbrev S2x2048x16 : Shape := ⟨3, ![2, 2048, 16]⟩
abbrev S2x2048x176 : Shape := ⟨3, ![2, 2048, 176]⟩
abbrev S2x2048x32 : Shape := ⟨3, ![2, 2048, 32]⟩
abbrev S2x2048x5760 : Shape := ⟨3, ![2, 2048, 5760]⟩
abbrev S2x2048x1024 : Shape := ⟨3, ![2, 2048, 1024]⟩
abbrev S2x4x32x256x128 : Shape := ⟨5, ![2, 4, 32, 256, 128]⟩
abbrev S1x2048x128 : Shape := ⟨3, ![1, 2048, 128]⟩
abbrev S1x2048x256 : Shape := ⟨3, ![1, 2048, 256]⟩
abbrev S128x128 : Shape := ⟨2, ![128, 128]⟩
abbrev S1x128 : Shape := ⟨2, ![1, 128]⟩
abbrev S1x1x32x256x128 : Shape := ⟨5, ![1, 1, 32, 256, 128]⟩
abbrev S2048x128 : Shape := ⟨2, ![2048, 128]⟩
abbrev S64x64 : Shape := ⟨2, ![64, 64]⟩
abbrev S256x128 : Shape := ⟨2, ![256, 128]⟩
abbrev S64x128 : Shape := ⟨2, ![64, 128]⟩
abbrev S128 : Shape := ⟨1, ![128]⟩
abbrev S1x64x128 : Shape := ⟨3, ![1, 64, 128]⟩
abbrev S1x64x256 : Shape := ⟨3, ![1, 64, 256]⟩
abbrev S64x256 : Shape := ⟨2, ![64, 256]⟩
abbrev S1x1x1x256x128 : Shape := ⟨5, ![1, 1, 1, 256, 128]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 23
  | .vmem => 21
  | .smem => 0
  | _ => 0

abbrev bufTy : (tb : Table) → Fin (tcTables nBuf tb) → BufTy
  | .hbm, ⟨0, _⟩ => ⟨S2x2048x5552, .f32⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S16x512, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S2x2048x5552, .bf16⟩
  | .hbm, ⟨9, _⟩ => ⟨S2x2048x3072, .bf16⟩
  | .hbm, ⟨10, _⟩ => ⟨S2x2048x2048, .bf16⟩
  | .hbm, ⟨11, _⟩ => ⟨S2x2048x256, .bf16⟩
  | .hbm, ⟨12, _⟩ => ⟨S2x2048x128, .bf16⟩
  | .hbm, ⟨13, _⟩ => ⟨S2x2048x16, .bf16⟩
  | .hbm, ⟨14, _⟩ => ⟨S_, .bf16⟩
  | .hbm, ⟨15, _⟩ => ⟨S2x2048x176, .bf16⟩
  | .hbm, ⟨16, _⟩ => ⟨S2x2048x32, .bf16⟩
  | .hbm, ⟨17, _⟩ => ⟨S_, .bf16⟩
  | .hbm, ⟨18, _⟩ => ⟨S2x2048x32, .bf16⟩
  | .hbm, ⟨19, _⟩ => ⟨S2x2048x5760, .bf16⟩
  | .hbm, ⟨20, _⟩ => ⟨S2x2048x1024, .f32⟩
  | .hbm, ⟨21, _⟩ => ⟨S2x2048x1024, .bf16⟩
  | .hbm, ⟨22, _⟩ => ⟨S2x4x32x256x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x128, .bf16⟩
  | .local _ .vmem, ⟨9, _⟩ => ⟨S1x2048x128, .bf16⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .bf16⟩
  | .local _ .vmem, ⟨18, _⟩ => ⟨S1x2048x256, .bf16⟩
  | .local _ .vmem, ⟨19, _⟩ => ⟨S1x1x32x256x128, .f32⟩
  | .local _ .vmem, ⟨20, _⟩ => ⟨S1x1x32x256x128, .f32⟩
  | _, _ => ⟨S2x2048x5552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c43_i32 : BitVec 32 := 43#32
  let c0_i32_0 : BitVec 32 := 0#32
  ![arg1.toNat, c0_i32.toNat, c43_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x32x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceGlaFwdIdeal.lean ====
abbrev S2x2048x5552 : Shape := ⟨3, ![2, 2048, 5552]⟩
abbrev S1x16x512 : Shape := ⟨3, ![1, 16, 512]⟩
abbrev S1x512 : Shape := ⟨2, ![1, 512]⟩
abbrev S1x256 : Shape := ⟨2, ![1, 256]⟩
abbrev S2x2048x512 : Shape := ⟨3, ![2, 2048, 512]⟩
abbrev S2x2048x1024 : Shape := ⟨3, ![2, 2048, 1024]⟩
abbrev S2x2048x16 : Shape := ⟨3, ![2, 2048, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x2048 : Shape := ⟨3, ![2, 2048, 2048]⟩
abbrev S2x32x64x4x128 : Shape := ⟨5, ![2, 32, 64, 4, 128]⟩
abbrev S_ : Shape := ⟨0, ![]⟩
abbrev S16x512 : Shape := ⟨2, ![16, 512]⟩
abbrev S512 : Shape := ⟨1, ![512]⟩
abbrev S2x32x64x4x256 : Shape := ⟨5, ![2, 32, 64, 4, 256]⟩
abbrev S1x1x512 : Shape := ⟨3, ![1, 1, 512]⟩
abbrev S2x32x1x4x128 : Shape := ⟨5, ![2, 32, 1, 4, 128]⟩
abbrev S2x32x4x128 : Shape := ⟨4, ![2, 32, 4, 128]⟩
abbrev S32x2x4x128x256 : Shape := ⟨5, ![32, 2, 4, 128, 256]⟩
abbrev S32x2x4x128 : Shape := ⟨4, ![32, 2, 4, 128]⟩
abbrev S2x4x128x256 : Shape := ⟨4, ![2, 4, 128, 256]⟩
abbrev S0x2x4x128 : Shape := ⟨4, ![0, 2, 4, 128]⟩
abbrev S0x2x4x128x256 : Shape := ⟨5, ![0, 2, 4, 128, 256]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S2x4x128x1 : Shape := ⟨4, ![2, 4, 128, 1]⟩
abbrev S16x2x4x128x256 : Shape := ⟨5, ![16, 2, 4, 128, 256]⟩
abbrev S2x32x4x256x64 : Shape := ⟨5, ![2, 32, 4, 256, 64]⟩
abbrev S2x2048x4x256 : Shape := ⟨4, ![2, 2048, 4, 256]⟩
abbrev S256 : Shape := ⟨1, ![256]⟩
abbrev S2x2048x4 : Shape := ⟨3, ![2, 2048, 4]⟩
abbrev S2x2048x4x1 : Shape := ⟨4, ![2, 2048, 4, 1]⟩
abbrev S1x1x1x256 : Shape := ⟨4, ![1, 1, 1, 256]⟩
abbrev S2x4x32x256x128 : Shape := ⟨5, ![2, 4, 32, 256, 128]⟩

abbrev nBuf : Space → Nat
  | .hbm => 393
  | .vmem => 0
  | .smem => 0
  | _ => 0

abbrev hbmTy0_0 (i : Nat) : BufTy := match i % 128 with
  | 0 => ⟨S2x2048x5552, .f32⟩
  | 1 => ⟨S1x16x512, .f32⟩
  | 2 => ⟨S1x512, .f32⟩
  | 3 => ⟨S1x256, .f32⟩
  | 4 => ⟨S2x2048x512, .f32⟩
  | 5 => ⟨S2x2048x512, .f32⟩
  | 6 => ⟨S2x2048x1024, .f32⟩
  | 7 => ⟨S2x2048x1024, .f32⟩
  | 8 => ⟨S2x2048x16, .f32⟩
  | 9 => ⟨S2x2048x256, .f32⟩
  | 10 => ⟨S2x2048x128, .f32⟩
  | 11 => ⟨S2x2048x32, .f32⟩
  | 12 => ⟨S2x2048x2048, .f32⟩
  | 13 => ⟨S2x32x64x4x128, .f32⟩
  | 14 => ⟨S_, .f32⟩
  | 15 => ⟨S2x32x64x4x128, .f32⟩
  | 16 => ⟨S2x32x64x4x128, .f32⟩
  | 17 => ⟨S16x512, .f32⟩
  | 18 => ⟨S2x2048x512, .f32⟩
  | 19 => ⟨S512, .f32⟩
  | 20 => ⟨S2x32x64x4x128, .f32⟩
  | 21 => ⟨S2x32x64x4x256, .f32⟩
  | 22 => ⟨S1x1x512, .f32⟩
  | 23 => ⟨S2x2048x512, .f32⟩
  | 24 => ⟨S2x2048x512, .f32⟩
  | 25 => ⟨S2x2048x512, .f32⟩
  | 26 => ⟨S_, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .i1⟩
  | 32 => ⟨S2x2048x512, .f32⟩
  | 33 => ⟨S2x2048x512, .f32⟩
  | 34 => ⟨S2x2048x512, .f32⟩
  | 35 => ⟨S2x2048x512, .f32⟩
  | 36 => ⟨S2x2048x512, .f32⟩
  | 37 => ⟨S2x2048x512, .f32⟩
  | 38 => ⟨S2x2048x512, .f32⟩
  | 39 => ⟨S2x2048x512, .f32⟩
  | 40 => ⟨S2x2048x512, .f32⟩
  | 41 => ⟨S_, .f32⟩
  | 42 => ⟨S2x2048x512, .f32⟩
  | 43 => ⟨S2x2048x512, .f32⟩
  | 44 => ⟨S2x32x64x4x128, .f32⟩
  | 45 => ⟨S_, .f32⟩
  | 46 => ⟨S_, .f32⟩
  | 47 => ⟨S2x32x64x4x128, .f32⟩
  | 48 => ⟨S2x32x1x4x128, .f32⟩
  | 49 => ⟨S2x32x4x128, .f32⟩
  | 50 => ⟨S2x32x1x4x128, .f32⟩
  | 51 => ⟨S2x32x64x4x128, .f32⟩
  | 52 => ⟨S2x32x64x4x128, .f32⟩
  | 53 => ⟨S2x32x64x4x128, .f32⟩
  | 54 => ⟨S2x32x64x4x128, .f32⟩
  | 55 => ⟨S32x2x4x128x256, .f32⟩
  | 56 => ⟨S2x32x4x128, .f32⟩
  | 57 => ⟨S32x2x4x128, .f32⟩
  | 58 => ⟨S_, .f32⟩
  | 59 => ⟨S2x4x128x256, .f32⟩
  | 60 => ⟨S0x2x4x128, .f32⟩
  | 61 => ⟨S32x2x4x128, .f32⟩
  | 62 => ⟨S0x2x4x128x256, .f32⟩
  | 63 => ⟨S32x2x4x128x256, .f32⟩
  | 64 => ⟨S_, .f32⟩
  | 65 => ⟨S0x2x4x128x256, .f32⟩
  | 66 => ⟨S1x2x4x128, .f32⟩
  | 67 => ⟨S2x4x128, .f32⟩
  | 68 => ⟨S1x2x4x128x256, .f32⟩
  | 69 => ⟨S2x4x128x256, .f32⟩
  | 70 => ⟨S2x4x128x1, .f32⟩
  | 71 => ⟨S2x4x128x256, .f32⟩
  | 72 => ⟨S2x4x128x256, .f32⟩
  | 73 => ⟨S2x4x128x256, .f32⟩
  | 74 => ⟨S1x2x4x128, .f32⟩
  | 75 => ⟨S2x4x128, .f32⟩
  | 76 => ⟨S1x2x4x128x256, .f32⟩
  | 77 => ⟨S2x4x128x256, .f32⟩
  | 78 => ⟨S2x4x128x1, .f32⟩
  | 79 => ⟨S2x4x128x256, .f32⟩
  | 80 => ⟨S2x4x128x256, .f32⟩
  | 81 => ⟨S2x4x128x256, .f32⟩
  | 82 => ⟨S1x2x4x128, .f32⟩
  | 83 => ⟨S2x4x128, .f32⟩
  | 84 => ⟨S1x2x4x128x256, .f32⟩
  | 85 => ⟨S2x4x128x256, .f32⟩
  | 86 => ⟨S2x4x128x1, .f32⟩
  | 87 => ⟨S2x4x128x256, .f32⟩
  | 88 => ⟨S2x4x128x256, .f32⟩
  | 89 => ⟨S2x4x128x256, .f32⟩
  | 90 => ⟨S1x2x4x128, .f32⟩
  | 91 => ⟨S2x4x128, .f32⟩
  | 92 => ⟨S1x2x4x128x256, .f32⟩
  | 93 => ⟨S2x4x128x256, .f32⟩
  | 94 => ⟨S2x4x128x1, .f32⟩
  | 95 => ⟨S2x4x128x256, .f32⟩
  | 96 => ⟨S2x4x128x256, .f32⟩
  | 97 => ⟨S2x4x128x256, .f32⟩
  | 98 => ⟨S1x2x4x128, .f32⟩
  | 99 => ⟨S2x4x128, .f32⟩
  | 100 => ⟨S1x2x4x128x256, .f32⟩
  | 101 => ⟨S2x4x128x256, .f32⟩
  | 102 => ⟨S2x4x128x1, .f32⟩
  | 103 => ⟨S2x4x128x256, .f32⟩
  | 104 => ⟨S2x4x128x256, .f32⟩
  | 105 => ⟨S2x4x128x256, .f32⟩
  | 106 => ⟨S1x2x4x128, .f32⟩
  | 107 => ⟨S2x4x128, .f32⟩
  | 108 => ⟨S1x2x4x128x256, .f32⟩
  | 109 => ⟨S2x4x128x256, .f32⟩
  | 110 => ⟨S2x4x128x1, .f32⟩
  | 111 => ⟨S2x4x128x256, .f32⟩
  | 112 => ⟨S2x4x128x256, .f32⟩
  | 113 => ⟨S2x4x128x256, .f32⟩
  | 114 => ⟨S1x2x4x128, .f32⟩
  | 115 => ⟨S2x4x128, .f32⟩
  | 116 => ⟨S1x2x4x128x256, .f32⟩
  | 117 => ⟨S2x4x128x256, .f32⟩
  | 118 => ⟨S2x4x128x1, .f32⟩
  | 119 => ⟨S2x4x128x256, .f32⟩
  | 120 => ⟨S2x4x128x256, .f32⟩
  | 121 => ⟨S2x4x128x256, .f32⟩
  | 122 => ⟨S1x2x4x128, .f32⟩
  | 123 => ⟨S2x4x128, .f32⟩
  | 124 => ⟨S1x2x4x128x256, .f32⟩
  | 125 => ⟨S2x4x128x256, .f32⟩
  | 126 => ⟨S2x4x128x1, .f32⟩
  | 127 => ⟨S2x4x128x256, .f32⟩
  | _ => ⟨S2x2048x5552, .f32⟩

abbrev hbmTy0_1 (i : Nat) : BufTy := match i % 128 with
  | 0 => ⟨S2x4x128x256, .f32⟩
  | 1 => ⟨S2x4x128x256, .f32⟩
  | 2 => ⟨S1x2x4x128, .f32⟩
  | 3 => ⟨S2x4x128, .f32⟩
  | 4 => ⟨S1x2x4x128x256, .f32⟩
  | 5 => ⟨S2x4x128x256, .f32⟩
  | 6 => ⟨S2x4x128x1, .f32⟩
  | 7 => ⟨S2x4x128x256, .f32⟩
  | 8 => ⟨S2x4x128x256, .f32⟩
  | 9 => ⟨S2x4x128x256, .f32⟩
  | 10 => ⟨S1x2x4x128, .f32⟩
  | 11 => ⟨S2x4x128, .f32⟩
  | 12 => ⟨S1x2x4x128x256, .f32⟩
  | 13 => ⟨S2x4x128x256, .f32⟩
  | 14 => ⟨S2x4x128x1, .f32⟩
  | 15 => ⟨S2x4x128x256, .f32⟩
  | 16 => ⟨S2x4x128x256, .f32⟩
  | 17 => ⟨S2x4x128x256, .f32⟩
  | 18 => ⟨S1x2x4x128, .f32⟩
  | 19 => ⟨S2x4x128, .f32⟩
  | 20 => ⟨S1x2x4x128x256, .f32⟩
  | 21 => ⟨S2x4x128x256, .f32⟩
  | 22 => ⟨S2x4x128x1, .f32⟩
  | 23 => ⟨S2x4x128x256, .f32⟩
  | 24 => ⟨S2x4x128x256, .f32⟩
  | 25 => ⟨S2x4x128x256, .f32⟩
  | 26 => ⟨S1x2x4x128, .f32⟩
  | 27 => ⟨S2x4x128, .f32⟩
  | 28 => ⟨S1x2x4x128x256, .f32⟩
  | 29 => ⟨S2x4x128x256, .f32⟩
  | 30 => ⟨S2x4x128x1, .f32⟩
  | 31 => ⟨S2x4x128x256, .f32⟩
  | 32 => ⟨S2x4x128x256, .f32⟩
  | 33 => ⟨S2x4x128x256, .f32⟩
  | 34 => ⟨S1x2x4x128, .f32⟩
  | 35 => ⟨S2x4x128, .f32⟩
  | 36 => ⟨S1x2x4x128x256, .f32⟩
  | 37 => ⟨S2x4x128x256, .f32⟩
  | 38 => ⟨S2x4x128x1, .f32⟩
  | 39 => ⟨S2x4x128x256, .f32⟩
  | 40 => ⟨S2x4x128x256, .f32⟩
  | 41 => ⟨S2x4x128x256, .f32⟩
  | 42 => ⟨S1x2x4x128, .f32⟩
  | 43 => ⟨S2x4x128, .f32⟩
  | 44 => ⟨S1x2x4x128x256, .f32⟩
  | 45 => ⟨S2x4x128x256, .f32⟩
  | 46 => ⟨S2x4x128x1, .f32⟩
  | 47 => ⟨S2x4x128x256, .f32⟩
  | 48 => ⟨S2x4x128x256, .f32⟩
  | 49 => ⟨S2x4x128x256, .f32⟩
  | 50 => ⟨S1x2x4x128, .f32⟩
  | 51 => ⟨S2x4x128, .f32⟩
  | 52 => ⟨S1x2x4x128x256, .f32⟩
  | 53 => ⟨S2x4x128x256, .f32⟩
  | 54 => ⟨S2x4x128x1, .f32⟩
  | 55 => ⟨S2x4x128x256, .f32⟩
  | 56 => ⟨S2x4x128x256, .f32⟩
  | 57 => ⟨S2x4x128x256, .f32⟩
  | 58 => ⟨S1x2x4x128, .f32⟩
  | 59 => ⟨S2x4x128, .f32⟩
  | 60 => ⟨S1x2x4x128x256, .f32⟩
  | 61 => ⟨S2x4x128x256, .f32⟩
  | 62 => ⟨S2x4x128x1, .f32⟩
  | 63 => ⟨S2x4x128x256, .f32⟩
  | 64 => ⟨S2x4x128x256, .f32⟩
  | 65 => ⟨S2x4x128x256, .f32⟩
  | 66 => ⟨S1x2x4x128, .f32⟩
  | 67 => ⟨S2x4x128, .f32⟩
  | 68 => ⟨S1x2x4x128x256, .f32⟩
  | 69 => ⟨S2x4x128x256, .f32⟩
  | 70 => ⟨S2x4x128x1, .f32⟩
  | 71 => ⟨S2x4x128x256, .f32⟩
  | 72 => ⟨S2x4x128x256, .f32⟩
  | 73 => ⟨S2x4x128x256, .f32⟩
  | 74 => ⟨S1x2x4x128, .f32⟩
  | 75 => ⟨S2x4x128, .f32⟩
  | 76 => ⟨S1x2x4x128x256, .f32⟩
  | 77 => ⟨S2x4x128x256, .f32⟩
  | 78 => ⟨S2x4x128x1, .f32⟩
  | 79 => ⟨S2x4x128x256, .f32⟩
  | 80 => ⟨S2x4x128x256, .f32⟩
  | 81 => ⟨S2x4x128x256, .f32⟩
  | 82 => ⟨S1x2x4x128, .f32⟩
  | 83 => ⟨S2x4x128, .f32⟩
  | 84 => ⟨S1x2x4x128x256, .f32⟩
  | 85 => ⟨S2x4x128x256, .f32⟩
  | 86 => ⟨S2x4x128x1, .f32⟩
  | 87 => ⟨S2x4x128x256, .f32⟩
  | 88 => ⟨S2x4x128x256, .f32⟩
  | 89 => ⟨S2x4x128x256, .f32⟩
  | 90 => ⟨S1x2x4x128, .f32⟩
  | 91 => ⟨S2x4x128, .f32⟩
  | 92 => ⟨S1x2x4x128x256, .f32⟩
  | 93 => ⟨S2x4x128x256, .f32⟩
  | 94 => ⟨S2x4x128x1, .f32⟩
  | 95 => ⟨S2x4x128x256, .f32⟩
  | 96 => ⟨S2x4x128x256, .f32⟩
  | 97 => ⟨S2x4x128x256, .f32⟩
  | 98 => ⟨S1x2x4x128, .f32⟩
  | 99 => ⟨S2x4x128, .f32⟩
  | 100 => ⟨S1x2x4x128x256, .f32⟩
  | 101 => ⟨S2x4x128x256, .f32⟩
  | 102 => ⟨S2x4x128x1, .f32⟩
  | 103 => ⟨S2x4x128x256, .f32⟩
  | 104 => ⟨S2x4x128x256, .f32⟩
  | 105 => ⟨S2x4x128x256, .f32⟩
  | 106 => ⟨S1x2x4x128, .f32⟩
  | 107 => ⟨S2x4x128, .f32⟩
  | 108 => ⟨S1x2x4x128x256, .f32⟩
  | 109 => ⟨S2x4x128x256, .f32⟩
  | 110 => ⟨S2x4x128x1, .f32⟩
  | 111 => ⟨S2x4x128x256, .f32⟩
  | 112 => ⟨S2x4x128x256, .f32⟩
  | 113 => ⟨S2x4x128x256, .f32⟩
  | 114 => ⟨S1x2x4x128, .f32⟩
  | 115 => ⟨S2x4x128, .f32⟩
  | 116 => ⟨S1x2x4x128x256, .f32⟩
  | 117 => ⟨S2x4x128x256, .f32⟩
  | 118 => ⟨S2x4x128x1, .f32⟩
  | 119 => ⟨S2x4x128x256, .f32⟩
  | 120 => ⟨S2x4x128x256, .f32⟩
  | 121 => ⟨S2x4x128x256, .f32⟩
  | 122 => ⟨S1x2x4x128, .f32⟩
  | 123 => ⟨S2x4x128, .f32⟩
  | 124 => ⟨S1x2x4x128x256, .f32⟩
  | 125 => ⟨S2x4x128x256, .f32⟩
  | 126 => ⟨S2x4x128x1, .f32⟩
  | 127 => ⟨S2x4x128x256, .f32⟩
  | _ => ⟨S2x2048x5552, .f32⟩

abbrev hbmTy0_2 (i : Nat) : BufTy := match i % 128 with
  | 0 => ⟨S2x4x128x256, .f32⟩
  | 1 => ⟨S2x4x128x256, .f32⟩
  | 2 => ⟨S1x2x4x128, .f32⟩
  | 3 => ⟨S2x4x128, .f32⟩
  | 4 => ⟨S1x2x4x128x256, .f32⟩
  | 5 => ⟨S2x4x128x256, .f32⟩
  | 6 => ⟨S2x4x128x1, .f32⟩
  | 7 => ⟨S2x4x128x256, .f32⟩
  | 8 => ⟨S2x4x128x256, .f32⟩
  | 9 => ⟨S2x4x128x256, .f32⟩
  | 10 => ⟨S1x2x4x128, .f32⟩
  | 11 => ⟨S2x4x128, .f32⟩
  | 12 => ⟨S1x2x4x128x256, .f32⟩
  | 13 => ⟨S2x4x128x256, .f32⟩
  | 14 => ⟨S2x4x128x1, .f32⟩
  | 15 => ⟨S2x4x128x256, .f32⟩
  | 16 => ⟨S2x4x128x256, .f32⟩
  | 17 => ⟨S2x4x128x256, .f32⟩
  | 18 => ⟨S1x2x4x128, .f32⟩
  | 19 => ⟨S2x4x128, .f32⟩
  | 20 => ⟨S1x2x4x128x256, .f32⟩
  | 21 => ⟨S2x4x128x256, .f32⟩
  | 22 => ⟨S2x4x128x1, .f32⟩
  | 23 => ⟨S2x4x128x256, .f32⟩
  | 24 => ⟨S2x4x128x256, .f32⟩
  | 25 => ⟨S2x4x128x256, .f32⟩
  | 26 => ⟨S1x2x4x128, .f32⟩
  | 27 => ⟨S2x4x128, .f32⟩
  | 28 => ⟨S1x2x4x128x256, .f32⟩
  | 29 => ⟨S2x4x128x256, .f32⟩
  | 30 => ⟨S2x4x128x1, .f32⟩
  | 31 => ⟨S2x4x128x256, .f32⟩
  | 32 => ⟨S2x4x128x256, .f32⟩
  | 33 => ⟨S2x4x128x256, .f32⟩
  | 34 => ⟨S1x2x4x128, .f32⟩
  | 35 => ⟨S2x4x128, .f32⟩
  | 36 => ⟨S1x2x4x128x256, .f32⟩
  | 37 => ⟨S2x4x128x256, .f32⟩
  | 38 => ⟨S2x4x128x1, .f32⟩
  | 39 => ⟨S2x4x128x256, .f32⟩
  | 40 => ⟨S2x4x128x256, .f32⟩
  | 41 => ⟨S2x4x128x256, .f32⟩
  | 42 => ⟨S1x2x4x128, .f32⟩
  | 43 => ⟨S2x4x128, .f32⟩
  | 44 => ⟨S1x2x4x128x256, .f32⟩
  | 45 => ⟨S2x4x128x256, .f32⟩
  | 46 => ⟨S2x4x128x1, .f32⟩
  | 47 => ⟨S2x4x128x256, .f32⟩
  | 48 => ⟨S2x4x128x256, .f32⟩
  | 49 => ⟨S2x4x128x256, .f32⟩
  | 50 => ⟨S1x2x4x128, .f32⟩
  | 51 => ⟨S2x4x128, .f32⟩
  | 52 => ⟨S1x2x4x128x256, .f32⟩
  | 53 => ⟨S2x4x128x256, .f32⟩
  | 54 => ⟨S2x4x128x1, .f32⟩
  | 55 => ⟨S2x4x128x256, .f32⟩
  | 56 => ⟨S2x4x128x256, .f32⟩
  | 57 => ⟨S2x4x128x256, .f32⟩
  | 58 => ⟨S1x2x4x128, .f32⟩
  | 59 => ⟨S2x4x128, .f32⟩
  | 60 => ⟨S1x2x4x128x256, .f32⟩
  | 61 => ⟨S2x4x128x256, .f32⟩
  | 62 => ⟨S2x4x128x1, .f32⟩
  | 63 => ⟨S2x4x128x256, .f32⟩
  | 64 => ⟨S2x4x128x256, .f32⟩
  | 65 => ⟨S2x4x128x256, .f32⟩
  | 66 => ⟨S1x2x4x128x256, .f32⟩
  | 67 => ⟨S1x2x4x128x256, .f32⟩
  | 68 => ⟨S1x2x4x128x256, .f32⟩
  | 69 => ⟨S1x2x4x128x256, .f32⟩
  | 70 => ⟨S1x2x4x128x256, .f32⟩
  | 71 => ⟨S1x2x4x128x256, .f32⟩
  | 72 => ⟨S1x2x4x128x256, .f32⟩
  | 73 => ⟨S1x2x4x128x256, .f32⟩
  | 74 => ⟨S1x2x4x128x256, .f32⟩
  | 75 => ⟨S1x2x4x128x256, .f32⟩
  | 76 => ⟨S1x2x4x128x256, .f32⟩
  | 77 => ⟨S1x2x4x128x256, .f32⟩
  | 78 => ⟨S1x2x4x128x256, .f32⟩
  | 79 => ⟨S1x2x4x128x256, .f32⟩
  | 80 => ⟨S1x2x4x128x256, .f32⟩
  | 81 => ⟨S1x2x4x128x256, .f32⟩
  | 82 => ⟨S1x2x4x128x256, .f32⟩
  | 83 => ⟨S1x2x4x128x256, .f32⟩
  | 84 => ⟨S1x2x4x128x256, .f32⟩
  | 85 => ⟨S1x2x4x128x256, .f32⟩
  | 86 => ⟨S1x2x4x128x256, .f32⟩
  | 87 => ⟨S1x2x4x128x256, .f32⟩
  | 88 => ⟨S1x2x4x128x256, .f32⟩
  | 89 => ⟨S1x2x4x128x256, .f32⟩
  | 90 => ⟨S1x2x4x128x256, .f32⟩
  | 91 => ⟨S1x2x4x128x256, .f32⟩
  | 92 => ⟨S1x2x4x128x256, .f32⟩
  | 93 => ⟨S1x2x4x128x256, .f32⟩
  | 94 => ⟨S1x2x4x128x256, .f32⟩
  | 95 => ⟨S1x2x4x128x256, .f32⟩
  | 96 => ⟨S1x2x4x128x256, .f32⟩
  | 97 => ⟨S1x2x4x128x256, .f32⟩
  | 98 => ⟨S16x2x4x128x256, .f32⟩
  | 99 => ⟨S16x2x4x128x256, .f32⟩
  | 100 => ⟨S32x2x4x128x256, .f32⟩
  | 101 => ⟨S32x2x4x128x256, .f32⟩
  | 102 => ⟨S2x32x4x256x64, .f32⟩
  | 103 => ⟨S2x32x64x4x256, .f32⟩
  | 104 => ⟨S2x2048x4x256, .f32⟩
  | 105 => ⟨S256, .f32⟩
  | 106 => ⟨S2x2048x4x256, .f32⟩
  | 107 => ⟨S_, .f32⟩
  | 108 => ⟨S2x2048x4, .f32⟩
  | 109 => ⟨S2x2048x4x1, .f32⟩
  | 110 => ⟨S_, .f32⟩
  | 111 => ⟨S2x2048x4x1, .f32⟩
  | 112 => ⟨S2x2048x4x1, .f32⟩
  | 113 => ⟨S_, .f32⟩
  | 114 => ⟨S2x2048x4x1, .f32⟩
  | 115 => ⟨S2x2048x4x1, .f32⟩
  | 116 => ⟨S2x2048x4x1, .f32⟩
  | 117 => ⟨S2x2048x4x256, .f32⟩
  | 118 => ⟨S2x2048x4x256, .f32⟩
  | 119 => ⟨S1x1x1x256, .f32⟩
  | 120 => ⟨S2x2048x4x256, .f32⟩
  | 121 => ⟨S2x2048x4x256, .f32⟩
  | 122 => ⟨S2x2048x4x256, .f32⟩
  | 123 => ⟨S2x2048x4x256, .f32⟩
  | 124 => ⟨S2x2048x4x256, .f32⟩
  | 125 => ⟨S_, .f32⟩
  | 126 => ⟨S2x2048x4x256, .f32⟩
  | 127 => ⟨S2x2048x4x256, .f32⟩
  | _ => ⟨S2x2048x5552, .f32⟩

abbrev hbmTy0_3 (i : Nat) : BufTy := match i % 128 with
  | 0 => ⟨S_, .f32⟩
  | 1 => ⟨S2x2048x4x256, .f32⟩
  | 2 => ⟨S2x2048x4x256, .f32⟩
  | 3 => ⟨S2x2048x4x256, .f32⟩
  | 4 => ⟨S2x2048x4x256, .f32⟩
  | 5 => ⟨S2x2048x1024, .f32⟩
  | 6 => ⟨S2x2048x1024, .f32⟩
  | 7 => ⟨S2x2048x1024, .bf16⟩
  | 8 => ⟨S2x4x32x256x128, .f32⟩
  | _ => ⟨S2x2048x5552, .f32⟩

abbrev hbmTy (i : Nat) : BufTy := match i / 128 with
  | 0 => hbmTy0_0 i
  | 1 => hbmTy0_1 i
  | 2 => hbmTy0_2 i
  | 3 => hbmTy0_3 i
  | _ => ⟨S2x2048x5552, .f32⟩

abbrev bufTy : (tb : Table) → Fin (tcTables nBuf tb) → BufTy
  | .hbm, ⟨i, _⟩ => hbmTy i
  | _, _ => ⟨S2x2048x5552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_call0_cst : Ref sig .tc := ⟨.hbm, 45, rfl⟩
abbrev main_call1_call0_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_cst_3 : Ref sig .tc := ⟨.hbm, 363, rfl⟩
abbrev main_v338 : Ref sig .tc := ⟨.hbm, 364, rfl⟩
abbrev main_v339 : Ref sig .tc := ⟨.hbm, 365, rfl⟩
abbrev main_cst_4 : Ref sig .tc := ⟨.hbm, 366, rfl⟩
abbrev main_v340 : Ref sig .tc := ⟨.hbm, 367, rfl⟩
abbrev main_v341 : Ref sig .tc := ⟨.hbm, 368, rfl⟩
abbrev main_cst_5 : Ref sig .tc := ⟨.hbm, 369, rfl⟩
abbrev main_v342 : Ref sig .tc := ⟨.hbm, 370, rfl⟩
abbrev main_v343 : Ref sig .tc := ⟨.hbm, 371, rfl⟩
abbrev main_v344 : Ref sig .tc := ⟨.hbm, 372, rfl⟩
abbrev main_v345 : Ref sig .tc := ⟨.hbm, 373, rfl⟩
abbrev main_v346 : Ref sig .tc := ⟨.hbm, 374, rfl⟩
abbrev main_v347 : Ref sig .tc := ⟨.hbm, 375, rfl⟩
abbrev main_v348 : Ref sig .tc := ⟨.hbm, 376, rfl⟩
abbrev main_v349 : Ref sig .tc := ⟨.hbm, 377, rfl⟩
abbrev main_v350 : Ref sig .tc := ⟨.hbm, 378, rfl⟩
abbrev main_call2_v0 : Ref sig .tc := ⟨.hbm, 379, rfl⟩
abbrev main_call2_v1 : Ref sig .tc := ⟨.hbm, 380, rfl⟩
abbrev main_call2_cst : Ref sig .tc := ⟨.hbm, 381, rfl⟩
abbrev main_call2_v2 : Ref sig .tc := ⟨.hbm, 382, rfl⟩
abbrev main_call2_v3 : Ref sig .tc := ⟨.hbm, 383, rfl⟩
abbrev main_call2_cst_0 : Ref sig .tc := ⟨.hbm, 384, rfl⟩
abbrev main_call2_v4 : Ref sig .tc := ⟨.hbm, 385, rfl⟩
abbrev main_call2_v5 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩

abbrev nD : Nat := 1
abbrev τ : Topo := Topo.v7x

variable {F : FTy → Type} [FloatOps F]
-- ==== KernelProj.lean ====
abbrev S2x2048x1024 : Shape := ⟨3, ![2, 2048, 1024]⟩
abbrev S1024x5552 : Shape := ⟨2, ![1024, 5552]⟩
abbrev S4096x1024 : Shape := ⟨2, ![4096, 1024]⟩
abbrev S1024x3072 : Shape := ⟨2, ![1024, 3072]⟩
abbrev S1024x2048 : Shape := ⟨2, ![1024, 2048]⟩
abbrev S1024x256 : Shape := ⟨2, ![1024, 256]⟩
abbrev S1024x128 : Shape := ⟨2, ![1024, 128]⟩
abbrev S1024x16 : Shape := ⟨2, ![1024, 16]⟩
abbrev S_ : Shape := ⟨0, ![]⟩
abbrev S1024x176 : Shape := ⟨2, ![1024, 176]⟩
abbrev S1024x32 : Shape := ⟨2, ![1024, 32]⟩
abbrev S1024x5760 : Shape := ⟨2, ![1024, 5760]⟩
abbrev S4096x5760 : Shape := ⟨2, ![4096, 5760]⟩
abbrev S1024x1024 : Shape := ⟨2, ![1024, 1024]⟩
abbrev S1024x1152 : Shape := ⟨2, ![1024, 1152]⟩

abbrev nBuf : Space → Nat
  | .hbm => 17
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x1024, .bf16⟩
  | .hbm, ⟨3, _⟩ => ⟨S4096x1024, .bf16⟩
  | .hbm, ⟨4, _⟩ => ⟨S1024x5552, .bf16⟩
  | .hbm, ⟨5, _⟩ => ⟨S1024x3072, .bf16⟩
  | .hbm, ⟨6, _⟩ => ⟨S1024x2048, .bf16⟩
  | .hbm, ⟨7, _⟩ => ⟨S1024x256, .bf16⟩
  | .hbm, ⟨8, _⟩ => ⟨S1024x128, .bf16⟩
  | .hbm, ⟨9, _⟩ => ⟨S1024x16, .bf16⟩
  | .hbm, ⟨10, _⟩ => ⟨S_, .bf16⟩
  | .hbm, ⟨11, _⟩ => ⟨S1024x176, .bf16⟩
  | .hbm, ⟨12, _⟩ => ⟨S1024x32, .bf16⟩
  | .hbm, ⟨13, _⟩ => ⟨S_, .bf16⟩
  | .hbm, ⟨14, _⟩ => ⟨S1024x32, .bf16⟩
  | .hbm, ⟨15, _⟩ => ⟨S1024x5760, .bf16⟩
  | .hbm, ⟨16, _⟩ => ⟨S4096x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S2x2048x512 : Shape := ⟨3, ![2, 2048, 512]⟩
abbrev S2x2048x16 : Shape := ⟨3, ![2, 2048, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x2048 : Shape := ⟨3, ![2, 2048, 2048]⟩
abbrev S_ : Shape := ⟨0, ![]⟩
abbrev S2x2048x176 : Shape := ⟨3, ![2, 2048, 176]⟩
abbrev S2x2048x5760 : Shape := ⟨3, ![2, 2048, 5760]⟩
abbrev S4096x5760 : Shape := ⟨2, ![4096, 5760]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S2x2048x512, .f32⟩
  | .hbm, ⟨4, _⟩ => ⟨S2x2048x512, .f32⟩
  | .hbm, ⟨5, _⟩ => ⟨S2x2048x1024, .f32⟩
  | .hbm, ⟨6, _⟩ => ⟨S2x2048x1024, .f32⟩
  | .hbm, ⟨7, _⟩ => ⟨S2x2048x16, .f32⟩
  | .hbm, ⟨8, _⟩ => ⟨S2x2048x256, .f32⟩
  | .hbm, ⟨9, _⟩ => ⟨S2x2048x128, .f32⟩
  | .hbm, ⟨10, _⟩ => ⟨S2x2048x32, .f32⟩
  | .hbm, ⟨11, _⟩ => ⟨S2x2048x2048, .f32⟩
  | .hbm, ⟨12, _⟩ => ⟨S_, .f32⟩
  | .hbm, ⟨13, _⟩ => ⟨S2x2048x176, .f32⟩
  | .hbm, ⟨14, _⟩ => ⟨S_, .f32⟩
  | .hbm, ⟨15, _⟩ => ⟨S2x2048x32, .f32⟩
  | .hbm, ⟨16, _⟩ => ⟨S2x2048x5760, .f32⟩
  | .hbm, ⟨17, _⟩ => ⟨S4096x5760, .f32⟩
  | .hbm, ⟨18, _⟩ => ⟨S4096x5760, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== KernelAdam.lean ====
abbrev S1x1024x1536 : Shape := ⟨3, ![1, 1024, 1536]⟩
abbrev S1024x1536 : Shape := ⟨2, ![1024, 1536]⟩
abbrev S256x1536 : Shape := ⟨2, ![256, 1536]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamIdeal.lean ====
abbrev S1x1024x1536 : Shape := ⟨3, ![1, 1024, 1536]⟩
abbrev S1024x1536 : Shape := ⟨2, ![1024, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S_, .f32⟩
  | .hbm, ⟨11, _⟩ => ⟨S1024x1536, .f32⟩
  | .hbm, ⟨12, _⟩ => ⟨S1024x1536, .f32⟩
  | .hbm, ⟨13, _⟩ => ⟨S1024x1536, .f32⟩
  | .hbm, ⟨14, _⟩ => ⟨S_, .f32⟩
  | .hbm, ⟨15, _⟩ => ⟨S1024x1536, .f32⟩
  | .hbm, ⟨16, _⟩ => ⟨S1024x1536, .f32⟩
  | .hbm, ⟨17, _⟩ => ⟨S1024x1536, .f32⟩
  | .hbm, ⟨18, _⟩ => ⟨S_, .f32⟩
  | .hbm, ⟨19, _⟩ => ⟨S1024x1536, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S_, .f32⟩
  | .hbm, ⟨26, _⟩ => ⟨S1024x1536, .f32⟩
  | .hbm, ⟨27, _⟩ => ⟨S1024x1536, .f32⟩
  | .hbm, ⟨28, _⟩ => ⟨S1024x1536, .f32⟩
  | .hbm, ⟨29, _⟩ => ⟨S_, .f32⟩
  | .hbm, ⟨30, _⟩ => ⟨S1024x1536, .f32⟩
  | .hbm, ⟨31, _⟩ => ⟨S1024x1536, .f32⟩
  | .hbm, ⟨32, _⟩ => ⟨S1024x1536, .f32⟩
  | .hbm, ⟨33, _⟩ => ⟨S_, .f32⟩
  | .hbm, ⟨34, _⟩ => ⟨S1024x1536, .f32⟩
  | .hbm, ⟨35, _⟩ => ⟨S1024x1536, .f32⟩
  | .hbm, ⟨36, _⟩ => ⟨S1024x1536, .f32⟩
  | .hbm, ⟨37, _⟩ => ⟨S_, .f32⟩
  | .hbm, ⟨38, _⟩ => ⟨S1024x1536, .f32⟩
  | .hbm, ⟨39, _⟩ => ⟨S1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelProjDx.lean ====
abbrev S2x2048x5552 : Shape := ⟨3, ![2, 2048, 5552]⟩
abbrev S1024x5552 : Shape := ⟨2, ![1024, 5552]⟩
abbrev S4096x5552 : Shape := ⟨2, ![4096, 5552]⟩
abbrev S4096x512 : Shape := ⟨2, ![4096, 512]⟩
abbrev S4096x1024 : Shape := ⟨2, ![4096, 1024]⟩
abbrev S4096x16 : Shape := ⟨2, ![4096, 16]⟩
abbrev S4096x256 : Shape := ⟨2, ![4096, 256]⟩
abbrev S4096x128 : Shape := ⟨2, ![4096, 128]⟩
abbrev S4096x32 : Shape := ⟨2, ![4096, 32]⟩
abbrev S4096x2048 : Shape := ⟨2, ![4096, 2048]⟩
abbrev S_ : Shape := ⟨0, ![]⟩
abbrev S1024x3072 : Shape := ⟨2, ![1024, 3072]⟩
abbrev S1024x2048 : Shape := ⟨2, ![1024, 2048]⟩
abbrev S1024x256 : Shape := ⟨2, ![1024, 256]⟩
abbrev S1024x128 : Shape := ⟨2, ![1024, 128]⟩
abbrev S1024x16 : Shape := ⟨2, ![1024, 16]⟩
abbrev S1024x176 : Shape := ⟨2, ![1024, 176]⟩
abbrev S1024x32 : Shape := ⟨2, ![1024, 32]⟩
abbrev S1024x5760 : Shape := ⟨2, ![1024, 5760]⟩
abbrev S8x128 : Shape := ⟨2, ![8, 128]⟩
abbrev S512x512 : Shape := ⟨2, ![512, 512]⟩
abbrev S512x1024 : Shape := ⟨2, ![512, 1024]⟩
abbrev S512x256 : Shape := ⟨2, ![512, 256]⟩
abbrev S512x128 : Shape := ⟨2, ![512, 128]⟩
abbrev S1024x512 : Shape := ⟨2, ![1024, 512]⟩
abbrev S1024x1024 : Shape := ⟨2, ![1024, 1024]⟩

abbrev nBuf : Space → Nat
  | .hbm => 36
  | .vmem => 24
  | .smem => 0
  | _ => 0

abbrev bufTy : (tb : Table) → Fin (tcTables nBuf tb) → BufTy
  | .hbm, ⟨0, _⟩ => ⟨S2x2048x5552, .f32⟩
  | .hbm, ⟨1, _⟩ => ⟨S1024x5552, .f32⟩
  | .hbm, ⟨2, _⟩ => ⟨S2x2048x5552, .bf16⟩
  | .hbm, ⟨3, _⟩ => ⟨S4096x5552, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x16, .bf16⟩
  | .hbm, ⟨9, _⟩ => ⟨S4096x256, .bf16⟩
  | .hbm, ⟨10, _⟩ => ⟨S4096x128, .bf16⟩
  | .hbm, ⟨11, _⟩ => ⟨S4096x32, .bf16⟩
  | .hbm, ⟨12, _⟩ => ⟨S4096x2048, .bf16⟩
  | .hbm, ⟨13, _⟩ => ⟨S4096x1024, .bf16⟩
  | .hbm, ⟨14, _⟩ => ⟨S4096x1024, .bf16⟩
  | .hbm, ⟨15, _⟩ => ⟨S_, .i32⟩
  | .hbm, ⟨16, _⟩ => ⟨S_, .bf16⟩
  | .hbm, ⟨17, _⟩ => ⟨S4096x128, .bf16⟩
  | .hbm, ⟨18, _⟩ => ⟨S_, .i32⟩
  | .hbm, ⟨19, _⟩ => ⟨S_, .bf16⟩
  | .hbm, ⟨20, _⟩ => ⟨S4096x128, .bf16⟩
  | .hbm, ⟨21, _⟩ => ⟨S1024x5552, .bf16⟩
  | .hbm, ⟨22, _⟩ => ⟨S1024x3072, .bf16⟩
  | .hbm, ⟨23, _⟩ => ⟨S1024x2048, .bf16⟩
  | .hbm, ⟨24, _⟩ => ⟨S1024x256, .bf16⟩
  | .hbm, ⟨25, _⟩ => ⟨S1024x128, .bf16⟩
  | .hbm, ⟨26, _⟩ => ⟨S1024x16, .bf16⟩
  | .hbm, ⟨27, _⟩ => ⟨S_, .bf16⟩
  | .hbm, ⟨28, _⟩ => ⟨S1024x176, .bf16⟩
  | .hbm, ⟨29, _⟩ => ⟨S1024x32, .bf16⟩
  | .hbm, ⟨30, _⟩ => ⟨S_, .bf16⟩
  | .hbm, ⟨31, _⟩ => ⟨S1024x32, .bf16⟩
  | .hbm, ⟨32, _⟩ => ⟨S1024x5760, .bf16⟩
  | .hbm, ⟨33, _⟩ => ⟨S_, .f32⟩
  | .hbm, ⟨34, _⟩ => ⟨S8x128, .f32⟩
  | .hbm, ⟨35, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1024x5760, .bf16⟩
  | .local _ .vmem, ⟨21, _⟩ => ⟨S8x128, .f32⟩
  | .local _ .vmem, ⟨22, _⟩ => ⟨S512x1024, .f32⟩
  | .local _ .vmem, ⟨23, _⟩ => ⟨S512x1024, .f32⟩
  | _, _ => ⟨S2x2048x5552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x5760 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceProjDxIdeal.lean ====
abbrev S2x2048x5552 : Shape := ⟨3, ![2, 2048, 5552]⟩
abbrev S1024x5552 : Shape := ⟨2, ![1024, 5552]⟩
abbrev S_ : Shape := ⟨0, ![]⟩
abbrev S2x2048x1024 : Shape := ⟨3, ![2, 2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x5552, .f32⟩
  | .hbm, ⟨1, _⟩ => ⟨S1024x5552, .f32⟩
  | .hbm, ⟨2, _⟩ => ⟨S_, .f32⟩
  | .hbm, ⟨3, _⟩ => ⟨S2x2048x1024, .f32⟩
  | .hbm, ⟨4, _⟩ => ⟨S2x2048x5552, .f32⟩
  | .hbm, ⟨5, _⟩ => ⟨S2x2048x1024, .f32⟩
  | .hbm, ⟨6, _⟩ => ⟨S4096x1024, .f32⟩
  | _, _ => ⟨S2x2048x5552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelProjDw.lean ====
abbrev S2x2048x1024 : Shape := ⟨3, ![2, 2048, 1024]⟩
abbrev S2x2048x5552 : Shape := ⟨3, ![2, 2048, 5552]⟩
abbrev S4096x5552 : Shape := ⟨2, ![4096, 5552]⟩
abbrev S4096x512 : Shape := ⟨2, ![4096, 512]⟩
abbrev S4096x1024 : Shape := ⟨2, ![4096, 1024]⟩
abbrev S4096x16 : Shape := ⟨2, ![4096, 16]⟩
abbrev S4096x256 : Shape := ⟨2, ![4096, 256]⟩
abbrev S4096x128 : Shape := ⟨2, ![4096, 128]⟩
abbrev S4096x32 : Shape := ⟨2, ![4096, 32]⟩
abbrev S4096x2048 : Shape := ⟨2, ![4096, 2048]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 16
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5552, .f32⟩
  | .hbm, ⟨2, _⟩ => ⟨S2x2048x5552, .bf16⟩
  | .hbm, ⟨3, _⟩ => ⟨S4096x5552, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x16, .bf16⟩
  | .hbm, ⟨9, _⟩ => ⟨S4096x256, .bf16⟩
  | .hbm, ⟨10, _⟩ => ⟨S4096x128, .bf16⟩
  | .hbm, ⟨11, _⟩ => ⟨S4096x32, .bf16⟩
  | .hbm, ⟨12, _⟩ => ⟨S4096x2048, .bf16⟩
  | .hbm, ⟨13, _⟩ => ⟨S2x2048x1024, .bf16⟩
  | .hbm, ⟨14, _⟩ => ⟨S4096x1024, .bf16⟩
  | .hbm, ⟨15, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x3072, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v6 : BitVec 32 := Scalar.extui v0
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v14 : BitVec 32 := Scalar.extui v0
  let c0_i32_8 : BitVec 32 := 0#32
  let v15 : BitVec 1 := Scalar.cmpi .ne v14 c0_i32_8
  v15

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_9 : BitVec 1 := 1#1
  let v16 : BitVec 1 := Scalar.xori v0 true_9
  let v17 : BitVec 32 := Scalar.extui v16
  let c0_i32_10 : BitVec 32 := 0#32
  let v18 : BitVec 1 := Scalar.cmpi .ne v17 c0_i32_10
  v18

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v22 : BitVec 32 := Scalar.extui v0
  let c0_i32_14 : BitVec 32 := 0#32
  let v23 : BitVec 1 := Scalar.cmpi .ne v22 c0_i32_14
  v23

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_15 : BitVec 1 := 1#1
  let v24 : BitVec 1 := Scalar.xori v0 true_15
  let v25 : BitVec 32 := Scalar.extui v24
  let c0_i32_16 : BitVec 32 := 0#32
  let v26 : BitVec 1 := Scalar.cmpi .ne v25 c0_i32_16
  v26

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v30 : BitVec 32 := Scalar.extui v0
  let c0_i32_20 : BitVec 32 := 0#32
  let v31 : BitVec 1 := Scalar.cmpi .ne v30 c0_i32_20
  v31

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v32 : BitVec 1 := Scalar.xori v0 true_21
  let v33 : BitVec 32 := Scalar.extui v32
  let c0_i32_22 : BitVec 32 := 0#32
  let v34 : BitVec 1 := Scalar.cmpi .ne v33 c0_i32_22
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceProjDwIdeal.lean ====
abbrev S2x2048x1024 : Shape := ⟨3, ![2, 2048, 1024]⟩
abbrev S2x2048x5552 : Shape := ⟨3, ![2, 2048, 5552]⟩
abbrev S_ : Shape := ⟨0, ![]⟩
abbrev S1024x5552 : Shape := ⟨2, ![1024, 5552]⟩
abbrev S4096x1024 : Shape := ⟨2, ![4096, 1024]⟩
abbrev S4096x5552 : Shape := ⟨2, ![4096, 5552]⟩
abbrev S5552x1024 : Shape := ⟨2, ![5552, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5552, .f32⟩
  | .hbm, ⟨2, _⟩ => ⟨S_, .f32⟩
  | .hbm, ⟨3, _⟩ => ⟨S1024x5552, .f32⟩
  | .hbm, ⟨4, _⟩ => ⟨S4096x1024, .f32⟩
  | .hbm, ⟨5, _⟩ => ⟨S4096x5552, .f32⟩
  | .hbm, ⟨6, _⟩ => ⟨S4096x5552, .f32⟩
  | .hbm, ⟨7, _⟩ => ⟨S5552x1024, .f32⟩
  | .hbm, ⟨8, _⟩ => ⟨S1024x5552, .f32⟩
  | .hbm, ⟨9, _⟩ => ⟨S1024x3072, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Packed.lean ====
module

public import Idealize.ShloMosaic.Lib.Pointwise
public import Idealize.ShloMosaic.Lib.Pipeline.Value

@[expose] public section

set_option maxRecDepth 16384

/-! The calls read their operands out of one packed projection: eight column groups (the recurrence's
q k v g, the two merge gates, the query and key-value latents, the decay logits, zeros, the rotary key, zeros)
side by side along the last axis. Here the packed array is read at a column of a group, for each group that a
call reads. -/

namespace Cert.Packed

open Idealize.ShloMosaic

variable {α : Type} (x0 : (⟨3, ![2, 2048, 3072]⟩ : Shape).Idx → α) (x1 : (⟨3, ![2, 2048, 2048]⟩ : Shape).Idx → α)
  (x2 : (⟨3, ![2, 2048, 256]⟩ : Shape).Idx → α) (x3 : (⟨3, ![2, 2048, 128]⟩ : Shape).Idx → α)
  (x4 : (⟨3, ![2, 2048, 16]⟩ : Shape).Idx → α) (x5 : (⟨3, ![2, 2048, 176]⟩ : Shape).Idx → α)
  (x6 : (⟨3, ![2, 2048, 32]⟩ : Shape).Idx → α) (x7 : (⟨3, ![2, 2048, 32]⟩ : Shape).Idx → α)

/-- The eight groups, with their shapes, in the packed order. -/
abbrev pieces : List ((s : Shape) × (s.Idx → α)) :=
  [⟨⟨3, ![2, 2048, 3072]⟩, x0⟩, ⟨⟨3, ![2, 2048, 2048]⟩, x1⟩, ⟨⟨3, ![2, 2048, 256]⟩, x2⟩, ⟨⟨3, ![2, 2048, 128]⟩, x3⟩,
    ⟨⟨3, ![2, 2048, 16]⟩, x4⟩, ⟨⟨3, ![2, 2048, 176]⟩, x5⟩, ⟨⟨3, ![2, 2048, 32]⟩, x6⟩, ⟨⟨3, ![2, 2048, 32]⟩, x7⟩]

variable (h : Shape.Concatenates ((pieces x0 x1 x2 x3 x4 x5 x6 x7).map (·.1)) (⟨3, ![2, 2048, 5760]⟩ : Shape) 2)
  (b : Fin 2) (r : Fin 2048) (k : Fin 5760)

/-- A column of the group at place `p`, of width `n`, whose first packed column is `pre`. -/
theorem piece_apply (p : Nat) (hp : p < 8) (n : Nat) (x : (⟨3, ![2, 2048, n]⟩ : Shape).Idx → α)
    (hx : (pieces x0 x1 x2 x3 x4 x5 x6 x7)[p]'hp = ⟨⟨3, ![2, 2048, n]⟩, x⟩) (pre : Nat)
    (hpre : ((((pieces x0 x1 x2 x3 x4 x5 x6 x7).take p).map (·.1)).map fun s : Shape =>
      if h : s.rank = 3 then s.size ((2 : Fin 3).cast h.symm) else 0).sum = pre)
    (l : Fin n) (hk : pre + l.val = k.val) :
    concatenate (⟨3, ![2, 2048, 5760]⟩ : Shape) 2 (pieces x0 x1 x2 x3 x4 x5 x6 x7) h (ix3 b r k) = x (ix3 b r l) :=
  concatenate_apply_piece (t := ⟨3, ![2, 2048, 5760]⟩) (2 : Fin 3) (pieces x0 x1 x2 x3 x4 x5 x6 x7) h (ix3 b r k) p hp _ x hx rfl pre hpre (ix3 b r l)
    (fun a ha => by fin_cases a <;> first | rfl | exact absurd rfl ha) hk

/-- q, k, v, g. -/
theorem gla_apply (l : Fin 3072) (hk : l.val = k.val) :
    concatenate (⟨3, ![2, 2048, 5760]⟩ : Shape) 2 (pieces x0 x1 x2 x3 x4 x5 x6 x7) h (ix3 b r k) = x0 (ix3 b r l) :=
  piece_apply x0 x1 x2 x3 x4 x5 x6 x7 h b r k 0 (by decide) 3072 x0 rfl 0 rfl l (by omega)

/-- the merge gates' logits. -/
theorem gates_apply (l : Fin 2048) (hk : 3072 + l.val = k.val) :
    concatenate (⟨3, ![2, 2048, 5760]⟩ : Shape) 2 (pieces x0 x1 x2 x3 x4 x5 x6 x7) h (ix3 b r k) = x1 (ix3 b r l) :=
  piece_apply x0 x1 x2 x3 x4 x5 x6 x7 h b r k 1 (by decide) 2048 x1 rfl 3072 rfl l hk

/-- the query latent. -/
theorem cq_apply (l : Fin 256) (hk : 5120 + l.val = k.val) :
    concatenate (⟨3, ![2, 2048, 5760]⟩ : Shape) 2 (pieces x0 x1 x2 x3 x4 x5 x6 x7) h (ix3 b r k) = x2 (ix3 b r l) :=
  piece_apply x0 x1 x2 x3 x4 x5 x6 x7 h b r k 2 (by decide) 256 x2 rfl 5120 rfl l hk

/-- the key-value latent. -/
theorem ckv_apply (l : Fin 128) (hk : 5376 + l.val = k.val) :
    concatenate (⟨3, ![2, 2048, 5760]⟩ : Shape) 2 (pieces x0 x1 x2 x3 x4 x5 x6 x7) h (ix3 b r k) = x3 (ix3 b r l) :=
  piece_apply x0 x1 x2 x3 x4 x5 x6 x7 h b r k 3 (by decide) 128 x3 rfl 5376 rfl l hk

/-- the decay logits. -/
theorem alpha_apply (l : Fin 16) (hk : 5504 + l.val = k.val) :
    concatenate (⟨3, ![2, 2048, 5760]⟩ : Shape) 2 (pieces x0 x1 x2 x3 x4 x5 x6 x7) h (ix3 b r k) = x4 (ix3 b r l) :=
  piece_apply x0 x1 x2 x3 x4 x5 x6 x7 h b r k 4 (by decide) 16 x4 rfl 5504 rfl l hk

/-- the rotary key. -/
theorem kpe_apply (l : Fin 32) (hk : 5696 + l.val = k.val) :
    concatenate (⟨3, ![2, 2048, 5760]⟩ : Shape) 2 (pieces x0 x1 x2 x3 x4 x5 x6 x7) h (ix3 b r k) = x6 (ix3 b r l) :=
  piece_apply x0 x1 x2 x3 x4 x5 x6 x7 h b r k 6 (by decide) 32 x6 rfl 5696 rfl l hk

end Cert.Packed
-- ==== Proof.Reads.lean ====
module

public import Idealize.ShloMosaic.Lib.Pointwise
public import Idealize.ShloMosaic.Lib.Pipeline.Value

@[expose] public section

set_option maxRecDepth 16384

/-! Readings of host operations at an index that several of the proofs use. -/

namespace Cert.Reads

open Idealize.ShloMosaic
open scoped BigOperators

/-- A host sum of a rank-3 array over its two leading axes, read at a column: a double sum over the rows. -/
theorem sum_leading {n0 n1 n2 : Nat} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  unfold Ideal.hostReduceAdd
  congr 1
  rw [← Fintype.sum_prod_type' (f := fun (a : Fin n0) (b : Fin n1) => v (ix3 a b l))]
  symm
  refine Finset.sum_bij (fun p _ => ix3 p.1 p.2 l) ?_ ?_ ?_ ?_
  · intro p _
    refine Finset.mem_filter.mpr ⟨Finset.mem_univ _, ?_⟩
    funext a
    fin_cases a
    rfl
  · intro p _ q _ e
    exact Prod.ext (congrFun e 0) (congrFun e 1)
  · intro i hi
    refine ⟨(i 0, i 1), Finset.mem_univ _, ?_⟩
    have e := (Finset.mem_filter.mp hi).2
    funext a
    fin_cases a
    · rfl
    · rfl
    · exact Fin.ext (congrArg Fin.val (congrFun e 0)).symm
  · intro p _
    rfl

end Cert.Reads
-- ==== Proof.Merge.lean ====
module

public import proofs.«01_k».proof.Proof.Gen.KernelIdeal.Value
public import Idealize.ShloMosaic.Lib.Pipeline.ValueKit
public import Idealize.ShloMosaic.Lib.Claim
public import proofs.«01_k».proof.Proof.Packed
public import proofs.«01_k».proof.Proof.Reads
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

variable (m : (ℓ : Loc nD τ sig) → Buf (Elt Ideal) ℓ)

/-- The arguments of the call, as the kernel program holds them. -/
abbrev dmiArg (c : Dev nD) : FVec Ideal S2x2048x1024 .f32 := m ((c : Thread nD τ).loc main_arg0)
/-- the projection, in the order of the model's own columns -/
abbrev projArg (c : Dev nD) : FVec Ideal S2x2048x5552 .f32 := m ((c : Thread nD τ).loc main_arg1)
/-- the bias of the merge gates -/
abbrev biasArg (c : Dev nD) : FVec Ideal S1x2048 .f32 := m ((c : Thread nD τ).loc main_arg2)
/-- the first branch -/
abbrev yaArg (c : Dev nD) : FVec Ideal S2x2048x1024 .f32 := m ((c : Thread nD τ).loc main_arg3)
/-- the second branch -/
abbrev ybArg (c : Dev nD) : FVec Ideal S2x2048x1024 .f32 := m ((c : Thread nD τ).loc main_arg4)

/-- The batch row a grid point works on. -/
def bat (t : Fin cfg0.N) : Fin 2 := ⟨t.val / 4, by have := t.isLt; have : cfg0.N = 8 := N_0; omega⟩

/-- The sequence position of row `r` of a grid point's tile. -/
def pos (t : Fin cfg0.N) (r : Fin 512) : Fin 2048 := ⟨t.val % 4 * 512 + r.val, by omega⟩

/-- Where each window's block lies at a grid point. -/
theorem idx : ∀ t : Fin cfg0.N, win0_0.index t = ![t.val / 4, t.val % 4, 0]
    ∧ win0_1.index t = ![t.val / 4, t.val % 4, 3]
    ∧ win0_2.index t = ![t.val / 4, t.val % 4, 4]
    ∧ win0_3.index t = ![0, 0]
    ∧ win0_4.index t = ![0, 1]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0]
    ∧ win0_9.index t = ![t.val / 4, t.val % 4, 0]
    ∧ win0_10.index t = ![t.val / 4, t.val % 4, 0] :=
  (by decide +kernel : ∀ t : Fin grid0.N, _)

set_option maxHeartbeats 1600000 in
theorem read_logits (c : Dev nD) (b : Fin 2) (r : Fin 2048) (l : Fin 2048) (k : Fin 5760) (hk : 3072 + l.val = k.val) :
    V m c main_v10 (ix3 b r k) = projArg m c (ix3 b r ⟨3504 + l.val, by omega⟩) := by
  show StableHlo.after hostOps0 _ _ _ = _
  unfold hostOps0
  after_results_simp
  refine (Packed.gates_apply _ _ _ _ _ _ _ _ _ b r k l hk).trans ?_
  simp only [Matrix.cons_val_one, Matrix.cons_val_zero]
  after_results_simp
  pointwise

theorem block0 (c : Dev nD) (t : Fin cfg0.N) (r : Fin 512) (l : Fin 1024) :
    (iblk m c 0 t : FVec Ideal S1x512x1024 .bf16) (ix3 0 r l) = dmiArg m c (ix3 (bat t) (pos t r) l) := by
  blk_simp [iblk, idx t]
  entry_read
  pointwise
  blk_point [iblk, V, idx t, bat, pos]

theorem block1 (c : Dev nD) (t : Fin cfg0.N) (r : Fin 512) (l : Fin 1024) :
    (X0_1 m c t : FVec Ideal S1x512x1024 .bf16) (ix3 0 r l)
      = projArg m c (ix3 (bat t) (pos t r) ⟨3504 + l.val, by omega⟩) := by
  unfold X0_1 Pipeline.Window.fill
  rw [dif_pos (moved0_1 t (ix3 0 r l))]
  refine Eq.trans ?_ (read_logits m c (bat t) (pos t r) ⟨l.val, by omega⟩ ⟨3072 + l.val, by omega⟩ rfl)
  blk_simp [iblk, idx t]
  have e := idx t
  blk_ext [e, bat, pos]

theorem block2 (c : Dev nD) (t : Fin cfg0.N) (r : Fin 512) (l : Fin 1024) :
    (X0_2 m c t : FVec Ideal S1x512x1024 .bf16) (ix3 0 r l)
      = projArg m c (ix3 (bat t) (pos t r) ⟨3504 + (1024 + l.val), by omega⟩) := by
  unfold X0_2 Pipeline.Window.fill
  rw [dif_pos (moved0_2 t (ix3 0 r l))]
  refine Eq.trans ?_ (read_logits m c (bat t) (pos t r) ⟨1024 + l.val, by omega⟩ ⟨4096 + l.val, by omega⟩
    (by simp; omega))
  blk_simp [iblk, idx t]
  have e := idx t
  blk_ext [e, bat, pos]

theorem block3 (c : Dev nD) (t : Fin cfg0.N) (l : Fin 1024) :
    (iblk m c 3 t : FVec Ideal S1x1024 .f32) (ix2 0 l) = biasArg m c (ix2 0 ⟨l.val, by omega⟩) := by
  blk_point [iblk, V, idx t]

theorem block4 (c : Dev nD) (t : Fin cfg0.N) (l : Fin 1024) :
    (iblk m c 4 t : FVec Ideal S1x1024 .f32) (ix2 0 l) = biasArg m c (ix2 0 ⟨1024 + l.val, by omega⟩) := by
  blk_point [iblk, V, idx t]

theorem block5 (c : Dev nD) (t : Fin cfg0.N) (r : Fin 512) (l : Fin 1024) :
    (iblk m c 5 t : FVec Ideal S1x512x1024 .bf16) (ix3 0 r l) = yaArg m c (ix3 (bat t) (pos t r) l) := by
  blk_simp [iblk, idx t]
  entry_read
  pointwise
  blk_point [iblk, V, idx t, bat, pos]

theorem block6 (c : Dev nD) (t : Fin cfg0.N) (r : Fin 512) (l : Fin 1024) :
    (iblk m c 6 t : FVec Ideal S1x512x1024 .bf16) (ix3 0 r l) = ybArg m c (ix3 (bat t) (pos t r) l) := by
  blk_simp [iblk, idx t]
  entry_read
  pointwise
  blk_point [iblk, V, idx t, bat, pos]

theorem tile_index (y : S1x512x1024.Idx) : y = ix3 0 (y 1) (y 2) := by
  funext a
  fin_cases a
  · exact Subsingleton.elim (α := Fin 1) _ _
  · rfl
  · rfl

/-- A merge gate. -/
def gate (x : EReal) : EReal := Ideal.div 1 (1 + Ideal.exp (-x))

section Reference
open Cert.ReferenceIdeal.Read
variable (a0 : FVec Ideal S2x2048x1024 .f32) (a1 : FVec Ideal S2x2048x5552 .f32) (a2 : FVec Ideal S1x2048 .f32)
  (a3 a4 : FVec Ideal S2x2048x1024 .f32)

theorem ref_dya (b : Fin 2) (r : Fin 2048) (l : Fin 1024) :
    (val_main_v41 (F := Ideal) a0 a1 a2 (ix3 b r l) : EReal)
      = gate (a1 (ix3 b r ⟨3504 + l.val, by omega⟩) + a2 (ix2 0 ⟨l.val, by omega⟩)) * a0 (ix3 b r l) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_cst_1, val_main_v19, val_main_v20, val_main_v21, val_main_v22, val_main_v23, val_main_v24, val_main_v25, val_main_v26, val_main_v27, val_main_v28, val_main_v29, val_main_v30, val_main_v31, val_main_v32, val_main_cst_2, val_main_v33, val_main_cst_3, val_main_v34, val_main_v35, val_main_v36, val_main_cst_4, val_main_v37, val_main_v38, val_main_cst_5, val_main_v39, val_main_v40, val_main_v41, val_main_v42, val_main_v43, val_main_v44, val_main_v45, val_main_v46, val_main_v47, val_main_v48, gate]

theorem ref_dyb (b : Fin 2) (r : Fin 2048) (l : Fin 1024) :
    (val_main_v42 (F := Ideal) a0 a1 a2 (ix3 b r l) : EReal)
      = gate (a1 (ix3 b r ⟨3504 + (1024 + l.val), by omega⟩) + a2 (ix2 0 ⟨1024 + l.val, by omega⟩)) * a0 (ix3 b r l) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_cst_1, val_main_v19, val_main_v20, val_main_v21, val_main_v22, val_main_v23, val_main_v24, val_main_v25, val_main_v26, val_main_v27, val_main_v28, val_main_v29, val_main_v30, val_main_v31, val_main_v32, val_main_cst_2, val_main_v33, val_main_cst_3, val_main_v34, val_main_v35, val_main_v36, val_main_cst_4, val_main_v37, val_main_v38, val_main_cst_5, val_main_v39, val_main_v40, val_main_v41, val_main_v42, val_main_v43, val_main_v44, val_main_v45, val_main_v46, val_main_v47, val_main_v48, gate]

theorem ref_dla (b : Fin 2) (r : Fin 2048) (l : Fin 1024) :
    (val_main_v44 (F := Ideal) a0 a1 a2 a3 a4 (ix3 b r l) : EReal)
      = a0 (ix3 b r l) * a3 (ix3 b r l) *
        (gate (a1 (ix3 b r ⟨3504 + l.val, by omega⟩) + a2 (ix2 0 ⟨l.val, by omega⟩)) *
          (1 - gate (a1 (ix3 b r ⟨3504 + l.val, by omega⟩) + a2 (ix2 0 ⟨l.val, by omega⟩)))) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_cst_1, val_main_v19, val_main_v20, val_main_v21, val_main_v22, val_main_v23, val_main_v24, val_main_v25, val_main_v26, val_main_v27, val_main_v28, val_main_v29, val_main_v30, val_main_v31, val_main_v32, val_main_cst_2, val_main_v33, val_main_cst_3, val_main_v34, val_main_v35, val_main_v36, val_main_cst_4, val_main_v37, val_main_v38, val_main_cst_5, val_main_v39, val_main_v40, val_main_v41, val_main_v42, val_main_v43, val_main_v44, val_main_v45, val_main_v46, val_main_v47, val_main_v48, gate]
  rw [dif_neg (fun h => h.1), zero_add]

theorem ref_dlb (b : Fin 2) (r : Fin 2048) (l : Fin 1024) :
    (val_main_v46 (F := Ideal) a0 a1 a2 a3 a4 (ix3 b r l) : EReal)
      = a0 (ix3 b r l) * a4 (ix3 b r l) *
        (gate (a1 (ix3 b r ⟨3504 + (1024 + l.val), by omega⟩) + a2 (ix2 0 ⟨1024 + l.val, by omega⟩)) *
          (1 - gate (a1 (ix3 b r ⟨3504 + (1024 + l.val), by omega⟩) + a2 (ix2 0 ⟨1024 + l.val, by omega⟩)))) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_cst_1, val_main_v19, val_main_v20, val_main_v21, val_main_v22, val_main_v23, val_main_v24, val_main_v25, val_main_v26, val_main_v27, val_main_v28, val_main_v29, val_main_v30, val_main_v31, val_main_v32, val_main_cst_2, val_main_v33, val_main_cst_3, val_main_v34, val_main_v35, val_main_v36, val_main_cst_4, val_main_v37, val_main_v38, val_main_cst_5, val_main_v39, val_main_v40, val_main_v41, val_main_v42, val_main_v43, val_main_v44, val_main_v45, val_main_v46, val_main_v47, val_main_v48, gate]

theorem ref_dba (l : Fin 1024) :
    (val_main_v47 (F := Ideal) a0 a1 a2 a3 a4 (ix2 0 l) : EReal)
      = ∑ b : Fin 2, ∑ r : Fin 2048, val_main_v44 (F := Ideal) a0 a1 a2 a3 a4 (ix3 b r l) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_cst_1, val_main_v19, val_main_v20, val_main_v21, val_main_v22, val_main_v23, val_main_v24, val_main_v25, val_main_v26, val_main_v27, val_main_v28, val_main_v29, val_main_v30, val_main_v31, val_main_v32, val_main_cst_2, val_main_v33, val_main_cst_3, val_main_v34, val_main_v35, val_main_v36, val_main_cst_4, val_main_v37, val_main_v38, val_main_cst_5, val_main_v39, val_main_v40, val_main_v41, val_main_v42, val_main_v43, val_main_v44, val_main_v45, val_main_v46, val_main_v47, val_main_v48, Reads.sum_leading]
  simp

theorem ref_dbb (l : Fin 1024) :
    (val_main_v48 (F := Ideal) a0 a1 a2 a3 a4 (ix2 0 l) : EReal)
      = ∑ b : Fin 2, ∑ r : Fin 2048, val_main_v46 (F := Ideal) a0 a1 a2 a3 a4 (ix3 b r l) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_cst_1, val_main_v19, val_main_v20, val_main_v21, val_main_v22, val_main_v23, val_main_v24, val_main_v25, val_main_v26, val_main_v27, val_main_v28, val_main_v29, val_main_v30, val_main_v31, val_main_v32, val_main_cst_2, val_main_v33, val_main_cst_3, val_main_v34, val_main_v35, val_main_v36, val_main_cst_4, val_main_v37, val_main_v38, val_main_cst_5, val_main_v39, val_main_v40, val_main_v41, val_main_v42, val_main_v43, val_main_v44, val_main_v45, val_main_v46, val_main_v47, val_main_v48, Reads.sum_leading]
  simp

end Reference

theorem tile_7 (c : Dev nD) (t : Fin cfg0.N) (r : Fin 512) (l : Fin 1024) :
    (k0_pay9 (F := Ideal) (k0_pay8 (iblk m c 0 t) (X0_1 m c t) (iblk m c 3 t)) (ix3 0 r l) : EReal)
      = Cert.ReferenceIdeal.Read.val_main_v41 (F := Ideal) (dmiArg m c) (projArg m c) (biasArg m c) (ix3 (bat t) (pos t r) l) := by
  rw [ref_dya]
  pointwise [k0_pay5, k0_pay6, k0_pay7, k0_pay8, k0_pay9, k0_pay10, k0_pay11, k0_pay12, k0_pay13, k0_pay14, gate]
  rw [block0, block1, block3, zero_sub, mul_comm]

theorem tile_8 (c : Dev nD) (t : Fin cfg0.N) (r : Fin 512) (l : Fin 1024) :
    (k0_pay10 (F := Ideal) (k0_pay5 (iblk m c 0 t)) (k0_pay7 (X0_2 m c t) (iblk m c 4 t)) (ix3 0 r l) : EReal)
      = Cert.ReferenceIdeal.Read.val_main_v42 (F := Ideal) (dmiArg m c) (projArg m c) (biasArg m c) (ix3 (bat t) (pos t r) l) := by
  rw [ref_dyb]
  pointwise [k0_pay5, k0_pay6, k0_pay7, k0_pay8, k0_pay9, k0_pay10, k0_pay11, k0_pay12, k0_pay13, k0_pay14, gate]
  rw [block0, block2, block4, zero_sub, mul_comm]

theorem tile_9 (c : Dev nD) (t : Fin cfg0.N) (r : Fin 512) (l : Fin 1024) :
    (k0_pay13 (F := Ideal) (k0_pay5 (iblk m c 0 t)) (k0_pay6 (X0_1 m c t) (iblk m c 3 t)) (iblk m c 5 t) (ix3 0 r l) : EReal)
      = Cert.ReferenceIdeal.Read.val_main_v44 (F := Ideal) (dmiArg m c) (projArg m c) (biasArg m c) (yaArg m c) (ybArg m c) (ix3 (bat t) (pos t r) l) := by
  rw [ref_dla]
  pointwise [k0_pay5, k0_pay6, k0_pay7, k0_pay8, k0_pay9, k0_pay10, k0_pay11, k0_pay12, k0_pay13, k0_pay14, gate]
  rw [block0, block1, block3, block5, zero_sub]

theorem tile_10 (c : Dev nD) (t : Fin cfg0.N) (r : Fin 512) (l : Fin 1024) :
    (k0_pay14 (F := Ideal) (k0_pay5 (iblk m c 0 t)) (k0_pay7 (X0_2 m c t) (iblk m c 4 t)) (iblk m c 6 t) (ix3 0 r l) : EReal)
      = Cert.ReferenceIdeal.Read.val_main_v46 (F := Ideal) (dmiArg m c) (projArg m c) (biasArg m c) (yaArg m c) (ybArg m c) (ix3 (bat t) (pos t r) l) := by
  rw [ref_dlb]
  pointwise [k0_pay5, k0_pay6, k0_pay7, k0_pay8, k0_pay9, k0_pay10, k0_pay11, k0_pay12, k0_pay13, k0_pay14, gate]
  rw [block0, block2, block4, block6, zero_sub]

theorem gain_index (j : S1x1024.Idx) : j = ix2 0 (j 1) := by
  funext a
  fin_cases a
  · exact Subsingleton.elim (α := Fin 1) _ _
  · rfl

theorem final_7 (c : Dev nD) : (dats m 0 c).arrAt 7 (cfgs 0).N =
    Cert.ReferenceIdeal.Read.val_main_v41 (F := Ideal) (dmiArg m c) (projArg m c) (biasArg m c) := by
  refine (dats m 0 c).arrAt_eq_of_covers 7 _ (by decide +kernel) fun t hf y => ?_
  obtain ⟨r, l, rfl⟩ : ∃ (r : Fin 512) (l : Fin 1024), y = ix3 0 r l := ⟨_, _, tile_index y⟩
  have hy : ((cfg0.win 7).blk t).view.emb (ix3 0 r l) = ix3 (bat t) (pos t r) l := by
    have e := idx t
    blk_ext [e, bat, pos]
  rw [hy, ← tile_7]
  blk_simp
  rw [after0_7]
  by_cases h : t.val % 8 = 0
  · rw [outsAt0_A m c t h]
    dsimp only
    frame_out
  · rw [outsAt0_B m c t h]
    dsimp only
    frame_out

theorem final_8 (c : Dev nD) : (dats m 0 c).arrAt 8 (cfgs 0).N =
    Cert.ReferenceIdeal.Read.val_main_v42 (F := Ideal) (dmiArg m c) (projArg m c) (biasArg m c) := by
  refine (dats m 0 c).arrAt_eq_of_covers 8 _ (by decide +kernel) fun t hf y => ?_
  obtain ⟨r, l, rfl⟩ : ∃ (r : Fin 512) (l : Fin 1024), y = ix3 0 r l := ⟨_, _, tile_index y⟩
  have hy : ((cfg0.win 8).blk t).view.emb (ix3 0 r l) = ix3 (bat t) (pos t r) l := by
    have e := idx t
    blk_ext [e, bat, pos]
  rw [hy, ← tile_8]
  blk_simp
  rw [after0_8]
  by_cases h : t.val % 8 = 0
  · rw [outsAt0_A m c t h]
    dsimp only
    frame_out
  · rw [outsAt0_B m c t h]
    dsimp only
    frame_out

theorem final_9 (c : Dev nD) : (dats m 0 c).arrAt 9 (cfgs 0).N =
    Cert.ReferenceIdeal.Read.val_main_v44 (F := Ideal) (dmiArg m c) (projArg m c) (biasArg m c) (yaArg m c) (ybArg m c) := by
  refine (dats m 0 c).arrAt_eq_of_covers 9 _ (by decide +kernel) fun t hf y => ?_
  obtain ⟨r, l, rfl⟩ : ∃ (r : Fin 512) (l : Fin 1024), y = ix3 0 r l := ⟨_, _, tile_index y⟩
  have hy : ((cfg0.win 9).blk t).view.emb (ix3 0 r l) = ix3 (bat t) (pos t r) l := by
    have e := idx t
    blk_ext [e, bat, pos]
  rw [hy, ← tile_9]
  blk_simp
  rw [after0_9]
  by_cases h : t.val % 8 = 0
  · rw [outsAt0_A m c t h]
    dsimp only
    frame_out
  · rw [outsAt0_B m c t h]
    dsimp only
    frame_out

theorem final_10 (c : Dev nD) : (dats m 0 c).arrAt 10 (cfgs 0).N =
    Cert.ReferenceIdeal.Read.val_main_v46 (F := Ideal) (dmiArg m c) (projArg m c) (biasArg m c) (yaArg m c) (ybArg m c) := by
  refine (dats m 0 c).arrAt_eq_of_covers 10 _ (by decide +kernel) fun t hf y => ?_
  obtain ⟨r, l, rfl⟩ : ∃ (r : Fin 512) (l : Fin 1024), y = ix3 0 r l := ⟨_, _, tile_index y⟩
  have hy : ((cfg0.win 10).blk t).view.emb (ix3 0 r l) = ix3 (bat t) (pos t r) l := by
    have e := idx t
    blk_ext [e, bat, pos]
  rw [hy, ← tile_10]
  blk_simp
  rw [after0_10]
  by_cases h : t.val % 8 = 0
  · rw [outsAt0_A m c t h]
    dsimp only
    frame_out
  · rw [outsAt0_B m c t h]
    dsimp only
    frame_out

theorem zero_11 (j : S1x1024.Idx) : k0_pay3 (F := Ideal) j = 0 := by
  pointwise! [k0_pay3]

/-- The accumulator's step adds the tile's column sums to what it held. -/
theorem step_11 (x : FVec Ideal S512x1024 .f32) (acc : Vec Ideal S1x1024 .f32) (j : S1x1024.Idx) :
    k0_pay1 x acc j = acc j + k0_pay1 x (fun _ => 0) j := by
  pointwise [k0_pay1]

theorem final_11 (c : Dev nD) : (dats m 0 c).arrAt 11 (cfgs 0).N =
    Cert.ReferenceIdeal.Read.val_main_v47 (F := Ideal) (dmiArg m c) (projArg m c) (biasArg m c) (yaArg m c) (ybArg m c) := by
  refine (dats m 0 c).arrAt_eq_of_after_last 11 t0_7 (by decide +kernel) _ fun j => ?_
  blk_simp
  rw [after0_11]
  obtain ⟨l, rfl⟩ : ∃ l : Fin 1024, j = ix2 0 l := ⟨_, gain_index j⟩
  rw [ref_dba, Pipeline.eq_sum_fin_of_reset_step_apply_last (fun n h => (outsAt0 m c n h).2.2.2.2.1) 8 (fun _ => 0) _
    (fun t h j => by rw [outsAt0_A m c t h]; frame_out; rw [step_11, zero_11])
    (fun t h j => by rw [outsAt0_B m c t h]; frame_out; rw [step_11]) (le_of_eq N_0) t0_7 rfl, zero_add]
  pointwise [k0_pay1]
  refine Fin.sum_points_lanes_congr 4 fun t r ha hl => ?_
  refine Eq.trans ?_ (tile_9 m c t r l)
  pointwise [k0_pay5, k0_pay6, k0_pay7, k0_pay8, k0_pay9, k0_pay10, k0_pay11, k0_pay12, k0_pay13, k0_pay14]

theorem zero_12 (j : S1x1024.Idx) : k0_pay4 (F := Ideal) j = 0 := by
  pointwise! [k0_pay4]

/-- The accumulator's step adds the tile's column sums to what it held. -/
theorem step_12 (x : FVec Ideal S512x1024 .f32) (acc : Vec Ideal S1x1024 .f32) (j : S1x1024.Idx) :
    k0_pay2 x acc j = acc j + k0_pay2 x (fun _ => 0) j := by
  pointwise [k0_pay2]

theorem final_12 (c : Dev nD) : (dats m 0 c).arrAt 12 (cfgs 0).N =
    Cert.ReferenceIdeal.Read.val_main_v48 (F := Ideal) (dmiArg m c) (projArg m c) (biasArg m c) (yaArg m c) (ybArg m c) := by
  refine (dats m 0 c).arrAt_eq_of_after_last 12 t0_7 (by decide +kernel) _ fun j => ?_
  blk_simp
  rw [after0_12]
  obtain ⟨l, rfl⟩ : ∃ l : Fin 1024, j = ix2 0 l := ⟨_, gain_index j⟩
  rw [ref_dbb, Pipeline.eq_sum_fin_of_reset_step_apply_last (fun n h => (outsAt0 m c n h).2.2.2.2.2) 8 (fun _ => 0) _
    (fun t h j => by rw [outsAt0_A m c t h]; frame_out; rw [step_12, zero_12])
    (fun t h j => by rw [outsAt0_B m c t h]; frame_out; rw [step_12]) (le_of_eq N_0) t0_7 rfl, zero_add]
  pointwise [k0_pay2]
  refine Fin.sum_points_lanes_congr 4 fun t r ha hl => ?_
  refine Eq.trans ?_ (tile_10 m c t r l)
  pointwise [k0_pay5, k0_pay6, k0_pay7, k0_pay8, k0_pay9, k0_pay10, k0_pay11, k0_pay12, k0_pay13, k0_pay14]

end Cert.KernelIdeal.Merge

end
-- ==== Proof.MergeClaim.lean ====
module

public import proofs.«01_k».proof.Defs
public import proofs.«01_k».proof.Proof.Merge
public import proofs.«01_k».proof.Proof.Gen.ReferenceIdeal.Run
public import Idealize.ShloMosaic.Init
public import Idealize.ShloMosaic.Adequacy

@[expose] public section

set_option maxRecDepth 16384

/-! The claims about the gradient of the merge gates, from the two programs' runs. -/

namespace Cert.Proof.Merge

open Idealize.ShloMosaic Idealize.ShloMosaic.TcCoe Idealize.SL.Sem

section
open Cert.ReferenceIdeal Cert.ReferenceIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v41) = val_main_v41 (F := Ideal) (m ((c.tc : Thread nD τ).loc main_arg0)) (m ((c.tc : Thread nD τ).loc main_arg1)) (m ((c.tc : Thread nD τ).loc main_arg2))
      ∧ r.2.mem ((c.tc : Thread nD τ).loc main_v42) = val_main_v42 (F := Ideal) (m ((c.tc : Thread nD τ).loc main_arg0)) (m ((c.tc : Thread nD τ).loc main_arg1)) (m ((c.tc : Thread nD τ).loc main_arg2))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Cert.ReferenceIdeal.Value.run m g)

end

theorem frame_reference : Cert.quiescent_ReferenceIdeal := fun m g _ =>
  (θ_run Cert.ReferenceIdeal.defs _ _).mono
    (fun r h => ⟨fun c => (h c).2.2.2.2.2.2, sem_eq_zero_of_no_sems (by decide) r.2⟩) (run_stages m g)

theorem algebraic : Cert.algebraic_KernelIdeal_ReferenceIdeal := by
  intro m g m' g' _ hagree
  refine ⟨_, _, _, _, _, _, Cert.KernelIdeal.Value.run_blocks m g,
    (θ_run Cert.ReferenceIdeal.defs _ _).mono (fun r h c => ?_) (run_stages m' g')⟩
  obtain ⟨e0, e1, e2, e3, e4⟩ := hagree c
  obtain ⟨h0, h1, h2, h3, h4, h5, hargs⟩ := h c
  rw [e0, e1, e2] at h0 h1
  rw [e0, e1, e2, e3, e4] at h2 h3 h4 h5
  exact ⟨h0.trans (KernelIdeal.Merge.final_7 m c).symm, h1.trans (KernelIdeal.Merge.final_8 m c).symm,
    h2.trans (KernelIdeal.Merge.final_9 m c).symm, h3.trans (KernelIdeal.Merge.final_10 m c).symm,
    h4.trans (KernelIdeal.Merge.final_11 m c).symm, h5.trans (KernelIdeal.Merge.final_12 m c).symm, hargs⟩

end Cert.Proof.Merge
-- ==== Proof.AttnMath.lean ====
module

public import Mathlib.Data.EReal.Operations
public import Mathlib.Analysis.SpecialFunctions.Pow.Real
public import Mathlib.Algebra.BigOperators.Fin

@[expose] public section

/-!
Causal attention over chunks of 64 positions and its gradients, over the real numbers: what both
programs are read as.  Scores come unscaled, as a table of 2048 rows and columns.
-/

namespace Cert.AttnMath

noncomputable section

/-- A table with one row per query and one column per key. -/
abbrev Pairs := Fin 2048 → Fin 2048 → ℝ

/-- The scale of the scores, the 32-bit value nearest to `96 ^ (-1/2)`. -/
def scale : ℝ := 3424635 / 33554432

/-- The unnormalised weight of key `j` for query `r`. -/
def wt (s : Pairs) : Pairs := fun r j =>
  if j.val / 64 ≤ r.val / 64 then Real.exp (s r j * scale) else 0

def tot (s : Pairs) (r : Fin 2048) : ℝ := ∑ j, wt s r j

/-- The softmax. -/
def prob (s : Pairs) : Pairs := fun r j => wt s r j / tot s r

/-- The gradient of the unscaled scores when `g` is the gradient of the softmax. -/
def dscore (s g : Pairs) : Pairs := fun r j =>
  prob s r j * (g r j - ∑ i, prob s r i * g r i) * scale

theorem wt_nonneg (s : Pairs) (r j) : 0 ≤ wt s r j := by
  unfold wt; split
  · exact (Real.exp_pos _).le
  · exact le_rfl

theorem tot_pos (s : Pairs) (r) : 0 < tot s r :=
  Finset.sum_pos' (fun j _ => wt_nonneg s r j)
    ⟨r, Finset.mem_univ _, by simp only [wt, le_refl, if_true]; exact Real.exp_pos _⟩

theorem wt_late (s : Pairs) {lo : ℕ} (h64 : 64 ∣ lo) (r j : Fin 2048) (hr : r.val < lo + 256)
    (hj : lo + 256 ≤ j.val) : wt s r j = 0 := by
  obtain ⟨k, rfl⟩ := h64
  exact if_neg (by omega)

theorem prob_late (s : Pairs) {lo : ℕ} (h64 : 64 ∣ lo) (r j : Fin 2048) (hr : r.val < lo + 256)
    (hj : lo + 256 ≤ j.val) : prob s r j = 0 := by
  rw [prob, wt_late s h64 r j hr hj, zero_div]

theorem dscore_late (s g : Pairs) {lo : ℕ} (h64 : 64 ∣ lo) (r j : Fin 2048)
    (hr : r.val < lo + 256) (hj : lo + 256 ≤ j.val) : dscore s g r j = 0 := by
  rw [dscore, prob_late s h64 r j hr hj, zero_mul, zero_mul]

/-- A sum over the keys is the sum over the keys before a tile and over the tile, when the later
ones contribute nothing. -/
theorem sum_split {M : Type*} [AddCommMonoid M] {lo : ℕ} (hlo : lo + 256 ≤ 2048) (f : Fin 2048 → M)
    (hf : ∀ j : Fin 2048, lo + 256 ≤ j.val → f j = 0) :
    ∑ j, f j = (∑ c : Fin lo, f ⟨c.val, by omega⟩) + ∑ c : Fin 256, f ⟨lo + c.val, by omega⟩ := by
  let F : ℕ → M := fun k => if h : k < 2048 then f ⟨k, h⟩ else 0
  have e (m : ℕ) (o : ℕ) (hm : o + m ≤ 2048) :
      ∑ c : Fin m, f ⟨o + c.val, by omega⟩ = ∑ k ∈ Finset.range m, F (o + k) := by
    rw [Finset.sum_range]
    exact Finset.sum_congr rfl fun c _ => by simp only [F]; rw [dif_pos (by omega)]
  have e0 : ∑ j, f j = ∑ k ∈ Finset.range 2048, F k := by
    rw [← Finset.sum_congr rfl fun k _ => congrArg F (Nat.zero_add k), ← e 2048 0 (by omega)]
    simp
  have e1 : ∑ c : Fin lo, f ⟨c.val, by omega⟩ = ∑ k ∈ Finset.range lo, F k := by
    rw [← Finset.sum_congr rfl fun k _ => congrArg F (Nat.zero_add k), ← e lo 0 (by omega)]
    simp
  obtain ⟨d, hd⟩ := Nat.exists_eq_add_of_le hlo
  rw [e0, e1, e 256 lo hlo, hd, Finset.sum_range_add, Finset.sum_range_add,
    Finset.sum_eq_zero (s := Finset.range d), add_zero]
  intro k hk
  rw [Finset.mem_range] at hk
  simp only [F]
  rw [dif_pos (by omega)]
  exact hf _ (by simp only; omega)

/-- A sum over the queries below a bound. -/
def part (h : Fin 2048 → ℝ) (hi : ℕ) : ℝ := ∑ r : Fin 2048, if r.val < hi then h r else 0

theorem part_zero (h) : part h 0 = 0 := by simp [part]

theorem part_all (h) : part h 2048 = ∑ r, h r :=
  Finset.sum_congr rfl fun r _ => if_pos r.isLt

theorem part_step {lo : ℕ} (hlo : lo + 256 ≤ 2048) (h) :
    part h (lo + 256) = part h lo + ∑ c : Fin 256, h ⟨lo + c.val, by omega⟩ := by
  rw [part, sum_split hlo _ fun j hj => if_neg (by omega), part,
    sum_split hlo (fun r => if r.val < lo then h r else 0) fun j hj => if_neg (by omega)]
  have a : ∑ c : Fin lo, (if c.val < lo + 256 then h ⟨c.val, by omega⟩ else 0)
      = ∑ c : Fin lo, if c.val < lo then h ⟨c.val, by omega⟩ else 0 :=
    Finset.sum_congr rfl fun c _ => by rw [if_pos (by omega), if_pos c.isLt]
  have b : ∑ c : Fin 256, (if lo + c.val < lo + 256 then h ⟨lo + c.val, by omega⟩ else 0)
      = ∑ c : Fin 256, h ⟨lo + c.val, by omega⟩ :=
    Finset.sum_congr rfl fun c _ => if_pos (by omega)
  have z : ∑ c : Fin 256, (if lo + c.val < lo then h ⟨lo + c.val, by omega⟩ else 0) = 0 :=
    Finset.sum_eq_zero fun c _ => if_neg (by omega)
  simp only [] at a b z ⊢
  rw [a, b, z, add_zero]

theorem part_of_zero {lo : ℕ} (hlo : lo + 256 ≤ 2048) (h : Fin 2048 → ℝ)
    (hz : ∀ r : Fin 2048, r.val < lo + 256 → h r = 0) : part h (lo + 256) = part h lo := by
  rw [part_step hlo, Finset.sum_eq_zero fun c _ => hz _ (by simp only; omega), add_zero]

/-- A finite sum of real numbers, read in the extended reals. -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-! ### Rows of fewer lanes, filled up with zeros to 128 -/

/-- The scores, and the gradients of the softmax, from rows of queries, keys, values and gradients. -/
def dots (A B : Fin 2048 → Fin 128 → ℝ) : Pairs := fun r j => ∑ l, A r l * B j l

def fill {n : ℕ} (f : Fin 2048 → Fin n → EReal) (r : Fin 2048) (l : Fin 128) : EReal :=
  if hl : l.val < n then f r ⟨l.val, hl⟩ else 0

/-- The filled rows of `f` are the real numbers `A`. -/
def Filled {n : ℕ} (f : Fin 2048 → Fin n → EReal) (A : Fin 2048 → Fin 128 → ℝ) : Prop :=
  ∀ r l, fill f r l = ((A r l : ℝ) : EReal)

theorem exists_filled {n : ℕ} (f : Fin 2048 → Fin n → EReal) (h : ∀ r l, f r l ≠ ⊥ ∧ f r l ≠ ⊤) : ∃ A, Filled f A :=
  ⟨fun r l => (fill f r l).toReal, fun r l => by
    have e : fill f r l ≠ ⊥ ∧ fill f r l ≠ ⊤ := by
      unfold fill
      split
      · exact h _ _
      · exact ⟨EReal.zero_ne_bot, EReal.zero_ne_top⟩
    exact (EReal.coe_toReal e.2 e.1).symm⟩

section
variable {n : ℕ} {f g : Fin 2048 → Fin n → EReal} {A B : Fin 2048 → Fin 128 → ℝ}

theorem Filled.inside (hf : Filled f A) (hn : n ≤ 128) (r : Fin 2048) (l : Fin n) : f r l = ((A r (Fin.castLE hn l) : ℝ) : EReal) := by
  rw [← hf r (Fin.castLE hn l), fill, dif_pos (show (Fin.castLE hn l).val < n from l.isLt)]
  rfl

theorem Filled.outside (hf : Filled f A) (r : Fin 2048) (l : Fin 128) (hl : ¬ l.val < n) : A r l = 0 := by
  have e := hf r l
  rw [fill, dif_neg hl] at e
  exact (EReal.coe_eq_zero.mp e.symm)

theorem Filled.dots (hf : Filled f A) (hg : Filled g B) (hn : n ≤ 128) (r j : Fin 2048) :
    ∑ l, f r l * g j l = ((dots A B r j : ℝ) : EReal) := by
  rw [AttnMath.dots, coe_sum]
  refine Fintype.sum_of_injective (Fin.castLE hn) (Fin.castLE_injective hn) _ _ (fun l hl => ?_) fun l => ?_
  · rw [hf.outside r l fun c => hl ⟨⟨l.val, c⟩, rfl⟩, zero_mul]; rfl
  · rw [hf.inside hn, hg.inside hn, EReal.coe_mul]

theorem Filled.sum (hf : Filled f A) (hn : n ≤ 128) (C : Pairs) :
    Filled (fun r l => ∑ i, ((C r i : ℝ) : EReal) * f i l) fun r l => ∑ i, C r i * A i l := by
  intro r l
  rw [fill]
  split
  · rename_i hl
    rw [coe_sum]
    exact Finset.sum_congr rfl fun i _ => by rw [hf.inside hn, EReal.coe_mul]; rfl
  · rename_i hl
    have e : ∑ i, C r i * A i l = 0 := Finset.sum_eq_zero fun i _ => by rw [hf.outside i l hl, mul_zero]
    show _ = ((∑ i, C r i * A i l : ℝ) : EReal)
    rw [e]
    rfl

end

end

end Cert.AttnMath
-- ==== Proof.AttnTile.lean ====
module

public import proofs.«01_k».proof.Proof.Gen.KernelAttnIdeal.Value
public import Idealize.ShloMosaic.Lib.Pipeline.ValueKit
public import Idealize.ShloMosaic.Lib.Claim
public import Idealize.ShloMosaic.Lib.MatmulPlain
public import proofs.«01_k».proof.Proof.AttnMath

@[expose] public section

set_option maxRecDepth 16384

noncomputable section

open Idealize.ShloMosaic Idealize.ShloMosaic.TcCoe Idealize.SL.Sem

namespace Cert.KernelAttnIdeal.Tile

open Cert.KernelAttnIdeal Cert.KernelAttnIdeal.Gen Cert.AttnMath

/-- The side conditions of the operations a tile of 256 queries does with `n` keys. -/
structure Wide (n : ℕ) : Prop where
  ntwf : DotDims.WF S256x128 ⟨2, ![n, 128]⟩ ⟨2, ![256, n]⟩ [1] [1] [0] [0] [] []
  nnwf : DotDims.WF ⟨2, ![256, n]⟩ ⟨2, ![n, 128]⟩ S256x128 [1] [0] [0] [1] [] []
  tnwf : DotDims.WF ⟨2, ![256, n]⟩ S256x128 ⟨2, ![n, 128]⟩ [0] [0] [1] [1] [] []
  red : (⟨2, ![256, n]⟩ : Shape).Reduces [1] S256
  broad : S256x1.Broadcasts ⟨2, ![256, n]⟩
  fall : (⟨3, ![1, n, 128]⟩ : Shape).ShapeCasts ⟨2, ![n, 128]⟩
  rise : (⟨2, ![n, 128]⟩ : Shape).ShapeCasts ⟨3, ![1, n, 128]⟩
  fall_at : ∀ c l, Shape.reshapeEquiv fall (ix2 c l) = ix3 0 c l
  rise_at : ∀ c l, Shape.reshapeEquiv rise (ix3 0 c l) = ix2 c l

theorem w256 : Wide 256 := ⟨dot_S256x128_S256x128_S256x256_1_1_0_0_n_n_wf, dot_S256x256_S256x128_S256x128_1_0_0_1_n_n_wf,
  dot_S256x256_S256x128_S256x128_0_0_1_1_n_n_wf, reduces_S256x256_S256, broadcasts_S256x1_S256x256,
  shapeCasts_S1x256x128_S256x128, shapeCasts_S256x128_S1x256x128, fun c l => by pointwise, fun c l => by pointwise⟩

variable {n : ℕ} (W : Wide n)

namespace Wide

/-- the products of the queries' rows with the keys' rows -/
def nt (a : FVec Ideal S256x128 .bf16) (b : FVec Ideal ⟨2, ![n, 128]⟩ .bf16) : FVec Ideal ⟨2, ![256, n]⟩ .f32 :=
  matmul ⟨[1], [1], [0], [0], [], [], W.ntwf⟩ none a b (constant _ .f32 0x00000000#32)
def nn (a : FVec Ideal ⟨2, ![256, n]⟩ .bf16) (b : FVec Ideal ⟨2, ![n, 128]⟩ .bf16) : FVec Ideal S256x128 .f32 :=
  matmul ⟨[1], [0], [0], [1], [], [], W.nnwf⟩ none a b (constant _ .f32 0x00000000#32)
def tn (a : FVec Ideal ⟨2, ![256, n]⟩ .bf16) (b : FVec Ideal S256x128 .bf16) : FVec Ideal ⟨2, ![n, 128]⟩ .f32 :=
  matmul ⟨[0], [0], [1], [1], [], [], W.tnwf⟩ none a b (constant _ .f32 0x00000000#32)
def mx (a : FVec Ideal ⟨2, ![256, n]⟩ .f32) : FVec Ideal S256x1 .f32 :=
  shapeCast S256x1 (multiReduction .maximumf [1] S256 a 0xFF800000#32 W.red (.inl rfl) rfl) shapeCasts_S256_S256x1
def sm (a : FVec Ideal ⟨2, ![256, n]⟩ .f32) : FVec Ideal S256x1 .f32 :=
  shapeCast S256x1 (multiReduction .add [1] S256 a 0x00000000#32 W.red (.inl rfl) rfl) shapeCasts_S256_S256x1
def bc (a : FVec Ideal S256x1 .f32) : FVec Ideal ⟨2, ![256, n]⟩ .f32 :=
  broadcastTo ⟨2, ![256, n]⟩ a W.broad
def down {φ : FTy} (a : FVec Ideal ⟨3, ![1, n, 128]⟩ φ) : FVec Ideal ⟨2, ![n, 128]⟩ φ :=
  shapeCast _ a W.fall
def up (a : FVec Ideal ⟨2, ![n, 128]⟩ .f32) : FVec Ideal ⟨3, ![1, n, 128]⟩ .f32 :=
  shapeCast _ a W.rise

theorem nt_at (a b r c) : W.nt a b (ix2 r c) = ∑ d : Fin 128, a (ix2 r d) * b (ix2 c d) :=
 by
  refine (Ideal.matmul_transposedRhs_apply none a b _ r c).trans ?_
  pointwise; rfl
theorem nn_at (a b r l) : W.nn a b (ix2 r l) = ∑ c : Fin n, a (ix2 r c) * b (ix2 c l) := by
  refine (Ideal.matmul_plain_apply none a b _ r l).trans ?_
  pointwise; rfl
theorem tn_at (a b c l) : W.tn a b (ix2 c l) = ∑ r : Fin 256, a (ix2 r c) * b (ix2 r l) := by
  unfold tn; pointwise
  refine Finset.sum_congr rfl fun x _ => congrArg (a · * _) ?_
  funext i; apply Fin.ext
  match i with
  | ⟨0, _⟩ => rfl
  | ⟨1, _⟩ => rfl
theorem mx_at (a r) : W.mx a (ix2 r 0)
    = Finset.fold max (Ideal.ofBits .f32 0xFF800000#32) (fun c => a (ix2 r c)) Finset.univ := by
  unfold mx; pointwise
theorem sm_at (a r) : W.sm a (ix2 r 0) = ∑ c : Fin n, a (ix2 r c) := by
  unfold sm; pointwise
theorem bc_at (a r c) : W.bc a (ix2 r c) = a (ix2 r 0) := by
  unfold bc; pointwise
theorem down_at {φ : FTy} (a : FVec Ideal ⟨3, ![1, n, 128]⟩ φ) (c l) : W.down a (ix2 c l) = a (ix3 0 c l) := by
  rw [← W.fall_at]; rfl
theorem up_at (a c l) : W.up a (ix3 0 c l) = a (ix2 c l) := by
  rw [← W.rise_at]; rfl

end Wide

/-! ### The vectors a tile computes -/

def chunk (x : IVec S256x256 32) : IVec S256x256 32 :=
  select
    (andi
      (cmpi .ne (subi (extui 32 (cmpi .sgt x (broadcast S256x256 0#32)) natLt_1_32)
          (extui 32 (cmpi .slt x (broadcast S256x256 0#32)) natLt_1_32))
        (broadcast S256x256 (Scalar.subi (Scalar.extui (Scalar.cmpi .sgt 64#32 0#32)) (Scalar.extui (Scalar.cmpi .slt 64#32 0#32)))))
      (cmpi .ne (remsi x (broadcast S256x256 64#32)) (broadcast S256x256 0#32)))
    (subi (divsi x (broadcast S256x256 64#32)) (broadcast S256x256 1#32))
    (divsi x (broadcast S256x256 64#32))

/-- Which keys of its own tile a query sees. -/
def vis : IVec S256x256 1 :=
  cmpi .sle (chunk (iota .tc S256x256 32 [1] iota_S256x256_d1_w32))
    (chunk (iota .tc S256x256 32 [0] iota_S256x256_d0_w32))

def qs (q : FVec Ideal S256x128 .bf16) : FVec Ideal S256x128 .bf16 :=
  truncf .bf16 (mulf (extf .f32 q bitsLt_bf16_f32) (broadcast S256x128 (Named.named κ "prescale" 0x3E16C740#32))) bitsLt_bf16_f32

def sd (q k : FVec Ideal S256x128 .bf16) : FVec Ideal S256x256 .f32 :=
  select vis (w256.nt (qs q) k) (broadcast S256x256 (Named.named κ "mask" 0xF149F2CA#32))

/-- the weights of a tile of scores against the row maxima -/
def ex {k : ℕ} (V : Wide k) (s : FVec Ideal ⟨2, ![256, k]⟩ .f32) (m : FVec Ideal S256x1 .f32) : FVec Ideal ⟨2, ![256, k]⟩ .f32 :=
  exp2 (subf s (V.bc m))

def recip (z : FVec Ideal S256x1 .f32) : FVec Ideal S256x1 .f32 :=
  divf (broadcast S256x1 (Scalar.ofBits .f32 0x3F800000#32)) z

def don (d : FVec Ideal S256x128 .bf16) (i : FVec Ideal S256x1 .f32) : FVec Ideal S256x128 .bf16 :=
  truncf .bf16 (mulf (extf .f32 d bitsLt_bf16_f32) (broadcastTo S256x128 i broadcasts_S256x1_S256x128)) bitsLt_bf16_f32

def dsc {k : ℕ} (V : Wide k) (e dp : FVec Ideal ⟨2, ![256, k]⟩ .f32) (delta i : FVec Ideal S256x1 .f32) : FVec Ideal ⟨2, ![256, k]⟩ .bf16 :=
  truncf .bf16 (mulf (mulf e (subf dp (V.bc delta))) (V.bc (mulf i (broadcast S256x1 (Scalar.ofBits .f32 0x3DD105EC#32))))) bitsLt_bf16_f32

/-- a block of the gradient of the values after a tile has added its part -/
def addV {k : ℕ} (V : Wide k) (e : FVec Ideal ⟨2, ![256, k]⟩ .f32) (dn : FVec Ideal S256x128 .bf16) (x : FVec Ideal ⟨3, ![1, k, 128]⟩ .f32) : FVec Ideal ⟨3, ![1, k, 128]⟩ .f32 :=
  V.up (addf (V.down x) (V.tn (truncf .bf16 e bitsLt_bf16_f32) dn))

/-- a block of the gradient of the keys after a tile has added its part -/
def addK {k : ℕ} (V : Wide k) (ds : FVec Ideal ⟨2, ![256, k]⟩ .bf16) (q : FVec Ideal S256x128 .bf16) (x : FVec Ideal ⟨3, ![1, k, 128]⟩ .f32) : FVec Ideal ⟨3, ![1, k, 128]⟩ .f32 :=
  V.up (addf (V.down x) (V.tn ds (qs q)))

/-! ### What they read as -/

theorem chunk_word : ∀ r : Fin 256, Scalar.select
    (IntOp.andi
      (IntOp.cmpi .ne (IntOp.subi (BitVec.setWidth 32 (IntOp.cmpi .sgt (BitVec.ofNat 32 r) 0#32))
          (BitVec.setWidth 32 (IntOp.cmpi .slt (BitVec.ofNat 32 r) 0#32)))
        (Scalar.subi (Scalar.extui (Scalar.cmpi .sgt 64#32 0#32)) (Scalar.extui (Scalar.cmpi .slt 64#32 0#32))))
      (IntOp.cmpi .ne (IntOp.remsi .vector (BitVec.ofNat 32 r) 64#32) 0#32))
    (IntOp.subi (IntOp.divsi .vector (BitVec.ofNat 32 r) 64#32) 1#32)
    (IntOp.divsi .vector (BitVec.ofNat 32 r) 64#32) = BitVec.ofNat 32 (r.val / 64) := by
  decide +kernel

theorem le_word : ∀ a b : Fin 4, IntOp.cmpi .sle (BitVec.ofNat 32 a.val) (BitVec.ofNat 32 b.val)
    = if a.val ≤ b.val then 1#1 else 0#1 := by
  decide +kernel

theorem vis_at (r c : Fin 256) : vis (ix2 r c) = if c.val / 64 ≤ r.val / 64 then 1#1 else 0#1 := by
  have e := le_word ⟨c.val / 64, by omega⟩ ⟨r.val / 64, by omega⟩
  simp only [] at e
  rw [← e, ← chunk_word, ← chunk_word]
  unfold vis chunk
  pointwise

theorem ieee_inf : Ideal.ofBits .f32 0xFF800000#32 = ⊥ := by
  simp [Ideal.ofBits, Ideal.ieee]

theorem ieee_one : (Scalar.ofBits .f32 0x3F800000#32 : Ideal .f32) = ((1 : ℝ) : EReal) := by
  show Ideal.ofBits _ _ = _
  simp [Ideal.ofBits, Ideal.ieee, -EReal.coe_mul]
  norm_num

theorem ieee_scale : (Scalar.ofBits .f32 0x3DD105EC#32 : Ideal .f32) = ((scale : ℝ) : EReal) := by
  show Ideal.ofBits _ _ = _
  simp [scale, Ideal.ofBits, Ideal.ieee, -EReal.coe_mul]
  norm_num

/-- The factor of the queries: the scale of the scores for powers of two. -/
def pre : ℝ := scale * (Real.log 2)⁻¹

theorem two_pow (x m : ℝ) : Real.rpow 2 (x * pre - m) = Real.exp (x * scale) * Real.rpow 2 (-m) := by
  have h : Real.log 2 ≠ 0 := (Real.log_pos (by norm_num)).ne'
  have e (y : ℝ) : Real.rpow 2 y = Real.exp (Real.log 2 * y) := Real.rpow_def_of_pos (by norm_num) y
  rw [e, e, ← Real.exp_add, pre]
  congr 1
  field_simp
  ring

theorem two_pow_pos (m : ℝ) : 0 < Real.rpow 2 m := Real.rpow_pos_of_pos (by norm_num) m

theorem qs_at {q : FVec Ideal S256x128 .bf16} {x : ℝ} (r l) (h : q (ix2 r l) = (x : EReal)) :
    qs q (ix2 r l) = ((x * pre : ℝ) : EReal) := by
  show q (ix2 r l) * ((pre : ℝ) : EReal) = _
  rw [h, EReal.coe_mul]

/-- A maximum over finitely many entries below `⊤` is below `⊤`. -/
theorem mx_lt {n : ℕ} (V : Wide n) (s r) (h : ∀ c, s (ix2 r c) < ⊤) : V.mx s (ix2 r 0) < ⊤ := by
  rw [V.mx_at, Finset.fold_max_lt, ieee_inf]
  exact ⟨bot_lt_top, fun c _ => h c⟩

theorem mx_gt {n : ℕ} (V : Wide n) (s r c) (h : ⊥ < s (ix2 r c)) : ⊥ < V.mx s (ix2 r 0) := by
  rw [V.mx_at, Finset.lt_fold_max]
  exact .inr ⟨c, Finset.mem_univ _, h⟩

section
variable {k : ℕ} (V : Wide k) (s g : Pairs) (R : Fin 256 → Fin 2048) (C : Fin k → Fin 2048) (u : Fin 256 → ℝ)

/-- A tile of weights, each row up to a factor. -/
def Weights (e : FVec Ideal ⟨2, ![256, k]⟩ .f32) : Prop :=
  ∀ r c, e (ix2 r c) = ((wt s (R r) (C c) * u r : ℝ) : EReal)

/-- The reciprocals of the row sums, with the same factors. -/
def Recips (i : FVec Ideal S256x1 .f32) : Prop :=
  ∀ r, i (ix2 r 0) = (((tot s (R r) * u r)⁻¹ : ℝ) : EReal)

variable {V s g R C u}

theorem nt_real {a : FVec Ideal S256x128 .bf16} {b : FVec Ideal ⟨2, ![k, 128]⟩ .bf16} {A B : Fin 2048 → Fin 128 → ℝ}
    (ha : ∀ r d, a (ix2 r d) = ((A (R r) d : ℝ) : EReal)) (hb : ∀ c d, b (ix2 c d) = ((B (C c) d : ℝ) : EReal)) (r c) :
    V.nt a b (ix2 r c) = ((dots A B (R r) (C c) : ℝ) : EReal) := by
  rw [V.nt_at, dots, coe_sum]
  exact Finset.sum_congr rfl fun d _ => by rw [ha, hb, EReal.coe_mul]

theorem scores_at {q : FVec Ideal S256x128 .bf16} {b : FVec Ideal ⟨2, ![k, 128]⟩ .bf16} {A B : Fin 2048 → Fin 128 → ℝ}
    (ha : ∀ r d, q (ix2 r d) = ((A (R r) d : ℝ) : EReal)) (hb : ∀ c d, b (ix2 c d) = ((B (C c) d : ℝ) : EReal)) (r c) :
    V.nt (qs q) b (ix2 r c) = ((dots A B (R r) (C c) * pre : ℝ) : EReal) := by
  rw [nt_real (R := R) (C := C) (A := fun r d => A r d * pre) (fun r d => qs_at r d (ha r d)) hb, dots, dots, Finset.sum_mul]
  exact congrArg _ (Finset.sum_congr rfl fun d _ => by ring)

theorem ex_at {t : FVec Ideal ⟨2, ![256, k]⟩ .f32} {m : FVec Ideal S256x1 .f32} {μ : Fin 256 → ℝ} (hm : ∀ r, m (ix2 r 0) = (μ r : EReal))
    (ht : ∀ r c, t (ix2 r c) = if (C c).val / 64 ≤ (R r).val / 64 then ((s (R r) (C c) * pre : ℝ) : EReal) else ⊥) :
    Weights s R C (fun r => Real.rpow 2 (-(μ r))) (ex V t m) := by
  intro r c
  show Ideal.exp2 (t (ix2 r c) - V.bc m (ix2 r c)) = _
  rw [V.bc_at, hm, ht, wt]
  split
  · rw [← EReal.coe_sub, Ideal.exp2_coe, two_pow]
  · rw [EReal.bot_sub, zero_mul]; rfl

theorem recip_at {z : FVec Ideal S256x1 .f32} (hu : ∀ r, 0 < u r) (hz : ∀ r, z (ix2 r 0) = ((tot s (R r) * u r : ℝ) : EReal)) :
    Recips s R u (recip z) := by
  intro r
  have h : tot s (R r) * u r ≠ 0 := (mul_pos (tot_pos s _) (hu r)).ne'
  show Ideal.div (Scalar.ofBits .f32 0x3F800000#32 : Ideal .f32) (z (ix2 r 0)) = _
  rw [hz, ieee_one, Ideal.div_coe h, ← EReal.coe_mul, one_mul, one_div]

theorem sm_weights {e : FVec Ideal ⟨2, ![256, k]⟩ .f32} (he : Weights s R C u e) (r) :
    V.sm e (ix2 r 0) = (((∑ c, wt s (R r) (C c)) * u r : ℝ) : EReal) := by
  rw [V.sm_at, Finset.sum_mul, coe_sum]
  exact Finset.sum_congr rfl fun c _ => he r c

theorem sm_delta {e dp : FVec Ideal ⟨2, ![256, k]⟩ .f32} (he : Weights s R C u e)
    (hd : ∀ r c, dp (ix2 r c) = ((g (R r) (C c) : ℝ) : EReal)) (r) :
    V.sm (mulf dp e) (ix2 r 0) = (((∑ c, wt s (R r) (C c) * g (R r) (C c)) * u r : ℝ) : EReal) := by
  rw [V.sm_at, Finset.sum_mul, coe_sum]
  refine Finset.sum_congr rfl fun c _ => ?_
  show dp (ix2 r c) * e (ix2 r c) = _
  rw [he, hd, ← EReal.coe_mul]
  exact congrArg _ (by ring)

/-- The row sum of the products of the softmax and its gradient. -/
theorem delta_at {z i : FVec Ideal S256x1 .f32} (hu : ∀ r, 0 < u r) (hi : Recips s R u i)
    (hz : ∀ r, z (ix2 r 0) = (((∑ j, wt s (R r) j * g (R r) j) * u r : ℝ) : EReal)) (r) :
    (mulf z i) (ix2 r 0) = ((∑ j, prob s (R r) j * g (R r) j : ℝ) : EReal) := by
  show z (ix2 r 0) * i (ix2 r 0) = _
  rw [hz, hi, ← EReal.coe_mul, Finset.sum_mul, Finset.sum_mul]
  have h := (tot_pos s (R r)).ne'
  have h' := (hu r).ne'
  exact congrArg _ (Finset.sum_congr rfl fun c _ => by unfold prob; field_simp)

theorem dsc_at {e dp : FVec Ideal ⟨2, ![256, k]⟩ .f32} {z i : FVec Ideal S256x1 .f32} (hu : ∀ r, 0 < u r) (he : Weights s R C u e)
    (hd : ∀ r c, dp (ix2 r c) = ((g (R r) (C c) : ℝ) : EReal)) (hi : Recips s R u i)
    (hz : ∀ r, z (ix2 r 0) = ((∑ j, prob s (R r) j * g (R r) j : ℝ) : EReal)) (r c) :
    dsc V e dp z i (ix2 r c) = ((dscore s g (R r) (C c) : ℝ) : EReal) := by
  show e (ix2 r c) * (dp (ix2 r c) - V.bc z (ix2 r c)) * V.bc (mulf i _) (ix2 r c) = _
  rw [V.bc_at, V.bc_at, he, hd, hz]
  show _ * (i (ix2 r 0) * (Scalar.ofBits .f32 0x3DD105EC#32 : Ideal .f32)) = _
  rw [hi, ieee_scale, ← EReal.coe_sub, ← EReal.coe_mul, ← EReal.coe_mul, ← EReal.coe_mul]
  have h := (tot_pos s (R r)).ne'
  have h' := (hu r).ne'
  exact congrArg _ (by unfold dscore prob; field_simp)

theorem addV_at {e : FVec Ideal ⟨2, ![256, k]⟩ .f32} {d : FVec Ideal S256x128 .bf16} {i : FVec Ideal S256x1 .f32} {D : Fin 2048 → Fin 128 → ℝ}
    (hu : ∀ r, 0 < u r) (he : Weights s R C u e) (hi : Recips s R u i)
    (hd : ∀ r l, d (ix2 r l) = ((D (R r) l : ℝ) : EReal)) (x c l) :
    addV V e (don d i) x (ix3 0 c l) = x (ix3 0 c l) + ((∑ r, prob s (R r) (C c) * D (R r) l : ℝ) : EReal) := by
  rw [addV, V.up_at]
  show V.down x (ix2 c l) + V.tn _ _ (ix2 c l) = _
  rw [V.down_at, V.tn_at, coe_sum]
  refine congrArg _ (Finset.sum_congr rfl fun r _ => ?_)
  have b : broadcastTo S256x128 i broadcasts_S256x1_S256x128 (ix2 r l) = i (ix2 r 0) := by pointwise
  show e (ix2 r c) * (d (ix2 r l) * broadcastTo S256x128 i broadcasts_S256x1_S256x128 (ix2 r l)) = _
  rw [b, he, hd, hi, ← EReal.coe_mul, ← EReal.coe_mul]
  have h := (tot_pos s (R r)).ne'
  have h' := (hu r).ne'
  exact congrArg _ (by unfold prob; field_simp)

theorem addK_at {ds : FVec Ideal ⟨2, ![256, k]⟩ .bf16} {q : FVec Ideal S256x128 .bf16} {A : Fin 2048 → Fin 128 → ℝ}
    (hds : ∀ r c, ds (ix2 r c) = ((dscore s g (R r) (C c) : ℝ) : EReal))
    (ha : ∀ r l, q (ix2 r l) = ((A (R r) l : ℝ) : EReal)) (x c l) :
    addK V ds q x (ix3 0 c l) = x (ix3 0 c l) + ((∑ r, dscore s g (R r) (C c) * (A (R r) l * pre) : ℝ) : EReal) := by
  rw [addK, V.up_at]
  show V.down x (ix2 c l) + V.tn _ _ (ix2 c l) = _
  rw [V.down_at, V.tn_at, coe_sum]
  exact congrArg _ (Finset.sum_congr rfl fun r _ => by rw [hds, qs_at r l (ha r l), ← EReal.coe_mul])

theorem nn_real {ds : FVec Ideal ⟨2, ![256, k]⟩ .bf16} {b : FVec Ideal ⟨2, ![k, 128]⟩ .bf16} {B : Fin 2048 → Fin 128 → ℝ}
    (hds : ∀ r c, ds (ix2 r c) = ((dscore s g (R r) (C c) : ℝ) : EReal))
    (hb : ∀ c d, b (ix2 c d) = ((B (C c) d : ℝ) : EReal)) (r l) :
    V.nn ds b (ix2 r l) = ((∑ c, dscore s g (R r) (C c) * B (C c) l : ℝ) : EReal) := by
  rw [V.nn_at, coe_sum]
  exact Finset.sum_congr rfl fun c _ => by rw [hds, hb, EReal.coe_mul]

end

/-! ### A tile with keys before it -/

section
variable (q k d v : FVec Ideal S256x128 .bf16) (ko vo : FVec Ideal ⟨2, ![n, 128]⟩ .bf16)

def rowMax : FVec Ideal S256x1 .f32 := maximumf (w256.mx (sd q k)) (W.mx (W.nt (qs q) ko))
def eHere : FVec Ideal S256x256 .f32 := ex w256 (sd q k) (rowMax W q k ko)
def eBefore : FVec Ideal ⟨2, ![256, n]⟩ .f32 := ex W (W.nt (qs q) ko) (rowMax W q k ko)
def inv : FVec Ideal S256x1 .f32 := recip (addf (W.sm (eBefore W q k ko)) (w256.sm (eHere W q k ko)))
def delta : FVec Ideal S256x1 .f32 :=
  mulf (addf (w256.sm (mulf (w256.nt d v) (eHere W q k ko))) (W.sm (mulf (W.nt d vo) (eBefore W q k ko)))) (inv W q k ko)
def dsHere : FVec Ideal S256x256 .bf16 := dsc w256 (eHere W q k ko) (w256.nt d v) (delta W q k d v ko vo) (inv W q k ko)
def dsBefore : FVec Ideal ⟨2, ![256, n]⟩ .bf16 := dsc W (eBefore W q k ko) (W.nt d vo) (delta W q k d v ko vo) (inv W q k ko)
def dQ : FVec Ideal S1x256x128 .f32 := w256.up (addf (w256.nn (dsHere W q k d v ko vo) k) (W.nn (dsBefore W q k d v ko vo) ko))

/-! ### The first tile -/

def eFirst : FVec Ideal S256x256 .f32 := ex w256 (sd q k) (w256.mx (sd q k))
def invFirst : FVec Ideal S256x1 .f32 := recip (w256.sm (eFirst q k))
def dsFirst : FVec Ideal S256x256 .bf16 :=
  dsc w256 (eFirst q k) (w256.nt d v) (mulf (w256.sm (mulf (w256.nt d v) (eFirst q k))) (invFirst q k)) (invFirst q k)
def dQFirst : FVec Ideal S1x256x128 .f32 := w256.up (w256.nn (dsFirst q k d v) k)

end

section
variable {q k d v : FVec Ideal S256x128 .bf16} {ko vo : FVec Ideal ⟨2, ![n, 128]⟩ .bf16}
  {Q K D V : Fin 2048 → Fin 128 → ℝ} {R : Fin 256 → Fin 2048} {C : Fin n → Fin 2048} {lo : ℕ}
  (hlo : lo + 256 ≤ 2048)

/-- The rows of a tile hold what the arrays hold at its positions. -/
def At {m : ℕ} (C : Fin m → Fin 2048) (a : FVec Ideal ⟨2, ![m, 128]⟩ .bf16) (A : Fin 2048 → Fin 128 → ℝ) : Prop :=
  ∀ c l, a (ix2 c l) = ((A (C c) l : ℝ) : EReal)

include hlo in
theorem sd_at (hR : ∀ r, R r = ⟨lo + r.val, by omega⟩) (h64 : 64 ∣ lo) (hq : At R q Q) (hk : At R k K) (r c : Fin 256) :
    sd q k (ix2 r c) = if (R c).val / 64 ≤ (R r).val / 64 then ((dots Q K (R r) (R c) * pre : ℝ) : EReal) else ⊥ := by
  show Scalar.select (vis (ix2 r c)) (w256.nt (qs q) k (ix2 r c)) (⊥ : EReal) = _
  rw [scores_at (R := R) (C := R) hq hk, vis_at]
  have e : (R c).val / 64 ≤ (R r).val / 64 ↔ c.val / 64 ≤ r.val / 64 := by
    obtain ⟨t, rfl⟩ := h64
    rw [hR, hR]
    simp only
    omega
  simp only [e]
  split <;> rfl

/-- A maximum that is neither infinity is a real number. -/
theorem real_of {x : EReal} (h : ⊥ < x) (h' : x < ⊤) : ∃ μ : ℝ, x = (μ : EReal) :=
  ⟨x.toReal, (EReal.coe_toReal h'.ne h.ne').symm⟩

include hlo in
theorem sd_bounds (hR : ∀ r, R r = ⟨lo + r.val, by omega⟩) (h64 : 64 ∣ lo) (hq : At R q Q) (hk : At R k K) (r : Fin 256) :
    ⊥ < w256.mx (sd q k) (ix2 r 0) ∧ w256.mx (sd q k) (ix2 r 0) < ⊤ := by
  constructor
  · refine mx_gt w256 _ r r ?_
    rw [sd_at hlo hR h64 hq hk, if_pos le_rfl]
    exact EReal.bot_lt_coe _
  · refine mx_lt w256 _ r fun c => ?_
    rw [sd_at hlo hR h64 hq hk]
    split
    · exact EReal.coe_lt_top _
    · exact bot_lt_top

/-- What a tile leaves: its rows of the gradient of the queries, and what it adds to a block of the
gradients of the keys and of the values. -/
structure Adds {m : ℕ} (W : Wide m) (e : FVec Ideal ⟨2, ![256, m]⟩ .f32) (ds : FVec Ideal ⟨2, ![256, m]⟩ .bf16)
    (q d : FVec Ideal S256x128 .bf16) (i : FVec Ideal S256x1 .f32) (Q K D V : Fin 2048 → Fin 128 → ℝ) (R : Fin 256 → Fin 2048) (C : Fin m → Fin 2048) : Prop where
  value : ∀ x c l, addV W e (don d i) x (ix3 0 c l) = x (ix3 0 c l) + ((∑ r, prob (dots Q K) (R r) (C c) * D (R r) l : ℝ) : EReal)
  key : ∀ x c l, addK W ds q x (ix3 0 c l) = x (ix3 0 c l) + ((∑ r, dscore (dots Q K) (dots D V) (R r) (C c) * (Q (R r) l * pre) : ℝ) : EReal)

theorem adds {m : ℕ} {W : Wide m} {e : FVec Ideal ⟨2, ![256, m]⟩ .f32} {C : Fin m → Fin 2048} {w : FVec Ideal ⟨2, ![m, 128]⟩ .bf16}
    {i z : FVec Ideal S256x1 .f32} {u : Fin 256 → ℝ} (hu : ∀ r, 0 < u r) (he : Weights (dots Q K) R C u e) (hi : Recips (dots Q K) R u i)
    (hz : ∀ r, z (ix2 r 0) = ((∑ j, prob (dots Q K) (R r) j * dots D V (R r) j : ℝ) : EReal))
    (hq : At R q Q) (hd : At R d D) (hw : At C w V) :
    Adds W e (dsc W e (W.nt d w) z i) q d i Q K D V R C where
  value := addV_at hu he hi hd
  key := addK_at (dsc_at hu he (nt_real hd hw) hi hz) hq

include hlo in
theorem weights_first (h0 : lo = 0) (hR : ∀ r, R r = ⟨lo + r.val, by omega⟩) (hq : At R q Q) (hk : At R k K) :
    ∃ u : Fin 256 → ℝ, (∀ r, 0 < u r) ∧ Weights (dots Q K) R R u (eFirst q k) ∧ Recips (dots Q K) R u (invFirst q k) := by
  have h64 : 64 ∣ lo := h0 ▸ dvd_zero _
  choose μ hμ using fun r => real_of (sd_bounds hlo hR h64 hq hk r).1 (sd_bounds hlo hR h64 hq hk r).2
  have hu r := two_pow_pos (-(μ r))
  have he : Weights (dots Q K) R R _ (eFirst q k) := ex_at hμ (sd_at hlo hR h64 hq hk)
  have all (r : Fin 256) (f : Fin 2048 → ℝ) (hf : ∀ j : Fin 2048, lo + 256 ≤ j.val → f j = 0) : ∑ j, f j = ∑ c, f (R c) := by
    subst h0
    rw [sum_split hlo f hf]
    simp [hR]
  have lt r : (R r).val < lo + 256 := by rw [hR]; simp only; omega
  exact ⟨_, hu, he, recip_at hu fun r => by
    rw [sm_weights he, tot, all r _ fun j hj => wt_late _ h64 _ j (lt r) hj]⟩

theorem weights_later (hn : n + 256 ≤ 2048) (h64 : 64 ∣ n) (hR : ∀ r, R r = ⟨n + r.val, by omega⟩) (hC : ∀ c, C c = ⟨c.val, by omega⟩)
    (hq : At R q Q) (hk : At R k K) (hko : At C ko K) :
    ∃ u : Fin 256 → ℝ, (∀ r, 0 < u r) ∧ Weights (dots Q K) R R u (eHere W q k ko) ∧ Weights (dots Q K) R C u (eBefore W q k ko)
      ∧ Recips (dots Q K) R u (inv W q k ko) := by
  have hso (r c) : W.nt (qs q) ko (ix2 r c) = if (C c).val / 64 ≤ (R r).val / 64 then ((dots Q K (R r) (C c) * pre : ℝ) : EReal) else ⊥ := by
    rw [scores_at (R := R) (C := C) hq hko, if_pos (by rw [hR, hC]; simp only; omega)]
  have hm (r) : ∃ μ : ℝ, rowMax W q k ko (ix2 r 0) = (μ : EReal) :=
    real_of (x := max _ _) (lt_max_of_lt_left (sd_bounds hn hR h64 hq hk r).1)
      (max_lt (sd_bounds hn hR h64 hq hk r).2 (mx_lt W _ r fun c => by rw [scores_at (R := R) (C := C) hq hko]; exact EReal.coe_lt_top _))
  choose μ hμ using hm
  have hu r := two_pow_pos (-(μ r))
  have he : Weights (dots Q K) R R _ (eHere W q k ko) := ex_at hμ (sd_at hn hR h64 hq hk)
  have ho : Weights (dots Q K) R C _ (eBefore W q k ko) := ex_at hμ hso
  have all (r : Fin 256) (f : Fin 2048 → ℝ) (hf : ∀ j : Fin 2048, n + 256 ≤ j.val → f j = 0) : ∑ j, f j = (∑ c, f (C c)) + ∑ c, f (R c) := by
    rw [sum_split hn f hf]
    simp only [hR, hC]
  have lt r : (R r).val < n + 256 := by rw [hR]; simp only; omega
  exact ⟨_, hu, he, ho, recip_at hu fun r => by
    show W.sm _ (ix2 r 0) + w256.sm _ (ix2 r 0) = _
    rw [sm_weights he, sm_weights ho, tot, all r _ fun j hj => wt_late _ h64 _ j (lt r) hj, add_mul, EReal.coe_add]⟩

include hlo in
theorem first (h0 : lo = 0) (hR : ∀ r, R r = ⟨lo + r.val, by omega⟩) (hq : At R q Q) (hk : At R k K) (hd : At R d D) (hv : At R v V) :
    (∀ r l, dQFirst q k d v (ix3 0 r l) = ((∑ j, dscore (dots Q K) (dots D V) (R r) j * K j l : ℝ) : EReal))
    ∧ Adds w256 (eFirst q k) (dsFirst q k d v) q d (invFirst q k) Q K D V R R := by
  have h64 : 64 ∣ lo := h0 ▸ dvd_zero _
  obtain ⟨u, hu, he, hi⟩ := weights_first hlo h0 hR hq hk
  have all (r : Fin 256) (f : Fin 2048 → ℝ) (hf : ∀ j : Fin 2048, lo + 256 ≤ j.val → f j = 0) : ∑ j, f j = ∑ c, f (R c) := by
    subst h0
    rw [sum_split hlo f hf]
    simp [hR]
  have lt r : (R r).val < lo + 256 := by rw [hR]; simp only; omega
  have hz r := delta_at (g := dots D V) hu hi (z := w256.sm (mulf (w256.nt d v) (eFirst q k))) (fun r => by
    rw [sm_delta (g := dots D V) he (nt_real hd hv), all r (fun j => wt (dots Q K) (R r) j * dots D V (R r) j) fun j hj => by rw [wt_late _ h64 _ j (lt r) hj, zero_mul]]) r
  refine ⟨fun r l => ?_, adds hu he hi hz hq hd hv⟩
  rw [dQFirst, w256.up_at, dsFirst, nn_real (dsc_at hu he (nt_real hd hv) hi hz) hk,
    all r (fun j => dscore (dots Q K) (dots D V) (R r) j * K j l) fun j hj => by rw [dscore_late _ _ h64 _ j (lt r) hj, zero_mul]]

theorem later (hn : n + 256 ≤ 2048) (h64 : 64 ∣ n) (hR : ∀ r, R r = ⟨n + r.val, by omega⟩) (hC : ∀ c, C c = ⟨c.val, by omega⟩)
    (hq : At R q Q) (hk : At R k K) (hd : At R d D) (hv : At R v V) (hko : At C ko K) (hvo : At C vo V) :
    (∀ r l, dQ W q k d v ko vo (ix3 0 r l) = ((∑ j, dscore (dots Q K) (dots D V) (R r) j * K j l : ℝ) : EReal))
    ∧ Adds w256 (eHere W q k ko) (dsHere W q k d v ko vo) q d (inv W q k ko) Q K D V R R
    ∧ Adds W (eBefore W q k ko) (dsBefore W q k d v ko vo) q d (inv W q k ko) Q K D V R C := by
  obtain ⟨u, hu, he, ho, hi⟩ := weights_later W (lo := 0) hn h64 hR hC hq hk hko
  have all (r : Fin 256) (f : Fin 2048 → ℝ) (hf : ∀ j : Fin 2048, n + 256 ≤ j.val → f j = 0) : ∑ j, f j = (∑ c, f (C c)) + ∑ c, f (R c) := by
    rw [sum_split hn f hf]
    simp only [hR, hC]
  have lt r : (R r).val < n + 256 := by rw [hR]; simp only; omega
  have hz r := delta_at (g := dots D V) hu hi (z := addf (w256.sm (mulf (w256.nt d v) (eHere W q k ko))) (W.sm (mulf (W.nt d vo) (eBefore W q k ko)))) (fun r => by
    show w256.sm _ (ix2 r 0) + W.sm _ (ix2 r 0) = _
    rw [sm_delta (g := dots D V) he (nt_real hd hv), sm_delta (g := dots D V) ho (nt_real hd hvo),
      all r (fun j => wt (dots Q K) (R r) j * dots D V (R r) j) fun j hj => by rw [wt_late _ h64 _ j (lt r) hj, zero_mul], add_mul, EReal.coe_add, add_comm]) r
  refine ⟨fun r l => ?_, adds hu he hi hz hq hd hv, adds hu ho hi hz hq hd hvo⟩
  rw [dQ, w256.up_at]
  show w256.nn _ _ (ix2 r l) + W.nn _ _ (ix2 r l) = _
  rw [dsHere, dsBefore, delta, nn_real (dsc_at hu he (nt_real hd hv) hi hz) hk, nn_real (dsc_at hu ho (nt_real hd hvo) hi hz) hko,
    all r (fun j => dscore (dots Q K) (dots D V) (R r) j * K j l) fun j hj => by rw [dscore_late _ _ h64 _ j (lt r) hj, zero_mul], EReal.coe_add, add_comm]

end

end Cert.KernelAttnIdeal.Tile
-- ==== Proof.AttnKernel.lean ====
module

public import proofs.«01_k».proof.Proof.AttnTile

@[expose] public section

set_option maxRecDepth 16384

noncomputable section

open Idealize.ShloMosaic Idealize.ShloMosaic.TcCoe Idealize.SL.Sem
open Idealize.ShloMosaic.Pipeline (Dat)

namespace Cert.KernelAttnIdeal.Tile

open Cert.KernelAttnIdeal Cert.KernelAttnIdeal.Gen Cert.AttnMath

/-! ### The stores of a block -/

abbrev Stores (φ : EltTy) := List (View.Piece (Elt Ideal) S1x2048x128 φ)
abbrev Rows (n : ℕ) (φ : EltTy) := (⟨3, ![1, n, 128]⟩ : Shape).Idx → Elt Ideal φ
abbrev Arr := Fin 2048 → Fin 128 → ℝ

theorem inb {lo n : ℕ} (h : lo + n ≤ 2048) :
    ∀ a, (![0, lo, 0] : Fin 3 → Nat) a + (⟨3, ![1, n, 128]⟩ : Shape).size a ≤ S1x2048x128.size a
  | ⟨0, _⟩ => by simp
  | ⟨1, _⟩ => h
  | ⟨2, _⟩ => by simp

/-- The rows `lo … lo + n` of a block. -/
abbrev rows (lo n : ℕ) (h : lo + n ≤ 2048) : Rect S1x2048x128 :=
  Rect.unit (s := S1x2048x128) ![0, lo, 0] (⟨3, ![1, n, 128]⟩ : Shape).size (inb h)

theorem rows_idx {lo n : ℕ} (h : lo + n ≤ 2048) (c : Fin n) (l : Fin 128) :
    (rows lo n h).idx (ix3 0 c l) = ix3 0 ⟨lo + c.val, by omega⟩ l := by
  funext a; apply Fin.ext
  rw [Rect.idx_unit_val]
  match a with
  | ⟨0, _⟩ => rfl
  | ⟨1, _⟩ => rfl
  | ⟨2, _⟩ => exact Nat.zero_add _

theorem ld_rows {φ : EltTy} (x : S1x2048x128.Idx → Elt Ideal φ) {lo n : ℕ} (h : lo + n ≤ 2048) (c : Fin n) (l : Fin 128) :
    View.ld x (rows lo n h) (ix3 0 c l) = x (ix3 0 ⟨lo + c.val, by omega⟩ l) :=
  congrArg x (rows_idx h c l)

theorem canon_hit {φ : EltTy} (L : Stores φ) {lo n : ℕ} (h : lo + n ≤ 2048) (w : Rows n φ) (c : Fin n) (l : Fin 128) :
    View.canon (⟨rows lo n h, w⟩ :: L) (ix3 0 ⟨lo + c.val, by omega⟩ l) = w (ix3 0 c l) :=
  (congrArg _ (rows_idx h c l).symm).trans (View.canon_cons_emb (rows lo n h) w L (ix3 0 c l))

theorem canon_miss {φ : EltTy} (L : Stores φ) {lo n : ℕ} (h : lo + n ≤ 2048) (w : Rows n φ) (j : Fin 2048) (l : Fin 128)
    (hj : ¬(lo ≤ j.val ∧ j.val < lo + n)) : View.canon (⟨rows lo n h, w⟩ :: L) (ix3 0 j l) = View.canon L (ix3 0 j l) :=
  View.canon_cons_of_not_mem _ _ fun hm => hj (Rect.mem_set_unit (inb := inb h).1 hm 1)

theorem row_of {lo n : ℕ} (h : lo + n ≤ 2048) (j : Fin 2048) (hj : lo ≤ j.val ∧ j.val < lo + n) :
    ∃ r : Fin n, j = ⟨lo + r.val, lt_of_lt_of_le (Nat.add_lt_add_left r.isLt lo) h⟩ :=
  ⟨⟨j.val - lo, by omega⟩, Fin.ext (by simp only; omega)⟩

/-- The stores so far have left `g` in the rows below `hi`. -/
def Upto {φ : EltTy} (L : Stores φ) (hi : ℕ) (g : Fin 2048 → Fin 128 → Elt Ideal φ) : Prop :=
  ∀ (j : Fin 2048) l, j.val < hi → View.canon L (ix3 0 j l) = g j l

theorem Upto.store {φ : EltTy} {L : Stores φ} {g : Fin 2048 → Fin 128 → Elt Ideal φ} {w v : Rows 256 φ} (lo : ℕ) (h : lo + 256 ≤ 2048) (e : w = v)
    (hw : ∀ r l, v (ix3 0 r l) = g ⟨lo + r.val, by omega⟩ l) (hL : Upto L lo g) :
    Upto (⟨rows lo 256 h, w⟩ :: L) (lo + 256) g := by
  intro j l hj
  by_cases hlo : lo ≤ j.val
  · obtain ⟨r, rfl⟩ := row_of h j ⟨hlo, hj⟩
    rw [canon_hit, e, hw]
  · rw [canon_miss _ _ _ _ _ (by omega)]
    exact hL j l (by omega)

theorem upto_all {φ : EltTy} {L : Stores φ} {g : Fin 2048 → Fin 128 → Elt Ideal φ} (h : Upto L 2048 g) (j l) :
    View.canon L (ix3 0 j l) = g j l := h j l j.isLt

/-- The stores so far have left `f` in the block. -/
def Acc (L : Stores .f32) (f : Arr) : Prop :=
  ∀ j l, View.canon L (ix3 0 j l) = ((f j l : ℝ) : EReal)

theorem Acc.add {κ' : Kind} {sp : Space} (v : View sig κ' sp S1x2048x128 .f32) {L : Stores .f32} {f f' : Arr} {lo n : ℕ} (h : lo + n ≤ 2048) (w : Rows n .f32 → Rows n .f32) {p : Rows n .f32}
    (e : p = w (v.readCov L (rows lo n h).toLoadRect)) (a : Fin n → Fin 128 → ℝ)
    (hw : ∀ x c l, w x (ix3 0 c l) = x (ix3 0 c l) + ((a c l : ℝ) : EReal)) (hL : Acc L f)
    (hit : ∀ (c : Fin n) l, f' ⟨lo + c.val, by omega⟩ l = f ⟨lo + c.val, by omega⟩ l + a c l)
    (miss : ∀ (j : Fin 2048) l, ¬(lo ≤ j.val ∧ j.val < lo + n) → f' j l = f j l) :
    Acc (⟨rows lo n h, p⟩ :: L) f' := by
  intro j l
  by_cases hj : lo ≤ j.val ∧ j.val < lo + n
  · obtain ⟨r, rfl⟩ := row_of h j hj
    rw [canon_hit, e, hw, hit, EReal.coe_add, View.readCov_eq_canon']
    exact congrArg (· + _) ((congrArg _ (rows_idx h r l)).trans (hL _ l))
  · rw [canon_miss _ _ _ _ _ hj, hL, miss j l hj]

section
variable (h : Fin 2048 → Arr)

/-- What the queries below `hi` add up to. -/
def below (hi : ℕ) : Arr := fun j l => part (fun r => h r j l) hi

theorem acc_all {L : Stores .f32} (hL : Acc L (below h 2048)) (j l) : View.canon L (ix3 0 j l) = ((∑ r, h r j l : ℝ) : EReal) :=
  (hL j l).trans (congrArg _ (part_all _))

theorem Acc.none {p : Rows 2048 .f32} (hp : ∀ j l, p (ix3 0 j l) = 0) : Acc [⟨rows 0 2048 (by omega), p⟩] (below h 0) := by
  intro j l
  obtain ⟨r, rfl⟩ := row_of (lo := 0) (n := 2048) (by omega) j (by omega)
  rw [canon_hit, hp, below, part_zero, EReal.coe_zero]

theorem Acc.first {κ' : Kind} {sp : Space} (v : View sig κ' sp S1x2048x128 .f32) {L : Stores .f32} (w : Rows 256 .f32 → Rows 256 .f32) {p : Rows 256 .f32}
    (e : p = w (v.readCov L (rows 0 256 (by omega)).toLoadRect))
    (late : ∀ r j l, r.val < 256 → 256 ≤ j.val → h r j l = 0)
    (hw : ∀ x c l, w x (ix3 0 c l) = x (ix3 0 c l) + ((∑ r : Fin 256, h ⟨r.val, by omega⟩ ⟨c.val, by omega⟩ l : ℝ) : EReal))
    (hL : Acc L (below h 0)) :
    Acc (⟨rows 0 256 (by omega), p⟩ :: L) (below h 256) := by
  refine Acc.add v (hL := hL) (lo := 0) (by omega) w e (fun c l => ∑ r : Fin 256, h ⟨r.val, by omega⟩ ⟨c.val, by omega⟩ l) hw (fun c l => ?_) fun j l hj => ?_
  · have e := part_step (lo := 0) (by omega) (fun r => h r ⟨c.val, by omega⟩ l)
    simpa [below] using e
  · exact part_of_zero (lo := 0) (by omega) _ fun r hr => late r j l (by omega) (by omega)

theorem Acc.later {κ' : Kind} {sp : Space} (v : View sig κ' sp S1x2048x128 .f32) {L : Stores .f32} {n : ℕ} (hn : n + 256 ≤ 2048) (w : Rows 256 .f32 → Rows 256 .f32) (w' : Rows n .f32 → Rows n .f32)
    {p : Rows 256 .f32} {p' : Rows n .f32}
    (late : ∀ r j l, r.val < n + 256 → n + 256 ≤ j.val → h r j l = 0)
    (hw : ∀ x c l, w x (ix3 0 c l) = x (ix3 0 c l) + ((∑ r : Fin 256, h ⟨n + r.val, by omega⟩ ⟨n + c.val, by omega⟩ l : ℝ) : EReal))
    (hw' : ∀ x c l, w' x (ix3 0 c l) = x (ix3 0 c l) + ((∑ r : Fin 256, h ⟨n + r.val, by omega⟩ ⟨c.val, by omega⟩ l : ℝ) : EReal))
    (e : p = w (v.readCov L (rows n 256 hn).toLoadRect))
    (e' : p' = w' (v.readCov (⟨rows n 256 hn, p⟩ :: L) (rows 0 n (by omega)).toLoadRect))
    (hL : Acc L (below h n)) :
    Acc (⟨rows 0 n (by omega), p'⟩ :: ⟨rows n 256 hn, p⟩ :: L) (below h (n + 256)) := by
  have step (j l) := part_step hn (fun r => h r j l)
  refine Acc.add v (f := fun j l => if n ≤ j.val then below h (n + 256) j l else below h n j l) (by omega) w' e' _ hw'
    (Acc.add v (hL := hL) hn w e _ hw (fun c l => ?_) fun j l hj => ?_) (fun c l => ?_) fun j l hj => ?_
  · rw [if_pos (by simp only; omega)]
    exact step _ _
  · split
    · exact part_of_zero hn _ fun r hr => late r j l hr (by omega)
    · rfl
  · rw [if_neg (by simp only; omega)]
    exact (step _ _).trans (by simp only [below, Nat.zero_add])
  · exact (if_pos (by omega)).symm

end

theorem w512 : Wide 512 := ⟨dot_S256x128_S512x128_S256x512_1_1_0_0_n_n_wf, dot_S256x512_S512x128_S256x128_1_0_0_1_n_n_wf,
  dot_S256x512_S256x128_S512x128_0_0_1_1_n_n_wf, reduces_S256x512_S256, broadcasts_S256x1_S256x512,
  shapeCasts_S1x512x128_S512x128, shapeCasts_S512x128_S1x512x128, fun c l => by pointwise, fun c l => by pointwise⟩
theorem w768 : Wide 768 := ⟨dot_S256x128_S768x128_S256x768_1_1_0_0_n_n_wf, dot_S256x768_S768x128_S256x128_1_0_0_1_n_n_wf,
  dot_S256x768_S256x128_S768x128_0_0_1_1_n_n_wf, reduces_S256x768_S256, broadcasts_S256x1_S256x768,
  shapeCasts_S1x768x128_S768x128, shapeCasts_S768x128_S1x768x128, fun c l => by pointwise, fun c l => by pointwise⟩
theorem w1024 : Wide 1024 := ⟨dot_S256x128_S1024x128_S256x1024_1_1_0_0_n_n_wf, dot_S256x1024_S1024x128_S256x128_1_0_0_1_n_n_wf,
  dot_S256x1024_S256x128_S1024x128_0_0_1_1_n_n_wf, reduces_S256x1024_S256, broadcasts_S256x1_S256x1024,
  shapeCasts_S1x1024x128_S1024x128, shapeCasts_S1024x128_S1x1024x128, fun c l => by pointwise, fun c l => by pointwise⟩
theorem w1280 : Wide 1280 := ⟨dot_S256x128_S1280x128_S256x1280_1_1_0_0_n_n_wf, dot_S256x1280_S1280x128_S256x128_1_0_0_1_n_n_wf,
  dot_S256x1280_S256x128_S1280x128_0_0_1_1_n_n_wf, reduces_S256x1280_S256, broadcasts_S256x1_S256x1280,
  shapeCasts_S1x1280x128_S1280x128, shapeCasts_S1280x128_S1x1280x128, fun c l => by pointwise, fun c l => by pointwise⟩
theorem w1536 : Wide 1536 := ⟨dot_S256x128_S1536x128_S256x1536_1_1_0_0_n_n_wf, dot_S256x1536_S1536x128_S256x128_1_0_0_1_n_n_wf,
  dot_S256x1536_S256x128_S1536x128_0_0_1_1_n_n_wf, reduces_S256x1536_S256, broadcasts_S256x1_S256x1536,
  shapeCasts_S1x1536x128_S1536x128, shapeCasts_S1536x128_S1x1536x128, fun c l => by pointwise, fun c l => by pointwise⟩
theorem w1792 : Wide 1792 := ⟨dot_S256x128_S1792x128_S256x1792_1_1_0_0_n_n_wf, dot_S256x1792_S1792x128_S256x128_1_0_0_1_n_n_wf,
  dot_S256x1792_S256x128_S1792x128_0_0_1_1_n_n_wf, reduces_S256x1792_S256, broadcasts_S256x1_S256x1792,
  shapeCasts_S1x1792x128_S1792x128, shapeCasts_S1792x128_S1x1792x128, fun c l => by pointwise, fun c l => by pointwise⟩

/-! ### The tiles of one block -/

def Holds (x : S1x2048x128.Idx → Elt Ideal .bf16) (A : Arr) : Prop := ∀ j l, x (ix3 0 j l) = ((A j l : ℝ) : EReal)

/-- Some rows of a block, as a tile takes them. -/
def cut {n : ℕ} (W : Wide n) (lo : ℕ) (h : lo + n ≤ 2048) (x : S1x2048x128.Idx → Elt Ideal .bf16) : FVec Ideal ⟨2, ![n, 128]⟩ .bf16 :=
  W.down (View.ld x (rows lo n h))

theorem cut_at {n : ℕ} (W : Wide n) (lo : ℕ) (h : lo + n ≤ 2048) {x : S1x2048x128.Idx → Elt Ideal .bf16} {A : Arr} (hx : Holds x A) :
    At (fun c : Fin n => ⟨lo + c.val, by omega⟩) (cut W lo h x) A := by
  intro c l
  rw [cut, W.down_at, ld_rows, hx]

section
variable (x0 x1 x2 x3 : S1x2048x128.Idx → Elt Ideal .bf16)

abbrev at0 {α : Type} (f : FVec Ideal S256x128 .bf16 → FVec Ideal S256x128 .bf16 → FVec Ideal S256x128 .bf16 → FVec Ideal S256x128 .bf16 → α) : α :=
  f (cut w256 0 (by omega) x0) (cut w256 0 (by omega) x1) (cut w256 0 (by omega) x3) (cut w256 0 (by omega) x2)

abbrev atN {n : ℕ} (W : Wide n) (hn : n + 256 ≤ 2048) {α : Type} (f : FVec Ideal S256x128 .bf16 → FVec Ideal S256x128 .bf16 → FVec Ideal S256x128 .bf16 →
    FVec Ideal S256x128 .bf16 → FVec Ideal ⟨2, ![n, 128]⟩ .bf16 → FVec Ideal ⟨2, ![n, 128]⟩ .bf16 → α) : α :=
  f (cut w256 n hn x0) (cut w256 n hn x1) (cut w256 n hn x3) (cut w256 n hn x2) (cut W 0 (by omega) x1) (cut W 0 (by omega) x2)

variable {x0 x1 x2 x3} {Q K V D : Arr} (h0 : Holds x0 Q) (h1 : Holds x1 K) (h2 : Holds x2 V) (h3 : Holds x3 D)

include h0 h1 h2 h3 in
theorem tile_first :
    (∀ r l, at0 x0 x1 x2 x3 dQFirst (ix3 0 r l) = ((∑ j, dscore (dots Q K) (dots D V) ⟨r.val, by omega⟩ j * K j l : ℝ) : EReal))
    ∧ at0 x0 x1 x2 x3 fun q k d v => Adds w256 (eFirst q k) (dsFirst q k d v) q d (invFirst q k) Q K D V
        (fun r => ⟨r.val, by omega⟩) (fun r => ⟨r.val, by omega⟩) := by
  have e := first (Q := Q) (K := K) (D := D) (V := V) (R := fun r => ⟨0 + r.val, by omega⟩) (lo := 0) (by omega) rfl (fun r => rfl)
    (cut_at w256 0 (by omega) h0) (cut_at w256 0 (by omega) h1) (cut_at w256 0 (by omega) h3) (cut_at w256 0 (by omega) h2)
  simp only [Nat.zero_add] at e
  exact e

include h0 h1 h2 h3 in
theorem tile_later {n : ℕ} (W : Wide n) (hn : n + 256 ≤ 2048) (h64 : 64 ∣ n) :
    (∀ r l, atN x0 x1 x2 x3 W hn (dQ W) (ix3 0 r l) = ((∑ j, dscore (dots Q K) (dots D V) ⟨n + r.val, by omega⟩ j * K j l : ℝ) : EReal))
    ∧ (atN x0 x1 x2 x3 W hn fun q k d v ko vo => Adds w256 (eHere W q k ko) (dsHere W q k d v ko vo) q d (inv W q k ko) Q K D V
        (fun r => ⟨n + r.val, by omega⟩) (fun r => ⟨n + r.val, by omega⟩))
    ∧ atN x0 x1 x2 x3 W hn fun q k d v ko vo => Adds W (eBefore W q k ko) (dsBefore W q k d v ko vo) q d (inv W q k ko) Q K D V
        (fun r => ⟨n + r.val, by omega⟩) (fun c => ⟨c.val, by omega⟩) := by
  have e := later W (lo := 0) (Q := Q) (K := K) (D := D) (V := V) (R := fun r => ⟨n + r.val, by omega⟩) (C := fun c => ⟨0 + c.val, by omega⟩) hn h64 (fun r => rfl)
    (fun c => Fin.ext (Nat.zero_add _))
    (cut_at w256 n hn h0) (cut_at w256 n hn h1) (cut_at w256 n hn h3) (cut_at w256 n hn h2) (cut_at W 0 (by omega) h1) (cut_at W 0 (by omega) h2)
  simp only [Nat.zero_add] at e
  exact e

end

section
variable {x0 x1 x2 x3 : S1x2048x128.Idx → Elt Ideal .bf16} {Q K V D : Arr} (h0 : Holds x0 Q) (h1 : Holds x1 K) (h2 : Holds x2 V) (h3 : Holds x3 D)

/-- What query `r` adds to the gradient of the values. -/
def valuePart (Q K D : Arr) : Fin 2048 → Arr := fun r j l => prob (dots Q K) r j * D r l
/-- What query `r` adds to the gradient of the keys, before the last scaling. -/
def keyPart (Q K D V : Arr) : Fin 2048 → Arr := fun r j l => dscore (dots Q K) (dots D V) r j * (Q r l * pre)

theorem valuePart_late {lo : ℕ} (h64 : 64 ∣ lo) (r j l) (hr : r.val < lo + 256) (hj : lo + 256 ≤ j.val) : valuePart Q K D r j l = 0 := by
  rw [valuePart, prob_late _ h64 r j hr hj, zero_mul]

theorem keyPart_late {lo : ℕ} (h64 : 64 ∣ lo) (r j l) (hr : r.val < lo + 256) (hj : lo + 256 ≤ j.val) : keyPart Q K D V r j l = 0 := by
  rw [keyPart, dscore_late _ _ h64 r j hr hj, zero_mul]

include h0 h1 h2 h3 in
theorem dv_first {κ' : Kind} {sp : Space} (v : View sig κ' sp S1x2048x128 .f32) {L : Stores .f32} {p : Rows 256 .f32}
    (e : p = at0 x0 x1 x2 x3 (fun q k d v => addV w256 (eFirst q k) (don d (invFirst q k))) (v.readCov L (rows 0 256 (by omega)).toLoadRect))
    (hL : Acc L (below (valuePart Q K D) 0)) : Acc (⟨rows 0 256 (by omega), p⟩ :: L) (below (valuePart Q K D) 256) :=
  .first _ v _ e (valuePart_late (lo := 0) (by omega)) (tile_first h0 h1 h2 h3).2.value hL

include h0 h1 h2 h3 in
theorem dv_later {κ' : Kind} {sp : Space} (v : View sig κ' sp S1x2048x128 .f32) {n : ℕ} (W : Wide n) (hn : n + 256 ≤ 2048) (h64 : 64 ∣ n) {L : Stores .f32} {p : Rows 256 .f32} {p' : Rows n .f32}
    (e : p = atN x0 x1 x2 x3 W hn (fun q k d v ko vo => addV w256 (eHere W q k ko) (don d (inv W q k ko))) (v.readCov L (rows n 256 hn).toLoadRect))
    (e' : p' = atN x0 x1 x2 x3 W hn (fun q k d v ko vo => addV W (eBefore W q k ko) (don d (inv W q k ko))) (v.readCov (⟨rows n 256 hn, p⟩ :: L) (rows 0 n (by omega)).toLoadRect))
    (hL : Acc L (below (valuePart Q K D) n)) : Acc (⟨rows 0 n (by omega), p'⟩ :: ⟨rows n 256 hn, p⟩ :: L) (below (valuePart Q K D) (n + 256)) :=
  .later _ v hn _ _ (valuePart_late h64) (tile_later h0 h1 h2 h3 W hn h64).2.1.value (tile_later h0 h1 h2 h3 W hn h64).2.2.value e e' hL

include h0 h1 h2 h3 in
theorem dk_first {κ' : Kind} {sp : Space} (v : View sig κ' sp S1x2048x128 .f32) {L : Stores .f32} {p : Rows 256 .f32}
    (e : p = at0 x0 x1 x2 x3 (fun q k d v => addK w256 (dsFirst q k d v) q) (v.readCov L (rows 0 256 (by omega)).toLoadRect))
    (hL : Acc L (below (keyPart Q K D V) 0)) : Acc (⟨rows 0 256 (by omega), p⟩ :: L) (below (keyPart Q K D V) 256) :=
  .first _ v _ e (keyPart_late (lo := 0) (by omega)) (tile_first h0 h1 h2 h3).2.key hL

include h0 h1 h2 h3 in
theorem dk_later {κ' : Kind} {sp : Space} (v : View sig κ' sp S1x2048x128 .f32) {n : ℕ} (W : Wide n) (hn : n + 256 ≤ 2048) (h64 : 64 ∣ n) {L : Stores .f32} {p : Rows 256 .f32} {p' : Rows n .f32}
    (e : p = atN x0 x1 x2 x3 W hn (fun q k d v ko vo => addK w256 (dsHere W q k d v ko vo) q) (v.readCov L (rows n 256 hn).toLoadRect))
    (e' : p' = atN x0 x1 x2 x3 W hn (fun q k d v ko vo => addK W (dsBefore W q k d v ko vo) q) (v.readCov (⟨rows n 256 hn, p⟩ :: L) (rows 0 n (by omega)).toLoadRect))
    (hL : Acc L (below (keyPart Q K D V) n)) : Acc (⟨rows 0 n (by omega), p'⟩ :: ⟨rows n 256 hn, p⟩ :: L) (below (keyPart Q K D V) (n + 256)) :=
  .later _ v hn _ _ (keyPart_late h64) (tile_later h0 h1 h2 h3 W hn h64).2.1.key (tile_later h0 h1 h2 h3 W hn h64).2.2.key e e' hL

end

section
variable (m : (ℓ : Loc nD τ sig) → Buf (Elt Ideal) ℓ) (c : Dev nD) (t : Fin cfg0.N) {Q K V D : Arr}
  (h0 : Holds (iblk m c 0 t) Q) (h1 : Holds (iblk m c 1 t) K) (h2 : Holds (iblk m c 2 t) V) (h3 : Holds (iblk m c 3 t) D)

include h0 h1 h2 h3 in
theorem block_dq (j l) : (outsAt0 m c t).1 (ix3 0 j l) = ((∑ i, dscore (dots Q K) (dots D V) j i * K i l : ℝ) : EReal) := by
  unfold outsAt0
  frame_out
  refine upto_all (φ := .f32) (g := fun j l => ((∑ i, dscore (dots Q K) (dots D V) j i * K i l : ℝ) : EReal)) ?_ j l
  refine .store 1792 (by omega) ?_ (tile_later h0 h1 h2 h3 w1792 (by omega) (by omega)).1 ?_
  · rfl
  refine .store 1536 (by omega) ?_ (tile_later h0 h1 h2 h3 w1536 (by omega) (by omega)).1 ?_
  · rfl
  refine .store 1280 (by omega) ?_ (tile_later h0 h1 h2 h3 w1280 (by omega) (by omega)).1 ?_
  · rfl
  refine .store 1024 (by omega) ?_ (tile_later h0 h1 h2 h3 w1024 (by omega) (by omega)).1 ?_
  · rfl
  refine .store 768 (by omega) ?_ (tile_later h0 h1 h2 h3 w768 (by omega) (by omega)).1 ?_
  · rfl
  refine .store 512 (by omega) ?_ (tile_later h0 h1 h2 h3 w512 (by omega) (by omega)).1 ?_
  · rfl
  refine .store 256 (by omega) ?_ (tile_later h0 h1 h2 h3 w256 (by omega) (by omega)).1 ?_
  · rfl
  refine .store 0 (by omega) ?_ (fun r l => ((tile_first h0 h1 h2 h3).1 r l).trans (by simp only [Nat.zero_add])) fun j l h => absurd h (by omega)
  · rfl

include h0 h1 h2 h3 in
theorem block_dv (j l) : (outsAt0 m c t).2.2 (ix3 0 j l) = ((∑ r, prob (dots Q K) r j * D r l : ℝ) : EReal) := by
  unfold outsAt0
  frame_out
  refine acc_all (valuePart Q K D) ?_ j l
  refine dv_later h0 h1 h2 h3 (ms0_6 t).view w1792 (by omega) (by omega) ?_ ?_ ?_
  · rfl
  · rfl
  refine dv_later h0 h1 h2 h3 (ms0_6 t).view w1536 (by omega) (by omega) ?_ ?_ ?_
  · rfl
  · rfl
  refine dv_later h0 h1 h2 h3 (ms0_6 t).view w1280 (by omega) (by omega) ?_ ?_ ?_
  · rfl
  · rfl
  refine dv_later h0 h1 h2 h3 (ms0_6 t).view w1024 (by omega) (by omega) ?_ ?_ ?_
  · rfl
  · rfl
  refine dv_later h0 h1 h2 h3 (ms0_6 t).view w768 (by omega) (by omega) ?_ ?_ ?_
  · rfl
  · rfl
  refine dv_later h0 h1 h2 h3 (ms0_6 t).view w512 (by omega) (by omega) ?_ ?_ ?_
  · rfl
  · rfl
  refine dv_later h0 h1 h2 h3 (ms0_6 t).view w256 (by omega) (by omega) ?_ ?_ ?_
  · rfl
  · rfl
  refine dv_first h0 h1 h2 h3 (ms0_6 t).view ?_ ?_
  · rfl
  exact .none _ fun j l => by pointwise [k0_pay3]

/-- The last scaling takes the factor of the queries out again. -/
theorem unscaled {x : ℝ} : x * (scale⁻¹ * Real.log 2) * pre = x := by
  have h : Real.log 2 ≠ 0 := (Real.log_pos (by norm_num)).ne'
  have h' : scale ≠ 0 := by norm_num [scale]
  unfold pre
  field_simp

theorem scaled_back (x : Rows 2048 .f32) (j l) : k0_pay1 x (ix3 0 j l) = x (ix3 0 j l) * ((scale⁻¹ * Real.log 2 : ℝ) : EReal) := by
  unfold k0_pay1
  pointwise
  rfl

theorem dk_last {κ' : Kind} {sp : Space} (v : View sig κ' sp S1x2048x128 .f32) {L : Stores .f32} (hL : Acc L (below (keyPart Q K D V) 2048)) (j l) :
    k0_pay1 (v.readCov L (rows 0 2048 (by omega)).toLoadRect) (ix3 0 j l) = ((∑ r, dscore (dots Q K) (dots D V) r j * Q r l : ℝ) : EReal) := by
  have hr : v.readCov L (rows 0 2048 (by omega)).toLoadRect (ix3 0 j l) = ((below (keyPart Q K D V) 2048 j l : ℝ) : EReal) := by
    refine (congrFun (View.readCov_eq_canon' v L _) _).trans ((congrArg _ (rows_idx _ j l)).trans ?_)
    rw [hL]
    simp only [Nat.zero_add]
  rw [scaled_back, hr, ← EReal.coe_mul, below, part_all, Finset.sum_mul]
  exact congrArg _ (Finset.sum_congr rfl fun i _ => by
    have h := unscaled (x := dscore (dots Q K) (dots D V) i j * Q i l)
    unfold keyPart
    linear_combination h)

include h0 h1 h2 h3 in
theorem block_dk (j l) : (outsAt0 m c t).2.1 (ix3 0 j l) = ((∑ r, dscore (dots Q K) (dots D V) r j * Q r l : ℝ) : EReal) := by
  unfold outsAt0
  frame_out
  refine dk_last (ms0_5 t).view ?_ j l
  refine dk_later h0 h1 h2 h3 (ms0_5 t).view w1792 (by omega) (by omega) ?_ ?_ ?_
  · rfl
  · rfl
  refine dk_later h0 h1 h2 h3 (ms0_5 t).view w1536 (by omega) (by omega) ?_ ?_ ?_
  · rfl
  · rfl
  refine dk_later h0 h1 h2 h3 (ms0_5 t).view w1280 (by omega) (by omega) ?_ ?_ ?_
  · rfl
  · rfl
  refine dk_later h0 h1 h2 h3 (ms0_5 t).view w1024 (by omega) (by omega) ?_ ?_ ?_
  · rfl
  · rfl
  refine dk_later h0 h1 h2 h3 (ms0_5 t).view w768 (by omega) (by omega) ?_ ?_ ?_
  · rfl
  · rfl
  refine dk_later h0 h1 h2 h3 (ms0_5 t).view w512 (by omega) (by omega) ?_ ?_ ?_
  · rfl
  · rfl
  refine dk_later h0 h1 h2 h3 (ms0_5 t).view w256 (by omega) (by omega) ?_ ?_ ?_
  · rfl
  · rfl
  refine dk_first h0 h1 h2 h3 (ms0_5 t).view ?_ ?_
  · rfl
  exact .none _ fun j l => by pointwise [k0_pay2]

end

end Cert.KernelAttnIdeal.Tile
-- ==== Proof.AttnRef.lean ====
module

public import proofs.«01_k».proof.Proof.Gen.ReferenceAttnIdeal.Read
public import Idealize.ShloMosaic.Lib.Pipeline.ValueKit
public import Idealize.ShloMosaic.Lib.Claim
public import proofs.«01_k».proof.Proof.AttnMath

@[expose] public section

set_option maxRecDepth 16384

noncomputable section

open Idealize.ShloMosaic Idealize.ShloMosaic.TcCoe Idealize.SL.Sem

namespace Cert.ReferenceAttnIdeal.Stage

open Cert.ReferenceAttnIdeal Cert.ReferenceAttnIdeal.Read Cert.AttnMath

theorem ieee_inf : Ideal.ofBits .f32 0xFF800000#32 = ⊥ := by
  simp [Ideal.ofBits, Ideal.ieee]

theorem ieee_one : Ideal.ofBits .f32 0x3F800000#32 = ((1 : ℝ) : EReal) := by
  simp [Ideal.ofBits, Ideal.ieee, -EReal.coe_mul]
  norm_num

theorem ieee_zero : Ideal.ofBits .f32 0x00000000#32 = ((0 : ℝ) : EReal) := by
  simp [Ideal.ofBits, Ideal.ieee, -EReal.coe_mul]

theorem ieee_scale : Ideal.ofBits .f32 0x3DD105EC#32 = ((scale : ℝ) : EReal) := by
  simp [Ideal.ofBits, Ideal.ieee, -EReal.coe_mul, scale]
  norm_num

theorem chunk_word : ∀ r : Fin 2048, val_main_v1 (F := Ideal) (ix1 r) = BitVec.ofNat 32 (r.val / 64) := by
  decide +kernel

theorem word_le {a b : ℕ} (ha : a < 2048) (hb : b < 2048) :
    IntOp.cmpi .sle (BitVec.ofNat 32 a) (BitVec.ofNat 32 b) = if a ≤ b then 1#1 else 0#1 := by
  have e : ∀ n : ℕ, n < 2048 → (BitVec.ofNat 32 n).toInt = n := by
    intro n hn
    rw [BitVec.toInt_eq_toNat_of_lt (by rw [BitVec.toNat_ofNat]; omega), BitVec.toNat_ofNat]
    omega
  simp only [IntOp.cmpi, BitVec.sle, e a ha, e b hb]
  by_cases h : a ≤ b <;> simp [h]

theorem seen (b : Fin 2) (h : Fin 16) (r j : Fin 2048) :
    val_main_v11_1 (F := Ideal) (ix4 b h r j) = if j.val / 64 ≤ r.val / 64 then 1#1 else 0#1 := by
  have e : val_main_v11_1 (F := Ideal) (ix4 b h r j)
      = IntOp.cmpi .sle (val_main_v1 (F := Ideal) (ix1 j)) (val_main_v1 (F := Ideal) (ix1 r)) := by
    pointwise [val_main_v11_1, val_main_v10, val_main_v9, val_main_v8, val_main_v7, val_main_v6, val_main_v5]
  rw [e, chunk_word, chunk_word, word_le (by omega) (by omega)]

variable (q k : FVec Ideal S2x2048x16x96 .f32) (v d : FVec Ideal S2x2048x16x64 .f32)

theorem read_scores (b : Fin 2) (h : Fin 16) (r j : Fin 2048) :
    val_main_v2 (F := Ideal) q k (ix4 b h r j) = ∑ l : Fin 96, q (ix4 b r h l) * k (ix4 b j h l) := by
  pointwise [val_main_v2]

theorem read_top (b : Fin 2) (h : Fin 16) (r : Fin 2048) :
    val_main_v12 (F := Ideal) q k (ix3 b h r) =
      Finset.fold max (Ideal.ofBits .f32 0xFF800000#32) (fun j => val_main_v11_0 (F := Ideal) q k (ix4 b h r j)) Finset.univ := by
  pointwise [val_main_v12, val_main_cst_1]

theorem read_exp (b : Fin 2) (h : Fin 16) (r j : Fin 2048) :
    val_main_v32 (F := Ideal) q k (ix4 b h r j) =
      Ideal.exp (val_main_v11_0 (F := Ideal) q k (ix4 b h r j) - val_main_v19 (F := Ideal) q k (ix3 b h r)) := by
  pointwise [val_main_v32, val_main_v31, val_main_v30, val_main_v29]

theorem floor_word (i : S2x16x2048.Idx) : val_main_v18 (F := Ideal) i = (⊥ : EReal) := by
  rw [val_main_v18_apply, val_main_cst_3_apply]
  exact ieee_inf

theorem read_shifted (b : Fin 2) (h : Fin 16) (r : Fin 2048) :
    val_main_v19 (F := Ideal) q k (ix3 b h r) = val_main_v12 (F := Ideal) q k (ix3 b h r) := by
  rw [val_main_v19_apply, floor_word]
  exact max_eq_right bot_le

theorem read_tot (b : Fin 2) (h : Fin 16) (r : Fin 2048) :
    val_main_v33 (F := Ideal) q k (ix3 b h r) = ∑ j, val_main_v32 (F := Ideal) q k (ix4 b h r j) := by
  pointwise [val_main_v33, val_main_cst_9]

theorem read_prob (b : Fin 2) (h : Fin 16) (r j : Fin 2048) :
    val_main_v36 (F := Ideal) q k (ix4 b h r j) =
      Ideal.div (val_main_v32 (F := Ideal) q k (ix4 b h r j)) (val_main_v33 (F := Ideal) q k (ix3 b h r)) := by
  pointwise [val_main_v36, val_main_v35, val_main_v34]

theorem read_dprob (b : Fin 2) (h : Fin 16) (r j : Fin 2048) :
    val_main_v43 (F := Ideal) v d (ix4 b h r j) = ∑ l : Fin 64, d (ix4 b r h l) * v (ix4 b j h l) := by
  pointwise [val_main_v43, val_main_v42]

theorem read_part (b : Fin 2) (h : Fin 16) (r j : Fin 2048) :
    val_main_v48 (F := Ideal) q k v d (ix4 b h r j) =
      val_main_v43 (F := Ideal) v d (ix4 b h r j) * Ideal.div (Ideal.ofBits .f32 0x3F800000#32)
        (val_main_v33 (F := Ideal) q k (ix3 b h r) * val_main_v33 (F := Ideal) q k (ix3 b h r))
        * val_main_v32 (F := Ideal) q k (ix4 b h r j) := by
  pointwise [val_main_v48, val_main_v47, val_main_v46, val_main_v39, val_main_v38, val_main_v37, val_main_v34, val_main_cst_10]

theorem read_shift (b : Fin 2) (h : Fin 16) (r j : Fin 2048) :
    val_main_v55 (F := Ideal) q k v d (ix4 b h r j) =
      - ∑ i, val_main_v48 (F := Ideal) q k v d (ix4 b h r i) := by
  pointwise [val_main_v55, val_main_v54, val_main_v51, val_main_v50, val_main_v49, val_main_cst_11, val_main_cst_12]
  exact Fin.sum_univ_one _

theorem read_dscore (b : Fin 2) (h : Fin 16) (r j : Fin 2048) :
    val_main_v60 (F := Ideal) q k v d (ix4 b h r j) =
      Scalar.select (val_main_v11_1 (F := Ideal) (ix4 b h r j))
        ((Ideal.div (val_main_v43 (F := Ideal) v d (ix4 b h r j)) (val_main_v33 (F := Ideal) q k (ix3 b h r))
          + val_main_v55 (F := Ideal) q k v d (ix4 b h r j)) * val_main_v32 (F := Ideal) q k (ix4 b h r j))
        (Ideal.ofBits .f32 0#32) * Ideal.ofBits .f32 0x3DD105EC#32 := by
  pointwise [val_main_v60, val_main_v59, val_main_v58, val_main_v57, val_main_v56, val_main_v53, val_main_v52, val_main_v34, val_main_call2_v0, val_main_cst_13, val_main_call2_cst]

/-! ### The stages, over the reals -/

variable {q k v d} {b : Fin 2} {h : Fin 16} {S G : Pairs}

theorem masked (hS : ∀ r j, val_main_v2 (F := Ideal) q k (ix4 b h r j) = ((S r j : ℝ) : EReal)) (r j : Fin 2048) :
    val_main_v11_0 (F := Ideal) q k (ix4 b h r j)
      = if j.val / 64 ≤ r.val / 64 then ((S r j * scale : ℝ) : EReal) else ⊥ := by
  have e : val_main_v11_0 (F := Ideal) q k (ix4 b h r j)
      = Scalar.select (val_main_v11_1 (F := Ideal) (ix4 b h r j))
        (val_main_v2 (F := Ideal) q k (ix4 b h r j) * Ideal.ofBits .f32 0x3DD105EC#32)
        (Ideal.ofBits .f32 0xFF800000#32) := by
    pointwise [val_main_v11_0, val_main_v4, val_main_v3, val_main_cst, val_main_call1_v2, val_main_call1_v0, val_main_cst_0]
    rfl
  rw [e, seen, hS, ieee_scale, ieee_inf]
  by_cases c : j.val / 64 ≤ r.val / 64
  · rw [if_pos c, if_pos c, EReal.coe_mul]; rfl
  · rw [if_neg c, if_neg c]; rfl

theorem top (hS : ∀ r j, val_main_v2 (F := Ideal) q k (ix4 b h r j) = ((S r j : ℝ) : EReal)) (r : Fin 2048) :
    ∃ M : ℝ, val_main_v12 (F := Ideal) q k (ix3 b h r) = (M : EReal) := by
  rw [read_top, ieee_inf]
  have low : (⊥ : EReal) < Finset.fold max ⊥ (fun j => val_main_v11_0 (F := Ideal) q k (ix4 b h r j)) Finset.univ := by
    rw [Finset.lt_fold_max]
    refine Or.inr ⟨r, Finset.mem_univ _, ?_⟩
    rw [masked hS, if_pos le_rfl]
    exact EReal.bot_lt_coe _
  have high : Finset.fold max ⊥ (fun j => val_main_v11_0 (F := Ideal) q k (ix4 b h r j)) Finset.univ < (⊤ : EReal) := by
    rw [Finset.fold_max_lt]
    refine ⟨bot_lt_top, fun j _ => ?_⟩
    rw [masked hS]
    split
    · exact EReal.coe_lt_top _
    · exact bot_lt_top
  exact ⟨_, (EReal.coe_toReal high.ne low.ne').symm⟩

/-- The softmax's numerators and denominators, up to one positive factor a row. -/
theorem numerators (hS : ∀ r j, val_main_v2 (F := Ideal) q k (ix4 b h r j) = ((S r j : ℝ) : EReal)) (r : Fin 2048) :
    ∃ E : ℝ, 0 < E ∧ (∀ j, val_main_v32 (F := Ideal) q k (ix4 b h r j) = ((wt S r j * E : ℝ) : EReal))
      ∧ val_main_v33 (F := Ideal) q k (ix3 b h r) = ((tot S r * E : ℝ) : EReal) := by
  obtain ⟨M, hM⟩ := top hS r
  have w : ∀ j, val_main_v32 (F := Ideal) q k (ix4 b h r j) = ((wt S r j * Real.exp (-M) : ℝ) : EReal) := by
    intro j
    rw [read_exp, read_shifted, hM, masked hS, wt]
    split
    · rw [← EReal.coe_sub, Ideal.exp_coe, ← Real.exp_add, sub_eq_add_neg]
    · rw [EReal.bot_sub, zero_mul]; rfl
  refine ⟨_, Real.exp_pos (-M), w, ?_⟩
  rw [read_tot, tot, Finset.sum_mul, coe_sum]
  exact Finset.sum_congr rfl fun j _ => w j

theorem softmax (hS : ∀ r j, val_main_v2 (F := Ideal) q k (ix4 b h r j) = ((S r j : ℝ) : EReal)) (r j : Fin 2048) :
    val_main_v36 (F := Ideal) q k (ix4 b h r j) = ((prob S r j : ℝ) : EReal) := by
  obtain ⟨E, hE, w, z⟩ := numerators hS r
  have h0 := tot_pos S r
  rw [read_prob, w, z, Ideal.div_coe (mul_pos h0 hE).ne', ← EReal.coe_mul, prob]
  congr 1
  field_simp

theorem scores_grad (hS : ∀ r j, val_main_v2 (F := Ideal) q k (ix4 b h r j) = ((S r j : ℝ) : EReal))
    (hG : ∀ r j, val_main_v43 (F := Ideal) v d (ix4 b h r j) = ((G r j : ℝ) : EReal)) (r j : Fin 2048) :
    val_main_v60 (F := Ideal) q k v d (ix4 b h r j) = ((dscore S G r j : ℝ) : EReal) := by
  obtain ⟨E, hE, w, z⟩ := numerators hS r
  have h0 := tot_pos S r
  have hz := mul_pos h0 hE
  have s : val_main_v55 (F := Ideal) q k v d (ix4 b h r j)
      = ((-((∑ i, prob S r i * G r i) * (tot S r * E)⁻¹) : ℝ) : EReal) := by
    rw [read_shift, EReal.coe_neg, Finset.sum_mul, coe_sum]
    refine congrArg _ (Finset.sum_congr rfl fun i _ => ?_)
    rw [read_part, hG, w, z, ieee_one, ← EReal.coe_mul, Ideal.div_coe (mul_pos hz hz).ne', ← EReal.coe_mul, ← EReal.coe_mul,
      ← EReal.coe_mul, prob]
    congr 1
    field_simp
  rw [read_dscore, seen, hG, w, z, s, ieee_scale, ieee_zero, Ideal.div_coe hz.ne', ← EReal.coe_mul, ← EReal.coe_add, ← EReal.coe_mul]
  by_cases c : j.val / 64 ≤ r.val / 64
  · rw [if_pos c]
    show ((_ : ℝ) : EReal) * _ = _
    rw [← EReal.coe_mul, dscore, prob]
    congr 1
    field_simp
    ring
  · rw [if_neg c, dscore, prob, wt, if_neg c]
    show ((_ : ℝ) : EReal) * _ = _
    rw [← EReal.coe_mul]
    congr 1
    simp

variable (q k v d b h)
theorem read_dv (r : Fin 2048) (l : Fin 64) :
    val_main_v45 (F := Ideal) q k d (ix4 b r h l)
      = ∑ i, d (ix4 b i h l) * val_main_v36 (F := Ideal) q k (ix4 b h i r) := by
  pointwise [val_main_v45, val_main_v44, val_main_v42]

theorem read_dk (r : Fin 2048) (l : Fin 96) :
    val_main_v62 (F := Ideal) q k v d (ix4 b r h l)
      = ∑ i, val_main_v60 (F := Ideal) q k v d (ix4 b h i r) * q (ix4 b i h l) := by
  pointwise [val_main_v62, val_main_v61]

theorem read_dq (r : Fin 2048) (l : Fin 96) :
    val_main_v64 (F := Ideal) q k v d (ix4 b r h l)
      = ∑ i, val_main_v60 (F := Ideal) q k v d (ix4 b h r i) * k (ix4 b i h l) := by
  pointwise [val_main_v64, val_main_v63]

/-- Head and lane of a result's last position. -/
theorem lane {r : Fin 2048} {l : Fin 128} {x : Fin 2048} (hx : 128 * h.val + l.val = x.val)
    (f : FVec Ideal S2x2048x16x128 .f32) :
    shapeCast S2x2048x2048 f Gen.shapeCasts_S2x2048x16x128_S2x2048x2048 (ix3 b r x) = f (ix4 b r h l) := by
  have e : h = ⟨x.val / 128, by omega⟩ := Fin.ext (by simp only; omega)
  have e' : l = ⟨x.val % 128, by omega⟩ := Fin.ext (by simp only; omega)
  rw [e, e']
  pointwise

theorem zero_word : FloatOps.sitofp (F := Ideal) .f32 (0#32) = (0 : EReal) := by
  show (((0#32 : BitVec 32).toInt : ℝ) : EReal) = 0
  simp

theorem pad96 (x : FVec Ideal S2x2048x16x96 .f32) (z : FVec Ideal S_ .f32) (hz : ∀ i, z i = (0 : EReal)) (r : Fin 2048) (l : Fin 128) :
    pad S2x2048x16x128 ![0, 0, 0, 0] ![0, 0, 0, 32] ![0, 0, 0, 0] x z Gen.pads_S2x2048x16x96_S2x2048x16x128_000_000_000_0320 Gen.h_S_ (ix4 b r h l)
      = fill (fun r l => x (ix4 b r h l)) r l := by
  unfold fill
  rw [← hz (Shape.Idx.first Gen.h_S_)]
  pointwise

theorem pad64 (x : FVec Ideal S2x2048x16x64 .f32) (z : FVec Ideal S_ .f32) (hz : ∀ i, z i = (0 : EReal)) (r : Fin 2048) (l : Fin 128) :
    pad S2x2048x16x128 ![0, 0, 0, 0] ![0, 0, 0, 64] ![0, 0, 0, 0] x z Gen.pads_S2x2048x16x64_S2x2048x16x128_000_000_000_0640 Gen.h_S_ (ix4 b r h l)
      = fill (fun r l => x (ix4 b r h l)) r l := by
  unfold fill
  rw [← hz (Shape.Idx.first Gen.h_S_)]
  pointwise

variable {q k v d b h} {Q K V D : Fin 2048 → Fin 128 → ℝ}

section
variable (hq : Filled (fun r l => q (ix4 b r h l)) Q) (hk : Filled (fun r l => k (ix4 b r h l)) K)
  (hv : Filled (fun r l => v (ix4 b r h l)) V) (hd : Filled (fun r l => d (ix4 b r h l)) D)
  {r : Fin 2048} {l : Fin 128} {x : Fin 2048} (hx : 128 * h.val + l.val = x.val)
include hq hk hd hx

theorem scores (r j) : val_main_v2 (F := Ideal) q k (ix4 b h r j) = ((dots Q K r j : ℝ) : EReal) := by
  rw [read_scores]
  exact hq.dots hk (by decide) r j

include hv in
theorem probs_grad (r j) : val_main_v43 (F := Ideal) v d (ix4 b h r j) = ((dots D V r j : ℝ) : EReal) := by
  rw [read_dprob]
  exact hd.dots hv (by decide) r j

include hv in
theorem result_dq : val_main_v66 (F := Ideal) q k v d (ix3 b r x)
    = ((∑ i, dscore (dots Q K) (dots D V) r i * K i l : ℝ) : EReal) := by
  have e : ∀ r l, val_main_v64 (F := Ideal) q k v d (ix4 b r h l)
      = ∑ i, ((dscore (dots Q K) (dots D V) r i : ℝ) : EReal) * k (ix4 b i h l) := fun r l => by
    rw [read_dq]
    exact Finset.sum_congr rfl fun i _ => by rw [scores_grad (scores hq hk hd hx) (probs_grad hq hk hv hd hx)]
  unfold val_main_v66 val_main_v65
  rw [lane b h hx]
  refine (pad96 b h _ (val_main_call3_v0 (F := Ideal)) (fun i => zero_word) r l).trans ?_
  simp only [e]
  exact hk.sum (by decide) _ r l

include hv in
theorem result_dk : val_main_v68 (F := Ideal) q k v d (ix3 b r x)
    = ((∑ i, dscore (dots Q K) (dots D V) i r * Q i l : ℝ) : EReal) := by
  have e : ∀ r l, val_main_v62 (F := Ideal) q k v d (ix4 b r h l)
      = ∑ i, ((dscore (dots Q K) (dots D V) i r : ℝ) : EReal) * q (ix4 b i h l) := fun r l => by
    rw [read_dk]
    exact Finset.sum_congr rfl fun i _ => by rw [scores_grad (scores hq hk hd hx) (probs_grad hq hk hv hd hx)]
  unfold val_main_v68 val_main_v67
  rw [lane b h hx]
  refine (pad96 b h _ (val_main_call4_v0 (F := Ideal)) (fun i => zero_word) r l).trans ?_
  simp only [e]
  exact hq.sum (by decide) (fun r i => dscore (dots Q K) (dots D V) i r) r l

theorem result_dv : val_main_v70 (F := Ideal) q k d (ix3 b r x)
    = ((∑ i, prob (dots Q K) i r * D i l : ℝ) : EReal) := by
  have e : ∀ r l, val_main_v45 (F := Ideal) q k d (ix4 b r h l)
      = ∑ i, ((prob (dots Q K) i r : ℝ) : EReal) * d (ix4 b i h l) := fun r l => by
    rw [read_dv]
    exact Finset.sum_congr rfl fun i _ => by rw [softmax (scores hq hk hd hx), mul_comm]
  unfold val_main_v70 val_main_v69
  rw [lane b h hx]
  refine (pad64 b h _ (val_main_call5_v0 (F := Ideal)) (fun i => zero_word) r l).trans ?_
  simp only [e]
  exact hd.sum (by decide) (fun r i => prob (dots Q K) i r) r l

end

end Cert.ReferenceAttnIdeal.Stage
-- ==== Proof.AttnClaim.lean ====
module

public import proofs.«01_k».proof.Defs
public import proofs.«01_k».proof.Proof.AttnKernel
public import proofs.«01_k».proof.Proof.AttnRef
public import proofs.«01_k».proof.Proof.Gen.ReferenceAttnIdeal.Run
public import proofs.«01_k».proof.Proof.Gen.Pre_finite_attn
public import Idealize.ShloMosaic.Lib.ReduceAll
public import Idealize.ShloMosaic.Init
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.KernelAttnIdeal.Tile

open Cert.KernelAttnIdeal Cert.KernelAttnIdeal.Gen Cert.AttnMath

variable (m : (ℓ : Loc nD τ sig) → Buf (Elt Ideal) ℓ)

/-- The arguments of the call: queries, keys, values and the gradient of the result. -/
abbrev qArg (c : Dev nD) : FVec Ideal S2x2048x16x96 .f32 := m ((c : Thread nD τ).loc main_arg0)
abbrev kArg (c : Dev nD) : FVec Ideal S2x2048x16x96 .f32 := m ((c : Thread nD τ).loc main_arg1)
abbrev vArg (c : Dev nD) : FVec Ideal S2x2048x16x64 .f32 := m ((c : Thread nD τ).loc main_arg2)
abbrev dArg (c : Dev nD) : FVec Ideal S2x2048x16x64 .f32 := m ((c : Thread nD τ).loc main_arg3)

/-- The batch row a grid point works on. -/
def bat (t : Fin cfg0.N) : Fin 2 := ⟨t.val / 16, by have := t.isLt; have : cfg0.N = 32 := N_0; omega⟩

/-- The head a grid point works on. -/
def head (t : Fin cfg0.N) : Fin 16 := ⟨t.val % 16, by omega⟩

/-- The position of a head's lane in the arrays the call reads and writes. -/
def at128 (t : Fin cfg0.N) (l : Fin 128) : Fin 2048 := ⟨t.val % 16 * 128 + l.val, by omega⟩

theorem idx : ∀ t : Fin cfg0.N, win0_0.index t = ![t.val / 16, 0, t.val % 16]
    ∧ win0_1.index t = ![t.val / 16, 0, t.val % 16]
    ∧ win0_2.index t = ![t.val / 16, 0, t.val % 16]
    ∧ win0_3.index t = ![t.val / 16, 0, t.val % 16]
    ∧ win0_4.index t = ![t.val / 16, 0, t.val % 16]
    ∧ win0_5.index t = ![t.val / 16, 0, t.val % 16]
    ∧ win0_6.index t = ![t.val / 16, 0, t.val % 16] :=
  (by decide +kernel : ∀ t : Fin grid0.N, _)

theorem zero_pad (f : (⟨S_, .i32⟩ : BufTy).Contents (Elt Ideal)) (hf : f = constantI S_ 32 0#32) (i : S_.Idx) :
    sitofp (F := Ideal) .f32 f i = (0 : EReal) := by
  subst hf
  exact Cert.ReferenceAttnIdeal.Stage.zero_word

section
variable {b : Fin 2} {h : Fin 16} {l : Fin 128} {x : Fin 2048} (hx : 128 * h.val + l.val = x.val) (r : Fin 2048)
include hx

theorem entered96 (y : FVec Ideal S2x2048x16x96 .f32) : truncf (F := Ideal) .bf16 (fun i =>
      shapeCast S2x2048x2048 (pad S2x2048x16x128 ![0, 0, 0, 0] ![0, 0, 0, 32] ![0, 0, 0, 0] y
        (sitofp (F := Ideal) .f32 (constantI S_ 32 0#32)) pads_S2x2048x16x96_S2x2048x16x128_000_000_000_0320 h_S_)
        shapeCasts_S2x2048x16x128_S2x2048x2048 i) bitsLt_bf16_f32 (ix3 b r x)
      = fill (fun r l => y (ix4 b r h l)) r l :=
  (Cert.ReferenceAttnIdeal.Stage.lane b h hx _).trans
    (Cert.ReferenceAttnIdeal.Stage.pad96 b h y _ (fun _ => zero_pad _ rfl _) r l)

theorem entered64 (y : FVec Ideal S2x2048x16x64 .f32) : truncf (F := Ideal) .bf16 (fun i =>
      shapeCast S2x2048x2048 (pad S2x2048x16x128 ![0, 0, 0, 0] ![0, 0, 0, 64] ![0, 0, 0, 0] y
        (sitofp (F := Ideal) .f32 (constantI S_ 32 0#32)) pads_S2x2048x16x64_S2x2048x16x128_000_000_000_0640 h_S_)
        shapeCasts_S2x2048x16x128_S2x2048x2048 i) bitsLt_bf16_f32 (ix3 b r x)
      = fill (fun r l => y (ix4 b r h l)) r l :=
  (Cert.ReferenceAttnIdeal.Stage.lane b h hx _).trans
    (Cert.ReferenceAttnIdeal.Stage.pad64 b h y _ (fun _ => zero_pad _ rfl _) r l)

theorem entry_q (c : Dev nD) : V m c main_v2 (ix3 b r x) = fill (fun r l => qArg m c (ix4 b r h l)) r l := by
  unfold V
  simp only [List.flatten_cons, List.flatten_nil, List.append_nil, List.cons_append, List.nil_append, hostOps0, hostOps0_1,
    hostOps0_2, hostOps0_3, hostOps0_4, hostOps0_5, hostOps0_6, hostOps0_7, hostOps0_8]
  after_results_simp
  exact entered96 hx r _

theorem entry_k (c : Dev nD) : V m c main_v5 (ix3 b r x) = fill (fun r l => kArg m c (ix4 b r h l)) r l := by
  unfold V
  simp only [List.flatten_cons, List.flatten_nil, List.append_nil, List.cons_append, List.nil_append, hostOps0, hostOps0_1,
    hostOps0_2, hostOps0_3, hostOps0_4, hostOps0_5, hostOps0_6, hostOps0_7, hostOps0_8]
  after_results_simp
  exact entered96 hx r _

theorem entry_v (c : Dev nD) : V m c main_v8 (ix3 b r x) = fill (fun r l => vArg m c (ix4 b r h l)) r l := by
  unfold V
  simp only [List.flatten_cons, List.flatten_nil, List.append_nil, List.cons_append, List.nil_append, hostOps0, hostOps0_1,
    hostOps0_2, hostOps0_3, hostOps0_4, hostOps0_5, hostOps0_6, hostOps0_7, hostOps0_8]
  after_results_simp
  exact entered64 hx r _

theorem entry_d (c : Dev nD) : V m c main_v11 (ix3 b r x) = fill (fun r l => dArg m c (ix4 b r h l)) r l := by
  unfold V
  simp only [List.flatten_cons, List.flatten_nil, List.append_nil, List.cons_append, List.nil_append, hostOps0, hostOps0_1,
    hostOps0_2, hostOps0_3, hostOps0_4, hostOps0_5, hostOps0_6, hostOps0_7, hostOps0_8]
  after_results_simp
  exact entered64 hx r _

end

theorem read_q (f : FVec Ideal S2x2048x2048 .bf16) (t : Fin cfg0.N) (r : Fin 2048) (l : Fin 128) :
    (win0_0.blk t).view.read (Elt Ideal) f (ix3 0 r l) = f (ix3 (bat t) r (at128 t l)) := by
  blk_simp [idx t]
  have e := idx t
  blk_ext [e, bat, at128]

theorem block_q (c : Dev nD) (t : Fin cfg0.N) (r : Fin 2048) (l : Fin 128) :
    (iblk m c 0 t : FVec Ideal S1x2048x128 .bf16) (ix3 0 r l) = V m c main_v2 (ix3 (bat t) r (at128 t l)) :=
  read_q (V m c main_v2) t r l

theorem read_k (f : FVec Ideal S2x2048x2048 .bf16) (t : Fin cfg0.N) (r : Fin 2048) (l : Fin 128) :
    (win0_1.blk t).view.read (Elt Ideal) f (ix3 0 r l) = f (ix3 (bat t) r (at128 t l)) := by
  blk_simp [idx t]
  have e := idx t
  blk_ext [e, bat, at128]

theorem block_k (c : Dev nD) (t : Fin cfg0.N) (r : Fin 2048) (l : Fin 128) :
    (iblk m c 1 t : FVec Ideal S1x2048x128 .bf16) (ix3 0 r l) = V m c main_v5 (ix3 (bat t) r (at128 t l)) :=
  read_k (V m c main_v5) t r l

theorem read_v (f : FVec Ideal S2x2048x2048 .bf16) (t : Fin cfg0.N) (r : Fin 2048) (l : Fin 128) :
    (win0_2.blk t).view.read (Elt Ideal) f (ix3 0 r l) = f (ix3 (bat t) r (at128 t l)) := by
  blk_simp [idx t]
  have e := idx t
  blk_ext [e, bat, at128]

theorem block_v (c : Dev nD) (t : Fin cfg0.N) (r : Fin 2048) (l : Fin 128) :
    (iblk m c 2 t : FVec Ideal S1x2048x128 .bf16) (ix3 0 r l) = V m c main_v8 (ix3 (bat t) r (at128 t l)) :=
  read_v (V m c main_v8) t r l

theorem read_d (f : FVec Ideal S2x2048x2048 .bf16) (t : Fin cfg0.N) (r : Fin 2048) (l : Fin 128) :
    (win0_3.blk t).view.read (Elt Ideal) f (ix3 0 r l) = f (ix3 (bat t) r (at128 t l)) := by
  blk_simp [idx t]
  have e := idx t
  blk_ext [e, bat, at128]

theorem block_d (c : Dev nD) (t : Fin cfg0.N) (r : Fin 2048) (l : Fin 128) :
    (iblk m c 3 t : FVec Ideal S1x2048x128 .bf16) (ix3 0 r l) = V m c main_v11 (ix3 (bat t) r (at128 t l)) :=
  read_d (V m c main_v11) t r l

theorem tile_index (y : S1x2048x128.Idx) : y = ix3 0 (y 1) (y 2) := by
  funext a
  fin_cases a
  · exact Subsingleton.elim (α := Fin 1) _ _
  · rfl
  · rfl

/-! ### Finite arguments are real numbers -/

theorem real_of_abs (x : EReal) (e : FloatOps.cmpf (F := Ideal) (φ := .f32) .olt (FloatOps.absf (F := Ideal) (φ := .f32) x) (Ideal.ofBits .f32 0x7F800000#32) = 1#1) :
    x ≠ ⊥ ∧ x ≠ ⊤ := by
  have top : Ideal.ofBits .f32 0x7F800000#32 = (⊤ : EReal) := by simp [Ideal.ofBits, Ideal.ieee]
  rw [top] at e
  constructor <;> rintro rfl <;> simp [FloatOps.cmpf, FloatOps.absf, Ideal.cmp] at e

theorem both_one : ∀ a b : BitVec 1, a &&& b = 1#1 → a = 1#1 ∧ b = 1#1 := by decide

theorem finite96 (y : FVec Ideal S2x2048x16x96 .f32) (h1 h2 h3)
    (e : Host.reduce IntOp.andi (cmpf .olt (Host.absf y) (broadcastInDim S2x2048x16x96 ![] h1 (constant S_ .f32 0x7F800000#32)))
      (constantI S_ 1 1#1) (axes := [0, 1, 2, 3]) (t := S_) h2 h3 ix0 = 1#1) (i : S2x2048x16x96.Idx) : y i ≠ ⊥ ∧ y i ≠ ⊤ :=
  haveI : Subsingleton S_.Idx := ⟨fun a b => funext fun k => k.elim0⟩
  real_of_abs _ (Host.reduce_andi_all _ _ h2 h3 ix0 e i)

theorem finite64 (y : FVec Ideal S2x2048x16x64 .f32) (h1 h2 h3)
    (e : Host.reduce IntOp.andi (cmpf .olt (Host.absf y) (broadcastInDim S2x2048x16x64 ![] h1 (constant S_ .f32 0x7F800000#32)))
      (constantI S_ 1 1#1) (axes := [0, 1, 2, 3]) (t := S_) h2 h3 ix0 = 1#1) (i : S2x2048x16x64.Idx) : y i ≠ ⊥ ∧ y i ≠ ⊤ :=
  haveI : Subsingleton S_.Idx := ⟨fun a b => funext fun k => k.elim0⟩
  real_of_abs _ (Host.reduce_andi_all _ _ h2 h3 ix0 e i)

theorem all_real (h : Cert.Pre_KernelAttnIdeal_finite_attn m) (c : Dev nD) :
    (∀ i, qArg m c i ≠ ⊥ ∧ qArg m c i ≠ ⊤) ∧ (∀ i, kArg m c i ≠ ⊥ ∧ kArg m c i ≠ ⊤)
      ∧ (∀ i, vArg m c i ≠ ⊥ ∧ vArg m c i ≠ ⊤) ∧ (∀ i, dArg m c i ≠ ⊥ ∧ dArg m c i ≠ ⊤) := by
  have e := congrFun (h c) ix0
  unfold Cert.Pre_finite_attn.fn Cert.Pre_finite_attn.fn_part1 at e
  obtain ⟨e, e3⟩ := both_one _ _ e
  obtain ⟨e, e2⟩ := both_one _ _ e
  obtain ⟨e0, e1⟩ := both_one _ _ e
  exact ⟨finite96 _ _ _ _ e0, finite96 _ _ _ _ e1, finite64 _ _ _ _ e2, finite64 _ _ _ _ e3⟩

/-! ### The three results -/

/-- The queries, keys, values and gradients of one head, over the reals. -/
structure HeadRows (c : Dev nD) (t : Fin cfg0.N) (Q K W D : Fin 2048 → Fin 128 → ℝ) : Prop where
  q : Filled (fun r l => qArg m c (ix4 (bat t) r (head t) l)) Q
  k : Filled (fun r l => kArg m c (ix4 (bat t) r (head t) l)) K
  v : Filled (fun r l => vArg m c (ix4 (bat t) r (head t) l)) W
  d : Filled (fun r l => dArg m c (ix4 (bat t) r (head t) l)) D

theorem exists_rows (h : Cert.Pre_KernelAttnIdeal_finite_attn m) (c : Dev nD) (t : Fin cfg0.N) :
    ∃ Q K W D, HeadRows m c t Q K W D := by
  obtain ⟨e0, e1, e2, e3⟩ := all_real m h c
  obtain ⟨Q, hq⟩ := exists_filled (fun r l => qArg m c (ix4 (bat t) r (head t) l)) fun _ _ => e0 _
  obtain ⟨K, hk⟩ := exists_filled (fun r l => kArg m c (ix4 (bat t) r (head t) l)) fun _ _ => e1 _
  obtain ⟨W, hv⟩ := exists_filled (fun r l => vArg m c (ix4 (bat t) r (head t) l)) fun _ _ => e2 _
  obtain ⟨D, hd⟩ := exists_filled (fun r l => dArg m c (ix4 (bat t) r (head t) l)) fun _ _ => e3 _
  exact ⟨Q, K, W, D, hq, hk, hv, hd⟩

theorem at_lane (t : Fin cfg0.N) (l : Fin 128) : 128 * (head t).val + l.val = (at128 t l).val := by
  simp only [head, at128]; omega

section
variable {m} {c : Dev nD} {t : Fin cfg0.N} {Q K W D : Fin 2048 → Fin 128 → ℝ} (R : HeadRows m c t Q K W D)
include R

theorem holds_q : Holds (iblk m c 0 t) Q := fun r l =>
  (block_q m c t r l).trans ((entry_q m (at_lane t l) r c).trans (R.q r l))
theorem holds_k : Holds (iblk m c 1 t) K := fun r l =>
  (block_k m c t r l).trans ((entry_k m (at_lane t l) r c).trans (R.k r l))
theorem holds_v : Holds (iblk m c 2 t) W := fun r l =>
  (block_v m c t r l).trans ((entry_v m (at_lane t l) r c).trans (R.v r l))
theorem holds_d : Holds (iblk m c 3 t) D := fun r l =>
  (block_d m c t r l).trans ((entry_d m (at_lane t l) r c).trans (R.d r l))

end

theorem final_4 (h : Cert.Pre_KernelAttnIdeal_finite_attn m) (c : Dev nD) : (dats m 0 c).arrAt 4 (cfgs 0).N =
    Cert.ReferenceAttnIdeal.Read.val_main_v66 (F := Ideal) (qArg m c) (kArg m c) (vArg m c) (dArg m c) := by
  refine (dats m 0 c).arrAt_eq_of_covers 4 _ (by decide +kernel) fun t hf y => ?_
  obtain ⟨r, l, rfl⟩ : ∃ (r : Fin 2048) (l : Fin 128), y = ix3 0 r l := ⟨_, _, tile_index y⟩
  have hy : ((cfg0.win 4).blk t).view.emb (ix3 0 r l) = ix3 (bat t) r (at128 t l) := by
    have e := idx t
    blk_ext [e, bat, at128]
  obtain ⟨Q, K, W, D, R⟩ := exists_rows m h c t
  rw [hy, Cert.ReferenceAttnIdeal.Stage.result_dq R.q R.k R.v R.d (at_lane t l),
    ← block_dq m c t (holds_q R) (holds_k R) (holds_v R) (holds_d R) r l]
  blk_simp
  rw [after0_4]

theorem final_5 (h : Cert.Pre_KernelAttnIdeal_finite_attn m) (c : Dev nD) : (dats m 0 c).arrAt 5 (cfgs 0).N =
    Cert.ReferenceAttnIdeal.Read.val_main_v68 (F := Ideal) (qArg m c) (kArg m c) (vArg m c) (dArg m c) := by
  refine (dats m 0 c).arrAt_eq_of_covers 5 _ (by decide +kernel) fun t hf y => ?_
  obtain ⟨r, l, rfl⟩ : ∃ (r : Fin 2048) (l : Fin 128), y = ix3 0 r l := ⟨_, _, tile_index y⟩
  have hy : ((cfg0.win 5).blk t).view.emb (ix3 0 r l) = ix3 (bat t) r (at128 t l) := by
    have e := idx t
    blk_ext [e, bat, at128]
  obtain ⟨Q, K, W, D, R⟩ := exists_rows m h c t
  rw [hy, Cert.ReferenceAttnIdeal.Stage.result_dk R.q R.k R.v R.d (at_lane t l),
    ← block_dk m c t (holds_q R) (holds_k R) (holds_v R) (holds_d R) r l]
  blk_simp
  rw [after0_5]

theorem final_6 (h : Cert.Pre_KernelAttnIdeal_finite_attn m) (c : Dev nD) : (dats m 0 c).arrAt 6 (cfgs 0).N =
    Cert.ReferenceAttnIdeal.Read.val_main_v70 (F := Ideal) (qArg m c) (kArg m c) (dArg m c) := by
  refine (dats m 0 c).arrAt_eq_of_covers 6 _ (by decide +kernel) fun t hf y => ?_
  obtain ⟨r, l, rfl⟩ : ∃ (r : Fin 2048) (l : Fin 128), y = ix3 0 r l := ⟨_, _, tile_index y⟩
  have hy : ((cfg0.win 6).blk t).view.emb (ix3 0 r l) = ix3 (bat t) r (at128 t l) := by
    have e := idx t
    blk_ext [e, bat, at128]
  obtain ⟨Q, K, W, D, R⟩ := exists_rows m h c t
  rw [hy, Cert.ReferenceAttnIdeal.Stage.result_dv R.q R.k R.d (at_lane t l),
    ← block_dv m c t (holds_q R) (holds_k R) (holds_v R) (holds_d R) r l]
  blk_simp
  rw [after0_6]

end Cert.KernelAttnIdeal.Tile

namespace Cert.Proof.Attn

section
open Cert.ReferenceAttnIdeal Cert.ReferenceAttnIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v66) = val_main_v66 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v68) = val_main_v68 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v70) = val_main_v70 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ReferenceAttnIdeal.Value.run m g)

end

theorem frame_reference : Cert.quiescent_ReferenceAttnIdeal := fun m g _ =>
  (θ_run Cert.ReferenceAttnIdeal.defs _ _).mono
    (fun r h => ⟨fun c => (h c).2.2.2, sem_eq_zero_of_no_sems (by decide) r.2⟩) (run_stages m g)

theorem preserves : Cert.preserves_KernelAttn_KernelAttnIdeal :=
  ⟨IdealRules.named_const.statement Cert.KernelAttnIdeal.κ "prescale" .f32 0x3E16C740#32 _ rfl,
    IdealRules.named_const.statement Cert.KernelAttnIdeal.κ "mask" .f32 0xF149F2CA#32 _ rfl,
    IdealRules.named_const.statement Cert.KernelAttnIdeal.κ "unscale" .f32 0x40D95360#32 _ rfl⟩

theorem algebraic : Cert.algebraic_KernelAttnIdeal_ReferenceAttnIdeal_pre_finite_attn := by
  intro m g m' g' hpre hagree
  refine ⟨_, _, _, Cert.KernelAttnIdeal.Value.run_blocks m g,
    (θ_run Cert.ReferenceAttnIdeal.defs _ _).mono (fun r h c => ?_) (run_stages m' g')⟩
  obtain ⟨e0, e1, e2, e3⟩ := hagree c
  obtain ⟨h0, h1, h2, hargs⟩ := h c
  rw [e0, e1, e2, e3] at h0 h1
  rw [e0, e1, e3] at h2
  exact ⟨h0.trans (KernelAttnIdeal.Tile.final_4 m hpre c).symm, h1.trans (KernelAttnIdeal.Tile.final_5 m hpre c).symm,
    h2.trans (KernelAttnIdeal.Tile.final_6 m hpre c).symm, hargs⟩

end Cert.Proof.Attn
-- ==== Proof.AttnFwd.lean ====
module

public import proofs.«01_k».proof.Proof.Gen.KernelAttnFwdIdeal.Value
public import proofs.«01_k».proof.Proof.AttnKernel

@[expose] public section

set_option maxRecDepth 16384

noncomputable section

open Idealize.ShloMosaic Idealize.ShloMosaic.TcCoe Idealize.SL.Sem

namespace Cert.KernelAttnFwdIdeal.Tile

open Cert.KernelAttnFwdIdeal Cert.KernelAttnFwdIdeal.Gen Cert.AttnMath Cert.KernelAttnIdeal.Tile

/-! ### What a tile of 256 queries stores -/

/-- The rows of a tile, divided by their sums of weights. -/
def res (y : FVec Ideal S256x128 .f32) (i : FVec Ideal S256x1 .f32) : FVec Ideal S1x256x128 .bf16 :=
  shapeCast S1x256x128 (truncf .bf16 (mulf y (broadcastTo S256x128 i broadcasts_S256x1_S256x128)) bitsLt_bf16_f32)
    shapeCasts_S256x128_S1x256x128

def oFirst (q k v : FVec Ideal S256x128 .bf16) : FVec Ideal S1x256x128 .bf16 :=
  res (w256.nn (truncf .bf16 (eFirst q k) bitsLt_bf16_f32) v) (invFirst q k)

def oLater {n : ℕ} (W : Wide n) (q k v : FVec Ideal S256x128 .bf16) (ko vo : FVec Ideal ⟨2, ![n, 128]⟩ .bf16) :
    FVec Ideal S1x256x128 .bf16 :=
  res (addf (w256.nn (truncf .bf16 (eHere W q k ko) bitsLt_bf16_f32) v) (W.nn (truncf .bf16 (eBefore W q k ko) bitsLt_bf16_f32) vo))
    (inv W q k ko)

theorem res_at (y i r l) : res y i (ix3 0 r l) = y (ix2 r l) * i (ix2 r 0) := by
  unfold res; pointwise

/-! ### Weighted sums of values that need not be finite -/

/-- A factor that is a real number and not negative goes into a sum. -/
theorem sum_mul_real {ι : Type*} (s : Finset ι) (f : ι → EReal) {x : ℝ} (hx : 0 ≤ x) :
    (∑ j ∈ s, f j) * (x : EReal) = ∑ j ∈ s, f j * (x : EReal) :=
  map_sum (⟨⟨(· * (x : EReal)), zero_mul _⟩,
    fun a b => EReal.right_distrib_of_nonneg_of_ne_top (EReal.coe_nonneg.mpr hx) (EReal.coe_ne_top x) a b⟩ : EReal →+ EReal) f s

section
variable {n : ℕ} {W : Wide n} {s : Pairs} {R : Fin 256 → Fin 2048} {C : Fin n → Fin 2048} {u : Fin 256 → ℝ}
  {V : Fin 2048 → Fin 128 → EReal}

/-- The weighted values of some keys, divided by the sum of all weights. -/
theorem part_at {e : FVec Ideal ⟨2, ![256, n]⟩ .f32} {i : FVec Ideal S256x1 .f32} {v : FVec Ideal ⟨2, ![n, 128]⟩ .bf16}
    (hu : ∀ r, 0 < u r) (he : Weights s R C u e) (hi : Recips s R u i) (hv : ∀ c l, v (ix2 c l) = V (C c) l) (r l) :
    W.nn (truncf .bf16 e bitsLt_bf16_f32) v (ix2 r l) * i (ix2 r 0) = ∑ c, ((prob s (R r) (C c) : ℝ) : EReal) * V (C c) l := by
  have h := tot_pos s (R r)
  have h' := hu r
  rw [W.nn_at, hi, sum_mul_real _ _ (inv_nonneg.mpr (mul_pos h h').le)]
  refine Finset.sum_congr rfl fun c _ => ?_
  show e (ix2 r c) * v (ix2 c l) * _ = _
  rw [he, hv, mul_right_comm, ← EReal.coe_mul, prob]
  congr 2
  field_simp

end

section
variable {q k v : FVec Ideal S256x128 .bf16} {Q K : Fin 2048 → Fin 128 → ℝ} {V : Fin 2048 → Fin 128 → EReal} {R : Fin 256 → Fin 2048}

theorem first_at (hR : ∀ r, R r = ⟨0 + r.val, by omega⟩) (hq : At R q Q) (hk : At R k K) (hv : ∀ c l, v (ix2 c l) = V (R c) l) (r l) :
    oFirst q k v (ix3 0 r l) = ∑ j, ((prob (dots Q K) (R r) j : ℝ) : EReal) * V j l := by
  obtain ⟨u, hu, he, hi⟩ := weights_first (lo := 0) (by omega) rfl hR hq hk
  rw [oFirst, res_at, part_at hu he hi hv, sum_split (lo := 0) (by omega) _ fun j hj => by
    rw [prob_late _ (dvd_zero 64) _ j (by rw [hR]; simp only; omega) hj, EReal.coe_zero, zero_mul]]
  simp [hR]

theorem later_at {n : ℕ} (W : Wide n) {ko vo : FVec Ideal ⟨2, ![n, 128]⟩ .bf16} {C : Fin n → Fin 2048} (hn : n + 256 ≤ 2048) (h64 : 64 ∣ n)
    (hR : ∀ r, R r = ⟨n + r.val, by omega⟩) (hC : ∀ c, C c = ⟨c.val, by omega⟩) (hq : At R q Q) (hk : At R k K)
    (hv : ∀ c l, v (ix2 c l) = V (R c) l) (hko : At C ko K) (hvo : ∀ c l, vo (ix2 c l) = V (C c) l) (r l) :
    oLater W q k v ko vo (ix3 0 r l) = ∑ j, ((prob (dots Q K) (R r) j : ℝ) : EReal) * V j l := by
  obtain ⟨u, hu, he, ho, hi⟩ := weights_later W (lo := 0) hn h64 hR hC hq hk hko
  have hr : inv W q k ko (ix2 r 0) = (((tot (dots Q K) (R r) * u r)⁻¹ : ℝ) : EReal) := hi r
  have h0 : 0 ≤ (tot (dots Q K) (R r) * u r)⁻¹ := inv_nonneg.mpr (mul_pos (tot_pos _ _) (hu r)).le
  rw [oLater, res_at]
  show (w256.nn _ _ (ix2 r l) + W.nn _ _ (ix2 r l)) * _ = _
  rw [hr, EReal.right_distrib_of_nonneg_of_ne_top (EReal.coe_nonneg.mpr h0) (EReal.coe_ne_top _), ← hr,
    part_at hu he hi hv, part_at hu ho hi hvo, add_comm, sum_split hn _ fun j hj => by
    rw [prob_late _ h64 _ j (by rw [hR]; simp only; omega) hj, EReal.coe_zero, zero_mul]]
  simp only [hR, hC]

end

/-! ### One block -/

section
variable {x0 x1 x2 : S1x2048x128.Idx → Elt Ideal .bf16} {Q K : Arr} {V : Fin 2048 → Fin 128 → EReal}
  (h0 : Holds x0 Q) (h1 : Holds x1 K) (h2 : ∀ j l, x2 (ix3 0 j l) = V j l)

include h2 in
theorem cut_values {n : ℕ} (W : Wide n) (lo : ℕ) (h : lo + n ≤ 2048) (c l) : cut W lo h x2 (ix2 c l) = V ⟨lo + c.val, by omega⟩ l := by
  rw [cut, W.down_at, ld_rows, h2]

include h0 h1 h2 in
theorem block_first (r l) : oFirst (cut w256 0 (by omega) x0) (cut w256 0 (by omega) x1) (cut w256 0 (by omega) x2) (ix3 0 r l)
    = ∑ j, ((prob (dots Q K) ⟨0 + r.val, by omega⟩ j : ℝ) : EReal) * V j l :=
  first_at (R := fun r => ⟨0 + r.val, by omega⟩) (fun r => rfl) (cut_at w256 0 (by omega) h0) (cut_at w256 0 (by omega) h1)
    (cut_values h2 w256 0 (by omega)) r l

include h0 h1 h2 in
theorem block_later {n : ℕ} (W : Wide n) (hn : n + 256 ≤ 2048) (h64 : 64 ∣ n) (r l) :
    oLater W (cut w256 n hn x0) (cut w256 n hn x1) (cut w256 n hn x2) (cut W 0 (by omega) x1) (cut W 0 (by omega) x2) (ix3 0 r l)
      = ∑ j, ((prob (dots Q K) ⟨n + r.val, by omega⟩ j : ℝ) : EReal) * V j l :=
  later_at W (R := fun r => ⟨n + r.val, by omega⟩) (C := fun c => ⟨0 + c.val, by omega⟩) hn h64 (fun r => rfl)
    (fun c => Fin.ext (Nat.zero_add _)) (cut_at w256 n hn h0) (cut_at w256 n hn h1) (cut_values h2 w256 n hn)
    (cut_at W 0 (by omega) h1) (cut_values h2 W 0 (by omega)) r l

include h0 h1 h2 in
theorem block_out (j l) : out0_3 (F := Ideal) x0 x1 x2 (ix3 0 j l) = ∑ i, ((prob (dots Q K) j i : ℝ) : EReal) * V i l := by
  unfold out0_3
  refine upto_all (φ := .bf16) (g := fun j l => ∑ i, ((prob (dots Q K) j i : ℝ) : EReal) * V i l) ?_ j l
  refine .store 1792 (by omega) ?_ (block_later h0 h1 h2 w1792 (by omega) (by omega)) ?_
  · rfl
  refine .store 1536 (by omega) ?_ (block_later h0 h1 h2 w1536 (by omega) (by omega)) ?_
  · rfl
  refine .store 1280 (by omega) ?_ (block_later h0 h1 h2 w1280 (by omega) (by omega)) ?_
  · rfl
  refine .store 1024 (by omega) ?_ (block_later h0 h1 h2 w1024 (by omega) (by omega)) ?_
  · rfl
  refine .store 768 (by omega) ?_ (block_later h0 h1 h2 w768 (by omega) (by omega)) ?_
  · rfl
  refine .store 512 (by omega) ?_ (block_later h0 h1 h2 w512 (by omega) (by omega)) ?_
  · rfl
  refine .store 256 (by omega) ?_ (block_later h0 h1 h2 w256 (by omega) (by omega)) ?_
  · rfl
  refine .store 0 (by omega) ?_ (block_first h0 h1 h2) fun j l h => absurd h (by omega)
  · rfl

end

end Cert.KernelAttnFwdIdeal.Tile
-- ==== Proof.AttnFwdRef.lean ====
module

public import proofs.«01_k».proof.Proof.Gen.ReferenceAttnFwdIdeal.Read
public import proofs.«01_k».proof.Proof.AttnRef

@[expose] public section

set_option maxRecDepth 16384

noncomputable section

open Idealize.ShloMosaic Idealize.ShloMosaic.TcCoe Idealize.SL.Sem

namespace Cert.ReferenceAttnFwdIdeal.Stage

open Cert.ReferenceAttnFwdIdeal Cert.ReferenceAttnFwdIdeal.Read Cert.AttnMath

variable (q k : FVec Ideal S2x2048x16x96 .f32) (v : FVec Ideal S2x2048x16x64 .f32)

/-- The scores, the row maxima, the exponentials, their sums and the softmax are those the gradients are taken through. -/
theorem same_masked : val_main_v11 (F := Ideal) q k = ReferenceAttnIdeal.Read.val_main_v11_0 (F := Ideal) q k := rfl
theorem same_top : val_main_v14 (F := Ideal) q k = ReferenceAttnIdeal.Read.val_main_v19 (F := Ideal) q k := rfl
theorem same_exp : val_main_v18 (F := Ideal) q k = ReferenceAttnIdeal.Read.val_main_v32 (F := Ideal) q k := rfl
theorem same_prob : val_main_v22 (F := Ideal) q k = ReferenceAttnIdeal.Read.val_main_v36 (F := Ideal) q k := rfl

theorem read_out (b : Fin 2) (h : Fin 16) (r : Fin 2048) (l : Fin 64) :
    val_main_v24 (F := Ideal) q k v (ix4 b r h l) = ∑ i, v (ix4 b i h l) * val_main_v22 (F := Ideal) q k (ix4 b h r i) := by
  pointwise [val_main_v24, val_main_v23]

variable {q k} {b : Fin 2} {h : Fin 16} {Q K : Fin 2048 → Fin 128 → ℝ}

/-- The result: every head's rows, filled up with zeros. -/
theorem result (hq : Filled (fun r l => q (ix4 b r h l)) Q) (hk : Filled (fun r l => k (ix4 b r h l)) K)
    {r : Fin 2048} {l : Fin 128} {x : Fin 2048} (hx : 128 * h.val + l.val = x.val) :
    val_main_v27 (F := Ideal) q k v (ix3 b r x)
      = ∑ i, ((prob (dots Q K) r i : ℝ) : EReal) * fill (fun i l => v (ix4 b i h l)) i l := by
  have hs (r j) : ReferenceAttnIdeal.Read.val_main_v2 (F := Ideal) q k (ix4 b h r j) = ((dots Q K r j : ℝ) : EReal) := by
    rw [ReferenceAttnIdeal.Stage.read_scores]
    exact hq.dots hk (by decide) r j
  have e (r : Fin 2048) (l : Fin 64) : val_main_v24 (F := Ideal) q k v (ix4 b r h l)
      = ∑ i, ((prob (dots Q K) r i : ℝ) : EReal) * v (ix4 b i h l) := by
    rw [read_out, same_prob]
    exact Finset.sum_congr rfl fun i _ => by rw [ReferenceAttnIdeal.Stage.softmax hs, mul_comm]
  have c : val_main_v27 (F := Ideal) q k v (ix3 b r x) = val_main_v26 (F := Ideal) q k v (ix3 b r x) := rfl
  rw [c]
  unfold val_main_v26 val_main_v25
  refine (ReferenceAttnIdeal.Stage.lane b h hx _).trans ?_
  refine (ReferenceAttnIdeal.Stage.pad64 b h _ (val_main_call2_v0 (F := Ideal)) (fun i => ReferenceAttnIdeal.Stage.zero_word) r l).trans ?_
  simp only [e, fill]
  split
  · rfl
  · exact (Finset.sum_eq_zero fun i _ => mul_zero _).symm

end Cert.ReferenceAttnFwdIdeal.Stage
-- ==== Proof.AttnFwdClaim.lean ====
module

public import proofs.«01_k».proof.Defs
public import proofs.«01_k».proof.Proof.AttnClaim
public import proofs.«01_k».proof.Proof.AttnFwd
public import proofs.«01_k».proof.Proof.AttnFwdRef
public import proofs.«01_k».proof.Proof.Gen.ReferenceAttnFwdIdeal.Run
public import proofs.«01_k».proof.Proof.Gen.Pre_finite_scores
public import Idealize.ShloMosaic.Lib.ReduceAll
public import Idealize.ShloMosaic.Init
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.KernelAttnFwdIdeal.Tile

open Cert.KernelAttnFwdIdeal Cert.KernelAttnFwdIdeal.Gen Cert.AttnMath
open Cert.KernelAttnIdeal.Tile (Holds entered96 entered64 both_one finite96 tile_index)

variable (m : (ℓ : Loc nD τ sig) → Buf (Elt Ideal) ℓ)

/-- The arguments of the call: queries, keys and values. -/
abbrev qArg (c : Dev nD) : FVec Ideal S2x2048x16x96 .f32 := m ((c : Thread nD τ).loc main_arg0)
abbrev kArg (c : Dev nD) : FVec Ideal S2x2048x16x96 .f32 := m ((c : Thread nD τ).loc main_arg1)
abbrev vArg (c : Dev nD) : FVec Ideal S2x2048x16x64 .f32 := m ((c : Thread nD τ).loc main_arg2)

/-- The batch row and the head a grid point works on, and a lane's position in the arrays. -/
def bat (t : Fin cfg0.N) : Fin 2 := ⟨t.val / 16, by have := t.isLt; have : cfg0.N = 32 := N_0; omega⟩
def head (t : Fin cfg0.N) : Fin 16 := ⟨t.val % 16, by omega⟩
def at128 (t : Fin cfg0.N) (l : Fin 128) : Fin 2048 := ⟨t.val % 16 * 128 + l.val, by omega⟩

theorem at_lane (t : Fin cfg0.N) (l : Fin 128) : 128 * (head t).val + l.val = (at128 t l).val := by
  simp only [head, at128]; omega

theorem idx : ∀ t : Fin cfg0.N, win0_0.index t = ![t.val / 16, 0, t.val % 16]
    ∧ win0_1.index t = ![t.val / 16, 0, t.val % 16]
    ∧ win0_2.index t = ![t.val / 16, 0, t.val % 16]
    ∧ win0_3.index t = ![t.val / 16, 0, t.val % 16] :=
  (by decide +kernel : ∀ t : Fin grid0.N, _)

section
variable {b : Fin 2} {h : Fin 16} {l : Fin 128} {x : Fin 2048} (hx : 128 * h.val + l.val = x.val) (r : Fin 2048)
include hx

theorem entry_q (c : Dev nD) : V m c main_v2 (ix3 b r x) = fill (fun r l => qArg m c (ix4 b r h l)) r l := by
  unfold V
  simp only [List.flatten_cons, List.flatten_nil, List.append_nil, List.cons_append, List.nil_append, hostOps0, hostOps0_1,
    hostOps0_2, hostOps0_3, hostOps0_4, hostOps0_5, hostOps0_6]
  after_results_simp
  exact entered96 hx r _

theorem entry_k (c : Dev nD) : V m c main_v5 (ix3 b r x) = fill (fun r l => kArg m c (ix4 b r h l)) r l := by
  unfold V
  simp only [List.flatten_cons, List.flatten_nil, List.append_nil, List.cons_append, List.nil_append, hostOps0, hostOps0_1,
    hostOps0_2, hostOps0_3, hostOps0_4, hostOps0_5, hostOps0_6]
  after_results_simp
  exact entered96 hx r _

theorem entry_v (c : Dev nD) : V m c main_v8 (ix3 b r x) = fill (fun r l => vArg m c (ix4 b r h l)) r l := by
  unfold V
  simp only [List.flatten_cons, List.flatten_nil, List.append_nil, List.cons_append, List.nil_append, hostOps0, hostOps0_1,
    hostOps0_2, hostOps0_3, hostOps0_4, hostOps0_5, hostOps0_6]
  after_results_simp
  exact entered64 hx r _

end

theorem read_q (f : FVec Ideal S2x2048x2048 .bf16) (t : Fin cfg0.N) (r : Fin 2048) (l : Fin 128) :
    (win0_0.blk t).view.read (Elt Ideal) f (ix3 0 r l) = f (ix3 (bat t) r (at128 t l)) := by
  blk_simp [idx t]
  have e := idx t
  blk_ext [e, bat, at128]

theorem block_q (c : Dev nD) (t : Fin cfg0.N) (r : Fin 2048) (l : Fin 128) :
    (iblk m c 0 t : FVec Ideal S1x2048x128 .bf16) (ix3 0 r l) = fill (fun r l => qArg m c (ix4 (bat t) r (head t) l)) r l :=
  (read_q (V m c main_v2) t r l).trans (entry_q m (at_lane t l) r c)

theorem read_k (f : FVec Ideal S2x2048x2048 .bf16) (t : Fin cfg0.N) (r : Fin 2048) (l : Fin 128) :
    (win0_1.blk t).view.read (Elt Ideal) f (ix3 0 r l) = f (ix3 (bat t) r (at128 t l)) := by
  blk_simp [idx t]
  have e := idx t
  blk_ext [e, bat, at128]

theorem block_k (c : Dev nD) (t : Fin cfg0.N) (r : Fin 2048) (l : Fin 128) :
    (iblk m c 1 t : FVec Ideal S1x2048x128 .bf16) (ix3 0 r l) = fill (fun r l => kArg m c (ix4 (bat t) r (head t) l)) r l :=
  (read_k (V m c main_v5) t r l).trans (entry_k m (at_lane t l) r c)

theorem read_v (f : FVec Ideal S2x2048x2048 .bf16) (t : Fin cfg0.N) (r : Fin 2048) (l : Fin 128) :
    (win0_2.blk t).view.read (Elt Ideal) f (ix3 0 r l) = f (ix3 (bat t) r (at128 t l)) := by
  blk_simp [idx t]
  have e := idx t
  blk_ext [e, bat, at128]

theorem block_v (c : Dev nD) (t : Fin cfg0.N) (r : Fin 2048) (l : Fin 128) :
    (iblk m c 2 t : FVec Ideal S1x2048x128 .bf16) (ix3 0 r l) = fill (fun r l => vArg m c (ix4 (bat t) r (head t) l)) r l :=
  (read_v (V m c main_v8) t r l).trans (entry_v m (at_lane t l) r c)

/-- Finite queries and keys are real numbers. -/
theorem all_real (h : Cert.Pre_KernelAttnFwdIdeal_finite_scores m) (c : Dev nD) :
    (∀ i, qArg m c i ≠ ⊥ ∧ qArg m c i ≠ ⊤) ∧ (∀ i, kArg m c i ≠ ⊥ ∧ kArg m c i ≠ ⊤) := by
  have e := congrFun (h c) ix0
  unfold Cert.Pre_finite_scores.fn at e
  obtain ⟨e0, e1⟩ := both_one _ _ e
  exact ⟨finite96 _ _ _ _ e0, finite96 _ _ _ _ e1⟩

theorem final_3 (h : Cert.Pre_KernelAttnFwdIdeal_finite_scores m) (c : Dev nD) : (dats m 0 c).arrAt 3 (cfgs 0).N =
    Cert.ReferenceAttnFwdIdeal.Read.val_main_v27 (F := Ideal) (qArg m c) (kArg m c) (vArg m c) := by
  refine (dats m 0 c).arrAt_eq_of_covers 3 _ (by decide +kernel) fun t hf y => ?_
  obtain ⟨r, l, rfl⟩ : ∃ (r : Fin 2048) (l : Fin 128), y = ix3 0 r l := ⟨_, _, tile_index y⟩
  have hy : ((cfg0.win 3).blk t).view.emb (ix3 0 r l) = ix3 (bat t) r (at128 t l) := by
    have e := idx t
    blk_ext [e, bat, at128]
  obtain ⟨e0, e1⟩ := all_real m h c
  obtain ⟨Q, hq⟩ := exists_filled (fun r l => qArg m c (ix4 (bat t) r (head t) l)) fun _ _ => e0 _
  obtain ⟨K, hk⟩ := exists_filled (fun r l => kArg m c (ix4 (bat t) r (head t) l)) fun _ _ => e1 _
  have h0 : Holds (iblk m c 0 t) Q := fun r l => (block_q m c t r l).trans (hq r l)
  have h1 : Holds (iblk m c 1 t) K := fun r l => (block_k m c t r l).trans (hk r l)
  rw [hy, Cert.ReferenceAttnFwdIdeal.Stage.result (vArg m c) hq hk (at_lane t l),
    ← block_out h0 h1 (block_v m c t) r l]
  blk_simp
  rw [after0_3]

end Cert.KernelAttnFwdIdeal.Tile

namespace Cert.Proof.AttnFwd

section
open Cert.ReferenceAttnFwdIdeal Cert.ReferenceAttnFwdIdeal.Read

/-- The reference's run with its result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Cert.ReferenceAttnFwdIdeal.Value.run m g)

end

theorem frame_reference : Cert.quiescent_ReferenceAttnFwdIdeal := fun m g _ =>
  (θ_run Cert.ReferenceAttnFwdIdeal.defs _ _).mono
    (fun r h => ⟨fun c => (h c).2, sem_eq_zero_of_no_sems (by decide) r.2⟩) (run_stages m g)

theorem preserves : Cert.preserves_KernelAttnFwd_KernelAttnFwdIdeal :=
  ⟨IdealRules.named_const.statement Cert.KernelAttnFwdIdeal.κ "prescale" .f32 0x3E16C740#32 _ rfl,
    IdealRules.named_const.statement Cert.KernelAttnFwdIdeal.κ "mask" .f32 0xF149F2CA#32 _ rfl⟩

theorem algebraic : Cert.algebraic_KernelAttnFwdIdeal_ReferenceAttnFwdIdeal_pre_finite_scores := by
  intro m g m' g' hpre hagree
  refine ⟨_, Cert.KernelAttnFwdIdeal.Value.run_blocks m g,
    (θ_run Cert.ReferenceAttnFwdIdeal.defs _ _).mono (fun r h c => ?_) (run_stages m' g')⟩
  obtain ⟨e0, e1, e2⟩ := hagree c
  obtain ⟨h0, hargs⟩ := h c
  rw [e0, e1, e2] at h0
  exact ⟨h0.trans (KernelAttnFwdIdeal.Tile.final_3 m hpre c).symm, hargs⟩

end Cert.Proof.AttnFwd
-- ==== Proof.NormMath.lean ====
module

public import Idealize.ShloMosaic.Lib.Pointwise
public import Idealize.ShloMosaic.Lib.Pipeline.Value
public import proofs.«01_k».proof.Proof.AttnMath

@[expose] public section

/-! The gradient of a root-mean-square norm, over one row: the form a fused pass computes and the form that comes
of differentiating the norm's own lines, and that they agree on real rows. -/

noncomputable section

namespace Cert.NormMath

open Idealize.ShloMosaic
open scoped BigOperators

variable {n : Nat} (c e : EReal) (x d : Fin n → EReal)

/-- The mean square of a row, kept off zero. -/
def level : EReal := Ideal.div (∑ j, x j * x j) c + e

/-- The factor that normalises a row. -/
def root : EReal := Ideal.rsqrt (level c e x)

/-- A normalised row of a thousand and twenty-four, times its gain, scaled and shifted. -/
def modulated (x g s h : Fin 1024 → EReal) (l : Fin 1024) : EReal :=
  x l * root (Ideal.ofBits .f32 0x44800000#32) (Ideal.ofBits .f32 0x358637BD#32) x * g l * (1 + s l) + h l

/-- The fused gradient: `d` is the gradient of the normalised row. -/
def fused (l : Fin n) : EReal :=
  root c e x * (d l - x l * root c e x * Ideal.div (∑ j, d j * (x j * root c e x)) c)

/-- The gradient that reaches a row through its mean square, per unit of the row. -/
def through (k : EReal) : EReal :=
  Ideal.div ((∑ j, x j * d j) * (k * Ideal.div (root c e x) (level c e x))) c

/-- The gradient line by line. -/
def plain (k : EReal) (l : Fin n) : EReal :=
  d l * root c e x + x l * through c e x d k + through c e x d k * x l

section Real
variable (c e : ℝ) (hc : 0 < c) (he : 0 < e) (x d : Fin n → ℝ)
include hc he

theorem level_pos : 0 < (∑ j, x j * x j) * (1 / c) + e :=
  add_pos_of_nonneg_of_pos
    (mul_nonneg (Finset.sum_nonneg fun j _ => mul_self_nonneg (x j)) (one_div_pos.mpr hc).le) he

theorem level_real : level (c : EReal) e (fun j => x j) = (((∑ j, x j * x j) * (1 / c) + e : ℝ) : EReal) := by
  unfold level
  simp only [← EReal.coe_mul, ← AttnMath.coe_sum]
  rw [Ideal.div_coe hc.ne']
  norm_cast

theorem root_real : root (c : EReal) e (fun j => x j)
    = (((Real.sqrt ((∑ j, x j * x j) * (1 / c) + e))⁻¹ : ℝ) : EReal) := by
  have h := level_pos c e hc he x
  unfold root
  rw [level_real c e hc he, Ideal.rsqrt_coe, if_neg h.not_gt, if_neg h.ne']

theorem fused_real (k : EReal) (hk : k = ((-(1 / 2) : ℝ) : EReal)) (l : Fin n) :
    fused (c : EReal) e (fun j => x j) (fun j => d j) l = plain (c : EReal) e (fun j => x j) (fun j => d j) k l := by
  have h := level_pos c e hc he x
  unfold fused plain through
  subst hk
  rw [root_real c e hc he, level_real c e hc he, Ideal.div_coe h.ne', ]
  simp only [← EReal.coe_mul, ← AttnMath.coe_sum]
  rw [Ideal.div_coe hc.ne', Ideal.div_coe hc.ne']
  simp only [← EReal.coe_mul, ← EReal.coe_sub, ← EReal.coe_add]
  congr 1
  have hs : ((Real.sqrt ((∑ j, x j * x j) * (1 / c) + e))⁻¹) ^ 2 = 1 / ((∑ j, x j * x j) * (1 / c) + e) := by
    rw [inv_pow, Real.sq_sqrt h.le, inv_eq_one_div]
  rw [← hs]
  generalize (Real.sqrt ((∑ j, x j * x j) * (1 / c) + e))⁻¹ = r
  have hd : ∑ j, d j * (x j * r) = (∑ j, x j * d j) * r := by
    rw [Finset.sum_mul]
    exact Finset.sum_congr rfl fun j _ => by ring
  rw [hd]
  ring

end Real

/-- On real rows the two gradients agree. -/
theorem fused_eq_plain {c e k : EReal} {x d : Fin n → EReal} (c' e' : ℝ) (hc : 0 < c') (he : 0 < e') (h0 : c = c')
    (h1 : e = e') (hk : k = ((-(1 / 2) : ℝ) : EReal)) (x' d' : Fin n → ℝ) (hx : ∀ j, x j = x' j) (hd : ∀ j, d j = d' j)
    (l : Fin n) : fused c e x d l = plain c e x d k l := by
  obtain rfl : x = fun j => (x' j : EReal) := funext hx
  obtain rfl : d = fun j => (d' j : EReal) := funext hd
  subst h0 h1
  exact fused_real c' e' hc he x' d' k hk l

/-- The literal added to a mean square: a positive real. -/
theorem small_word : ∃ e : ℝ, 0 < e ∧ Ideal.ofBits .f32 0x358637BD#32 = (e : EReal) := by
  refine ⟨_, ?_, by simp [Ideal.ofBits, Ideal.ieee, -EReal.coe_mul]; rfl⟩
  norm_num

theorem half_word : Ideal.ofBits .f32 0xBF000000#32 = ((-(1 / 2) : ℝ) : EReal) := by
  simp [Ideal.ofBits, Ideal.ieee, -EReal.coe_mul]
  norm_num

theorem word_128 : Ideal.ofBits .f32 0x43000000#32 = ((128 : ℝ) : EReal) := by
  simp [Ideal.ofBits, Ideal.ieee, -EReal.coe_mul]
  norm_num

theorem word_256 : Ideal.ofBits .f32 0x43800000#32 = ((256 : ℝ) : EReal) := by
  simp [Ideal.ofBits, Ideal.ieee, -EReal.coe_mul]
  norm_num

theorem word_1024 : Ideal.ofBits .f32 0x44800000#32 = ((1024 : ℝ) : EReal) := by
  simp [Ideal.ofBits, Ideal.ieee, -EReal.coe_mul]
  norm_num

end Cert.NormMath
-- ==== Proof.Lat.lean ====
module

public import proofs.«01_k».proof.Proof.Gen.KernelLatIdeal.Value
public import Idealize.ShloMosaic.Lib.Pipeline.ValueKit
public import Idealize.ShloMosaic.Lib.Claim
public import proofs.«01_k».proof.Proof.Packed
public import proofs.«01_k».proof.Proof.Reads
public import proofs.«01_k».proof.Proof.NormMath
public import proofs.«01_k».proof.Proof.Gen.ReferenceLatIdeal.Read

@[expose] public section

set_option maxRecDepth 16384

noncomputable section

open Idealize.ShloMosaic Idealize.ShloMosaic.TcCoe Idealize.SL.Sem
open Idealize.ShloMosaic.Pipeline (Dat)

namespace Cert.KernelLatIdeal.Lat

open Cert.KernelLatIdeal Cert.KernelLatIdeal.Gen Cert.NormMath

variable (m : (ℓ : Loc nD τ sig) → Buf (Elt Ideal) ℓ)

/-- The gradient of the normalised query latent. -/
abbrev dqArg (c : Dev nD) : FVec Ideal S2x2048x256 .f32 := m ((c : Thread nD τ).loc main_arg0)
/-- the gradient of the normalised key-value latent -/
abbrev dkArg (c : Dev nD) : FVec Ideal S2x2048x128 .f32 := m ((c : Thread nD τ).loc main_arg1)
/-- the projection -/
abbrev projArg (c : Dev nD) : FVec Ideal S2x2048x5552 .f32 := m ((c : Thread nD τ).loc main_arg2)
/-- the gains -/
abbrev gqArg (c : Dev nD) : FVec Ideal S1x256 .f32 := m ((c : Thread nD τ).loc main_arg3)
abbrev gkArg (c : Dev nD) : FVec Ideal S1x128 .f32 := m ((c : Thread nD τ).loc main_arg4)

/-- The batch row a grid point works on. -/
def bat (t : Fin cfg0.N) : Fin 2 := ⟨t.val / 4, by have := t.isLt; have : cfg0.N = 8 := N_0; omega⟩

/-- The sequence position of row `r` of a grid point's tile. -/
def pos (t : Fin cfg0.N) (r : Fin 512) : Fin 2048 := ⟨t.val % 4 * 512 + r.val, by omega⟩

/-- The flat row. -/
def row (t : Fin cfg0.N) (r : Fin 512) : Fin 4096 :=
  ⟨t.val * 512 + r.val, by have := t.isLt; have : cfg0.N = 8 := N_0; omega⟩

theorem row_eq (t : Fin cfg0.N) (r : Fin 512) : (bat t).val * 2048 + (pos t r).val = (row t r).val := by
  show t.val / 4 * 2048 + (t.val % 4 * 512 + r.val) = t.val * 512 + r.val
  omega

theorem idx : ∀ t : Fin cfg0.N, win0_0.index t = ![t.val, 0]
    ∧ win0_1.index t = ![t.val, 0]
    ∧ win0_2.index t = ![t.val, 20]
    ∧ win0_3.index t = ![t.val, 42]
    ∧ win0_4.index t = ![0, 0]
    ∧ win0_5.index t = ![0, 0]
    ∧ win0_6.index t = ![t.val, 0]
    ∧ win0_7.index t = ![t.val, 0] :=
  (by decide +kernel : ∀ t : Fin grid0.N, _)

/-- Rows of a batched array read in the flat array. -/
theorem flat_apply {α : Type} {n : Nat} (f : (⟨3, ![2, 2048, n]⟩ : Shape).Idx → α)
    (h : Shape.ShapeCasts (⟨3, ![2, 2048, n]⟩ : Shape) ⟨2, ![4096, n]⟩) (b : Fin 2) (s : Fin 2048) (q : Fin 4096)
    (e : b.val * 2048 + s.val = q.val) (l : Fin n) : shapeCast (⟨2, ![4096, n]⟩ : Shape) f h (ix2 q l) = f (ix3 b s l) := by
  refine shapeCast_apply _ _ _ _ ?_
  rw [Shape.rowMajor_val_three, Shape.rowMajor_val_two]
  show (b.val * 2048 + s.val) * n + l.val = q.val * n + l.val
  rw [e]

theorem block0 (c : Dev nD) (t : Fin cfg0.N) (r : Fin 512) (l : Fin 256) :
    (iblk m c 0 t : FVec Ideal S512x256 .f32) (ix2 r l) = dqArg m c (ix3 (bat t) (pos t r) l) := by
  blk_simp [iblk, idx t]
  entry_read
  refine Eq.trans ?_ (flat_apply (dqArg m c) shapeCasts_S2x2048x256_S4096x256 _ _ _ (row_eq t r) l)
  have e := idx t
  blk_ext [e, row]

theorem block1 (c : Dev nD) (t : Fin cfg0.N) (r : Fin 512) (l : Fin 128) :
    (iblk m c 1 t : FVec Ideal S512x128 .f32) (ix2 r l) = dkArg m c (ix3 (bat t) (pos t r) l) := by
  blk_simp [iblk, idx t]
  entry_read
  refine Eq.trans ?_ (flat_apply (dkArg m c) shapeCasts_S2x2048x128_S4096x128 _ _ _ (row_eq t r) l)
  have e := idx t
  blk_ext [e, row]

theorem block4 (c : Dev nD) (t : Fin cfg0.N) (l : Fin 256) :
    (iblk m c 4 t : FVec Ideal S1x256 .f32) (ix2 0 l) = gqArg m c (ix2 0 l) := by
  blk_point [iblk, V, idx t]

theorem block5 (c : Dev nD) (t : Fin cfg0.N) (l : Fin 128) :
    (iblk m c 5 t : FVec Ideal S1x128 .f32) (ix2 0 l) = gkArg m c (ix2 0 l) := by
  blk_point [iblk, V, idx t]

set_option maxHeartbeats 1600000 in
theorem read_cq (c : Dev nD) (b : Fin 2) (s : Fin 2048) (q : Fin 4096) (e : b.val * 2048 + s.val = q.val) (l : Fin 256)
    (k : Fin 5760) (hk : 5120 + l.val = k.val) :
    V m c main_v12 (ix2 q k) = projArg m c (ix3 b s ⟨3088 + l.val, by omega⟩) := by
  show StableHlo.after hostOps0 _ _ _ = _
  unfold hostOps0
  after_results_simp
  refine (flat_apply _ _ b s q e k).trans ?_
  refine (Packed.cq_apply _ _ _ _ _ _ _ _ _ b s k l hk).trans ?_
  simp only [Matrix.cons_val]
  after_results_simp
  pointwise

set_option maxHeartbeats 1600000 in
theorem read_ckv (c : Dev nD) (b : Fin 2) (s : Fin 2048) (q : Fin 4096) (e : b.val * 2048 + s.val = q.val) (l : Fin 128)
    (k : Fin 5760) (hk : 5376 + l.val = k.val) :
    V m c main_v12 (ix2 q k) = projArg m c (ix3 b s ⟨3344 + l.val, by omega⟩) := by
  show StableHlo.after hostOps0 _ _ _ = _
  unfold hostOps0
  after_results_simp
  refine (flat_apply _ _ b s q e k).trans ?_
  refine (Packed.ckv_apply _ _ _ _ _ _ _ _ _ b s k l hk).trans ?_
  simp only [Matrix.cons_val]
  after_results_simp
  pointwise

theorem block3 (c : Dev nD) (t : Fin cfg0.N) (r : Fin 512) (l : Fin 128) :
    (iblk m c 3 t : FVec Ideal S512x128 .bf16) (ix2 r l)
      = projArg m c (ix3 (bat t) (pos t r) ⟨3344 + l.val, by omega⟩) := by
  refine Eq.trans ?_ (read_ckv m c (bat t) (pos t r) (row t r) (row_eq t r) l ⟨5376 + l.val, by omega⟩ rfl)
  blk_simp [iblk, idx t]
  have e := idx t
  blk_ext [e, row]

theorem block2 (c : Dev nD) (t : Fin cfg0.N) (r : Fin 512) (l : Fin 256) :
    (X0_2 m c t : FVec Ideal S512x256 .bf16) (ix2 r l)
      = projArg m c (ix3 (bat t) (pos t r) ⟨3088 + l.val, by omega⟩) := by
  unfold X0_2 Pipeline.Window.fill
  rw [dif_pos (moved0_2 t (ix2 r l))]
  refine Eq.trans ?_ (read_cq m c (bat t) (pos t r) (row t r) (row_eq t r) l ⟨5120 + l.val, by omega⟩ rfl)
  blk_simp [iblk, idx t]
  have e := idx t
  blk_ext [e, row]

section Reference
open Cert.ReferenceLatIdeal.Read
variable (a0 : FVec Ideal S2x2048x256 .f32) (a1 : FVec Ideal S2x2048x128 .f32) (a2 : FVec Ideal S2x2048x5552 .f32)
  (a3 : FVec Ideal S1x256 .f32) (a4 : FVec Ideal S1x128 .f32)

theorem ref_dq (b : Fin 2) (s : Fin 2048) (q : Fin 4096) (e : b.val * 2048 + s.val = q.val) (l : Fin 256) :
    (val_main_v86 (F := Ideal) a0 a2 a3 (ix2 q l) : EReal)
      = plain (Ideal.ofBits .f32 0x43800000#32) (Ideal.ofBits .f32 0x358637BD#32)
        (fun j : Fin 256 => a2 (ix3 b s ⟨3088 + j.val, by omega⟩)) (fun j => a0 (ix3 b s j) * a3 (ix2 0 j))
        (Ideal.ofBits .f32 0xBF000000#32) l := by
  refine (flat_apply (val_main_v45 (F := Ideal) a0 a2 a3) shapeCasts_S2x2048x256_S4096x256 b s q e l).trans ?_
  pointwise [val_main_v5, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst, val_main_cst_0, val_main_cst_1, val_main_cst_2, val_main_cst_3, val_main_cst_4, val_main_cst_5, val_main_cst_6, val_main_cst_7, plain, through, root, level]
  simp only [Fin.sum_univ_one]

theorem ref_dgq (l : Fin 256) :
    (val_main_v46 (F := Ideal) a0 a2 (ix2 0 l) : EReal)
      = ∑ b : Fin 2, ∑ s : Fin 2048, a2 (ix3 b s ⟨3088 + l.val, by omega⟩) *
        root (Ideal.ofBits .f32 0x43800000#32) (Ideal.ofBits .f32 0x358637BD#32)
          (fun j : Fin 256 => a2 (ix3 b s ⟨3088 + j.val, by omega⟩)) * a0 (ix3 b s l) := by
  pointwise [val_main_v5, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst, val_main_cst_0, val_main_cst_1, val_main_cst_2, val_main_cst_3, val_main_cst_4, val_main_cst_5, val_main_cst_6, val_main_cst_7, root, level, Reads.sum_leading]
  simp only [Fin.sum_univ_one]

theorem ref_dk (b : Fin 2) (s : Fin 2048) (q : Fin 4096) (e : b.val * 2048 + s.val = q.val) (l : Fin 128) :
    (val_main_v88 (F := Ideal) a1 a2 a4 (ix2 q l) : EReal)
      = plain (Ideal.ofBits .f32 0x43000000#32) (Ideal.ofBits .f32 0x358637BD#32)
        (fun j : Fin 128 => a2 (ix3 b s ⟨3344 + j.val, by omega⟩)) (fun j => a1 (ix3 b s j) * a4 (ix2 0 j))
        (Ideal.ofBits .f32 0xBF000000#32) l := by
  refine (flat_apply (val_main_v83 (F := Ideal) a1 a2 a4) shapeCasts_S2x2048x128_S4096x128 b s q e l).trans ?_
  pointwise [val_main_v6, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_cst_8, val_main_cst_9, val_main_cst_10, val_main_cst_11, val_main_cst_12, val_main_cst_13, val_main_cst_14, val_main_cst_15, val_main_cst_16, plain, through, root, level]
  simp only [Fin.sum_univ_one]

theorem ref_dgk (l : Fin 128) :
    (val_main_v84 (F := Ideal) a1 a2 (ix2 0 l) : EReal)
      = ∑ b : Fin 2, ∑ s : Fin 2048, a2 (ix3 b s ⟨3344 + l.val, by omega⟩) *
        root (Ideal.ofBits .f32 0x43000000#32) (Ideal.ofBits .f32 0x358637BD#32)
          (fun j : Fin 128 => a2 (ix3 b s ⟨3344 + j.val, by omega⟩)) * a1 (ix3 b s l) := by
  pointwise [val_main_v6, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_cst_8, val_main_cst_9, val_main_cst_10, val_main_cst_11, val_main_cst_12, val_main_cst_13, val_main_cst_14, val_main_cst_15, val_main_cst_16, root, level, Reads.sum_leading]
  simp only [Fin.sum_univ_one]

end Reference

theorem index2 {n0 n1 : Nat} (y : (⟨2, ![n0, n1]⟩ : Shape).Idx) : y = ix2 (y 0) (y 1) := by
  funext a
  fin_cases a <;> rfl

theorem tile_6 (c : Dev nD) (t : Fin cfg0.N) (r : Fin 512) (l : Fin 256) :
    (k0_pay8 (F := Ideal) (X0_2 m c t) (iblk m c 0 t) (iblk m c 4 t) (ix2 r l) : EReal)
      = fused (Ideal.ofBits .f32 0x43800000#32) (Ideal.ofBits .f32 0x358637BD#32)
        (fun j : Fin 256 => projArg m c (ix3 (bat t) (pos t r) ⟨3088 + j.val, by omega⟩))
        (fun j => dqArg m c (ix3 (bat t) (pos t r) j) * gqArg m c (ix2 0 j)) l := by
  pointwise [k0_pay3, k0_pay4, k0_pay5, k0_pay6, k0_pay8, fused, root, level]
  simp only [block0, block2, block4]

theorem zero_8 (j : S1x256.Idx) : k0_pay1 (F := Ideal) j = 0 := by
  pointwise! [k0_pay1]

/-- The accumulator's step adds the tile's column sums to what it held. -/
theorem step_8 (x : FVec Ideal S512x256 .bf16) (d : FVec Ideal S512x256 .f32) (a : Vec Ideal S1x256 .f32) (j : S1x256.Idx) :
    k0_pay7 x d a j = a j + k0_pay7 x d (fun _ => 0) j := by
  pointwise [k0_pay7]

theorem index_8 (j : S1x256.Idx) : j = ix2 0 (j 1) := by
  funext a
  fin_cases a
  · exact Subsingleton.elim (α := Fin 1) _ _
  · rfl

theorem tile_8 (c : Dev nD) (t : Fin cfg0.N) (l : Fin 256) :
    (k0_pay7 (F := Ideal) (X0_2 m c t) (iblk m c 0 t) (fun _ => 0) (ix2 0 l) : EReal)
      = ∑ r : Fin 512, projArg m c (ix3 (bat t) (pos t r) ⟨3088 + l.val, by omega⟩) *
        root (Ideal.ofBits .f32 0x43800000#32) (Ideal.ofBits .f32 0x358637BD#32)
          (fun j : Fin 256 => projArg m c (ix3 (bat t) (pos t r) ⟨3088 + j.val, by omega⟩)) *
          dqArg m c (ix3 (bat t) (pos t r) l) := by
  pointwise [k0_pay3, k0_pay4, k0_pay5, k0_pay6, k0_pay7, root, level]
  simp only [block0, block2, block4]
  refine Finset.sum_congr rfl fun r _ => mul_comm _ _

theorem final_8 (c : Dev nD) : (dats m 0 c).arrAt 8 (cfgs 0).N =
    Cert.ReferenceLatIdeal.Read.val_main_v46 (F := Ideal) (dqArg m c) (projArg m c) := by
  refine (dats m 0 c).arrAt_eq_of_after_last 8 t0_7 (by decide +kernel) _ fun j => ?_
  blk_simp
  rw [after0_8]
  obtain ⟨l, rfl⟩ : ∃ l : Fin 256, j = ix2 0 l := ⟨_, index_8 j⟩
  rw [ref_dgq, Pipeline.eq_sum_fin_of_reset_step_apply_last (fun n h => (outsAt0 m c n h).2.2.1) 8 (fun _ => 0) _
    (fun t h j => by rw [outsAt0_A m c t h]; frame_out; rw [step_8, zero_8])
    (fun t h j => by rw [outsAt0_B m c t h]; frame_out; rw [step_8]) (le_of_eq N_0) t0_7 rfl, zero_add]
  simp only [tile_8]
  exact Fin.sum_points_lanes_congr 4 fun t r ha hl => rfl

theorem final_6 (c : Dev nD) (X : S2x2048x5552.Idx → ℝ) (D : S2x2048x256.Idx → ℝ) (G : S1x256.Idx → ℝ)
    (hx : ∀ i, projArg m c i = X i) (hd : ∀ i, dqArg m c i = D i) (hg : ∀ i, gqArg m c i = G i) :
    (dats m 0 c).arrAt 6 (cfgs 0).N =
    Cert.ReferenceLatIdeal.Read.val_main_v86 (F := Ideal) (dqArg m c) (projArg m c) (gqArg m c) := by
  refine (dats m 0 c).arrAt_eq_of_covers 6 _ (by decide +kernel) fun t hf y => ?_
  obtain ⟨r, l, rfl⟩ : ∃ (r : Fin 512) (l : Fin 256), y = ix2 r l := ⟨_, _, index2 y⟩
  have hy : ((cfg0.win 6).blk t).view.emb (ix2 r l) = ix2 (row t r) l := by
    have e := idx t
    blk_ext [e, row]
  obtain ⟨e, he, hw⟩ := small_word
  rw [hy, ref_dq _ _ _ (bat t) (pos t r) (row t r) (row_eq t r) l,
    ← fused_eq_plain 256 e (by norm_num) he word_256 hw half_word
      (fun j => X (ix3 (bat t) (pos t r) ⟨3088 + j.val, by omega⟩))
      (fun j => D (ix3 (bat t) (pos t r) j) * G (ix2 0 j)) (fun j => hx _)
      (fun j => by rw [hd, hg, EReal.coe_mul]) l, ← tile_6]
  blk_simp
  rw [after0_6]
  by_cases h : t.val % 8 = 0
  · rw [outsAt0_A m c t h]
    dsimp only
    frame_out
  · rw [outsAt0_B m c t h]
    dsimp only
    frame_out

theorem tile_7 (c : Dev nD) (t : Fin cfg0.N) (r : Fin 512) (l : Fin 128) :
    (k0_pay14 (F := Ideal) (iblk m c 3 t) (iblk m c 1 t) (iblk m c 5 t) (ix2 r l) : EReal)
      = fused (Ideal.ofBits .f32 0x43000000#32) (Ideal.ofBits .f32 0x358637BD#32)
        (fun j : Fin 128 => projArg m c (ix3 (bat t) (pos t r) ⟨3344 + j.val, by omega⟩))
        (fun j => dkArg m c (ix3 (bat t) (pos t r) j) * gkArg m c (ix2 0 j)) l := by
  pointwise [k0_pay9, k0_pay10, k0_pay11, k0_pay12, k0_pay14, fused, root, level]
  simp only [block1, block3, block5]

theorem zero_9 (j : S1x128.Idx) : k0_pay2 (F := Ideal) j = 0 := by
  pointwise! [k0_pay2]

/-- The accumulator's step adds the tile's column sums to what it held. -/
theorem step_9 (x : FVec Ideal S512x128 .bf16) (d : FVec Ideal S512x128 .f32) (a : Vec Ideal S1x128 .f32) (j : S1x128.Idx) :
    k0_pay13 x d a j = a j + k0_pay13 x d (fun _ => 0) j := by
  pointwise [k0_pay13]

theorem index_9 (j : S1x128.Idx) : j = ix2 0 (j 1) := by
  funext a
  fin_cases a
  · exact Subsingleton.elim (α := Fin 1) _ _
  · rfl

theorem tile_9 (c : Dev nD) (t : Fin cfg0.N) (l : Fin 128) :
    (k0_pay13 (F := Ideal) (iblk m c 3 t) (iblk m c 1 t) (fun _ => 0) (ix2 0 l) : EReal)
      = ∑ r : Fin 512, projArg m c (ix3 (bat t) (pos t r) ⟨3344 + l.val, by omega⟩) *
        root (Ideal.ofBits .f32 0x43000000#32) (Ideal.ofBits .f32 0x358637BD#32)
          (fun j : Fin 128 => projArg m c (ix3 (bat t) (pos t r) ⟨3344 + j.val, by omega⟩)) *
          dkArg m c (ix3 (bat t) (pos t r) l) := by
  pointwise [k0_pay9, k0_pay10, k0_pay11, k0_pay12, k0_pay13, root, level]
  simp only [block1, block3, block5]
  refine Finset.sum_congr rfl fun r _ => mul_comm _ _

theorem final_9 (c : Dev nD) : (dats m 0 c).arrAt 9 (cfgs 0).N =
    Cert.ReferenceLatIdeal.Read.val_main_v84 (F := Ideal) (dkArg m c) (projArg m c) := by
  refine (dats m 0 c).arrAt_eq_of_after_last 9 t0_7 (by decide +kernel) _ fun j => ?_
  blk_simp
  rw [after0_9]
  obtain ⟨l, rfl⟩ : ∃ l : Fin 128, j = ix2 0 l := ⟨_, index_9 j⟩
  rw [ref_dgk, Pipeline.eq_sum_fin_of_reset_step_apply_last (fun n h => (outsAt0 m c n h).2.2.2) 8 (fun _ => 0) _
    (fun t h j => by rw [outsAt0_A m c t h]; frame_out; rw [step_9, zero_9])
    (fun t h j => by rw [outsAt0_B m c t h]; frame_out; rw [step_9]) (le_of_eq N_0) t0_7 rfl, zero_add]
  simp only [tile_9]
  exact Fin.sum_points_lanes_congr 4 fun t r ha hl => rfl

theorem final_7 (c : Dev nD) (X : S2x2048x5552.Idx → ℝ) (D : S2x2048x128.Idx → ℝ) (G : S1x128.Idx → ℝ)
    (hx : ∀ i, projArg m c i = X i) (hd : ∀ i, dkArg m c i = D i) (hg : ∀ i, gkArg m c i = G i) :
    (dats m 0 c).arrAt 7 (cfgs 0).N =
    Cert.ReferenceLatIdeal.Read.val_main_v88 (F := Ideal) (dkArg m c) (projArg m c) (gkArg m c) := by
  refine (dats m 0 c).arrAt_eq_of_covers 7 _ (by decide +kernel) fun t hf y => ?_
  obtain ⟨r, l, rfl⟩ : ∃ (r : Fin 512) (l : Fin 128), y = ix2 r l := ⟨_, _, index2 y⟩
  have hy : ((cfg0.win 7).blk t).view.emb (ix2 r l) = ix2 (row t r) l := by
    have e := idx t
    blk_ext [e, row]
  obtain ⟨e, he, hw⟩ := small_word
  rw [hy, ref_dk _ _ _ (bat t) (pos t r) (row t r) (row_eq t r) l,
    ← fused_eq_plain 128 e (by norm_num) he word_128 hw half_word
      (fun j => X (ix3 (bat t) (pos t r) ⟨3344 + j.val, by omega⟩))
      (fun j => D (ix3 (bat t) (pos t r) j) * G (ix2 0 j)) (fun j => hx _)
      (fun j => by rw [hd, hg, EReal.coe_mul]) l, ← tile_7]
  blk_simp
  rw [after0_7]
  by_cases h : t.val % 8 = 0
  · rw [outsAt0_A m c t h]
    dsimp only
    frame_out
  · rw [outsAt0_B m c t h]
    dsimp only
    frame_out

end Cert.KernelLatIdeal.Lat
-- ==== Proof.Finite.lean ====
module

public import Idealize.ShloMosaic.Lib.Pointwise
public import Idealize.ShloMosaic.Lib.Pipeline.Value
public import Idealize.ShloMosaic.Lib.ReduceAll

@[expose] public section

/-! An array that passes the finiteness test of a precondition is an array of real numbers. -/

namespace Cert.Finite

open Idealize.ShloMosaic

theorem real_of_abs (x : EReal) (e : FloatOps.cmpf (F := Ideal) (φ := .f32) .olt
      (FloatOps.absf (F := Ideal) (φ := .f32) x) (Ideal.ofBits .f32 0x7F800000#32) = 1#1) : x ≠ ⊥ ∧ x ≠ ⊤ := by
  have top : Ideal.ofBits .f32 0x7F800000#32 = (⊤ : EReal) := by simp [Ideal.ofBits, Ideal.ieee]
  rw [top] at e
  constructor <;> rintro rfl <;> simp [FloatOps.cmpf, FloatOps.absf, Ideal.cmp] at e

theorem both_one : ∀ a b : BitVec 1, a &&& b = 1#1 → a = 1#1 ∧ b = 1#1 := by decide

/-- The shape of a single word. -/
abbrev Word : Shape := ⟨0, ![]⟩

theorem bounded {s : Shape} {axes : List (Fin s.rank)} (y : FVec Ideal s .f32) (h1 : Word.BroadcastsInDim s ![])
    (h2 : s.ReducesTo axes Word) (h3 : 0 < Word.numel)
    (e : Host.reduce IntOp.andi (cmpf .olt (Host.absf y) (broadcastInDim s ![] h1 (constant Word .f32 0x7F800000#32)))
      (constantI Word 1 1#1) h2 h3 ix0 = 1#1) (i : s.Idx) : y i ≠ ⊥ ∧ y i ≠ ⊤ :=
  haveI : Subsingleton Word.Idx := ⟨fun a b => funext fun k => k.elim0⟩
  real_of_abs _ (Host.reduce_andi_all _ _ h2 h3 ix0 e i)

/-- The real entries of an array that passes the test. -/
theorem real {s : Shape} {axes : List (Fin s.rank)} (y : FVec Ideal s .f32) (h1 : Word.BroadcastsInDim s ![])
    (h2 : s.ReducesTo axes Word) (h3 : 0 < Word.numel)
    (e : Host.reduce IntOp.andi (cmpf .olt (Host.absf y) (broadcastInDim s ![] h1 (constant Word .f32 0x7F800000#32)))
      (constantI Word 1 1#1) h2 h3 ix0 = 1#1) : ∃ Y : s.Idx → ℝ, ∀ i, y i = (Y i : EReal) :=
  ⟨fun i => (y i).toReal, fun i => (EReal.coe_toReal (bounded y h1 h2 h3 e i).2 (bounded y h1 h2 h3 e i).1).symm⟩

end Cert.Finite
-- ==== Proof.LatClaim.lean ====
module

public import proofs.«01_k».proof.Defs
public import proofs.«01_k».proof.Proof.Lat
public import proofs.«01_k».proof.Proof.Finite
public import proofs.«01_k».proof.Proof.Gen.ReferenceLatIdeal.Run
public import proofs.«01_k».proof.Proof.Gen.Pre_finite_lat
public import Idealize.ShloMosaic.Init
public import Idealize.ShloMosaic.Adequacy

@[expose] public section

set_option maxRecDepth 16384

/-! The claims about the gradients of the latents' norms, from the two programs' runs. -/

namespace Cert.Proof.Lat

open Idealize.ShloMosaic Idealize.ShloMosaic.TcCoe Idealize.SL.Sem

section
open Cert.ReferenceLatIdeal Cert.ReferenceLatIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v86) = val_main_v86 (F := Ideal) (m ((c.tc : Thread nD τ).loc main_arg0)) (m ((c.tc : Thread nD τ).loc main_arg2)) (m ((c.tc : Thread nD τ).loc main_arg3))
      ∧ r.2.mem ((c.tc : Thread nD τ).loc main_v88) = val_main_v88 (F := Ideal) (m ((c.tc : Thread nD τ).loc main_arg1)) (m ((c.tc : Thread nD τ).loc main_arg2)) (m ((c.tc : Thread nD τ).loc main_arg4))
      ∧ r.2.mem ((c.tc : Thread nD τ).loc main_v46) = val_main_v46 (F := Ideal) (m ((c.tc : Thread nD τ).loc main_arg0)) (m ((c.tc : Thread nD τ).loc main_arg2))
      ∧ r.2.mem ((c.tc : Thread nD τ).loc main_v84) = val_main_v84 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Cert.ReferenceLatIdeal.Value.run m g)

end

theorem frame_reference : Cert.quiescent_ReferenceLatIdeal := fun m g _ =>
  (θ_run Cert.ReferenceLatIdeal.defs _ _).mono
    (fun r h => ⟨fun c => (h c).2.2.2.2, sem_eq_zero_of_no_sems (by decide) r.2⟩) (run_stages m g)

theorem algebraic : Cert.algebraic_KernelLatIdeal_ReferenceLatIdeal_pre_finite_lat := by
  intro m g m' g' hpre hagree
  refine ⟨_, _, _, _, Cert.KernelLatIdeal.Value.run_blocks m g,
    (θ_run Cert.ReferenceLatIdeal.defs _ _).mono (fun r h c => ?_) (run_stages m' g')⟩
  obtain ⟨e0, e1, e2, e3, e4⟩ := hagree c
  obtain ⟨h0, h1, h2, h3, hargs⟩ := h c
  rw [e0, e2, e3] at h0
  rw [e1, e2, e4] at h1
  rw [e0, e2] at h2
  rw [e1, e2] at h3
  have p := congrFun (hpre c) ix0
  unfold Cert.Pre_finite_lat.fn Cert.Pre_finite_lat.fn_part1 at p
  obtain ⟨p, p4⟩ := Finite.both_one _ _ p
  obtain ⟨p, p3⟩ := Finite.both_one _ _ p
  obtain ⟨p, p2⟩ := Finite.both_one _ _ p
  obtain ⟨p, p1⟩ := Finite.both_one _ _ p
  obtain ⟨A0, q0⟩ := Finite.real _ _ _ _ p
  obtain ⟨A1, q1⟩ := Finite.real _ _ _ _ p1
  obtain ⟨A2, q2⟩ := Finite.real _ _ _ _ p2
  obtain ⟨A3, q3⟩ := Finite.real _ _ _ _ p3
  obtain ⟨A4, q4⟩ := Finite.real _ _ _ _ p4
  exact ⟨h0.trans (KernelLatIdeal.Lat.final_6 m c A2 A0 A3 q2 q0 q3).symm,
    h1.trans (KernelLatIdeal.Lat.final_7 m c A2 A1 A4 q2 q1 q4).symm,
    h2.trans (KernelLatIdeal.Lat.final_8 m c).symm,
    h3.trans (KernelLatIdeal.Lat.final_9 m c).symm, hargs⟩

end Cert.Proof.Lat
-- ==== Proof.Tiles.lean ====
module

public import Idealize.ShloMosaic.Lib.Pipeline.ValueKit
public import Idealize.ShloMosaic.Lib.Claim
public import proofs.«01_k».proof.Proof.NormMath

@[expose] public section

/-! Rows of a batch of two sequences of 2048 positions, cut into eight tiles of 512 rows, and the gradients of a
modulated norm at a position. -/

noncomputable section

open Idealize.ShloMosaic

namespace Cert.Tiles

/-- The batch row of tile `n`. -/
def bat (n : ℕ) (h : n < 8) : Fin 2 := ⟨n / 4, by omega⟩

/-- The sequence position of row `r` of tile `n`. -/
def pos (n : ℕ) (r : Fin 512) : Fin 2048 := ⟨n % 4 * 512 + r.val, by omega⟩

theorem tile_index {a b : ℕ} (y : (⟨3, ![1, a, b]⟩ : Shape).Idx) : y = ix3 0 (y 1) (y 2) := by
  funext i
  fin_cases i
  · exact Subsingleton.elim (α := Fin 1) _ _
  · rfl
  · rfl

theorem lane_index {b : ℕ} (y : (⟨3, ![1, 1, b]⟩ : Shape).Idx) : y = ix3 0 0 (y 2) := by
  funext i
  fin_cases i
  · exact Subsingleton.elim (α := Fin 1) _ _
  · exact Subsingleton.elim (α := Fin 1) _ _
  · rfl

theorem gain_index {b : ℕ} (y : (⟨2, ![1, b]⟩ : Shape).Idx) : y = ix2 0 (y 1) := by
  funext i
  fin_cases i
  · exact Subsingleton.elim (α := Fin 1) _ _
  · rfl

/-- Four tiles of a batch row are its positions. -/
theorem sum_tiles (G : Fin 2 → Fin 2048 → EReal) (n : ℕ) (hn : n < 8) (h : ∀ s : Fin 4, 4 * (n / 4) + s.val < 8) :
    (∑ s : Fin 4, ∑ k : Fin 512, G (bat (4 * (n / 4) + s.val) (h s)) (pos (4 * (n / 4) + s.val) k))
      = ∑ l : Fin 2048, G (bat n hn) l := by
  refine Fin.sum_mul_add_congr fun s k hl => ?_
  have e0 : bat (4 * (n / 4) + s.val) (h s) = bat n hn := Fin.ext (by simp only [bat]; omega)
  have e1 : pos (4 * (n / 4) + s.val) k = ⟨s.val * 512 + k.val, hl⟩ := Fin.ext (by simp only [pos]; omega)
  rw [e0, e1]

open Cert.NormMath

variable (d x : FVec Ideal ⟨3, ![2, 2048, 1024]⟩ .f32) (g : FVec Ideal ⟨2, ![1, 1024]⟩ .f32) (w : FVec Ideal ⟨2, ![2, 1024]⟩ .f32)

/-- The factor that normalises a row. -/
def factor (b : Fin 2) (s : Fin 2048) : EReal :=
  root (Ideal.ofBits .f32 0x44800000#32) (Ideal.ofBits .f32 0x358637BD#32) (fun j : Fin 1024 => x (ix3 b s j))

/-- The gradient of the scale at a position. -/
def scaleTerm (l : Fin 1024) (b : Fin 2) (s : Fin 2048) : EReal :=
  x (ix3 b s l) * factor x b s * g (ix2 0 l) * d (ix3 b s l)

/-- The gradient of the gain at a position. -/
def gainTerm (l : Fin 1024) (b : Fin 2) (s : Fin 2048) : EReal :=
  x (ix3 b s l) * factor x b s * (d (ix3 b s l) * (1 + w (ix2 b l)))

end Cert.Tiles

end
-- ==== Proof.Norm1.lean ====
module

public import proofs.«01_k».proof.Proof.Gen.KernelNorm1Ideal.Value
public import Idealize.ShloMosaic.Lib.Pipeline.ValueKit
public import Idealize.ShloMosaic.Lib.Claim
public import proofs.«01_k».proof.Proof.Reads
public import proofs.«01_k».proof.Proof.NormMath
public import proofs.«01_k».proof.Proof.Tiles
public import proofs.«01_k».proof.Proof.Gen.ReferenceNorm1Ideal.Read

@[expose] public section

set_option maxRecDepth 16384

noncomputable section

open Idealize.ShloMosaic Idealize.ShloMosaic.TcCoe Idealize.SL.Sem
open Idealize.ShloMosaic.Pipeline (Dat)

namespace Cert.KernelNorm1Ideal.Norm1

open Cert.KernelNorm1Ideal Cert.KernelNorm1Ideal.Gen Cert.NormMath Cert.Tiles

variable (m : (ℓ : Loc nD τ sig) → Buf (Elt Ideal) ℓ)

/-- The gradient of the modulated row. -/
abbrev dhArg (c : Dev nD) : FVec Ideal S2x2048x1024 .f32 := m ((c : Thread nD τ).loc main_arg0)
/-- the row -/
abbrev xArg (c : Dev nD) : FVec Ideal S2x2048x1024 .f32 := m ((c : Thread nD τ).loc main_arg1)
/-- the gradient that comes past the norm -/
abbrev dxArg (c : Dev nD) : FVec Ideal S2x2048x1024 .f32 := m ((c : Thread nD τ).loc main_arg2)
/-- the gain and the scale -/
abbrev gArg (c : Dev nD) : FVec Ideal S1x1024 .f32 := m ((c : Thread nD τ).loc main_arg3)
abbrev scArg (c : Dev nD) : FVec Ideal S2x1024 .f32 := m ((c : Thread nD τ).loc main_arg4)

/-- The batch row a grid point works on. -/
abbrev row (t : Fin cfg0.N) : Fin 2 := bat t.val (t.isLt.trans_le (le_of_eq N_0))

theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![0, 0]
    ∧ win0_4.index t = ![t.val / 4, 0, 0]
    ∧ win0_5.index t = ![t.val / 4, t.val % 4, 0]
    ∧ win0_6.index t = ![t.val / 4, 0, 0]
    ∧ win0_7.index t = ![t.val / 4, 0, 0] :=
  (by decide +kernel : ∀ t : Fin grid0.N, _)

theorem block0 (c : Dev nD) (t : Fin cfg0.N) (r : Fin 512) (l : Fin 1024) :
    (iblk m c 0 t : FVec Ideal S1x512x1024 .f32) (ix3 0 r l) = dhArg m c (ix3 (row t) (pos t.val r) l) := by
  blk_point [iblk, V, idx t, row, bat, pos]

theorem block1 (c : Dev nD) (t : Fin cfg0.N) (r : Fin 512) (l : Fin 1024) :
    (iblk m c 1 t : FVec Ideal S1x512x1024 .f32) (ix3 0 r l) = xArg m c (ix3 (row t) (pos t.val r) l) := by
  blk_point [iblk, V, idx t, row, bat, pos]

theorem block2 (c : Dev nD) (t : Fin cfg0.N) (r : Fin 512) (l : Fin 1024) :
    (iblk m c 2 t : FVec Ideal S1x512x1024 .f32) (ix3 0 r l) = dxArg m c (ix3 (row t) (pos t.val r) l) := by
  blk_point [iblk, V, idx t, row, bat, pos]

theorem block3 (c : Dev nD) (t : Fin cfg0.N) (l : Fin 1024) :
    (iblk m c 3 t : FVec Ideal S1x1024 .f32) (ix2 0 l) = gArg m c (ix2 0 l) := by
  blk_point [iblk, V, idx t]

theorem block4 (c : Dev nD) (t : Fin cfg0.N) (l : Fin 1024) :
    (iblk m c 4 t : FVec Ideal S1x1x1024 .f32) (ix3 0 0 l) = scArg m c (ix2 (row t) l) := by
  blk_simp [iblk, idx t]
  entry_read
  pointwise
  blk_point [iblk, V, idx t, row, bat]

section Reference
open Cert.ReferenceNorm1Ideal.Read
variable (a0 a1 a2 : FVec Ideal S2x2048x1024 .f32) (a3 : FVec Ideal S1x1024 .f32) (a4 : FVec Ideal S2x1024 .f32)

theorem ref_dx (b : Fin 2) (s : Fin 2048) (l : Fin 1024) :
    (val_main_v56 (F := Ideal) a0 a1 a2 a3 a4 (ix3 b s l) : EReal)
      = a2 (ix3 b s l) + plain (Ideal.ofBits .f32 0x44800000#32) (Ideal.ofBits .f32 0x358637BD#32)
        (fun j : Fin 1024 => a1 (ix3 b s j)) (fun j => a0 (ix3 b s j) * (1 + a4 (ix2 b j)) * a3 (ix2 0 j))
        (Ideal.ofBits .f32 0xBF000000#32) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, plain, through, root, level]
  simp only [Fin.sum_univ_one, add_assoc]

theorem ref_dscale (b : Fin 2) (l : Fin 1024) :
    (val_main_v58 (F := Ideal) a0 a1 a3 (ix3 b 0 l) : EReal) = ∑ s : Fin 2048, scaleTerm a0 a1 a3 l b s := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, scaleTerm, factor, root, level]
  simp only [Fin.sum_univ_one]

theorem ref_dshift (b : Fin 2) (l : Fin 1024) :
    (val_main_v59 (F := Ideal) a0 (ix3 b 0 l) : EReal) = ∑ s : Fin 2048, a0 (ix3 b s l) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  simp only [Fin.sum_univ_one]

theorem ref_dgain (l : Fin 1024) :
    (val_main_v57 (F := Ideal) a0 a1 a4 (ix2 0 l) : EReal)
      = ∑ b : Fin 2, ∑ s : Fin 2048, gainTerm a0 a1 a4 l b s := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, gainTerm, factor, root, level, Reads.sum_leading]
  simp only [Fin.sum_univ_one]

end Reference

/-! ### What a tile computes -/

/-- The gradients of scale, shift and gain that one tile adds. -/
def part6 (c : Dev nD) (t : Fin cfg0.N) : FVec Ideal S1x1x1024 .f32 :=
  k0_pay10 (k0_pay9 (iblk m c 0 t) (iblk m c 3 t) (iblk m c 1 t) (fun _ => (0 : EReal)))
def part7 (c : Dev nD) (t : Fin cfg0.N) : FVec Ideal S1x1x1024 .f32 :=
  k0_pay11 (k0_pay5 (iblk m c 0 t)) (fun _ => (0 : EReal))
def part8 (c : Dev nD) (t : Fin cfg0.N) : FVec Ideal S1x1024 .f32 :=
  k0_pay13 (k0_pay5 (iblk m c 0 t)) (k0_pay8 (iblk m c 1 t)) (iblk m c 4 t) (fun _ => (0 : EReal))

theorem tile_5 (c : Dev nD) (t : Fin cfg0.N) (r : Fin 512) (l : Fin 1024) :
    (k0_pay1 (F := Ideal) (k0_pay14 (iblk m c 2 t)) (k0_pay15 (k0_pay5 (iblk m c 0 t)) (iblk m c 3 t)
        (k0_pay7 (iblk m c 1 t)) (k0_pay8 (iblk m c 1 t)) (iblk m c 4 t)) (ix3 0 r l) : EReal)
      = dxArg m c (ix3 (row t) (pos t.val r) l)
        + fused (Ideal.ofBits .f32 0x44800000#32) (Ideal.ofBits .f32 0x358637BD#32)
        (fun j : Fin 1024 => xArg m c (ix3 (row t) (pos t.val r) j))
        (fun j => dhArg m c (ix3 (row t) (pos t.val r) j) * (1 + scArg m c (ix2 (row t) j)) * gArg m c (ix2 0 j)) l := by
  pointwise [k0_pay1, k0_pay5, k0_pay6, k0_pay7, k0_pay8, k0_pay12, k0_pay14, k0_pay15, fused, root, level]
  simp only [block0, block1, block2, block3, block4]

theorem zero_6 (j : S1x1x1024.Idx) : k0_pay2 (F := Ideal) j = 0 := by
  pointwise! [k0_pay2]
theorem zero_7 (j : S1x1x1024.Idx) : k0_pay3 (F := Ideal) j = 0 := by
  pointwise! [k0_pay3]
theorem zero_8 (j : S1x1024.Idx) : k0_pay4 (F := Ideal) j = 0 := by
  pointwise! [k0_pay4]

theorem tile_6 (c : Dev nD) (t : Fin cfg0.N) (l : Fin 1024) :
    (part6 m c t (ix3 0 0 l) : EReal)
      = ∑ r : Fin 512, scaleTerm (dhArg m c) (xArg m c) (gArg m c) l (row t) (pos t.val r) := by
  pointwise [part6, k0_pay5, k0_pay6, k0_pay7, k0_pay8, k0_pay9, k0_pay10, scaleTerm, factor, root, level]
  simp only [block0, block1, block3]
  exact Finset.sum_congr rfl fun r _ => mul_comm _ _

theorem tile_7 (c : Dev nD) (t : Fin cfg0.N) (l : Fin 1024) :
    (part7 m c t (ix3 0 0 l) : EReal) = ∑ r : Fin 512, dhArg m c (ix3 (row t) (pos t.val r) l) := by
  pointwise [part7, k0_pay5, k0_pay11]
  simp only [block0]

theorem tile_8 (c : Dev nD) (t : Fin cfg0.N) (l : Fin 1024) :
    (part8 m c t (ix2 0 l) : EReal)
      = ∑ r : Fin 512, gainTerm (dhArg m c) (xArg m c) (scArg m c) l (row t) (pos t.val r) := by
  pointwise [part8, k0_pay5, k0_pay6, k0_pay7, k0_pay8, k0_pay12, k0_pay13, gainTerm, factor, root, level]
  simp only [block0, block1, block4]
  exact Finset.sum_congr rfl fun r _ => mul_comm _ _

/-! ### The accumulators add a tile's part to what they held -/

theorem step_6 (c : Dev nD) (t : Fin cfg0.N) (a : Vec Ideal S1x1x1024 .f32) (j : S1x1x1024.Idx) :
    k0_pay10 (F := Ideal) (k0_pay9 (iblk m c 0 t) (iblk m c 3 t) (iblk m c 1 t) a) j = a j + part6 m c t j := by
  obtain ⟨l, rfl⟩ : ∃ l : Fin 1024, j = ix3 0 0 l := ⟨_, lane_index j⟩
  pointwise [part6, k0_pay9, k0_pay10]

theorem step_7 (c : Dev nD) (t : Fin cfg0.N) (a : Vec Ideal S1x1x1024 .f32) (j : S1x1x1024.Idx) :
    k0_pay11 (F := Ideal) (k0_pay5 (iblk m c 0 t)) a j = a j + part7 m c t j := by
  obtain ⟨l, rfl⟩ : ∃ l : Fin 1024, j = ix3 0 0 l := ⟨_, lane_index j⟩
  pointwise [part7, k0_pay11]

theorem step_8 (c : Dev nD) (t : Fin cfg0.N) (a : Vec Ideal S1x1024 .f32) (j : S1x1024.Idx) :
    k0_pay13 (F := Ideal) (k0_pay5 (iblk m c 0 t)) (k0_pay8 (iblk m c 1 t)) (iblk m c 4 t) a j = a j + part8 m c t j := by
  obtain ⟨l, rfl⟩ : ∃ l : Fin 1024, j = ix2 0 l := ⟨_, gain_index j⟩
  pointwise [part8, k0_pay13]

/-! ### The results -/

theorem final_5 (c : Dev nD) (D X : S2x2048x1024.Idx → ℝ) (G : S1x1024.Idx → ℝ) (W : S2x1024.Idx → ℝ)
    (hd : ∀ i, dhArg m c i = D i) (hx : ∀ i, xArg m c i = X i) (hg : ∀ i, gArg m c i = G i) (hw : ∀ i, scArg m c i = W i) :
    (dats m 0 c).arrAt 5 (cfgs 0).N =
    Cert.ReferenceNorm1Ideal.Read.val_main_v56 (F := Ideal) (dhArg m c) (xArg m c) (dxArg m c) (gArg m c) (scArg m c) := by
  refine (dats m 0 c).arrAt_eq_of_covers 5 _ (by decide +kernel) fun t hf y => ?_
  obtain ⟨r, l, rfl⟩ : ∃ (r : Fin 512) (l : Fin 1024), y = ix3 0 r l := ⟨_, _, tile_index y⟩
  have hy : ((cfg0.win 5).blk t).view.emb (ix3 0 r l) = ix3 (row t) (pos t.val r) l := by
    have e := idx t
    blk_ext [e, row, bat, pos]
  obtain ⟨e, he, hs⟩ := small_word
  rw [hy, ref_dx, ← fused_eq_plain 1024 e (by norm_num) he word_1024 hs half_word
      (fun j => X (ix3 (row t) (pos t.val r) j))
      (fun j => D (ix3 (row t) (pos t.val r) j) * (1 + W (ix2 (row t) j)) * G (ix2 0 j)) (fun j => hx _)
      (fun j => by rw [hd, hg, hw]; norm_cast) l, ← tile_5]
  blk_simp
  rw [after0_5]
  by_cases h : t.val % 8 = 0
  · rw [outsAt0_A m c t (by omega) h]
    frame_out
  · by_cases h4 : t.val % 4 = 0
    · rw [outsAt0_C m c t h4 h]
      frame_out
    · rw [outsAt0_B m c t h4 h]
      frame_out

theorem final_6 (c : Dev nD) : (dats m 0 c).arrAt 6 (cfgs 0).N =
    Cert.ReferenceNorm1Ideal.Read.val_main_v58 (F := Ideal) (dhArg m c) (xArg m c) (gArg m c) := by
  refine (dats m 0 c).arrAt_eq_of_covers 6 _ (by decide +kernel) fun t hf y => ?_
  obtain ⟨l, rfl⟩ : ∃ l : Fin 1024, y = ix3 0 0 l := ⟨_, lane_index y⟩
  have hy : ((cfg0.win 6).blk t).view.emb (ix3 0 0 l) = ix3 (row t) 0 l := by
    have e := idx t
    blk_ext [e, row, bat]
  blk_simp
  rw [hy, ref_dscale, after0_6, Pipeline.eq_sum_fin_of_reset_step_apply_of_flush (fun n h => (outsAt0 m c n h).2.1) 4 (fun _ => 0) (part6 m c)
    (fun t h j => by
      by_cases h8 : t.val % 8 = 0
      · rw [outsAt0_A m c t h h8]; frame_out; rw [step_6, zero_6]
      · rw [outsAt0_C m c t h h8]; frame_out; rw [step_6, zero_6])
    (fun t h j => by rw [outsAt0_B m c t h (by omega)]; frame_out; rw [step_6]) t ((flush0_6 t).mp hf) _, zero_add]
  simp only [tile_6]
  exact sum_tiles (scaleTerm (dhArg m c) (xArg m c) (gArg m c) l) t.val _ _

theorem final_7 (c : Dev nD) : (dats m 0 c).arrAt 7 (cfgs 0).N =
    Cert.ReferenceNorm1Ideal.Read.val_main_v59 (F := Ideal) (dhArg m c) := by
  refine (dats m 0 c).arrAt_eq_of_covers 7 _ (by decide +kernel) fun t hf y => ?_
  obtain ⟨l, rfl⟩ : ∃ l : Fin 1024, y = ix3 0 0 l := ⟨_, lane_index y⟩
  have hy : ((cfg0.win 7).blk t).view.emb (ix3 0 0 l) = ix3 (row t) 0 l := by
    have e := idx t
    blk_ext [e, row, bat]
  blk_simp
  rw [hy, ref_dshift, after0_7, Pipeline.eq_sum_fin_of_reset_step_apply_of_flush (fun n h => (outsAt0 m c n h).2.2.1) 4 (fun _ => 0) (part7 m c)
    (fun t h j => by
      by_cases h8 : t.val % 8 = 0
      · rw [outsAt0_A m c t h h8]; frame_out; rw [step_7, zero_7]
      · rw [outsAt0_C m c t h h8]; frame_out; rw [step_7, zero_7])
    (fun t h j => by rw [outsAt0_B m c t h (by omega)]; frame_out; rw [step_7]) t ((flush0_7 t).mp hf) _, zero_add]
  simp only [tile_7]
  exact sum_tiles (fun b s => dhArg m c (ix3 b s l)) t.val _ _

theorem final_8 (c : Dev nD) : (dats m 0 c).arrAt 8 (cfgs 0).N =
    Cert.ReferenceNorm1Ideal.Read.val_main_v57 (F := Ideal) (dhArg m c) (xArg m c) (scArg m c) := by
  refine (dats m 0 c).arrAt_eq_of_after_last 8 t0_7 (by decide +kernel) _ fun j => ?_
  blk_simp
  rw [after0_8]
  obtain ⟨l, rfl⟩ : ∃ l : Fin 1024, j = ix2 0 l := ⟨_, gain_index j⟩
  rw [ref_dgain, Pipeline.eq_sum_fin_of_reset_step_apply_last (fun n h => (outsAt0 m c n h).2.2.2) 8 (fun _ => 0) (part8 m c)
    (fun t h j => by rw [outsAt0_A m c t (by omega) h]; frame_out; rw [step_8, zero_8])
    (fun t h j => by
      by_cases h4 : t.val % 4 = 0
      · rw [outsAt0_C m c t h4 h]; frame_out; rw [step_8]
      · rw [outsAt0_B m c t h4 h]; frame_out; rw [step_8]) (le_of_eq N_0) t0_7 rfl, zero_add]
  simp only [tile_8]
  exact Fin.sum_points_lanes_congr 4 fun t r ha hl => rfl

end Cert.KernelNorm1Ideal.Norm1

end
-- ==== Proof.Norm1Claim.lean ====
module

public import proofs.«01_k».proof.Defs
public import proofs.«01_k».proof.Proof.Norm1
public import proofs.«01_k».proof.Proof.Finite
public import proofs.«01_k».proof.Proof.Gen.ReferenceNorm1Ideal.Run
public import proofs.«01_k».proof.Proof.Gen.Pre_finite_norm1
public import Idealize.ShloMosaic.Init
public import Idealize.ShloMosaic.Adequacy

@[expose] public section

set_option maxRecDepth 16384

/-! The claims about the gradients of the first modulated norm, from the two programs' runs. -/

namespace Cert.Proof.Norm1

open Idealize.ShloMosaic Idealize.ShloMosaic.TcCoe Idealize.SL.Sem

section
open Cert.ReferenceNorm1Ideal Cert.ReferenceNorm1Ideal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg3))
      ∧ r.2.mem ((c.tc : Thread nD τ).loc main_v59) = val_main_v59 (F := Ideal) (m ((c.tc : Thread nD τ).loc main_arg0))
      ∧ r.2.mem ((c.tc : Thread nD τ).loc main_v57) = val_main_v57 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Cert.ReferenceNorm1Ideal.Value.run m g)

end

theorem frame_reference : Cert.quiescent_ReferenceNorm1Ideal := fun m g _ =>
  (θ_run Cert.ReferenceNorm1Ideal.defs _ _).mono
    (fun r h => ⟨fun c => (h c).2.2.2.2, sem_eq_zero_of_no_sems (by decide) r.2⟩) (run_stages m g)

theorem algebraic : Cert.algebraic_KernelNorm1Ideal_ReferenceNorm1Ideal_pre_finite_norm1 := by
  intro m g m' g' hpre hagree
  refine ⟨_, _, _, _, Cert.KernelNorm1Ideal.Value.run_blocks m g,
    (θ_run Cert.ReferenceNorm1Ideal.defs _ _).mono (fun r h c => ?_) (run_stages m' g')⟩
  obtain ⟨e0, e1, e2, e3, e4⟩ := hagree c
  obtain ⟨h0, h1, h2, h3, hargs⟩ := h c
  rw [e0, e1, e2, e3, e4] at h0
  rw [e0, e1, e3] at h1
  rw [e0] at h2
  rw [e0, e1, e4] at h3
  have p := congrFun (hpre c) ix0
  unfold Cert.Pre_finite_norm1.fn Cert.Pre_finite_norm1.fn_part1 at p
  obtain ⟨p, p4⟩ := Finite.both_one _ _ p
  obtain ⟨p, p3⟩ := Finite.both_one _ _ p
  obtain ⟨p, p1⟩ := Finite.both_one _ _ p
  obtain ⟨A0, q0⟩ := Finite.real _ _ _ _ p
  obtain ⟨A1, q1⟩ := Finite.real _ _ _ _ p1
  obtain ⟨A3, q3⟩ := Finite.real _ _ _ _ p3
  obtain ⟨A4, q4⟩ := Finite.real _ _ _ _ p4
  exact ⟨h0.trans (KernelNorm1Ideal.Norm1.final_5 m c A0 A1 A3 A4 q0 q1 q3 q4).symm,
    h1.trans (KernelNorm1Ideal.Norm1.final_6 m c).symm,
    h2.trans (KernelNorm1Ideal.Norm1.final_7 m c).symm,
    h3.trans (KernelNorm1Ideal.Norm1.final_8 m c).symm, hargs⟩

end Cert.Proof.Norm1
-- ==== Proof.Norm2.lean ====
module

public import proofs.«01_k».proof.Proof.Gen.KernelNorm2Ideal.Frame
public import Idealize.ShloMosaic.Lib.Pipeline.ValueKit
public import Idealize.ShloMosaic.Lib.Claim
public import proofs.«01_k».proof.Proof.Reads
public import proofs.«01_k».proof.Proof.NormMath
public import proofs.«01_k».proof.Proof.Tiles
public import proofs.«01_k».proof.Proof.Gen.ReferenceNorm2Ideal.Read

@[expose] public section

set_option maxRecDepth 16384

/-! The gated residual with its modulated norm (the first call), and the gradients of both (the second). -/

noncomputable section

open Idealize.ShloMosaic Idealize.ShloMosaic.TcCoe Idealize.SL.Sem
open Idealize.ShloMosaic.Pipeline (Dat)

namespace Cert.KernelNorm2Ideal.Norm2

open Cert.KernelNorm2Ideal Cert.KernelNorm2Ideal.Gen Cert.NormMath Cert.Tiles

/-- The batch row a grid point of either call works on. -/
abbrev row0 (t : Fin cfg0.N) : Fin 2 := bat t.val (t.isLt.trans_le (le_of_eq N_0))
abbrev row1 (t : Fin cfg1.N) : Fin 2 := bat t.val (t.isLt.trans_le (le_of_eq N_1))

theorem idx0 : ∀ t : Fin cfg0.N, win0_0.index t = ![t.val / 4, t.val % 4, 0]
    ∧ win0_1.index t = ![t.val / 4, t.val % 4, 0]
    ∧ win0_2.index t = ![t.val / 4, 0, 0]
    ∧ win0_3.index t = ![0, 0]
    ∧ win0_4.index t = ![t.val / 4, 0, 0]
    ∧ win0_5.index t = ![t.val / 4, 0, 0]
    ∧ win0_6.index t = ![t.val / 4, t.val % 4, 0]
    ∧ win0_7.index t = ![t.val / 4, t.val % 4, 0] :=
  (by decide +kernel : ∀ t : Fin grid0.N, _)

theorem idx1 : ∀ t : Fin cfg1.N, win1_0.index t = ![t.val / 4, t.val % 4, 0]
    ∧ win1_1.index t = ![t.val / 4, t.val % 4, 0]
    ∧ win1_2.index t = ![t.val / 4, t.val % 4, 0]
    ∧ win1_3.index t = ![0, 0]
    ∧ win1_4.index t = ![t.val / 4, 0, 0]
    ∧ win1_5.index t = ![t.val / 4, 0, 0]
    ∧ win1_6.index t = ![t.val / 4, t.val % 4, 0]
    ∧ win1_7.index t = ![t.val / 4, t.val % 4, 0]
    ∧ win1_8.index t = ![t.val / 4, 0, 0]
    ∧ win1_9.index t = ![t.val / 4, 0, 0]
    ∧ win1_11.index t = ![t.val / 4, 0, 0]
    ∧ win1_12.index t = ![t.val / 4, t.val % 4, 0] :=
  (by decide +kernel : ∀ t : Fin grid1.N, _)

section Reference
open Cert.ReferenceNorm2Ideal.Read
variable (a0 a1 a2 a3 : FVec Ideal S2x2048x1024 .f32) (a4 : FVec Ideal S2x1024 .f32) (a5 : FVec Ideal S1x1024 .f32)
  (a6 a7 : FVec Ideal S2x1024 .f32)

theorem ref_x1 (b : Fin 2) (s : Fin 2048) (l : Fin 1024) :
    (val_main_v3 (F := Ideal) a2 a3 a4 (ix3 b s l) : EReal) = a2 (ix3 b s l) + a4 (ix2 b l) * a3 (ix3 b s l) := by
  pointwise [val_main_v0, val_main_v1, val_main_v2, val_main_v3]

theorem ref_h2 (b : Fin 2) (s : Fin 2048) (l : Fin 1024) :
    (val_main_v68 (F := Ideal) a2 a3 a4 a5 a6 a7 (ix3 b s l) : EReal)
      = val_main_v3 (F := Ideal) a2 a3 a4 (ix3 b s l) * factor (val_main_v3 (F := Ideal) a2 a3 a4) b s * a5 (ix2 0 l) * (1 + a7 (ix2 b l)) + a6 (ix2 b l) := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, factor, root, level]
  try simp only [Fin.sum_univ_one]

theorem ref_dx (b : Fin 2) (s : Fin 2048) (l : Fin 1024) :
    (val_main_v59 (F := Ideal) a0 a1 a2 a3 a4 a5 a7 (ix3 b s l) : EReal)
      = a1 (ix3 b s l) + plain (Ideal.ofBits .f32 0x44800000#32) (Ideal.ofBits .f32 0x358637BD#32)
        (fun j : Fin 1024 => val_main_v3 (F := Ideal) a2 a3 a4 (ix3 b s j)) (fun j => a0 (ix3 b s j) * (1 + a7 (ix2 b j)) * a5 (ix2 0 j))
        (Ideal.ofBits .f32 0xBF000000#32) l := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, plain, through, root, level]
  simp only [Fin.sum_univ_one, add_assoc]

theorem ref_dscale (b : Fin 2) (l : Fin 1024) :
    (val_main_v69 (F := Ideal) a0 a2 a3 a4 a5 (ix3 b 0 l) : EReal) = ∑ s : Fin 2048, scaleTerm a0 (val_main_v3 (F := Ideal) a2 a3 a4) a5 l b s := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, scaleTerm, factor, root, level]
  simp only [Fin.sum_univ_one]

theorem ref_dshift (b : Fin 2) (l : Fin 1024) :
    (val_main_v70 (F := Ideal) a0 (ix3 b 0 l) : EReal) = ∑ s : Fin 2048, a0 (ix3 b s l) := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [Fin.sum_univ_one]

theorem ref_dgain (l : Fin 1024) :
    (val_main_v60 (F := Ideal) a0 a2 a3 a4 a7 (ix2 0 l) : EReal)
      = ∑ b : Fin 2, ∑ s : Fin 2048, gainTerm a0 (val_main_v3 (F := Ideal) a2 a3 a4) a7 l b s := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, gainTerm, factor, root, level, Reads.sum_leading]
  simp only [Fin.sum_univ_one]

theorem ref_dgate (b : Fin 2) (l : Fin 1024) :
    (val_main_v71 (F := Ideal) a0 a1 a2 a3 a4 a5 a7 (ix3 b 0 l) : EReal)
      = ∑ s : Fin 2048, val_main_v59 (F := Ideal) a0 a1 a2 a3 a4 a5 a7 (ix3 b s l) * a3 (ix3 b s l) := by
  pointwise [val_main_v60, val_main_v61, val_main_v62, val_main_v63, val_main_v64, val_main_v65, val_main_v66, val_main_v67, val_main_v68, val_main_v69, val_main_v70, val_main_v71, val_main_v72, val_main_cst_13, val_main_cst_14]
  simp only [Fin.sum_univ_one]

theorem ref_dmixed (b : Fin 2) (s : Fin 2048) (l : Fin 1024) :
    (val_main_v72 (F := Ideal) a0 a1 a2 a3 a4 a5 a7 (ix3 b s l) : EReal)
      = a4 (ix2 b l) * val_main_v59 (F := Ideal) a0 a1 a2 a3 a4 a5 a7 (ix3 b s l) := by
  pointwise [val_main_v0, val_main_v60, val_main_v61, val_main_v62, val_main_v63, val_main_v64, val_main_v65, val_main_v66, val_main_v67, val_main_v68, val_main_v69, val_main_v70, val_main_v71, val_main_v72]

end Reference

section Blocks
variable (V : (c : Dev nD) → (b : Ref sig .tc) → Buf (Elt Ideal) ((c : Thread nD τ).loc b))

theorem block0_0 (c : Dev nD) (t : Fin cfg0.N) (r : Fin 512) (l : Fin 1024) :
    (iblk0 V c 0 t : FVec Ideal S1x512x1024 .f32) (ix3 0 r l) = (V c main_arg2 : FVec Ideal S2x2048x1024 .f32) (ix3 (row0 t) (pos t.val r) l) := by
  blk_point [iblk0, idx0 t, row0, bat, pos]

theorem block0_1 (c : Dev nD) (t : Fin cfg0.N) (r : Fin 512) (l : Fin 1024) :
    (iblk0 V c 1 t : FVec Ideal S1x512x1024 .f32) (ix3 0 r l) = (V c main_arg3 : FVec Ideal S2x2048x1024 .f32) (ix3 (row0 t) (pos t.val r) l) := by
  blk_point [iblk0, idx0 t, row0, bat, pos]

theorem block0_2 (c : Dev nD) (t : Fin cfg0.N) (l : Fin 1024) :
    (iblk0 V c 2 t : FVec Ideal S1x1x1024 .f32) (ix3 0 0 l) = (V c main_v0 : FVec Ideal S2x1x1024 .f32) (ix3 (row0 t) 0 l) := by
  blk_point [iblk0, idx0 t, row0, bat, pos]

theorem block0_3 (c : Dev nD) (t : Fin cfg0.N) (l : Fin 1024) :
    (iblk0 V c 3 t : FVec Ideal S1x1024 .f32) (ix2 0 l) = (V c main_arg5 : FVec Ideal S1x1024 .f32) (ix2 0 l) := by
  blk_point [iblk0, idx0 t, row0, bat, pos]

theorem block0_4 (c : Dev nD) (t : Fin cfg0.N) (l : Fin 1024) :
    (iblk0 V c 4 t : FVec Ideal S1x1x1024 .f32) (ix3 0 0 l) = (V c main_v2 : FVec Ideal S2x1x1024 .f32) (ix3 (row0 t) 0 l) := by
  blk_point [iblk0, idx0 t, row0, bat, pos]

theorem block0_5 (c : Dev nD) (t : Fin cfg0.N) (l : Fin 1024) :
    (iblk0 V c 5 t : FVec Ideal S1x1x1024 .f32) (ix3 0 0 l) = (V c main_v1 : FVec Ideal S2x1x1024 .f32) (ix3 (row0 t) 0 l) := by
  blk_point [iblk0, idx0 t, row0, bat, pos]

theorem block1_0 (c : Dev nD) (t : Fin cfg1.N) (r : Fin 512) (l : Fin 1024) :
    (iblk1 V c 0 t : FVec Ideal S1x512x1024 .f32) (ix3 0 r l) = (V c main_arg0 : FVec Ideal S2x2048x1024 .f32) (ix3 (row1 t) (pos t.val r) l) := by
  blk_point [iblk1, idx1 t, row1, bat, pos]

theorem block1_1 (c : Dev nD) (t : Fin cfg1.N) (r : Fin 512) (l : Fin 1024) :
    (iblk1 V c 1 t : FVec Ideal S1x512x1024 .f32) (ix3 0 r l) = (V c main_v3_0 : FVec Ideal S2x2048x1024 .f32) (ix3 (row1 t) (pos t.val r) l) := by
  blk_point [iblk1, idx1 t, row1, bat, pos]

theorem block1_2 (c : Dev nD) (t : Fin cfg1.N) (r : Fin 512) (l : Fin 1024) :
    (iblk1 V c 2 t : FVec Ideal S1x512x1024 .f32) (ix3 0 r l) = (V c main_arg1 : FVec Ideal S2x2048x1024 .f32) (ix3 (row1 t) (pos t.val r) l) := by
  blk_point [iblk1, idx1 t, row1, bat, pos]

theorem block1_3 (c : Dev nD) (t : Fin cfg1.N) (l : Fin 1024) :
    (iblk1 V c 3 t : FVec Ideal S1x1024 .f32) (ix2 0 l) = (V c main_arg5 : FVec Ideal S1x1024 .f32) (ix2 0 l) := by
  blk_point [iblk1, idx1 t, row1, bat, pos]

theorem block1_4 (c : Dev nD) (t : Fin cfg1.N) (l : Fin 1024) :
    (iblk1 V c 4 t : FVec Ideal S1x1x1024 .f32) (ix3 0 0 l) = (V c main_v2 : FVec Ideal S2x1x1024 .f32) (ix3 (row1 t) 0 l) := by
  blk_point [iblk1, idx1 t, row1, bat, pos]

theorem block1_5 (c : Dev nD) (t : Fin cfg1.N) (l : Fin 1024) :
    (iblk1 V c 5 t : FVec Ideal S1x1x1024 .f32) (ix3 0 0 l) = (V c main_v0 : FVec Ideal S2x1x1024 .f32) (ix3 (row1 t) 0 l) := by
  blk_point [iblk1, idx1 t, row1, bat, pos]

theorem block1_6 (c : Dev nD) (t : Fin cfg1.N) (r : Fin 512) (l : Fin 1024) :
    (iblk1 V c 6 t : FVec Ideal S1x512x1024 .f32) (ix3 0 r l) = (V c main_arg3 : FVec Ideal S2x2048x1024 .f32) (ix3 (row1 t) (pos t.val r) l) := by
  blk_point [iblk1, idx1 t, row1, bat, pos]

/-- What the second call finds: its arguments, and the gated residual the first call left. -/
structure Entry (c : Dev nD) (a0 a1 a2 a3 : FVec Ideal S2x2048x1024 .f32) (a4 : FVec Ideal S2x1024 .f32)
    (a5 : FVec Ideal S1x1024 .f32) (a7 : FVec Ideal S2x1024 .f32) : Prop where
  dh : V c main_arg0 = a0
  dy : V c main_arg1 = a1
  x : V c main_v3_0 = Cert.ReferenceNorm2Ideal.Read.val_main_v3 (F := Ideal) a2 a3 a4
  mixed : V c main_arg3 = a3
  g : V c main_arg5 = a5
  gate (b : Fin 2) (l : Fin 1024) : (V c main_v0 : FVec Ideal S2x1x1024 .f32) (ix3 b 0 l) = a4 (ix2 b l)
  sc (b : Fin 2) (l : Fin 1024) : (V c main_v2 : FVec Ideal S2x1x1024 .f32) (ix3 b 0 l) = a7 (ix2 b l)

variable {c : Dev nD} {a0 a1 a2 a3 : FVec Ideal S2x2048x1024 .f32} {a4 : FVec Ideal S2x1024 .f32}
  {a5 : FVec Ideal S1x1024 .f32} {a7 : FVec Ideal S2x1024 .f32} (h : Entry V c a0 a1 a2 a3 a4 a5 a7)

open Cert.ReferenceNorm2Ideal.Read

/-- The gradient of the gated residual on a tile's rows: what comes past the norm, and what comes through it. -/
def past (c : Dev nD) (t : Fin cfg1.N) : FVec Ideal S512x1024 .f32 := k1_pay18 (iblk1 V c 2 t)
def inner (c : Dev nD) (t : Fin cfg1.N) : FVec Ideal S512x1024 .f32 :=
  k1_pay19 (k1_pay9 (iblk1 V c 0 t)) (iblk1 V c 3 t) (k1_pay11 (iblk1 V c 1 t)) (k1_pay12 (iblk1 V c 1 t)) (iblk1 V c 4 t)

/-- The gradients of scale, shift, gain and gate that one tile adds. -/
def part8 (c : Dev nD) (t : Fin cfg1.N) : FVec Ideal S1x1x1024 .f32 :=
  k1_pay14 (k1_pay13 (iblk1 V c 0 t) (iblk1 V c 3 t) (iblk1 V c 1 t) (fun _ => (0 : EReal)))
def part9 (c : Dev nD) (t : Fin cfg1.N) : FVec Ideal S1x1x1024 .f32 :=
  k1_pay15 (k1_pay9 (iblk1 V c 0 t)) (fun _ => (0 : EReal))
def part10 (c : Dev nD) (t : Fin cfg1.N) : FVec Ideal S1x1024 .f32 :=
  k1_pay17 (k1_pay9 (iblk1 V c 0 t)) (k1_pay12 (iblk1 V c 1 t)) (iblk1 V c 4 t) (fun _ => (0 : EReal))
def part11 (c : Dev nD) (t : Fin cfg1.N) : FVec Ideal S1x1x1024 .f32 :=
  k1_pay3 (past V c t) (inner V c t) (fun _ => (0 : EReal)) (iblk1 V c 6 t)

include h in
theorem tile_dx {D X M : S2x2048x1024.Idx → ℝ} {U W : S2x1024.Idx → ℝ} {G : S1x1024.Idx → ℝ}
    (hd : ∀ i, a0 i = D i) (hx : ∀ i, a2 i = X i) (hm : ∀ i, a3 i = M i) (hu : ∀ i, a4 i = U i) (hg : ∀ i, a5 i = G i)
    (hw : ∀ i, a7 i = W i) (t : Fin cfg1.N) (r : Fin 512) (l : Fin 1024) :
    (k1_pay1 (past V c t) (inner V c t) (ix2 r l) : EReal)
      = val_main_v59 (F := Ideal) a0 a1 a2 a3 a4 a5 a7 (ix3 (row1 t) (pos t.val r) l) := by
  obtain ⟨e, he, hs⟩ := small_word
  rw [ref_dx, ← fused_eq_plain 1024 e (by norm_num) he word_1024 hs half_word
      (fun j => X (ix3 (row1 t) (pos t.val r) j) + U (ix2 (row1 t) j) * M (ix3 (row1 t) (pos t.val r) j))
      (fun j => D (ix3 (row1 t) (pos t.val r) j) * (1 + W (ix2 (row1 t) j)) * G (ix2 0 j))
      (fun j => by rw [ref_x1, hx, hu, hm]; norm_cast)
      (fun j => by rw [hd, hg, hw]; norm_cast) l]
  pointwise [past, inner, k1_pay1, k1_pay9, k1_pay10, k1_pay11, k1_pay12, k1_pay16, k1_pay18, k1_pay19, fused, root, level]
  simp only [block1_0, block1_1, block1_2, block1_3, block1_4, h.dh, h.dy, h.x, h.g, h.sc]
  try simp only [add_comm]

theorem zero_8 (j : S1x1x1024.Idx) : k1_pay5 (F := Ideal) j = 0 := by
  pointwise! [k1_pay5]
theorem zero_9 (j : S1x1x1024.Idx) : k1_pay6 (F := Ideal) j = 0 := by
  pointwise! [k1_pay6]
theorem zero_10 (j : S1x1024.Idx) : k1_pay8 (F := Ideal) j = 0 := by
  pointwise! [k1_pay8]
theorem zero_11 (j : S1x1x1024.Idx) : k1_pay7 (F := Ideal) j = 0 := by
  pointwise! [k1_pay7]

include h in
theorem tile_8 (t : Fin cfg1.N) (l : Fin 1024) : (part8 V c t (ix3 0 0 l) : EReal)
    = ∑ r : Fin 512, scaleTerm a0 (val_main_v3 (F := Ideal) a2 a3 a4) a5 l (row1 t) (pos t.val r) := by
  pointwise [part8, k1_pay9, k1_pay10, k1_pay11, k1_pay12, k1_pay13, k1_pay14, scaleTerm, factor, root, level]
  simp only [block1_0, block1_1, block1_3, h.dh, h.x, h.g]
  exact Finset.sum_congr rfl fun r _ => mul_comm _ _

include h in
theorem tile_9 (t : Fin cfg1.N) (l : Fin 1024) : (part9 V c t (ix3 0 0 l) : EReal)
    = ∑ r : Fin 512, a0 (ix3 (row1 t) (pos t.val r) l) := by
  pointwise [part9, k1_pay9, k1_pay15]
  simp only [block1_0, h.dh]

include h in
theorem tile_10 (t : Fin cfg1.N) (l : Fin 1024) : (part10 V c t (ix2 0 l) : EReal)
    = ∑ r : Fin 512, gainTerm a0 (val_main_v3 (F := Ideal) a2 a3 a4) a7 l (row1 t) (pos t.val r) := by
  pointwise [part10, k1_pay9, k1_pay10, k1_pay11, k1_pay12, k1_pay16, k1_pay17, gainTerm, factor, root, level]
  simp only [block1_0, block1_1, block1_4, h.dh, h.x, h.sc]
  exact Finset.sum_congr rfl fun r _ => by rw [mul_comm, add_comm (1 : EReal)]

theorem tile_11 (t : Fin cfg1.N) (l : Fin 1024) : (part11 V c t (ix3 0 0 l) : EReal)
    = ∑ r : Fin 512, k1_pay1 (past V c t) (inner V c t) (ix2 r l) * (V c main_arg3 : FVec Ideal S2x2048x1024 .f32) (ix3 (row1 t) (pos t.val r) l) := by
  pointwise [part11, k1_pay3]
  simp only [block1_6]

theorem step_8 (t : Fin cfg1.N) (a : Vec Ideal S1x1x1024 .f32) (j : S1x1x1024.Idx) :
    k1_pay14 (F := Ideal) (k1_pay13 (iblk1 V c 0 t) (iblk1 V c 3 t) (iblk1 V c 1 t) a) j = a j + part8 V c t j := by
  obtain ⟨l, rfl⟩ : ∃ l : Fin 1024, j = ix3 0 0 l := ⟨_, lane_index j⟩
  pointwise [part8, k1_pay13, k1_pay14]

theorem step_9 (t : Fin cfg1.N) (a : Vec Ideal S1x1x1024 .f32) (j : S1x1x1024.Idx) :
    k1_pay15 (F := Ideal) (k1_pay9 (iblk1 V c 0 t)) a j = a j + part9 V c t j := by
  obtain ⟨l, rfl⟩ : ∃ l : Fin 1024, j = ix3 0 0 l := ⟨_, lane_index j⟩
  pointwise [part9, k1_pay15]

theorem step_10 (t : Fin cfg1.N) (a : Vec Ideal S1x1024 .f32) (j : S1x1024.Idx) :
    k1_pay17 (F := Ideal) (k1_pay9 (iblk1 V c 0 t)) (k1_pay12 (iblk1 V c 1 t)) (iblk1 V c 4 t) a j = a j + part10 V c t j := by
  obtain ⟨l, rfl⟩ : ∃ l : Fin 1024, j = ix2 0 l := ⟨_, gain_index j⟩
  pointwise [part10, k1_pay17]

theorem step_11 (t : Fin cfg1.N) (a : Vec Ideal S1x1x1024 .f32) (j : S1x1x1024.Idx) :
    k1_pay3 (F := Ideal) (k1_pay18 (iblk1 V c 2 t)) (k1_pay19 (k1_pay9 (iblk1 V c 0 t)) (iblk1 V c 3 t)
      (k1_pay11 (iblk1 V c 1 t)) (k1_pay12 (iblk1 V c 1 t)) (iblk1 V c 4 t)) a (iblk1 V c 6 t) j = a j + part11 V c t j := by
  obtain ⟨l, rfl⟩ : ∃ l : Fin 1024, j = ix3 0 0 l := ⟨_, lane_index j⟩
  pointwise [part11, k1_pay3, past, inner]

/-! ### The results of the second call -/

include h in
theorem final_7 {D X M : S2x2048x1024.Idx → ℝ} {U W : S2x1024.Idx → ℝ} {G : S1x1024.Idx → ℝ}
    (hd : ∀ i, a0 i = D i) (hx : ∀ i, a2 i = X i) (hm : ∀ i, a3 i = M i) (hu : ∀ i, a4 i = U i) (hg : ∀ i, a5 i = G i)
    (hw : ∀ i, a7 i = W i) : (dat1 V c).arrAt 7 cfg1.N = val_main_v59 (F := Ideal) a0 a1 a2 a3 a4 a5 a7 := by
  refine (dat1 V c).arrAt_eq_of_covers 7 _ (by decide +kernel) fun t hf y => ?_
  obtain ⟨r, l, rfl⟩ : ∃ (r : Fin 512) (l : Fin 1024), y = ix3 0 r l := ⟨_, _, tile_index y⟩
  have hy : ((cfg1.win 7).blk t).view.emb (ix3 0 r l) = ix3 (row1 t) (pos t.val r) l := by
    have e := idx1 t
    blk_ext [e, row1, bat, pos]
  have hp : ∀ v w : FVec Ideal S512x1024 .f32, (k1_pay2 v w (ix3 0 r l) : EReal) = k1_pay1 v w (ix2 r l) := fun v w => by
    pointwise [k1_pay2]
  rw [hy, ← tile_dx V h hd hx hm hu hg hw, ← hp]
  blk_simp
  rw [after1_7]
  by_cases h8 : t.val % 8 = 0
  · rw [outsAt1_A V c t (by omega) h8]
    frame_out
    rfl
  · by_cases h4 : t.val % 4 = 0
    · rw [outsAt1_C V c t h4 h8]
      frame_out
      rfl
    · rw [outsAt1_B V c t h4 h8]
      frame_out
      rfl

include h in
theorem final_8 : (dat1 V c).arrAt 8 cfg1.N = val_main_v69 (F := Ideal) a0 a2 a3 a4 a5 := by
  refine (dat1 V c).arrAt_eq_of_covers 8 _ (by decide +kernel) fun t hf y => ?_
  obtain ⟨l, rfl⟩ : ∃ l : Fin 1024, y = ix3 0 0 l := ⟨_, lane_index y⟩
  have hy : ((cfg1.win 8).blk t).view.emb (ix3 0 0 l) = ix3 (row1 t) 0 l := by
    have e := idx1 t
    blk_ext [e, row1, bat]
  blk_simp
  rw [hy, ref_dscale, after1_8, Pipeline.eq_sum_fin_of_reset_step_apply_of_flush (fun n h => (outsAt1 V c n h).2.1) 4 (fun _ => 0) (part8 V c)
    (fun t h j => by
      by_cases h8 : t.val % 8 = 0
      · rw [outsAt1_A V c t h h8]; frame_out; rw [step_8, zero_8]
      · rw [outsAt1_C V c t h h8]; frame_out; rw [step_8, zero_8])
    (fun t h j => by rw [outsAt1_B V c t h (by omega)]; frame_out; rw [step_8]) t ((flush1_8 t).mp hf) _, zero_add]
  simp only [tile_8 V h]
  exact sum_tiles (scaleTerm a0 (val_main_v3 (F := Ideal) a2 a3 a4) a5 l) t.val _ _

include h in
theorem final_9 : (dat1 V c).arrAt 9 cfg1.N = val_main_v70 (F := Ideal) a0 := by
  refine (dat1 V c).arrAt_eq_of_covers 9 _ (by decide +kernel) fun t hf y => ?_
  obtain ⟨l, rfl⟩ : ∃ l : Fin 1024, y = ix3 0 0 l := ⟨_, lane_index y⟩
  have hy : ((cfg1.win 9).blk t).view.emb (ix3 0 0 l) = ix3 (row1 t) 0 l := by
    have e := idx1 t
    blk_ext [e, row1, bat]
  blk_simp
  rw [hy, ref_dshift, after1_9, Pipeline.eq_sum_fin_of_reset_step_apply_of_flush (fun n h => (outsAt1 V c n h).2.2.1) 4 (fun _ => 0) (part9 V c)
    (fun t h j => by
      by_cases h8 : t.val % 8 = 0
      · rw [outsAt1_A V c t h h8]; frame_out; rw [step_9, zero_9]
      · rw [outsAt1_C V c t h h8]; frame_out; rw [step_9, zero_9])
    (fun t h j => by rw [outsAt1_B V c t h (by omega)]; frame_out; rw [step_9]) t ((flush1_9 t).mp hf) _, zero_add]
  simp only [tile_9 V h]
  exact sum_tiles (fun b s => a0 (ix3 b s l)) t.val _ _

include h in
theorem final_10 : (dat1 V c).arrAt 10 cfg1.N = val_main_v60 (F := Ideal) a0 a2 a3 a4 a7 := by
  refine (dat1 V c).arrAt_eq_of_after_last 10 t1_7 (by decide +kernel) _ fun j => ?_
  blk_simp
  rw [after1_10]
  obtain ⟨l, rfl⟩ : ∃ l : Fin 1024, j = ix2 0 l := ⟨_, gain_index j⟩
  rw [ref_dgain, Pipeline.eq_sum_fin_of_reset_step_apply_last (fun n h => (outsAt1 V c n h).2.2.2.1) 8 (fun _ => 0) (part10 V c)
    (fun t h j => by rw [outsAt1_A V c t (by omega) h]; frame_out; rw [step_10, zero_10])
    (fun t h j => by
      by_cases h4 : t.val % 4 = 0
      · rw [outsAt1_C V c t h4 h]; frame_out; rw [step_10]
      · rw [outsAt1_B V c t h4 h]; frame_out; rw [step_10]) (le_of_eq N_1) t1_7 rfl, zero_add]
  simp only [tile_10 V h]
  exact Fin.sum_points_lanes_congr 4 fun t r ha hl => rfl

include h in
theorem final_11 {D X M : S2x2048x1024.Idx → ℝ} {U W : S2x1024.Idx → ℝ} {G : S1x1024.Idx → ℝ}
    (hd : ∀ i, a0 i = D i) (hx : ∀ i, a2 i = X i) (hm : ∀ i, a3 i = M i) (hu : ∀ i, a4 i = U i) (hg : ∀ i, a5 i = G i)
    (hw : ∀ i, a7 i = W i) : (dat1 V c).arrAt 11 cfg1.N = val_main_v71 (F := Ideal) a0 a1 a2 a3 a4 a5 a7 := by
  refine (dat1 V c).arrAt_eq_of_covers 11 _ (by decide +kernel) fun t hf y => ?_
  obtain ⟨l, rfl⟩ : ∃ l : Fin 1024, y = ix3 0 0 l := ⟨_, lane_index y⟩
  have hy : ((cfg1.win 11).blk t).view.emb (ix3 0 0 l) = ix3 (row1 t) 0 l := by
    have e := idx1 t
    blk_ext [e, row1, bat]
  blk_simp
  rw [hy, ref_dgate, after1_11, Pipeline.eq_sum_fin_of_reset_step_apply_of_flush (fun n h => (outsAt1 V c n h).2.2.2.2.1) 4 (fun _ => 0) (part11 V c)
    (fun t h j => by
      by_cases h8 : t.val % 8 = 0
      · rw [outsAt1_A V c t h h8]; frame_out; rw [step_11, zero_11]
      · rw [outsAt1_C V c t h h8]; frame_out; rw [step_11, zero_11])
    (fun t h j => by rw [outsAt1_B V c t h (by omega)]; frame_out; rw [step_11]) t ((flush1_11 t).mp hf) _, zero_add]
  simp only [tile_11, tile_dx V h hd hx hm hu hg hw, h.mixed]
  exact sum_tiles (fun b s => val_main_v59 (F := Ideal) a0 a1 a2 a3 a4 a5 a7 (ix3 b s l) * a3 (ix3 b s l)) t.val _ _

include h in
theorem final_12 {D X M : S2x2048x1024.Idx → ℝ} {U W : S2x1024.Idx → ℝ} {G : S1x1024.Idx → ℝ}
    (hd : ∀ i, a0 i = D i) (hx : ∀ i, a2 i = X i) (hm : ∀ i, a3 i = M i) (hu : ∀ i, a4 i = U i) (hg : ∀ i, a5 i = G i)
    (hw : ∀ i, a7 i = W i) : (dat1 V c).arrAt 12 cfg1.N = val_main_v72 (F := Ideal) a0 a1 a2 a3 a4 a5 a7 := by
  refine (dat1 V c).arrAt_eq_of_covers 12 _ (by decide +kernel) fun t hf y => ?_
  obtain ⟨r, l, rfl⟩ : ∃ (r : Fin 512) (l : Fin 1024), y = ix3 0 r l := ⟨_, _, tile_index y⟩
  have hy : ((cfg1.win 12).blk t).view.emb (ix3 0 r l) = ix3 (row1 t) (pos t.val r) l := by
    have e := idx1 t
    blk_ext [e, row1, bat, pos]
  have hp : (k1_pay4 (past V c t) (inner V c t) (iblk1 V c 5 t) (ix3 0 r l) : EReal)
      = a4 (ix2 (row1 t) l) * k1_pay1 (past V c t) (inner V c t) (ix2 r l) := by
    pointwise [k1_pay4]
    simp only [block1_5, h.gate]
    exact mul_comm _ _
  rw [hy, ref_dmixed, ← tile_dx V h hd hx hm hu hg hw, ← hp]
  blk_simp
  rw [after1_12]
  by_cases h8 : t.val % 8 = 0
  · rw [outsAt1_A V c t (by omega) h8]
    frame_out
    rfl
  · by_cases h4 : t.val % 4 = 0
    · rw [outsAt1_C V c t h4 h8]
      frame_out
      rfl
    · rw [outsAt1_B V c t h4 h8]
      frame_out
      rfl

end Blocks

/-! ### The first call, and the state it leaves -/

variable (m : (ℓ : Loc nD τ sig) → Buf (Elt Ideal) ℓ) (ρ : Dev nD → PrngReg)

theorem gate_read (c : Dev nD) (b : Fin 2) (l : Fin 1024) :
    (V1 m ρ c main_v0 : FVec Ideal S2x1x1024 .f32) (ix3 b 0 l) = (m ((c : Thread nD τ).loc main_arg4) : FVec Ideal S2x1024 .f32) (ix2 b l) := by
  have e : V1 m ρ c main_v0 = broadcastInDim S2x1x1024 ![0, 2] bcast_S2x1024_S2x1x1024_0_2 (m ((c : Thread nD τ).loc main_arg4)) := by
    show StableHlo.after hostOps0 _ _ = _
    unfold hostOps0
    after_results_simp
  rw [e]
  pointwise

theorem shift_read (c : Dev nD) (b : Fin 2) (l : Fin 1024) :
    (V1 m ρ c main_v1 : FVec Ideal S2x1x1024 .f32) (ix3 b 0 l) = (m ((c : Thread nD τ).loc main_arg6) : FVec Ideal S2x1024 .f32) (ix2 b l) := by
  have e : V1 m ρ c main_v1 = broadcastInDim S2x1x1024 ![0, 2] bcast_S2x1024_S2x1x1024_0_2 (m ((c : Thread nD τ).loc main_arg6)) := by
    show StableHlo.after hostOps0 _ _ = _
    unfold hostOps0
    after_results_simp
  rw [e]
  pointwise

theorem scale_read (c : Dev nD) (b : Fin 2) (l : Fin 1024) :
    (V1 m ρ c main_v2 : FVec Ideal S2x1x1024 .f32) (ix3 b 0 l) = (m ((c : Thread nD τ).loc main_arg7) : FVec Ideal S2x1024 .f32) (ix2 b l) := by
  have e : V1 m ρ c main_v2 = broadcastInDim S2x1x1024 ![0, 2] bcast_S2x1024_S2x1x1024_0_2 (m ((c : Thread nD τ).loc main_arg7)) := by
    show StableHlo.after hostOps0 _ _ = _
    unfold hostOps0
    after_results_simp
  rw [e]
  pointwise

section First
variable (V : (c : Dev nD) → (b : Ref sig .tc) → Buf (Elt Ideal) ((c : Thread nD τ).loc b))

/-- What the first call finds. -/
structure Entry0 (c : Dev nD) (a2 a3 : FVec Ideal S2x2048x1024 .f32) (a4 : FVec Ideal S2x1024 .f32)
    (a5 : FVec Ideal S1x1024 .f32) (a6 a7 : FVec Ideal S2x1024 .f32) : Prop where
  x : V c main_arg2 = a2
  mixed : V c main_arg3 = a3
  g : V c main_arg5 = a5
  gate (b : Fin 2) (l : Fin 1024) : (V c main_v0 : FVec Ideal S2x1x1024 .f32) (ix3 b 0 l) = a4 (ix2 b l)
  shift (b : Fin 2) (l : Fin 1024) : (V c main_v1 : FVec Ideal S2x1x1024 .f32) (ix3 b 0 l) = a6 (ix2 b l)
  sc (b : Fin 2) (l : Fin 1024) : (V c main_v2 : FVec Ideal S2x1x1024 .f32) (ix3 b 0 l) = a7 (ix2 b l)

variable {c : Dev nD} {a2 a3 : FVec Ideal S2x2048x1024 .f32} {a4 : FVec Ideal S2x1024 .f32}
  {a5 : FVec Ideal S1x1024 .f32} {a6 a7 : FVec Ideal S2x1024 .f32} (h : Entry0 V c a2 a3 a4 a5 a6 a7)

open Cert.ReferenceNorm2Ideal.Read

include h in
theorem final_x1 : (dat0 V c).arrAt 6 cfg0.N = val_main_v3 (F := Ideal) a2 a3 a4 := by
  refine (dat0 V c).arrAt_eq_of_covers 6 _ (by decide +kernel) fun t hf y => ?_
  obtain ⟨r, l, rfl⟩ : ∃ (r : Fin 512) (l : Fin 1024), y = ix3 0 r l := ⟨_, _, tile_index y⟩
  have hy : ((cfg0.win 6).blk t).view.emb (ix3 0 r l) = ix3 (row0 t) (pos t.val r) l := by
    have e := idx0 t
    blk_ext [e, row0, bat, pos]
  rw [hy, ref_x1]
  blk_simp
  rw [after0_6]
  frame_out
  pointwise [k0_pay2, k0_pay3]
  simp only [block0_0, block0_1, block0_2, h.x, h.mixed, h.gate]

include h in
theorem final_h2 : (dat0 V c).arrAt 7 cfg0.N = val_main_v68 (F := Ideal) a2 a3 a4 a5 a6 a7 := by
  refine (dat0 V c).arrAt_eq_of_covers 7 _ (by decide +kernel) fun t hf y => ?_
  obtain ⟨r, l, rfl⟩ : ∃ (r : Fin 512) (l : Fin 1024), y = ix3 0 r l := ⟨_, _, tile_index y⟩
  have hy : ((cfg0.win 7).blk t).view.emb (ix3 0 r l) = ix3 (row0 t) (pos t.val r) l := by
    have e := idx0 t
    blk_ext [e, row0, bat, pos]
  rw [hy, ref_h2]
  blk_simp
  rw [after0_7]
  frame_out
  pointwise [k0_pay1, k0_pay2, k0_pay4, k0_pay5, factor, root, level]
  simp only [block0_0, block0_1, block0_2, block0_3, block0_4, block0_5, ref_x1, h.x, h.mixed, h.g, h.gate, h.shift, h.sc]

end First

theorem entry0 (c : Dev nD) : Entry0 (V1 m ρ) c (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) where
  x := W1_args m ρ c main_arg2 (by decide)
  mixed := W1_args m ρ c main_arg3 (by decide)
  g := W1_args m ρ c main_arg5 (by decide)
  gate b l := gate_read m ρ c b l
  shift b l := shift_read m ρ c b l
  sc b l := scale_read m ρ c b l

theorem entry (c : Dev nD) : Entry (V2 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) where
  dh := W2_args m ρ c main_arg0 (by decide)
  dy := W2_args m ρ c main_arg1 (by decide)
  x := (W2_arr m ρ c 6).trans (final_x1 (V1 m ρ) (entry0 m ρ c))
  mixed := W2_args m ρ c main_arg3 (by decide)
  g := W2_args m ρ c main_arg5 (by decide)
  gate b l := (congrFun (W2_of m ρ c main_v0 (by decide)) _).trans (gate_read m ρ c b l)
  sc b l := (congrFun (W2_of m ρ c main_v2 (by decide)) _).trans (scale_read m ρ c b l)

end Cert.KernelNorm2Ideal.Norm2

end
-- ==== Proof.Norm2Run.lean ====
module

public import proofs.«01_k».proof.Proof.Gen.KernelNorm2Ideal.Frame
public import Idealize.ShloMosaic.Lib.Claim
public import Idealize.ShloMosaic.Lib.Pipeline.ValueKit

@[expose] public section

set_option maxRecDepth 16384

/-! The run of the program's calls one after the other, with what every buffer holds at the end. -/

noncomputable section

namespace Cert.KernelNorm2Ideal.Norm2

open Cert.KernelNorm2Ideal Cert.KernelNorm2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- What the program runs over: its machine, with the pipelines' tokens as ghost state. -/
abbrev World := MT nD τ sig Unit (Elt Ideal) ℕ (UR sig nD τ) ℕ

/-- The tokens every staging cell is launched with. -/
abbrev tokens := initOf (Pipeline.cells cfgs cellOf_inj) (Pipeline.launchToks cfgs cellOf_inj)

theorem own_tokens : (ownU tokens : sProp World) ⊢ BI.own (emb₁ tokens) := .rfl

theorem no_more : (BI.emp : sProp World) ⊢ bigSep Finset.univ fun _ : Dev nD => (BI.emp : sProp World) := by
  rw [BI.bigSep_emp_const]

set_option backward.isDefEq.respectTransparency.types false in
/-- Every run ends with the results at what the calls' pipelines leave, and the arguments as they were. -/
theorem run_blocks : θ_run defs (onTc (τ := τ) (main (F := Ideal))) ⟨m, fun _ => 0, ρ⟩ fun r => ∀ c : Dev nD,
      r.2.mem ((c.tc : Thread nD τ).loc main_v3_0) = (dat0 (V1 m ρ) c).arrAt 6 cfg0.N
      ∧ r.2.mem ((c.tc : Thread nD τ).loc main_v3_1) = (dat0 (V1 m ρ) c).arrAt 7 cfg0.N
      ∧ r.2.mem ((c.tc : Thread nD τ).loc main_v4_0) = (dat1 (V2 m ρ) c).arrAt 7 cfg1.N
      ∧ r.2.mem ((c.tc : Thread nD τ).loc main_v4_1) = (dat1 (V2 m ρ) c).arrAt 8 cfg1.N
      ∧ r.2.mem ((c.tc : Thread nD τ).loc main_v4_2) = (dat1 (V2 m ρ) c).arrAt 9 cfg1.N
      ∧ r.2.mem ((c.tc : Thread nD τ).loc main_v4_3) = (dat1 (V2 m ρ) c).arrAt 10 cfg1.N
      ∧ r.2.mem ((c.tc : Thread nD τ).loc main_v4_4) = (dat1 (V2 m ρ) c).arrAt 11 cfg1.N
      ∧ r.2.mem ((c.tc : Thread nD τ).loc main_v4_5) = (dat1 (V2 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    0 (fun _ _ => rfl) (fun _ => BI.emp) tokens ?_ (fun c => iprop(StableHlo.held (c : Thread nD τ) (Pipeline.ucRefs τ sig) (W0 m ρ c) ∗ R c))
    (Tₙ m ρ) ⟨fun _ => .rfl, fun _ => .rfl, fun _ => .rfl, fun _ => .rfl⟩ ?_ (fun c s => ∀ b ∈ Pipeline.ucRefs τ sig, s.mem (c.tc.1, b) = W3 m ρ c b) ?_
    fun s h _ c => ⟨(h c _ (mem_uc main_v3_0 (by decide))).trans ((W3_of m ρ c main_v3_0 (by decide)).trans (W2_arr m ρ c 6)),
      (h c _ (mem_uc main_v3_1 (by decide))).trans ((W3_of m ρ c main_v3_1 (by decide)).trans (W2_arr m ρ c 7)),
      (h c _ (mem_uc main_v4_0 (by decide))).trans (W3_arr m ρ c 7),
      (h c _ (mem_uc main_v4_1 (by decide))).trans (W3_arr m ρ c 8),
      (h c _ (mem_uc main_v4_2 (by decide))).trans (W3_arr m ρ c 9),
      (h c _ (mem_uc main_v4_3 (by decide))).trans (W3_arr m ρ c 10),
      (h c _ (mem_uc main_v4_4 (by decide))).trans (W3_arr m ρ c 11),
      (h c _ (mem_uc main_v4_5 (by decide))).trans (W3_arr m ρ c 12),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c)⟩
  · iintro H
    imodintro
    isplitl [H]
    · iapply own_tokens
      iexact H
    · iapply no_more
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨H, -, Ho, -, Hp, -⟩, -⟩
    imodintro
    isplitl [H]
    · iexact H
    isplitl [Hp]
    · iexists _
      iexact Hp
    · iexists ∅
      iexact Ho
  · intro c s
    iintro ⟨⟨H, -⟩, Hs⟩
    unfold StableHlo.held
    imodintro
    iapply (pointsTo_read_all (Pipeline.ucRefs τ sig) (fun b => (c.tc.1, b)) (W3 m ρ c) s)
    isplitl [H] <;> iassumption

end Cert.KernelNorm2Ideal.Norm2

end
-- ==== Proof.Norm2Claim.lean ====
module

public import proofs.«01_k».proof.Defs
public import proofs.«01_k».proof.Proof.Norm2
public import proofs.«01_k».proof.Proof.Finite
public import proofs.«01_k».proof.Proof.Norm2Run
public import proofs.«01_k».proof.Proof.Gen.ReferenceNorm2Ideal.Run
public import proofs.«01_k».proof.Proof.Gen.Pre_finite_norm2
public import Idealize.ShloMosaic.Init
public import Idealize.ShloMosaic.Adequacy

@[expose] public section

set_option maxRecDepth 16384

/-! The claims about the gated residual, its modulated norm and their gradients, from the two programs' runs. -/

namespace Cert.Proof.Norm2

open Idealize.ShloMosaic Idealize.ShloMosaic.TcCoe Idealize.SL.Sem

section
open Cert.ReferenceNorm2Ideal Cert.ReferenceNorm2Ideal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = val_main_v3 (F := Ideal) (m ((c.tc : Thread nD τ).loc main_arg2)) (m ((c.tc : Thread nD τ).loc main_arg3)) (m ((c.tc : Thread nD τ).loc main_arg4))
      ∧ r.2.mem ((c.tc : Thread nD τ).loc main_v68) = val_main_v68 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v69) = val_main_v69 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v70) = val_main_v70 (F := Ideal) (m ((c.tc : Thread nD τ).loc main_arg0))
      ∧ r.2.mem ((c.tc : Thread nD τ).loc main_v60) = val_main_v60 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (Cert.ReferenceNorm2Ideal.Value.run m g)

end

theorem frame_reference : Cert.quiescent_ReferenceNorm2Ideal := fun m g _ =>
  (θ_run Cert.ReferenceNorm2Ideal.defs _ _).mono
    (fun r h => ⟨fun c => (h c).2.2.2.2.2.2.2.2, sem_eq_zero_of_no_sems (by decide) r.2⟩) (run_stages m g)

set_option maxHeartbeats 1000000 in
theorem algebraic : Cert.algebraic_KernelNorm2Ideal_ReferenceNorm2Ideal_pre_finite_norm2 := by
  intro m g m' g' hpre hagree
  refine ⟨_, _, _, _, _, _, _, _, Cert.KernelNorm2Ideal.Norm2.run_blocks m g,
    (θ_run Cert.ReferenceNorm2Ideal.defs _ _).mono (fun r h c => ?_) (run_stages m' g')⟩
  obtain ⟨e0, e1, e2, e3, e4, e5, e6, e7⟩ := hagree c
  obtain ⟨h0, h1, h2, h3, h4, h5, h6, h7, hargs⟩ := h c
  rw [e2, e3, e4] at h0
  rw [e2, e3, e4, e5, e6, e7] at h1
  rw [e0, e1, e2, e3, e4, e5, e7] at h2 h6 h7
  rw [e0, e2, e3, e4, e5] at h3
  rw [e0] at h4
  rw [e0, e2, e3, e4, e7] at h5
  have p := congrFun (hpre c) ix0
  unfold Cert.Pre_finite_norm2.fn Cert.Pre_finite_norm2.fn_part1 at p
  obtain ⟨p, p7⟩ := Finite.both_one _ _ p
  obtain ⟨p, p5⟩ := Finite.both_one _ _ p
  obtain ⟨p, p4⟩ := Finite.both_one _ _ p
  obtain ⟨p, p3⟩ := Finite.both_one _ _ p
  obtain ⟨p, p2⟩ := Finite.both_one _ _ p
  obtain ⟨A0, q0⟩ := Finite.real _ _ _ _ p
  obtain ⟨A2, q2⟩ := Finite.real _ _ _ _ p2
  obtain ⟨A3, q3⟩ := Finite.real _ _ _ _ p3
  obtain ⟨A4, q4⟩ := Finite.real _ _ _ _ p4
  obtain ⟨A5, q5⟩ := Finite.real _ _ _ _ p5
  obtain ⟨A7, q7⟩ := Finite.real _ _ _ _ p7
  exact ⟨h0.trans (KernelNorm2Ideal.Norm2.final_x1 _ (KernelNorm2Ideal.Norm2.entry0 m g c)).symm,
    h1.trans (KernelNorm2Ideal.Norm2.final_h2 _ (KernelNorm2Ideal.Norm2.entry0 m g c)).symm,
    h2.trans (KernelNorm2Ideal.Norm2.final_7 _ (KernelNorm2Ideal.Norm2.entry m g c) q0 q2 q3 q4 q5 q7).symm,
    h3.trans (KernelNorm2Ideal.Norm2.final_8 _ (KernelNorm2Ideal.Norm2.entry m g c)).symm,
    h4.trans (KernelNorm2Ideal.Norm2.final_9 _ (KernelNorm2Ideal.Norm2.entry m g c)).symm,
    h5.trans (KernelNorm2Ideal.Norm2.final_10 _ (KernelNorm2Ideal.Norm2.entry m g c)).symm,
    h6.trans (KernelNorm2Ideal.Norm2.final_11 _ (KernelNorm2Ideal.Norm2.entry m g c) q0 q2 q3 q4 q5 q7).symm,
    h7.trans (KernelNorm2Ideal.Norm2.final_12 _ (KernelNorm2Ideal.Norm2.entry m g c) q0 q2 q3 q4 q5 q7).symm, hargs⟩

end Cert.Proof.Norm2
-- ==== Proof.Loss.lean ====
module

public import proofs.«01_k».proof.Proof.Gen.KernelLossIdeal.Value
public import Idealize.ShloMosaic.Lib.Pipeline.ValueKit
public import Idealize.ShloMosaic.Lib.Claim
public import proofs.«01_k».proof.Proof.Reads
public import proofs.«01_k».proof.Proof.NormMath
public import proofs.«01_k».proof.Proof.Tiles
public import proofs.«01_k».proof.Proof.Gen.ReferenceLossIdeal.Read
public import proofs.«01_k».proof.Proof.Gen.ReferenceLossIdeal.Run

@[expose] public section

set_option maxRecDepth 16384

/-! The loss of the last block and its gradients: the squared errors are summed over eight tiles into eight rows, and
the rows are summed and scaled at the last tile. -/

noncomputable section

open Idealize.ShloMosaic Idealize.ShloMosaic.TcCoe Idealize.SL.Sem
open Idealize.ShloMosaic.Pipeline (Dat)

namespace Cert.KernelLossIdeal.Loss

open Cert.KernelLossIdeal Cert.KernelLossIdeal.Gen Cert.NormMath Cert.Tiles

/-! ### Constants and nonnegative sums -/

theorem word_2 : Ideal.ofBits .f32 0x40000000#32 = ((2 : ℝ) : EReal) := by
  simp [Ideal.ofBits, Ideal.ieee, -EReal.coe_mul]
  norm_num

theorem word_half : Ideal.ofBits .f32 0x3F000000#32 = ((1 / 2 : ℝ) : EReal) := by
  simp [Ideal.ofBits, Ideal.ieee, -EReal.coe_mul]
  norm_num

theorem word_mean : Ideal.ofBits .f32 0x3A800000#32 = ((1 / 1024 : ℝ) : EReal) := by
  simp [Ideal.ofBits, Ideal.ieee, -EReal.coe_mul]
  norm_num

theorem word_scale : Ideal.ofBits .f32 0x3A000000#32 = ((1 / 2048 : ℝ) : EReal) := by
  simp [Ideal.ofBits, Ideal.ieee, -EReal.coe_mul]
  norm_num

theorem square_nonneg (a : EReal) : 0 ≤ a * a := by
  rcases le_total 0 a with h | h
  · exact EReal.mul_nonneg h h
  · rw [← neg_mul_neg]
    exact EReal.mul_nonneg (by simpa using h) (by simpa using h)

/-- A factor goes into a sum of nonnegative terms. -/
theorem sum_mul_of_nonneg {ι : Type} (s : Finset ι) (f : ι → EReal) (hf : ∀ i, 0 ≤ f i) (c : EReal) :
    ∑ i ∈ s, f i * c = (∑ i ∈ s, f i) * c := by
  classical
  induction s using Finset.induction_on with
  | empty => simp
  | insert i s hi ih =>
    rw [Finset.sum_insert hi, Finset.sum_insert hi, ih,
      EReal.right_distrib_of_nonneg (hf i) (Finset.sum_nonneg fun j _ => hf j)]

/-- The gradient's constant. -/
theorem slope (d : EReal) :
    Ideal.div (Ideal.ofBits .f32 0x3F000000#32 * 1) (Ideal.ofBits .f32 0x44800000#32)
      * (Ideal.ofBits .f32 0x40000000#32 * d) = d * Ideal.ofBits .f32 0x3A800000#32 := by
  rw [word_1024, word_half, word_2, word_mean, Ideal.div_coe (by norm_num), mul_one, ← mul_assoc, mul_comm d]
  congr 1
  norm_cast
  norm_num

variable (x ff t : FVec Ideal ⟨3, ![2, 2048, 1024]⟩ .f32) (g : FVec Ideal ⟨2, ![2, 1024]⟩ .f32)

/-- The error at a position. -/
def err (b : Fin 2) (s : Fin 2048) (l : Fin 1024) : EReal :=
  x (ix3 b s l) + g (ix2 b l) * ff (ix3 b s l) - t (ix3 b s l)

/-- Its square. -/
def square (b : Fin 2) (s : Fin 2048) (l : Fin 1024) : EReal := err x ff t g b s l * err x ff t g b s l

/-- The gradient of the loss at a position. -/
def slopeAt (b : Fin 2) (s : Fin 2048) (l : Fin 1024) : EReal := err x ff t g b s l * Ideal.ofBits .f32 0x3A800000#32

/-- Half the mean of the squares, row by row, is the sum of all squares times one constant. -/
theorem mean_squares :
    Ideal.ofBits .f32 0x3F000000#32 * ∑ b : Fin 2, ∑ s : Fin 2048,
        Ideal.div (∑ l : Fin 1024, square x ff t g b s l) (Ideal.ofBits .f32 0x44800000#32)
      = (∑ b : Fin 2, ∑ s : Fin 2048, ∑ l : Fin 1024, square x ff t g b s l) * Ideal.ofBits .f32 0x3A000000#32 := by
  have row : ∀ b s, 0 ≤ ∑ l : Fin 1024, square x ff t g b s l := fun b s => Finset.sum_nonneg fun l _ => square_nonneg _
  have h : ∀ b s, Ideal.div (∑ l : Fin 1024, square x ff t g b s l) (Ideal.ofBits .f32 0x44800000#32)
      = (∑ l : Fin 1024, square x ff t g b s l) * ((1 / 1024 : ℝ) : EReal) := fun b s => by
    rw [word_1024, Ideal.div_coe (by norm_num)]
  simp only [h]
  have inner : ∀ b, ∑ s : Fin 2048, (∑ l : Fin 1024, square x ff t g b s l) * ((1 / 1024 : ℝ) : EReal)
      = (∑ s : Fin 2048, ∑ l : Fin 1024, square x ff t g b s l) * ((1 / 1024 : ℝ) : EReal) := fun b =>
    sum_mul_of_nonneg _ _ (row b) _
  simp only [inner]
  rw [sum_mul_of_nonneg _ _ (fun b => Finset.sum_nonneg fun s _ => row b s), word_half, word_scale, mul_comm, mul_assoc]
  congr 1
  norm_cast
  norm_num

section Reference
open Cert.ReferenceLossIdeal.Read

theorem ref_dy (b : Fin 2) (s : Fin 2048) (l : Fin 1024) :
    (val_main_v18 (F := Ideal) x ff g t (ix3 b s l) : EReal) = slopeAt x ff t g b s l := by
  refine Eq.trans ?_ (slope _)
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, val_main_cst_3, val_main_cst_4, val_main_cst_5, val_main_cst_6, val_main_cst_7, val_main_cst_8, err]

theorem ref_dff (b : Fin 2) (s : Fin 2048) (l : Fin 1024) :
    (val_main_v25 (F := Ideal) x ff g t (ix3 b s l) : EReal) = g (ix2 b l) * slopeAt x ff t g b s l := by
  rw [slopeAt, ← slope]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, val_main_cst_3, val_main_cst_4, val_main_cst_5, val_main_cst_6, val_main_cst_7, val_main_cst_8, err]

theorem ref_dgate (b : Fin 2) (l : Fin 1024) :
    (val_main_v26 (F := Ideal) x ff g t (ix3 b 0 l) : EReal)
      = ∑ s : Fin 2048, slopeAt x ff t g b s l * ff (ix3 b s l) := by
  simp only [slopeAt, ← slope]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, val_main_cst_3, val_main_cst_4, val_main_cst_5, val_main_cst_6, val_main_cst_7, val_main_cst_8, err]
  simp only [Fin.sum_univ_one]

theorem ref_loss (i : Fin 8) (j : Fin 128) :
    (val_main_v27 (F := Ideal) x ff g t (ix2 i j) : EReal)
      = (∑ b : Fin 2, ∑ s : Fin 2048, ∑ l : Fin 1024, square x ff t g b s l) * Ideal.ofBits .f32 0x3A000000#32 := by
  rw [← mean_squares]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, val_main_cst_3, val_main_cst_4, val_main_cst_5, val_main_cst_6, val_main_cst_7, val_main_cst_8, square, err]

end Reference

variable (m : (ℓ : Loc nD τ sig) → Buf (Elt Ideal) ℓ)

/-- The stream, the branch, its gate and the target. -/
abbrev xArg (c : Dev nD) : FVec Ideal S2x2048x1024 .f32 := m ((c : Thread nD τ).loc main_arg0)
abbrev ffArg (c : Dev nD) : FVec Ideal S2x2048x1024 .f32 := m ((c : Thread nD τ).loc main_arg1)
abbrev gArg (c : Dev nD) : FVec Ideal S2x1024 .f32 := m ((c : Thread nD τ).loc main_arg2)
abbrev tArg (c : Dev nD) : FVec Ideal S2x2048x1024 .f32 := m ((c : Thread nD τ).loc main_arg3)

/-- The batch row a grid point works on. -/
abbrev row (t : Fin cfg0.N) : Fin 2 := bat t.val (t.isLt.trans_le (le_of_eq N_0))

theorem idx : ∀ t : Fin cfg0.N, win0_0.index t = ![t.val / 4, t.val % 4, 0]
    ∧ win0_1.index t = ![t.val / 4, t.val % 4, 0]
    ∧ win0_2.index t = ![t.val / 4, 0, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, 0, 0]
    ∧ win0_7.index t = ![0, 0] :=
  (by decide +kernel : ∀ t : Fin grid0.N, _)

theorem block0 (c : Dev nD) (t : Fin cfg0.N) (r : Fin 512) (l : Fin 1024) :
    (iblk m c 0 t : FVec Ideal S1x512x1024 .f32) (ix3 0 r l) = xArg m c (ix3 (row t) (pos t.val r) l) := by
  blk_point [iblk, V, idx t, row, bat, pos]

theorem block1 (c : Dev nD) (t : Fin cfg0.N) (r : Fin 512) (l : Fin 1024) :
    (iblk m c 1 t : FVec Ideal S1x512x1024 .f32) (ix3 0 r l) = ffArg m c (ix3 (row t) (pos t.val r) l) := by
  blk_point [iblk, V, idx t, row, bat, pos]

theorem block2 (c : Dev nD) (t : Fin cfg0.N) (l : Fin 1024) :
    (iblk m c 2 t : FVec Ideal S1x1x1024 .f32) (ix3 0 0 l) = gArg m c (ix2 (row t) l) := by
  blk_simp [iblk, idx t]
  entry_read
  pointwise
  blk_point [iblk, V, idx t, row, bat]

theorem block3 (c : Dev nD) (t : Fin cfg0.N) (r : Fin 512) (l : Fin 1024) :
    (iblk m c 3 t : FVec Ideal S1x512x1024 .f32) (ix3 0 r l) = tArg m c (ix3 (row t) (pos t.val r) l) := by
  blk_point [iblk, V, idx t, row, bat, pos]

/-! ### What a tile computes -/

/-- The gradient of the gate and the eight rows of squares that one tile adds. -/
def part6 (c : Dev nD) (t : Fin cfg0.N) : FVec Ideal S1x1x1024 .f32 :=
  k0_pay2 (k0_pay7 (iblk m c 1 t)) (k0_pay11 (iblk m c 1 t) (iblk m c 2 t) (iblk m c 0 t) (iblk m c 3 t)) (fun _ => (0 : EReal))
def partS (c : Dev nD) (t : Fin cfg0.N) : FVec Ideal S8x1024 .f32 :=
  k0_pay10 (iblk m c 1 t) (iblk m c 2 t) (iblk m c 0 t) (iblk m c 3 t) (fun _ => (0 : EReal))

theorem zero_6 (j : S1x1x1024.Idx) : k0_pay5 (F := Ideal) j = 0 := by
  pointwise! [k0_pay5]
theorem zero_S (j : S8x1024.Idx) : k0_pay6 (F := Ideal) j = 0 := by
  pointwise! [k0_pay6]

theorem tile_4 (c : Dev nD) (t : Fin cfg0.N) (r : Fin 512) (l : Fin 1024) :
    (k0_pay1 (F := Ideal) (k0_pay11 (iblk m c 1 t) (iblk m c 2 t) (iblk m c 0 t) (iblk m c 3 t)) (ix3 0 r l) : EReal)
      = slopeAt (xArg m c) (ffArg m c) (tArg m c) (gArg m c) (row t) (pos t.val r) l := by
  pointwise [k0_pay1, k0_pay7, k0_pay8, k0_pay9, k0_pay11, slopeAt, err]
  simp only [block0, block1, block2, block3]

theorem tile_5 (c : Dev nD) (t : Fin cfg0.N) (r : Fin 512) (l : Fin 1024) :
    (k0_pay3 (F := Ideal) (k0_pay8 (iblk m c 2 t)) (k0_pay11 (iblk m c 1 t) (iblk m c 2 t) (iblk m c 0 t) (iblk m c 3 t)) (ix3 0 r l) : EReal)
      = gArg m c (ix2 (row t) l) * slopeAt (xArg m c) (ffArg m c) (tArg m c) (gArg m c) (row t) (pos t.val r) l := by
  pointwise [k0_pay3, k0_pay7, k0_pay8, k0_pay9, k0_pay11, slopeAt, err]
  simp only [block0, block1, block2, block3]
  exact mul_comm _ _

theorem tile_6 (c : Dev nD) (t : Fin cfg0.N) (l : Fin 1024) :
    (part6 m c t (ix3 0 0 l) : EReal) = ∑ r : Fin 512,
      slopeAt (xArg m c) (ffArg m c) (tArg m c) (gArg m c) (row t) (pos t.val r) l * ffArg m c (ix3 (row t) (pos t.val r) l) := by
  pointwise [part6, k0_pay2, k0_pay7, k0_pay8, k0_pay9, k0_pay11, slopeAt, err]
  simp only [block0, block1, block2, block3]

/-- Row `p` of eight takes every eighth row of the tile. -/
def every (p : Fin 8) (a : Fin 64) : Fin 512 := ⟨a.val * 8 + p.val, by omega⟩

theorem tile_S (c : Dev nD) (t : Fin cfg0.N) (p : Fin 8) (l : Fin 1024) :
    (partS m c t (ix2 p l) : EReal) = ∑ a : Fin 64,
      square (xArg m c) (ffArg m c) (tArg m c) (gArg m c) (row t) (pos t.val (every p a)) l := by
  pointwise [partS, k0_pay7, k0_pay8, k0_pay9, k0_pay10, square, err, every]
  simp only [block0, block1, block2, block3]

/-! ### The accumulators add a tile's part to what they held -/

theorem step_6 (c : Dev nD) (t : Fin cfg0.N) (a : Vec Ideal S1x1x1024 .f32) (j : S1x1x1024.Idx) :
    k0_pay2 (F := Ideal) (k0_pay7 (iblk m c 1 t)) (k0_pay11 (iblk m c 1 t) (iblk m c 2 t) (iblk m c 0 t) (iblk m c 3 t)) a j
      = a j + part6 m c t j := by
  obtain ⟨l, rfl⟩ : ∃ l : Fin 1024, j = ix3 0 0 l := ⟨_, lane_index j⟩
  pointwise [part6, k0_pay2]

theorem step_S (c : Dev nD) (t : Fin cfg0.N) (a : Vec Ideal S8x1024 .f32) (j : S8x1024.Idx) :
    k0_pay10 (F := Ideal) (iblk m c 1 t) (iblk m c 2 t) (iblk m c 0 t) (iblk m c 3 t) a j = a j + partS m c t j := by
  obtain ⟨p, l, rfl⟩ : ∃ (p : Fin 8) (l : Fin 1024), j = ix2 p l := ⟨j 0, j 1, by funext i; fin_cases i <;> rfl⟩
  pointwise [partS, k0_pay10]

/-- The block of the loss is the sum of the eight rows, scaled. -/
theorem total (v : FVec Ideal S8x1024 .f32) (i : Fin 8) (j : Fin 128) :
    (k0_pay4 (F := Ideal) v (ix2 i j) : EReal)
      = (∑ p : Fin 8, ∑ l : Fin 1024, v (ix2 p l)) * Ideal.ofBits .f32 0x3A000000#32 := by
  pointwise [k0_pay4]

/-! ### The results -/

theorem final_4 (c : Dev nD) : (dats m 0 c).arrAt 4 (cfgs 0).N =
    Cert.ReferenceLossIdeal.Read.val_main_v18 (F := Ideal) (xArg m c) (ffArg m c) (gArg m c) (tArg m c) := by
  refine (dats m 0 c).arrAt_eq_of_covers 4 _ (by decide +kernel) fun t hf y => ?_
  obtain ⟨r, l, rfl⟩ : ∃ (r : Fin 512) (l : Fin 1024), y = ix3 0 r l := ⟨_, _, tile_index y⟩
  have hy : ((cfg0.win 4).blk t).view.emb (ix3 0 r l) = ix3 (row t) (pos t.val r) l := by
    have e := idx t
    blk_ext [e, row, bat, pos]
  rw [hy, ref_dy, ← tile_4]
  blk_simp
  rw [after0_4]
  by_cases h7 : t.val % 8 = 7
  · rw [outsAt0_D m c t (by omega) (by omega) h7]; frame_out
  · by_cases h : t.val % 8 = 0
    · rw [outsAt0_A m c t (by omega) h h7]; frame_out
    · by_cases h4 : t.val % 4 = 0
      · rw [outsAt0_C m c t h4 h h7]; frame_out
      · rw [outsAt0_B m c t h4 h h7]; frame_out

theorem final_5 (c : Dev nD) : (dats m 0 c).arrAt 5 (cfgs 0).N =
    Cert.ReferenceLossIdeal.Read.val_main_v25 (F := Ideal) (xArg m c) (ffArg m c) (gArg m c) (tArg m c) := by
  refine (dats m 0 c).arrAt_eq_of_covers 5 _ (by decide +kernel) fun t hf y => ?_
  obtain ⟨r, l, rfl⟩ : ∃ (r : Fin 512) (l : Fin 1024), y = ix3 0 r l := ⟨_, _, tile_index y⟩
  have hy : ((cfg0.win 5).blk t).view.emb (ix3 0 r l) = ix3 (row t) (pos t.val r) l := by
    have e := idx t
    blk_ext [e, row, bat, pos]
  rw [hy, ref_dff, ← tile_5]
  blk_simp
  rw [after0_5]
  by_cases h7 : t.val % 8 = 7
  · rw [outsAt0_D m c t (by omega) (by omega) h7]; frame_out
  · by_cases h : t.val % 8 = 0
    · rw [outsAt0_A m c t (by omega) h h7]; frame_out
    · by_cases h4 : t.val % 4 = 0
      · rw [outsAt0_C m c t h4 h h7]; frame_out
      · rw [outsAt0_B m c t h4 h h7]; frame_out

theorem final_6 (c : Dev nD) : (dats m 0 c).arrAt 6 (cfgs 0).N =
    Cert.ReferenceLossIdeal.Read.val_main_v26 (F := Ideal) (xArg m c) (ffArg m c) (gArg m c) (tArg m c) := by
  refine (dats m 0 c).arrAt_eq_of_covers 6 _ (by decide +kernel) fun t hf y => ?_
  obtain ⟨l, rfl⟩ : ∃ l : Fin 1024, y = ix3 0 0 l := ⟨_, lane_index y⟩
  have hy : ((cfg0.win 6).blk t).view.emb (ix3 0 0 l) = ix3 (row t) 0 l := by
    have e := idx t
    blk_ext [e, row, bat]
  blk_simp
  rw [hy, ref_dgate, after0_6, Pipeline.eq_sum_fin_of_reset_step_apply_of_flush (fun n h => (outsAt0 m c n h).2.2.1) 4 (fun _ => 0) (part6 m c)
    (fun t h j => by
      by_cases h8 : t.val % 8 = 0
      · rw [outsAt0_A m c t h h8 (by omega)]; frame_out; rw [step_6, zero_6]
      · rw [outsAt0_C m c t h h8 (by omega)]; frame_out; rw [step_6, zero_6])
    (fun t h j => by
      by_cases h7 : t.val % 8 = 7
      · rw [outsAt0_D m c t h (by omega) h7]; frame_out; rw [step_6]
      · rw [outsAt0_B m c t h (by omega) h7]; frame_out; rw [step_6]) t ((flush0_6 t).mp hf) _, zero_add]
  simp only [tile_6]
  exact sum_tiles (fun b s => slopeAt (xArg m c) (ffArg m c) (tArg m c) (gArg m c) b s l * ffArg m c (ix3 b s l)) t.val _ _

/-- The rows of squares at the last tile. -/
theorem rows (c : Dev nD) (j : S8x1024.Idx) :
    ((outsAt0 m c t0_7.val t0_7.isLt).2.2.2.2 j : EReal) = ∑ t : Fin cfg0.N, partS m c t j := by
  rw [Pipeline.eq_sum_fin_of_reset_step_apply_last (fun n h => (outsAt0 m c n h).2.2.2.2) 8 (fun _ => 0) (partS m c)
    (fun t h j => by rw [outsAt0_A m c t (by omega) h (by omega)]; frame_out; rw [step_S, zero_S])
    (fun t h j => by
      by_cases h7 : t.val % 8 = 7
      · rw [outsAt0_D m c t (by omega) h h7]; frame_out; rw [step_S, Memref.IsWhole.read_unread (m := Memref.whole cc0_scratch0)]
      · by_cases h4 : t.val % 4 = 0
        · rw [outsAt0_C m c t h4 h h7]; frame_out; rw [step_S, Memref.IsWhole.read_unread (m := Memref.whole cc0_scratch0)]
        · rw [outsAt0_B m c t h4 h h7]; frame_out; rw [step_S, Memref.IsWhole.read_unread (m := Memref.whole cc0_scratch0)]) (le_of_eq N_0) t0_7 rfl, zero_add]

theorem block_eq (c : Dev nD) :
    (outsAt0 m c t0_7.val t0_7.isLt).2.2.2.1 = k0_pay4 (F := Ideal) (outsAt0 m c t0_7.val t0_7.isLt).2.2.2.2 := by
  rw [outsAt0_D m c t0_7 (by decide) (by decide) (by decide)]
  frame_out

/-- Eight rows of every eighth position, over eight tiles, are all positions. -/
theorem sum_rows (f : Fin 2 → Fin 2048 → Fin 1024 → EReal) :
    (∑ p : Fin 8, ∑ l : Fin 1024, ∑ t : Fin cfg0.N, ∑ a : Fin 64, f (row t) (pos t.val (every p a)) l)
      = ∑ b : Fin 2, ∑ s : Fin 2048, ∑ l : Fin 1024, f b s l := by
  have one : ∀ l : Fin 1024, (∑ p : Fin 8, ∑ t : Fin cfg0.N, ∑ a : Fin 64, f (row t) (pos t.val (every p a)) l)
      = ∑ b : Fin 2, ∑ s : Fin 2048, f b s l := fun l => by
    rw [Finset.sum_comm]
    refine Eq.trans (Finset.sum_congr rfl fun t _ => ?_)
      (Fin.sum_points_lanes_congr 4 (F := fun t r => f (row t) (pos t.val r) l) fun t r ha hl => rfl)
    rw [Finset.sum_comm]
    exact Fin.sum_mul_add_congr fun a p hl => rfl
  rw [Finset.sum_comm, Finset.sum_congr rfl fun l _ => one l, Finset.sum_comm]
  exact Finset.sum_congr rfl fun b _ => Finset.sum_comm

theorem final_7 (c : Dev nD) : (dats m 0 c).arrAt 7 (cfgs 0).N =
    Cert.ReferenceLossIdeal.Read.val_main_v27 (F := Ideal) (xArg m c) (ffArg m c) (gArg m c) (tArg m c) := by
  refine (dats m 0 c).arrAt_eq_of_after_last 7 t0_7 (by decide +kernel) _ fun j => ?_
  blk_simp
  rw [after0_7]
  obtain ⟨i, k, rfl⟩ : ∃ (i : Fin 8) (k : Fin 128), j = ix2 i k := ⟨j 0, j 1, by funext i; fin_cases i <;> rfl⟩
  rw [ref_loss, block_eq, total]
  simp only [rows, tile_S]
  rw [sum_rows]

end Cert.KernelLossIdeal.Loss

end
-- ==== Proof.LossClaim.lean ====
module

public import proofs.«01_k».proof.Defs
public import proofs.«01_k».proof.Proof.Loss
public import proofs.«01_k».proof.Proof.Finite
public import proofs.«01_k».proof.Proof.Gen.ReferenceLossIdeal.Run
public import Idealize.ShloMosaic.Init
public import Idealize.ShloMosaic.Adequacy

@[expose] public section

set_option maxRecDepth 16384

/-! The loss of the last block and its gradients. -/

namespace Cert.Proof.Loss

open Idealize.ShloMosaic Idealize.ShloMosaic.TcCoe Idealize.SL.Sem

section
open Cert.ReferenceLossIdeal Cert.ReferenceLossIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v18) = val_main_v18 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v25) = val_main_v25 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ReferenceLossIdeal.Value.run m g)

end

theorem frame_reference : Cert.quiescent_ReferenceLossIdeal := fun m g _ =>
  (θ_run Cert.ReferenceLossIdeal.defs _ _).mono
    (fun r h => ⟨fun c => (h c).2.2.2.2, sem_eq_zero_of_no_sems (by decide) r.2⟩) (run_stages m g)

theorem algebraic : Cert.algebraic_KernelLossIdeal_ReferenceLossIdeal := by
  intro m g m' g' _ hagree
  refine ⟨_, _, _, _, Cert.KernelLossIdeal.Value.run_blocks m g,
    (θ_run Cert.ReferenceLossIdeal.defs _ _).mono (fun r h c => ?_) (run_stages m' g')⟩
  obtain ⟨e0, e1, e2, e3⟩ := hagree c
  obtain ⟨h0, h1, h2, h3, hargs⟩ := h c
  rw [e0, e1, e2, e3] at h0 h1 h2 h3
  exact ⟨h0.trans (KernelLossIdeal.Loss.final_4 _ _).symm,
    h1.trans (KernelLossIdeal.Loss.final_5 _ _).symm,
    h2.trans (KernelLossIdeal.Loss.final_6 _ _).symm,
    h3.trans (KernelLossIdeal.Loss.final_7 _ _).symm, hargs⟩

end Cert.Proof.Loss
-- ==== Proof.Relu2.lean ====
module

public import proofs.«01_k».proof.Proof.Gen.KernelRelu2Ideal.Frame
public import Idealize.ShloMosaic.Lib.Pipeline.ValueKit
public import Idealize.ShloMosaic.Lib.Claim
public import proofs.«01_k».proof.Proof.Reads
public import proofs.«01_k».proof.Proof.Gen.ReferenceRelu2Ideal.Read
public import proofs.«01_k».proof.Proof.Gen.ReferenceRelu2Ideal.Run

@[expose] public section

set_option maxRecDepth 16384

/-! The squared ramp of the first dense layer, and the gradient through it that the second call recovers from the
square: twice the root of the square is the slope. -/

noncomputable section

open Idealize.ShloMosaic Idealize.ShloMosaic.TcCoe Idealize.SL.Sem
open Idealize.ShloMosaic.Pipeline (Dat)

namespace Cert.KernelRelu2Ideal.Relu2

open Cert.KernelRelu2Ideal Cert.KernelRelu2Ideal.Gen

/-! ### The slope of the squared ramp -/

/-- The root of a square is the ramp. -/
theorem sqrt_square {a : EReal} (h : 0 ≤ a) : Ideal.sqrt (a * a) = a := by
  induction a with
  | bot => simp at h
  | top => rfl
  | coe r =>
    have hr : (0 : ℝ) ≤ r := by exact_mod_cast h
    rw [← EReal.coe_mul, Ideal.sqrt_coe, if_neg (not_lt.mpr (mul_nonneg hr hr)), Real.sqrt_mul_self hr]

theorem slope (d a : EReal) (c : EReal) :
    d * (c * Ideal.sqrt (max a 0 * max a 0)) = if 0 < a then d * (c * max a 0) else 0 := by
  rw [sqrt_square (le_max_right a 0)]
  split
  · rfl
  · rw [max_eq_right (not_lt.mp ‹_›), mul_zero, mul_zero]

variable (dff h2 : FVec Ideal ⟨3, ![2, 2048, 1024]⟩ .f32) (w1 : FVec Ideal ⟨3, ![1, 1024, 4096]⟩ .f32)
  (w2 : FVec Ideal ⟨3, ![1, 4096, 1024]⟩ .f32)

/-- The batch row and the position of a flat row. -/
def lead (n : Fin 4096) : Fin 2 := ⟨n.val / 2048, by omega⟩
def within (n : Fin 4096) : Fin 2048 := ⟨n.val % 2048, by omega⟩

/-- The first layer before its ramp. -/
def pre (n j : Fin 4096) : EReal := ∑ k : Fin 1024, h2 (ix3 (lead n) (within n) k) * w1 (ix3 0 k j)

/-- The gradient that reaches the ramp. -/
def back (n j : Fin 4096) : EReal := ∑ k : Fin 1024, dff (ix3 (lead n) (within n) k) * w2 (ix3 0 j k)

section Reference
open Cert.ReferenceRelu2Ideal.Read

theorem ref_r (n j : Fin 4096) :
    (val_main_v12 (F := Ideal) h2 w1 (ix2 n j) : EReal) = max (pre h2 w1 n j) 0 * max (pre h2 w1 n j) 0 := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_call0_cst, val_main_call0_v0, val_main_cst, val_main_cst_0, val_main_cst_1, val_main_cst_2, pre, lead, within]

theorem ref_da (n j : Fin 4096) :
    (val_main_v18 (F := Ideal) dff h2 w1 w2 (ix2 n j) : EReal)
      = if 0 < pre h2 w1 n j then back dff w2 n j * (Ideal.ofBits .f32 0x40000000#32 * max (pre h2 w1 n j) 0) else 0 := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_call0_cst, val_main_call0_v0, val_main_cst, val_main_cst_0, val_main_cst_1, val_main_cst_2, pre, back, lead, within]

end Reference

/-- The rows and columns of a tile. -/
def at0 (n : ℕ) (h : n < 16) (r : Fin 1024) : Fin 4096 := ⟨n / 4 * 1024 + r.val, by omega⟩
def col0 (n : ℕ) (r : Fin 1024) : Fin 4096 := ⟨n % 4 * 1024 + r.val, by omega⟩

theorem lt0 (t : Fin cfg0.N) : t.val < 16 := t.isLt.trans_le (le_of_eq N_0)
theorem lt1 (t : Fin cfg1.N) : t.val < 16 := t.isLt.trans_le (le_of_eq N_1)

theorem idx0 : ∀ t : Fin cfg0.N, win0_0.index t = ![t.val / 4, 0]
    ∧ win0_1.index t = ![0, t.val % 4]
    ∧ win0_2.index t = ![t.val / 4, t.val % 4] :=
  (by decide +kernel : ∀ t : Fin grid0.N, _)

theorem idx1 : ∀ t : Fin cfg1.N, win1_0.index t = ![t.val / 4, 0]
    ∧ win1_1.index t = ![t.val % 4, 0]
    ∧ win1_2.index t = ![t.val / 4, t.val % 4]
    ∧ win1_3.index t = ![t.val / 4, t.val % 4] :=
  (by decide +kernel : ∀ t : Fin grid1.N, _)

theorem square_index (y : S1024x1024.Idx) : y = ix2 (y 0) (y 1) := by
  funext i
  fin_cases i <;> rfl

section Blocks
variable (V : (c : Dev nD) → (b : Ref sig .tc) → Buf (Elt Ideal) ((c : Thread nD τ).loc b))

theorem block0_0 (c : Dev nD) (t : Fin cfg0.N) (r l : Fin 1024) :
    (iblk0 V c 0 t : FVec Ideal S1024x1024 .bf16) (ix2 r l) = (V c main_v7 : FVec Ideal S4096x1024 .bf16) (ix2 (at0 t.val (lt0 t) r) l) := by
  blk_point [iblk0, idx0 t, at0]

theorem block0_1 (c : Dev nD) (t : Fin cfg0.N) (r l : Fin 1024) :
    (iblk0 V c 1 t : FVec Ideal S1024x1024 .bf16) (ix2 r l) = (V c main_v1 : FVec Ideal S1024x4096 .bf16) (ix2 r (col0 t.val l)) := by
  blk_point [iblk0, idx0 t, col0]

theorem block1_0 (c : Dev nD) (t : Fin cfg1.N) (r l : Fin 1024) :
    (iblk1 V c 0 t : FVec Ideal S1024x1024 .bf16) (ix2 r l) = (V c main_v5 : FVec Ideal S4096x1024 .bf16) (ix2 (at0 t.val (lt1 t) r) l) := by
  blk_point [iblk1, idx1 t, at0]

theorem block1_1 (c : Dev nD) (t : Fin cfg1.N) (r l : Fin 1024) :
    (iblk1 V c 1 t : FVec Ideal S1024x1024 .bf16) (ix2 r l) = (V c main_v3 : FVec Ideal S4096x1024 .bf16) (ix2 (col0 t.val r) l) := by
  blk_point [iblk1, idx1 t, col0]

theorem block1_2 (c : Dev nD) (t : Fin cfg1.N) (r l : Fin 1024) :
    (iblk1 V c 2 t : FVec Ideal S1024x1024 .bf16) (ix2 r l)
      = (V c main_v8 : FVec Ideal S4096x4096 .bf16) (ix2 (at0 t.val (lt1 t) r) (col0 t.val l)) := by
  blk_point [iblk1, idx1 t, at0, col0]

/-- What the first call finds: the normed stream and the first layer's weights. -/
structure Entry0 (c : Dev nD) : Prop where
  h (n : Fin 4096) (k : Fin 1024) : (V c main_v7 : FVec Ideal S4096x1024 .bf16) (ix2 n k) = h2 (ix3 (lead n) (within n) k)
  w (k : Fin 1024) (j : Fin 4096) : (V c main_v1 : FVec Ideal S1024x4096 .bf16) (ix2 k j) = w1 (ix3 0 k j)

/-- What the second call finds: the gradient, the second layer's weights, and the squares the first call left. -/
structure Entry1 (c : Dev nD) : Prop where
  d (n : Fin 4096) (k : Fin 1024) : (V c main_v5 : FVec Ideal S4096x1024 .bf16) (ix2 n k) = dff (ix3 (lead n) (within n) k)
  w (j : Fin 4096) (k : Fin 1024) : (V c main_v3 : FVec Ideal S4096x1024 .bf16) (ix2 j k) = w2 (ix3 0 j k)
  r : V c main_v8 = Cert.ReferenceRelu2Ideal.Read.val_main_v12 (F := Ideal) h2 w1

variable {dff h2 w1 w2}

open Cert.ReferenceRelu2Ideal.Read

theorem final_r {c : Dev nD} (h : Entry0 h2 w1 V c) :
    (dat0 V c).arrAt 2 cfg0.N = val_main_v12 (F := Ideal) h2 w1 := by
  refine (dat0 V c).arrAt_eq_of_covers 2 _ (by decide +kernel) fun t hf y => ?_
  obtain ⟨r, l, rfl⟩ : ∃ r l : Fin 1024, y = ix2 r l := ⟨_, _, square_index y⟩
  have hy : ((cfg0.win 2).blk t).view.emb (ix2 r l) = ix2 (at0 t.val (lt0 t) r) (col0 t.val l) := by
    have e := idx0 t
    blk_ext [e, at0, col0]
  rw [hy, ref_r]
  blk_simp
  rw [after0_2]
  frame_out
  pointwise [out0_2, k0_pay1, pre]
  simp only [block0_0, block0_1, h.h, h.w]

theorem final_da {c : Dev nD} (h : Entry1 dff h2 w1 w2 V c) :
    (dat1 V c).arrAt 3 cfg1.N = val_main_v18 (F := Ideal) dff h2 w1 w2 := by
  refine (dat1 V c).arrAt_eq_of_covers 3 _ (by decide +kernel) fun t hf y => ?_
  obtain ⟨r, l, rfl⟩ : ∃ r l : Fin 1024, y = ix2 r l := ⟨_, _, square_index y⟩
  have hy : ((cfg1.win 3).blk t).view.emb (ix2 r l) = ix2 (at0 t.val (lt1 t) r) (col0 t.val l) := by
    have e := idx1 t
    blk_ext [e, at0, col0]
  rw [hy, ref_da, ← slope, ← ref_r]
  blk_simp
  rw [after1_3]
  frame_out
  pointwise [out1_3, k1_pay1, back]
  simp only [block1_0, block1_1, block1_2, h.d, h.w, h.r]

end Blocks

variable (m : (ℓ : Loc nD τ sig) → Buf (Elt Ideal) ℓ) (ρ : Dev nD → PrngReg)

theorem entry0 (c : Dev nD) : Entry0 (m ((c : Thread nD τ).loc main_arg1)) (m ((c : Thread nD τ).loc main_arg2)) (V1 m ρ) c where
  h n k := by
    show StableHlo.after hostOps0 _ _ _ = _
    unfold hostOps0
    after_results_simp
    pointwise [lead, within]
  w k j := by
    show StableHlo.after hostOps0 _ _ _ = _
    unfold hostOps0
    after_results_simp
    pointwise

theorem grad_read (c : Dev nD) (n : Fin 4096) (k : Fin 1024) : (V1 m ρ c main_v5 : FVec Ideal S4096x1024 .bf16) (ix2 n k)
    = (m ((c : Thread nD τ).loc main_arg0) : FVec Ideal S2x2048x1024 .f32) (ix3 (lead n) (within n) k) := by
  show StableHlo.after hostOps0 _ _ _ = _
  unfold hostOps0
  after_results_simp
  pointwise [lead, within]

theorem weight_read (c : Dev nD) (j : Fin 4096) (k : Fin 1024) : (V1 m ρ c main_v3 : FVec Ideal S4096x1024 .bf16) (ix2 j k)
    = (m ((c : Thread nD τ).loc main_arg3) : FVec Ideal S1x4096x1024 .f32) (ix3 0 j k) := by
  show StableHlo.after hostOps0 _ _ _ = _
  unfold hostOps0
  after_results_simp
  pointwise

theorem entry1 (c : Dev nD) : Entry1 (m ((c : Thread nD τ).loc main_arg0)) (m ((c : Thread nD τ).loc main_arg1))
    (m ((c : Thread nD τ).loc main_arg2)) (m ((c : Thread nD τ).loc main_arg3)) (V2 m ρ) c where
  d n k := (congrFun (W2_of m ρ c main_v5 (by decide)) _).trans (grad_read m ρ c n k)
  w j k := (congrFun (W2_of m ρ c main_v3 (by decide)) _).trans (weight_read m ρ c j k)
  r := (W2_arr m ρ c 2).trans (final_r (V1 m ρ) (entry0 m ρ c))

end Cert.KernelRelu2Ideal.Relu2

end
-- ==== Proof.Relu2Run.lean ====
module

public import proofs.«01_k».proof.Proof.Gen.KernelRelu2Ideal.Frame
public import Idealize.ShloMosaic.Lib.Claim
public import Idealize.ShloMosaic.Lib.Pipeline.ValueKit

@[expose] public section

set_option maxRecDepth 16384

/-! The run of the program's calls one after the other, with what every buffer holds at the end. -/

noncomputable section

namespace Cert.KernelRelu2Ideal.Relu2

open Cert.KernelRelu2Ideal Cert.KernelRelu2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- What the program runs over: its machine, with the pipelines' tokens as ghost state. -/
abbrev World := MT nD τ sig Unit (Elt Ideal) ℕ (UR sig nD τ) ℕ

/-- The tokens every staging cell is launched with. -/
abbrev tokens := initOf (Pipeline.cells cfgs cellOf_inj) (Pipeline.launchToks cfgs cellOf_inj)

theorem own_tokens : (ownU tokens : sProp World) ⊢ BI.own (emb₁ tokens) := .rfl

theorem no_more : (BI.emp : sProp World) ⊢ bigSep Finset.univ fun _ : Dev nD => (BI.emp : sProp World) := by
  rw [BI.bigSep_emp_const]

set_option backward.isDefEq.respectTransparency.types false in
/-- Every run ends with the results at what the calls' pipelines leave, and the arguments as they were. -/
theorem run_blocks : θ_run defs (onTc (τ := τ) (main (F := Ideal))) ⟨m, fun _ => 0, ρ⟩ fun r => ∀ c : Dev nD,
      r.2.mem ((c.tc : Thread nD τ).loc main_v8) = (dat0 (V1 m ρ) c).arrAt 2 cfg0.N
      ∧ r.2.mem ((c.tc : Thread nD τ).loc main_v9) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    0 (fun _ _ => rfl) (fun _ => BI.emp) tokens ?_ (fun c => iprop(StableHlo.held (c : Thread nD τ) (Pipeline.ucRefs τ sig) (W0 m ρ c) ∗ R c))
    (Tₙ m ρ) ⟨fun _ => .rfl, fun _ => .rfl, fun _ => .rfl, fun _ => .rfl⟩ ?_ (fun c s => ∀ b ∈ Pipeline.ucRefs τ sig, s.mem (c.tc.1, b) = W3 m ρ c b) ?_
    fun s h _ c => ⟨(h c _ (mem_uc main_v8 (by decide))).trans ((W3_of m ρ c main_v8 (by decide)).trans (W2_arr m ρ c 2)),
      (h c _ (mem_uc main_v9 (by decide))).trans (W3_arr m ρ c 3),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c)⟩
  · iintro H
    imodintro
    isplitl [H]
    · iapply own_tokens
      iexact H
    · iapply no_more
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨H, -, Ho, -, Hp, -⟩, -⟩
    imodintro
    isplitl [H]
    · iexact H
    isplitl [Hp]
    · iexists _
      iexact Hp
    · iexists ∅
      iexact Ho
  · intro c s
    iintro ⟨⟨H, -⟩, Hs⟩
    unfold StableHlo.held
    imodintro
    iapply (pointsTo_read_all (Pipeline.ucRefs τ sig) (fun b => (c.tc.1, b)) (W3 m ρ c) s)
    isplitl [H] <;> iassumption

end Cert.KernelRelu2Ideal.Relu2

end
-- ==== Proof.Relu2Claim.lean ====
module

public import proofs.«01_k».proof.Defs
public import proofs.«01_k».proof.Proof.Relu2
public import proofs.«01_k».proof.Proof.Finite
public import proofs.«01_k».proof.Proof.Relu2Run
public import proofs.«01_k».proof.Proof.Gen.ReferenceRelu2Ideal.Run
public import Idealize.ShloMosaic.Init
public import Idealize.ShloMosaic.Adequacy

@[expose] public section

set_option maxRecDepth 16384

/-! The squared ramp and the gradient through it. -/

namespace Cert.Proof.Relu2

open Idealize.ShloMosaic Idealize.ShloMosaic.TcCoe Idealize.SL.Sem

section
open Cert.ReferenceRelu2Ideal Cert.ReferenceRelu2Ideal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v12) = val_main_v12 (F := Ideal) (m ((c.tc : Thread nD τ).loc main_arg1)) (m ((c.tc : Thread nD τ).loc main_arg2))
      ∧ r.2.mem ((c.tc : Thread nD τ).loc main_v18) = val_main_v18 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ReferenceRelu2Ideal.Value.run m g)

end

theorem frame_reference : Cert.quiescent_ReferenceRelu2Ideal := fun m g _ =>
  (θ_run Cert.ReferenceRelu2Ideal.defs _ _).mono
    (fun r h => ⟨fun c => (h c).2.2, sem_eq_zero_of_no_sems (by decide) r.2⟩) (run_stages m g)

theorem algebraic : Cert.algebraic_KernelRelu2Ideal_ReferenceRelu2Ideal := by
  intro m g m' g' _ hagree
  refine ⟨_, _, Cert.KernelRelu2Ideal.Relu2.run_blocks m g,
    (θ_run Cert.ReferenceRelu2Ideal.defs _ _).mono (fun r h c => ?_) (run_stages m' g')⟩
  obtain ⟨e0, e1, e2, e3⟩ := hagree c
  obtain ⟨h0, h1, hargs⟩ := h c
  rw [e1, e2] at h0
  rw [e0, e1, e2, e3] at h1
  exact ⟨h0.trans (KernelRelu2Ideal.Relu2.final_r _ (KernelRelu2Ideal.Relu2.entry0 m g c)).symm,
    h1.trans (KernelRelu2Ideal.Relu2.final_da _ (KernelRelu2Ideal.Relu2.entry1 m g c)).symm, hargs⟩

end Cert.Proof.Relu2
-- ==== Proof.QkRef.lean ====
module

public import Idealize.ShloMosaic.Lib.Pipeline.ValueKit
public import Idealize.ShloMosaic.Lib.Claim
public import proofs.«01_k».proof.Proof.Reads
public import proofs.«01_k».proof.Proof.NormMath
public import proofs.«01_k».proof.Proof.Gen.ReferenceQkIdeal.Read
public import proofs.«01_k».proof.Proof.Gen.ReferenceQkIdeal.Run

@[expose] public section

set_option maxRecDepth 16384

/-! The gradient of the per-head norms and the rotation, read row by row off the reference. -/

noncomputable section

open Idealize.ShloMosaic Idealize.ShloMosaic.TcCoe Idealize.SL.Sem

namespace Cert.ReferenceQkIdeal.Rows

open Cert.ReferenceQkIdeal Cert.ReferenceQkIdeal.Gen Cert.ReferenceQkIdeal.Read Cert.NormMath

/-- The gradient of a rotated row: sixteen pairs of lanes behind sixty-four lanes that stay. -/
def back (d : Fin 96 → EReal) (c s : Fin 16 → EReal) (l : Fin 96) : EReal :=
  if h0 : l.val < 64 then d l
  else if h1 : l.val < 80 then d ⟨l.val + 16, by omega⟩ * s ⟨l.val - 64, by omega⟩ + d l * c ⟨l.val - 64, by omega⟩
  else d l * c ⟨l.val - 80, by omega⟩ + -d ⟨l.val - 16, by omega⟩ * s ⟨l.val - 80, by omega⟩

variable (x0 x1 : FVec Ideal S2x2048x16x96 .f32) (x2 : FVec Ideal S2x2048x16x64 .f32) (x3 : FVec Ideal S2x2048x16x96 .f32)
  (x4 : FVec Ideal S2x2048x16x128 .f32) (x5 : FVec Ideal S2x2048x5552 .f32) (x6 : IVec S2x2048 32) (x7 x8 : FVec Ideal S1x96 .f32)
  (b : Fin 2) (s : Fin 2048) (h : Fin 16)

/-- The cosines and sines of a position. -/
def cosAt (k : Fin 16) : EReal := val_main_v66 (F := Ideal) x6 (ix3 b s k)
def sinAt (k : Fin 16) : EReal := val_main_v68 (F := Ideal) x6 (ix3 b s k)

/-- The rows that are normed: a head's query, and a head's key with the shared rotary lanes. -/
def qRow (l : Fin 96) : EReal := x3 (ix4 b s h l)
def kRow (l : Fin 96) : EReal := if h0 : l.val < 64 then x4 (ix4 b s h ⟨l.val, by omega⟩) else x5 (ix3 b s ⟨3408 + l.val, by omega⟩)

/-- The gradients behind the rotation. -/
def dRow (l : Fin 96) : EReal := back (fun j => x0 (ix4 b s h j)) (cosAt x6 b s) (sinAt x6 b s) l

theorem read_rot (l : Fin 96) : (val_main_v161 (F := Ideal) x0 x6 (ix4 b s h l) : EReal) = dRow x0 x6 b s h l := by
  unfold dRow back cosAt sinAt
  by_cases h0 : l.val < 64
  · rw [dif_pos h0]
    pointwise [val_main_v67, val_main_v69, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_cst_19, val_main_cst_20, val_main_cst_21, val_main_cst_22]
    split_ifs <;> first | omega | simp
  · rw [dif_neg h0]
    by_cases h1 : l.val < 80
    · rw [dif_pos h1]
      have e : 64 + (16 + (l.val - 64)) = l.val + 16 := by omega
      have e' : 64 + (l.val - 64) = l.val := by omega
      pointwise [val_main_v67, val_main_v69, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_cst_19, val_main_cst_20, val_main_cst_21, val_main_cst_22]
      split_ifs <;> first | omega | simp only [zero_add, add_zero, e, e']
    · rw [dif_neg h1]
      have e : 64 + (l.val - 80) = l.val - 16 := by omega
      have e' : 64 + (16 + (l.val - 80)) = l.val := by omega
      have e2 : l.val - 64 - 16 = l.val - 80 := by omega
      pointwise [val_main_v67, val_main_v69, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_cst_19, val_main_cst_20, val_main_cst_21, val_main_cst_22]
      split_ifs <;> first | omega | simp only [zero_add, add_zero, e, e', e2]

theorem rot_eq : val_main_v140 (F := Ideal) x1 x6 = val_main_v161 (F := Ideal) x1 x6 := rfl

theorem read_k (l : Fin 96) : (val_main_v13 (F := Ideal) x4 x5 (ix4 b s h l) : EReal) = kRow x4 x5 b s h l := by
  unfold kRow
  pointwise [val_main_v0, val_main_v1, val_main_v2, val_main_v3, val_main_v4, val_main_v5, val_main_v6, val_main_v7, val_main_v9, val_main_v10, val_main_v11, val_main_v12, val_main_v13]
  split_ifs with h0 h1
  · rfl
  · have e : 3472 + (l.val - 64) = 3408 + l.val := by omega
    simp only [e]
  · exact absurd rfl h1

theorem read_dq (l : Fin 96) : (val_main_v202 (F := Ideal) x0 x3 x6 x7 (ix4 b s h l) : EReal)
    = plain (Ideal.ofBits .f32 0x42C00000#32) (Ideal.ofBits .f32 0x358637BD#32) (qRow x3 b s h)
        (fun j => dRow x0 x6 b s h j * x7 (ix2 0 j)) (Ideal.ofBits .f32 0xBF000000#32) l := by
  simp only [← read_rot]
  pointwise [val_main_v14, val_main_v15, val_main_v16, val_main_v17, val_main_v18, val_main_v19, val_main_v20, val_main_v21, val_main_v22, val_main_v23, val_main_v24, val_main_v25, val_main_v26, val_main_v27, val_main_v28, val_main_v29, val_main_v30, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_cst, val_main_cst_0, val_main_cst_1, val_main_cst_2, val_main_cst_28, val_main_cst_29, val_main_cst_30, val_main_cst_31, val_main_cst_32, qRow, plain, through, root, level]
  simp only [Fin.sum_univ_one]

theorem read_dk (l : Fin 96) : (val_main_v181 (F := Ideal) x1 x4 x5 x6 x8 (ix4 b s h l) : EReal)
    = plain (Ideal.ofBits .f32 0x42C00000#32) (Ideal.ofBits .f32 0x358637BD#32) (kRow x4 x5 b s h)
        (fun j => dRow x1 x6 b s h j * x8 (ix2 0 j)) (Ideal.ofBits .f32 0xBF000000#32) l := by
  have hk : kRow x4 x5 b s h = fun j => val_main_v13 (F := Ideal) x4 x5 (ix4 b s h j) := funext fun j => (read_k x4 x5 b s h j).symm
  simp only [hk, ← read_rot, ← rot_eq]
  pointwise [val_main_v31, val_main_v32, val_main_v33, val_main_v34, val_main_v35, val_main_v36, val_main_v37, val_main_v38, val_main_v39, val_main_v40, val_main_v41, val_main_v42, val_main_v43, val_main_v44, val_main_v45, val_main_v46, val_main_v47, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_cst_3, val_main_cst_4, val_main_cst_5, val_main_cst_6, val_main_cst_23, val_main_cst_24, val_main_cst_25, val_main_cst_26, val_main_cst_27, plain, through, root, level]
  simp only [Fin.sum_univ_one]

/-! ### The five results -/

theorem zero_word : (FloatOps.sitofp (F := Ideal) .f32 (0#32 : BitVec 32) : EReal) = 0 := by
  show ((((0#32 : BitVec 32).toInt : ℤ) : ℝ) : EReal) = 0
  simp

theorem out_dq (q : Fin 4096) (eq : b.val * 2048 + s.val = q.val) (l : Fin 128) (m : Fin 2048) (em : h.val * 128 + l.val = m.val) :
    (val_main_v214 (F := Ideal) x0 x3 x6 x7 (ix2 q m) : EReal)
      = if hl : l.val < 96 then (val_main_v202 (F := Ideal) x0 x3 x6 x7 (ix4 b s h ⟨l.val, hl⟩) : EReal) else 0 := by
  pointwise [val_main_v212, val_main_v213, val_main_v214, val_main_call0_v0, val_main_c]
  have eb : q.val / 2048 = b.val := by omega
  have es : q.val % 2048 = s.val := by omega
  have eh : m.val / 128 = h.val := by omega
  have el : m.val % 128 = l.val := by omega
  simp only [eb, es, eh, el, Fin.eta, b.isLt, s.isLt, h.isLt, true_and, zero_word]

theorem out_dkv (q : Fin 4096) (eq : b.val * 2048 + s.val = q.val) (l : Fin 128) (m : Fin 2048) (em : h.val * 128 + l.val = m.val) :
    (val_main_v216 (F := Ideal) x1 x2 x4 x5 x6 x8 (ix2 q m) : EReal)
      = if hl : l.val < 64 then (val_main_v181 (F := Ideal) x1 x4 x5 x6 x8 (ix4 b s h ⟨l.val, by omega⟩) : EReal)
        else x2 (ix4 b s h ⟨l.val - 64, by omega⟩) := by
  pointwise [val_main_v204, val_main_v209, val_main_v210, val_main_v211, val_main_v215, val_main_v216, val_main_cst_35, val_main_cst_36]
  have eb : q.val / 2048 = b.val := by omega
  have es : q.val % 2048 = s.val := by omega
  have eh : m.val / 128 = h.val := by omega
  have el : m.val % 128 = l.val := by omega
  simp only [eb, es, eh, el, Fin.eta, b.isLt, s.isLt, h.isLt, true_and]
  split_ifs <;> first | omega | simp only [zero_add, add_zero]

theorem out_dkpe (q : Fin 4096) (eq : b.val * 2048 + s.val = q.val) (l : Fin 128) :
    (val_main_v218 (F := Ideal) x1 x4 x5 x6 x8 (ix2 q l) : EReal)
      = if hl : 64 ≤ l.val ∧ l.val < 96 then
          ∑ h : Fin 16, (val_main_v181 (F := Ideal) x1 x4 x5 x6 x8 (ix4 b s h ⟨l.val, hl.2⟩) : EReal)
        else 0 := by
  pointwise [val_main_v205, val_main_v206, val_main_v207, val_main_v208, val_main_v217, val_main_v218, val_main_cst_33, val_main_cst_34, val_main_call1_v0, val_main_c_37]
  have eb : q.val / 2048 = b.val := by omega
  have es : q.val % 2048 = s.val := by omega
  simp only [eb, es, Fin.eta, b.isLt, s.isLt, true_and, zero_word]
  split_ifs
  · have e : 64 + (l.val - 64) = l.val := by omega
    simp only [e, Fin.sum_univ_one]
  all_goals first | omega | rfl

theorem ofBits_zero : Ideal.ofBits .f32 0x00000000#32 = 0 := by
  simp [Ideal.ofBits, Ideal.ieee]

/-- A host sum of a rank-4 array over its three leading axes, read at a column: a triple sum. -/
theorem sum_leading3 {n0 n1 n2 n3 : Nat} (h : (⟨4, ![n0, n1, n2, n3]⟩ : Shape).ReducesTo [0, 1, 2] ⟨1, ![n3]⟩)
    (v : (⟨4, ![n0, n1, n2, n3]⟩ : Shape).Idx → EReal) (init : EReal) (l : Fin n3) :
    Ideal.hostReduceAdd h v init (ix1 l) = init + ∑ a : Fin n0, ∑ b : Fin n1, ∑ c : Fin n2, v (ix4 a b c l) := by
  unfold Ideal.hostReduceAdd
  congr 1
  simp only [← Fintype.sum_prod_type' (f := fun (b : Fin n1) (c : Fin n2) => v (ix4 _ b c l))]
  rw [← Fintype.sum_prod_type' (f := fun (a : Fin n0) (p : Fin n1 × Fin n2) => v (ix4 a p.1 p.2 l))]
  symm
  refine Finset.sum_bij (fun p _ => ix4 p.1 p.2.1 p.2.2 l) ?_ ?_ ?_ ?_
  · intro p _
    refine Finset.mem_filter.mpr ⟨Finset.mem_univ _, ?_⟩
    funext a
    fin_cases a
    rfl
  · intro p _ q _ e
    exact Prod.ext (congrFun e 0) (Prod.ext (congrFun e 1) (congrFun e 2))
  · intro i hi
    refine ⟨(i 0, i 1, i 2), Finset.mem_univ _, ?_⟩
    have h3 : i 3 = l := congrFun (Finset.mem_filter.mp hi).2 0
    funext a
    fin_cases a
    · rfl
    · rfl
    · rfl
    · exact h3.symm
  · intro p _
    rfl

theorem gain_q (l : Fin 96) : (val_main_v188 (F := Ideal) x0 x3 x6 (ix1 l) : EReal)
    = ∑ b : Fin 2, ∑ s : Fin 2048, ∑ h : Fin 16, (val_main_v183 (F := Ideal) x0 x3 x6 (ix4 b s h l) : EReal) := by
  have e1 : (val_main_v188 (F := Ideal) x0 x3 x6 (ix1 l) : EReal) = 0 + ∑ b : Fin 1, ∑ s : Fin 1, ∑ h : Fin 1,
      (val_main_v185 (F := Ideal) x0 x3 x6 (ix4 b s h l) : EReal) :=
    (sum_leading3 reducesTo_S1x1x1x96_S96_d0_1_2 _ _ l).trans (by rw [show (val_main_cst_29 (F := Ideal) _ : EReal) = 0 from ofBits_zero])
  have e2 : (val_main_v184 (F := Ideal) x0 x3 x6 (ix1 l) : EReal) = 0 + ∑ b : Fin 2, ∑ s : Fin 2048, ∑ h : Fin 16,
      (val_main_v183 (F := Ideal) x0 x3 x6 (ix4 b s h l) : EReal) :=
    (sum_leading3 reducesTo_S2x2048x16x96_S96_d0_1_2 _ _ l).trans (by rw [show (val_main_cst_28 (F := Ideal) _ : EReal) = 0 from ofBits_zero])
  rw [zero_add] at e1 e2
  rw [e1, ← e2]
  simp only [Fin.sum_univ_one]
  pointwise [val_main_v185]

theorem gain_k (l : Fin 96) : (val_main_v167 (F := Ideal) x1 x4 x5 x6 (ix1 l) : EReal)
    = ∑ b : Fin 2, ∑ s : Fin 2048, ∑ h : Fin 16, (val_main_v162 (F := Ideal) x1 x4 x5 x6 (ix4 b s h l) : EReal) := by
  have e1 : (val_main_v167 (F := Ideal) x1 x4 x5 x6 (ix1 l) : EReal) = 0 + ∑ b : Fin 1, ∑ s : Fin 1, ∑ h : Fin 1,
      (val_main_v164 (F := Ideal) x1 x4 x5 x6 (ix4 b s h l) : EReal) :=
    (sum_leading3 reducesTo_S1x1x1x96_S96_d0_1_2 _ _ l).trans (by rw [show (val_main_cst_24 (F := Ideal) _ : EReal) = 0 from ofBits_zero])
  have e2 : (val_main_v163 (F := Ideal) x1 x4 x5 x6 (ix1 l) : EReal) = 0 + ∑ b : Fin 2, ∑ s : Fin 2048, ∑ h : Fin 16,
      (val_main_v162 (F := Ideal) x1 x4 x5 x6 (ix4 b s h l) : EReal) :=
    (sum_leading3 reducesTo_S2x2048x16x96_S96_d0_1_2 _ _ l).trans (by rw [show (val_main_cst_23 (F := Ideal) _ : EReal) = 0 from ofBits_zero])
  rw [zero_add] at e1 e2
  rw [e1, ← e2]
  simp only [Fin.sum_univ_one]
  pointwise [val_main_v164]

theorem out_dgq (l : Fin 128) :
    (val_main_v219 (F := Ideal) x0 x3 x6 (ix2 0 l) : EReal)
      = if hl : l.val < 96 then
          ∑ b : Fin 2, ∑ s : Fin 2048, ∑ h : Fin 16, qRow x3 b s h ⟨l.val, hl⟩
            * root (Ideal.ofBits .f32 0x42C00000#32) (Ideal.ofBits .f32 0x358637BD#32) (qRow x3 b s h) * dRow x0 x6 b s h ⟨l.val, hl⟩
        else 0 := by
  simp only [← read_rot]
  have e : ∀ j : Fin 96, (val_main_v203 (F := Ideal) x0 x3 x6 (ix2 0 j) : EReal) = val_main_v188 (F := Ideal) x0 x3 x6 (ix1 j) := fun j => by pointwise [val_main_v203]
  have e' : (val_main_v219 (F := Ideal) x0 x3 x6 (ix2 0 l) : EReal) = if hl : l.val < 96 then (val_main_v203 (F := Ideal) x0 x3 x6 (ix2 0 ⟨l.val, hl⟩) : EReal) else 0 := by
    pointwise [val_main_v219, val_main_call2_v0, val_main_c_38]
    simp only [zero_word]
  rw [e']
  simp only [e, gain_q]
  pointwise [val_main_v14, val_main_v15, val_main_v16, val_main_v17, val_main_v18, val_main_v19, val_main_v20, val_main_v21, val_main_v22, val_main_v23, val_main_v24, val_main_v25, val_main_v26, val_main_v27, val_main_v28, val_main_v183, val_main_cst, val_main_cst_0, val_main_cst_1, val_main_cst_2, qRow, root, level]

theorem out_dgk (l : Fin 128) :
    (val_main_v220 (F := Ideal) x1 x4 x5 x6 (ix2 0 l) : EReal)
      = if hl : l.val < 96 then
          ∑ b : Fin 2, ∑ s : Fin 2048, ∑ h : Fin 16, kRow x4 x5 b s h ⟨l.val, hl⟩
            * root (Ideal.ofBits .f32 0x42C00000#32) (Ideal.ofBits .f32 0x358637BD#32) (kRow x4 x5 b s h) * dRow x1 x6 b s h ⟨l.val, hl⟩
        else 0 := by
  have hk : kRow x4 x5 = fun b s h j => val_main_v13 (F := Ideal) x4 x5 (ix4 b s h j) := by
    funext b s h j
    exact (read_k x4 x5 b s h j).symm
  simp only [hk, ← read_rot, ← rot_eq]
  have e : ∀ j : Fin 96, (val_main_v182 (F := Ideal) x1 x4 x5 x6 (ix2 0 j) : EReal) = val_main_v167 (F := Ideal) x1 x4 x5 x6 (ix1 j) := fun j => by pointwise [val_main_v182]
  have e' : (val_main_v220 (F := Ideal) x1 x4 x5 x6 (ix2 0 l) : EReal) = if hl : l.val < 96 then (val_main_v182 (F := Ideal) x1 x4 x5 x6 (ix2 0 ⟨l.val, hl⟩) : EReal) else 0 := by
    pointwise [val_main_v220, val_main_call3_v0, val_main_c_39]
    simp only [zero_word]
  rw [e']
  simp only [e, gain_k]
  pointwise [val_main_v31, val_main_v32, val_main_v33, val_main_v34, val_main_v35, val_main_v36, val_main_v37, val_main_v38, val_main_v39, val_main_v40, val_main_v41, val_main_v42, val_main_v43, val_main_v44, val_main_v45, val_main_v162, val_main_cst_3, val_main_cst_4, val_main_cst_5, val_main_cst_6, root, level]

end Cert.ReferenceQkIdeal.Rows

end
-- ==== Proof.Qk.lean ====
module

public import proofs.«01_k».proof.Proof.Gen.KernelQkIdeal.Value
public import Idealize.ShloMosaic.Lib.Pipeline.ValueKit
public import Idealize.ShloMosaic.Lib.Claim
public import proofs.«01_k».proof.Proof.Packed
public import proofs.«01_k».proof.Proof.Tiles
public import proofs.«01_k».proof.Proof.NormMath
public import proofs.«01_k».proof.Proof.QkRef

@[expose] public section

set_option maxRecDepth 16384

/-! The gradient of the per-head norms and the rotation: what the kernel's tiles hold, and that they are the reference's rows. -/

noncomputable section

open Idealize.ShloMosaic Idealize.ShloMosaic.TcCoe Idealize.SL.Sem
open Idealize.ShloMosaic.Pipeline (Dat)

namespace Cert.KernelQkIdeal.Qk

open Cert.KernelQkIdeal Cert.KernelQkIdeal.Gen Cert.NormMath

variable (m : (ℓ : Loc nD τ sig) → Buf (Elt Ideal) ℓ)

/-- The gradients of the rotated queries and keys and of the values. -/
abbrev dqArg (c : Dev nD) : FVec Ideal S2x2048x16x96 .f32 := m ((c : Thread nD τ).loc main_arg0)
abbrev dkArg (c : Dev nD) : FVec Ideal S2x2048x16x96 .f32 := m ((c : Thread nD τ).loc main_arg1)
abbrev dvArg (c : Dev nD) : FVec Ideal S2x2048x16x64 .f32 := m ((c : Thread nD τ).loc main_arg2)
/-- the queries before their norm, the keys with the values, the projection -/
abbrev qArg (c : Dev nD) : FVec Ideal S2x2048x16x96 .f32 := m ((c : Thread nD τ).loc main_arg3)
abbrev kvArg (c : Dev nD) : FVec Ideal S2x2048x16x128 .f32 := m ((c : Thread nD τ).loc main_arg4)
abbrev projArg (c : Dev nD) : FVec Ideal S2x2048x5552 .f32 := m ((c : Thread nD τ).loc main_arg5)
/-- the positions and the gains -/
abbrev posArg (c : Dev nD) : IVec S2x2048 32 := m ((c : Thread nD τ).loc main_arg6)
abbrev gqArg (c : Dev nD) : FVec Ideal S1x96 .f32 := m ((c : Thread nD τ).loc main_arg7)
abbrev gkArg (c : Dev nD) : FVec Ideal S1x96 .f32 := m ((c : Thread nD τ).loc main_arg8)

/-- The batch row and the head a grid point works on. -/
def bat (t : Fin cfg0.N) : Fin 2 := ⟨t.val / 16, by have := t.isLt; have : cfg0.N = 32 := N_0; omega⟩
def hd (t : Fin cfg0.N) : Fin 16 := ⟨t.val % 16, by omega⟩

/-- The flat row and the flat lane. -/
def row (t : Fin cfg0.N) (r : Fin 2048) : Fin 4096 :=
  ⟨t.val / 16 * 2048 + r.val, by have := t.isLt; have : cfg0.N = 32 := N_0; omega⟩
def lane (t : Fin cfg0.N) (l : Fin 128) : Fin 2048 := ⟨t.val % 16 * 128 + l.val, by omega⟩

theorem row_eq (t : Fin cfg0.N) (r : Fin 2048) : (bat t).val * 2048 + r.val = (row t r).val := rfl
theorem lane_eq (t : Fin cfg0.N) (l : Fin 128) : (hd t).val * 128 + l.val = (lane t l).val := rfl

theorem idx : ∀ t : Fin cfg0.N, win0_0.index t = ![t.val / 16, t.val % 16]
    ∧ win0_1.index t = ![t.val / 16, t.val % 16]
    ∧ win0_2.index t = ![t.val / 16, t.val % 16]
    ∧ win0_3.index t = ![t.val / 16, t.val % 16]
    ∧ win0_4.index t = ![t.val / 16, t.val % 16]
    ∧ win0_5.index t = ![t.val / 16, 44]
    ∧ win0_6.index t = ![t.val / 16, 0]
    ∧ win0_7.index t = ![t.val / 16, 0]
    ∧ win0_8.index t = ![0, 0]
    ∧ win0_9.index t = ![0, 0]
    ∧ win0_10.index t = ![t.val / 16, t.val % 16]
    ∧ win0_11.index t = ![t.val / 16, t.val % 16]
    ∧ win0_12.index t = ![t.val / 16, 0] :=
  (by decide +kernel : ∀ t : Fin grid0.N, _)

/-! ### The arrays the call is given -/

/-- Rows and heads of a batched array read in the flat array. -/
theorem flat4_apply {α : Type} (f : (⟨4, ![2, 2048, 16, 128]⟩ : Shape).Idx → α)
    (hc : Shape.ShapeCasts (⟨4, ![2, 2048, 16, 128]⟩ : Shape) ⟨2, ![4096, 2048]⟩) (b : Fin 2) (s : Fin 2048) (h : Fin 16) (l : Fin 128)
    (q : Fin 4096) (e : b.val * 2048 + s.val = q.val) (k : Fin 2048) (ek : h.val * 128 + l.val = k.val) :
    shapeCast (⟨2, ![4096, 2048]⟩ : Shape) f hc (ix2 q k) = f (ix4 b s h l) := by
  refine shapeCast_apply _ _ _ _ ?_
  rw [Shape.rowMajor_val_four, Shape.rowMajor_val_two]
  show ((b.val * 2048 + s.val) * 16 + h.val) * 128 + l.val = q.val * 2048 + k.val
  omega

theorem flat_apply {α : Type} {n : Nat} (f : (⟨3, ![2, 2048, n]⟩ : Shape).Idx → α)
    (h : Shape.ShapeCasts (⟨3, ![2, 2048, n]⟩ : Shape) ⟨2, ![4096, n]⟩) (b : Fin 2) (s : Fin 2048) (q : Fin 4096)
    (e : b.val * 2048 + s.val = q.val) (l : Fin n) : shapeCast (⟨2, ![4096, n]⟩ : Shape) f h (ix2 q l) = f (ix3 b s l) := by
  refine shapeCast_apply _ _ _ _ ?_
  rw [Shape.rowMajor_val_three, Shape.rowMajor_val_two]
  show (b.val * 2048 + s.val) * n + l.val = q.val * n + l.val
  rw [e]

/-- Sixteen entries spread over the lanes by constant indices. -/
theorem take_apply {α : Type} (x : S16.Idx → α) (i : IVec S128x1 32) (l : Fin 128) :
    Host.gather gather_S16_S128x1_S128_n_0_n_n_0_1_1 x i (ix1 l) = x (ix1 ⟨min (i (ix2 l 0)).toInt.toNat 15, by omega⟩) := by
  unfold Host.gather
  refine congrArg x (funext fun a => ?_)
  obtain rfl : a = 0 := Subsingleton.elim _ _
  refine Fin.ext ?_
  show GatherDims.start _ (ix1 l) i 0 + GatherDims.batchCoord _ (ix1 l) 0 + GatherDims.offCoord _ (ix1 l) 0 = _
  rw [GatherDims.batchCoord_eq_zero _ _ _ List.not_mem_nil,
    GatherDims.offCoord_eq_zero _ _ _ fun h => ((GatherDims.mem_sKept _ _).mp h).1 (List.mem_singleton.mpr rfl)]
  unfold GatherDims.start
  rw [dif_pos (show (0 : Fin 1) ∈ gather_S16_S128x1_S128_n_0_n_n_0_1_1.startIndexMap from List.mem_singleton.mpr rfl)]
  have hi : ∀ j, gather_S16_S128x1_S128_n_0_n_n_0_1_1.siIdx (ix1 l) j = ix2 l 0 := by
    intro j
    funext b
    fin_cases b
    · rfl
    · exact Subsingleton.elim (α := Fin 1) _ _
  rw [hi]
  rfl

/-- The sixteen frequencies, and the frequency of every lane. -/
def freqs : FVec Ideal S16 .f32 :=
  Host.powf (broadcastInDim S16 ![] bcast_S_S16 (constant S_ FTy.f32 1176256512#32))
    (Host.divf (Host.negf (addf (broadcastInDim S16 ![] bcast_S_S16 (constant S_ FTy.f32 0#32))
      (mulf (broadcastInDim S16 ![] bcast_S_S16 (constant S_ FTy.f32 1073741824#32)) (sitofp FTy.f32 (iotaInDim S16 32 0)))))
      (broadcastInDim S16 ![] bcast_S_S16 (constant S_ FTy.f32 1107296256#32)))

def lanes : FVec Ideal S128 .f32 :=
  select (fun i => lit1 (S128.rowMajor i))
    (Host.gather gather_S16_S128x1_S128_n_0_n_n_0_1_1 freqs
      (broadcastInDim S128x1 ![0] bcast_S128_S128x1_0
        (select (constantI S128 1 0#1) (addi (fun i => lit0 (S128.rowMajor i)) (broadcastInDim S128 ![] bcast_S_S128 (constantI S_ 32 16#32)))
          fun i => lit0 (S128.rowMajor i))))
    (broadcastInDim S128 ![] bcast_S_S128 (constant S_ FTy.f32 0#32))

theorem lanes_apply (l : Fin 128) :
    (lanes (ix1 l) : EReal) = if 64 ≤ l.val ∧ l.val < 96 then freqs (ix1 ⟨l.val % 16, by omega⟩) else 0 := by
  have h1 : ∀ l : Fin 128, lit1 (S128.rowMajor (ix1 l)) = if 64 ≤ l.val ∧ l.val < 96 then 1#1 else 0#1 := by decide +kernel
  have h0 : ∀ l : Fin 128, min (lit0 (S128.rowMajor (ix1 l))).toInt.toNat 15 = l.val % 16 := by decide +kernel
  show (if lit1 (S128.rowMajor (ix1 l)) = 1#1 then Host.gather gather_S16_S128x1_S128_n_0_n_n_0_1_1 freqs _ (ix1 l) else Ideal.ofBits .f32 0#32) = _
  rw [h1, take_apply, ReferenceQkIdeal.Rows.ofBits_zero]
  by_cases h : 64 ≤ l.val ∧ l.val < 96
  · rw [if_pos h, if_pos h, if_pos rfl]
    exact congrArg (fun k => freqs (ix1 k)) (Fin.ext (h0 l))
  · rw [if_neg h, if_neg h, if_neg (by decide)]

/-- The sign with which a lane's sine enters. -/
theorem sign_apply (l : Fin 128) : Ideal.ofBits .f32 (lit2 (S128.rowMajor (ix1 l)))
    = if 64 ≤ l.val ∧ l.val < 80 then ((-1 : ℝ) : EReal) else if 80 ≤ l.val ∧ l.val < 96 then 1 else 0 := by
  have h : ∀ l : Fin 128, lit2 (S128.rowMajor (ix1 l)) = if 64 ≤ l.val ∧ l.val < 80 then 0xBF800000#32
      else if 80 ≤ l.val ∧ l.val < 96 then 0x3F800000#32 else 0#32 := by decide +kernel
  rw [h]
  have h1 : (Ideal.ofBits .f32 0x3F800000#32 : EReal) = 1 := by
    simp [Ideal.ofBits, Ideal.ieee, -EReal.coe_mul]
    norm_num
  have h2 : (Ideal.ofBits .f32 0xBF800000#32 : EReal) = ((-1 : ℝ) : EReal) := by
    simp [Ideal.ofBits, Ideal.ieee, -EReal.coe_mul]
    norm_num
  split_ifs
  · exact h2
  · exact h1
  · exact ReferenceQkIdeal.Rows.ofBits_zero

/-- A row padded with zero lanes. -/
def wide {n : Nat} (d : Fin n → EReal) (l : Fin 128) : EReal := if hl : l.val < n then d ⟨l.val, hl⟩ else 0

theorem wide96 (f : S2x2048x16x96.Idx → EReal) (z : S_.Idx → EReal) (hz : ∀ i, z i = 0) (b : Fin 2) (s : Fin 2048) (h : Fin 16) (l : Fin 128) :
    pad S2x2048x16x128 ![0, 0, 0, 0] ![0, 0, 0, 32] ![0, 0, 0, 0] f z pads_S2x2048x16x96_S2x2048x16x128_000_000_000_0320 h_S_ (ix4 b s h l)
      = wide (fun j : Fin 96 => f (ix4 b s h j)) l := by
  unfold wide
  pointwise
  simp only [hz]

theorem wide64 (f : S2x2048x16x64.Idx → EReal) (z : S_.Idx → EReal) (hz : ∀ i, z i = 0) (b : Fin 2) (s : Fin 2048) (h : Fin 16) (l : Fin 128) :
    pad S2x2048x16x128 ![0, 0, 0, 0] ![0, 0, 0, 64] ![0, 0, 0, 0] f z pads_S2x2048x16x64_S2x2048x16x128_000_000_000_0640 h_S_ (ix4 b s h l)
      = wide (fun j : Fin 64 => f (ix4 b s h j)) l := by
  unfold wide
  pointwise
  simp only [hz]

theorem wide_gain (f : S1x96.Idx → EReal) (z : S_.Idx → EReal) (hz : ∀ i, z i = 0) (l : Fin 128) :
    pad S1x128 ![0, 0] ![0, 32] ![0, 0] f z pads_S1x96_S1x128_000_0320 h_S_ (ix2 0 l) = wide (fun j : Fin 96 => f (ix2 0 j)) l := by
  unfold wide
  pointwise
  simp only [hz]

theorem freqs_apply (k : Fin 16) : (freqs (ix1 k) : EReal) = Ideal.pow (Ideal.ofBits FTy.f32 1176256512#32)
    (Ideal.div (-(Ideal.ofBits FTy.f32 1073741824#32 * FloatOps.sitofp (F := Ideal) FTy.f32 (BitVec.ofNat 32 k.val))) (Ideal.ofBits FTy.f32 1107296256#32)) := by
  pointwise [freqs]

theorem zero_fill {φ : FTy} (i : S_.Idx) : (sitofp (F := Ideal) φ (constantI S_ 32 0#32) i : EReal) = 0 := by
  show ((((0#32 : BitVec 32).toInt : ℤ) : ℝ) : EReal) = 0
  simp

section Host
variable (c : Dev nD) (b : Fin 2) (s : Fin 2048) (h : Fin 16) (q : Fin 4096) (e : b.val * 2048 + s.val = q.val)
  (l : Fin 128) (k : Fin 2048) (ek : h.val * 128 + l.val = k.val)

include e ek in
theorem read_dq : (V m c main_v30 : FVec Ideal S4096x2048 .f32) (ix2 q k) = wide (fun j : Fin 96 => dqArg m c (ix4 b s h j)) l := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  exact (flat4_apply _ _ b s h l q e k ek).trans (wide96 _ _ (fun i => zero_fill i) b s h l)

include e ek in
theorem read_dk : (V m c main_v32 : FVec Ideal S4096x2048 .f32) (ix2 q k) = wide (fun j : Fin 96 => dkArg m c (ix4 b s h j)) l := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  exact (flat4_apply _ _ b s h l q e k ek).trans (wide96 _ _ (fun i => zero_fill i) b s h l)

include e ek in
theorem read_dv : (V m c main_v34 : FVec Ideal S4096x2048 .f32) (ix2 q k) = wide (fun j : Fin 64 => dvArg m c (ix4 b s h j)) l := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  exact (flat4_apply _ _ b s h l q e k ek).trans (wide64 _ _ (fun i => zero_fill i) b s h l)

include e ek in
theorem read_q : (V m c main_v37 : FVec Ideal S4096x2048 .bf16) (ix2 q k) = wide (fun j : Fin 96 => qArg m c (ix4 b s h j)) l := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  exact (flat4_apply _ _ b s h l q e k ek).trans (wide96 _ _ (fun i => zero_fill i) b s h l)

include e ek in
theorem read_kv : (V m c main_v39 : FVec Ideal S4096x2048 .bf16) (ix2 q k) = (kvArg m c (ix4 b s h l) : EReal) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  exact flat4_apply _ _ b s h l q e k ek

theorem read_gq : (V m c main_v27 : FVec Ideal S1x128 .f32) (ix2 0 l) = wide (fun j : Fin 96 => gqArg m c (ix2 0 j)) l := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  exact wide_gain _ _ (fun i => zero_fill i) l

theorem read_gk : (V m c main_v28 : FVec Ideal S1x128 .f32) (ix2 0 l) = wide (fun j : Fin 96 => gkArg m c (ix2 0 j)) l := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  exact wide_gain _ _ (fun i => zero_fill i) l

include e in
theorem read_kpe (i : Fin 5760) (hi : 5632 + l.val = i.val) (hl : 64 ≤ l.val) :
    (V m c main_v50 : FVec Ideal S4096x5760 .bf16) (ix2 q i)
      = wide (fun j : Fin 96 => if 64 ≤ j.val then projArg m c (ix3 b s ⟨3408 + j.val, by omega⟩) else (0 : EReal)) l := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  refine (flat_apply _ _ b s q e i).trans ?_
  by_cases h96 : l.val < 96
  · have hw : wide (fun j : Fin 96 => if 64 ≤ j.val then projArg m c (ix3 b s ⟨3408 + j.val, by omega⟩) else (0 : EReal)) l
        = projArg m c (ix3 b s ⟨3472 + (l.val - 64), by omega⟩) := by
      refine (dif_pos h96).trans ((if_pos (show 64 ≤ l.val from hl)).trans ?_)
      exact congrArg (fun j => projArg m c (ix3 b s j)) (Fin.ext (by show 3408 + l.val = 3472 + (l.val - 64); omega))
    refine (Packed.kpe_apply _ _ _ _ _ _ _ _ _ b s i ⟨l.val - 64, by omega⟩ (by show 5696 + (l.val - 64) = i.val; omega)).trans (Eq.trans ?_ hw.symm)
    simp only [Matrix.cons_val]
    after_results_simp
    pointwise
  · have hw : wide (fun j : Fin 96 => if 64 ≤ j.val then projArg m c (ix3 b s ⟨3408 + j.val, by omega⟩) else (0 : EReal)) l = 0 :=
      dif_neg h96
    refine (Packed.piece_apply _ _ _ _ _ _ _ _ _ b s i 7 (by decide) 32 _ rfl 5728 rfl ⟨l.val - 96, by omega⟩ (by show 5728 + (l.val - 96) = i.val; omega)).trans (Eq.trans ?_ hw.symm)
    simp only [Matrix.cons_val]
    after_results_simp
    show Ideal.ofBits .bf16 0#16 = 0
    simp [Ideal.ofBits, Ideal.ieee]

include e in
theorem read_cos : (V m c main_v23 : FVec Ideal S4096x128 .f32) (ix2 q l)
    = if hl : 64 ≤ l.val ∧ l.val < 96 then ReferenceQkIdeal.Rows.cosAt (posArg m c) b s ⟨l.val % 16, by omega⟩ else (1 : EReal) := by
  unfold ReferenceQkIdeal.Rows.cosAt
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  pointwise [ReferenceQkIdeal.Read.val_main_v48, ReferenceQkIdeal.Read.val_main_v49, ReferenceQkIdeal.Read.val_main_v50, ReferenceQkIdeal.Read.val_main_v51, ReferenceQkIdeal.Read.val_main_v52, ReferenceQkIdeal.Read.val_main_v53, ReferenceQkIdeal.Read.val_main_v54, ReferenceQkIdeal.Read.val_main_v55, ReferenceQkIdeal.Read.val_main_v56, ReferenceQkIdeal.Read.val_main_v57, ReferenceQkIdeal.Read.val_main_v58, ReferenceQkIdeal.Read.val_main_v59, ReferenceQkIdeal.Read.val_main_v60, ReferenceQkIdeal.Read.val_main_v61, ReferenceQkIdeal.Read.val_main_v62, ReferenceQkIdeal.Read.val_main_v63, ReferenceQkIdeal.Read.val_main_v64, ReferenceQkIdeal.Read.val_main_v65, ReferenceQkIdeal.Read.val_main_v66, ReferenceQkIdeal.Read.val_main_cst_7, ReferenceQkIdeal.Read.val_main_cst_8, ReferenceQkIdeal.Read.val_main_cst_9, ReferenceQkIdeal.Read.val_main_cst_10]
  show Ideal.cos (_ * lanes (ix1 l)) = _
  have eb : q.val / 2048 = b.val := by omega
  have es : q.val % 2048 = s.val := by omega
  rw [lanes_apply]
  simp only [eb, es, Fin.eta, freqs_apply]
  split_ifs with hl
  · rfl
  · rw [mul_zero]
    exact (congrArg (fun r : ℝ => (r : EReal)) Real.cos_zero)

include e in
theorem read_sin : (V m c main_v26 : FVec Ideal S4096x128 .f32) (ix2 q l)
    = if hl : 64 ≤ l.val ∧ l.val < 80 then ReferenceQkIdeal.Rows.sinAt (posArg m c) b s ⟨l.val - 64, by omega⟩ * ((-1 : ℝ) : EReal)
      else if hl : 80 ≤ l.val ∧ l.val < 96 then ReferenceQkIdeal.Rows.sinAt (posArg m c) b s ⟨l.val - 80, by omega⟩ else (0 : EReal) := by
  unfold ReferenceQkIdeal.Rows.sinAt
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  simp only [List.flatten_cons, List.flatten_nil, List.cons_append, List.nil_append, List.append_nil]
  after_results_simp
  pointwise [ReferenceQkIdeal.Read.val_main_v48, ReferenceQkIdeal.Read.val_main_v49, ReferenceQkIdeal.Read.val_main_v50, ReferenceQkIdeal.Read.val_main_v51, ReferenceQkIdeal.Read.val_main_v52, ReferenceQkIdeal.Read.val_main_v53, ReferenceQkIdeal.Read.val_main_v54, ReferenceQkIdeal.Read.val_main_v55, ReferenceQkIdeal.Read.val_main_v56, ReferenceQkIdeal.Read.val_main_v57, ReferenceQkIdeal.Read.val_main_v58, ReferenceQkIdeal.Read.val_main_v59, ReferenceQkIdeal.Read.val_main_v60, ReferenceQkIdeal.Read.val_main_v61, ReferenceQkIdeal.Read.val_main_v62, ReferenceQkIdeal.Read.val_main_v63, ReferenceQkIdeal.Read.val_main_v64, ReferenceQkIdeal.Read.val_main_v65, ReferenceQkIdeal.Read.val_main_v67, ReferenceQkIdeal.Read.val_main_v68, ReferenceQkIdeal.Read.val_main_cst_7, ReferenceQkIdeal.Read.val_main_cst_8, ReferenceQkIdeal.Read.val_main_cst_9, ReferenceQkIdeal.Read.val_main_cst_10]
  show Ideal.sin (_ * lanes (ix1 l)) * Ideal.ofBits .f32 (lit2 (S128.rowMajor (ix1 l))) = _
  have eb : q.val / 2048 = b.val := by omega
  have es : q.val % 2048 = s.val := by omega
  rw [lanes_apply, sign_apply]
  simp only [eb, es, Fin.eta, freqs_apply]
  by_cases h0 : 64 ≤ l.val ∧ l.val < 80
  · have e1 : l.val % 16 = l.val - 64 := by omega
    rw [if_pos h0, dif_pos h0, if_pos ⟨h0.1, by omega⟩]
    simp only [e1]
  · rw [if_neg h0, dif_neg h0]
    by_cases h1 : 80 ≤ l.val ∧ l.val < 96
    · have e1 : l.val % 16 = l.val - 80 := by omega
      rw [if_pos h1, dif_pos h1, if_pos ⟨by omega, h1.2⟩, mul_one]
      simp only [e1]
    · rw [if_neg h1, dif_neg h1, mul_zero]

end Host

/-! ### Rows of 128 lanes, of which 96 are used -/

theorem word_96 : Ideal.ofBits .f32 0x42C00000#32 = ((96 : ℝ) : EReal) := by
  simp [Ideal.ofBits, Ideal.ieee, -EReal.coe_mul]
  norm_num

theorem wide_of_lt {n : Nat} (d : Fin n → EReal) (l : Fin 128) (h : l.val < n) : wide d l = d ⟨l.val, h⟩ := dif_pos h

theorem wide_of_ge {n : Nat} (d : Fin n → EReal) (l : Fin 128) (h : ¬l.val < n) : wide d l = 0 := dif_neg h

/-- A sum over the lanes that vanishes on the padding is a sum over the used lanes. -/
theorem sum_wide (f : Fin 128 → EReal) (g : Fin 96 → EReal) (h : f = wide g) : ∑ l, f l = ∑ j, g j := by
  subst h
  refine (Fin.sum_univ_add (a := 96) (b := 32) (wide g)).trans ?_
  have h0 : ∀ j : Fin 96, wide g (Fin.castAdd 32 j) = g j := fun j => wide_of_lt g _ j.isLt
  have h1 : ∀ j : Fin 32, wide g (Fin.natAdd 96 j) = 0 := fun j => wide_of_ge g _ (by simp)
  simp only [h0, h1, Finset.sum_const_zero, add_zero]

theorem wide_mul (f g : Fin 96 → EReal) (l : Fin 128) : wide f l * wide g l = wide (fun j => f j * g j) l := by
  unfold wide
  split_ifs
  · rfl
  · exact mul_zero _

/-- The factor and the fused gradient of a padded row, with the mean taken by a factor. -/
def rootBy (k e : EReal) (x : Fin 128 → EReal) : EReal := Ideal.rsqrt ((∑ l, x l * x l) * k + e)

def fusedBy (k e : EReal) (x d : Fin 128 → EReal) (l : Fin 128) : EReal :=
  rootBy k e x * (d l - x l * rootBy k e x * ((∑ j, d j * (x j * rootBy k e x)) * k))

section Wide
variable (k c e : EReal) (c' : ℝ) (hc : c' ≠ 0) (h0 : c = c') (h1 : k = ((1 / c' : ℝ) : EReal)) (x d : Fin 96 → EReal)
include hc h0 h1

theorem root_wide : rootBy k e (wide x) = root c e x := by
  unfold rootBy root level
  rw [sum_wide _ _ (funext fun l => wide_mul x x l), h0, h1, Ideal.div_coe hc]

theorem fused_wide (l : Fin 128) : fusedBy k e (wide x) (wide d) l = wide (fun j => fused c e x d j) l := by
  unfold fusedBy fused
  rw [root_wide k c e c' hc h0 h1 x]
  have hs : (fun j => wide d j * (wide x j * root c e x)) = wide fun j => d j * (x j * root c e x) := by
    funext j
    unfold wide
    split_ifs
    · rfl
    · rw [zero_mul]
  rw [sum_wide _ _ hs, h0, h1, Ideal.div_coe hc]
  by_cases hl : l.val < 96
  · rw [wide_of_lt _ _ hl, wide_of_lt _ _ hl, wide_of_lt _ _ hl]
  · rw [wide_of_ge _ _ hl, wide_of_ge _ _ hl, wide_of_ge _ _ hl, zero_mul, zero_mul, sub_zero, mul_zero]

end Wide

/-- A row turned back, in the lanes' own form. -/
def turn (d c s : Fin 128 → EReal) (l : Fin 128) : EReal :=
  d l * c l + if h0 : 64 ≤ l.val ∧ l.val < 80 then d ⟨l.val + 16, by omega⟩ * s ⟨l.val + 16, by omega⟩
    else if h1 : 80 ≤ l.val ∧ l.val < 96 then d ⟨l.val - 16, by omega⟩ * s ⟨l.val - 16, by omega⟩ else 0

/-- The cosines and the signed sines over the lanes. -/
def cosRow (c : Fin 16 → EReal) (l : Fin 128) : EReal :=
  if hl : 64 ≤ l.val ∧ l.val < 96 then c ⟨l.val % 16, by omega⟩ else 1

def sinRow (s : Fin 16 → EReal) (l : Fin 128) : EReal :=
  if hl : 64 ≤ l.val ∧ l.val < 80 then s ⟨l.val - 64, by omega⟩ * ((-1 : ℝ) : EReal)
  else if hl : 80 ≤ l.val ∧ l.val < 96 then s ⟨l.val - 80, by omega⟩ else 0

theorem turn_wide (d : Fin 96 → EReal) (c s : Fin 16 → EReal) (l : Fin 128) :
    turn (wide d) (cosRow c) (sinRow s) l = wide (fun j => ReferenceQkIdeal.Rows.back d c s j) l := by
  unfold turn
  by_cases hl : l.val < 96
  · rw [wide_of_lt _ _ hl, wide_of_lt _ _ hl]
    unfold ReferenceQkIdeal.Rows.back cosRow sinRow
    by_cases h0 : l.val < 64
    · rw [dif_neg (by omega), dif_neg (by omega), dif_neg (by omega), dif_pos h0, mul_one, add_zero]
    · rw [dif_pos ⟨by omega, hl⟩, dif_neg h0]
      by_cases h1 : l.val < 80
      · have e : l.val % 16 = l.val - 64 := by omega
        have e' : l.val + 16 - 80 = l.val - 64 := by omega
        rw [dif_pos ⟨by omega, h1⟩, dif_pos h1, dif_neg (by simp only; omega), dif_pos (by simp only; omega), wide_of_lt _ _ (by simp only; omega), add_comm]
        simp only [e, e']
      · have e : l.val % 16 = l.val - 80 := by omega
        have e' : l.val - 16 - 64 = l.val - 80 := by omega
        rw [dif_neg (by omega), dif_pos ⟨by omega, hl⟩, dif_neg h1, dif_pos (by simp only; omega), wide_of_lt _ _ (by simp only; omega)]
        simp only [e, e']
        congr 1
        rw [show ((-1 : ℝ) : EReal) = -1 from rfl, mul_neg, mul_one, mul_neg, ← neg_mul]
  · rw [wide_of_ge _ _ hl, wide_of_ge _ _ hl, zero_mul, dif_neg (by omega), dif_neg (by omega), add_zero]

/-! ### The tiles' vectors -/

/-- A tile turned back. -/
def turned (d c s : FVec Ideal S2048x128 .f32) : FVec Ideal S2048x128 .f32 := k0_pay19 (k0_pay4 c) (k0_pay5 s) d

theorem turned_q (d c s : FVec Ideal S2048x128 .f32) :
    k0_pay13 (k0_pay8 c d) (k0_pay10 s d) (k0_pay11 s d) k0_pay12 = turned d c s := rfl

theorem low_lane : ∀ l : Fin 128, IntOp.cmpi .slt (BitVec.ofNat 32 l.val) 64#32 = if l.val < 64 then 1#1 else 0#1 := by
  decide +kernel

theorem first_lane : ∀ l : Fin 128, IntOp.andi (IntOp.cmpi .sge (BitVec.ofNat 32 l.val) 64#32) (IntOp.cmpi .slt (BitVec.ofNat 32 l.val) 80#32)
    = if 64 ≤ l.val ∧ l.val < 80 then 1#1 else 0#1 := by
  decide +kernel

theorem second_lane : ∀ l : Fin 128, IntOp.andi (IntOp.cmpi .sge (BitVec.ofNat 32 l.val) 80#32) (IntOp.cmpi .slt (BitVec.ofNat 32 l.val) 96#32)
    = if 80 ≤ l.val ∧ l.val < 96 then 1#1 else 0#1 := by
  decide +kernel

theorem turning_lane : ∀ l : Fin 128, IntOp.andi (IntOp.cmpi .sge (BitVec.ofNat 32 l.val) 64#32) (IntOp.cmpi .slt (BitVec.ofNat 32 l.val) 96#32)
    = if 64 ≤ l.val ∧ l.val < 96 then 1#1 else 0#1 := by
  decide +kernel

theorem select_if {α : Type} (p : Prop) [Decidable p] (a b : α) : Scalar.select (if p then 1#1 else 0#1) a b = if p then a else b := by
  unfold Scalar.select
  split_ifs <;> first | rfl | contradiction

theorem turned_apply (d c s : FVec Ideal S2048x128 .f32) (r : Fin 2048) (l : Fin 128) :
    (turned d c s (ix2 r l) : EReal) = turn (fun j => d (ix2 r j)) (fun j => c (ix2 r j)) (fun j => s (ix2 r j)) l := by
  unfold turn
  pointwise [turned, k0_pay19, k0_pay4, k0_pay5]
  rw [first_lane, second_lane, select_if, select_if]
  congr 1
  by_cases h0 : 64 ≤ l.val ∧ l.val < 80
  · have e : (l.val + 128 - 112) % 128 = l.val + 16 := by omega
    rw [if_pos h0, dif_pos h0]
    simp only [e]
  · rw [if_neg h0, dif_neg h0]
    by_cases h1 : 80 ≤ l.val ∧ l.val < 96
    · have e : (l.val + 128 - 16) % 128 = l.val - 16 := by omega
      rw [if_pos h1, dif_pos h1]
      simp only [e]
    · rw [if_neg h1, dif_neg h1]

/-- The factor of each row, the column sums and the gradient of a normed tile. -/
def rootV (x : FVec Ideal S2048x128 .f32) : FVec Ideal S2048x1 .f32 :=
  rsqrt (addf (mulf (shapeCast S2048x1 (multiReduction .add [1] S2048 (mulf x x) 0x00000000#32 reduces_S2048x128_S2048 (.inl rfl) rfl)
    shapeCasts_S2048_S2048x1) (broadcast S2048x1 (Named.named κ "mean96" 0x3C2AAAAB#32)))
    (broadcast S2048x1 (Scalar.ofBits .f32 0x358637BD#32)))

def hatV (x : FVec Ideal S2048x128 .f32) : FVec Ideal S2048x128 .f32 := mulf x (broadcastTo S2048x128 (rootV x) broadcasts_S2048x1_S2048x128)

def colV (t x : FVec Ideal S2048x128 .f32) (a : FVec Ideal S1x128 .f32) : FVec Ideal S1x128 .f32 :=
  addf (shapeCast S1x128 a shapeCasts_S1x128_S1x128)
    (shapeCast S1x128 (multiReduction .add [0] S128 (mulf t (hatV x)) 0x00000000#32 reduces_S2048x128_S128 (.inl rfl) rfl) shapeCasts_S128_S1x128)

def gradV (t x : FVec Ideal S2048x128 .f32) (g : FVec Ideal S1x128 .f32) : FVec Ideal S2048x128 .f32 :=
  mulf (broadcastTo S2048x128 (rootV x) broadcasts_S2048x1_S2048x128)
    (subf (mulf t (broadcastTo S2048x128 g broadcasts_S1x128_S2048x128))
      (mulf (hatV x) (broadcastTo S2048x128 (mulf (shapeCast S2048x1 (multiReduction .add [1] S2048
        (mulf (mulf t (broadcastTo S2048x128 g broadcasts_S1x128_S2048x128)) (hatV x)) 0x00000000#32 reduces_S2048x128_S2048 (.inl rfl) rfl)
        shapeCasts_S2048_S2048x1) (broadcast S2048x1 (Named.named κ "mean96" 0x3C2AAAAB#32))) broadcasts_S2048x1_S2048x128)))

/-- A key tile: the head's own lanes and the shared rotary lanes. -/
def keyV (a b : FVec Ideal S2048x128 .bf16) : FVec Ideal S2048x128 .f32 := k0_pay20 k0_pay6 a b

theorem root_q (q : FVec Ideal S2048x128 .bf16) : k0_pay15 q = rootV (k0_pay14 q) := rfl
theorem cols_q (d c s : FVec Ideal S2048x128 .f32) (q : FVec Ideal S2048x128 .bf16) (a : FVec Ideal S1x128 .f32) :
    k0_pay17 (k0_pay8 c d) (k0_pay10 s d) (k0_pay11 s d) k0_pay12 q a = colV (turned d c s) (k0_pay14 q) a := rfl
theorem grad_q (d c s : FVec Ideal S2048x128 .f32) (q : FVec Ideal S2048x128 .bf16) (g : FVec Ideal S1x128 .f32) :
    k0_pay18 (k0_pay8 c d) (k0_pay10 s d) (k0_pay11 s d) k0_pay12 q g
      = truncf .bf16 (gradV (turned d c s) (k0_pay14 q) (shapeCast S1x128 g shapeCasts_S1x128_S1x128)) bitsLt_bf16_f32 := rfl
theorem cols_k (t : FVec Ideal S2048x128 .f32) (x y : FVec Ideal S2048x128 .bf16) (a : FVec Ideal S1x128 .f32) :
    k0_pay25 t (k0_pay20 k0_pay6 x y) (k0_pay23 k0_pay6 x y) a = colV t (keyV x y) a := rfl
theorem grad_k (t : FVec Ideal S2048x128 .f32) (x y : FVec Ideal S2048x128 .bf16) (g : FVec Ideal S1x128 .f32) :
    k0_pay26 t (k0_pay20 k0_pay6 x y) (k0_pay21 g) (k0_pay22 k0_pay6 x y) (k0_pay23 k0_pay6 x y)
      = gradV t (keyV x y) (shapeCast S1x128 g shapeCasts_S1x128_S1x128) := rfl

/-- The factor that takes a mean. -/
def mean : EReal := Named.named (F := Ideal) κ (φ := .f32) "mean96" 0x3C2AAAAB#32

theorem mean_eq : mean = ((1 / 96 : ℝ) : EReal) := by
  unfold mean
  rfl

theorem rootV_apply (x : FVec Ideal S2048x128 .f32) (r : Fin 2048) :
    (rootV x (ix2 r 0) : EReal) = rootBy mean (Ideal.ofBits .f32 0x358637BD#32) (fun j => x (ix2 r j)) := by
  unfold rootBy mean
  pointwise [rootV]

theorem colV_apply (t x : FVec Ideal S2048x128 .f32) (a : FVec Ideal S1x128 .f32) (l : Fin 128) :
    (colV t x a (ix2 0 l) : EReal) = a (ix2 0 l)
      + ∑ r : Fin 2048, t (ix2 r l) * (x (ix2 r l) * rootBy mean (Ideal.ofBits .f32 0x358637BD#32) (fun j => x (ix2 r j))) := by
  simp only [← rootV_apply]
  pointwise [colV, hatV]

theorem gradV_apply (t x : FVec Ideal S2048x128 .f32) (g : FVec Ideal S1x128 .f32) (r : Fin 2048) (l : Fin 128) :
    (gradV t x g (ix2 r l) : EReal) = fusedBy mean (Ideal.ofBits .f32 0x358637BD#32) (fun j => x (ix2 r j))
      (fun j => t (ix2 r j) * g (ix2 0 j)) l := by
  unfold fusedBy
  simp only [← rootV_apply]
  unfold mean
  pointwise [gradV, hatV]

theorem keyV_apply (a b : FVec Ideal S2048x128 .bf16) (r : Fin 2048) (l : Fin 128) :
    (keyV a b (ix2 r l) : EReal) = if l.val < 64 then a (ix2 r l) else b (ix2 r l) := by
  pointwise [keyV, k0_pay20, k0_pay6]
  rw [low_lane, select_if]

theorem queryV_apply (a : FVec Ideal S2048x128 .bf16) (r : Fin 2048) (l : Fin 128) :
    (k0_pay14 (F := Ideal) a (ix2 r l) : EReal) = a (ix2 r l) := by
  pointwise [k0_pay14]

/-! ### The tiles' blocks -/

variable (c : Dev nD) (t : Fin cfg0.N)

theorem block0 (r : Fin 2048) (l : Fin 128) : (iblk m c 0 t : FVec Ideal S2048x128 .f32) (ix2 r l)
    = wide (fun j : Fin 96 => dqArg m c (ix4 (bat t) r (hd t) j)) l := by
  refine Eq.trans ?_ (read_dq m c (bat t) r (hd t) (row t r) (row_eq t r) l (lane t l) (lane_eq t l))
  blk_simp [iblk, idx t]
  have e := idx t
  blk_ext [e, row, lane]

theorem block1 (r : Fin 2048) (l : Fin 128) : (iblk m c 1 t : FVec Ideal S2048x128 .f32) (ix2 r l)
    = wide (fun j : Fin 96 => dkArg m c (ix4 (bat t) r (hd t) j)) l := by
  refine Eq.trans ?_ (read_dk m c (bat t) r (hd t) (row t r) (row_eq t r) l (lane t l) (lane_eq t l))
  blk_simp [iblk, idx t]
  have e := idx t
  blk_ext [e, row, lane]

theorem block2 (r : Fin 2048) (l : Fin 128) : (iblk m c 2 t : FVec Ideal S2048x128 .f32) (ix2 r l)
    = wide (fun j : Fin 64 => dvArg m c (ix4 (bat t) r (hd t) j)) l := by
  refine Eq.trans ?_ (read_dv m c (bat t) r (hd t) (row t r) (row_eq t r) l (lane t l) (lane_eq t l))
  blk_simp [iblk, idx t]
  have e := idx t
  blk_ext [e, row, lane]

theorem block3 (r : Fin 2048) (l : Fin 128) : (iblk m c 3 t : FVec Ideal S2048x128 .bf16) (ix2 r l)
    = wide (fun j : Fin 96 => qArg m c (ix4 (bat t) r (hd t) j)) l := by
  refine Eq.trans ?_ (read_q m c (bat t) r (hd t) (row t r) (row_eq t r) l (lane t l) (lane_eq t l))
  blk_simp [iblk, idx t]
  have e := idx t
  blk_ext [e, row, lane]

theorem block4 (r : Fin 2048) (l : Fin 128) : (iblk m c 4 t : FVec Ideal S2048x128 .bf16) (ix2 r l)
    = kvArg m c (ix4 (bat t) r (hd t) l) := by
  refine Eq.trans ?_ (read_kv m c (bat t) r (hd t) (row t r) (row_eq t r) l (lane t l) (lane_eq t l))
  blk_simp [iblk, idx t]
  have e := idx t
  blk_ext [e, row, lane]

theorem block6 (r : Fin 2048) (l : Fin 128) : (iblk m c 6 t : FVec Ideal S2048x128 .f32) (ix2 r l)
    = cosRow (ReferenceQkIdeal.Rows.cosAt (posArg m c) (bat t) r) l := by
  refine Eq.trans ?_ (read_cos m c (bat t) r (hd t) (row t r) (row_eq t r) l (lane t l) (lane_eq t l))
  blk_simp [iblk, idx t]
  have e := idx t
  blk_ext [e, row]

theorem block7 (r : Fin 2048) (l : Fin 128) : (iblk m c 7 t : FVec Ideal S2048x128 .f32) (ix2 r l)
    = sinRow (ReferenceQkIdeal.Rows.sinAt (posArg m c) (bat t) r) l := by
  refine Eq.trans ?_ (read_sin m c (bat t) r (hd t) (row t r) (row_eq t r) l (lane t l) (lane_eq t l))
  blk_simp [iblk, idx t]
  have e := idx t
  blk_ext [e, row]

theorem block5 (r : Fin 2048) (l : Fin 128) (hl : 64 ≤ l.val) : (iblk m c 5 t : FVec Ideal S2048x128 .bf16) (ix2 r l)
    = wide (fun j : Fin 96 => if 64 ≤ j.val then projArg m c (ix3 (bat t) r ⟨3408 + j.val, by omega⟩) else (0 : EReal)) l := by
  refine Eq.trans ?_ (read_kpe m c (bat t) r (hd t) (row t r) (row_eq t r) l (lane t l) ⟨5632 + l.val, by omega⟩ rfl hl)
  blk_simp [iblk, idx t]
  have e := idx t
  blk_ext [e, row]

theorem block8 (l : Fin 128) : (iblk m c 8 t : FVec Ideal S1x128 .f32) (ix2 0 l) = wide (fun j : Fin 96 => gqArg m c (ix2 0 j)) l := by
  refine Eq.trans ?_ (read_gq m c l)
  blk_simp [iblk, idx t]
  have e := idx t
  blk_ext [e]

theorem block9 (l : Fin 128) : (iblk m c 9 t : FVec Ideal S1x128 .f32) (ix2 0 l) = wide (fun j : Fin 96 => gkArg m c (ix2 0 j)) l := by
  refine Eq.trans ?_ (read_gk m c l)
  blk_simp [iblk, idx t]
  have e := idx t
  blk_ext [e]

/-! ### The rows of a tile -/

open ReferenceQkIdeal.Rows (qRow kRow dRow cosAt sinAt)

theorem turned_row (x : Vec Ideal S2048x128 .f32) (d : FVec Ideal S2x2048x16x96 .f32)
    (hx : ∀ r l, x (ix2 r l) = wide (fun j : Fin 96 => d (ix4 (bat t) r (hd t) j)) l) (r : Fin 2048) (l : Fin 128) :
    (turned x (iblk m c 6 t) (iblk m c 7 t) (ix2 r l) : EReal) = wide (dRow d (posArg m c) (bat t) r (hd t)) l := by
  rw [turned_apply]
  simp only [hx, block6, block7]
  exact turn_wide _ _ _ l

theorem query_row (r : Fin 2048) (l : Fin 128) :
    (k0_pay14 (F := Ideal) (iblk m c 3 t) (ix2 r l) : EReal) = wide (qRow (qArg m c) (bat t) r (hd t)) l :=
  (queryV_apply _ r l).trans (block3 m c t r l)

theorem key_row (r : Fin 2048) (l : Fin 128) :
    (keyV (iblk m c 4 t) (iblk m c 5 t) (ix2 r l) : EReal) = wide (kRow (kvArg m c) (projArg m c) (bat t) r (hd t)) l := by
  rw [keyV_apply]
  by_cases h : l.val < 64
  · rw [if_pos h, block4, wide_of_lt _ _ (by omega)]
    unfold kRow
    rw [dif_pos (show (⟨l.val, _⟩ : Fin 96).val < 64 from h)]
  · rw [if_neg h, block5 m c t r l (by omega)]
    by_cases h' : l.val < 96
    · rw [wide_of_lt _ _ h', wide_of_lt _ _ h']
      unfold kRow
      rw [dif_neg (show ¬(⟨l.val, _⟩ : Fin 96).val < 64 from h)]
      exact if_pos (by show 64 ≤ l.val; omega)
    · rw [wide_of_ge _ _ h', wide_of_ge _ _ h']

theorem gradient_row (T X : FVec Ideal S2048x128 .f32) (g : FVec Ideal S1x128 .f32) (d x : Fin 2048 → Fin 96 → EReal) (w : Fin 96 → EReal)
    (hT : ∀ r l, T (ix2 r l) = wide (d r) l) (hX : ∀ r l, X (ix2 r l) = wide (x r) l) (hg : ∀ l, g (ix2 0 l) = wide w l)
    (r : Fin 2048) (l : Fin 128) :
    (gradV T X g (ix2 r l) : EReal) = wide (fun j => fused (Ideal.ofBits .f32 0x42C00000#32) (Ideal.ofBits .f32 0x358637BD#32)
      (x r) (fun j => d r j * w j) j) l := by
  rw [gradV_apply]
  simp only [hT, hX, hg, wide_mul]
  exact fused_wide _ _ _ 96 (by norm_num) word_96 mean_eq _ _ l

theorem columns_row (T X : FVec Ideal S2048x128 .f32) (a : FVec Ideal S1x128 .f32) (d x : Fin 2048 → Fin 96 → EReal)
    (hT : ∀ r l, T (ix2 r l) = wide (d r) l) (hX : ∀ r l, X (ix2 r l) = wide (x r) l) (l : Fin 128) :
    (colV T X a (ix2 0 l) : EReal) = a (ix2 0 l) + wide (fun j => ∑ r : Fin 2048, x r j
      * root (Ideal.ofBits .f32 0x42C00000#32) (Ideal.ofBits .f32 0x358637BD#32) (x r) * d r j) l := by
  rw [colV_apply]
  simp only [hT, hX, root_wide _ _ _ 96 (by norm_num) word_96 mean_eq]
  congr 1
  unfold wide
  split_ifs
  · exact Finset.sum_congr rfl fun r _ => mul_comm _ _
  · simp only [zero_mul, Finset.sum_const_zero]

theorem gain_block (g : FVec Ideal S1x128 .f32) (l : Fin 128) :
    (shapeCast S1x128 g shapeCasts_S1x128_S1x128 (ix2 0 l) : EReal) = g (ix2 0 l) := by
  pointwise

/-- What a tile leaves of the query's and of the key's gradient. -/
def queryGrad : FVec Ideal S2048x128 .f32 :=
  gradV (turned (iblk m c 0 t) (iblk m c 6 t) (iblk m c 7 t)) (k0_pay14 (F := Ideal) (iblk m c 3 t))
    (shapeCast S1x128 (iblk m c 8 t : FVec Ideal S1x128 .f32) shapeCasts_S1x128_S1x128)

def keyGrad : FVec Ideal S2048x128 .f32 :=
  gradV (turned (iblk m c 1 t) (iblk m c 6 t) (iblk m c 7 t)) (keyV (iblk m c 4 t) (iblk m c 5 t))
    (shapeCast S1x128 (iblk m c 9 t : FVec Ideal S1x128 .f32) shapeCasts_S1x128_S1x128)

theorem queryGrad_apply (r : Fin 2048) (l : Fin 128) : (queryGrad m c t (ix2 r l) : EReal)
    = wide (fun j => fused (Ideal.ofBits .f32 0x42C00000#32) (Ideal.ofBits .f32 0x358637BD#32) (qRow (qArg m c) (bat t) r (hd t))
      (fun j => dRow (dqArg m c) (posArg m c) (bat t) r (hd t) j * gqArg m c (ix2 0 j)) j) l :=
  gradient_row _ _ _ (fun r => dRow (dqArg m c) (posArg m c) (bat t) r (hd t)) (fun r => qRow (qArg m c) (bat t) r (hd t)) _
    (turned_row m c t _ _ (block0 m c t)) (query_row m c t) (fun l => (gain_block _ l).trans (block8 m c t l)) r l

theorem keyGrad_apply (r : Fin 2048) (l : Fin 128) : (keyGrad m c t (ix2 r l) : EReal)
    = wide (fun j => fused (Ideal.ofBits .f32 0x42C00000#32) (Ideal.ofBits .f32 0x358637BD#32) (kRow (kvArg m c) (projArg m c) (bat t) r (hd t))
      (fun j => dRow (dkArg m c) (posArg m c) (bat t) r (hd t) j * gkArg m c (ix2 0 j)) j) l :=
  gradient_row _ _ _ (fun r => dRow (dkArg m c) (posArg m c) (bat t) r (hd t)) (fun r => kRow (kvArg m c) (projArg m c) (bat t) r (hd t)) _
    (turned_row m c t _ _ (block1 m c t)) (key_row m c t) (fun l => (gain_block _ l).trans (block9 m c t l)) r l

/-! ### Real arguments -/

section Real

theorem angle_real (x6 : IVec S2x2048 32) (b : Fin 2) (s : Fin 2048) (k : Fin 16) :
    ∃ a : ℝ, cosAt x6 b s k = ((Real.cos a : ℝ) : EReal) ∧ sinAt x6 b s k = ((Real.sin a : ℝ) : EReal) := by
  have h0 : ∃ a : ℝ, Ideal.ofBits FTy.f32 1176256512#32 = (a : EReal) := ⟨_, by simp [Ideal.ofBits, Ideal.ieee, -EReal.coe_mul]; rfl⟩
  have h1 : ∃ a : ℝ, Ideal.ofBits FTy.f32 1073741824#32 = (a : EReal) := ⟨_, by simp [Ideal.ofBits, Ideal.ieee, -EReal.coe_mul]; rfl⟩
  have h2 : Ideal.ofBits FTy.f32 1107296256#32 = ((32 : ℝ) : EReal) := by
    simp [Ideal.ofBits, Ideal.ieee, -EReal.coe_mul]
    norm_num
  obtain ⟨w0, h0⟩ := h0
  obtain ⟨w1, h1⟩ := h1
  have hp : ∀ p n : ℝ, ∃ a : ℝ, (p : EReal) * Ideal.pow (w0 : EReal) (Ideal.div (-((w1 : EReal) * (n : EReal))) ((32 : ℝ) : EReal)) = (a : EReal) := by
    intro p n
    rw [Ideal.div_coe (by norm_num)]
    simp only [← EReal.coe_mul, ← EReal.coe_neg]
    exact ⟨p * Real.rpow w0 (-(w1 * n) * (1 / 32)), (EReal.coe_mul _ _).symm⟩
  obtain ⟨a, ha⟩ := hp (((x6 (ix2 b s)).toInt : ℤ) : ℝ) (((BitVec.ofNat 32 k.val).toInt : ℤ) : ℝ)
  rw [← h0, ← h1, ← h2] at ha
  refine ⟨a, ?_, ?_⟩
  · refine Eq.trans ?_ (congrArg Ideal.cos ha)
    unfold cosAt
    pointwise [ReferenceQkIdeal.Read.val_main_v48, ReferenceQkIdeal.Read.val_main_v49, ReferenceQkIdeal.Read.val_main_v50, ReferenceQkIdeal.Read.val_main_v51, ReferenceQkIdeal.Read.val_main_v52, ReferenceQkIdeal.Read.val_main_v53, ReferenceQkIdeal.Read.val_main_v54, ReferenceQkIdeal.Read.val_main_v55, ReferenceQkIdeal.Read.val_main_v56, ReferenceQkIdeal.Read.val_main_v57, ReferenceQkIdeal.Read.val_main_v58, ReferenceQkIdeal.Read.val_main_v59, ReferenceQkIdeal.Read.val_main_v60, ReferenceQkIdeal.Read.val_main_v61, ReferenceQkIdeal.Read.val_main_v62, ReferenceQkIdeal.Read.val_main_v63, ReferenceQkIdeal.Read.val_main_v64, ReferenceQkIdeal.Read.val_main_v65, ReferenceQkIdeal.Read.val_main_v66, ReferenceQkIdeal.Read.val_main_cst_7, ReferenceQkIdeal.Read.val_main_cst_8, ReferenceQkIdeal.Read.val_main_cst_9, ReferenceQkIdeal.Read.val_main_cst_10]
    rfl
  · refine Eq.trans ?_ (congrArg Ideal.sin ha)
    unfold sinAt
    pointwise [ReferenceQkIdeal.Read.val_main_v48, ReferenceQkIdeal.Read.val_main_v49, ReferenceQkIdeal.Read.val_main_v50, ReferenceQkIdeal.Read.val_main_v51, ReferenceQkIdeal.Read.val_main_v52, ReferenceQkIdeal.Read.val_main_v53, ReferenceQkIdeal.Read.val_main_v54, ReferenceQkIdeal.Read.val_main_v55, ReferenceQkIdeal.Read.val_main_v56, ReferenceQkIdeal.Read.val_main_v57, ReferenceQkIdeal.Read.val_main_v58, ReferenceQkIdeal.Read.val_main_v59, ReferenceQkIdeal.Read.val_main_v60, ReferenceQkIdeal.Read.val_main_v61, ReferenceQkIdeal.Read.val_main_v62, ReferenceQkIdeal.Read.val_main_v63, ReferenceQkIdeal.Read.val_main_v64, ReferenceQkIdeal.Read.val_main_v65, ReferenceQkIdeal.Read.val_main_v67, ReferenceQkIdeal.Read.val_main_v68, ReferenceQkIdeal.Read.val_main_cst_7, ReferenceQkIdeal.Read.val_main_cst_8, ReferenceQkIdeal.Read.val_main_cst_9, ReferenceQkIdeal.Read.val_main_cst_10]
    rfl

theorem dRow_real (d : FVec Ideal S2x2048x16x96 .f32) (D : S2x2048x16x96.Idx → ℝ) (hd : ∀ i, d i = D i) (x6 : IVec S2x2048 32)
    (b : Fin 2) (s : Fin 2048) (h : Fin 16) : ∃ f : Fin 96 → ℝ, ∀ j, dRow d x6 b s h j = f j := by
  refine Classical.axiomOfChoice (r := fun j a => dRow d x6 b s h j = ((a : ℝ) : EReal)) fun j => ?_
  unfold dRow ReferenceQkIdeal.Rows.back
  simp only [hd]
  split_ifs
  · exact ⟨_, rfl⟩
  · obtain ⟨a, h1, h2⟩ := angle_real x6 b s ⟨j.val - 64, by omega⟩
    rw [h1, h2]
    simp only [← EReal.coe_mul, ← EReal.coe_add]
    exact ⟨_, rfl⟩
  · obtain ⟨a, h1, h2⟩ := angle_real x6 b s ⟨j.val - 80, by omega⟩
    rw [h1, h2]
    simp only [← EReal.coe_mul, ← EReal.coe_add, ← EReal.coe_neg]
    exact ⟨_, rfl⟩

theorem kRow_real (x : FVec Ideal S2x2048x16x128 .f32) (X : S2x2048x16x128.Idx → ℝ) (hx : ∀ i, x i = X i)
    (y : FVec Ideal S2x2048x5552 .f32) (Y : S2x2048x5552.Idx → ℝ) (hy : ∀ i, y i = Y i)
    (b : Fin 2) (s : Fin 2048) (h : Fin 16) : ∃ f : Fin 96 → ℝ, ∀ j, kRow x y b s h j = f j := by
  refine Classical.axiomOfChoice (r := fun j a => kRow x y b s h j = ((a : ℝ) : EReal)) fun j => ?_
  unfold kRow
  simp only [hx, hy]
  split_ifs <;> exact ⟨_, rfl⟩

/-- On real arguments the fused gradient of a head's row is the one line by line. -/
theorem fused_row {x d w : Fin 96 → EReal} (hx : ∃ f : Fin 96 → ℝ, ∀ j, x j = f j) (hd : ∃ f : Fin 96 → ℝ, ∀ j, d j = f j)
    (hw : ∃ f : Fin 96 → ℝ, ∀ j, w j = f j) (l : Fin 96) :
    fused (Ideal.ofBits .f32 0x42C00000#32) (Ideal.ofBits .f32 0x358637BD#32) x (fun j => d j * w j) l
      = plain (Ideal.ofBits .f32 0x42C00000#32) (Ideal.ofBits .f32 0x358637BD#32) x (fun j => d j * w j) (Ideal.ofBits .f32 0xBF000000#32) l := by
  obtain ⟨X, hx⟩ := hx
  obtain ⟨D, hd⟩ := hd
  obtain ⟨W, hw⟩ := hw
  obtain ⟨e, he, hs⟩ := small_word
  exact fused_eq_plain 96 e (by norm_num) he word_96 hs half_word X (fun j => D j * W j) hx
    (fun j => by rw [hd, hw, EReal.coe_mul]) l

end Real

/-! ### The five results -/

theorem index2 {n0 n1 : Nat} (y : (⟨2, ![n0, n1]⟩ : Shape).Idx) : y = ix2 (y 0) (y 1) := by
  funext a
  fin_cases a <;> rfl

theorem final_10 (c : Dev nD) (D X : S2x2048x16x96.Idx → ℝ) (G : S1x96.Idx → ℝ)
    (hD : ∀ i, dqArg m c i = D i) (hx : ∀ i, qArg m c i = X i) (hg : ∀ i, gqArg m c i = G i) :
    (dats m 0 c).arrAt 10 (cfgs 0).N =
    Cert.ReferenceQkIdeal.Read.val_main_v214 (F := Ideal) (dqArg m c) (qArg m c) (posArg m c) (gqArg m c) := by
  refine (dats m 0 c).arrAt_eq_of_covers 10 _ (by decide +kernel) fun t hf y => ?_
  obtain ⟨r, l, rfl⟩ : ∃ (r : Fin 2048) (l : Fin 128), y = ix2 r l := ⟨_, _, index2 y⟩
  have hy : ((cfg0.win 10).blk t).view.emb (ix2 r l) = ix2 (row t r) (lane t l) := by
    have e := idx t
    blk_ext [e, row, lane]
  have hv : (queryGrad m c t (ix2 r l) : EReal) = Cert.ReferenceQkIdeal.Read.val_main_v214 (F := Ideal) (dqArg m c) (qArg m c) (posArg m c) (gqArg m c)
      (ix2 (row t r) (lane t l)) := by
    rw [queryGrad_apply, ReferenceQkIdeal.Rows.out_dq _ _ _ _ (bat t) r (hd t) (row t r) (row_eq t r) l (lane t l) (lane_eq t l)]
    unfold wide
    refine dite_congr rfl (fun hl => ?_) fun _ => rfl
    rw [ReferenceQkIdeal.Rows.read_dq]
    exact fused_row ⟨_, fun j => hx _⟩ (dRow_real _ D hD _ _ _ _) ⟨_, fun j => hg _⟩ _
  rw [hy, ← hv]
  blk_simp
  rw [after0_10]
  by_cases h0 : t.val % 16 = 0
  · by_cases h1 : t.val % 32 = 0
    · rw [outsAt0_A m c t h0 h1]
      dsimp only
      frame_out
      rfl
    · rw [outsAt0_C m c t h0 h1]
      dsimp only
      frame_out
      rfl
  · rw [outsAt0_B m c t h0 (by omega)]
    dsimp only
    frame_out
    rfl

/-- What is written of a key tile: the head's own lanes of the gradient, and the values' gradient behind them. -/
def headV (G v : FVec Ideal S2048x128 .f32) : FVec Ideal S2048x128 .bf16 :=
  truncf .bf16 (select (broadcastTo S2048x128 (shapeCast S1x128 k0_pay6 shapeCasts_S1x128_S1x128) broadcasts_S1x128_S2048x128) G
    (dynamicRotate 1 64#32 none (shapeCast S2048x128 v shapeCasts_S2048x128_S2048x128) rotates_S2048x128_d1)) bitsLt_bf16_f32

theorem head_k (t : FVec Ideal S2048x128 .f32) (x y : FVec Ideal S2048x128 .bf16) (g : FVec Ideal S1x128 .f32) (v : FVec Ideal S2048x128 .f32) :
    k0_pay27 k0_pay6 t (k0_pay20 k0_pay6 x y) (k0_pay21 g) (k0_pay22 k0_pay6 x y) (k0_pay23 k0_pay6 x y) v
      = headV (gradV t (keyV x y) (shapeCast S1x128 g shapeCasts_S1x128_S1x128)) v := rfl

theorem headV_apply (G v : FVec Ideal S2048x128 .f32) (r : Fin 2048) (l : Fin 128) :
    (headV G v (ix2 r l) : EReal) = if l.val < 64 then G (ix2 r l) else v (ix2 r ⟨l.val - 64, by omega⟩) := by
  pointwise [headV, k0_pay6]
  rw [low_lane, select_if]
  by_cases h : l.val < 64
  · rw [if_pos h, if_pos h]
  · have e : (l.val + 128 - 64) % 128 = l.val - 64 := by omega
    rw [if_neg h, if_neg h]
    simp only [e]

theorem final_11 (c : Dev nD) (D : S2x2048x16x96.Idx → ℝ) (X : S2x2048x16x128.Idx → ℝ) (Y : S2x2048x5552.Idx → ℝ) (G : S1x96.Idx → ℝ)
    (hD : ∀ i, dkArg m c i = D i) (hx : ∀ i, kvArg m c i = X i) (hp : ∀ i, projArg m c i = Y i) (hg : ∀ i, gkArg m c i = G i) :
    (dats m 0 c).arrAt 11 (cfgs 0).N =
    Cert.ReferenceQkIdeal.Read.val_main_v216 (F := Ideal) (dkArg m c) (dvArg m c) (kvArg m c) (projArg m c) (posArg m c) (gkArg m c) := by
  refine (dats m 0 c).arrAt_eq_of_covers 11 _ (by decide +kernel) fun t hf y => ?_
  obtain ⟨r, l, rfl⟩ : ∃ (r : Fin 2048) (l : Fin 128), y = ix2 r l := ⟨_, _, index2 y⟩
  have hy : ((cfg0.win 11).blk t).view.emb (ix2 r l) = ix2 (row t r) (lane t l) := by
    have e := idx t
    blk_ext [e, row, lane]
  have hv : (headV (keyGrad m c t) (iblk m c 2 t) (ix2 r l) : EReal)
      = Cert.ReferenceQkIdeal.Read.val_main_v216 (F := Ideal) (dkArg m c) (dvArg m c) (kvArg m c) (projArg m c) (posArg m c) (gkArg m c)
        (ix2 (row t r) (lane t l)) := by
    rw [headV_apply, ReferenceQkIdeal.Rows.out_dkv _ _ _ _ _ _ (bat t) r (hd t) (row t r) (row_eq t r) l (lane t l) (lane_eq t l)]
    by_cases hl : l.val < 64
    · rw [if_pos hl, dif_pos hl, keyGrad_apply, wide_of_lt _ _ (by omega), ReferenceQkIdeal.Rows.read_dk]
      exact fused_row (kRow_real _ X hx _ Y hp _ _ _) (dRow_real _ D hD _ _ _ _) ⟨_, fun j => hg _⟩ _
    · rw [if_neg hl, dif_neg hl, block2]
      exact wide_of_lt _ _ (by show l.val - 64 < 64; omega)
  rw [hy, ← hv]
  blk_simp
  rw [after0_11]
  by_cases h0 : t.val % 16 = 0
  · by_cases h1 : t.val % 32 = 0
    · rw [outsAt0_A m c t h0 h1]
      dsimp only
      frame_out
      rfl
    · rw [outsAt0_C m c t h0 h1]
      dsimp only
      frame_out
      rfl
  · rw [outsAt0_B m c t h0 (by omega)]
    dsimp only
    frame_out
    rfl

/-- The shared rotary lanes' gradient, added to what the heads before left. -/
def sharedV (G a : FVec Ideal S2048x128 .f32) : FVec Ideal S2048x128 .f32 :=
  addf (shapeCast S2048x128 a shapeCasts_S2048x128_S2048x128)
    (select (broadcastTo S2048x128 (shapeCast S1x128 (andi (cmpi .sge (iota .tc S1x128 32 [1] iota_S1x128_d1_w32) (broadcast S1x128 64#32))
      (cmpi .slt (iota .tc S1x128 32 [1] iota_S1x128_d1_w32) (broadcast S1x128 96#32))) shapeCasts_S1x128_S1x128) broadcasts_S1x128_S2048x128) G
      (broadcast S2048x128 (Scalar.ofBits .f32 0x00000000#32)))

theorem shared_k (t : FVec Ideal S2048x128 .f32) (x y : FVec Ideal S2048x128 .bf16) (g : FVec Ideal S1x128 .f32) (a : FVec Ideal S2048x128 .f32) :
    k0_pay28 (iota .tc S1x128 32 [1] iota_S1x128_d1_w32) t (k0_pay20 k0_pay6 x y) (k0_pay21 g) (k0_pay22 k0_pay6 x y) (k0_pay23 k0_pay6 x y) a
      = sharedV (gradV t (keyV x y) (shapeCast S1x128 g shapeCasts_S1x128_S1x128)) a := rfl

theorem sharedV_apply (G a : FVec Ideal S2048x128 .f32) (r : Fin 2048) (l : Fin 128) :
    (sharedV G a (ix2 r l) : EReal) = a (ix2 r l) + if 64 ≤ l.val ∧ l.val < 96 then G (ix2 r l) else 0 := by
  pointwise [sharedV]
  rw [turning_lane, select_if]

theorem shared_step (G a : FVec Ideal S2048x128 .f32) (j : S2048x128.Idx) : (sharedV G a j : EReal) = a j + sharedV G (fun _ => (0 : EReal)) j := by
  obtain ⟨r, l, rfl⟩ : ∃ (r : Fin 2048) (l : Fin 128), j = ix2 r l := ⟨_, _, index2 j⟩
  rw [sharedV_apply, sharedV_apply, zero_add]

theorem shared_zero (j : S2048x128.Idx) : (k0_pay1 (F := Ideal) j : EReal) = 0 := by
  pointwise! [k0_pay1]

theorem final_12 (c : Dev nD) (D : S2x2048x16x96.Idx → ℝ) (X : S2x2048x16x128.Idx → ℝ) (Y : S2x2048x5552.Idx → ℝ) (G : S1x96.Idx → ℝ)
    (hD : ∀ i, dkArg m c i = D i) (hx : ∀ i, kvArg m c i = X i) (hp : ∀ i, projArg m c i = Y i) (hg : ∀ i, gkArg m c i = G i) :
    (dats m 0 c).arrAt 12 (cfgs 0).N =
    Cert.ReferenceQkIdeal.Read.val_main_v218 (F := Ideal) (dkArg m c) (kvArg m c) (projArg m c) (posArg m c) (gkArg m c) := by
  refine (dats m 0 c).arrAt_eq_of_covers 12 _ (by decide +kernel) fun t hf y => ?_
  obtain ⟨r, l, rfl⟩ : ∃ (r : Fin 2048) (l : Fin 128), y = ix2 r l := ⟨_, _, index2 y⟩
  have hy : ((cfg0.win 12).blk t).view.emb (ix2 r l) = ix2 (row t r) l := by
    have e := idx t
    blk_ext [e, row]
  have hN : cfg0.N = 32 := N_0
  have ht := t.isLt
  have acc : ((outsAt0 m c t.val t.isLt).2.2.1 (ix2 r l) : EReal)
      = ∑ s : Fin 16, sharedV (keyGrad m c ⟨16 * (t.val / 16) + s.val, by have h : cfg0.grid.N = 32 := N_0; omega⟩) (fun _ => (0 : EReal)) (ix2 r l) :=
    (Pipeline.eq_sum_fin_of_reset_step_apply_of_flush (M := EReal) (fun n h => (outsAt0 m c n h).2.2.1) 16 (fun _ => 0)
      (fun t => sharedV (keyGrad m c t) (fun _ => (0 : EReal)))
      (fun t h j => by
        by_cases h1 : t.val % 32 = 0
        · rw [outsAt0_A m c t h h1]; frame_out; refine (congrFun (shared_k _ _ _ _ _) j).trans ?_; rw [shared_step, shared_zero]; rfl
        · rw [outsAt0_C m c t h h1]; frame_out; refine (congrFun (shared_k _ _ _ _ _) j).trans ?_; rw [shared_step, shared_zero]; rfl)
      (fun t h j => by rw [outsAt0_B m c t h (by omega)]; frame_out; refine (congrFun (shared_k _ _ _ _ _) j).trans ?_; rw [shared_step]; rfl)
      t ((flush0_12 t).mp hf) (ix2 r l)).trans (zero_add _)
  blk_simp
  rw [hy, ReferenceQkIdeal.Rows.out_dkpe _ _ _ _ _ (bat t) r (row t r) (row_eq t r) l, after0_12]
  refine acc.trans ?_
  simp only [sharedV_apply, zero_add]
  by_cases hl : 64 ≤ l.val ∧ l.val < 96
  · rw [dif_pos hl]
    refine Finset.sum_congr rfl fun h _ => ?_
    have eb : ∀ p, bat ⟨16 * (t.val / 16) + h.val, p⟩ = bat t := fun p => Fin.ext (by simp only [bat]; omega)
    have eh : ∀ p, hd ⟨16 * (t.val / 16) + h.val, p⟩ = h := fun p => Fin.ext (by simp only [hd]; omega)
    rw [if_pos hl, keyGrad_apply, wide_of_lt _ _ hl.2, eb, eh, ReferenceQkIdeal.Rows.read_dk]
    exact fused_row (kRow_real _ X hx _ Y hp _ _ _) (dRow_real _ D hD _ _ _ _) ⟨_, fun j => hg _⟩ _
  · rw [dif_neg hl]
    simp only [if_neg hl, Finset.sum_const_zero]

/-- The last grid point. -/
def t0_31 : Fin grid0.N := ⟨31, by rw [N_0]; decide⟩

theorem index1 (j : S1x128.Idx) : j = ix2 0 (j 1) := by
  funext a
  fin_cases a
  · exact Subsingleton.elim (α := Fin 1) _ _
  · rfl

theorem cols_step (T X : FVec Ideal S2048x128 .f32) (a : FVec Ideal S1x128 .f32) (j : S1x128.Idx) :
    (colV T X a j : EReal) = a j + colV T X (fun _ => (0 : EReal)) j := by
  obtain ⟨l, rfl⟩ : ∃ l : Fin 128, j = ix2 0 l := ⟨_, index1 j⟩
  rw [colV_apply, colV_apply, zero_add]

theorem cols_zero (j : S1x128.Idx) : (k0_pay2 (F := Ideal) j : EReal) = 0 ∧ (k0_pay3 (F := Ideal) j : EReal) = 0 := by
  constructor <;> pointwise! [k0_pay2, k0_pay3]

/-- Every point's rows are every batch row, position and head. -/
theorem sum_points (g : Fin 2 → Fin 2048 → Fin 16 → EReal) :
    (∑ t : Fin cfg0.N, ∑ r : Fin 2048, g (bat t) r (hd t)) = ∑ b : Fin 2, ∑ s : Fin 2048, ∑ h : Fin 16, g b s h := by
  refine (Fin.sum_divmod_fin 16 (fun b h => ∑ r : Fin 2048, g b r h) (N_0 : cfg0.N = 2 * 16)).trans ?_
  exact Finset.sum_congr rfl fun b _ => Finset.sum_comm

theorem final_13 (c : Dev nD) : (dats m 0 c).arrAt 13 (cfgs 0).N =
    Cert.ReferenceQkIdeal.Read.val_main_v219 (F := Ideal) (dqArg m c) (qArg m c) (posArg m c) := by
  refine (dats m 0 c).arrAt_eq_of_after_last 13 t0_31 (by decide +kernel) _ fun j => ?_
  blk_simp
  rw [after0_13]
  obtain ⟨l, rfl⟩ : ∃ l : Fin 128, j = ix2 0 l := ⟨_, index1 j⟩
  rw [ReferenceQkIdeal.Rows.out_dgq, Pipeline.eq_sum_fin_of_reset_step_apply_last (fun n h => (outsAt0 m c n h).2.2.2.1) 32 (fun _ => 0)
    (fun t => colV (turned (iblk m c 0 t) (iblk m c 6 t) (iblk m c 7 t)) (k0_pay14 (F := Ideal) (iblk m c 3 t)) (fun _ => (0 : EReal)))
    (fun t h j => by rw [outsAt0_A m c t (by omega) h]; frame_out; refine (congrFun (cols_q _ _ _ _ _) j).trans ?_; rw [cols_step, (cols_zero j).1])
    (fun t h j => by
      by_cases h0 : t.val % 16 = 0
      · rw [outsAt0_C m c t h0 h]; frame_out; refine (congrFun (cols_q _ _ _ _ _) j).trans ?_; rw [cols_step]
      · rw [outsAt0_B m c t h0 h]; frame_out; refine (congrFun (cols_q _ _ _ _ _) j).trans ?_; rw [cols_step]) (le_of_eq N_0) t0_31 rfl, zero_add]
  have hrow : ∀ t : Fin cfg0.N, (colV (turned (iblk m c 0 t) (iblk m c 6 t) (iblk m c 7 t)) (k0_pay14 (F := Ideal) (iblk m c 3 t)) (fun _ => (0 : EReal)) (ix2 0 l) : EReal)
      = wide (fun j => ∑ r : Fin 2048, qRow (qArg m c) (bat t) r (hd t) j
        * root (Ideal.ofBits .f32 0x42C00000#32) (Ideal.ofBits .f32 0x358637BD#32) (qRow (qArg m c) (bat t) r (hd t))
        * dRow (dqArg m c) (posArg m c) (bat t) r (hd t) j) l := fun t =>
    (columns_row _ _ _ (fun r => dRow (dqArg m c) (posArg m c) (bat t) r (hd t)) (fun r => qRow (qArg m c) (bat t) r (hd t))
      (turned_row m c t _ _ (block0 m c t)) (query_row m c t) l).trans (zero_add _)
  refine (Finset.sum_congr rfl fun t _ => hrow t).trans ?_
  by_cases hl : l.val < 96
  · rw [dif_pos hl]
    simp only [wide_of_lt _ _ hl]
    exact sum_points fun b s h => qRow (qArg m c) b s h ⟨l.val, hl⟩
      * root (Ideal.ofBits .f32 0x42C00000#32) (Ideal.ofBits .f32 0x358637BD#32) (qRow (qArg m c) b s h) * dRow (dqArg m c) (posArg m c) b s h ⟨l.val, hl⟩
  · rw [dif_neg hl]
    simp only [wide_of_ge _ _ hl, Finset.sum_const_zero]

theorem final_14 (c : Dev nD) : (dats m 0 c).arrAt 14 (cfgs 0).N =
    Cert.ReferenceQkIdeal.Read.val_main_v220 (F := Ideal) (dkArg m c) (kvArg m c) (projArg m c) (posArg m c) := by
  refine (dats m 0 c).arrAt_eq_of_after_last 14 t0_31 (by decide +kernel) _ fun j => ?_
  blk_simp
  rw [after0_14]
  obtain ⟨l, rfl⟩ : ∃ l : Fin 128, j = ix2 0 l := ⟨_, index1 j⟩
  rw [ReferenceQkIdeal.Rows.out_dgk, Pipeline.eq_sum_fin_of_reset_step_apply_last (fun n h => (outsAt0 m c n h).2.2.2.2) 32 (fun _ => 0)
    (fun t => colV (turned (iblk m c 1 t) (iblk m c 6 t) (iblk m c 7 t)) (keyV (iblk m c 4 t) (iblk m c 5 t)) (fun _ => (0 : EReal)))
    (fun t h j => by rw [outsAt0_A m c t (by omega) h]; frame_out; refine (congrFun (cols_k _ _ _ _) j).trans ?_; rw [cols_step, (cols_zero j).2]; rfl)
    (fun t h j => by
      by_cases h0 : t.val % 16 = 0
      · rw [outsAt0_C m c t h0 h]; frame_out; refine (congrFun (cols_k _ _ _ _) j).trans ?_; rw [cols_step]; rfl
      · rw [outsAt0_B m c t h0 h]; frame_out; refine (congrFun (cols_k _ _ _ _) j).trans ?_; rw [cols_step]; rfl) (le_of_eq N_0) t0_31 rfl, zero_add]
  have hrow : ∀ t : Fin cfg0.N, (colV (turned (iblk m c 1 t) (iblk m c 6 t) (iblk m c 7 t)) (keyV (iblk m c 4 t) (iblk m c 5 t)) (fun _ => (0 : EReal)) (ix2 0 l) : EReal)
      = wide (fun j => ∑ r : Fin 2048, kRow (kvArg m c) (projArg m c) (bat t) r (hd t) j
        * root (Ideal.ofBits .f32 0x42C00000#32) (Ideal.ofBits .f32 0x358637BD#32) (kRow (kvArg m c) (projArg m c) (bat t) r (hd t))
        * dRow (dkArg m c) (posArg m c) (bat t) r (hd t) j) l := fun t =>
    (columns_row _ _ _ (fun r => dRow (dkArg m c) (posArg m c) (bat t) r (hd t)) (fun r => kRow (kvArg m c) (projArg m c) (bat t) r (hd t))
      (turned_row m c t _ _ (block1 m c t)) (key_row m c t) l).trans (zero_add _)
  refine (Finset.sum_congr rfl fun t _ => hrow t).trans ?_
  by_cases hl : l.val < 96
  · rw [dif_pos hl]
    simp only [wide_of_lt _ _ hl]
    exact sum_points fun b s h => kRow (kvArg m c) (projArg m c) b s h ⟨l.val, hl⟩
      * root (Ideal.ofBits .f32 0x42C00000#32) (Ideal.ofBits .f32 0x358637BD#32) (kRow (kvArg m c) (projArg m c) b s h) * dRow (dkArg m c) (posArg m c) b s h ⟨l.val, hl⟩
  · rw [dif_neg hl]
    simp only [wide_of_ge _ _ hl, Finset.sum_const_zero]

end Cert.KernelQkIdeal.Qk

end
-- ==== Proof.QkClaim.lean ====
module

public import proofs.«01_k».proof.Defs
public import proofs.«01_k».proof.Proof.Qk
public import proofs.«01_k».proof.Proof.Finite
public import proofs.«01_k».proof.Proof.Gen.ReferenceQkIdeal.Run
public import proofs.«01_k».proof.Proof.Gen.Pre_finite_qk
public import Idealize.ShloMosaic.Init
public import Idealize.ShloMosaic.Adequacy

@[expose] public section

set_option maxRecDepth 16384

/-! The claims about the gradients behind the per-head norms and the rotation, from the two programs' runs. -/

namespace Cert.Proof.Qk

open Idealize.ShloMosaic Idealize.ShloMosaic.TcCoe Idealize.SL.Sem

section
open Cert.ReferenceQkIdeal Cert.ReferenceQkIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v214) = val_main_v214 (F := Ideal) (m ((c.tc : Thread nD τ).loc main_arg0)) (m ((c.tc : Thread nD τ).loc main_arg3)) (m ((c.tc : Thread nD τ).loc main_arg6)) (m ((c.tc : Thread nD τ).loc main_arg7))
      ∧ r.2.mem ((c.tc : Thread nD τ).loc main_v216) = val_main_v216 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg8))
      ∧ r.2.mem ((c.tc : Thread nD τ).loc main_v218) = val_main_v218 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8))
      ∧ r.2.mem ((c.tc : Thread nD τ).loc main_v219) = val_main_v219 (F := Ideal) (m ((c.tc : Thread nD τ).loc main_arg0)) (m ((c.tc : Thread nD τ).loc main_arg3)) (m ((c.tc : Thread nD τ).loc main_arg6))
      ∧ r.2.mem ((c.tc : Thread nD τ).loc main_v220) = val_main_v220 (F := Ideal) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => h c) (Cert.ReferenceQkIdeal.Value.run m g)

end

theorem frame_reference : Cert.quiescent_ReferenceQkIdeal := fun m g _ =>
  (θ_run Cert.ReferenceQkIdeal.defs _ _).mono
    (fun r h => ⟨fun c => (h c).2.2.2.2.2, sem_eq_zero_of_no_sems (by decide) r.2⟩) (run_stages m g)

theorem preserves : Cert.preserves_KernelQk_KernelQkIdeal :=
  IdealRules.named_const.statement Cert.KernelQkIdeal.κ "mean96" .f32 0x3C2AAAAB#32 _ rfl

set_option maxHeartbeats 4000000 in
theorem algebraic : Cert.algebraic_KernelQkIdeal_ReferenceQkIdeal_pre_finite_qk := by
  intro m g m' g' hpre hagree
  refine ⟨_, _, _, _, _, Cert.KernelQkIdeal.Value.run_blocks m g,
    (θ_run Cert.ReferenceQkIdeal.defs _ _).mono (fun r h c => ?_) (run_stages m' g')⟩
  obtain ⟨e0, e1, e2, e3, e4, e5, e6, e7, e8⟩ := hagree c
  obtain ⟨h0, h1, h2, h3, h4, hargs⟩ := h c
  rw [e0, e3, e6, e7] at h0
  rw [e1, e2, e4, e5, e6, e8] at h1
  rw [e1, e4, e5, e6, e8] at h2
  rw [e0, e3, e6] at h3
  rw [e1, e4, e5, e6] at h4
  have p := congrFun (hpre c) ix0
  unfold Cert.Pre_finite_qk.fn Cert.Pre_finite_qk.fn_part1 at p
  obtain ⟨p, p8⟩ := Finite.both_one _ _ p
  obtain ⟨p, p7⟩ := Finite.both_one _ _ p
  obtain ⟨p, p5⟩ := Finite.both_one _ _ p
  obtain ⟨p, p4⟩ := Finite.both_one _ _ p
  obtain ⟨p, p3⟩ := Finite.both_one _ _ p
  obtain ⟨p, p1⟩ := Finite.both_one _ _ p
  obtain ⟨A0, q0⟩ := Finite.real _ _ _ _ p
  obtain ⟨A1, q1⟩ := Finite.real _ _ _ _ p1
  obtain ⟨A3, q3⟩ := Finite.real _ _ _ _ p3
  obtain ⟨A4, q4⟩ := Finite.real _ _ _ _ p4
  obtain ⟨A5, q5⟩ := Finite.real _ _ _ _ p5
  obtain ⟨A7, q7⟩ := Finite.real _ _ _ _ p7
  obtain ⟨A8, q8⟩ := Finite.real _ _ _ _ p8
  exact ⟨h0.trans (KernelQkIdeal.Qk.final_10 m c A0 A3 A7 q0 q3 q7).symm,
    h1.trans (KernelQkIdeal.Qk.final_11 m c A1 A4 A5 A8 q1 q4 q5 q8).symm,
    h2.trans (KernelQkIdeal.Qk.final_12 m c A1 A4 A5 A8 q1 q4 q5 q8).symm,
    h3.trans (KernelQkIdeal.Qk.final_13 m c).symm,
    h4.trans (KernelQkIdeal.Qk.final_14 m c).symm, hargs⟩

end Cert.Proof.Qk
-- ==== Proof.MergeFwd.lean ====
module

public import proofs.«01_k».proof.Proof.Gen.KernelMergeFwdIdeal.Value
public import Idealize.ShloMosaic.Lib.Pipeline.ValueKit
public import Idealize.ShloMosaic.Lib.Claim
public import proofs.«01_k».proof.Proof.Packed
public import proofs.«01_k».proof.Proof.Tiles
public import proofs.«01_k».proof.Proof.Gen.ReferenceMergeFwdIdeal.Read

@[expose] public section

set_option maxRecDepth 16384

noncomputable section

open Idealize.ShloMosaic Idealize.ShloMosaic.TcCoe Idealize.SL.Sem
open Idealize.ShloMosaic.Pipeline (Dat)

namespace Cert.KernelMergeFwdIdeal.MergeFwd

open Cert.KernelMergeFwdIdeal Cert.KernelMergeFwdIdeal.Gen Cert.Tiles

variable (m : (ℓ : Loc nD τ sig) → Buf (Elt Ideal) ℓ)

/-- The projection. -/
abbrev projArg (c : Dev nD) : FVec Ideal S2x2048x5552 .f32 := m ((c : Thread nD τ).loc main_arg0)
/-- the bias of the gates -/
abbrev biasArg (c : Dev nD) : FVec Ideal S1x2048 .f32 := m ((c : Thread nD τ).loc main_arg1)
/-- the first branch -/
abbrev yaArg (c : Dev nD) : FVec Ideal S2x2048x1024 .f32 := m ((c : Thread nD τ).loc main_arg2)
/-- the second branch -/
abbrev ybArg (c : Dev nD) : FVec Ideal S2x2048x1024 .f32 := m ((c : Thread nD τ).loc main_arg3)

/-- The batch row a grid point works on. -/
abbrev row (t : Fin cfg0.N) : Fin 2 := bat t.val (t.isLt.trans_le (le_of_eq N_0))

theorem idx : ∀ t : Fin cfg0.N, win0_0.index t = ![t.val / 4, t.val % 4, 3]
    ∧ win0_1.index t = ![t.val / 4, t.val % 4, 4]
    ∧ win0_2.index t = ![0, 0]
    ∧ win0_3.index t = ![0, 1]
    ∧ win0_4.index t = ![t.val / 4, t.val % 4, 0]
    ∧ win0_5.index t = ![t.val / 4, t.val % 4, 0]
    ∧ win0_6.index t = ![t.val / 4, t.val % 4, 0] :=
  (by decide +kernel : ∀ t : Fin grid0.N, _)

set_option maxHeartbeats 1600000 in
theorem read_logits (c : Dev nD) (b : Fin 2) (r : Fin 2048) (l : Fin 2048) (k : Fin 5760) (hk : 3072 + l.val = k.val) :
    V m c main_v9 (ix3 b r k) = projArg m c (ix3 b r ⟨3504 + l.val, by omega⟩) := by
  show StableHlo.after hostOps0 _ _ _ = _
  unfold hostOps0
  after_results_simp
  refine (Packed.gates_apply _ _ _ _ _ _ _ _ _ b r k l hk).trans ?_
  simp only [Matrix.cons_val_one, Matrix.cons_val_zero]
  after_results_simp
  pointwise

theorem block0 (c : Dev nD) (t : Fin cfg0.N) (r : Fin 512) (l : Fin 1024) :
    (X0_0 m c t : FVec Ideal S1x512x1024 .bf16) (ix3 0 r l)
      = projArg m c (ix3 (row t) (pos t.val r) ⟨3504 + l.val, by omega⟩) := by
  unfold X0_0 Pipeline.Window.fill
  rw [dif_pos (moved0_0 t (ix3 0 r l))]
  refine Eq.trans ?_ (read_logits m c (row t) (pos t.val r) ⟨l.val, by omega⟩ ⟨3072 + l.val, by omega⟩ rfl)
  blk_simp [iblk, idx t]
  have e := idx t
  blk_ext [e, row, bat, pos]

theorem block1 (c : Dev nD) (t : Fin cfg0.N) (r : Fin 512) (l : Fin 1024) :
    (X0_1 m c t : FVec Ideal S1x512x1024 .bf16) (ix3 0 r l)
      = projArg m c (ix3 (row t) (pos t.val r) ⟨3504 + (1024 + l.val), by omega⟩) := by
  unfold X0_1 Pipeline.Window.fill
  rw [dif_pos (moved0_1 t (ix3 0 r l))]
  refine Eq.trans ?_ (read_logits m c (row t) (pos t.val r) ⟨1024 + l.val, by omega⟩ ⟨4096 + l.val, by omega⟩ (by simp; omega))
  blk_simp [iblk, idx t]
  have e := idx t
  blk_ext [e, row, bat, pos]

theorem block2 (c : Dev nD) (t : Fin cfg0.N) (l : Fin 1024) :
    (iblk m c 2 t : FVec Ideal S1x1024 .f32) (ix2 0 l) = biasArg m c (ix2 0 ⟨l.val, by omega⟩) := by
  blk_point [iblk, V, idx t]

theorem block3 (c : Dev nD) (t : Fin cfg0.N) (l : Fin 1024) :
    (iblk m c 3 t : FVec Ideal S1x1024 .f32) (ix2 0 l) = biasArg m c (ix2 0 ⟨1024 + l.val, by omega⟩) := by
  blk_point [iblk, V, idx t]

theorem block4 (c : Dev nD) (t : Fin cfg0.N) (r : Fin 512) (l : Fin 1024) :
    (iblk m c 4 t : FVec Ideal S1x512x1024 .bf16) (ix3 0 r l) = yaArg m c (ix3 (row t) (pos t.val r) l) := by
  blk_simp [iblk, idx t]
  entry_read
  pointwise
  blk_point [iblk, V, idx t, row, bat, pos]

theorem block5 (c : Dev nD) (t : Fin cfg0.N) (r : Fin 512) (l : Fin 1024) :
    (iblk m c 5 t : FVec Ideal S1x512x1024 .bf16) (ix3 0 r l) = ybArg m c (ix3 (row t) (pos t.val r) l) := by
  blk_simp [iblk, idx t]
  entry_read
  pointwise
  blk_point [iblk, V, idx t, row, bat, pos]

/-- A merge gate. -/
def gate (x : EReal) : EReal := Ideal.div 1 (1 + Ideal.exp (-x))

theorem ref_merged (a0 : FVec Ideal S2x2048x5552 .f32) (a1 : FVec Ideal S1x2048 .f32) (a2 a3 : FVec Ideal S2x2048x1024 .f32)
    (b : Fin 2) (s : Fin 2048) (l : Fin 1024) :
    (Cert.ReferenceMergeFwdIdeal.Read.val_main_v24 (F := Ideal) a0 a1 a2 a3 (ix3 b s l) : EReal)
      = gate (a0 (ix3 b s ⟨3504 + l.val, by omega⟩) + a1 (ix2 0 ⟨l.val, by omega⟩)) * a2 (ix3 b s l)
        + gate (a0 (ix3 b s ⟨3504 + (1024 + l.val), by omega⟩) + a1 (ix2 0 ⟨1024 + l.val, by omega⟩)) * a3 (ix3 b s l) := by
  open Cert.ReferenceMergeFwdIdeal.Read in
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, gate]

theorem tile_6 (c : Dev nD) (t : Fin cfg0.N) (r : Fin 512) (l : Fin 1024) :
    (k0_pay1 (F := Ideal) (k0_pay2 (X0_0 m c t) (iblk m c 2 t) (X0_1 m c t) (iblk m c 3 t) (iblk m c 4 t) (iblk m c 5 t))
        (ix3 0 r l) : EReal)
      = Cert.ReferenceMergeFwdIdeal.Read.val_main_v24 (F := Ideal) (projArg m c) (biasArg m c) (yaArg m c) (ybArg m c)
        (ix3 (row t) (pos t.val r) l) := by
  rw [ref_merged]
  pointwise [k0_pay1, k0_pay2, gate]
  simp only [block0, block1, block2, block3, block4, block5, zero_sub]

theorem final_6 (c : Dev nD) : (dats m 0 c).arrAt 6 (cfgs 0).N =
    Cert.ReferenceMergeFwdIdeal.Read.val_main_v24 (F := Ideal) (projArg m c) (biasArg m c) (yaArg m c) (ybArg m c) := by
  refine (dats m 0 c).arrAt_eq_of_covers 6 _ (by decide +kernel) fun t hf y => ?_
  obtain ⟨r, l, rfl⟩ : ∃ (r : Fin 512) (l : Fin 1024), y = ix3 0 r l := ⟨_, _, tile_index y⟩
  have hy : ((cfg0.win 6).blk t).view.emb (ix3 0 r l) = ix3 (row t) (pos t.val r) l := by
    have e := idx t
    blk_ext [e, row, bat, pos]
  rw [hy, ← tile_6]
  blk_simp
  rw [after0_6]
  unfold outsAt0 out0_A_6
  frame_out

end Cert.KernelMergeFwdIdeal.MergeFwd

end
-- ==== Proof.MergeFwdClaim.lean ====
module

public import proofs.«01_k».proof.Defs
public import proofs.«01_k».proof.Proof.MergeFwd
public import proofs.«01_k».proof.Proof.Gen.ReferenceMergeFwdIdeal.Run
public import Idealize.ShloMosaic.Init
public import Idealize.ShloMosaic.Adequacy

@[expose] public section

set_option maxRecDepth 16384

/-! The claims about the merge gates, from the two programs' runs. -/

namespace Cert.Proof.MergeFwd

open Idealize.ShloMosaic Idealize.ShloMosaic.TcCoe Idealize.SL.Sem

section
open Cert.ReferenceMergeFwdIdeal Cert.ReferenceMergeFwdIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ReferenceMergeFwdIdeal.Value.run m g)

end

theorem frame_reference : Cert.quiescent_ReferenceMergeFwdIdeal := fun m g _ =>
  (θ_run Cert.ReferenceMergeFwdIdeal.defs _ _).mono
    (fun r h => ⟨fun c => (h c).2, sem_eq_zero_of_no_sems (by decide) r.2⟩) (run_stages m g)

theorem algebraic : Cert.algebraic_KernelMergeFwdIdeal_ReferenceMergeFwdIdeal := by
  intro m g m' g' hpre hagree
  refine ⟨_, Cert.KernelMergeFwdIdeal.Value.run_blocks m g,
    (θ_run Cert.ReferenceMergeFwdIdeal.defs _ _).mono (fun r h c => ?_) (run_stages m' g')⟩
  obtain ⟨e0, e1, e2, e3⟩ := hagree c
  obtain ⟨h0, hargs⟩ := h c
  rw [e0, e1, e2, e3] at h0
  exact ⟨h0.trans (KernelMergeFwdIdeal.MergeFwd.final_6 m c).symm, hargs⟩

end Cert.Proof.MergeFwd
-- ==== Proof.Norm1Fwd.lean ====
module

public import proofs.«01_k».proof.Proof.Gen.KernelNorm1FwdIdeal.Value
public import Idealize.ShloMosaic.Lib.Pipeline.ValueKit
public import Idealize.ShloMosaic.Lib.Claim
public import proofs.«01_k».proof.Proof.NormMath
public import proofs.«01_k».proof.Proof.Tiles
public import proofs.«01_k».proof.Proof.Gen.ReferenceNorm1FwdIdeal.Read

@[expose] public section

set_option maxRecDepth 16384

noncomputable section

open Idealize.ShloMosaic Idealize.ShloMosaic.TcCoe Idealize.SL.Sem
open Idealize.ShloMosaic.Pipeline (Dat)

namespace Cert.KernelNorm1FwdIdeal.Norm1Fwd

open Cert.KernelNorm1FwdIdeal Cert.KernelNorm1FwdIdeal.Gen Cert.NormMath Cert.Tiles

variable (m : (ℓ : Loc nD τ sig) → Buf (Elt Ideal) ℓ)

/-- The row. -/
abbrev xArg (c : Dev nD) : FVec Ideal S2x2048x1024 .f32 := m ((c : Thread nD τ).loc main_arg0)
/-- the gain -/
abbrev gArg (c : Dev nD) : FVec Ideal S1x1024 .f32 := m ((c : Thread nD τ).loc main_arg1)
/-- the shift -/
abbrev shArg (c : Dev nD) : FVec Ideal S2x1024 .f32 := m ((c : Thread nD τ).loc main_arg2)
/-- the scale -/
abbrev scArg (c : Dev nD) : FVec Ideal S2x1024 .f32 := m ((c : Thread nD τ).loc main_arg3)

/-- The batch row a grid point works on. -/
abbrev row (t : Fin cfg0.N) : Fin 2 := bat t.val (t.isLt.trans_le (le_of_eq N_0))

theorem idx : ∀ t : Fin cfg0.N, win0_0.index t = ![t.val / 4, t.val % 4, 0]
    ∧ win0_1.index t = ![0, 0]
    ∧ win0_2.index t = ![t.val / 4, 0, 0]
    ∧ win0_3.index t = ![t.val / 4, 0, 0]
    ∧ win0_4.index t = ![t.val / 4, t.val % 4, 0] :=
  (by decide +kernel : ∀ t : Fin grid0.N, _)

theorem block0 (c : Dev nD) (t : Fin cfg0.N) (r : Fin 512) (l : Fin 1024) :
    (iblk m c 0 t : FVec Ideal S1x512x1024 .f32) (ix3 0 r l) = xArg m c (ix3 (row t) (pos t.val r) l) := by
  blk_point [iblk, V, idx t, row, bat, pos]

theorem block1 (c : Dev nD) (t : Fin cfg0.N) (l : Fin 1024) :
    (iblk m c 1 t : FVec Ideal S1x1024 .f32) (ix2 0 l) = gArg m c (ix2 0 l) := by
  blk_point [iblk, V, idx t]

theorem block2 (c : Dev nD) (t : Fin cfg0.N) (l : Fin 1024) :
    (iblk m c 2 t : FVec Ideal S1x1x1024 .f32) (ix3 0 0 l) = scArg m c (ix2 (row t) l) := by
  blk_simp [iblk, idx t]
  entry_read
  pointwise
  blk_point [iblk, V, idx t, row, bat]

theorem block3 (c : Dev nD) (t : Fin cfg0.N) (l : Fin 1024) :
    (iblk m c 3 t : FVec Ideal S1x1x1024 .f32) (ix3 0 0 l) = shArg m c (ix2 (row t) l) := by
  blk_simp [iblk, idx t]
  entry_read
  pointwise
  blk_point [iblk, V, idx t, row, bat]

theorem ref_h (a0 : FVec Ideal S2x2048x1024 .f32) (a1 : FVec Ideal S1x1024 .f32) (a2 a3 : FVec Ideal S2x1024 .f32)
    (b : Fin 2) (s : Fin 2048) (l : Fin 1024) :
    (Cert.ReferenceNorm1FwdIdeal.Read.val_main_v22 (F := Ideal) a0 a1 a2 a3 (ix3 b s l) : EReal)
      = modulated (fun j : Fin 1024 => a0 (ix3 b s j)) (fun j => a1 (ix2 0 j))
        (fun j => a3 (ix2 b j)) (fun j => a2 (ix2 b j)) l := by
  open Cert.ReferenceNorm1FwdIdeal.Read in
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, modulated, root, level]

theorem tile_4 (c : Dev nD) (t : Fin cfg0.N) (r : Fin 512) (l : Fin 1024) :
    (k0_pay1 (F := Ideal) (iblk m c 0 t) (iblk m c 1 t) (iblk m c 2 t) (iblk m c 3 t) (ix3 0 r l) : EReal)
      = Cert.ReferenceNorm1FwdIdeal.Read.val_main_v22 (F := Ideal) (xArg m c) (gArg m c) (shArg m c) (scArg m c)
        (ix3 (row t) (pos t.val r) l) := by
  rw [ref_h]
  pointwise [k0_pay1, modulated, root, level]
  simp only [block0, block1, block2, block3]

theorem final_4 (c : Dev nD) : (dats m 0 c).arrAt 4 (cfgs 0).N =
    Cert.ReferenceNorm1FwdIdeal.Read.val_main_v22 (F := Ideal) (xArg m c) (gArg m c) (shArg m c) (scArg m c) := by
  refine (dats m 0 c).arrAt_eq_of_covers 4 _ (by decide +kernel) fun t hf y => ?_
  obtain ⟨r, l, rfl⟩ : ∃ (r : Fin 512) (l : Fin 1024), y = ix3 0 r l := ⟨_, _, tile_index y⟩
  have hy : ((cfg0.win 4).blk t).view.emb (ix3 0 r l) = ix3 (row t) (pos t.val r) l := by
    have e := idx t
    blk_ext [e, row, bat, pos]
  rw [hy, ← tile_4]
  blk_simp
  rw [after0_4]
  unfold out0_4
  frame_out

end Cert.KernelNorm1FwdIdeal.Norm1Fwd

end
-- ==== Proof.Norm1FwdClaim.lean ====
module

public import proofs.«01_k».proof.Defs
public import proofs.«01_k».proof.Proof.Norm1Fwd
public import proofs.«01_k».proof.Proof.Gen.ReferenceNorm1FwdIdeal.Run
public import Idealize.ShloMosaic.Init
public import Idealize.ShloMosaic.Adequacy

@[expose] public section

set_option maxRecDepth 16384

/-! The claims about the first modulated norm, from the two programs' runs. -/

namespace Cert.Proof.Norm1Fwd

open Idealize.ShloMosaic Idealize.ShloMosaic.TcCoe Idealize.SL.Sem

section
open Cert.ReferenceNorm1FwdIdeal Cert.ReferenceNorm1FwdIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v22) = val_main_v22 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ReferenceNorm1FwdIdeal.Value.run m g)

end

theorem frame_reference : Cert.quiescent_ReferenceNorm1FwdIdeal := fun m g _ =>
  (θ_run Cert.ReferenceNorm1FwdIdeal.defs _ _).mono
    (fun r h => ⟨fun c => (h c).2, sem_eq_zero_of_no_sems (by decide) r.2⟩) (run_stages m g)

theorem algebraic : Cert.algebraic_KernelNorm1FwdIdeal_ReferenceNorm1FwdIdeal := by
  intro m g m' g' hpre hagree
  refine ⟨_, Cert.KernelNorm1FwdIdeal.Value.run_blocks m g,
    (θ_run Cert.ReferenceNorm1FwdIdeal.defs _ _).mono (fun r h c => ?_) (run_stages m' g')⟩
  obtain ⟨e0, e1, e2, e3⟩ := hagree c
  obtain ⟨h0, hargs⟩ := h c
  rw [e0, e1, e2, e3] at h0
  exact ⟨h0.trans (KernelNorm1FwdIdeal.Norm1Fwd.final_4 m c).symm, hargs⟩

end Cert.Proof.Norm1Fwd
-- ==== Proof.Norm2Fwd.lean ====
module

public import proofs.«01_k».proof.Proof.Gen.KernelNorm2FwdIdeal.Value
public import Idealize.ShloMosaic.Lib.Pipeline.ValueKit
public import Idealize.ShloMosaic.Lib.Claim
public import proofs.«01_k».proof.Proof.NormMath
public import proofs.«01_k».proof.Proof.Tiles
public import proofs.«01_k».proof.Proof.Gen.ReferenceNorm2FwdIdeal.Read

@[expose] public section

set_option maxRecDepth 16384

noncomputable section

open Idealize.ShloMosaic Idealize.ShloMosaic.TcCoe Idealize.SL.Sem
open Idealize.ShloMosaic.Pipeline (Dat)

namespace Cert.KernelNorm2FwdIdeal.Norm2Fwd

open Cert.KernelNorm2FwdIdeal Cert.KernelNorm2FwdIdeal.Gen Cert.NormMath Cert.Tiles

variable (m : (ℓ : Loc nD τ sig) → Buf (Elt Ideal) ℓ)

/-- The row. -/
abbrev xArg (c : Dev nD) : FVec Ideal S2x2048x1024 .f32 := m ((c : Thread nD τ).loc main_arg0)
/-- the mixed branches -/
abbrev mxArg (c : Dev nD) : FVec Ideal S2x2048x1024 .f32 := m ((c : Thread nD τ).loc main_arg1)
/-- their gate -/
abbrev gtArg (c : Dev nD) : FVec Ideal S2x1024 .f32 := m ((c : Thread nD τ).loc main_arg2)
/-- the gain -/
abbrev gArg (c : Dev nD) : FVec Ideal S1x1024 .f32 := m ((c : Thread nD τ).loc main_arg3)
/-- the shift -/
abbrev shArg (c : Dev nD) : FVec Ideal S2x1024 .f32 := m ((c : Thread nD τ).loc main_arg4)
/-- the scale -/
abbrev scArg (c : Dev nD) : FVec Ideal S2x1024 .f32 := m ((c : Thread nD τ).loc main_arg5)

/-- The batch row a grid point works on. -/
abbrev row (t : Fin cfg0.N) : Fin 2 := bat t.val (t.isLt.trans_le (le_of_eq N_0))

theorem idx : ∀ t : Fin cfg0.N, win0_0.index t = ![t.val / 4, t.val % 4, 0]
    ∧ win0_1.index t = ![t.val / 4, t.val % 4, 0]
    ∧ win0_2.index t = ![t.val / 4, 0, 0]
    ∧ win0_3.index t = ![0, 0]
    ∧ win0_4.index t = ![t.val / 4, 0, 0]
    ∧ win0_5.index t = ![t.val / 4, 0, 0]
    ∧ win0_6.index t = ![t.val / 4, t.val % 4, 0]
    ∧ win0_7.index t = ![t.val / 4, t.val % 4, 0] :=
  (by decide +kernel : ∀ t : Fin grid0.N, _)

theorem block0 (c : Dev nD) (t : Fin cfg0.N) (r : Fin 512) (l : Fin 1024) :
    (iblk m c 0 t : FVec Ideal S1x512x1024 .f32) (ix3 0 r l) = xArg m c (ix3 (row t) (pos t.val r) l) := by
  blk_point [iblk, V, idx t, row, bat, pos]

theorem block1 (c : Dev nD) (t : Fin cfg0.N) (r : Fin 512) (l : Fin 1024) :
    (iblk m c 1 t : FVec Ideal S1x512x1024 .f32) (ix3 0 r l) = mxArg m c (ix3 (row t) (pos t.val r) l) := by
  blk_point [iblk, V, idx t, row, bat, pos]

theorem block2 (c : Dev nD) (t : Fin cfg0.N) (l : Fin 1024) :
    (iblk m c 2 t : FVec Ideal S1x1x1024 .f32) (ix3 0 0 l) = gtArg m c (ix2 (row t) l) := by
  blk_simp [iblk, idx t]
  entry_read
  pointwise
  blk_point [iblk, V, idx t, row, bat]

theorem block3 (c : Dev nD) (t : Fin cfg0.N) (l : Fin 1024) :
    (iblk m c 3 t : FVec Ideal S1x1024 .f32) (ix2 0 l) = gArg m c (ix2 0 l) := by
  blk_point [iblk, V, idx t]

theorem block4 (c : Dev nD) (t : Fin cfg0.N) (l : Fin 1024) :
    (iblk m c 4 t : FVec Ideal S1x1x1024 .f32) (ix3 0 0 l) = scArg m c (ix2 (row t) l) := by
  blk_simp [iblk, idx t]
  entry_read
  pointwise
  blk_point [iblk, V, idx t, row, bat]

theorem block5 (c : Dev nD) (t : Fin cfg0.N) (l : Fin 1024) :
    (iblk m c 5 t : FVec Ideal S1x1x1024 .f32) (ix3 0 0 l) = shArg m c (ix2 (row t) l) := by
  blk_simp [iblk, idx t]
  entry_read
  pointwise
  blk_point [iblk, V, idx t, row, bat]

section Reference
open Cert.ReferenceNorm2FwdIdeal.Read
variable (a0 a1 : FVec Ideal S2x2048x1024 .f32) (a2 : FVec Ideal S2x1024 .f32) (a3 : FVec Ideal S1x1024 .f32) (a4 a5 : FVec Ideal S2x1024 .f32)

theorem ref_x1 (b : Fin 2) (s : Fin 2048) (l : Fin 1024) :
    (val_main_v3 (F := Ideal) a0 a1 a2 (ix3 b s l) : EReal) = a0 (ix3 b s l) + a2 (ix2 b l) * a1 (ix3 b s l) := by
  pointwise [val_main_v0, val_main_v1, val_main_v2, val_main_v3]

theorem ref_h (b : Fin 2) (s : Fin 2048) (l : Fin 1024) :
    (val_main_v26 (F := Ideal) a0 a1 a2 a3 a4 a5 (ix3 b s l) : EReal)
      = modulated (fun j : Fin 1024 => a0 (ix3 b s j) + a2 (ix2 b j) * a1 (ix3 b s j)) (fun j => a3 (ix2 0 j))
        (fun j => a5 (ix2 b j)) (fun j => a4 (ix2 b j)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, modulated, root, level]

end Reference

theorem tile_6 (c : Dev nD) (t : Fin cfg0.N) (r : Fin 512) (l : Fin 1024) :
    (k0_pay3 (F := Ideal) (iblk m c 0 t) (iblk m c 2 t) (iblk m c 1 t) (ix3 0 r l) : EReal)
      = Cert.ReferenceNorm2FwdIdeal.Read.val_main_v3 (F := Ideal) (xArg m c) (mxArg m c) (gtArg m c)
        (ix3 (row t) (pos t.val r) l) := by
  rw [ref_x1]
  pointwise [k0_pay2, k0_pay3]
  simp only [block0, block1, block2]

theorem tile_7 (c : Dev nD) (t : Fin cfg0.N) (r : Fin 512) (l : Fin 1024) :
    (k0_pay1 (F := Ideal) (k0_pay4 (iblk m c 0 t) (iblk m c 2 t) (iblk m c 1 t) (iblk m c 3 t) (iblk m c 4 t))
        (k0_pay5 (iblk m c 5 t)) (ix3 0 r l) : EReal)
      = Cert.ReferenceNorm2FwdIdeal.Read.val_main_v26 (F := Ideal) (xArg m c) (mxArg m c) (gtArg m c) (gArg m c) (shArg m c)
        (scArg m c) (ix3 (row t) (pos t.val r) l) := by
  rw [ref_h]
  pointwise [k0_pay1, k0_pay2, k0_pay4, k0_pay5, modulated, root, level]
  simp only [block0, block1, block2, block3, block4, block5]

theorem final_6 (c : Dev nD) : (dats m 0 c).arrAt 6 (cfgs 0).N =
    Cert.ReferenceNorm2FwdIdeal.Read.val_main_v3 (F := Ideal) (xArg m c) (mxArg m c) (gtArg m c) := by
  refine (dats m 0 c).arrAt_eq_of_covers 6 _ (by decide +kernel) fun t hf y => ?_
  obtain ⟨r, l, rfl⟩ : ∃ (r : Fin 512) (l : Fin 1024), y = ix3 0 r l := ⟨_, _, tile_index y⟩
  have hy : ((cfg0.win 6).blk t).view.emb (ix3 0 r l) = ix3 (row t) (pos t.val r) l := by
    have e := idx t
    blk_ext [e, row, bat, pos]
  rw [hy, ← tile_6]
  blk_simp
  rw [after0_6]
  unfold out0_6
  frame_out

theorem final_7 (c : Dev nD) : (dats m 0 c).arrAt 7 (cfgs 0).N =
    Cert.ReferenceNorm2FwdIdeal.Read.val_main_v26 (F := Ideal) (xArg m c) (mxArg m c) (gtArg m c) (gArg m c) (shArg m c) (scArg m c) := by
  refine (dats m 0 c).arrAt_eq_of_covers 7 _ (by decide +kernel) fun t hf y => ?_
  obtain ⟨r, l, rfl⟩ : ∃ (r : Fin 512) (l : Fin 1024), y = ix3 0 r l := ⟨_, _, tile_index y⟩
  have hy : ((cfg0.win 7).blk t).view.emb (ix3 0 r l) = ix3 (row t) (pos t.val r) l := by
    have e := idx t
    blk_ext [e, row, bat, pos]
  rw [hy, ← tile_7]
  blk_simp
  rw [after0_7]
  unfold out0_7
  frame_out

end Cert.KernelNorm2FwdIdeal.Norm2Fwd

end
-- ==== Proof.Norm2FwdClaim.lean ====
module

public import proofs.«01_k».proof.Defs
public import proofs.«01_k».proof.Proof.Norm2Fwd
public import proofs.«01_k».proof.Proof.Gen.ReferenceNorm2FwdIdeal.Run
public import Idealize.ShloMosaic.Init
public import Idealize.ShloMosaic.Adequacy

@[expose] public section

set_option maxRecDepth 16384

/-! The claims about the gated residual and the second modulated norm, from the two programs' runs. -/

namespace Cert.Proof.Norm2Fwd

open Idealize.ShloMosaic Idealize.ShloMosaic.TcCoe Idealize.SL.Sem

section
open Cert.ReferenceNorm2FwdIdeal Cert.ReferenceNorm2FwdIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = val_main_v3 (F := Ideal) (m ((c.tc : Thread nD τ).loc main_arg0)) (m ((c.tc : Thread nD τ).loc main_arg1)) (m ((c.tc : Thread nD τ).loc main_arg2))
      ∧ r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => h c) (Cert.ReferenceNorm2FwdIdeal.Value.run m g)

end

theorem frame_reference : Cert.quiescent_ReferenceNorm2FwdIdeal := fun m g _ =>
  (θ_run Cert.ReferenceNorm2FwdIdeal.defs _ _).mono
    (fun r h => ⟨fun c => (h c).2.2, sem_eq_zero_of_no_sems (by decide) r.2⟩) (run_stages m g)

theorem algebraic : Cert.algebraic_KernelNorm2FwdIdeal_ReferenceNorm2FwdIdeal := by
  intro m g m' g' hpre hagree
  refine ⟨_, _, Cert.KernelNorm2FwdIdeal.Value.run_blocks m g,
    (θ_run Cert.ReferenceNorm2FwdIdeal.defs _ _).mono (fun r h c => ?_) (run_stages m' g')⟩
  obtain ⟨e0, e1, e2, e3, e4, e5⟩ := hagree c
  obtain ⟨h0, h1, hargs⟩ := h c
  rw [e0, e1, e2] at h0
  rw [e0, e1, e2, e3, e4, e5] at h1
  exact ⟨h0.trans (KernelNorm2FwdIdeal.Norm2Fwd.final_6 m c).symm,
    h1.trans (KernelNorm2FwdIdeal.Norm2Fwd.final_7 m c).symm, hargs⟩

end Cert.Proof.Norm2Fwd
-- ==== Proof.LatFwd.lean ====
module

public import proofs.«01_k».proof.Proof.Gen.KernelLatFwdIdeal.Value
public import Idealize.ShloMosaic.Lib.Pipeline.ValueKit
public import Idealize.ShloMosaic.Lib.Claim
public import proofs.«01_k».proof.Proof.Packed
public import proofs.«01_k».proof.Proof.NormMath
public import proofs.«01_k».proof.Proof.Tiles
public import proofs.«01_k».proof.Proof.Gen.ReferenceLatFwdIdeal.Read

@[expose] public section

set_option maxRecDepth 16384

noncomputable section

open Idealize.ShloMosaic Idealize.ShloMosaic.TcCoe Idealize.SL.Sem
open Idealize.ShloMosaic.Pipeline (Dat)

namespace Cert.KernelLatFwdIdeal.LatFwd

open Cert.KernelLatFwdIdeal Cert.KernelLatFwdIdeal.Gen Cert.NormMath Cert.Tiles

variable (m : (ℓ : Loc nD τ sig) → Buf (Elt Ideal) ℓ)

/-- The projection. -/
abbrev projArg (c : Dev nD) : FVec Ideal S2x2048x5552 .f32 := m ((c : Thread nD τ).loc main_arg0)
/-- the gain of the query latent -/
abbrev gqArg (c : Dev nD) : FVec Ideal S1x256 .f32 := m ((c : Thread nD τ).loc main_arg1)
/-- the gain of the key-value latent -/
abbrev gkArg (c : Dev nD) : FVec Ideal S1x128 .f32 := m ((c : Thread nD τ).loc main_arg2)

/-- The batch row a grid point works on. -/
abbrev row (t : Fin cfg0.N) : Fin 2 := bat t.val (t.isLt.trans_le (le_of_eq N_0))

/-- The flat row. -/
def flat (t : Fin cfg0.N) (r : Fin 512) : Fin 4096 :=
  ⟨t.val * 512 + r.val, by have := t.isLt; have : cfg0.N = 8 := N_0; omega⟩

theorem flat_eq (t : Fin cfg0.N) (r : Fin 512) : (row t).val * 2048 + (pos t.val r).val = (flat t r).val := by
  show t.val / 4 * 2048 + (t.val % 4 * 512 + r.val) = t.val * 512 + r.val
  omega

theorem idx : ∀ t : Fin cfg0.N, win0_0.index t = ![t.val, 20]
    ∧ win0_1.index t = ![t.val, 42]
    ∧ win0_2.index t = ![0, 0]
    ∧ win0_3.index t = ![0, 0]
    ∧ win0_4.index t = ![t.val, 0]
    ∧ win0_5.index t = ![t.val, 0] :=
  (by decide +kernel : ∀ t : Fin grid0.N, _)

/-- Rows of a batched array read in the flat array. -/
theorem flat_apply {α : Type} {n : Nat} (f : (⟨3, ![2, 2048, n]⟩ : Shape).Idx → α)
    (h : Shape.ShapeCasts (⟨3, ![2, 2048, n]⟩ : Shape) ⟨2, ![4096, n]⟩) (b : Fin 2) (s : Fin 2048) (q : Fin 4096)
    (e : b.val * 2048 + s.val = q.val) (l : Fin n) : shapeCast (⟨2, ![4096, n]⟩ : Shape) f h (ix2 q l) = f (ix3 b s l) := by
  refine shapeCast_apply _ _ _ _ ?_
  rw [Shape.rowMajor_val_three, Shape.rowMajor_val_two]
  show (b.val * 2048 + s.val) * n + l.val = q.val * n + l.val
  rw [e]

theorem block2 (c : Dev nD) (t : Fin cfg0.N) (l : Fin 256) :
    (iblk m c 2 t : FVec Ideal S1x256 .f32) (ix2 0 l) = gqArg m c (ix2 0 l) := by
  blk_point [iblk, V, idx t]

theorem block3 (c : Dev nD) (t : Fin cfg0.N) (l : Fin 128) :
    (iblk m c 3 t : FVec Ideal S1x128 .f32) (ix2 0 l) = gkArg m c (ix2 0 l) := by
  blk_point [iblk, V, idx t]

set_option maxHeartbeats 1600000 in
theorem read_cq (c : Dev nD) (b : Fin 2) (s : Fin 2048) (q : Fin 4096) (e : b.val * 2048 + s.val = q.val) (l : Fin 256)
    (k : Fin 5760) (hk : 5120 + l.val = k.val) :
    V m c main_v10 (ix2 q k) = projArg m c (ix3 b s ⟨3088 + l.val, by omega⟩) := by
  show StableHlo.after hostOps0 _ _ _ = _
  unfold hostOps0
  after_results_simp
  refine (flat_apply _ _ b s q e k).trans ?_
  refine (Packed.cq_apply _ _ _ _ _ _ _ _ _ b s k l hk).trans ?_
  simp only [Matrix.cons_val]
  after_results_simp
  pointwise

set_option maxHeartbeats 1600000 in
theorem read_ckv (c : Dev nD) (b : Fin 2) (s : Fin 2048) (q : Fin 4096) (e : b.val * 2048 + s.val = q.val) (l : Fin 128)
    (k : Fin 5760) (hk : 5376 + l.val = k.val) :
    V m c main_v10 (ix2 q k) = projArg m c (ix3 b s ⟨3344 + l.val, by omega⟩) := by
  show StableHlo.after hostOps0 _ _ _ = _
  unfold hostOps0
  after_results_simp
  refine (flat_apply _ _ b s q e k).trans ?_
  refine (Packed.ckv_apply _ _ _ _ _ _ _ _ _ b s k l hk).trans ?_
  simp only [Matrix.cons_val]
  after_results_simp
  pointwise

theorem block1 (c : Dev nD) (t : Fin cfg0.N) (r : Fin 512) (l : Fin 128) :
    (iblk m c 1 t : FVec Ideal S512x128 .bf16) (ix2 r l)
      = projArg m c (ix3 (row t) (pos t.val r) ⟨3344 + l.val, by omega⟩) := by
  refine Eq.trans ?_ (read_ckv m c (row t) (pos t.val r) (flat t r) (flat_eq t r) l ⟨5376 + l.val, by omega⟩ rfl)
  blk_simp [iblk, idx t]
  have e := idx t
  blk_ext [e, flat]

theorem block0 (c : Dev nD) (t : Fin cfg0.N) (r : Fin 512) (l : Fin 256) :
    (X0_0 m c t : FVec Ideal S512x256 .bf16) (ix2 r l)
      = projArg m c (ix3 (row t) (pos t.val r) ⟨3088 + l.val, by omega⟩) := by
  unfold X0_0 Pipeline.Window.fill
  rw [dif_pos (moved0_0 t (ix2 r l))]
  refine Eq.trans ?_ (read_cq m c (row t) (pos t.val r) (flat t r) (flat_eq t r) l ⟨5120 + l.val, by omega⟩ rfl)
  blk_simp [iblk, idx t]
  have e := idx t
  blk_ext [e, flat]

/-- A normalised row times its gain. -/
def normed {n : ℕ} (c : EReal) (x g : Fin n → EReal) (l : Fin n) : EReal :=
  x l * root c (Ideal.ofBits .f32 0x358637BD#32) x * g l

section Reference
open Cert.ReferenceLatFwdIdeal.Read
variable (a0 : FVec Ideal S2x2048x5552 .f32) (a1 : FVec Ideal S1x256 .f32) (a2 : FVec Ideal S1x128 .f32)

theorem ref_q (b : Fin 2) (s : Fin 2048) (q : Fin 4096) (e : b.val * 2048 + s.val = q.val) (l : Fin 256) :
    (val_main_v24 (F := Ideal) a0 a1 (ix2 q l) : EReal)
      = normed (Ideal.ofBits .f32 0x43800000#32) (fun j : Fin 256 => a0 (ix3 b s ⟨3088 + j.val, by omega⟩))
        (fun j => a1 (ix2 0 j)) l := by
  refine (flat_apply (val_main_v22 (F := Ideal) a0 a1) Cert.ReferenceLatFwdIdeal.Facts₀.shapeCasts_S2x2048x256_S4096x256 b s q e l).trans ?_
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, normed, root, level]

theorem ref_k (b : Fin 2) (s : Fin 2048) (q : Fin 4096) (e : b.val * 2048 + s.val = q.val) (l : Fin 128) :
    (val_main_v40 (F := Ideal) a0 a2 (ix2 q l) : EReal)
      = normed (Ideal.ofBits .f32 0x43000000#32) (fun j : Fin 128 => a0 (ix3 b s ⟨3344 + j.val, by omega⟩))
        (fun j => a2 (ix2 0 j)) l := by
  refine (flat_apply (val_main_v38 (F := Ideal) a0 a2) Cert.ReferenceLatFwdIdeal.Facts₀.shapeCasts_S2x2048x128_S4096x128 b s q e l).trans ?_
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, normed, root, level]

end Reference

theorem index2 {n0 n1 : Nat} (y : (⟨2, ![n0, n1]⟩ : Shape).Idx) : y = ix2 (y 0) (y 1) := by
  funext a
  fin_cases a <;> rfl

theorem tile_4 (c : Dev nD) (t : Fin cfg0.N) (r : Fin 512) (l : Fin 256) :
    (k0_pay1 (F := Ideal) (X0_0 m c t) (iblk m c 2 t) (ix2 r l) : EReal)
      = Cert.ReferenceLatFwdIdeal.Read.val_main_v24 (F := Ideal) (projArg m c) (gqArg m c) (ix2 (flat t r) l) := by
  rw [ref_q _ _ _ _ _ (flat_eq t r)]
  pointwise [k0_pay1, normed, root, level]
  simp only [block0, block2]

theorem final_4 (c : Dev nD) : (dats m 0 c).arrAt 4 (cfgs 0).N =
    Cert.ReferenceLatFwdIdeal.Read.val_main_v24 (F := Ideal) (projArg m c) (gqArg m c) := by
  refine (dats m 0 c).arrAt_eq_of_covers 4 _ (by decide +kernel) fun t hf y => ?_
  obtain ⟨r, l, rfl⟩ : ∃ (r : Fin 512) (l : Fin 256), y = ix2 r l := ⟨_, _, index2 y⟩
  have hy : ((cfg0.win 4).blk t).view.emb (ix2 r l) = ix2 (flat t r) l := by
    have e := idx t
    blk_ext [e, flat]
  rw [hy, ← tile_4]
  blk_simp
  rw [after0_4]
  unfold outsAt0 out0_A_4
  frame_out

theorem tile_5 (c : Dev nD) (t : Fin cfg0.N) (r : Fin 512) (l : Fin 128) :
    (k0_pay2 (F := Ideal) (iblk m c 1 t) (iblk m c 3 t) (ix2 r l) : EReal)
      = Cert.ReferenceLatFwdIdeal.Read.val_main_v40 (F := Ideal) (projArg m c) (gkArg m c) (ix2 (flat t r) l) := by
  rw [ref_k _ _ _ _ _ (flat_eq t r)]
  pointwise [k0_pay2, normed, root, level]
  simp only [block1, block3]

theorem final_5 (c : Dev nD) : (dats m 0 c).arrAt 5 (cfgs 0).N =
    Cert.ReferenceLatFwdIdeal.Read.val_main_v40 (F := Ideal) (projArg m c) (gkArg m c) := by
  refine (dats m 0 c).arrAt_eq_of_covers 5 _ (by decide +kernel) fun t hf y => ?_
  obtain ⟨r, l, rfl⟩ : ∃ (r : Fin 512) (l : Fin 128), y = ix2 r l := ⟨_, _, index2 y⟩
  have hy : ((cfg0.win 5).blk t).view.emb (ix2 r l) = ix2 (flat t r) l := by
    have e := idx t
    blk_ext [e, flat]
  rw [hy, ← tile_5]
  blk_simp
  rw [after0_5]
  unfold outsAt0 out0_A_5
  frame_out

end Cert.KernelLatFwdIdeal.LatFwd

end
-- ==== Proof.LatFwdClaim.lean ====
module

public import proofs.«01_k».proof.Defs
public import proofs.«01_k».proof.Proof.LatFwd
public import proofs.«01_k».proof.Proof.Gen.ReferenceLatFwdIdeal.Run
public import Idealize.ShloMosaic.Init
public import Idealize.ShloMosaic.Adequacy

@[expose] public section

set_option maxRecDepth 16384

/-! The claims about the two latent norms, from the two programs' runs. -/

namespace Cert.Proof.LatFwd

open Idealize.ShloMosaic Idealize.ShloMosaic.TcCoe Idealize.SL.Sem

section
open Cert.ReferenceLatFwdIdeal Cert.ReferenceLatFwdIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0)) (m ((c.tc : Thread nD τ).loc main_arg1))
      ∧ r.2.mem ((c.tc : Thread nD τ).loc main_v40) = val_main_v40 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Cert.ReferenceLatFwdIdeal.Value.run m g)

end

theorem frame_reference : Cert.quiescent_ReferenceLatFwdIdeal := fun m g _ =>
  (θ_run Cert.ReferenceLatFwdIdeal.defs _ _).mono
    (fun r h => ⟨fun c => (h c).2.2, sem_eq_zero_of_no_sems (by decide) r.2⟩) (run_stages m g)

theorem algebraic : Cert.algebraic_KernelLatFwdIdeal_ReferenceLatFwdIdeal := by
  intro m g m' g' hpre hagree
  refine ⟨_, _, Cert.KernelLatFwdIdeal.Value.run_blocks m g,
    (θ_run Cert.ReferenceLatFwdIdeal.defs _ _).mono (fun r h c => ?_) (run_stages m' g')⟩
  obtain ⟨e0, e1, e2⟩ := hagree c
  obtain ⟨h0, h1, hargs⟩ := h c
  rw [e0, e1] at h0
  rw [e0, e2] at h1
  exact ⟨h0.trans (KernelLatFwdIdeal.LatFwd.final_4 m c).symm,
    h1.trans (KernelLatFwdIdeal.LatFwd.final_5 m c).symm, hargs⟩

end Cert.Proof.LatFwd
-- ==== Proof.QkFwdRef.lean ====
module

public import proofs.«01_k».proof.Proof.QkRef
public import proofs.«01_k».proof.Proof.Gen.ReferenceQkFwdIdeal.Read
public import proofs.«01_k».proof.Proof.Gen.ReferenceQkFwdIdeal.Run

@[expose] public section

set_option maxRecDepth 16384

/-! The per-head norms and the rotation, read row by row off the reference. -/

noncomputable section

open Idealize.ShloMosaic Idealize.ShloMosaic.TcCoe Idealize.SL.Sem

namespace Cert.ReferenceQkFwdIdeal.Rows

open Cert.ReferenceQkFwdIdeal Cert.ReferenceQkFwdIdeal.Gen Cert.ReferenceQkFwdIdeal.Read Cert.NormMath
open Cert.ReferenceQkIdeal.Rows (cosAt sinAt qRow kRow zero_word)

/-- A rotated row: sixteen pairs of lanes behind sixty-four lanes that stay. -/
def ahead (d : Fin 96 → EReal) (c s : Fin 16 → EReal) (l : Fin 96) : EReal :=
  if h0 : l.val < 64 then d l
  else if h1 : l.val < 80 then d l * c ⟨l.val - 64, by omega⟩ - d ⟨l.val + 16, by omega⟩ * s ⟨l.val - 64, by omega⟩
  else d l * c ⟨l.val - 80, by omega⟩ + d ⟨l.val - 16, by omega⟩ * s ⟨l.val - 80, by omega⟩

/-- A normed row times its gain. -/
def normed (x g : Fin 96 → EReal) (l : Fin 96) : EReal :=
  x l * root (Ideal.ofBits .f32 0x42C00000#32) (Ideal.ofBits .f32 0x358637BD#32) x * g l

variable (x0 : FVec Ideal S2x2048x16x96 .f32) (x1 : FVec Ideal S2x2048x16x128 .f32) (x2 : FVec Ideal S2x2048x5552 .f32)
  (x3 : IVec S2x2048 32) (x4 x5 : FVec Ideal S1x96 .f32) (b : Fin 2) (s : Fin 2048) (h : Fin 16)

theorem cos_eq (k : Fin 16) : (val_main_v60 (F := Ideal) x3 (ix3 b s k) : EReal) = cosAt x3 b s k := rfl
theorem sin_eq (k : Fin 16) : (val_main_v62 (F := Ideal) x3 (ix3 b s k) : EReal) = sinAt x3 b s k := rfl

/-- An array of rows, rotated: the last lanes are cut in two halves and put together again. -/
def rotated (d : FVec Ideal S2x2048x16x96 .f32) : FVec Ideal S2x2048x16x96 .f32 :=
  let r := extractStridedSlice S2x2048x16x32 ![0, 0, 0, 64] d slices_S2x2048x16x96_S2x2048x16x32_0_0_0_64
  let u := extractStridedSlice S2x2048x16x16 ![0, 0, 0, 0] r slices_S2x2048x16x32_S2x2048x16x16_0_0_0_0
  let v := extractStridedSlice S2x2048x16x16 ![0, 0, 0, 16] r slices_S2x2048x16x32_S2x2048x16x16_0_0_0_16
  let c : FVec Ideal S2x2048x16x16 .f32 := val_main_v66 (F := Ideal) x3
  let n : FVec Ideal S2x2048x16x16 .f32 := val_main_v68 (F := Ideal) x3
  concatenate S2x2048x16x96 3 [⟨S2x2048x16x64, extractStridedSlice S2x2048x16x64 ![0, 0, 0, 0] d slices_S2x2048x16x96_S2x2048x16x64_0_0_0_0⟩,
    ⟨S2x2048x16x32, concatenate S2x2048x16x32 3 [⟨S2x2048x16x16, subf (mulf u c) (mulf v n)⟩, ⟨S2x2048x16x16, addf (mulf v c) (mulf u n)⟩]
      concatenates_S2x2048x16x16_S2x2048x16x16_S2x2048x16x32_d3⟩] concatenates_S2x2048x16x64_S2x2048x16x32_S2x2048x16x96_d3

theorem query_rotated : val_main_v77 (F := Ideal) x0 x3 x4 = rotated x3 (val_main_v27 (F := Ideal) x0 x4) := rfl
theorem key_rotated : val_main_v113 (F := Ideal) x1 x2 x3 x5 = rotated x3 (val_main_v41 (F := Ideal) x1 x2 x5) := rfl

theorem rotated_apply (d : FVec Ideal S2x2048x16x96 .f32) (l : Fin 96) :
    (rotated x3 d (ix4 b s h l) : EReal) = ahead (fun j => d (ix4 b s h j)) (cosAt x3 b s) (sinAt x3 b s) l := by
  unfold ahead
  simp only [← cos_eq, ← sin_eq]
  by_cases h0 : l.val < 64
  · rw [dif_pos h0]
    pointwise [rotated]
    split_ifs <;> first | omega | rfl
  · rw [dif_neg h0]
    by_cases h1 : l.val < 80
    · rw [dif_pos h1]
      have e : 64 + (16 + (l.val - 64)) = l.val + 16 := by omega
      have e' : 64 + (l.val - 64) = l.val := by omega
      pointwise [rotated, val_main_v61, val_main_v63, val_main_v66, val_main_v68]
      split_ifs <;> first | omega | simp only [e, e']
    · rw [dif_neg h1]
      have e : 64 + (l.val - 80) = l.val - 16 := by omega
      have e' : 64 + (16 + (l.val - 80)) = l.val := by omega
      have e2 : l.val - 64 - 16 = l.val - 80 := by omega
      pointwise [rotated, val_main_v61, val_main_v63, val_main_v66, val_main_v68]
      split_ifs <;> first | omega | simp only [e, e', e2]

theorem read_q (l : Fin 96) : (val_main_v27 (F := Ideal) x0 x4 (ix4 b s h l) : EReal)
    = normed (qRow x0 b s h) (fun j => x4 (ix2 0 j)) l := by
  unfold normed root level qRow
  pointwise [val_main_v14, val_main_v15, val_main_v16, val_main_v17, val_main_v18, val_main_v19, val_main_v20, val_main_v21, val_main_v22, val_main_v23, val_main_v24, val_main_v25, val_main_v26, val_main_v27, val_main_cst, val_main_cst_0, val_main_cst_1]

theorem read_k (l : Fin 96) : (val_main_v41 (F := Ideal) x1 x2 x5 (ix4 b s h l) : EReal)
    = normed (kRow x1 x2 b s h) (fun j => x5 (ix2 0 j)) l := by
  have hk : kRow x1 x2 b s h = fun j => val_main_v13 (F := Ideal) x1 x2 (ix4 b s h j) :=
    funext fun j => (Cert.ReferenceQkIdeal.Rows.read_k x1 x2 b s h j).symm
  unfold normed root level
  rw [hk]
  pointwise [val_main_v28, val_main_v29, val_main_v30, val_main_v31, val_main_v32, val_main_v33, val_main_v34, val_main_v35, val_main_v36, val_main_v37, val_main_v38, val_main_v39, val_main_v40, val_main_v41, val_main_cst_2, val_main_cst_3, val_main_cst_4]

/-! ### The three results -/

theorem out_q (q : Fin 4096) (eq : b.val * 2048 + s.val = q.val) (l : Fin 128) (m : Fin 2048) (em : h.val * 128 + l.val = m.val) :
    (val_main_v116 (F := Ideal) x0 x3 x4 (ix2 q m) : EReal)
      = if hl : l.val < 96 then (val_main_v77 (F := Ideal) x0 x3 x4 (ix4 b s h ⟨l.val, hl⟩) : EReal) else 0 := by
  pointwise [val_main_v114, val_main_v115, val_main_v116, val_main_call0_v0, val_main_c]
  have eb : q.val / 2048 = b.val := by omega
  have es : q.val % 2048 = s.val := by omega
  have eh : m.val / 128 = h.val := by omega
  have el : m.val % 128 = l.val := by omega
  simp only [eb, es, eh, el, Fin.eta, b.isLt, s.isLt, h.isLt, true_and, zero_word]

theorem out_k (q : Fin 4096) (eq : b.val * 2048 + s.val = q.val) (l : Fin 128) (m : Fin 2048) (em : h.val * 128 + l.val = m.val) :
    (val_main_v119 (F := Ideal) x1 x2 x3 x5 (ix2 q m) : EReal)
      = if hl : l.val < 96 then (val_main_v113 (F := Ideal) x1 x2 x3 x5 (ix4 b s h ⟨l.val, hl⟩) : EReal) else 0 := by
  pointwise [val_main_v117, val_main_v118, val_main_v119, val_main_call1_v0, val_main_c_13]
  have eb : q.val / 2048 = b.val := by omega
  have es : q.val % 2048 = s.val := by omega
  have eh : m.val / 128 = h.val := by omega
  have el : m.val % 128 = l.val := by omega
  simp only [eb, es, eh, el, Fin.eta, b.isLt, s.isLt, h.isLt, true_and, zero_word]

theorem out_v (q : Fin 4096) (eq : b.val * 2048 + s.val = q.val) (l : Fin 128) (m : Fin 2048) (em : h.val * 128 + l.val = m.val) :
    (val_main_v122 (F := Ideal) x1 (ix2 q m) : EReal)
      = if hl : l.val < 64 then (x1 (ix4 b s h ⟨64 + l.val, by omega⟩) : EReal) else 0 := by
  pointwise [val_main_v10, val_main_v120, val_main_v121, val_main_v122, val_main_call2_v0, val_main_c_14]
  have eb : q.val / 2048 = b.val := by omega
  have es : q.val % 2048 = s.val := by omega
  have eh : m.val / 128 = h.val := by omega
  have el : m.val % 128 = l.val := by omega
  simp only [eb, es, eh, el, Fin.eta, b.isLt, s.isLt, h.isLt, true_and, zero_word]

end Cert.ReferenceQkFwdIdeal.Rows

end
-- ==== Proof.QkFwd.lean ====
module

public import proofs.«01_k».proof.Proof.Gen.KernelQkFwdIdeal.Value
public import proofs.«01_k».proof.Proof.Qk
public import proofs.«01_k».proof.Proof.QkFwdRef

@[expose] public section

set_option maxRecDepth 16384

/-! The per-head norms and the rotation: what the kernel's tiles hold, and that they are the reference's rows. -/

noncomputable section

open Idealize.ShloMosaic Idealize.ShloMosaic.TcCoe Idealize.SL.Sem
open Idealize.ShloMosaic.Pipeline (Dat)

namespace Cert.KernelQkFwdIdeal.QkFwd

open Cert.KernelQkFwdIdeal Cert.KernelQkFwdIdeal.Gen Cert.NormMath
open Cert.KernelQkIdeal.Qk (flat4_apply flat_apply freqs lanes lanes_apply sign_apply wide wide96 wide_gain freqs_apply zero_fill
  word_96 wide_of_lt wide_of_ge wide_mul rootBy root_wide cosRow sinRow low_lane first_lane second_lane select_if mean mean_eq index2)
open Cert.ReferenceQkFwdIdeal.Rows (ahead normed)
open Cert.ReferenceQkIdeal.Rows (qRow kRow cosAt sinAt)

variable (m : (ℓ : Loc nD τ sig) → Buf (Elt Ideal) ℓ)

/-- The queries before their norm, the keys with the values, the projection. -/
abbrev qArg (c : Dev nD) : FVec Ideal S2x2048x16x96 .f32 := m ((c : Thread nD τ).loc main_arg0)
abbrev kvArg (c : Dev nD) : FVec Ideal S2x2048x16x128 .f32 := m ((c : Thread nD τ).loc main_arg1)
abbrev projArg (c : Dev nD) : FVec Ideal S2x2048x5552 .f32 := m ((c : Thread nD τ).loc main_arg2)
/-- the positions and the gains -/
abbrev posArg (c : Dev nD) : IVec S2x2048 32 := m ((c : Thread nD τ).loc main_arg3)
abbrev gqArg (c : Dev nD) : FVec Ideal S1x96 .f32 := m ((c : Thread nD τ).loc main_arg4)
abbrev gkArg (c : Dev nD) : FVec Ideal S1x96 .f32 := m ((c : Thread nD τ).loc main_arg5)

/-- The sequence and the position of a flat row, the head of a grid point, and the flat lane. -/
def bat (r : Fin 4096) : Fin 2 := ⟨r.val / 2048, by omega⟩
def pos (r : Fin 4096) : Fin 2048 := ⟨r.val % 2048, by omega⟩
def hd (t : Fin cfg0.N) : Fin 16 := ⟨t.val, by have := t.isLt; have : cfg0.N = 16 := N_0; omega⟩
def lane (t : Fin cfg0.N) (l : Fin 128) : Fin 2048 := ⟨t.val * 128 + l.val, by have := t.isLt; have : cfg0.N = 16 := N_0; omega⟩

theorem row_eq (r : Fin 4096) : (bat r).val * 2048 + (pos r).val = r.val := by unfold bat pos; dsimp only; omega
theorem lane_eq (t : Fin cfg0.N) (l : Fin 128) : (hd t).val * 128 + l.val = (lane t l).val := rfl

theorem idx : ∀ t : Fin cfg0.N, win0_0.index t = ![0, t.val]
    ∧ win0_1.index t = ![0, t.val]
    ∧ win0_2.index t = ![0, 44]
    ∧ win0_3.index t = ![0, 0]
    ∧ win0_4.index t = ![0, 0]
    ∧ win0_5.index t = ![0, 0]
    ∧ win0_6.index t = ![0, 0]
    ∧ win0_7.index t = ![0, t.val]
    ∧ win0_8.index t = ![0, t.val]
    ∧ win0_9.index t = ![0, t.val] :=
  (by decide +kernel : ∀ t : Fin grid0.N, _)

/-! ### The arrays the call is given -/

section Host
variable (c : Dev nD) (b : Fin 2) (s : Fin 2048) (h : Fin 16) (q : Fin 4096) (e : b.val * 2048 + s.val = q.val)
  (l : Fin 128) (k : Fin 2048) (ek : h.val * 128 + l.val = k.val)

include e ek in
theorem read_q : (V m c main_v31 : FVec Ideal S4096x2048 .bf16) (ix2 q k) = wide (fun j : Fin 96 => qArg m c (ix4 b s h j)) l := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_results_simp
  exact (flat4_apply _ _ b s h l q e k ek).trans (wide96 _ _ (fun i => zero_fill i) b s h l)

include e ek in
theorem read_kv : (V m c main_v33 : FVec Ideal S4096x2048 .bf16) (ix2 q k) = (kvArg m c (ix4 b s h l) : EReal) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_results_simp
  exact flat4_apply _ _ b s h l q e k ek

include e in
theorem read_kpe (i : Fin 5760) (hi : 5632 + l.val = i.val) (hl : 64 ≤ l.val) :
    (V m c main_v44 : FVec Ideal S4096x5760 .bf16) (ix2 q i)
      = wide (fun j : Fin 96 => if 64 ≤ j.val then projArg m c (ix3 b s ⟨3408 + j.val, by omega⟩) else (0 : EReal)) l := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_results_simp
  refine (flat_apply _ _ b s q e i).trans ?_
  by_cases h96 : l.val < 96
  · have hw : wide (fun j : Fin 96 => if 64 ≤ j.val then projArg m c (ix3 b s ⟨3408 + j.val, by omega⟩) else (0 : EReal)) l
        = projArg m c (ix3 b s ⟨3472 + (l.val - 64), by omega⟩) := by
      refine (dif_pos h96).trans ((if_pos (show 64 ≤ l.val from hl)).trans ?_)
      exact congrArg (fun j => projArg m c (ix3 b s j)) (Fin.ext (by show 3408 + l.val = 3472 + (l.val - 64); omega))
    refine (Packed.kpe_apply _ _ _ _ _ _ _ _ _ b s i ⟨l.val - 64, by omega⟩ (by show 5696 + (l.val - 64) = i.val; omega)).trans (Eq.trans ?_ hw.symm)
    simp only [Matrix.cons_val]
    after_results_simp
    pointwise
  · have hw : wide (fun j : Fin 96 => if 64 ≤ j.val then projArg m c (ix3 b s ⟨3408 + j.val, by omega⟩) else (0 : EReal)) l = 0 :=
      dif_neg h96
    refine (Packed.piece_apply _ _ _ _ _ _ _ _ _ b s i 7 (by decide) 32 _ rfl 5728 rfl ⟨l.val - 96, by omega⟩ (by show 5728 + (l.val - 96) = i.val; omega)).trans (Eq.trans ?_ hw.symm)
    simp only [Matrix.cons_val]
    after_results_simp
    show Ideal.ofBits .bf16 0#16 = 0
    simp [Ideal.ofBits, Ideal.ieee]

include e in
theorem read_cos : (V m c main_v23 : FVec Ideal S4096x128 .f32) (ix2 q l)
    = if hl : 64 ≤ l.val ∧ l.val < 96 then ReferenceQkIdeal.Rows.cosAt (posArg m c) b s ⟨l.val % 16, by omega⟩ else (1 : EReal) := by
  unfold ReferenceQkIdeal.Rows.cosAt
  unfold V hostOps0 hostOps0_1 hostOps0_2 hostOps0_3 hostOps0_4 hostOps0_5 hostOps0_6 hostOps0_7 hostOps0_8
  simp only [List.flatten_cons, List.flatten_nil, List.cons_append, List.nil_append, List.append_nil]
  after_results_simp
  pointwise [ReferenceQkIdeal.Read.val_main_v48, ReferenceQkIdeal.Read.val_main_v49, ReferenceQkIdeal.Read.val_main_v50, ReferenceQkIdeal.Read.val_main_v51, ReferenceQkIdeal.Read.val_main_v52, ReferenceQkIdeal.Read.val_main_v53, ReferenceQkIdeal.Read.val_main_v54, ReferenceQkIdeal.Read.val_main_v55, ReferenceQkIdeal.Read.val_main_v56, ReferenceQkIdeal.Read.val_main_v57, ReferenceQkIdeal.Read.val_main_v58, ReferenceQkIdeal.Read.val_main_v59, ReferenceQkIdeal.Read.val_main_v60, ReferenceQkIdeal.Read.val_main_v61, ReferenceQkIdeal.Read.val_main_v62, ReferenceQkIdeal.Read.val_main_v63, ReferenceQkIdeal.Read.val_main_v64, ReferenceQkIdeal.Read.val_main_v65, ReferenceQkIdeal.Read.val_main_v66, ReferenceQkIdeal.Read.val_main_cst_7, ReferenceQkIdeal.Read.val_main_cst_8, ReferenceQkIdeal.Read.val_main_cst_9, ReferenceQkIdeal.Read.val_main_cst_10]
  show Ideal.cos (_ * lanes (ix1 l)) = _
  have eb : q.val / 2048 = b.val := by omega
  have es : q.val % 2048 = s.val := by omega
  rw [lanes_apply]
  simp only [eb, es, Fin.eta, freqs_apply]
  split_ifs with hl
  · rfl
  · rw [mul_zero]
    exact (congrArg (fun r : ℝ => (r : EReal)) Real.cos_zero)

include e in
theorem read_sin : (V m c main_v26 : FVec Ideal S4096x128 .f32) (ix2 q l)
    = if hl : 64 ≤ l.val ∧ l.val < 80 then ReferenceQkIdeal.Rows.sinAt (posArg m c) b s ⟨l.val - 64, by omega⟩ * ((-1 : ℝ) : EReal)
      else if hl : 80 ≤ l.val ∧ l.val < 96 then ReferenceQkIdeal.Rows.sinAt (posArg m c) b s ⟨l.val - 80, by omega⟩ else (0 : EReal) := by
  unfold ReferenceQkIdeal.Rows.sinAt
  unfold V hostOps0 hostOps0_1 hostOps0_2 hostOps0_3 hostOps0_4 hostOps0_5 hostOps0_6 hostOps0_7 hostOps0_8
  simp only [List.flatten_cons, List.flatten_nil, List.cons_append, List.nil_append, List.append_nil]
  after_results_simp
  pointwise [ReferenceQkIdeal.Read.val_main_v48, ReferenceQkIdeal.Read.val_main_v49, ReferenceQkIdeal.Read.val_main_v50, ReferenceQkIdeal.Read.val_main_v51, ReferenceQkIdeal.Read.val_main_v52, ReferenceQkIdeal.Read.val_main_v53, ReferenceQkIdeal.Read.val_main_v54, ReferenceQkIdeal.Read.val_main_v55, ReferenceQkIdeal.Read.val_main_v56, ReferenceQkIdeal.Read.val_main_v57, ReferenceQkIdeal.Read.val_main_v58, ReferenceQkIdeal.Read.val_main_v59, ReferenceQkIdeal.Read.val_main_v60, ReferenceQkIdeal.Read.val_main_v61, ReferenceQkIdeal.Read.val_main_v62, ReferenceQkIdeal.Read.val_main_v63, ReferenceQkIdeal.Read.val_main_v64, ReferenceQkIdeal.Read.val_main_v65, ReferenceQkIdeal.Read.val_main_v67, ReferenceQkIdeal.Read.val_main_v68, ReferenceQkIdeal.Read.val_main_cst_7, ReferenceQkIdeal.Read.val_main_cst_8, ReferenceQkIdeal.Read.val_main_cst_9, ReferenceQkIdeal.Read.val_main_cst_10]
  show Ideal.sin (_ * lanes (ix1 l)) * Ideal.ofBits .f32 (lit2 (S128.rowMajor (ix1 l))) = _
  have eb : q.val / 2048 = b.val := by omega
  have es : q.val % 2048 = s.val := by omega
  rw [lanes_apply, show Ideal.ofBits .f32 (lit2 (S128.rowMajor (ix1 l))) = _ from sign_apply l]
  simp only [eb, es, Fin.eta, freqs_apply]
  by_cases h0 : 64 ≤ l.val ∧ l.val < 80
  · have e1 : l.val % 16 = l.val - 64 := by omega
    rw [if_pos h0, dif_pos h0, if_pos ⟨h0.1, by omega⟩]
    simp only [e1]
  · rw [if_neg h0, dif_neg h0]
    by_cases h1 : 80 ≤ l.val ∧ l.val < 96
    · have e1 : l.val % 16 = l.val - 80 := by omega
      rw [if_pos h1, dif_pos h1, if_pos ⟨by omega, h1.2⟩, mul_one]
      simp only [e1]
    · rw [if_neg h1, dif_neg h1, mul_zero]

theorem read_gq : (V m c main_v27 : FVec Ideal S1x128 .f32) (ix2 0 l) = wide (fun j : Fin 96 => gqArg m c (ix2 0 j)) l := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_results_simp
  exact wide_gain _ _ (fun i => zero_fill i) l

theorem read_gk : (V m c main_v28 : FVec Ideal S1x128 .f32) (ix2 0 l) = wide (fun j : Fin 96 => gkArg m c (ix2 0 j)) l := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_results_simp
  exact wide_gain _ _ (fun i => zero_fill i) l

end Host

/-! ### The blocks -/

section Blocks
variable (c : Dev nD) (t : Fin cfg0.N) (r : Fin 4096) (l : Fin 128)

theorem block0 : (iblk m c 0 t : FVec Ideal S4096x128 .bf16) (ix2 r l) = wide (fun j : Fin 96 => qArg m c (ix4 (bat r) (pos r) (hd t) j)) l := by
  refine Eq.trans ?_ (read_q m c (bat r) (pos r) (hd t) r (row_eq r) l (lane t l) (lane_eq t l))
  blk_simp [iblk, idx t]
  have e := idx t
  blk_ext [e, lane]

theorem block1 : (iblk m c 1 t : FVec Ideal S4096x128 .bf16) (ix2 r l) = kvArg m c (ix4 (bat r) (pos r) (hd t) l) := by
  refine Eq.trans ?_ (read_kv m c (bat r) (pos r) (hd t) r (row_eq r) l (lane t l) (lane_eq t l))
  blk_simp [iblk, idx t]
  have e := idx t
  blk_ext [e, lane]

theorem block2 (hl : 64 ≤ l.val) : (iblk m c 2 t : FVec Ideal S4096x128 .bf16) (ix2 r l)
    = wide (fun j : Fin 96 => if 64 ≤ j.val then projArg m c (ix3 (bat r) (pos r) ⟨3408 + j.val, by omega⟩) else (0 : EReal)) l := by
  refine Eq.trans ?_ (read_kpe m c (bat r) (pos r) (hd t) r (row_eq r) l (lane t l) ⟨5632 + l.val, by omega⟩ rfl hl)
  blk_simp [iblk, idx t]
  have e := idx t
  blk_ext [e]

theorem block3 : (iblk m c 3 t : FVec Ideal S4096x128 .f32) (ix2 r l) = cosRow (cosAt (posArg m c) (bat r) (pos r)) l := by
  refine Eq.trans ?_ (read_cos m c (bat r) (pos r) (hd t) r (row_eq r) l (lane t l) (lane_eq t l))
  blk_simp [iblk, idx t]
  have e := idx t
  blk_ext [e]

theorem block4 : (iblk m c 4 t : FVec Ideal S4096x128 .f32) (ix2 r l) = sinRow (sinAt (posArg m c) (bat r) (pos r)) l := by
  refine Eq.trans ?_ (read_sin m c (bat r) (pos r) (hd t) r (row_eq r) l (lane t l) (lane_eq t l))
  blk_simp [iblk, idx t]
  have e := idx t
  blk_ext [e]

theorem block5 : (iblk m c 5 t : FVec Ideal S1x128 .f32) (ix2 0 l) = wide (fun j : Fin 96 => gqArg m c (ix2 0 j)) l := by
  refine Eq.trans ?_ (read_gq m c l)
  blk_simp [iblk, idx t]
  have e := idx t
  blk_ext [e]

theorem block6 : (iblk m c 6 t : FVec Ideal S1x128 .f32) (ix2 0 l) = wide (fun j : Fin 96 => gkArg m c (ix2 0 j)) l := by
  refine Eq.trans ?_ (read_gk m c l)
  blk_simp [iblk, idx t]
  have e := idx t
  blk_ext [e]

end Blocks

/-! ### Rows of 128 lanes, of which 96 are used -/

/-- A rotated row, in the lanes' own form. -/
def forth (d c s : Fin 128 → EReal) (l : Fin 128) : EReal :=
  d l * c l + (if h0 : 64 ≤ l.val ∧ l.val < 80 then d ⟨l.val + 16, by omega⟩
    else if h1 : 80 ≤ l.val ∧ l.val < 96 then d ⟨l.val - 16, by omega⟩ else 0) * s l

theorem forth_wide (d : Fin 96 → EReal) (c s : Fin 16 → EReal) (l : Fin 128) :
    forth (wide d) (cosRow c) (sinRow s) l = wide (fun j => ahead d c s j) l := by
  unfold forth
  by_cases hl : l.val < 96
  · rw [wide_of_lt _ _ hl, wide_of_lt _ _ hl]
    unfold ahead cosRow sinRow
    by_cases h0 : l.val < 64
    · rw [dif_neg (by omega), dif_neg (by omega), dif_neg (by omega), dif_neg (by omega), dif_neg (by omega), dif_pos h0, mul_one, mul_zero, add_zero]
    · rw [dif_pos ⟨by omega, hl⟩, dif_neg h0]
      by_cases h1 : l.val < 80
      · have e : l.val % 16 = l.val - 64 := by omega
        rw [dif_pos ⟨by omega, h1⟩, dif_pos h1, dif_pos ⟨by omega, h1⟩, wide_of_lt _ _ (by simp only; omega)]
        simp only [e]
        rw [show ((-1 : ℝ) : EReal) = -1 from rfl, mul_neg, mul_one, mul_neg, ← sub_eq_add_neg]
      · have e : l.val % 16 = l.val - 80 := by omega
        rw [dif_neg (by omega), dif_pos ⟨by omega, hl⟩, dif_neg h1, dif_neg (by omega), dif_pos ⟨by omega, hl⟩, wide_of_lt _ _ (by simp only; omega)]
        simp only [e]
  · rw [wide_of_ge _ _ hl, wide_of_ge _ _ hl, zero_mul, dif_neg (by omega), dif_neg (by omega), zero_mul, add_zero]

/-- A normed row times its gain, with the mean taken by a factor. -/
def scaled (x g : Fin 128 → EReal) (l : Fin 128) : EReal := x l * rootBy mean (Ideal.ofBits .f32 0x358637BD#32) x * g l

theorem scaled_wide (x g : Fin 96 → EReal) (l : Fin 128) : scaled (wide x) (wide g) l = wide (fun j => normed x g j) l := by
  unfold scaled
  rw [root_wide _ _ _ 96 (by norm_num) word_96 mean_eq]
  unfold normed
  by_cases hl : l.val < 96
  · rw [wide_of_lt _ _ hl, wide_of_lt _ _ hl, wide_of_lt _ _ hl]
  · rw [wide_of_ge _ _ hl, wide_of_ge _ _ hl, wide_of_ge _ _ hl, zero_mul, zero_mul]

/-! ### The tiles' vectors -/

/-- A tile normed and scaled, and a tile rotated. -/
def scaledV (x : FVec Ideal S4096x128 .f32) (g : FVec Ideal S1x128 .f32) : FVec Ideal S4096x128 .f32 :=
  mulf (mulf x (broadcastTo S4096x128 (rsqrt (addf (mulf (shapeCast S4096x1
    (multiReduction .add [1] S4096 (mulf x x) 0x00000000#32 reduces_S4096x128_S4096 (.inl rfl) rfl) shapeCasts_S4096_S4096x1)
    (broadcast S4096x1 (Named.named κ "mean96" 0x3C2AAAAB#32))) (broadcast S4096x1 (Scalar.ofBits .f32 0x358637BD#32)))) broadcasts_S4096x1_S4096x128))
    (broadcastTo S4096x128 (shapeCast S1x128 g shapeCasts_S1x128_S1x128) broadcasts_S1x128_S4096x128)

def forthV (d c s : FVec Ideal S4096x128 .f32) : FVec Ideal S4096x128 .bf16 :=
  k0_pay1 (k0_pay4 s) d (mulf d (k0_pay3 c)) k0_pay16 k0_pay17 k0_pay18

/-- A key tile: the head's own lanes and the shared rotary lanes. -/
def keyV (a b : FVec Ideal S4096x128 .bf16) : FVec Ideal S4096x128 .f32 :=
  select (broadcastTo S4096x128 (shapeCast S1x128 k0_pay5 shapeCasts_S1x128_S1x128) broadcasts_S1x128_S4096x128) (k0_pay13 (F := Ideal) a)
    (extf .f32 (shapeCast S4096x128 b shapeCasts_S4096x128_S4096x128) bitsLt_bf16_f32)

def queryV (a : FVec Ideal S4096x128 .bf16) : FVec Ideal S4096x128 .f32 :=
  extf .f32 (shapeCast S4096x128 a shapeCasts_S4096x128_S4096x128) bitsLt_bf16_f32

theorem query_tile (a : FVec Ideal S4096x128 .bf16) (c s : FVec Ideal S4096x128 .f32) (g : FVec Ideal S1x128 .f32) :
    k0_pay12 (k0_pay4 s) (k0_pay7 c a g) k0_pay8 (k0_pay9 a g) (k0_pay10 a g) (Scalar.ofBits .f32 0x00000000#32) k0_pay11
      = forthV (scaledV (queryV a) g) c s := rfl

theorem key_tile (a b : FVec Ideal S4096x128 .bf16) (c s : FVec Ideal S4096x128 .f32) (g : FVec Ideal S1x128 .f32) :
    k0_pay1 (k0_pay4 s) (k0_pay14 k0_pay5 a b g) (k0_pay15 (k0_pay3 c) k0_pay5 a b g) k0_pay16 k0_pay17 k0_pay18
      = forthV (scaledV (keyV a b) g) c s := rfl

theorem scaledV_apply (x : FVec Ideal S4096x128 .f32) (g : FVec Ideal S1x128 .f32) (r : Fin 4096) (l : Fin 128) :
    (scaledV x g (ix2 r l) : EReal) = scaled (fun j => x (ix2 r j)) (fun j => g (ix2 0 j)) l := by
  unfold scaled rootBy mean
  pointwise [scaledV]
  rfl

theorem forthV_apply (d c s : FVec Ideal S4096x128 .f32) (r : Fin 4096) (l : Fin 128) :
    (forthV d c s (ix2 r l) : EReal) = forth (fun j => d (ix2 r j)) (fun j => c (ix2 r j)) (fun j => s (ix2 r j)) l := by
  unfold forth
  pointwise [forthV, k0_pay1, k0_pay3, k0_pay4, k0_pay16, k0_pay17, k0_pay18]
  rw [first_lane, second_lane, select_if, select_if]
  congr 2
  by_cases h0 : 64 ≤ l.val ∧ l.val < 80
  · have e : (l.val + 128 - 112) % 128 = l.val + 16 := by omega
    rw [if_pos h0, dif_pos h0]
    simp only [e]
  · rw [if_neg h0, dif_neg h0]
    by_cases h1 : 80 ≤ l.val ∧ l.val < 96
    · have e : (l.val + 128 - 16) % 128 = l.val - 16 := by omega
      rw [if_pos h1, dif_pos h1]
      simp only [e]
    · rw [if_neg h1, dif_neg h1]

theorem keyV_apply (a b : FVec Ideal S4096x128 .bf16) (r : Fin 4096) (l : Fin 128) :
    (keyV a b (ix2 r l) : EReal) = if l.val < 64 then a (ix2 r l) else b (ix2 r l) := by
  pointwise [keyV, k0_pay5, k0_pay13]
  rw [low_lane, select_if]

theorem queryV_apply (a : FVec Ideal S4096x128 .bf16) (r : Fin 4096) (l : Fin 128) : (queryV a (ix2 r l) : EReal) = a (ix2 r l) := by
  pointwise [queryV]

theorem value_apply (a : FVec Ideal S4096x128 .bf16) (r : Fin 4096) (l : Fin 128) :
    (k0_pay2 (F := Ideal) k0_pay5 (k0_pay13 (F := Ideal) a) (ix2 r l) : EReal)
      = if h : l.val < 64 then (a (ix2 r ⟨64 + l.val, by omega⟩) : EReal) else 0 := by
  pointwise [k0_pay2, k0_pay5, k0_pay13]
  rw [low_lane, select_if]
  by_cases h : l.val < 64
  · have e : (l.val + 128 - 64) % 128 = 64 + l.val := by omega
    rw [if_pos h, dif_pos h]
    simp only [e]
  · rw [if_neg h, dif_neg h]

/-! ### The rows of a tile -/

section Rows
variable (c : Dev nD) (t : Fin cfg0.N) (r : Fin 4096) (l : Fin 128)

theorem query_row : (queryV (iblk m c 0 t) (ix2 r l) : EReal) = wide (qRow (qArg m c) (bat r) (pos r) (hd t)) l :=
  (queryV_apply _ r l).trans (block0 m c t r l)

theorem key_row : (keyV (iblk m c 1 t) (iblk m c 2 t) (ix2 r l) : EReal) = wide (kRow (kvArg m c) (projArg m c) (bat r) (pos r) (hd t)) l := by
  rw [keyV_apply]
  by_cases h : l.val < 64
  · rw [if_pos h, block1, wide_of_lt _ _ (by omega)]
    unfold kRow
    rw [dif_pos (show (⟨l.val, _⟩ : Fin 96).val < 64 from h)]
  · rw [if_neg h, block2 m c t r l (by omega)]
    by_cases h' : l.val < 96
    · rw [wide_of_lt _ _ h', wide_of_lt _ _ h']
      unfold kRow
      rw [dif_neg (show ¬(⟨l.val, _⟩ : Fin 96).val < 64 from h)]
      exact if_pos (by show 64 ≤ l.val; omega)
    · rw [wide_of_ge _ _ h', wide_of_ge _ _ h']

/-- A tile whose rows are padded rows, normed and rotated. -/
theorem tile_row (X : FVec Ideal S4096x128 .f32) (g : FVec Ideal S1x128 .f32) (x : Fin 4096 → Fin 96 → EReal) (w : Fin 96 → EReal)
    (hX : ∀ r l, X (ix2 r l) = wide (x r) l) (hg : ∀ l, g (ix2 0 l) = wide w l) :
    (forthV (scaledV X g) (iblk m c 3 t) (iblk m c 4 t) (ix2 r l) : EReal)
      = wide (fun j => ahead (fun j => normed (x r) w j) (cosAt (posArg m c) (bat r) (pos r)) (sinAt (posArg m c) (bat r) (pos r)) j) l := by
  rw [forthV_apply]
  have hs : (fun j => (scaledV X g (ix2 r j) : EReal)) = wide fun j => normed (x r) w j := by
    funext j
    rw [scaledV_apply]
    simp only [hX, hg]
    exact scaled_wide _ _ j
  rw [hs]
  simp only [block3, block4]
  exact forth_wide _ _ _ l

end Rows

/-! ### The three results -/

set_option maxHeartbeats 1000000 in
theorem final_7 (c : Dev nD) : (dats m 0 c).arrAt 7 (cfgs 0).N = Cert.ReferenceQkFwdIdeal.Read.val_main_v116 (F := Ideal) (qArg m c) (posArg m c) (gqArg m c) := by
  refine (dats m 0 c).arrAt_eq_of_covers 7 _ (by decide +kernel) fun t hf y => ?_
  obtain ⟨r, l, rfl⟩ : ∃ (r : Fin 4096) (l : Fin 128), y = ix2 r l := ⟨_, _, index2 y⟩
  have hy : ((cfg0.win 7).blk t).view.emb (ix2 r l) = ix2 r (lane t l) := by
    have e := idx t
    blk_ext [e, lane]
  have hv : (forthV (scaledV (queryV (iblk m c 0 t)) (iblk m c 5 t)) (iblk m c 3 t) (iblk m c 4 t) (ix2 r l) : EReal) = Cert.ReferenceQkFwdIdeal.Read.val_main_v116 (F := Ideal) (qArg m c) (posArg m c) (gqArg m c) (ix2 r (lane t l)) := by
    rw [tile_row m c t r l _ _ (fun r => qRow (qArg m c) (bat r) (pos r) (hd t)) _ (query_row m c t) (block5 m c t), Cert.ReferenceQkFwdIdeal.Rows.out_q _ _ _ (bat r) (pos r) (hd t) r (row_eq r) l (lane t l) (lane_eq t l)]
    unfold wide
    refine dite_congr rfl (fun hl => ?_) fun _ => rfl
    rw [Cert.ReferenceQkFwdIdeal.Rows.query_rotated, Cert.ReferenceQkFwdIdeal.Rows.rotated_apply]
    simp only [Cert.ReferenceQkFwdIdeal.Rows.read_q]
  rw [hy, ← hv]
  blk_simp
  rw [after0_7]
  unfold out0_7 k0_pay19
  frame_out
  exact congrFun (query_tile _ _ _ _) _

set_option maxHeartbeats 1000000 in
theorem final_8 (c : Dev nD) : (dats m 0 c).arrAt 8 (cfgs 0).N = Cert.ReferenceQkFwdIdeal.Read.val_main_v119 (F := Ideal) (kvArg m c) (projArg m c) (posArg m c) (gkArg m c) := by
  refine (dats m 0 c).arrAt_eq_of_covers 8 _ (by decide +kernel) fun t hf y => ?_
  obtain ⟨r, l, rfl⟩ : ∃ (r : Fin 4096) (l : Fin 128), y = ix2 r l := ⟨_, _, index2 y⟩
  have hy : ((cfg0.win 8).blk t).view.emb (ix2 r l) = ix2 r (lane t l) := by
    have e := idx t
    blk_ext [e, lane]
  have hv : (forthV (scaledV (keyV (iblk m c 1 t) (iblk m c 2 t)) (iblk m c 6 t)) (iblk m c 3 t) (iblk m c 4 t) (ix2 r l) : EReal) = Cert.ReferenceQkFwdIdeal.Read.val_main_v119 (F := Ideal) (kvArg m c) (projArg m c) (posArg m c) (gkArg m c) (ix2 r (lane t l)) := by
    rw [tile_row m c t r l _ _ (fun r => kRow (kvArg m c) (projArg m c) (bat r) (pos r) (hd t)) _ (key_row m c t) (block6 m c t), Cert.ReferenceQkFwdIdeal.Rows.out_k _ _ _ _ (bat r) (pos r) (hd t) r (row_eq r) l (lane t l) (lane_eq t l)]
    unfold wide
    refine dite_congr rfl (fun hl => ?_) fun _ => rfl
    rw [Cert.ReferenceQkFwdIdeal.Rows.key_rotated, Cert.ReferenceQkFwdIdeal.Rows.rotated_apply]
    simp only [Cert.ReferenceQkFwdIdeal.Rows.read_k]
  rw [hy, ← hv]
  blk_simp
  rw [after0_8]
  unfold out0_8 k0_pay20 k0_pay19
  frame_out
  exact congrFun (key_tile _ _ _ _ _) _

set_option maxHeartbeats 1000000 in
theorem final_9 (c : Dev nD) : (dats m 0 c).arrAt 9 (cfgs 0).N = Cert.ReferenceQkFwdIdeal.Read.val_main_v122 (F := Ideal) (kvArg m c) := by
  refine (dats m 0 c).arrAt_eq_of_covers 9 _ (by decide +kernel) fun t hf y => ?_
  obtain ⟨r, l, rfl⟩ : ∃ (r : Fin 4096) (l : Fin 128), y = ix2 r l := ⟨_, _, index2 y⟩
  have hy : ((cfg0.win 9).blk t).view.emb (ix2 r l) = ix2 r (lane t l) := by
    have e := idx t
    blk_ext [e, lane]
  have hv : (k0_pay2 (F := Ideal) k0_pay5 (k0_pay13 (F := Ideal) (iblk m c 1 t)) (ix2 r l) : EReal) = Cert.ReferenceQkFwdIdeal.Read.val_main_v122 (F := Ideal) (kvArg m c) (ix2 r (lane t l)) := by
    rw [value_apply, Cert.ReferenceQkFwdIdeal.Rows.out_v _ (bat r) (pos r) (hd t) r (row_eq r) l (lane t l) (lane_eq t l)]
    simp only [block1]
  rw [hy, ← hv]
  blk_simp
  rw [after0_9]
  unfold out0_9 k0_pay20
  frame_out

end Cert.KernelQkFwdIdeal.QkFwd

end
-- ==== Proof.QkFwdClaim.lean ====
module

public import proofs.«01_k».proof.Defs
public import proofs.«01_k».proof.Proof.QkFwd
public import proofs.«01_k».proof.Proof.Gen.ReferenceQkFwdIdeal.Run
public import Idealize.ShloMosaic.Init
public import Idealize.ShloMosaic.Adequacy

@[expose] public section

set_option maxRecDepth 16384

/-! The claims about the forward query and key preparation, from the two programs' runs. -/

namespace Cert.Proof.QkFwd

open Idealize.ShloMosaic Idealize.ShloMosaic.TcCoe Idealize.SL.Sem

section
open Cert.ReferenceQkFwdIdeal Cert.ReferenceQkFwdIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v116) = val_main_v116 (F := Ideal) (m ((c.tc : Thread nD τ).loc main_arg0)) (m ((c.tc : Thread nD τ).loc main_arg3)) (m ((c.tc : Thread nD τ).loc main_arg4))
      ∧ r.2.mem ((c.tc : Thread nD τ).loc main_v119) = val_main_v119 (F := Ideal) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v122) = val_main_v122 (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => h c) (Cert.ReferenceQkFwdIdeal.Value.run m g)

end

theorem frame_reference : Cert.quiescent_ReferenceQkFwdIdeal := fun m g _ =>
  (θ_run Cert.ReferenceQkFwdIdeal.defs _ _).mono
    (fun r h => ⟨fun c => (h c).2.2.2, sem_eq_zero_of_no_sems (by decide) r.2⟩) (run_stages m g)

theorem preserves : Cert.preserves_KernelQkFwd_KernelQkFwdIdeal :=
  IdealRules.named_const.statement Cert.KernelQkFwdIdeal.κ "mean96" .f32 0x3C2AAAAB#32 _ rfl

theorem algebraic : Cert.algebraic_KernelQkFwdIdeal_ReferenceQkFwdIdeal := by
  intro m g m' g' hpre hagree
  refine ⟨_, _, _, Cert.KernelQkFwdIdeal.Value.run_blocks m g,
    (θ_run Cert.ReferenceQkFwdIdeal.defs _ _).mono (fun r h c => ?_) (run_stages m' g')⟩
  obtain ⟨e0, e1, e2, e3, e4, e5⟩ := hagree c
  obtain ⟨h0, h1, h2, hargs⟩ := h c
  rw [e0, e3, e4] at h0
  rw [e1, e2, e3, e5] at h1
  rw [e1] at h2
  exact ⟨h0.trans (KernelQkFwdIdeal.QkFwd.final_7 m c).symm,
    h1.trans (KernelQkFwdIdeal.QkFwd.final_8 m c).symm,
    h2.trans (KernelQkFwdIdeal.QkFwd.final_9 m c).symm, hargs⟩

end Cert.Proof.QkFwd
-- ==== Proof.Adam.lean ====
module

public import proofs.«01_k».proof.Proof.Gen.KernelAdamIdeal.Value
public import Idealize.ShloMosaic.Lib.Pipeline.ValueKit
public import Idealize.ShloMosaic.Lib.Claim
public import proofs.«01_k».proof.Proof.Gen.ReferenceAdamIdeal.Read

@[expose] public section

set_option maxRecDepth 16384

/-! One AdamW step, tile by tile: the change of the weight and the two new moments. -/

noncomputable section

open Idealize.ShloMosaic Idealize.ShloMosaic.TcCoe Idealize.SL.Sem
open Idealize.ShloMosaic.Pipeline (Dat)

namespace Cert.KernelAdamIdeal.Adam

open Cert.KernelAdamIdeal Cert.KernelAdamIdeal.Gen

variable (m : (ℓ : Loc nD τ sig) → Buf (Elt Ideal) ℓ)

/-- The weight. -/
abbrev wArg (c : Dev nD) : FVec Ideal S1x1024x1536 .f32 := m ((c : Thread nD τ).loc main_arg0)
/-- Its gradient. -/
abbrev gArg (c : Dev nD) : FVec Ideal S1024x1536 .f32 := m ((c : Thread nD τ).loc main_arg1)
/-- The first moment. -/
abbrev mArg (c : Dev nD) : FVec Ideal S1x1024x1536 .f32 := m ((c : Thread nD τ).loc main_arg2)
/-- The second moment. -/
abbrev vArg (c : Dev nD) : FVec Ideal S1x1024x1536 .f32 := m ((c : Thread nD τ).loc main_arg3)

/-- A tile's row in the whole array. -/
def row (t : Fin cfg0.N) (r : Fin 256) : Fin 1024 := ⟨t.val * 256 + r.val, by have := t.isLt; have : cfg0.N = 4 := N_0; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array with its leading axis of length one dropped. -/
theorem flat_apply {α : Type} (f : S1x1024x1536.Idx → α) (h : Shape.ShapeCasts S1x1024x1536 S1024x1536) (q : Fin 1024)
    (l : Fin 1536) : shapeCast S1024x1536 f h (ix2 q l) = f (ix3 0 q l) := by
  refine shapeCast_apply _ _ _ _ ?_
  rw [Shape.rowMajor_val_three, Shape.rowMajor_val_two]
  show (0 * 1024 + q.val) * 1536 + l.val = q.val * 1536 + l.val
  omega

section Blocks
variable (c : Dev nD) (t : Fin cfg0.N) (r : Fin 256) (l : Fin 1536)

theorem block0 : (iblk m c 0 t : FVec Ideal S256x1536 .f32) (ix2 r l) = wArg m c (ix3 0 (row t r) l) := by
  have h : V m c main_v0 (ix2 (row t r) l) = wArg m c (ix3 0 (row t r) l) := by
    show StableHlo.after hostOps0 _ _ _ = _
    unfold hostOps0
    after_results_simp
    exact flat_apply _ _ _ _
  refine Eq.trans ?_ h
  blk_simp [iblk, idx t]
  have e := idx t
  blk_ext [e, row]

theorem block2 : (iblk m c 2 t : FVec Ideal S256x1536 .f32) (ix2 r l) = mArg m c (ix3 0 (row t r) l) := by
  have h : V m c main_v1 (ix2 (row t r) l) = mArg m c (ix3 0 (row t r) l) := by
    show StableHlo.after hostOps0 _ _ _ = _
    unfold hostOps0
    after_results_simp
    exact flat_apply _ _ _ _
  refine Eq.trans ?_ h
  blk_simp [iblk, idx t]
  have e := idx t
  blk_ext [e, row]

theorem block3 : (iblk m c 3 t : FVec Ideal S256x1536 .f32) (ix2 r l) = vArg m c (ix3 0 (row t r) l) := by
  have h : V m c main_v2 (ix2 (row t r) l) = vArg m c (ix3 0 (row t r) l) := by
    show StableHlo.after hostOps0 _ _ _ = _
    unfold hostOps0
    after_results_simp
    exact flat_apply _ _ _ _
  refine Eq.trans ?_ h
  blk_simp [iblk, idx t]
  have e := idx t
  blk_ext [e, row]

theorem block1 : (iblk m c 1 t : FVec Ideal S256x1536 .f32) (ix2 r l) = gArg m c (ix2 (row t r) l) := by
  have e := idx t
  blk_point [iblk, V, idx t, row]

end Blocks

theorem index2 {n0 n1 : Nat} (y : (⟨2, ![n0, n1]⟩ : Shape).Idx) : y = ix2 (y 0) (y 1) := by
  funext a
  fin_cases a <;> rfl

theorem tile_4 (c : Dev nD) (t : Fin cfg0.N) (r : Fin 256) (l : Fin 1536) :
    (k0_pay3 (F := Ideal) (iblk m c 0 t) (iblk m c 1 t) (iblk m c 2 t) (iblk m c 3 t) (ix2 r l) : EReal) = Cert.ReferenceAdamIdeal.Read.val_main_v26 (F := Ideal) (wArg m c) (gArg m c) (mArg m c) (vArg m c) (ix2 (row t r) l) := by
  pointwise [k0_pay1, k0_pay2, k0_pay3, Cert.ReferenceAdamIdeal.Read.val_main_v0, Cert.ReferenceAdamIdeal.Read.val_main_v1, Cert.ReferenceAdamIdeal.Read.val_main_v2, Cert.ReferenceAdamIdeal.Read.val_main_v3, Cert.ReferenceAdamIdeal.Read.val_main_v4, Cert.ReferenceAdamIdeal.Read.val_main_v5, Cert.ReferenceAdamIdeal.Read.val_main_v6, Cert.ReferenceAdamIdeal.Read.val_main_v7, Cert.ReferenceAdamIdeal.Read.val_main_v8, Cert.ReferenceAdamIdeal.Read.val_main_v9, Cert.ReferenceAdamIdeal.Read.val_main_v10, Cert.ReferenceAdamIdeal.Read.val_main_v11, Cert.ReferenceAdamIdeal.Read.val_main_v12, Cert.ReferenceAdamIdeal.Read.val_main_v13, Cert.ReferenceAdamIdeal.Read.val_main_v14, Cert.ReferenceAdamIdeal.Read.val_main_v15, Cert.ReferenceAdamIdeal.Read.val_main_v16, Cert.ReferenceAdamIdeal.Read.val_main_v17, Cert.ReferenceAdamIdeal.Read.val_main_v18, Cert.ReferenceAdamIdeal.Read.val_main_v19, Cert.ReferenceAdamIdeal.Read.val_main_v20, Cert.ReferenceAdamIdeal.Read.val_main_v21, Cert.ReferenceAdamIdeal.Read.val_main_v22, Cert.ReferenceAdamIdeal.Read.val_main_v23, Cert.ReferenceAdamIdeal.Read.val_main_v24, Cert.ReferenceAdamIdeal.Read.val_main_v25, Cert.ReferenceAdamIdeal.Read.val_main_v26, Cert.ReferenceAdamIdeal.Read.val_main_cst, Cert.ReferenceAdamIdeal.Read.val_main_cst_0, Cert.ReferenceAdamIdeal.Read.val_main_cst_1, Cert.ReferenceAdamIdeal.Read.val_main_cst_2, Cert.ReferenceAdamIdeal.Read.val_main_cst_3, Cert.ReferenceAdamIdeal.Read.val_main_cst_4, Cert.ReferenceAdamIdeal.Read.val_main_cst_5, Cert.ReferenceAdamIdeal.Read.val_main_cst_6, Cert.ReferenceAdamIdeal.Read.val_main_cst_7]
  simp only [block0, block1, block2, block3]
  try rfl

theorem final_4 (c : Dev nD) : (dats m 0 c).arrAt 4 (cfgs 0).N = Cert.ReferenceAdamIdeal.Read.val_main_v26 (F := Ideal) (wArg m c) (gArg m c) (mArg m c) (vArg m c) := by
  refine (dats m 0 c).arrAt_eq_of_covers 4 _ (by decide +kernel) fun t hf y => ?_
  obtain ⟨r, l, rfl⟩ : ∃ (r : Fin 256) (l : Fin 1536), y = ix2 r l := ⟨_, _, index2 y⟩
  have hy : ((cfg0.win 4).blk t).view.emb (ix2 r l) = ix2 (row t r) l := by
    have e := idx t
    blk_ext [e, row]
  rw [hy, ← tile_4]
  blk_simp
  rw [after0_4]
  unfold out0_4
  frame_out

theorem tile_5 (c : Dev nD) (t : Fin cfg0.N) (r : Fin 256) (l : Fin 1536) :
    (k0_pay1 (F := Ideal) (iblk m c 1 t) (iblk m c 2 t) (ix2 r l) : EReal) = Cert.ReferenceAdamIdeal.Read.val_main_v7 (F := Ideal) (gArg m c) (mArg m c) (ix2 (row t r) l) := by
  pointwise [k0_pay1, k0_pay2, k0_pay3, Cert.ReferenceAdamIdeal.Read.val_main_v0, Cert.ReferenceAdamIdeal.Read.val_main_v1, Cert.ReferenceAdamIdeal.Read.val_main_v2, Cert.ReferenceAdamIdeal.Read.val_main_v3, Cert.ReferenceAdamIdeal.Read.val_main_v4, Cert.ReferenceAdamIdeal.Read.val_main_v5, Cert.ReferenceAdamIdeal.Read.val_main_v6, Cert.ReferenceAdamIdeal.Read.val_main_v7, Cert.ReferenceAdamIdeal.Read.val_main_v8, Cert.ReferenceAdamIdeal.Read.val_main_v9, Cert.ReferenceAdamIdeal.Read.val_main_v10, Cert.ReferenceAdamIdeal.Read.val_main_v11, Cert.ReferenceAdamIdeal.Read.val_main_v12, Cert.ReferenceAdamIdeal.Read.val_main_v13, Cert.ReferenceAdamIdeal.Read.val_main_v14, Cert.ReferenceAdamIdeal.Read.val_main_v15, Cert.ReferenceAdamIdeal.Read.val_main_v16, Cert.ReferenceAdamIdeal.Read.val_main_v17, Cert.ReferenceAdamIdeal.Read.val_main_v18, Cert.ReferenceAdamIdeal.Read.val_main_v19, Cert.ReferenceAdamIdeal.Read.val_main_v20, Cert.ReferenceAdamIdeal.Read.val_main_v21, Cert.ReferenceAdamIdeal.Read.val_main_v22, Cert.ReferenceAdamIdeal.Read.val_main_v23, Cert.ReferenceAdamIdeal.Read.val_main_v24, Cert.ReferenceAdamIdeal.Read.val_main_v25, Cert.ReferenceAdamIdeal.Read.val_main_v26, Cert.ReferenceAdamIdeal.Read.val_main_cst, Cert.ReferenceAdamIdeal.Read.val_main_cst_0, Cert.ReferenceAdamIdeal.Read.val_main_cst_1, Cert.ReferenceAdamIdeal.Read.val_main_cst_2, Cert.ReferenceAdamIdeal.Read.val_main_cst_3, Cert.ReferenceAdamIdeal.Read.val_main_cst_4, Cert.ReferenceAdamIdeal.Read.val_main_cst_5, Cert.ReferenceAdamIdeal.Read.val_main_cst_6, Cert.ReferenceAdamIdeal.Read.val_main_cst_7]
  simp only [block1, block2]
  try rfl

theorem final_5 (c : Dev nD) : (dats m 0 c).arrAt 5 (cfgs 0).N = Cert.ReferenceAdamIdeal.Read.val_main_v7 (F := Ideal) (gArg m c) (mArg m c) := by
  refine (dats m 0 c).arrAt_eq_of_covers 5 _ (by decide +kernel) fun t hf y => ?_
  obtain ⟨r, l, rfl⟩ : ∃ (r : Fin 256) (l : Fin 1536), y = ix2 r l := ⟨_, _, index2 y⟩
  have hy : ((cfg0.win 5).blk t).view.emb (ix2 r l) = ix2 (row t r) l := by
    have e := idx t
    blk_ext [e, row]
  rw [hy, ← tile_5]
  blk_simp
  rw [after0_5]
  unfold out0_5
  frame_out

theorem tile_6 (c : Dev nD) (t : Fin cfg0.N) (r : Fin 256) (l : Fin 1536) :
    (k0_pay2 (F := Ideal) (iblk m c 1 t) (iblk m c 3 t) (ix2 r l) : EReal) = Cert.ReferenceAdamIdeal.Read.val_main_v13 (F := Ideal) (gArg m c) (vArg m c) (ix2 (row t r) l) := by
  pointwise [k0_pay1, k0_pay2, k0_pay3, Cert.ReferenceAdamIdeal.Read.val_main_v0, Cert.ReferenceAdamIdeal.Read.val_main_v1, Cert.ReferenceAdamIdeal.Read.val_main_v2, Cert.ReferenceAdamIdeal.Read.val_main_v3, Cert.ReferenceAdamIdeal.Read.val_main_v4, Cert.ReferenceAdamIdeal.Read.val_main_v5, Cert.ReferenceAdamIdeal.Read.val_main_v6, Cert.ReferenceAdamIdeal.Read.val_main_v7, Cert.ReferenceAdamIdeal.Read.val_main_v8, Cert.ReferenceAdamIdeal.Read.val_main_v9, Cert.ReferenceAdamIdeal.Read.val_main_v10, Cert.ReferenceAdamIdeal.Read.val_main_v11, Cert.ReferenceAdamIdeal.Read.val_main_v12, Cert.ReferenceAdamIdeal.Read.val_main_v13, Cert.ReferenceAdamIdeal.Read.val_main_v14, Cert.ReferenceAdamIdeal.Read.val_main_v15, Cert.ReferenceAdamIdeal.Read.val_main_v16, Cert.ReferenceAdamIdeal.Read.val_main_v17, Cert.ReferenceAdamIdeal.Read.val_main_v18, Cert.ReferenceAdamIdeal.Read.val_main_v19, Cert.ReferenceAdamIdeal.Read.val_main_v20, Cert.ReferenceAdamIdeal.Read.val_main_v21, Cert.ReferenceAdamIdeal.Read.val_main_v22, Cert.ReferenceAdamIdeal.Read.val_main_v23, Cert.ReferenceAdamIdeal.Read.val_main_v24, Cert.ReferenceAdamIdeal.Read.val_main_v25, Cert.ReferenceAdamIdeal.Read.val_main_v26, Cert.ReferenceAdamIdeal.Read.val_main_cst, Cert.ReferenceAdamIdeal.Read.val_main_cst_0, Cert.ReferenceAdamIdeal.Read.val_main_cst_1, Cert.ReferenceAdamIdeal.Read.val_main_cst_2, Cert.ReferenceAdamIdeal.Read.val_main_cst_3, Cert.ReferenceAdamIdeal.Read.val_main_cst_4, Cert.ReferenceAdamIdeal.Read.val_main_cst_5, Cert.ReferenceAdamIdeal.Read.val_main_cst_6, Cert.ReferenceAdamIdeal.Read.val_main_cst_7]
  simp only [block1, block3]
  try rfl

theorem final_6 (c : Dev nD) : (dats m 0 c).arrAt 6 (cfgs 0).N = Cert.ReferenceAdamIdeal.Read.val_main_v13 (F := Ideal) (gArg m c) (vArg m c) := by
  refine (dats m 0 c).arrAt_eq_of_covers 6 _ (by decide +kernel) fun t hf y => ?_
  obtain ⟨r, l, rfl⟩ : ∃ (r : Fin 256) (l : Fin 1536), y = ix2 r l := ⟨_, _, index2 y⟩
  have hy : ((cfg0.win 6).blk t).view.emb (ix2 r l) = ix2 (row t r) l := by
    have e := idx t
    blk_ext [e, row]
  rw [hy, ← tile_6]
  blk_simp
  rw [after0_6]
  unfold out0_6
  frame_out

end Cert.KernelAdamIdeal.Adam

end
-- ==== Proof.AdamClaim.lean ====
module

public import proofs.«01_k».proof.Defs
public import proofs.«01_k».proof.Proof.Adam
public import proofs.«01_k».proof.Proof.Gen.ReferenceAdamIdeal.Run
public import Idealize.ShloMosaic.Init
public import Idealize.ShloMosaic.Adequacy

@[expose] public section

set_option maxRecDepth 16384

/-! The claims about one AdamW step, from the two programs' runs. -/

namespace Cert.Proof.Adam

open Idealize.ShloMosaic Idealize.ShloMosaic.TcCoe Idealize.SL.Sem

section
open Cert.ReferenceAdamIdeal Cert.ReferenceAdamIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v7) = val_main_v7 (F := Ideal) (m ((c.tc : Thread nD τ).loc main_arg1)) (m ((c.tc : Thread nD τ).loc main_arg2))
      ∧ r.2.mem ((c.tc : Thread nD τ).loc main_v13) = val_main_v13 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ReferenceAdamIdeal.Value.run m g)

end

theorem frame_reference : Cert.quiescent_ReferenceAdamIdeal := fun m g _ =>
  (θ_run Cert.ReferenceAdamIdeal.defs _ _).mono
    (fun r h => ⟨fun c => (h c).2.2.2, sem_eq_zero_of_no_sems (by decide) r.2⟩) (run_stages m g)

theorem algebraic : Cert.algebraic_KernelAdamIdeal_ReferenceAdamIdeal := by
  intro m g m' g' hpre hagree
  refine ⟨_, _, _, Cert.KernelAdamIdeal.Value.run_blocks m g,
    (θ_run Cert.ReferenceAdamIdeal.defs _ _).mono (fun r h c => ?_) (run_stages m' g')⟩
  obtain ⟨e0, e1, e2, e3⟩ := hagree c
  obtain ⟨h0, h1, h2, hargs⟩ := h c
  rw [e0, e1, e2, e3] at h0
  rw [e1, e2] at h1
  rw [e1, e3] at h2
  exact ⟨h0.trans (KernelAdamIdeal.Adam.final_4 m c).symm,
    h1.trans (KernelAdamIdeal.Adam.final_5 m c).symm,
    h2.trans (KernelAdamIdeal.Adam.final_6 m c).symm, hargs⟩

end Cert.Proof.Adam
-- ==== Proof.Columns.lean ====
module

public import Idealize.ShloMosaic.Lib.Pointwise
public import Idealize.ShloMosaic.Lib.Pipeline.Value

@[expose] public section

set_option maxRecDepth 16384

/-! The packed order of the projection's columns: which of the 5552 columns, or zero, stands at each of the 5760
packed places. -/

namespace Cert.Columns

open Idealize.ShloMosaic

/-- The columns of `f` in the packed order, zeros between. -/
noncomputable def packed (f : Fin 5552 → EReal) (k : Fin 5760) : EReal :=
  if h0 : k.val < 3072 then f ⟨k.val, by omega⟩
  else if h1 : k.val < 5120 then f ⟨3504 + (k.val - 3072), by omega⟩
  else if h2 : k.val < 5376 then f ⟨3088 + (k.val - 5120), by omega⟩
  else if h3 : k.val < 5504 then f ⟨3344 + (k.val - 5376), by omega⟩
  else if h4 : k.val < 5520 then f ⟨3072 + (k.val - 5504), by omega⟩
  else if h5 : k.val < 5696 then 0
  else if h6 : k.val < 5728 then f ⟨3472 + (k.val - 5696), by omega⟩
  else 0

/-- A sum of products with a packed row is the packed row of the sums of products. -/
theorem sum_packed {n : ℕ} (x : Fin n → EReal) (w : Fin n → Fin 5552 → EReal) (k : Fin 5760) :
    ∑ a, x a * packed (w a) k = packed (fun j => ∑ a, x a * w a j) k := by
  unfold packed
  split_ifs <;> simp only [mul_zero, Finset.sum_const_zero]

/-- The eight groups of columns of a matrix of 1024 rows, in the packed order. -/
abbrev groups {α : Type} (x0 : (⟨2, ![1024, 3072]⟩ : Shape).Idx → α) (x1 : (⟨2, ![1024, 2048]⟩ : Shape).Idx → α)
    (x2 : (⟨2, ![1024, 256]⟩ : Shape).Idx → α) (x3 : (⟨2, ![1024, 128]⟩ : Shape).Idx → α)
    (x4 : (⟨2, ![1024, 16]⟩ : Shape).Idx → α) (x5 : (⟨2, ![1024, 176]⟩ : Shape).Idx → α)
    (x6 x7 : (⟨2, ![1024, 32]⟩ : Shape).Idx → α) : List ((s : Shape) × (s.Idx → α)) :=
  [⟨⟨2, ![1024, 3072]⟩, x0⟩, ⟨⟨2, ![1024, 2048]⟩, x1⟩, ⟨⟨2, ![1024, 256]⟩, x2⟩, ⟨⟨2, ![1024, 128]⟩, x3⟩,
    ⟨⟨2, ![1024, 16]⟩, x4⟩, ⟨⟨2, ![1024, 176]⟩, x5⟩, ⟨⟨2, ![1024, 32]⟩, x6⟩, ⟨⟨2, ![1024, 32]⟩, x7⟩]

/-- The packed matrix at a column of the group at place `p`, of width `n`, whose first column is `pre`. -/
theorem group_apply {α : Type} (x0 : (⟨2, ![1024, 3072]⟩ : Shape).Idx → α) (x1 : (⟨2, ![1024, 2048]⟩ : Shape).Idx → α)
    (x2 : (⟨2, ![1024, 256]⟩ : Shape).Idx → α) (x3 : (⟨2, ![1024, 128]⟩ : Shape).Idx → α)
    (x4 : (⟨2, ![1024, 16]⟩ : Shape).Idx → α) (x5 : (⟨2, ![1024, 176]⟩ : Shape).Idx → α)
    (x6 x7 : (⟨2, ![1024, 32]⟩ : Shape).Idx → α)
    (h : Shape.Concatenates ((groups x0 x1 x2 x3 x4 x5 x6 x7).map (·.1)) (⟨2, ![1024, 5760]⟩ : Shape) 1)
    (a : Fin 1024) (k : Fin 5760) (p : Nat) (hp : p < 8) (n : Nat) (x : (⟨2, ![1024, n]⟩ : Shape).Idx → α)
    (hx : (groups x0 x1 x2 x3 x4 x5 x6 x7)[p]'hp = ⟨⟨2, ![1024, n]⟩, x⟩) (pre : Nat)
    (hpre : ((((groups x0 x1 x2 x3 x4 x5 x6 x7).take p).map (·.1)).map fun s : Shape =>
      if h : s.rank = 2 then s.size ((1 : Fin 2).cast h.symm) else 0).sum = pre)
    (l : Fin n) (hk : pre + l.val = k.val) :
    concatenate (⟨2, ![1024, 5760]⟩ : Shape) 1 (groups x0 x1 x2 x3 x4 x5 x6 x7) h (ix2 a k) = x (ix2 a l) :=
  concatenate_apply_piece (t := ⟨2, ![1024, 5760]⟩) (1 : Fin 2) (groups x0 x1 x2 x3 x4 x5 x6 x7) h (ix2 a k) p hp _ x hx rfl pre
    hpre (ix2 a l) (fun b hb => by fin_cases b <;> first | rfl | exact absurd rfl hb) hk

/-- Rows of a batched array read in the flat array. -/
theorem flat_apply {α : Type} {n : Nat} (f : (⟨3, ![2, 2048, n]⟩ : Shape).Idx → α)
    (h : Shape.ShapeCasts (⟨3, ![2, 2048, n]⟩ : Shape) ⟨2, ![4096, n]⟩) (b : Fin 2) (s : Fin 2048) (q : Fin 4096)
    (e : b.val * 2048 + s.val = q.val) (l : Fin n) : shapeCast (⟨2, ![4096, n]⟩ : Shape) f h (ix2 q l) = f (ix3 b s l) := by
  refine shapeCast_apply _ _ _ _ ?_
  rw [Shape.rowMajor_val_three, Shape.rowMajor_val_two]
  show (b.val * 2048 + s.val) * n + l.val = q.val * n + l.val
  rw [e]

/-- The batch and the position of a flat row. -/
def bat (q : Fin 4096) : Fin 2 := ⟨q.val / 2048, by omega⟩
def pos (q : Fin 4096) : Fin 2048 := ⟨q.val % 2048, by omega⟩

theorem row_eq (q : Fin 4096) : (bat q).val * 2048 + (pos q).val = q.val := by
  show q.val / 2048 * 2048 + q.val % 2048 = q.val
  omega

theorem index2 {n0 n1 : Nat} (y : (⟨2, ![n0, n1]⟩ : Shape).Idx) : y = ix2 (y 0) (y 1) := by
  funext a
  fin_cases a <;> rfl

end Cert.Columns
-- ==== Proof.Proj.lean ====
module

public import proofs.«01_k».proof.Proof.Gen.KernelProjIdeal.Value
public import Idealize.ShloMosaic.Lib.Pipeline.ValueKit
public import Idealize.ShloMosaic.Lib.Claim
public import proofs.«01_k».proof.Proof.Columns
public import proofs.«01_k».proof.Proof.Gen.ReferenceProjIdeal.Read

@[expose] public section

set_option maxRecDepth 16384

/-! The projection of the normed rows: every tile is a product over the whole inner axis, its columns in the packed
order. -/

noncomputable section

open Idealize.ShloMosaic Idealize.ShloMosaic.TcCoe Idealize.SL.Sem
open Idealize.ShloMosaic.Pipeline (Dat)

namespace Cert.KernelProjIdeal.Proj

open Cert.KernelProjIdeal Cert.KernelProjIdeal.Gen Cert.Columns

/-- The reference's eleven groups of columns, in the packed order. -/
abbrev groups3 {α : Type} (x0 : (⟨3, ![2, 2048, 512]⟩ : Shape).Idx → α)
    (x1 : (⟨3, ![2, 2048, 512]⟩ : Shape).Idx → α)
    (x2 : (⟨3, ![2, 2048, 1024]⟩ : Shape).Idx → α)
    (x3 : (⟨3, ![2, 2048, 1024]⟩ : Shape).Idx → α)
    (x4 : (⟨3, ![2, 2048, 2048]⟩ : Shape).Idx → α)
    (x5 : (⟨3, ![2, 2048, 256]⟩ : Shape).Idx → α)
    (x6 : (⟨3, ![2, 2048, 128]⟩ : Shape).Idx → α)
    (x7 : (⟨3, ![2, 2048, 16]⟩ : Shape).Idx → α)
    (x8 : (⟨3, ![2, 2048, 176]⟩ : Shape).Idx → α)
    (x9 : (⟨3, ![2, 2048, 32]⟩ : Shape).Idx → α)
    (x10 : (⟨3, ![2, 2048, 32]⟩ : Shape).Idx → α) : List ((s : Shape) × (s.Idx → α)) :=
  [⟨⟨3, ![2, 2048, 512]⟩, x0⟩, ⟨⟨3, ![2, 2048, 512]⟩, x1⟩, ⟨⟨3, ![2, 2048, 1024]⟩, x2⟩, ⟨⟨3, ![2, 2048, 1024]⟩, x3⟩, ⟨⟨3, ![2, 2048, 2048]⟩, x4⟩, ⟨⟨3, ![2, 2048, 256]⟩, x5⟩, ⟨⟨3, ![2, 2048, 128]⟩, x6⟩, ⟨⟨3, ![2, 2048, 16]⟩, x7⟩, ⟨⟨3, ![2, 2048, 176]⟩, x8⟩, ⟨⟨3, ![2, 2048, 32]⟩, x9⟩, ⟨⟨3, ![2, 2048, 32]⟩, x10⟩]

/-- Its packed array at a column of the group at place `p`, of width `n`, whose first column is `pre`. -/
theorem group3_apply {α : Type} (x0 : (⟨3, ![2, 2048, 512]⟩ : Shape).Idx → α)
    (x1 : (⟨3, ![2, 2048, 512]⟩ : Shape).Idx → α)
    (x2 : (⟨3, ![2, 2048, 1024]⟩ : Shape).Idx → α)
    (x3 : (⟨3, ![2, 2048, 1024]⟩ : Shape).Idx → α)
    (x4 : (⟨3, ![2, 2048, 2048]⟩ : Shape).Idx → α)
    (x5 : (⟨3, ![2, 2048, 256]⟩ : Shape).Idx → α)
    (x6 : (⟨3, ![2, 2048, 128]⟩ : Shape).Idx → α)
    (x7 : (⟨3, ![2, 2048, 16]⟩ : Shape).Idx → α)
    (x8 : (⟨3, ![2, 2048, 176]⟩ : Shape).Idx → α)
    (x9 : (⟨3, ![2, 2048, 32]⟩ : Shape).Idx → α)
    (x10 : (⟨3, ![2, 2048, 32]⟩ : Shape).Idx → α)
    (h : Shape.Concatenates ((groups3 x0 x1 x2 x3 x4 x5 x6 x7 x8 x9 x10).map (·.1)) (⟨3, ![2, 2048, 5760]⟩ : Shape) 2)
    (b : Fin 2) (a : Fin 2048) (k : Fin 5760) (p : Nat) (hp : p < 11) (n : Nat) (x : (⟨3, ![2, 2048, n]⟩ : Shape).Idx → α)
    (hx : (groups3 x0 x1 x2 x3 x4 x5 x6 x7 x8 x9 x10)[p]'hp = ⟨⟨3, ![2, 2048, n]⟩, x⟩) (pre : Nat)
    (hpre : ((((groups3 x0 x1 x2 x3 x4 x5 x6 x7 x8 x9 x10).take p).map (·.1)).map fun s : Shape =>
      if h : s.rank = 3 then s.size ((2 : Fin 3).cast h.symm) else 0).sum = pre)
    (l : Fin n) (hk : pre + l.val = k.val) :
    concatenate (⟨3, ![2, 2048, 5760]⟩ : Shape) 2 (groups3 x0 x1 x2 x3 x4 x5 x6 x7 x8 x9 x10) h (ix3 b a k) = x (ix3 b a l) :=
  concatenate_apply_piece (t := ⟨3, ![2, 2048, 5760]⟩) (2 : Fin 3) (groups3 x0 x1 x2 x3 x4 x5 x6 x7 x8 x9 x10) h (ix3 b a k) p hp _ x hx rfl pre
    hpre (ix3 b a l) (fun b hb => by fin_cases b <;> first | rfl | exact absurd rfl hb) hk

section Reference
open Cert.ReferenceProjIdeal.Read
variable (x : FVec Ideal S2x2048x1024 .f32) (w : FVec Ideal S1024x5552 .f32)

set_option maxHeartbeats 1600000 in
theorem reference_apply (q : Fin 4096) (k : Fin 5760) : (val_main_v14 (F := Ideal) x w (ix2 q k) : EReal)
    = packed (fun j => ∑ a : Fin 1024, x (ix3 (bat q) (pos q) a) * w (ix2 a j)) k := by
  refine (flat_apply (val_main_v12 (F := Ideal) x w) Cert.ReferenceProjIdeal.Facts₀.shapeCasts_S2x2048x5760_S4096x5760 _ _ q (row_eq q) k).trans ?_
  unfold packed
  by_cases h0 : k.val < 3072
  · rw [dif_pos h0]
    by_cases g0 : k.val < 512
    · refine (group3_apply _ _ _ _ _ _ _ _ _ _ _ _ (bat q) (pos q) k 0 (by decide) 512 _ rfl 0 rfl ⟨k.val - 0, by omega⟩ (by show 0 + (k.val - 0) = k.val; omega)).trans ?_
      pointwise [val_main_v0, val_main_v1, val_main_v2, val_main_v3, val_main_v4, val_main_v5, val_main_v6, val_main_v7, val_main_v8, val_main_v9, val_main_v10, val_main_v11, val_main_cst, val_main_cst_0]
    by_cases g1 : k.val < 1024
    · refine (group3_apply _ _ _ _ _ _ _ _ _ _ _ _ (bat q) (pos q) k 1 (by decide) 512 _ rfl 512 rfl ⟨k.val - 512, by omega⟩ (by show 512 + (k.val - 512) = k.val; omega)).trans ?_
      pointwise [val_main_v0, val_main_v1, val_main_v2, val_main_v3, val_main_v4, val_main_v5, val_main_v6, val_main_v7, val_main_v8, val_main_v9, val_main_v10, val_main_v11, val_main_cst, val_main_cst_0]
      simp only [show 512 + (k.val - 512) = k.val by omega]
    by_cases g2 : k.val < 2048
    · refine (group3_apply _ _ _ _ _ _ _ _ _ _ _ _ (bat q) (pos q) k 2 (by decide) 1024 _ rfl 1024 rfl ⟨k.val - 1024, by omega⟩ (by show 1024 + (k.val - 1024) = k.val; omega)).trans ?_
      pointwise [val_main_v0, val_main_v1, val_main_v2, val_main_v3, val_main_v4, val_main_v5, val_main_v6, val_main_v7, val_main_v8, val_main_v9, val_main_v10, val_main_v11, val_main_cst, val_main_cst_0]
      simp only [show 1024 + (k.val - 1024) = k.val by omega]
    refine (group3_apply _ _ _ _ _ _ _ _ _ _ _ _ (bat q) (pos q) k 3 (by decide) 1024 _ rfl 2048 rfl ⟨k.val - 2048, by omega⟩ (by show 2048 + (k.val - 2048) = k.val; omega)).trans ?_
    pointwise [val_main_v0, val_main_v1, val_main_v2, val_main_v3, val_main_v4, val_main_v5, val_main_v6, val_main_v7, val_main_v8, val_main_v9, val_main_v10, val_main_v11, val_main_cst, val_main_cst_0]
    simp only [show 2048 + (k.val - 2048) = k.val by omega]
  rw [dif_neg h0]
  by_cases h1 : k.val < 5120
  · rw [dif_pos h1]
    refine (group3_apply _ _ _ _ _ _ _ _ _ _ _ _ (bat q) (pos q) k 4 (by decide) 2048 _ rfl 3072 rfl ⟨k.val - 3072, by omega⟩ (by show 3072 + (k.val - 3072) = k.val; omega)).trans ?_
    pointwise [val_main_v0, val_main_v1, val_main_v2, val_main_v3, val_main_v4, val_main_v5, val_main_v6, val_main_v7, val_main_v8, val_main_v9, val_main_v10, val_main_v11, val_main_cst, val_main_cst_0]
  rw [dif_neg h1]
  by_cases h2 : k.val < 5376
  · rw [dif_pos h2]
    refine (group3_apply _ _ _ _ _ _ _ _ _ _ _ _ (bat q) (pos q) k 5 (by decide) 256 _ rfl 5120 rfl ⟨k.val - 5120, by omega⟩ (by show 5120 + (k.val - 5120) = k.val; omega)).trans ?_
    pointwise [val_main_v0, val_main_v1, val_main_v2, val_main_v3, val_main_v4, val_main_v5, val_main_v6, val_main_v7, val_main_v8, val_main_v9, val_main_v10, val_main_v11, val_main_cst, val_main_cst_0]
  rw [dif_neg h2]
  by_cases h3 : k.val < 5504
  · rw [dif_pos h3]
    refine (group3_apply _ _ _ _ _ _ _ _ _ _ _ _ (bat q) (pos q) k 6 (by decide) 128 _ rfl 5376 rfl ⟨k.val - 5376, by omega⟩ (by show 5376 + (k.val - 5376) = k.val; omega)).trans ?_
    pointwise [val_main_v0, val_main_v1, val_main_v2, val_main_v3, val_main_v4, val_main_v5, val_main_v6, val_main_v7, val_main_v8, val_main_v9, val_main_v10, val_main_v11, val_main_cst, val_main_cst_0]
  rw [dif_neg h3]
  by_cases h4 : k.val < 5520
  · rw [dif_pos h4]
    refine (group3_apply _ _ _ _ _ _ _ _ _ _ _ _ (bat q) (pos q) k 7 (by decide) 16 _ rfl 5504 rfl ⟨k.val - 5504, by omega⟩ (by show 5504 + (k.val - 5504) = k.val; omega)).trans ?_
    pointwise [val_main_v0, val_main_v1, val_main_v2, val_main_v3, val_main_v4, val_main_v5, val_main_v6, val_main_v7, val_main_v8, val_main_v9, val_main_v10, val_main_v11, val_main_cst, val_main_cst_0]
  rw [dif_neg h4]
  by_cases h5 : k.val < 5696
  · rw [dif_pos h5]
    refine (group3_apply _ _ _ _ _ _ _ _ _ _ _ _ (bat q) (pos q) k 8 (by decide) 176 _ rfl 5520 rfl ⟨k.val - 5520, by omega⟩ (by show 5520 + (k.val - 5520) = k.val; omega)).trans ?_
    show Ideal.ofBits .f32 0#32 = 0
    simp [Ideal.ofBits, Ideal.ieee]
  rw [dif_neg h5]
  by_cases h6 : k.val < 5728
  · rw [dif_pos h6]
    refine (group3_apply _ _ _ _ _ _ _ _ _ _ _ _ (bat q) (pos q) k 9 (by decide) 32 _ rfl 5696 rfl ⟨k.val - 5696, by omega⟩ (by show 5696 + (k.val - 5696) = k.val; omega)).trans ?_
    pointwise [val_main_v0, val_main_v1, val_main_v2, val_main_v3, val_main_v4, val_main_v5, val_main_v6, val_main_v7, val_main_v8, val_main_v9, val_main_v10, val_main_v11, val_main_cst, val_main_cst_0]
  rw [dif_neg h6]
  refine (group3_apply _ _ _ _ _ _ _ _ _ _ _ _ (bat q) (pos q) k 10 (by decide) 32 _ rfl 5728 rfl ⟨k.val - 5728, by omega⟩ (by show 5728 + (k.val - 5728) = k.val; omega)).trans ?_
  show Ideal.ofBits .f32 0#32 = 0
  simp [Ideal.ofBits, Ideal.ieee]

end Reference

variable (m : (ℓ : Loc nD τ sig) → Buf (Elt Ideal) ℓ)

/-- The normed rows. -/
abbrev hArg (c : Dev nD) : FVec Ideal S2x2048x1024 .f32 := m ((c : Thread nD τ).loc main_arg0)
/-- The projection's weight. -/
abbrev wArg (c : Dev nD) : FVec Ideal S1024x5552 .f32 := m ((c : Thread nD τ).loc main_arg1)

theorem read_h (c : Dev nD) (q : Fin 4096) (a : Fin 1024) :
    (V m c main_v1 : FVec Ideal S4096x1024 .bf16) (ix2 q a) = (hArg m c (ix3 (bat q) (pos q) a) : EReal) := by
  show StableHlo.after hostOps0 _ _ _ = _
  unfold hostOps0
  after_results_simp
  exact flat_apply _ _ _ _ q (row_eq q) a

set_option maxHeartbeats 1600000 in
theorem read_w (c : Dev nD) (a : Fin 1024) (k : Fin 5760) :
    (V m c main_v11 : FVec Ideal S1024x5760 .bf16) (ix2 a k) = packed (fun j => wArg m c (ix2 a j)) k := by
  show StableHlo.after hostOps0 _ _ _ = _
  unfold hostOps0 packed
  after_results_simp
  by_cases h0 : k.val < 3072
  · rw [dif_pos h0]
    refine (group_apply _ _ _ _ _ _ _ _ _ a k 0 (by decide) 3072 _ rfl 0 rfl ⟨k.val - 0, by omega⟩ (by show 0 + (k.val - 0) = k.val; omega)).trans ?_
    simp only [Matrix.cons_val]
    after_results_simp
    pointwise
  rw [dif_neg h0]
  by_cases h1 : k.val < 5120
  · rw [dif_pos h1]
    refine (group_apply _ _ _ _ _ _ _ _ _ a k 1 (by decide) 2048 _ rfl 3072 rfl ⟨k.val - 3072, by omega⟩ (by show 3072 + (k.val - 3072) = k.val; omega)).trans ?_
    simp only [Matrix.cons_val]
    after_results_simp
    pointwise
  rw [dif_neg h1]
  by_cases h2 : k.val < 5376
  · rw [dif_pos h2]
    refine (group_apply _ _ _ _ _ _ _ _ _ a k 2 (by decide) 256 _ rfl 5120 rfl ⟨k.val - 5120, by omega⟩ (by show 5120 + (k.val - 5120) = k.val; omega)).trans ?_
    simp only [Matrix.cons_val]
    after_results_simp
    pointwise
  rw [dif_neg h2]
  by_cases h3 : k.val < 5504
  · rw [dif_pos h3]
    refine (group_apply _ _ _ _ _ _ _ _ _ a k 3 (by decide) 128 _ rfl 5376 rfl ⟨k.val - 5376, by omega⟩ (by show 5376 + (k.val - 5376) = k.val; omega)).trans ?_
    simp only [Matrix.cons_val]
    after_results_simp
    pointwise
  rw [dif_neg h3]
  by_cases h4 : k.val < 5520
  · rw [dif_pos h4]
    refine (group_apply _ _ _ _ _ _ _ _ _ a k 4 (by decide) 16 _ rfl 5504 rfl ⟨k.val - 5504, by omega⟩ (by show 5504 + (k.val - 5504) = k.val; omega)).trans ?_
    simp only [Matrix.cons_val]
    after_results_simp
    pointwise
  rw [dif_neg h4]
  by_cases h5 : k.val < 5696
  · rw [dif_pos h5]
    refine (group_apply _ _ _ _ _ _ _ _ _ a k 5 (by decide) 176 _ rfl 5520 rfl ⟨k.val - 5520, by omega⟩ (by show 5520 + (k.val - 5520) = k.val; omega)).trans ?_
    simp only [Matrix.cons_val]
    after_results_simp
    show Ideal.ofBits .bf16 0#16 = 0
    simp [Ideal.ofBits, Ideal.ieee]
  rw [dif_neg h5]
  by_cases h6 : k.val < 5728
  · rw [dif_pos h6]
    refine (group_apply _ _ _ _ _ _ _ _ _ a k 6 (by decide) 32 _ rfl 5696 rfl ⟨k.val - 5696, by omega⟩ (by show 5696 + (k.val - 5696) = k.val; omega)).trans ?_
    simp only [Matrix.cons_val]
    after_results_simp
    pointwise
  rw [dif_neg h6]
  refine (group_apply _ _ _ _ _ _ _ _ _ a k 7 (by decide) 32 _ rfl 5728 rfl ⟨k.val - 5728, by omega⟩ (by show 5728 + (k.val - 5728) = k.val; omega)).trans ?_
  simp only [Matrix.cons_val]
  after_results_simp
  show Ideal.ofBits .bf16 0#16 = 0
  simp [Ideal.ofBits, Ideal.ieee]

/-- A tile's rows and columns in the whole arrays. -/
def row (t : Fin cfg0.N) (r : Fin 1024) : Fin 4096 := ⟨t.val / 5 * 1024 + r.val, by have := t.isLt; have : cfg0.N = 20 := N_0; omega⟩
def col (t : Fin cfg0.N) (l : Fin 1152) : Fin 5760 := ⟨t.val % 5 * 1152 + l.val, by omega⟩

theorem idx : ∀ t : Fin cfg0.N, win0_0.index t = ![t.val / 5, 0] ∧ win0_1.index t = ![0, t.val % 5]
    ∧ win0_2.index t = ![t.val / 5, t.val % 5] :=
  (by decide +kernel : ∀ t : Fin grid0.N, _)

theorem block0 (c : Dev nD) (t : Fin cfg0.N) (r a : Fin 1024) :
    (iblk m c 0 t : FVec Ideal S1024x1024 .bf16) (ix2 r a) = (hArg m c (ix3 (bat (row t r)) (pos (row t r)) a) : EReal) := by
  refine Eq.trans ?_ (read_h m c (row t r) a)
  have e := idx t
  blk_point [iblk, idx t, row]

theorem block1 (c : Dev nD) (t : Fin cfg0.N) (a : Fin 1024) (l : Fin 1152) :
    (iblk m c 1 t : FVec Ideal S1024x1152 .bf16) (ix2 a l) = packed (fun j => wArg m c (ix2 a j)) (col t l) := by
  refine Eq.trans ?_ (read_w m c a (col t l))
  have e := idx t
  blk_point [iblk, idx t, col]

theorem final_2 (c : Dev nD) : (dats m 0 c).arrAt 2 (cfgs 0).N
    = Cert.ReferenceProjIdeal.Read.val_main_v14 (F := Ideal) (hArg m c) (wArg m c) := by
  refine (dats m 0 c).arrAt_eq_of_covers 2 _ (by decide +kernel) fun t hf y => ?_
  obtain ⟨r, l, rfl⟩ : ∃ (r : Fin 1024) (l : Fin 1152), y = ix2 r l := ⟨_, _, index2 y⟩
  have hy : ((cfg0.win 2).blk t).view.emb (ix2 r l) = ix2 (row t r) (col t l) := by
    have e := idx t
    blk_ext [e, row, col]
  rw [hy, reference_apply, ← sum_packed]
  blk_simp
  rw [after0_2]
  frame_out
  pointwise [out0_2, k0_pay1]
  simp only [block0, block1]

end Cert.KernelProjIdeal.Proj

end
-- ==== Proof.ProjClaim.lean ====
module

public import proofs.«01_k».proof.Defs
public import proofs.«01_k».proof.Proof.Proj
public import proofs.«01_k».proof.Proof.Gen.ReferenceProjIdeal.Run
public import Idealize.ShloMosaic.Init
public import Idealize.ShloMosaic.Adequacy

@[expose] public section

set_option maxRecDepth 16384

/-! The claims about the projection of the normed rows, from the two programs' runs. -/

namespace Cert.Proof.Proj

open Idealize.ShloMosaic Idealize.ShloMosaic.TcCoe Idealize.SL.Sem

section
open Cert.ReferenceProjIdeal Cert.ReferenceProjIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v14) = val_main_v14 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => h c) (Cert.ReferenceProjIdeal.Value.run m g)

end

theorem frame_reference : Cert.quiescent_ReferenceProjIdeal := fun m g _ =>
  (θ_run Cert.ReferenceProjIdeal.defs _ _).mono
    (fun r h => ⟨fun c => (h c).2, sem_eq_zero_of_no_sems (by decide) r.2⟩) (run_stages m g)

theorem algebraic : Cert.algebraic_KernelProjIdeal_ReferenceProjIdeal := by
  intro m g m' g' hpre hagree
  refine ⟨_, Cert.KernelProjIdeal.Value.run_blocks m g,
    (θ_run Cert.ReferenceProjIdeal.defs _ _).mono (fun r h c => ?_) (run_stages m' g')⟩
  obtain ⟨e0, e1⟩ := hagree c
  obtain ⟨h0, hargs⟩ := h c
  rw [e0, e1] at h0
  exact ⟨h0.trans (KernelProjIdeal.Proj.final_2 m c).symm, hargs⟩

end Cert.Proof.Proj
-- ==== Proof.ProjDx.lean ====
module

public import proofs.«01_k».proof.Proof.Gen.KernelProjDxIdeal.Value
public import Idealize.ShloMosaic.Lib.Pipeline.ValueKit
public import Idealize.ShloMosaic.Lib.Claim
public import proofs.«01_k».proof.Proof.Columns
public import proofs.«01_k».proof.Proof.Gen.ReferenceProjDxIdeal.Read

@[expose] public section

set_option maxRecDepth 16384

/-! The projection's gradient in the normed rows: the product is taken piece by piece over the columns, two pieces
padded with zero lanes; their sums add up to the one sum over all the columns. -/

noncomputable section

open Idealize.ShloMosaic Idealize.ShloMosaic.TcCoe Idealize.SL.Sem
open Idealize.ShloMosaic.Pipeline (Dat)

namespace Cert.KernelProjDxIdeal.Pieces

open Cert.KernelProjDxIdeal Cert.KernelProjDxIdeal.Gen Cert.Columns

/-! ## The sum over the columns -/

/-- A row of columns read at any place, zero past its end. -/
def at_ (f : Fin 5552 → EReal) (n : ℕ) : EReal := if h : n < 5552 then f ⟨n, h⟩ else 0

/-- The gate's 16 columns followed by zeros. -/
def low (d : Fin 5552 → EReal) (k : Fin 128) : EReal := if h : k.val < 16 then d ⟨3072 + k.val, by omega⟩ else 0
/-- The rotary key's 32 columns on the lanes from 64 to 95, zeros elsewhere. -/
def mid (d : Fin 5552 → EReal) (k : Fin 128) : EReal :=
  if h : 64 ≤ k.val ∧ k.val - 64 < 32 then d ⟨3472 + (k.val - 64), by omega⟩ else 0

theorem sum_piece (d w : Fin 5552 → EReal) (n o p : ℕ) (ho : o + n ≤ 5552) (hp : p + n ≤ 5760)
    (h : ∀ k (hk : k < n), packed w ⟨p + k, by omega⟩ = w ⟨o + k, by omega⟩) :
    ∑ k : Fin n, d ⟨o + k.val, by omega⟩ * packed w ⟨p + k.val, by omega⟩
      = ∑ k ∈ Finset.range n, at_ (fun j => d j * w j) (o + k) := by
  rw [Finset.sum_range]
  refine Finset.sum_congr rfl fun k _ => ?_
  rw [h k.val k.isLt]
  simp only [at_, show o + k.val < 5552 by omega, dite_true]

theorem sum_low (d w : Fin 5552 → EReal) :
    ∑ k : Fin 128, low d k * packed w ⟨5504 + k.val, by omega⟩
      = ∑ k ∈ Finset.range 16, at_ (fun j => d j * w j) (3072 + k) := by
  have e : ∀ k : Fin 128, low d k * packed w ⟨5504 + k.val, by omega⟩
      = (fun n : ℕ => if n < 16 then at_ (fun j => d j * w j) (3072 + n) else 0) k.val := by
    intro k
    by_cases h : k.val < 16
    · simp only [low, packed, at_, h, dite_true, if_true]
      rw [dif_neg (by omega), dif_neg (by omega), dif_neg (by omega), dif_neg (by omega), dif_pos (by omega), dif_pos (by omega)]
      simp only [show 5504 + k.val - 5504 = k.val by omega]
    · simp only [low, h, dite_false, if_false, zero_mul]
  refine (Finset.sum_congr rfl fun k _ => e k).trans ((Finset.sum_range (n := 128) fun n : ℕ =>
    if n < 16 then at_ (fun j => d j * w j) (3072 + n) else 0).symm.trans ?_)
  rw [Finset.sum_range_add _ 16 112]
  rw [Finset.sum_congr rfl fun k hk => if_pos (Finset.mem_range.1 hk),
    Finset.sum_congr rfl fun k hk => if_neg (by omega), Finset.sum_const_zero, add_zero]

theorem sum_mid (d w : Fin 5552 → EReal) :
    ∑ k : Fin 128, mid d k * packed w ⟨5632 + k.val, by omega⟩
      = ∑ k ∈ Finset.range 32, at_ (fun j => d j * w j) (3472 + k) := by
  have e : ∀ k : Fin 128, mid d k * packed w ⟨5632 + k.val, by omega⟩
      = (fun n : ℕ => if 64 ≤ n ∧ n - 64 < 32 then at_ (fun j => d j * w j) (3472 + (n - 64)) else 0) k.val := by
    intro k
    by_cases h : 64 ≤ k.val ∧ k.val - 64 < 32
    · simp only [mid, packed, at_, h, and_self, dite_true, if_true]
      rw [dif_neg (by omega), dif_neg (by omega), dif_neg (by omega), dif_neg (by omega), dif_neg (by omega), dif_neg (by omega),
        dif_pos (by omega), dif_pos (by omega)]
      simp only [show 5632 + k.val - 5696 = k.val - 64 by omega]
    · simp only [mid, h, dite_false, if_false, zero_mul]
  refine (Finset.sum_congr rfl fun k _ => e k).trans ((Finset.sum_range (n := 128) fun n : ℕ =>
    if 64 ≤ n ∧ n - 64 < 32 then at_ (fun j => d j * w j) (3472 + (n - 64)) else 0).symm.trans ?_)
  have z : ∀ (n o : ℕ), (∀ k < n, ¬(64 ≤ o + k ∧ o + k - 64 < 32)) → ∑ k ∈ Finset.range n,
      (if 64 ≤ o + k ∧ o + k - 64 < 32 then at_ (fun j => d j * w j) (3472 + (o + k - 64)) else 0) = 0 :=
    fun n o h => (Finset.sum_congr rfl fun k hk => if_neg (h k (Finset.mem_range.1 hk))).trans Finset.sum_const_zero
  rw [Finset.sum_range_add _ 96 32, Finset.sum_range_add _ 64 32, z 32 96 (fun k hk => by omega), add_zero]
  have z0 := z 64 0 (fun k hk => by omega)
  simp only [zero_add] at z0
  rw [z0, zero_add]
  refine Finset.sum_congr rfl fun k hk => ?_
  have hk := Finset.mem_range.1 hk
  rw [if_pos (by omega), show 64 + k - 64 = k by omega]

/-- The pieces' sums, in the order they are added, are the sum over all the columns. -/
theorem sum_pieces (d w : Fin 5552 → EReal) :
    (∑ k : Fin 512, d ⟨0 + k.val, by omega⟩ * packed w ⟨0 + k.val, by omega⟩)
      + (∑ k : Fin 512, d ⟨512 + k.val, by omega⟩ * packed w ⟨512 + k.val, by omega⟩)
      + (∑ k : Fin 1024, d ⟨1024 + k.val, by omega⟩ * packed w ⟨1024 + k.val, by omega⟩)
      + (∑ k : Fin 1024, d ⟨2048 + k.val, by omega⟩ * packed w ⟨2048 + k.val, by omega⟩)
      + (∑ k : Fin 1024, d ⟨3504 + k.val, by omega⟩ * packed w ⟨3072 + k.val, by omega⟩)
      + (∑ k : Fin 1024, d ⟨4528 + k.val, by omega⟩ * packed w ⟨4096 + k.val, by omega⟩)
      + (∑ k : Fin 256, d ⟨3088 + k.val, by omega⟩ * packed w ⟨5120 + k.val, by omega⟩)
      + (∑ k : Fin 128, d ⟨3344 + k.val, by omega⟩ * packed w ⟨5376 + k.val, by omega⟩)
      + (∑ k : Fin 128, low d k * packed w ⟨5504 + k.val, by omega⟩)
      + (∑ k : Fin 128, mid d k * packed w ⟨5632 + k.val, by omega⟩) = ∑ j, d j * w j := by
  rw [sum_piece d w 512 0 0 (by omega) (by omega) (fun k hk => by
    unfold packed
    rw [dif_pos (show 0 + k < 3072 by omega)]
)]
  rw [sum_piece d w 512 512 512 (by omega) (by omega) (fun k hk => by
    unfold packed
    rw [dif_pos (show 512 + k < 3072 by omega)]
)]
  rw [sum_piece d w 1024 1024 1024 (by omega) (by omega) (fun k hk => by
    unfold packed
    rw [dif_pos (show 1024 + k < 3072 by omega)]
)]
  rw [sum_piece d w 1024 2048 2048 (by omega) (by omega) (fun k hk => by
    unfold packed
    rw [dif_pos (show 2048 + k < 3072 by omega)]
)]
  rw [sum_piece d w 1024 3504 3072 (by omega) (by omega) (fun k hk => by
    unfold packed
    rw [dif_neg (show ¬ 3072 + k < 3072 by omega), dif_pos (show 3072 + k < 5120 by omega)]
    exact congrArg w (Fin.ext (show 3504 + (3072 + k - 3072) = 3504 + k by omega)))]
  rw [sum_piece d w 1024 4528 4096 (by omega) (by omega) (fun k hk => by
    unfold packed
    rw [dif_neg (show ¬ 4096 + k < 3072 by omega), dif_pos (show 4096 + k < 5120 by omega)]
    exact congrArg w (Fin.ext (show 3504 + (4096 + k - 3072) = 4528 + k by omega)))]
  rw [sum_piece d w 256 3088 5120 (by omega) (by omega) (fun k hk => by
    unfold packed
    rw [dif_neg (show ¬ 5120 + k < 3072 by omega), dif_neg (show ¬ 5120 + k < 5120 by omega), dif_pos (show 5120 + k < 5376 by omega)]
    exact congrArg w (Fin.ext (show 3088 + (5120 + k - 5120) = 3088 + k by omega)))]
  rw [sum_piece d w 128 3344 5376 (by omega) (by omega) (fun k hk => by
    unfold packed
    rw [dif_neg (show ¬ 5376 + k < 3072 by omega), dif_neg (show ¬ 5376 + k < 5120 by omega), dif_neg (show ¬ 5376 + k < 5376 by omega), dif_pos (show 5376 + k < 5504 by omega)]
    exact congrArg w (Fin.ext (show 3344 + (5376 + k - 5376) = 3344 + k by omega)))]
  rw [sum_low, sum_mid]
  have e : ∑ j, d j * w j = ∑ n ∈ Finset.range 5552, at_ (fun j => d j * w j) n := by
    rw [Finset.sum_range]
    exact Finset.sum_congr rfl fun j _ => by simp only [at_, j.isLt, dite_true]
  rw [e]
  generalize at_ (fun j => d j * w j) = f
  have s : ∀ (a n : ℕ), ∑ k ∈ Finset.range (a + n), f k = ∑ k ∈ Finset.range a, f k + ∑ k ∈ Finset.range n, f (a + k) :=
    fun a n => Finset.sum_range_add f a n
  rw [s 4528 1024, s 3504 1024, s 3472 32, s 3344 128, s 3088 256, s 3072 16, s 2048 1024, s 1024 1024, s 512 512]
  simp only [zero_add]
  ac_rfl

/-! ## The reference -/

section Reference
open Cert.ReferenceProjDxIdeal.Read
variable (x : FVec Ideal S2x2048x5552 .f32) (w : FVec Ideal S1024x5552 .f32)

theorem reference_apply (q : Fin 4096) (a : Fin 1024) : (val_main_v3 (F := Ideal) x w (ix2 q a) : EReal)
    = ∑ j : Fin 5552, x (ix3 (bat q) (pos q) j) * w (ix2 a j) := by
  refine (flat_apply (val_main_v2 (F := Ideal) x w) Cert.ReferenceProjDxIdeal.Facts₀.shapeCasts_S2x2048x1024_S4096x1024 _ _ q (row_eq q) a).trans ?_
  pointwise [val_main_v2]

end Reference

/-! ## What the host lays out -/

variable (m : (ℓ : Loc nD τ sig) → Buf (Elt Ideal) ℓ)

/-- The gradient in the projected columns. -/
abbrev dArg (c : Dev nD) : FVec Ideal S2x2048x5552 .f32 := m ((c : Thread nD τ).loc main_arg0)
/-- The projection's weight. -/
abbrev wArg (c : Dev nD) : FVec Ideal S1024x5552 .f32 := m ((c : Thread nD τ).loc main_arg1)

theorem zero_fill {φ : FTy} (i : S_.Idx) : (sitofp (F := Ideal) φ (constantI S_ 32 0#32) i : EReal) = 0 := by
  show ((((0#32 : BitVec 32).toInt : ℤ) : ℝ) : EReal) = 0
  simp

theorem low_apply (f : S4096x16.Idx → EReal) (z : S_.Idx → EReal) (hz : ∀ i, z i = 0) (q : Fin 4096) (l : Fin 128) :
    pad S4096x128 ![0, 0] ![0, 112] ![0, 0] f z pads_S4096x16_S4096x128_000_01120 h_S_ (ix2 q l)
      = if h : l.val < 16 then f (ix2 q ⟨l.val, h⟩) else 0 := by
  pointwise
  simp only [hz]

theorem mid_apply (f : S4096x32.Idx → EReal) (z : S_.Idx → EReal) (hz : ∀ i, z i = 0) (q : Fin 4096) (l : Fin 128) :
    pad S4096x128 ![0, 64] ![0, 32] ![0, 0] f z pads_S4096x32_S4096x128_000_64320 h_S_ (ix2 q l)
      = if h : 64 ≤ l.val ∧ l.val - 64 < 32 then f (ix2 q ⟨l.val - 64, by omega⟩) else 0 := by
  pointwise
  simp only [hz]

theorem slice_apply {v n : ℕ} (f : (⟨2, ![4096, v]⟩ : Shape).Idx → EReal) (o : ℕ)
    (h : Shape.Slices (⟨2, ![4096, v]⟩ : Shape) ![0, o] (⟨2, ![4096, n]⟩ : Shape)) (q : Fin 4096) (l : Fin n) (j : Fin v) (e : o + l.val = j.val) :
    extractStridedSlice (⟨2, ![4096, n]⟩ : Shape) ![0, o] f h (ix2 q l) = f (ix2 q j) :=
  congrArg f (funext fun a => by
    fin_cases a
    · exact Fin.ext (Nat.zero_add _)
    · exact Fin.ext e)

theorem read_q (c : Dev nD) (q : Fin 4096) (l : Fin 512) :
    (V m c main_v2 : FVec Ideal S4096x512 .bf16) (ix2 q l) = (dArg m c (ix3 (bat q) (pos q) ⟨0 + l.val, by omega⟩) : EReal) := by
  unfold V hostOps0 hostOps0_1 hostOps0_2 hostOps0_3 hostOps0_4
  simp only [List.flatten_cons, List.flatten_nil, List.cons_append, List.nil_append, List.append_nil]
  after_results_simp
  exact (slice_apply _ 0 slices_S4096x5552_S4096x512_0_0 q l ⟨0 + l.val, by omega⟩ rfl).trans (flat_apply _ shapeCasts_S2x2048x5552_S4096x5552 _ _ q (row_eq q) _)

theorem read_k (c : Dev nD) (q : Fin 4096) (l : Fin 512) :
    (V m c main_v3 : FVec Ideal S4096x512 .bf16) (ix2 q l) = (dArg m c (ix3 (bat q) (pos q) ⟨512 + l.val, by omega⟩) : EReal) := by
  unfold V hostOps0 hostOps0_1 hostOps0_2 hostOps0_3 hostOps0_4
  simp only [List.flatten_cons, List.flatten_nil, List.cons_append, List.nil_append, List.append_nil]
  after_results_simp
  exact (slice_apply _ 512 slices_S4096x5552_S4096x512_0_512 q l ⟨512 + l.val, by omega⟩ rfl).trans (flat_apply _ shapeCasts_S2x2048x5552_S4096x5552 _ _ q (row_eq q) _)

theorem read_v (c : Dev nD) (q : Fin 4096) (l : Fin 1024) :
    (V m c main_v4 : FVec Ideal S4096x1024 .bf16) (ix2 q l) = (dArg m c (ix3 (bat q) (pos q) ⟨1024 + l.val, by omega⟩) : EReal) := by
  unfold V hostOps0 hostOps0_1 hostOps0_2 hostOps0_3 hostOps0_4
  simp only [List.flatten_cons, List.flatten_nil, List.cons_append, List.nil_append, List.append_nil]
  after_results_simp
  exact (slice_apply _ 1024 slices_S4096x5552_S4096x1024_0_1024 q l ⟨1024 + l.val, by omega⟩ rfl).trans (flat_apply _ shapeCasts_S2x2048x5552_S4096x5552 _ _ q (row_eq q) _)

theorem read_g (c : Dev nD) (q : Fin 4096) (l : Fin 1024) :
    (V m c main_v5 : FVec Ideal S4096x1024 .bf16) (ix2 q l) = (dArg m c (ix3 (bat q) (pos q) ⟨2048 + l.val, by omega⟩) : EReal) := by
  unfold V hostOps0 hostOps0_1 hostOps0_2 hostOps0_3 hostOps0_4
  simp only [List.flatten_cons, List.flatten_nil, List.cons_append, List.nil_append, List.append_nil]
  after_results_simp
  exact (slice_apply _ 2048 slices_S4096x5552_S4096x1024_0_2048 q l ⟨2048 + l.val, by omega⟩ rfl).trans (flat_apply _ shapeCasts_S2x2048x5552_S4096x5552 _ _ q (row_eq q) _)

theorem read_ma (c : Dev nD) (q : Fin 4096) (l : Fin 1024) :
    (V m c main_v11 : FVec Ideal S4096x1024 .bf16) (ix2 q l) = (dArg m c (ix3 (bat q) (pos q) ⟨3504 + l.val, by omega⟩) : EReal) := by
  unfold V hostOps0 hostOps0_1 hostOps0_2 hostOps0_3 hostOps0_4
  simp only [List.flatten_cons, List.flatten_nil, List.cons_append, List.nil_append, List.append_nil]
  after_results_simp
  exact ((slice_apply _ 0 slices_S4096x2048_S4096x1024_0_0 q l ⟨0 + l.val, by omega⟩ rfl).trans
    (slice_apply _ 3504 slices_S4096x5552_S4096x2048_0_3504 q (⟨0 + l.val, by omega⟩ : Fin 2048) ⟨3504 + l.val, by omega⟩
      (by show 3504 + (0 + l.val) = 3504 + l.val; omega))).trans
    (flat_apply _ shapeCasts_S2x2048x5552_S4096x5552 _ _ q (row_eq q) _)

theorem read_mb (c : Dev nD) (q : Fin 4096) (l : Fin 1024) :
    (V m c main_v12 : FVec Ideal S4096x1024 .bf16) (ix2 q l) = (dArg m c (ix3 (bat q) (pos q) ⟨4528 + l.val, by omega⟩) : EReal) := by
  unfold V hostOps0 hostOps0_1 hostOps0_2 hostOps0_3 hostOps0_4
  simp only [List.flatten_cons, List.flatten_nil, List.cons_append, List.nil_append, List.append_nil]
  after_results_simp
  exact ((slice_apply _ 1024 slices_S4096x2048_S4096x1024_0_1024 q l ⟨1024 + l.val, by omega⟩ rfl).trans
    (slice_apply _ 3504 slices_S4096x5552_S4096x2048_0_3504 q (⟨1024 + l.val, by omega⟩ : Fin 2048) ⟨4528 + l.val, by omega⟩
      (by show 3504 + (1024 + l.val) = 4528 + l.val; omega))).trans
    (flat_apply _ shapeCasts_S2x2048x5552_S4096x5552 _ _ q (row_eq q) _)

theorem read_cq (c : Dev nD) (q : Fin 4096) (l : Fin 256) :
    (V m c main_v7 : FVec Ideal S4096x256 .bf16) (ix2 q l) = (dArg m c (ix3 (bat q) (pos q) ⟨3088 + l.val, by omega⟩) : EReal) := by
  unfold V hostOps0 hostOps0_1 hostOps0_2 hostOps0_3 hostOps0_4
  simp only [List.flatten_cons, List.flatten_nil, List.cons_append, List.nil_append, List.append_nil]
  after_results_simp
  exact (slice_apply _ 3088 slices_S4096x5552_S4096x256_0_3088 q l ⟨3088 + l.val, by omega⟩ rfl).trans (flat_apply _ shapeCasts_S2x2048x5552_S4096x5552 _ _ q (row_eq q) _)

theorem read_ckv (c : Dev nD) (q : Fin 4096) (l : Fin 128) :
    (V m c main_v8 : FVec Ideal S4096x128 .bf16) (ix2 q l) = (dArg m c (ix3 (bat q) (pos q) ⟨3344 + l.val, by omega⟩) : EReal) := by
  unfold V hostOps0 hostOps0_1 hostOps0_2 hostOps0_3 hostOps0_4
  simp only [List.flatten_cons, List.flatten_nil, List.cons_append, List.nil_append, List.append_nil]
  after_results_simp
  exact (slice_apply _ 3344 slices_S4096x5552_S4096x128_0_3344 q l ⟨3344 + l.val, by omega⟩ rfl).trans (flat_apply _ shapeCasts_S2x2048x5552_S4096x5552 _ _ q (row_eq q) _)

theorem read_a (c : Dev nD) (q : Fin 4096) (l : Fin 128) :
    (V m c main_v13 : FVec Ideal S4096x128 .bf16) (ix2 q l) = low (fun j => dArg m c (ix3 (bat q) (pos q) j)) l := by
  unfold V hostOps0 hostOps0_1 hostOps0_2 hostOps0_3 hostOps0_4
  simp only [List.flatten_cons, List.flatten_nil, List.cons_append, List.nil_append, List.append_nil]
  after_results_simp
  refine (low_apply _ _ (fun i => zero_fill i) q l).trans ?_
  unfold low
  split_ifs with h
  · exact (slice_apply _ 3072 slices_S4096x5552_S4096x16_0_3072 q (⟨l.val, h⟩ : Fin 16) ⟨3072 + l.val, by omega⟩ rfl).trans (flat_apply _ shapeCasts_S2x2048x5552_S4096x5552 _ _ q (row_eq q) _)
  · rfl

theorem read_kpe (c : Dev nD) (q : Fin 4096) (l : Fin 128) :
    (V m c main_v14 : FVec Ideal S4096x128 .bf16) (ix2 q l) = mid (fun j => dArg m c (ix3 (bat q) (pos q) j)) l := by
  unfold V hostOps0 hostOps0_1 hostOps0_2 hostOps0_3 hostOps0_4
  simp only [List.flatten_cons, List.flatten_nil, List.cons_append, List.nil_append, List.append_nil]
  after_results_simp
  refine (mid_apply _ _ (fun i => zero_fill i) q l).trans ?_
  unfold mid
  split_ifs with h
  · exact (slice_apply _ 3472 slices_S4096x5552_S4096x32_0_3472 q (⟨l.val - 64, by omega⟩ : Fin 32) ⟨3472 + (l.val - 64), by omega⟩ rfl).trans
      (flat_apply _ shapeCasts_S2x2048x5552_S4096x5552 _ _ q (row_eq q) _)
  · rfl

set_option maxHeartbeats 1600000 in
theorem read_w (c : Dev nD) (a : Fin 1024) (k : Fin 5760) :
    (V m c main_v24 : FVec Ideal S1024x5760 .bf16) (ix2 a k) = packed (fun j => wArg m c (ix2 a j)) k := by
  unfold V hostOps0 hostOps0_1 hostOps0_2 hostOps0_3 hostOps0_4
  simp only [List.flatten_cons, List.flatten_nil, List.cons_append, List.nil_append, List.append_nil]
  after_results_simp
  unfold packed
  by_cases h0 : k.val < 3072
  · rw [dif_pos h0]
    refine (group_apply _ _ _ _ _ _ _ _ _ a k 0 (by decide) 3072 _ rfl 0 rfl ⟨k.val - 0, by omega⟩ (by show 0 + (k.val - 0) = k.val; omega)).trans ?_
    simp only [Matrix.cons_val]
    after_results_simp
    pointwise
  rw [dif_neg h0]
  by_cases h1 : k.val < 5120
  · rw [dif_pos h1]
    refine (group_apply _ _ _ _ _ _ _ _ _ a k 1 (by decide) 2048 _ rfl 3072 rfl ⟨k.val - 3072, by omega⟩ (by show 3072 + (k.val - 3072) = k.val; omega)).trans ?_
    simp only [Matrix.cons_val]
    after_results_simp
    pointwise
  rw [dif_neg h1]
  by_cases h2 : k.val < 5376
  · rw [dif_pos h2]
    refine (group_apply _ _ _ _ _ _ _ _ _ a k 2 (by decide) 256 _ rfl 5120 rfl ⟨k.val - 5120, by omega⟩ (by show 5120 + (k.val - 5120) = k.val; omega)).trans ?_
    simp only [Matrix.cons_val]
    after_results_simp
    pointwise
  rw [dif_neg h2]
  by_cases h3 : k.val < 5504
  · rw [dif_pos h3]
    refine (group_apply _ _ _ _ _ _ _ _ _ a k 3 (by decide) 128 _ rfl 5376 rfl ⟨k.val - 5376, by omega⟩ (by show 5376 + (k.val - 5376) = k.val; omega)).trans ?_
    simp only [Matrix.cons_val]
    after_results_simp
    pointwise
  rw [dif_neg h3]
  by_cases h4 : k.val < 5520
  · rw [dif_pos h4]
    refine (group_apply _ _ _ _ _ _ _ _ _ a k 4 (by decide) 16 _ rfl 5504 rfl ⟨k.val - 5504, by omega⟩ (by show 5504 + (k.val - 5504) = k.val; omega)).trans ?_
    simp only [Matrix.cons_val]
    after_results_simp
    pointwise
  rw [dif_neg h4]
  by_cases h5 : k.val < 5696
  · rw [dif_pos h5]
    refine (group_apply _ _ _ _ _ _ _ _ _ a k 5 (by decide) 176 _ rfl 5520 rfl ⟨k.val - 5520, by omega⟩ (by show 5520 + (k.val - 5520) = k.val; omega)).trans ?_
    simp only [Matrix.cons_val]
    after_results_simp
    show Ideal.ofBits .bf16 0#16 = 0
    simp [Ideal.ofBits, Ideal.ieee]
  rw [dif_neg h5]
  by_cases h6 : k.val < 5728
  · rw [dif_pos h6]
    refine (group_apply _ _ _ _ _ _ _ _ _ a k 6 (by decide) 32 _ rfl 5696 rfl ⟨k.val - 5696, by omega⟩ (by show 5696 + (k.val - 5696) = k.val; omega)).trans ?_
    simp only [Matrix.cons_val]
    after_results_simp
    pointwise
  rw [dif_neg h6]
  refine (group_apply _ _ _ _ _ _ _ _ _ a k 7 (by decide) 32 _ rfl 5728 rfl ⟨k.val - 5728, by omega⟩ (by show 5728 + (k.val - 5728) = k.val; omega)).trans ?_
  simp only [Matrix.cons_val]
  after_results_simp
  show Ideal.ofBits .bf16 0#16 = 0
  simp [Ideal.ofBits, Ideal.ieee]

/-! ## The tiles -/

/-- A tile's row in the whole array. -/
def row (t : Fin cfg0.N) (r : Fin 512) : Fin 4096 := ⟨t.val * 512 + r.val, by have := t.isLt; have : cfg0.N = 8 := N_0; omega⟩

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_12.index t = ![t.val, 0] ∧ win0_10.index t = ![0, 0] :=
  (by decide +kernel : ∀ t : Fin grid0.N, _)

theorem block0 (c : Dev nD) (t : Fin cfg0.N) (r : Fin 512) (l : Fin 512) :
    (iblk m c 0 t : FVec Ideal S512x512 .bf16) (ix2 r l) = (dArg m c (ix3 (bat (row t r)) (pos (row t r)) ⟨0 + l.val, by omega⟩) : EReal) := by
  refine Eq.trans ?_ (read_q m c (row t r) l)
  have e := idx t
  blk_point [iblk, idx t, row]

theorem block1 (c : Dev nD) (t : Fin cfg0.N) (r : Fin 512) (l : Fin 512) :
    (iblk m c 1 t : FVec Ideal S512x512 .bf16) (ix2 r l) = (dArg m c (ix3 (bat (row t r)) (pos (row t r)) ⟨512 + l.val, by omega⟩) : EReal) := by
  refine Eq.trans ?_ (read_k m c (row t r) l)
  have e := idx t
  blk_point [iblk, idx t, row]

theorem block2 (c : Dev nD) (t : Fin cfg0.N) (r : Fin 512) (l : Fin 1024) :
    (iblk m c 2 t : FVec Ideal S512x1024 .bf16) (ix2 r l) = (dArg m c (ix3 (bat (row t r)) (pos (row t r)) ⟨1024 + l.val, by omega⟩) : EReal) := by
  refine Eq.trans ?_ (read_v m c (row t r) l)
  have e := idx t
  blk_point [iblk, idx t, row]

theorem block3 (c : Dev nD) (t : Fin cfg0.N) (r : Fin 512) (l : Fin 1024) :
    (iblk m c 3 t : FVec Ideal S512x1024 .bf16) (ix2 r l) = (dArg m c (ix3 (bat (row t r)) (pos (row t r)) ⟨2048 + l.val, by omega⟩) : EReal) := by
  refine Eq.trans ?_ (read_g m c (row t r) l)
  have e := idx t
  blk_point [iblk, idx t, row]

theorem block4 (c : Dev nD) (t : Fin cfg0.N) (r : Fin 512) (l : Fin 1024) :
    (iblk m c 4 t : FVec Ideal S512x1024 .bf16) (ix2 r l) = (dArg m c (ix3 (bat (row t r)) (pos (row t r)) ⟨3504 + l.val, by omega⟩) : EReal) := by
  refine Eq.trans ?_ (read_ma m c (row t r) l)
  have e := idx t
  blk_point [iblk, idx t, row]

theorem block5 (c : Dev nD) (t : Fin cfg0.N) (r : Fin 512) (l : Fin 1024) :
    (iblk m c 5 t : FVec Ideal S512x1024 .bf16) (ix2 r l) = (dArg m c (ix3 (bat (row t r)) (pos (row t r)) ⟨4528 + l.val, by omega⟩) : EReal) := by
  refine Eq.trans ?_ (read_mb m c (row t r) l)
  have e := idx t
  blk_point [iblk, idx t, row]

theorem block6 (c : Dev nD) (t : Fin cfg0.N) (r : Fin 512) (l : Fin 256) :
    (iblk m c 6 t : FVec Ideal S512x256 .bf16) (ix2 r l) = (dArg m c (ix3 (bat (row t r)) (pos (row t r)) ⟨3088 + l.val, by omega⟩) : EReal) := by
  refine Eq.trans ?_ (read_cq m c (row t r) l)
  have e := idx t
  blk_point [iblk, idx t, row]

theorem block7 (c : Dev nD) (t : Fin cfg0.N) (r : Fin 512) (l : Fin 128) :
    (iblk m c 7 t : FVec Ideal S512x128 .bf16) (ix2 r l) = (dArg m c (ix3 (bat (row t r)) (pos (row t r)) ⟨3344 + l.val, by omega⟩) : EReal) := by
  refine Eq.trans ?_ (read_ckv m c (row t r) l)
  have e := idx t
  blk_point [iblk, idx t, row]

theorem block8 (c : Dev nD) (t : Fin cfg0.N) (r : Fin 512) (l : Fin 128) :
    (iblk m c 8 t : FVec Ideal S512x128 .bf16) (ix2 r l) = low (fun j => dArg m c (ix3 (bat (row t r)) (pos (row t r)) j)) l := by
  refine Eq.trans ?_ (read_a m c (row t r) l)
  have e := idx t
  blk_point [iblk, idx t, row]

theorem block9 (c : Dev nD) (t : Fin cfg0.N) (r : Fin 512) (l : Fin 128) :
    (iblk m c 9 t : FVec Ideal S512x128 .bf16) (ix2 r l) = mid (fun j => dArg m c (ix3 (bat (row t r)) (pos (row t r)) j)) l := by
  refine Eq.trans ?_ (read_kpe m c (row t r) l)
  have e := idx t
  blk_point [iblk, idx t, row]

theorem block10 (c : Dev nD) (t : Fin cfg0.N) (a : Fin 1024) (k : Fin 5760) :
    (iblk m c 10 t : FVec Ideal S1024x5760 .bf16) (ix2 a k) = packed (fun j => wArg m c (ix2 a j)) k := by
  refine Eq.trans ?_ (read_w m c a k)
  have e := idx t
  blk_point [iblk, idx t]

theorem final_12 (c : Dev nD) : (dats m 0 c).arrAt 12 (cfgs 0).N
    = Cert.ReferenceProjDxIdeal.Read.val_main_v3 (F := Ideal) (dArg m c) (wArg m c) := by
  refine (dats m 0 c).arrAt_eq_of_covers 12 _ (by decide +kernel) fun t hf y => ?_
  obtain ⟨r, l, rfl⟩ : ∃ (r : Fin 512) (l : Fin 1024), y = ix2 r l := ⟨_, _, index2 y⟩
  have hy : ((cfg0.win 12).blk t).view.emb (ix2 r l) = ix2 (row t r) l := by
    have e := idx t
    blk_ext [e, row]
  rw [hy, reference_apply, ← sum_pieces]
  blk_simp
  rw [after0_12]
  frame_out
  pointwise [out0_12, k0_pay1, k0_pay2, k0_pay3]
  simp only [block0, block1, block2, block3, block4, block5, block6, block7, block8, block9, block10, zero_add]

end Cert.KernelProjDxIdeal.Pieces

end
-- ==== Proof.ProjDxClaim.lean ====
module

public import proofs.«01_k».proof.Defs
public import proofs.«01_k».proof.Proof.ProjDx
public import proofs.«01_k».proof.Proof.Gen.ReferenceProjDxIdeal.Run
public import Idealize.ShloMosaic.Init
public import Idealize.ShloMosaic.Adequacy

@[expose] public section

set_option maxRecDepth 16384

/-! The claims about the projection's gradient in the normed rows, from the two programs' runs. -/

namespace Cert.Proof.ProjDx

open Idealize.ShloMosaic Idealize.ShloMosaic.TcCoe Idealize.SL.Sem

section
open Cert.ReferenceProjDxIdeal Cert.ReferenceProjDxIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => h c) (Cert.ReferenceProjDxIdeal.Value.run m g)

end

theorem frame_reference : Cert.quiescent_ReferenceProjDxIdeal := fun m g _ =>
  (θ_run Cert.ReferenceProjDxIdeal.defs _ _).mono
    (fun r h => ⟨fun c => (h c).2, sem_eq_zero_of_no_sems (by decide) r.2⟩) (run_stages m g)

theorem algebraic : Cert.algebraic_KernelProjDxIdeal_ReferenceProjDxIdeal := by
  intro m g m' g' hpre hagree
  refine ⟨_, Cert.KernelProjDxIdeal.Value.run_blocks m g,
    (θ_run Cert.ReferenceProjDxIdeal.defs _ _).mono (fun r h c => ?_) (run_stages m' g')⟩
  obtain ⟨e0, e1⟩ := hagree c
  obtain ⟨h0, hargs⟩ := h c
  rw [e0, e1] at h0
  exact ⟨h0.trans (KernelProjDxIdeal.Pieces.final_12 m c).symm, hargs⟩

end Cert.Proof.ProjDx
-- ==== Proof.ProjDw.lean ====
module

public import proofs.«01_k».proof.Proof.Gen.KernelProjDwIdeal.Value
public import Idealize.ShloMosaic.Lib.Pipeline.ValueKit
public import Idealize.ShloMosaic.Lib.Claim
public import proofs.«01_k».proof.Proof.Columns
public import proofs.«01_k».proof.Proof.Gen.ReferenceProjDwIdeal.Read

@[expose] public section

set_option maxRecDepth 16384

/-! The projection's gradient in the weights of queries, keys, values and gates: four tiles of rows, each adding its
products to the four groups of columns. -/

noncomputable section

open Idealize.ShloMosaic Idealize.ShloMosaic.TcCoe Idealize.SL.Sem
open Idealize.ShloMosaic.Pipeline (Dat)

namespace Cert.KernelProjDwIdeal.Pieces

open Cert.KernelProjDwIdeal Cert.KernelProjDwIdeal.Gen Cert.Columns

/-! ## The stores of the four groups of columns -/

abbrev Stores := List (View.Piece (Elt Ideal) S1024x3072 .f32)
abbrev Group (n : ℕ) := (⟨2, ![1024, n]⟩ : Shape).Idx → Elt Ideal .f32

theorem inb {lo n : ℕ} (h : lo + n ≤ 3072) :
    ∀ a, (![0, lo] : Fin 2 → Nat) a + (⟨2, ![1024, n]⟩ : Shape).size a ≤ S1024x3072.size a
  | ⟨0, _⟩ => by simp
  | ⟨1, _⟩ => h

/-- The columns `lo … lo + n` of the result. -/
abbrev cols (lo n : ℕ) (h : lo + n ≤ 3072) : Rect S1024x3072 :=
  Rect.unit (s := S1024x3072) ![0, lo] (⟨2, ![1024, n]⟩ : Shape).size (inb h)

theorem cols_idx {lo n : ℕ} (h : lo + n ≤ 3072) (a : Fin 1024) (l : Fin n) :
    (cols lo n h).idx (ix2 a l) = ix2 a ⟨lo + l.val, by omega⟩ := by
  funext b; apply Fin.ext
  rw [Rect.idx_unit_val]
  match b with
  | ⟨0, _⟩ => exact Nat.zero_add _
  | ⟨1, _⟩ => rfl

theorem ld_cols (x : S1024x3072.Idx → Elt Ideal .f32) {lo n : ℕ} (h : lo + n ≤ 3072) (a : Fin 1024) (l : Fin n) :
    View.ld x (cols lo n h) (ix2 a l) = x (ix2 a ⟨lo + l.val, by omega⟩) :=
  congrArg x (cols_idx h a l)

/-- The stores so far have left `g` in the columns below `hi`. -/
def Upto (L : Stores) (hi : ℕ) (g : Fin 1024 → Fin 3072 → EReal) : Prop :=
  ∀ a (j : Fin 3072), j.val < hi → View.canon L (ix2 a j) = g a j

theorem column_of {lo n : ℕ} (h : lo + n ≤ 3072) (j : Fin 3072) (hj : lo ≤ j.val ∧ j.val < lo + n) :
    ∃ l : Fin n, j = ⟨lo + l.val, lt_of_lt_of_le (Nat.add_lt_add_left l.isLt lo) h⟩ :=
  ⟨⟨j.val - lo, by omega⟩, Fin.ext (by simp only; omega)⟩

theorem canon_hit (L : Stores) {lo n : ℕ} (h : lo + n ≤ 3072) (w : Group n) (a : Fin 1024) (l : Fin n) :
    View.canon (⟨cols lo n h, w⟩ :: L) (ix2 a ⟨lo + l.val, by omega⟩) = w (ix2 a l) :=
  (congrArg _ (cols_idx h a l).symm).trans (View.canon_cons_emb (cols lo n h) w L (ix2 a l))

theorem canon_miss (L : Stores) {lo n : ℕ} (h : lo + n ≤ 3072) (w : Group n) (a : Fin 1024) (j : Fin 3072)
    (hj : ¬(lo ≤ j.val ∧ j.val < lo + n)) : View.canon (⟨cols lo n h, w⟩ :: L) (ix2 a j) = View.canon L (ix2 a j) :=
  View.canon_cons_of_not_mem _ _ fun hm => hj (Rect.mem_set_unit (inb := inb h).1 hm 1)

theorem Upto.store {L : Stores} {g : Fin 1024 → Fin 3072 → EReal} (lo n : ℕ) (h : lo + n ≤ 3072) {w : Group n}
    (hw : ∀ a l, w (ix2 a l) = g a ⟨lo + l.val, by omega⟩) (hL : Upto L lo g) : Upto (⟨cols lo n h, w⟩ :: L) (lo + n) g := by
  intro a j hj
  by_cases hlo : lo ≤ j.val
  · obtain ⟨l, rfl⟩ := column_of h j ⟨hlo, hj⟩
    rw [canon_hit, hw]
  · rw [canon_miss _ _ _ _ _ (by omega)]
    exact hL a j (by omega)

/-! ## The reference -/

section Reference
open Cert.ReferenceProjDwIdeal.Read
variable (x : FVec Ideal S2x2048x1024 .f32) (d : FVec Ideal S2x2048x5552 .f32)

theorem reference_apply (a : Fin 1024) (j : Fin 3072) : (val_main_v6 (F := Ideal) x d (ix2 a j) : EReal)
    = ∑ q : Fin 4096, x (ix3 (bat q) (pos q) a) * d (ix3 (bat q) (pos q) ⟨j.val, by omega⟩) := by
  have ex : ∀ q : Fin 4096, (val_main_v1 (F := Ideal) x (ix2 q a) : EReal) = x (ix3 (bat q) (pos q) a) := fun q =>
    flat_apply x Cert.ReferenceProjDwIdeal.Facts₀.shapeCasts_S2x2048x1024_S4096x1024 _ _ q (row_eq q) a
  have ed : ∀ q : Fin 4096, (val_main_v3 (F := Ideal) d (ix2 q ⟨j.val, by omega⟩) : EReal)
      = d (ix3 (bat q) (pos q) ⟨j.val, by omega⟩) := fun q =>
    flat_apply d Cert.ReferenceProjDwIdeal.Facts₀.shapeCasts_S2x2048x5552_S4096x5552 _ _ q (row_eq q) _
  simp only [← ex, ← ed]
  generalize hx : val_main_v1 (F := Ideal) x = X
  generalize hd : val_main_v3 (F := Ideal) d = D
  pointwise [val_main_v6, val_main_v5, val_main_v4]
  simp only [hx, hd]
  exact Finset.sum_congr rfl fun q _ => mul_comm _ _

end Reference

/-! ## What the host lays out -/

variable (m : (ℓ : Loc nD τ sig) → Buf (Elt Ideal) ℓ)

/-- The normed rows. -/
abbrev hArg (c : Dev nD) : FVec Ideal S2x2048x1024 .f32 := m ((c : Thread nD τ).loc main_arg0)
/-- The gradient in the projected columns. -/
abbrev dArg (c : Dev nD) : FVec Ideal S2x2048x5552 .f32 := m ((c : Thread nD τ).loc main_arg1)

theorem slice_apply {n : ℕ} (f : S4096x5552.Idx → EReal) (o : ℕ)
    (h : Shape.Slices S4096x5552 ![0, o] (⟨2, ![4096, n]⟩ : Shape)) (q : Fin 4096) (l : Fin n) (j : Fin 5552) (e : o + l.val = j.val) :
    extractStridedSlice (⟨2, ![4096, n]⟩ : Shape) ![0, o] f h (ix2 q l) = f (ix2 q j) :=
  congrArg f (funext fun a => by
    fin_cases a
    · exact Fin.ext (Nat.zero_add _)
    · exact Fin.ext e)

theorem read_h (c : Dev nD) (q : Fin 4096) (l : Fin 1024) :
    (V m c main_v12 : FVec Ideal S4096x1024 .bf16) (ix2 q l) = (hArg m c (ix3 (bat q) (pos q) l) : EReal) := by
  show StableHlo.after hostOps0 _ _ _ = _
  unfold hostOps0
  after_results_simp
  exact flat_apply _ shapeCasts_S2x2048x1024_S4096x1024 _ _ q (row_eq q) _

theorem read_q (c : Dev nD) (q : Fin 4096) (l : Fin 512) :
    (V m c main_v2 : FVec Ideal S4096x512 .bf16) (ix2 q l) = (dArg m c (ix3 (bat q) (pos q) ⟨0 + l.val, by omega⟩) : EReal) := by
  show StableHlo.after hostOps0 _ _ _ = _
  unfold hostOps0
  after_results_simp
  exact (slice_apply _ 0 slices_S4096x5552_S4096x512_0_0 q l ⟨0 + l.val, by omega⟩ rfl).trans
    (flat_apply _ shapeCasts_S2x2048x5552_S4096x5552 _ _ q (row_eq q) _)

theorem read_k (c : Dev nD) (q : Fin 4096) (l : Fin 512) :
    (V m c main_v3 : FVec Ideal S4096x512 .bf16) (ix2 q l) = (dArg m c (ix3 (bat q) (pos q) ⟨512 + l.val, by omega⟩) : EReal) := by
  show StableHlo.after hostOps0 _ _ _ = _
  unfold hostOps0
  after_results_simp
  exact (slice_apply _ 512 slices_S4096x5552_S4096x512_0_512 q l ⟨512 + l.val, by omega⟩ rfl).trans
    (flat_apply _ shapeCasts_S2x2048x5552_S4096x5552 _ _ q (row_eq q) _)

theorem read_v (c : Dev nD) (q : Fin 4096) (l : Fin 1024) :
    (V m c main_v4 : FVec Ideal S4096x1024 .bf16) (ix2 q l) = (dArg m c (ix3 (bat q) (pos q) ⟨1024 + l.val, by omega⟩) : EReal) := by
  show StableHlo.after hostOps0 _ _ _ = _
  unfold hostOps0
  after_results_simp
  exact (slice_apply _ 1024 slices_S4096x5552_S4096x1024_0_1024 q l ⟨1024 + l.val, by omega⟩ rfl).trans
    (flat_apply _ shapeCasts_S2x2048x5552_S4096x5552 _ _ q (row_eq q) _)

theorem read_g (c : Dev nD) (q : Fin 4096) (l : Fin 1024) :
    (V m c main_v5 : FVec Ideal S4096x1024 .bf16) (ix2 q l) = (dArg m c (ix3 (bat q) (pos q) ⟨2048 + l.val, by omega⟩) : EReal) := by
  show StableHlo.after hostOps0 _ _ _ = _
  unfold hostOps0
  after_results_simp
  exact (slice_apply _ 2048 slices_S4096x5552_S4096x1024_0_2048 q l ⟨2048 + l.val, by omega⟩ rfl).trans
    (flat_apply _ shapeCasts_S2x2048x5552_S4096x5552 _ _ q (row_eq q) _)

/-! ## The tiles -/

/-- A tile's row in the whole array. -/
def row (t : Fin cfg0.N) (r : Fin 1024) : Fin 4096 := ⟨t.val * 1024 + r.val, by have := t.isLt; have : cfg0.N = 4 := N_0; omega⟩

theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

theorem block0 (c : Dev nD) (t : Fin cfg0.N) (r : Fin 1024) (l : Fin 1024) :
    (iblk m c 0 t : FVec Ideal S1024x1024 .bf16) (ix2 r l) = (hArg m c (ix3 (bat (row t r)) (pos (row t r)) l) : EReal) := by
  refine Eq.trans ?_ (read_h m c (row t r) l)
  have e := idx t
  blk_point [iblk, idx t, row]

theorem block1 (c : Dev nD) (t : Fin cfg0.N) (r : Fin 1024) (l : Fin 512) :
    (iblk m c 1 t : FVec Ideal S1024x512 .bf16) (ix2 r l) = (dArg m c (ix3 (bat (row t r)) (pos (row t r)) ⟨0 + l.val, by omega⟩) : EReal) := by
  refine Eq.trans ?_ (read_q m c (row t r) l)
  have e := idx t
  blk_point [iblk, idx t, row]

theorem block2 (c : Dev nD) (t : Fin cfg0.N) (r : Fin 1024) (l : Fin 512) :
    (iblk m c 2 t : FVec Ideal S1024x512 .bf16) (ix2 r l) = (dArg m c (ix3 (bat (row t r)) (pos (row t r)) ⟨512 + l.val, by omega⟩) : EReal) := by
  refine Eq.trans ?_ (read_k m c (row t r) l)
  have e := idx t
  blk_point [iblk, idx t, row]

theorem block3 (c : Dev nD) (t : Fin cfg0.N) (r : Fin 1024) (l : Fin 1024) :
    (iblk m c 3 t : FVec Ideal S1024x1024 .bf16) (ix2 r l) = (dArg m c (ix3 (bat (row t r)) (pos (row t r)) ⟨1024 + l.val, by omega⟩) : EReal) := by
  refine Eq.trans ?_ (read_v m c (row t r) l)
  have e := idx t
  blk_point [iblk, idx t, row]

theorem block4 (c : Dev nD) (t : Fin cfg0.N) (r : Fin 1024) (l : Fin 1024) :
    (iblk m c 4 t : FVec Ideal S1024x1024 .bf16) (ix2 r l) = (dArg m c (ix3 (bat (row t r)) (pos (row t r)) ⟨2048 + l.val, by omega⟩) : EReal) := by
  refine Eq.trans ?_ (read_g m c (row t r) l)
  have e := idx t
  blk_point [iblk, idx t, row]

/-- What a tile of rows adds to an entry of the gradient. -/
def part (c : Dev nD) (t : Fin cfg0.N) (a : Fin 1024) (j : Fin 3072) : EReal :=
  ∑ r : Fin 1024, hArg m c (ix3 (bat (row t r)) (pos (row t r)) a) * dArg m c (ix3 (bat (row t r)) (pos (row t r)) ⟨j.val, by omega⟩)

theorem part_1 (c : Dev nD) (t : Fin cfg0.N) (a : Fin 1024) (l : Fin 512) :
    (k0_pay4 (F := Ideal) (iblk m c 0 t) (iblk m c 1 t) (ix2 a l) : EReal) = part m c t a ⟨0 + l.val, by omega⟩ := by
  pointwise [k0_pay4, k0_pay3, part]
  simp only [block0, block1, zero_add]

theorem part_2 (c : Dev nD) (t : Fin cfg0.N) (a : Fin 1024) (l : Fin 512) :
    (k0_pay6 (F := Ideal) (iblk m c 0 t) (iblk m c 2 t) (ix2 a l) : EReal) = part m c t a ⟨512 + l.val, by omega⟩ := by
  pointwise [k0_pay6, k0_pay3, part]
  simp only [block0, block2, zero_add]

theorem part_3 (c : Dev nD) (t : Fin cfg0.N) (a : Fin 1024) (l : Fin 1024) :
    (k0_pay8 (F := Ideal) (iblk m c 0 t) (iblk m c 3 t) (ix2 a l) : EReal) = part m c t a ⟨1024 + l.val, by omega⟩ := by
  pointwise [k0_pay8, k0_pay3, part]
  simp only [block0, block3, zero_add]

theorem part_4 (c : Dev nD) (t : Fin cfg0.N) (a : Fin 1024) (l : Fin 1024) :
    (k0_pay1 (F := Ideal) (k0_pay3 (iblk m c 0 t)) (k0_pay10 (iblk m c 4 t)) (constant S1024x1024 .f32 0x00000000#32) (ix2 a l) : EReal)
      = part m c t a ⟨2048 + l.val, by omega⟩ := by
  pointwise [k0_pay1, k0_pay3, k0_pay10, part]
  simp only [block0, block4]

theorem step_1 (c : Dev nD) (t : Fin cfg0.N) (x : S1024x3072.Idx → Elt Ideal .f32) (a : Fin 1024) (l : Fin 512) :
    (k0_pay5 (F := Ideal) (iblk m c 0 t) (iblk m c 1 t) (View.ld x (cols 0 512 (by omega))) (ix2 a l) : EReal)
      = x (ix2 a ⟨0 + l.val, by omega⟩) + part m c t a ⟨0 + l.val, by omega⟩ := by
  rw [← part_1, ← ld_cols x (by omega : 0 + 512 ≤ 3072) a l]
  pointwise [k0_pay5]

theorem step_2 (c : Dev nD) (t : Fin cfg0.N) (x : S1024x3072.Idx → Elt Ideal .f32) (a : Fin 1024) (l : Fin 512) :
    (k0_pay7 (F := Ideal) (iblk m c 0 t) (iblk m c 2 t) (View.ld x (cols 512 512 (by omega))) (ix2 a l) : EReal)
      = x (ix2 a ⟨512 + l.val, by omega⟩) + part m c t a ⟨512 + l.val, by omega⟩ := by
  rw [← part_2, ← ld_cols x (by omega : 512 + 512 ≤ 3072) a l]
  pointwise [k0_pay7]

theorem step_3 (c : Dev nD) (t : Fin cfg0.N) (x : S1024x3072.Idx → Elt Ideal .f32) (a : Fin 1024) (l : Fin 1024) :
    (k0_pay9 (F := Ideal) (iblk m c 0 t) (iblk m c 3 t) (View.ld x (cols 1024 1024 (by omega))) (ix2 a l) : EReal)
      = x (ix2 a ⟨1024 + l.val, by omega⟩) + part m c t a ⟨1024 + l.val, by omega⟩ := by
  rw [← part_3, ← ld_cols x (by omega : 1024 + 1024 ≤ 3072) a l]
  pointwise [k0_pay9]

theorem step_4 (c : Dev nD) (t : Fin cfg0.N) (x : S1024x3072.Idx → Elt Ideal .f32) (a : Fin 1024) (l : Fin 1024) :
    (k0_pay2 (F := Ideal) (k0_pay3 (iblk m c 0 t)) (k0_pay10 (iblk m c 4 t)) (constant S1024x1024 .f32 0x00000000#32)
        (View.ld x (cols 2048 1024 (by omega))) (ix2 a l) : EReal)
      = x (ix2 a ⟨2048 + l.val, by omega⟩) + part m c t a ⟨2048 + l.val, by omega⟩ := by
  rw [← part_4, ← ld_cols x (by omega : 2048 + 1024 ≤ 3072) a l]
  pointwise [k0_pay2]

theorem index2 {n0 n1 : Nat} (y : (⟨2, ![n0, n1]⟩ : Shape).Idx) : y = ix2 (y 0) (y 1) := by
  funext a
  fin_cases a <;> rfl

theorem first (c : Dev nD) (t : Fin cfg0.N) (h : t.val % 4 = 0) (a : Fin 1024) (j : Fin 3072) :
    outsAt0 m c t.val t.isLt (ix2 a j) = part m c t a j := by
  have hN : t.val < 4 := lt_of_lt_of_eq t.isLt N_0
  rw [outsAt0_A m c t h (by omega) h (by omega) h (by omega) h (by omega)]
  frame_out
  exact (((Upto.store 0 512 (by omega) (part_1 m c t) (fun a j h => absurd h (Nat.not_lt_zero _))).store 512 512 (by omega)
    (part_2 m c t)).store 1024 1024 (by omega) (part_3 m c t)).store 2048 1024 (by omega) (part_4 m c t) a j j.isLt

theorem next (c : Dev nD) (t : Fin cfg0.N) (h : ¬t.val % 4 = 0) (a : Fin 1024) (j : Fin 3072) :
    outsAt0 m c t.val t.isLt (ix2 a j)
      = outsAt0 m c (t.val - 1) (Nat.lt_of_le_of_lt (Nat.sub_le _ _) t.isLt) (ix2 a j) + part m c t a j := by
  rw [outsAt0_B m c t h (by omega) h (by omega) h (by omega) h (by omega)]
  frame_out
  generalize outsAt0 m c (t.val - 1) _ = x
  exact (((Upto.store (g := fun a j => x (ix2 a j) + part m c t a j) 0 512 (by omega) (step_1 m c t x) (fun a j h => absurd h (Nat.not_lt_zero _))).store 512 512 (by omega)
    (step_2 m c t x)).store 1024 1024 (by omega) (step_3 m c t x)).store 2048 1024 (by omega) (step_4 m c t x) a j j.isLt

theorem final_5 (c : Dev nD) : (dats m 0 c).arrAt 5 (cfgs 0).N =
    Cert.ReferenceProjDwIdeal.Read.val_main_v6 (F := Ideal) (hArg m c) (dArg m c) := by
  refine (dats m 0 c).arrAt_eq_of_after_last 5 t0_3 (by decide +kernel) _ fun y => ?_
  blk_simp
  rw [after0_5]
  obtain ⟨a, j, rfl⟩ : ∃ (a : Fin 1024) (j : Fin 3072), y = ix2 a j := ⟨_, _, index2 y⟩
  rw [reference_apply, Pipeline.eq_sum_fin_of_reset_step_apply_last (fun n h (y : Fin 1024 × Fin 3072) => outsAt0 m c n h (ix2 y.1 y.2)) 4
    (fun _ => 0) (fun t y => part m c t y.1 y.2)
    (fun t h y => by rw [zero_add]; exact first m c t h y.1 y.2)
    (fun t h y => next m c t h y.1 y.2) (le_of_eq N_0) t0_3 rfl (a, j), zero_add]
  unfold part
  refine (Fin.sum_points_lanes_congr (A := 1) (L := 4096) (g := fun _ q => hArg m c (ix3 (bat q) (pos q) a) *
    dArg m c (ix3 (bat q) (pos q) ⟨j.val, by omega⟩)) 4 fun t r ha hl => ?_).trans (Fin.sum_univ_one _)
  have e : row t r = ⟨t.val % 4 * 1024 + r.val, hl⟩ := Fin.ext (by
    have : t.val < 4 := lt_of_lt_of_eq t.isLt N_0
    simp only [row, Nat.mod_eq_of_lt this])
  rw [← e]

end Cert.KernelProjDwIdeal.Pieces
-- ==== Proof.ProjDwClaim.lean ====
module

public import proofs.«01_k».proof.Defs
public import proofs.«01_k».proof.Proof.ProjDw
public import proofs.«01_k».proof.Proof.Gen.ReferenceProjDwIdeal.Run
public import Idealize.ShloMosaic.Init
public import Idealize.ShloMosaic.Adequacy

@[expose] public section

set_option maxRecDepth 16384

/-! The claims about the projection's gradient in the weights, from the two programs' runs. -/

namespace Cert.Proof.ProjDw

open Idealize.ShloMosaic Idealize.ShloMosaic.TcCoe Idealize.SL.Sem

section
open Cert.ReferenceProjDwIdeal Cert.ReferenceProjDwIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => h c) (Cert.ReferenceProjDwIdeal.Value.run m g)

end

theorem frame_reference : Cert.quiescent_ReferenceProjDwIdeal := fun m g _ =>
  (θ_run Cert.ReferenceProjDwIdeal.defs _ _).mono
    (fun r h => ⟨fun c => (h c).2, sem_eq_zero_of_no_sems (by decide) r.2⟩) (run_stages m g)

theorem algebraic : Cert.algebraic_KernelProjDwIdeal_ReferenceProjDwIdeal := by
  intro m g m' g' hpre hagree
  refine ⟨_, Cert.KernelProjDwIdeal.Value.run_blocks m g,
    (θ_run Cert.ReferenceProjDwIdeal.defs _ _).mono (fun r h c => ?_) (run_stages m' g')⟩
  obtain ⟨e0, e1⟩ := hagree c
  obtain ⟨h0, hargs⟩ := h c
  rw [e0, e1] at h0
  exact ⟨h0.trans (KernelProjDwIdeal.Pieces.final_5 m c).symm, hargs⟩

end Cert.Proof.ProjDw
-- ==== Proof.GlaMath.lean ====
module

public import proofs.«01_k».proof.Proof.Columns

@[expose] public section

set_option maxRecDepth 16384

noncomputable section

open Idealize.ShloMosaic

namespace Cert.GlaMath

/-! ### The recurrence over chunks of 64 rows, for one row of the batch and one head -/

/-- Row `c` of chunk `n`. -/
def row (n : ℕ) (c : Fin 64) : Fin 2048 := ⟨(64 * n + c.val) % 2048, Nat.mod_lt _ (by omega)⟩

theorem row_eq {n : ℕ} {c : Fin 64} (h : 64 * n + c.val < 2048) : (⟨64 * n + c.val, h⟩ : Fin 2048) = row n c :=
  Fin.ext (Nat.mod_eq_of_lt h).symm

section
variable (A K : Fin 2048 → Fin 128 → EReal) (V : Fin 2048 → Fin 256 → EReal)

/-- The logarithm of the decay over chunk `n`. -/
def total (n : ℕ) (d : Fin 128) : EReal := ∑ c : Fin 64, A (row n c) d

/-- The logarithm of the decay from the start of chunk `n` to its row `c`. -/
def upto (n : ℕ) (c : Fin 64) (d : Fin 128) : EReal := ∑ r : Fin 64, if r.val ≤ c.val then A (row n r) d else 0

/-- The keys of chunk `n`, decayed to its end. -/
def key (n : ℕ) (c : Fin 64) (d : Fin 128) : EReal := K (row n c) d * Ideal.exp (total A n d - upto A n c d)

/-- The state after `n` chunks. -/
def state : ℕ → Fin 256 → Fin 128 → EReal
  | 0, _, _ => 0
  | n + 1, e, d => state n e d * Ideal.exp (total A n d) + ∑ c : Fin 64, V (row n c) e * key A K n c d

/-- The result at row `j`. -/
def out (Q : Fin 2048 → Fin 128 → EReal) (j : Fin 2048) (e : Fin 256) : EReal :=
  ∑ d : Fin 128, Q j d * Ideal.ofBits .f32 0x3DB504F3#32 * state A K V (j.val / 64 + 1) e d

end

/-- The normed and gated result. -/
def gated (o g : Fin 2048 → Fin 256 → EReal) (w : Fin 256 → EReal) (j : Fin 2048) (e : Fin 256) : EReal :=
  o j e * Ideal.rsqrt (Ideal.div (∑ x, o j x * o j x) (Ideal.ofBits .f32 0x43800000#32) + Ideal.ofBits .f32 0x358637BD#32) * w e *
    (g j e * Ideal.div 1 (1 + Ideal.exp (0 - g j e)))

/-- The logarithm of the decay at one entry, from its logit. -/
def logDecay (z : EReal) : EReal :=
  (min z 0 - Ideal.log (1 + Ideal.exp (0 - max z (-z)))) * Ideal.ofBits .f32 0x3D800000#32

end Cert.GlaMath
-- ==== Proof.GlaBlock.lean ====
module

public import proofs.«01_k».proof.Proof.Gen.KernelGlaFwdIdeal.Value
public import Idealize.ShloMosaic.Lib.Pipeline.ValueKit
public import Idealize.ShloMosaic.Lib.Claim
public import proofs.«01_k».proof.Proof.GlaMath

@[expose] public section

set_option maxRecDepth 16384

noncomputable section

open Idealize.ShloMosaic Idealize.ShloMosaic.TcCoe Idealize.SL.Sem
open Idealize.ShloMosaic.Pipeline (Dat)

namespace Cert.KernelGlaFwdIdeal.Chunks
open Cert.KernelGlaFwdIdeal Cert.KernelGlaFwdIdeal.Gen

/-! ### One chunk, as the body writes it -/

theorem inb {w lo n : ℕ} (h : lo + n ≤ 2048) :
    ∀ a, (![0, lo, 0] : Fin 3 → Nat) a + (⟨3, ![1, n, w]⟩ : Shape).size a ≤ (⟨3, ![1, 2048, w]⟩ : Shape).size a
  | ⟨0, _⟩ => by simp
  | ⟨1, _⟩ => h
  | ⟨2, _⟩ => by simp

/-- The rows `lo … lo + n` of a block of width `w`. -/
abbrev rows (w lo n : ℕ) (h : lo + n ≤ 2048) : Rect (⟨3, ![1, 2048, w]⟩ : Shape) :=
  Rect.unit (s := ⟨3, ![1, 2048, w]⟩) ![0, lo, 0] (⟨3, ![1, n, w]⟩ : Shape).size (inb h)

theorem slices_chunk {lo : ℕ} (h : lo + 64 ≤ 2048) : S2048x128.Slices ![lo, 0] S64x128 :=
  ⟨rfl, fun | ⟨0, _⟩ => h | ⟨1, _⟩ => by simp⟩

abbrev St := FVec Ideal S256x128 .f32

/-- The logarithms of the decays of the chunk that begins at row `lo`. -/
def part (la : FVec Ideal S2048x128 .f32) (lo : ℕ) (h : lo + 64 ≤ 2048) : FVec Ideal S64x128 .f32 :=
  extractStridedSlice S64x128 ![lo, 0] la (slices_chunk h)

/-- Their sum over the chunk. -/
def total (d : FVec Ideal S64x128 .f32) : FVec Ideal S1x128 .f32 :=
  shapeCast S1x128 (multiReduction .add [0] S128 d 0x00000000#32 reduces_S64x128_S128 (.inl rfl) rfl) shapeCasts_S128_S1x128

/-- The decayed keys of the chunk. -/
def keys (d : FVec Ideal S64x128 .f32) (k : FVec Ideal S1x64x128 .bf16) : FVec Ideal S64x128 .f32 :=
  mulf (extf .f32 (shapeCast S64x128 k shapeCasts_S1x64x128_S64x128 : FVec Ideal S64x128 .bf16) bitsLt_bf16_f32)
    (exp (subf (broadcastTo S64x128 (total d) broadcasts_S1x128_S64x128)
      (matmul dot_S64x64_S64x128_S64x128_1_0_0_1_n_n (some .bf16x3) (k0_pay3 (F := Ideal)) d (constant S64x128 .f32 0x00000000#32))))

/-- The state after the chunk. -/
def step (d : FVec Ideal S64x128 .f32) (k : FVec Ideal S1x64x128 .bf16) (v : FVec Ideal S1x64x256 .bf16) (s : St) : St :=
  addf (mulf s (broadcastTo S256x128 (exp (total d)) broadcasts_S1x128_S256x128))
    (matmul dot_S64x256_S64x128_S256x128_0_0_1_1_n_n none (shapeCast S64x256 v shapeCasts_S1x64x256_S64x256)
      (truncf .bf16 (keys d k) bitsLt_bf16_f32) (constant S256x128 .f32 0x00000000#32))

/-- The rows of the result the chunk gives. -/
def outs (q : FVec Ideal S1x64x128 .bf16) (s : St) : FVec Ideal S1x64x256 .f32 :=
  shapeCast S1x64x256 (matmul dot_S64x128_S256x128_S64x256_1_1_0_0_n_n none
    (truncf .bf16 (mulf (extf .f32 (shapeCast S64x128 q shapeCasts_S1x64x128_S64x128 : FVec Ideal S64x128 .bf16) bitsLt_bf16_f32)
      (broadcast S64x128 (Scalar.ofBits .f32 0x3DB504F3#32))) bitsLt_bf16_f32)
    (truncf .bf16 s bitsLt_bf16_f32) (constant S64x256 .f32 0x00000000#32)) shapeCasts_S64x256_S1x64x256

section
variable (x0 x1 : Vec Ideal S1x2048x128 .bf16) (x2 : Vec Ideal S1x2048x256 .bf16) (la : FVec Ideal S2048x128 .f32)

/-- The state after `n` chunks. -/
def after : (n : ℕ) → n ≤ 32 → St
  | 0, _ => k0_pay4 (F := Ideal)
  | n + 1, h => step (part la (64 * n) (by omega)) (View.ld x1 (rows 128 (64 * n) 64 (by omega)))
      (View.ld x2 (rows 256 (64 * n) 64 (by omega))) (after n (by omega))

/-- What chunk `n` stores into the result. -/
def rowsOf (n : ℕ) (h : n + 1 ≤ 32) : FVec Ideal S1x64x256 .f32 :=
  outs (View.ld x0 (rows 128 (64 * n) 64 (by omega))) (after x1 x2 la (n + 1) h)

/-- What chunk `n` stores into the states. -/
def stateOf (n : ℕ) (h : n + 1 ≤ 32) : FVec Ideal S1x1x1x256x128 .f32 :=
  shapeCast S1x1x1x256x128 (after x1 x2 la (n + 1) h) shapeCasts_S256x128_S1x1x1x256x128

/-- The stores of the first `n` chunks into the result. -/
def rowStores : (n : ℕ) → n ≤ 32 → List (View.Piece (Elt Ideal) S1x2048x256 .f32)
  | 0, _ => []
  | n + 1, h => ⟨rows 256 (64 * n) 64 (by omega), rowsOf x0 x1 x2 la n h⟩ :: rowStores n (by omega)

theorem inb_state {n : ℕ} (h : n + 1 ≤ 32) :
    ∀ a, (![0, 0, n, 0, 0] : Fin 5 → Nat) a + S1x1x1x256x128.size a ≤ S1x1x32x256x128.size a
  | ⟨0, _⟩ => by simp
  | ⟨1, _⟩ => by simp
  | ⟨2, _⟩ => h
  | ⟨3, _⟩ => by simp
  | ⟨4, _⟩ => by simp

/-- The stores of the first `n` chunks into the states. -/
def stateStores : (n : ℕ) → n ≤ 32 → List (View.Piece (Elt Ideal) S1x1x32x256x128 .f32)
  | 0, _ => []
  | n + 1, h => ⟨Rect.unit (s := S1x1x32x256x128) ![0, 0, n, 0, 0] S1x1x1x256x128.size (inb_state h), stateOf x1 x2 la n h⟩ ::
      stateStores n (by omega)

/-- The gated rows stored by the last four steps. -/
def gateStores (x3 : Vec Ideal S1x2048x256 .bf16) (x7 : Vec Ideal S1x256 .f32) (o : (n : ℕ) → n + 1 ≤ 4 → Vec Ideal S1x512x256 .f32) :
    (n : ℕ) → n ≤ 4 → List (View.Piece (Elt Ideal) S1x2048x256 .bf16)
  | 0, _ => []
  | n + 1, h => ⟨rows 256 (512 * n) 512 (by omega), k0_pay163 (o n h)
      (View.ld x3 (rows 256 (512 * n) 512 (by omega))) x7⟩ :: gateStores x3 x7 o n (by omega)

end

section
variable (m : (ℓ : Loc nD τ sig) → Buf (Elt Ideal) ℓ) (c : Dev nD) (t : Fin cfg0.N)

theorem block_out : (outsAt0 m c t).1 = View.canon (rowStores (iblk m c 0 t) (iblk m c 1 t) (X0_2 m c t)
    (k0_pay2 (iblk m c 4 t) (iblk m c 5 t) (iblk m c 6 t)) 32 le_rfl) := by
  unfold outsAt0
  frame_out
  rfl

theorem block_state : (outsAt0 m c t).2.2 = View.canon (stateStores (iblk m c 1 t) (X0_2 m c t)
    (k0_pay2 (iblk m c 4 t) (iblk m c 5 t) (iblk m c 6 t)) 32 le_rfl) := by
  unfold outsAt0
  frame_out
  rfl

/-- The rows read back by the last four steps. -/
def readBack (n : ℕ) (h : n + 1 ≤ 4) : Vec Ideal S1x512x256 .f32 :=
  (ms0_8 t).view.readCov (rowStores (iblk m c 0 t) (iblk m c 1 t) (X0_2 m c t)
    (k0_pay2 (iblk m c 4 t) (iblk m c 5 t) (iblk m c 6 t)) 32 le_rfl) (rows 256 (512 * n) 512 (by omega)).toLoadRect

theorem block_gate : (outsAt0 m c t).2.1 = View.canon (gateStores (X0_3 m c t) (iblk m c 7 t) (readBack m c t) 4 le_rfl) := by
  unfold outsAt0
  frame_out
  generalize hR : View.readCov (Val := Elt Ideal) (ms0_8 t).view _ = R
  have e : readBack m c t = fun n h => R (rows 256 (512 * n) 512 (by omega)).toLoadRect := by
    rw [← hR]
    rfl
  rw [e]
  clear hR e
  rfl

end
end Cert.KernelGlaFwdIdeal.Chunks
-- ==== Proof.GlaChunk.lean ====
module

public import proofs.«01_k».proof.Proof.GlaBlock

@[expose] public section

set_option maxRecDepth 16384

noncomputable section

open Idealize.ShloMosaic Idealize.ShloMosaic.TcCoe Idealize.SL.Sem
open Idealize.ShloMosaic.Pipeline (Dat)

namespace Cert.KernelGlaFwdIdeal.Chunks
open Cert.KernelGlaFwdIdeal Cert.KernelGlaFwdIdeal.Gen Cert.GlaMath

/-! ### One chunk, entry by entry -/

theorem part_apply (la : FVec Ideal S2048x128 .f32) (lo : ℕ) (h : lo + 64 ≤ 2048) (c : Fin 64) (d : Fin 128) :
    part la lo h (ix2 c d) = la (ix2 ⟨lo + c.val, by omega⟩ d) := by
  unfold part
  pointwise

theorem total_apply (x : FVec Ideal S64x128 .f32) (d : Fin 128) : total x (ix2 0 d) = ∑ c : Fin 64, x (ix2 c d) := by
  unfold total
  pointwise

theorem tri_apply (r c : Fin 64) : k0_pay3 (F := Ideal) (ix2 c r) = if r.val ≤ c.val then (1 : EReal) else 0 := by
  have key : ∀ r c : Fin 64, IntOp.cmpi CmpIPredicate.sle (BitVec.ofNat 32 r.val) (BitVec.ofNat 32 c.val) = if r.val ≤ c.val then 1#1 else 0#1 := by
    decide +kernel
  unfold k0_pay3
  pointwise
  rw [key]
  by_cases h : r.val ≤ c.val
  · rw [if_pos h, if_pos h]; rfl
  · rw [if_neg h, if_neg h]; rfl

theorem keys_apply (x : FVec Ideal S64x128 .f32) (k : FVec Ideal S1x64x128 .bf16) (c : Fin 64) (d : Fin 128) :
    keys x k (ix2 c d) = k (ix3 0 c d) * Ideal.exp (∑ r : Fin 64, x (ix2 r d) - ∑ r : Fin 64, if r.val ≤ c.val then x (ix2 r d) else 0) := by
  unfold keys
  pointwise
  simp only [total_apply, tri_apply, ite_mul, one_mul, zero_mul]

theorem step_apply (x : FVec Ideal S64x128 .f32) (k : FVec Ideal S1x64x128 .bf16) (v : FVec Ideal S1x64x256 .bf16) (s : St) (e : Fin 256) (d : Fin 128) :
    step x k v s (ix2 e d) = s (ix2 e d) * Ideal.exp (∑ r : Fin 64, x (ix2 r d)) + ∑ c : Fin 64, v (ix3 0 c e) * keys x k (ix2 c d) := by
  unfold step
  pointwise
  rw [total_apply]

theorem outs_apply (q : FVec Ideal S1x64x128 .bf16) (s : St) (c : Fin 64) (e : Fin 256) :
    outs q s (ix3 0 c e) = ∑ d : Fin 128, q (ix3 0 c d) * Ideal.ofBits .f32 0x3DB504F3#32 * s (ix2 e d) := by
  unfold outs
  pointwise

theorem gate_apply (o : FVec Ideal S1x512x256 .f32) (g : Vec Ideal S1x512x256 .bf16) (w : Vec Ideal S1x256 .f32) (c : Fin 512) (e : Fin 256) :
    k0_pay163 (F := Ideal) o g w (ix3 0 c e) = o (ix3 0 c e) * Ideal.rsqrt (Ideal.div (∑ x : Fin 256, o (ix3 0 c x) * o (ix3 0 c x))
      (Ideal.ofBits .f32 0x43800000#32) + Ideal.ofBits .f32 0x358637BD#32) * w (ix2 0 e) *
      ((g (ix3 0 c e) : EReal) * Ideal.div 1 (1 + Ideal.exp (0 - g (ix3 0 c e)))) := by
  unfold k0_pay163
  pointwise

theorem decay_apply (a : Vec Ideal S1x2048x128 .bf16) (g : Vec Ideal S128x128 .f32) (w : Vec Ideal S1x128 .f32) (j : Fin 2048) (d : Fin 128) :
    k0_pay2 (F := Ideal) a g w (ix2 j d) = logDecay (∑ x : Fin 128, a (ix3 0 j x) * g (ix2 x d) + w (ix2 0 d)) := by
  unfold k0_pay2
  pointwise
  rfl

/-! ### The stores -/

theorem rows_idx {w lo n : ℕ} (h : lo + n ≤ 2048) (c : Fin n) (l : Fin w) :
    (rows w lo n h).idx (ix3 0 c l) = ix3 0 ⟨lo + c.val, by omega⟩ l := by
  funext a; apply Fin.ext
  rw [Rect.idx_unit_val]
  match a with
  | ⟨0, _⟩ => rfl
  | ⟨1, _⟩ => rfl
  | ⟨2, _⟩ => exact Nat.zero_add _

theorem ld_rows {φ : EltTy} {w : ℕ} (x : (⟨3, ![1, 2048, w]⟩ : Shape).Idx → Elt Ideal φ) {lo n : ℕ} (h : lo + n ≤ 2048) (c : Fin n) (l : Fin w) :
    View.ld x (rows w lo n h) (ix3 0 c l) = x (ix3 0 ⟨lo + c.val, by omega⟩ l) :=
  congrArg x (rows_idx h c l)

abbrev Stores (w : ℕ) (φ : EltTy) := List (View.Piece (Elt Ideal) (⟨3, ![1, 2048, w]⟩ : Shape) φ)

theorem canon_hit {φ : EltTy} {w : ℕ} (L : Stores w φ) {lo n : ℕ} (h : lo + n ≤ 2048) (x : (⟨3, ![1, n, w]⟩ : Shape).Idx → Elt Ideal φ) (c : Fin n) (l : Fin w) :
    View.canon (⟨rows w lo n h, x⟩ :: L) (ix3 0 ⟨lo + c.val, by omega⟩ l) = x (ix3 0 c l) :=
  (congrArg _ (rows_idx h c l).symm).trans (View.canon_cons_emb (rows w lo n h) x L (ix3 0 c l))

theorem canon_miss {φ : EltTy} {w : ℕ} (L : Stores w φ) {lo n : ℕ} (h : lo + n ≤ 2048) (x : (⟨3, ![1, n, w]⟩ : Shape).Idx → Elt Ideal φ) (j : Fin 2048) (l : Fin w)
    (hj : ¬(lo ≤ j.val ∧ j.val < lo + n)) : View.canon (⟨rows w lo n h, x⟩ :: L) (ix3 0 j l) = View.canon L (ix3 0 j l) :=
  View.canon_cons_of_not_mem _ _ fun hm => hj (Rect.mem_set_unit (inb := inb h).1 hm 1)

theorem canon_row {φ : EltTy} {w : ℕ} (L : Stores w φ) {lo n : ℕ} (h : lo + n ≤ 2048) (x : (⟨3, ![1, n, w]⟩ : Shape).Idx → Elt Ideal φ) (j : Fin 2048) (l : Fin w)
    (hj : lo ≤ j.val ∧ j.val < lo + n) : View.canon (⟨rows w lo n h, x⟩ :: L) (ix3 0 j l) = x (ix3 0 ⟨j.val - lo, by omega⟩ l) := by
  have e : j = ⟨lo + (⟨j.val - lo, by omega⟩ : Fin n).val, by simp only; omega⟩ := Fin.ext (by simp only; omega)
  exact (congrArg (fun j => View.canon (⟨rows w lo n h, x⟩ :: L) (ix3 0 j l)) e).trans (canon_hit L h x _ l)

theorem ld_row {φ : EltTy} {w : ℕ} (x : (⟨3, ![1, 2048, w]⟩ : Shape).Idx → Elt Ideal φ) {lo n : ℕ} (h : lo + n ≤ 2048) (j : Fin 2048) (l : Fin w)
    (hj : lo ≤ j.val ∧ j.val < lo + n) : View.ld x (rows w lo n h) (ix3 0 ⟨j.val - lo, by omega⟩ l) = x (ix3 0 j l) :=
  (ld_rows x h _ l).trans (congrArg (fun j => x (ix3 0 j l)) (Fin.ext (by simp only; omega)))

section
variable {x0 x1 : Vec Ideal S1x2048x128 .bf16} {x2 : Vec Ideal S1x2048x256 .bf16} {la : FVec Ideal S2048x128 .f32}
  {A K Q : Fin 2048 → Fin 128 → EReal} {V : Fin 2048 → Fin 256 → EReal}
  (hA : ∀ j d, la (ix2 j d) = A j d) (hK : ∀ j d, x1 (ix3 0 j d) = K j d) (hV : ∀ j e, x2 (ix3 0 j e) = V j e)

include hA hK hV in
theorem after_apply (n : ℕ) (h : n ≤ 32) (e : Fin 256) (d : Fin 128) : after x1 x2 la n h (ix2 e d) = state A K V n e d := by
  induction n with
  | zero => unfold after k0_pay4; pointwise; rfl
  | succ n ih =>
    unfold after state
    have e1 : ∀ c : Fin 64, View.ld x1 (rows 128 (64 * n) 64 (by omega)) (ix3 0 c d) = K (row n c) d := fun c =>
      (ld_rows (φ := .bf16) x1 _ c d).trans ((hK _ _).trans (congrArg (fun j => K j d) (row_eq _)))
    have e2 : ∀ c : Fin 64, View.ld x2 (rows 256 (64 * n) 64 (by omega)) (ix3 0 c e) = V (row n c) e := fun c =>
      (ld_rows (φ := .bf16) x2 _ c e).trans ((hV _ _).trans (congrArg (fun j => V j e) (row_eq _)))
    rw [step_apply, ih]
    simp only [keys_apply, part_apply, e1, e2, hA, row_eq]
    rfl

variable (hQ : ∀ j d, x0 (ix3 0 j d) = Q j d)

include hA hK hV hQ in
theorem rowStores_apply (n : ℕ) (h : n ≤ 32) (j : Fin 2048) (hj : j.val < 64 * n) (e : Fin 256) :
    View.canon (rowStores x0 x1 x2 la n h) (ix3 0 j e) = out A K V Q j e := by
  induction n with
  | zero => omega
  | succ n ih =>
    unfold rowStores
    by_cases hlo : 64 * n ≤ j.val
    · have e' : j.val / 64 = n := by omega
      refine (canon_row (φ := .f32) _ (lo := 64 * n) (n := 64) (by omega) _ j e ⟨hlo, by omega⟩).trans ?_
      rw [rowsOf, outs_apply]
      unfold out
      rw [e']
      exact Finset.sum_congr rfl fun d _ => congrArg₂ (· * Ideal.ofBits .f32 0x3DB504F3#32 * ·)
        ((ld_row (φ := .bf16) x0 (by omega) j d ⟨hlo, by omega⟩).trans (hQ j d)) (after_apply hA hK hV (n + 1) h e d)
    · rw [canon_miss _ _ _ _ _ (by omega)]
      exact ih (by omega) (by omega)

theorem state_idx {n : ℕ} (h : n + 1 ≤ 32) (e : Fin 256) (d : Fin 128) :
    (Rect.unit (s := S1x1x32x256x128) ![0, 0, n, 0, 0] S1x1x1x256x128.size (inb_state h)).idx (ix5 0 0 0 e d) = ix5 0 0 ⟨n, by omega⟩ e d := by
  funext a; apply Fin.ext
  rw [Rect.idx_unit_val]
  match a with
  | ⟨0, _⟩ => rfl
  | ⟨1, _⟩ => rfl
  | ⟨2, _⟩ => rfl
  | ⟨3, _⟩ => exact Nat.zero_add _
  | ⟨4, _⟩ => exact Nat.zero_add _

theorem canon_state (L : List (View.Piece (Elt Ideal) S1x1x32x256x128 .f32)) {n : ℕ} (h : n + 1 ≤ 32) (x : S1x1x1x256x128.Idx → Elt Ideal .f32) (e : Fin 256) (d : Fin 128) :
    View.canon (⟨Rect.unit (s := S1x1x32x256x128) ![0, 0, n, 0, 0] S1x1x1x256x128.size (inb_state h), x⟩ :: L) (ix5 0 0 ⟨n, by omega⟩ e d) = x (ix5 0 0 0 e d) := by
  rw [← state_idx h e d]
  exact View.canon_cons_emb (Rect.unit (s := S1x1x32x256x128) ![0, 0, n, 0, 0] S1x1x1x256x128.size (inb_state h)) x L (ix5 0 0 0 e d)

theorem canon_other (L : List (View.Piece (Elt Ideal) S1x1x32x256x128 .f32)) {n : ℕ} (h : n + 1 ≤ 32) (x : S1x1x1x256x128.Idx → Elt Ideal .f32) (p : Fin 32) (e : Fin 256) (d : Fin 128)
    (hp : p.val ≠ n) : View.canon (⟨Rect.unit (s := S1x1x32x256x128) ![0, 0, n, 0, 0] S1x1x1x256x128.size (inb_state h), x⟩ :: L) (ix5 0 0 p e d) = View.canon L (ix5 0 0 p e d) := by
  refine View.canon_cons_of_not_mem _ _ fun hm => hp ?_
  have := (Rect.mem_set_unit (inb := inb_state h)).1 hm 2
  change n ≤ p.val ∧ p.val < n + 1 at this
  omega

theorem lifted (y : St) (e : Fin 256) (d : Fin 128) : shapeCast S1x1x1x256x128 y shapeCasts_S256x128_S1x1x1x256x128 (ix5 0 0 0 e d) = y (ix2 e d) := by
  pointwise

include hA hK hV in
theorem stateStores_apply (n : ℕ) (h : n ≤ 32) (p : Fin 32) (hp : p.val < n) (e : Fin 256) (d : Fin 128) :
    View.canon (stateStores x1 x2 la n h) (ix5 0 0 p e d) = state A K V (p.val + 1) e d := by
  induction n with
  | zero => omega
  | succ n ih =>
    unfold stateStores
    by_cases hlo : p.val = n
    · subst hlo
      refine (canon_state _ h _ e d).trans ?_
      exact (lifted _ e d).trans (after_apply hA hK hV (p.val + 1) h e d)
    · exact (canon_other _ h _ p e d hlo).trans (ih (by omega) (by omega))

end

theorem gateStores_apply {x3 : Vec Ideal S1x2048x256 .bf16} {x7 : Vec Ideal S1x256 .f32} {r : (n : ℕ) → n + 1 ≤ 4 → Vec Ideal S1x512x256 .f32}
    {o g : Fin 2048 → Fin 256 → EReal} {w : Fin 256 → EReal} (hr : ∀ n h c e, r n h (ix3 0 c e) = o ⟨512 * n + c.val, by omega⟩ e)
    (hg : ∀ j e, x3 (ix3 0 j e) = g j e) (hw : ∀ e, x7 (ix2 0 e) = w e) (n : ℕ) (h : n ≤ 4) (j : Fin 2048) (hj : j.val < 512 * n) (e : Fin 256) :
    View.canon (gateStores x3 x7 r n h) (ix3 0 j e) = gated o g w j e := by
  induction n with
  | zero => omega
  | succ n ih =>
    unfold gateStores
    by_cases hlo : 512 * n ≤ j.val
    · have hj' : 512 * n ≤ j.val ∧ j.val < 512 * n + 512 := ⟨hlo, by omega⟩
      have e1 : ∀ e, r n h (ix3 0 ⟨j.val - 512 * n, by omega⟩ e) = o j e := fun e =>
        (hr n h _ e).trans (congrArg (fun j => o j e) (Fin.ext (by simp only; omega)))
      have e2 : View.ld x3 (rows 256 (512 * n) 512 (by omega)) (ix3 0 ⟨j.val - 512 * n, by omega⟩ e) = g j e :=
        (ld_row (φ := .bf16) x3 (by omega) j e hj').trans (hg j e)
      refine (canon_row (φ := .bf16) _ (lo := 512 * n) (n := 512) (by omega) _ j e hj').trans ?_
      rw [gate_apply]
      simp only [e1, e2, hw]
      rfl
    · rw [canon_miss _ _ _ _ _ (by omega)]
      exact ih (by omega) (by omega)

section
variable (m : (ℓ : Loc nD τ sig) → Buf (Elt Ideal) ℓ) (c : Dev nD) (t : Fin cfg0.N)
  {A K Q : Fin 2048 → Fin 128 → EReal} {V G : Fin 2048 → Fin 256 → EReal} {W : Fin 256 → EReal}
  (hA : ∀ j d, k0_pay2 (F := Ideal) (iblk m c 4 t) (iblk m c 5 t) (iblk m c 6 t) (ix2 j d) = A j d)
  (hQ : ∀ j d, (iblk m c 0 t : Vec Ideal S1x2048x128 .bf16) (ix3 0 j d) = Q j d)
  (hK : ∀ j d, (iblk m c 1 t : Vec Ideal S1x2048x128 .bf16) (ix3 0 j d) = K j d)
  (hV : ∀ j e, (X0_2 m c t : Vec Ideal S1x2048x256 .bf16) (ix3 0 j e) = V j e)
  (hG : ∀ j e, (X0_3 m c t : Vec Ideal S1x2048x256 .bf16) (ix3 0 j e) = G j e)
  (hW : ∀ e, (iblk m c 7 t : Vec Ideal S1x256 .f32) (ix2 0 e) = W e)

include hA hQ hK hV in
theorem out_apply (j e) : (outsAt0 m c t).1 (ix3 0 j e) = out A K V Q j e := by
  rw [block_out]
  exact rowStores_apply hA hK hV hQ 32 le_rfl j j.isLt e

include hA hK hV in
theorem state_apply (n e d) : (outsAt0 m c t).2.2 (ix5 0 0 n e d) = state A K V (n.val + 1) e d := by
  rw [block_state]
  exact stateStores_apply hA hK hV 32 le_rfl n n.isLt e d

include hA hQ hK hV hG hW in
theorem gated_apply (j e) : (outsAt0 m c t).2.1 (ix3 0 j e) = gated (out A K V Q) G W j e := by
  rw [block_gate]
  refine gateStores_apply (fun n h r e => ?_) hG hW 4 le_rfl j j.isLt e
  refine (congrFun (View.readCov_eq_canon' (ms0_8 t).view _ _) _).trans ((congrArg _ (rows_idx _ r e)).trans ?_)
  exact rowStores_apply hA hK hV hQ 32 le_rfl _ (Fin.isLt _) e

end
end Cert.KernelGlaFwdIdeal.Chunks
-- ==== Proof.GlaWindows.lean ====
module

public import proofs.«01_k».proof.Proof.GlaChunk
public import proofs.«01_k».proof.Proof.Packed
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.KernelGlaFwdIdeal.Chunks
open Cert.KernelGlaFwdIdeal Cert.KernelGlaFwdIdeal.Gen Cert.GlaMath

variable (m : (ℓ : Loc nD τ sig) → Buf (Elt Ideal) ℓ)

/-- The projection. -/
abbrev projArg (c : Dev nD) : FVec Ideal S2x2048x5552 .f32 := m ((c : Thread nD τ).loc main_arg0)
/-- the weight of the decay logits -/
abbrev weightArg (c : Dev nD) : FVec Ideal S1x16x512 .f32 := m ((c : Thread nD τ).loc main_arg1)
/-- their bias -/
abbrev biasArg (c : Dev nD) : FVec Ideal S1x512 .f32 := m ((c : Thread nD τ).loc main_arg2)
/-- the gain of the norm of the result -/
abbrev gainArg (c : Dev nD) : FVec Ideal S1x256 .f32 := m ((c : Thread nD τ).loc main_arg3)

/-- The batch row and the head a grid point works on. -/
def bat (t : Fin cfg0.N) : Fin 2 := ⟨t.val % 2, by omega⟩
def head (t : Fin cfg0.N) : Fin 4 := ⟨t.val / 2, by have := t.isLt.trans_le (le_of_eq N_0); omega⟩

theorem idx : ∀ t : Fin cfg0.N, win0_0.index t = ![t.val % 2, 0, t.val / 2]
    ∧ win0_1.index t = ![t.val % 2, 0, 4 + t.val / 2]
    ∧ win0_2.index t = ![t.val % 2, 0, 4 + t.val / 2]
    ∧ win0_3.index t = ![t.val % 2, 0, 8 + t.val / 2]
    ∧ win0_4.index t = ![t.val % 2, 0, 43]
    ∧ win0_5.index t = ![0, t.val / 2]
    ∧ win0_6.index t = ![0, t.val / 2]
    ∧ win0_7.index t = ![0, 0]
    ∧ win0_8.index t = ![t.val % 2, 0, t.val / 2]
    ∧ win0_9.index t = ![t.val % 2, 0, t.val / 2]
    ∧ win0_10.index t = ![t.val % 2, t.val / 2, 0, 0, 0] :=
  (by decide +kernel : ∀ t : Fin grid0.N, _)

set_option maxHeartbeats 1600000 in
theorem read_main (c : Dev nD) (b : Fin 2) (r : Fin 2048) (l : Fin 3072) (k : Fin 5760) (hk : l.val = k.val) :
    V m c main_v11 (ix3 b r k) = projArg m c (ix3 b r ⟨l.val, by omega⟩) := by
  unfold V hostOps0 hostOps0_1 hostOps0_2
  simp only [List.flatten_cons, List.flatten_nil, List.cons_append, List.nil_append, List.append_nil]
  after_results_simp
  refine (Packed.gla_apply _ _ _ _ _ _ _ _ _ b r k l hk).trans ?_
  simp only [Matrix.cons_val_one, Matrix.cons_val_zero]
  after_results_simp
  pointwise

set_option maxHeartbeats 1600000 in
theorem read_logits (c : Dev nD) (b : Fin 2) (r : Fin 2048) (l : Fin 16) (k : Fin 5760) (hk : 5504 + l.val = k.val) :
    V m c main_v11 (ix3 b r k) = projArg m c (ix3 b r ⟨3072 + l.val, by omega⟩) := by
  unfold V hostOps0 hostOps0_1 hostOps0_2
  simp only [List.flatten_cons, List.flatten_nil, List.cons_append, List.nil_append, List.append_nil]
  after_results_simp
  refine (Packed.alpha_apply _ _ _ _ _ _ _ _ _ b r k l hk).trans ?_
  simp
  after_results_simp
  pointwise

theorem block0 (c : Dev nD) (t : Fin cfg0.N) (j : Fin 2048) (d : Fin 128) :
    (iblk m c 0 t : Vec Ideal S1x2048x128 .bf16) (ix3 0 j d) = projArg m c (ix3 (bat t) j ⟨(head t).val * 128 + d.val, by omega⟩) := by
  refine Eq.trans ?_ (read_main m c (bat t) j ⟨(head t).val * 128 + d.val, by omega⟩ ⟨(head t).val * 128 + d.val, by omega⟩ rfl)
  blk_simp [iblk, idx t]
  have e := idx t
  blk_ext [e, bat, head]

theorem block1 (c : Dev nD) (t : Fin cfg0.N) (j : Fin 2048) (d : Fin 128) :
    (iblk m c 1 t : Vec Ideal S1x2048x128 .bf16) (ix3 0 j d) = projArg m c (ix3 (bat t) j ⟨512 + ((head t).val * 128 + d.val), by omega⟩) := by
  refine Eq.trans ?_ (read_main m c (bat t) j ⟨512 + ((head t).val * 128 + d.val), by omega⟩ ⟨512 + ((head t).val * 128 + d.val), by omega⟩ rfl)
  blk_simp [iblk, idx t]
  have e := idx t
  blk_ext [e, bat, head]

theorem block2 (c : Dev nD) (t : Fin cfg0.N) (j : Fin 2048) (d : Fin 256) :
    (X0_2 m c t : Vec Ideal S1x2048x256 .bf16) (ix3 0 j d) = projArg m c (ix3 (bat t) j ⟨1024 + ((head t).val * 256 + d.val), by omega⟩) := by
  unfold X0_2 Pipeline.Window.fill
  rw [dif_pos (moved0_2 t (ix3 0 j d))]
  refine Eq.trans ?_ (read_main m c (bat t) j ⟨1024 + ((head t).val * 256 + d.val), by omega⟩ ⟨1024 + ((head t).val * 256 + d.val), by omega⟩ rfl)
  blk_simp [iblk, idx t]
  have e := idx t
  blk_ext [e, bat, head]

theorem block3 (c : Dev nD) (t : Fin cfg0.N) (j : Fin 2048) (d : Fin 256) :
    (X0_3 m c t : Vec Ideal S1x2048x256 .bf16) (ix3 0 j d) = projArg m c (ix3 (bat t) j ⟨2048 + ((head t).val * 256 + d.val), by omega⟩) := by
  unfold X0_3 Pipeline.Window.fill
  rw [dif_pos (moved0_3 t (ix3 0 j d))]
  refine Eq.trans ?_ (read_main m c (bat t) j ⟨2048 + ((head t).val * 256 + d.val), by omega⟩ ⟨2048 + ((head t).val * 256 + d.val), by omega⟩ rfl)
  blk_simp [iblk, idx t]
  have e := idx t
  blk_ext [e, bat, head]

theorem block4 (c : Dev nD) (t : Fin cfg0.N) (j : Fin 2048) (d : Fin 16) :
    (iblk m c 4 t : Vec Ideal S1x2048x128 .bf16) (ix3 0 j ⟨d.val, by omega⟩) = projArg m c (ix3 (bat t) j ⟨3072 + d.val, by omega⟩) := by
  refine Eq.trans ?_ (read_logits m c (bat t) j d ⟨5504 + d.val, by omega⟩ rfl)
  blk_simp [iblk, idx t]
  have e := idx t
  blk_ext [e, bat, head]

theorem zero_word : FloatOps.sitofp (F := Ideal) .f32 (0#32) = (0 : EReal) := by
  show (((0#32 : BitVec 32).toInt : ℝ) : EReal) = 0
  simp

theorem pad_weight (x : FVec Ideal S16x512 .f32) (z : FVec Ideal S_ .f32) (hz : ∀ i, z i = (0 : EReal)) (r : Fin 128) (k : Fin 512) :
    pad S128x512 ![0, 0] ![112, 0] ![0, 0] x z pads_S16x512_S128x512_01120_000 h_S_ (ix2 r k)
      = if h : r.val < 16 then (x (ix2 ⟨r.val, h⟩ k) : EReal) else (0 : EReal) := by
  rw [← hz (Shape.Idx.first h_S_)]
  pointwise

set_option maxHeartbeats 1600000 in
theorem read_weight (c : Dev nD) (r : Fin 128) (k : Fin 512) :
    (V m c main_v1 (ix2 r k) : EReal) = if h : r.val < 16 then (weightArg m c (ix3 0 ⟨r.val, h⟩ k) : EReal) else (0 : EReal) := by
  unfold V hostOps0 hostOps0_1 hostOps0_2
  simp only [List.flatten_cons, List.flatten_nil, List.cons_append, List.nil_append, List.append_nil]
  after_results_simp
  refine (pad_weight _ _ (fun _ => zero_word) r k).trans ?_
  refine dite_congr rfl (fun h => ?_) fun _ => rfl
  exact shapeCast_apply (s := S1x16x512) (t := S16x512) (weightArg m c) _ (ix2 ⟨r.val, h⟩ k) (ix3 0 ⟨r.val, h⟩ k)
    (by rw [Shape.rowMajor_val_three, Shape.rowMajor_val_two]; show (0 * 16 + r.val) * 512 + k.val = r.val * 512 + k.val; omega)

theorem block5 (c : Dev nD) (t : Fin cfg0.N) (r d : Fin 128) :
    ((iblk m c 5 t : Vec Ideal S128x128 .f32) (ix2 r d) : EReal) =
      if h : r.val < 16 then weightArg m c (ix3 0 ⟨r.val, h⟩ ⟨(head t).val * 128 + d.val, by omega⟩) else (0 : EReal) := by
  refine Eq.trans ?_ (read_weight m c r ⟨(head t).val * 128 + d.val, by omega⟩)
  blk_simp [iblk, idx t]
  have e := idx t
  blk_ext [e, bat, head]

theorem block6 (c : Dev nD) (t : Fin cfg0.N) (d : Fin 128) :
    (iblk m c 6 t : Vec Ideal S1x128 .f32) (ix2 0 d) = biasArg m c (ix2 0 ⟨(head t).val * 128 + d.val, by omega⟩) := by
  blk_point [iblk, V, idx t, head]

theorem block7 (c : Dev nD) (t : Fin cfg0.N) (d : Fin 256) :
    (iblk m c 7 t : Vec Ideal S1x256 .f32) (ix2 0 d) = gainArg m c (ix2 0 d) := by
  blk_point [iblk, V, idx t]

end Cert.KernelGlaFwdIdeal.Chunks
-- ==== Proof.GlaSum.lean ====
module

public import proofs.«01_k».proof.Proof.GlaMath
public import Idealize.ShloMosaic.Lib.Pointwise

@[expose] public section

set_option maxRecDepth 16384

noncomputable section

open Idealize.ShloMosaic Idealize.ShloMosaic.TcCoe Idealize.SL.Sem

namespace Cert.GlaMath

/-! ### A running sum over one axis, and the logarithm of a logistic -/

theorem foldl_add {α : Type} (g : α → EReal) (l : List α) : ∀ a : EReal, l.foldl (fun r n => r + g n) a = a + (l.map g).sum := by
  induction l with
  | nil => intro a; simp
  | cons x l ih => intro a; rw [List.foldl_cons, ih, List.map_cons, List.sum_cons, add_assoc]

/-- The sum of the entries that a window ending at row `c` still holds. -/
theorem window_sum (f : Fin 64 → EReal) (c : Fin 64) :
    (∑ r : Fin 64, if h : 63 ≤ c.val + r.val then f ⟨c.val + r.val - 63, by omega⟩ else 0) = ∑ r : Fin 64, if r.val ≤ c.val then f r else 0 := by
  refine Fintype.sum_equiv (Equiv.addRight (c + 1)) _ _ fun r => ?_
  have e : ((Equiv.addRight (c + 1)) r).val = (r.val + (c.val + 1)) % 64 := by
    show (r + (c + 1)).val = _
    simp [Fin.val_add]
  have h1 := c.isLt
  have h2 := r.isLt
  by_cases h : 63 ≤ c.val + r.val
  · rw [dif_pos h, if_pos (by omega)]
    exact congrArg f (Fin.ext (by rw [e]; show c.val + r.val - 63 = _; omega))
  · rw [dif_neg h, if_neg (by omega)]

abbrev Rows : Shape := ⟨5, ![2, 32, 64, 4, 128]⟩
abbrev Window : Shape := ⟨5, ![1, 1, 64, 1, 1]⟩

theorem window_numel : Window.numel = 64 := by decide

theorem window_symm (r : Fin 64) : Window.rowMajor.symm (r.cast window_numel.symm) = ix5 0 0 r 0 0 := by
  rw [Equiv.symm_apply_eq]
  refine Fin.ext ?_
  rw [Shape.rowMajor_val_five]
  show r.val = ((((0 * 1 + 0) * 64 + r.val) * 1 + 0) * 1 + 0)
  omega

theorem running_sum (x : FVec Ideal Rows .f32) (init : (⟨0, ![]⟩ : Shape).Idx → EReal) (h hu) (h0 : init (Shape.Idx.first hu) = (0 : EReal)) (b n c k d) :
    (Host.reduceWindowAdd (F := Ideal) (φ := .f32) (s := Rows) (t := Rows) (u := ⟨0, ![]⟩) ![1, 1, 64, 1, 1] ![1, 1, 1, 1, 1] ![0, 0, 63, 0, 0] ![0, 0, 0, 0, 0] x init h hu (ix5 b n c k d) : EReal) =
      ∑ r : Fin 64, if r.val ≤ c.val then (x (ix5 b n r k d) : EReal) else (0 : EReal) := by
  show Host.reduceWindow (α := EReal) (s := Rows) (t := Rows) (u := ⟨0, ![]⟩) (· + ·) _ _ _ _ x (fun _ => init (Shape.Idx.first hu)) h hu (ix5 b n c k d) = _
  rw [h0]
  unfold Host.reduceWindow
  dsimp only
  rw [foldl_add, zero_add, ← Fin.sum_univ_def, ← window_sum (fun r => (x (ix5 b n r k d) : EReal))]
  refine Fintype.sum_equiv (finCongr window_numel) _ _ fun q => ?_
  obtain ⟨r, rfl⟩ : ∃ r : Fin 64, q = r.cast window_numel.symm := ⟨q.cast window_numel, rfl⟩
  have hw : ∀ a, (Window.rowMajor.symm (r.cast window_numel.symm) a).val = (ix5 (0 : Fin 1) (0 : Fin 1) r (0 : Fin 1) (0 : Fin 1) a).val :=
    fun a => congrArg (fun i : Window.Idx => (i a).val) (window_symm r)
  have w0 : (Window.rowMajor.symm (r.cast window_numel.symm) 0).val = 0 := hw 0
  have w1 : (Window.rowMajor.symm (r.cast window_numel.symm) 1).val = 0 := hw 1
  have w2 : (Window.rowMajor.symm (r.cast window_numel.symm) 2).val = r.val := hw 2
  have w3 : (Window.rowMajor.symm (r.cast window_numel.symm) 3).val = 0 := hw 3
  have w4 : (Window.rowMajor.symm (r.cast window_numel.symm) 4).val = 0 := hw 4
  have l0 := b.isLt
  have l1 := n.isLt
  have l2 := c.isLt
  have l3 := k.isLt
  have l4 := d.isLt
  have l5 := r.isLt
  refine dite_congr (propext ⟨fun hh => ?_, fun hh a => ?_⟩) (fun hh => ?_) fun _ => rfl
  · have := (hh 2).1
    change 63 ≤ c.val * 1 + (Window.rowMajor.symm (r.cast window_numel.symm) 2).val at this
    rw [w2] at this
    show 63 ≤ c.val + r.val
    omega
  · change 63 ≤ c.val + r.val at hh
    match a with
    | ⟨0, _⟩ =>
      show 0 ≤ b.val * 1 + (Window.rowMajor.symm (r.cast window_numel.symm) 0).val ∧ b.val * 1 + (Window.rowMajor.symm (r.cast window_numel.symm) 0).val - 0 < 2
      omega
    | ⟨1, _⟩ =>
      show 0 ≤ n.val * 1 + (Window.rowMajor.symm (r.cast window_numel.symm) 1).val ∧ n.val * 1 + (Window.rowMajor.symm (r.cast window_numel.symm) 1).val - 0 < 32
      omega
    | ⟨2, _⟩ =>
      show 63 ≤ c.val * 1 + (Window.rowMajor.symm (r.cast window_numel.symm) 2).val ∧ c.val * 1 + (Window.rowMajor.symm (r.cast window_numel.symm) 2).val - 63 < 64
      omega
    | ⟨3, _⟩ =>
      show 0 ≤ k.val * 1 + (Window.rowMajor.symm (r.cast window_numel.symm) 3).val ∧ k.val * 1 + (Window.rowMajor.symm (r.cast window_numel.symm) 3).val - 0 < 4
      omega
    | ⟨4, _⟩ =>
      show 0 ≤ d.val * 1 + (Window.rowMajor.symm (r.cast window_numel.symm) 4).val ∧ d.val * 1 + (Window.rowMajor.symm (r.cast window_numel.symm) 4).val - 0 < 128
      omega
  · change 63 ≤ c.val + r.val at hh
    refine congrArg x (funext fun a => Fin.ext ?_)
    match a with
    | ⟨0, _⟩ => show b.val * 1 + (Window.rowMajor.symm (r.cast window_numel.symm) 0).val - 0 = b.val; omega
    | ⟨1, _⟩ => show n.val * 1 + (Window.rowMajor.symm (r.cast window_numel.symm) 1).val - 0 = n.val; omega
    | ⟨2, _⟩ => show c.val * 1 + (Window.rowMajor.symm (r.cast window_numel.symm) 2).val - 63 = c.val + r.val - 63; omega
    | ⟨3, _⟩ => show k.val * 1 + (Window.rowMajor.symm (r.cast window_numel.symm) 3).val - 0 = k.val; omega
    | ⟨4, _⟩ => show d.val * 1 + (Window.rowMajor.symm (r.cast window_numel.symm) 4).val - 0 = d.val; omega

theorem word_sixteen : Ideal.ofBits .f32 0x41800000#32 = ((16 : ℝ) : EReal) := by simp [Ideal.ofBits, Ideal.ieee, -EReal.coe_mul]; norm_num
theorem word_sixteenth : Ideal.ofBits .f32 0x3D800000#32 = ((1 / 16 : ℝ) : EReal) := by simp [Ideal.ofBits, Ideal.ieee, -EReal.coe_mul]; norm_num

theorem div_sixteen (x : EReal) : Ideal.div x (Ideal.ofBits .f32 0x41800000#32) = x * Ideal.ofBits .f32 0x3D800000#32 := by
  rw [word_sixteen, word_sixteenth]
  unfold Ideal.div
  rw [if_neg (by norm_num), ← EReal.coe_inv, one_div]

theorem neg_max_zero (z : EReal) : -max (-z) 0 = min z 0 := by
  rcases le_total z 0 with h | h
  · rw [max_eq_left (EReal.le_neg_of_le_neg (by simpa using h)), min_eq_left h, neg_neg]
  · rw [max_eq_right (EReal.neg_le_of_neg_le (by simpa using h)), min_eq_right h, neg_zero]

theorem log_real (y : EReal) : Ideal.log (1 + Ideal.exp y) ≠ ⊥ := by
  induction y with
  | bot => show Ideal.log (1 + 0) ≠ ⊥; rw [add_zero]; show (if (1 : ℝ) ≤ 0 then (⊥ : EReal) else _) ≠ ⊥; rw [if_neg (by norm_num)]; exact EReal.coe_ne_bot _
  | top => show Ideal.log (((1 : ℝ) : EReal) + ⊤) ≠ ⊥; rw [EReal.coe_add_top]; exact top_ne_bot
  | coe r =>
    show Ideal.log (((1 : ℝ) : EReal) + ((Real.exp r : ℝ) : EReal)) ≠ ⊥
    rw [← EReal.coe_add]
    show (if 1 + Real.exp r ≤ 0 then (⊥ : EReal) else _) ≠ ⊥
    rw [if_neg (by have := Real.exp_pos r; linarith)]
    exact EReal.coe_ne_bot _

theorem logDecay_eq (z : EReal) :
    Ideal.div (-(if -z ≠ -z then -z else max (-z) 0 + Ideal.log1p (Ideal.exp (-(max (-z) (- -z)))))) (Ideal.ofBits .f32 0x41800000#32) = logDecay z := by
  rw [if_neg (fun h => h rfl), div_sixteen, neg_neg, max_comm (-z) z]
  unfold logDecay Ideal.log1p
  rw [zero_sub, EReal.neg_add (Or.inl (ne_of_gt (lt_of_lt_of_le EReal.bot_lt_zero (le_max_right _ _)))) (Or.inr (log_real _)), neg_max_zero]

end Cert.GlaMath
-- ==== Proof.GlaRef.lean ====
module

public import proofs.«01_k».proof.Proof.GlaSum
public import proofs.«01_k».proof.Proof.Gen.ReferenceGlaFwdIdeal.Read

@[expose] public section

set_option maxRecDepth 16384

noncomputable section

open Idealize.ShloMosaic Idealize.ShloMosaic.TcCoe Idealize.SL.Sem

namespace Cert.ReferenceGlaFwdIdeal.Chunks
open Cert.ReferenceGlaFwdIdeal Cert.ReferenceGlaFwdIdeal.Gen Cert.ReferenceGlaFwdIdeal.Read Cert.GlaMath

variable (a0 : FVec Ideal S2x2048x5552 .f32) (a1 : FVec Ideal S1x16x512 .f32) (a2 : FVec Ideal S1x512 .f32) (a3 : FVec Ideal S1x256 .f32)

/-- The logit of the decay. -/
def logit (b : Fin 2) (j : Fin 2048) (k : Fin 512) : EReal :=
  ∑ i : Fin 16, a0 (ix3 b j ⟨3072 + i.val, by omega⟩) * a1 (ix3 0 i k) + a2 (ix2 0 k)

theorem logit_apply (b j k) : val_main_v19 (F := Ideal) a0 a1 a2 (ix3 b j k) = logit a0 a1 a2 b j k := by
  unfold logit
  pointwise [val_main_v19, val_main_v18, val_main_v17, val_main_v14, val_main_v13, val_main_v12, val_main_v4]

theorem decay_apply (b j k) : val_main_v22 (F := Ideal) a0 a1 a2 (ix3 b j k) = logDecay (logit a0 a1 a2 b j k) := by
  rw [← logit_apply]
  unfold val_main_v22 val_main_v21 val_main_cst_0 val_main_v20 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  generalize val_main_v19 (F := Ideal) a0 a1 a2 = z
  pointwise
  exact logDecay_eq _

/-! ### What the recurrence reads -/

/-- Place `x` of head `k`, counted in blocks of `n`, from column `o`. -/
def lane (o n w : ℕ) (k : Fin 4) (x : Fin n) (h : o + 4 * n ≤ w := by decide) : Fin w :=
  ⟨o + (k.val * n + x.val), by have := Nat.mul_le_mul_right n (Nat.le_of_lt_succ k.isLt : k.val ≤ 3); have := x.isLt; omega⟩

def decays (b : Fin 2) (k : Fin 4) (j : Fin 2048) (d : Fin 128) : EReal := logDecay (logit a0 a1 a2 b j (lane 0 128 512 k d))
def keys (b : Fin 2) (k : Fin 4) (j : Fin 2048) (d : Fin 128) : EReal := a0 (ix3 b j (lane 512 128 5552 k d))
def values (b : Fin 2) (k : Fin 4) (j : Fin 2048) (e : Fin 256) : EReal := a0 (ix3 b j (lane 1024 256 5552 k e))
def queries (b : Fin 2) (k : Fin 4) (j : Fin 2048) (d : Fin 128) : EReal := a0 (ix3 b j (lane 0 128 5552 k d))
def gates (b : Fin 2) (k : Fin 4) (j : Fin 2048) (e : Fin 256) : EReal := a0 (ix3 b j (lane 2048 256 5552 k e))

/-- A flat array read by chunk, row of the chunk and head. -/
theorem split_apply {α : Type} {D M : ℕ} (hM : 0 + 4 * D ≤ M) (hM' : M = 4 * D) (x : (⟨3, ![2, 2048, M]⟩ : Shape).Idx → α)
    (h : Shape.ShapeCasts (⟨3, ![2, 2048, M]⟩ : Shape) ⟨5, ![2, 32, 64, 4, D]⟩) (b : Fin 2) (n : Fin 32) (c : Fin 64) (k : Fin 4) (d : Fin D) :
    shapeCast (⟨5, ![2, 32, 64, 4, D]⟩ : Shape) x h (ix5 b n c k d) = x (ix3 b (row n.val c) (lane 0 D M k d hM)) := by
  refine shapeCast_apply _ _ _ _ ?_
  rw [Shape.rowMajor_val_five, Shape.rowMajor_val_three]
  have h1 := n.isLt
  have h2 := c.isLt
  rw [← row_eq (by omega)]
  subst hM'
  show (b.val * 2048 + (64 * n.val + c.val)) * (4 * D) + (0 + (k.val * D + d.val)) = (((b.val * 32 + n.val) * 64 + c.val) * 4 + k.val) * D + d.val
  ring

theorem v23_apply (b n c k d) : val_main_v23 (F := Ideal) a0 a1 a2 (ix5 b n c k d) = decays a0 a1 a2 b k (row n.val c) d :=
  (split_apply (D := 128) (M := 512) (by decide) rfl (val_main_v22 (F := Ideal) a0 a1 a2) shapeCasts_S2x2048x512_S2x32x64x4x128 b n c k d).trans (decay_apply a0 a1 a2 _ _ _)

theorem v15_apply (b n c k d) : val_main_v15 (F := Ideal) a0 (ix5 b n c k d) = keys a0 b k (row n.val c) d := by
  refine (split_apply (D := 128) (M := 512) (by decide) rfl (val_main_v1 (F := Ideal) a0) shapeCasts_S2x2048x512_S2x32x64x4x128 b n c k d).trans ?_
  unfold keys lane
  pointwise [val_main_v1]

theorem v16_apply (b n c k e) : val_main_v16 (F := Ideal) a0 (ix5 b n c k e) = values a0 b k (row n.val c) e := by
  refine (split_apply (D := 256) (M := 1024) (by decide) rfl (val_main_v2 (F := Ideal) a0) shapeCasts_S2x2048x1024_S2x32x64x4x256 b n c k e).trans ?_
  unfold values lane
  pointwise [val_main_v2]

theorem v11_apply (b n c k d) : val_main_v11 (F := Ideal) a0 (ix5 b n c k d) = queries a0 b k (row n.val c) d * Ideal.ofBits .f32 0x3DB504F3#32 := by
  refine congrArg₂ (fun x y : EReal => x * y) ?_ ?_
  · refine (split_apply (D := 128) (M := 512) (by decide) rfl (val_main_v0 (F := Ideal) a0) shapeCasts_S2x2048x512_S2x32x64x4x128 b n c k d).trans ?_
    unfold queries lane
    pointwise [val_main_v0]
  · pointwise [val_main_v10, val_main_cst]

theorem v24_apply (b n c k d) : val_main_v24 (F := Ideal) a0 a1 a2 (ix5 b n c k d) = upto (decays a0 a1 a2 b k) n.val c d := by
  refine (running_sum (val_main_v23 (F := Ideal) a0 a1 a2) _ _ _ ?_ b n c k d).trans ?_
  · show Ideal.ofBits .f32 0#32 = 0
    simp [Ideal.ofBits, Ideal.ieee]
  · exact Finset.sum_congr rfl fun r _ => by rw [v23_apply]

theorem v26_apply (b n k d) : val_main_v26 (F := Ideal) a0 a1 a2 (ix4 b n k d) = total (decays a0 a1 a2 b k) n.val d := by
  have e : val_main_v26 (F := Ideal) a0 a1 a2 (ix4 b n k d) = val_main_v24 (F := Ideal) a0 a1 a2 (ix5 b n 63 k d) := by
    unfold val_main_v26 val_main_v25
    generalize val_main_v24 (F := Ideal) a0 a1 a2 = z
    pointwise
  rw [e, v24_apply]
  exact Finset.sum_congr rfl fun r _ => if_pos (Nat.le_of_lt_succ r.isLt)

theorem v31_apply (b n c k d) : val_main_v31 (F := Ideal) a0 a1 a2 (ix5 b n c k d) = key (decays a0 a1 a2 b k) (keys a0 b k) n.val c d := by
  unfold key
  rw [← v26_apply, ← v24_apply, ← v15_apply]
  unfold val_main_v31 val_main_v30 val_main_v29 val_main_v28 val_main_v27
  generalize val_main_v24 (F := Ideal) a0 a1 a2 = z
  generalize val_main_v26 (F := Ideal) a0 a1 a2 = y
  generalize val_main_v15 (F := Ideal) a0 = x
  pointwise

theorem v37_apply (b n k d) : val_main_v37 (F := Ideal) a0 a1 a2 (ix4 n b k d) = Ideal.exp (total (decays a0 a1 a2 b k) n.val d) := by
  rw [← v26_apply]
  unfold val_main_v37 val_main_v34 val_main_v33
  generalize val_main_v26 (F := Ideal) a0 a1 a2 = y
  pointwise

theorem v39_apply (b n k d e) : val_main_v39 (F := Ideal) a0 a1 a2 (ix5 n b k d e) =
    ∑ c : Fin 64, values a0 b k (row n.val c) e * key (decays a0 a1 a2 b k) (keys a0 b k) n.val c d := by
  have h : val_main_v39 (F := Ideal) a0 a1 a2 (ix5 n b k d e) = val_main_v32 (F := Ideal) a0 a1 a2 (ix5 n b k d e) := by
    unfold val_main_v39
    generalize val_main_v32 (F := Ideal) a0 a1 a2 = z
    pointwise
  rw [h, val_main_v32_apply]
  refine Finset.sum_congr rfl fun c _ => ?_
  have l : lidx_main_v32 (ix5 n b k d e) c = ix5 b n c k d := by funext a; match a with | ⟨0, _⟩ => rfl | ⟨1, _⟩ => rfl | ⟨2, _⟩ => rfl | ⟨3, _⟩ => rfl | ⟨4, _⟩ => rfl
  have r : ridx_main_v32 (ix5 n b k d e) c = ix5 b n c k e := by funext a; match a with | ⟨0, _⟩ => rfl | ⟨1, _⟩ => rfl | ⟨2, _⟩ => rfl | ⟨3, _⟩ => rfl | ⟨4, _⟩ => rfl
  rw [l, r, v31_apply, v16_apply]
  exact mul_comm _ _

/-! ### The states -/

theorem sliced4 (n : ℕ) (h : n < 32) : S32x2x4x128.Slices ![n, 0, 0, 0] S1x2x4x128 :=
  ⟨rfl, fun a => match a with
    | ⟨0, _⟩ => h
    | ⟨1, _⟩ => Nat.le_refl _
    | ⟨2, _⟩ => Nat.le_refl _
    | ⟨3, _⟩ => Nat.le_refl _⟩

theorem sliced5 (n : ℕ) (h : n < 32) : S32x2x4x128x256.Slices ![n, 0, 0, 0, 0] S1x2x4x128x256 :=
  ⟨rfl, fun a => match a with
    | ⟨0, _⟩ => h
    | ⟨1, _⟩ => Nat.le_refl _
    | ⟨2, _⟩ => Nat.le_refl _
    | ⟨3, _⟩ => Nat.le_refl _
    | ⟨4, _⟩ => Nat.le_refl _⟩

/-- The decay over chunk `n`, spread over the lanes of the values. -/
def factor (n : ℕ) (h : n < 32) : FVec Ideal S2x4x128x256 .f32 :=
  broadcastInDim S2x4x128x256 ![0, 1, 2, 3] bcast_S2x4x128x1_S2x4x128x256_0_1_2_3
    (broadcastInDim S2x4x128x1 ![0, 1, 2] bcast_S2x4x128_S2x4x128x1_0_1_2
      (shapeCast S2x4x128 (extractStridedSlice S1x2x4x128 ![n, 0, 0, 0] (val_main_v37 (F := Ideal) a0 a1 a2) (sliced4 n h)) shapeCasts_S1x2x4x128_S2x4x128))

/-- What chunk `n` adds. -/
def added (n : ℕ) (h : n < 32) : FVec Ideal S2x4x128x256 .f32 :=
  shapeCast S2x4x128x256 (extractStridedSlice S1x2x4x128x256 ![n, 0, 0, 0, 0] (val_main_v39 (F := Ideal) a0 a1 a2) (sliced5 n h)) shapeCasts_S1x2x4x128x256_S2x4x128x256

/-- The states after `n` chunks. -/
def stateArr : (n : ℕ) → n ≤ 32 → FVec Ideal S2x4x128x256 .f32
  | 0, _ => val_main_v35 (F := Ideal)
  | n + 1, h => addf (mulf (factor a0 a1 a2 n h) (stateArr n (Nat.le_of_succ_le h))) (added a0 a1 a2 n h)

theorem factor_apply (n h b k d e) : factor a0 a1 a2 n h (ix4 b k d e) = val_main_v37 (F := Ideal) a0 a1 a2 (ix4 ⟨n, h⟩ b k d) := by
  unfold factor
  generalize val_main_v37 (F := Ideal) a0 a1 a2 = z
  pointwise

theorem added_apply (n h b k d e) : added a0 a1 a2 n h (ix4 b k d e) = val_main_v39 (F := Ideal) a0 a1 a2 (ix5 ⟨n, h⟩ b k d e) := by
  unfold added
  generalize val_main_v39 (F := Ideal) a0 a1 a2 = z
  pointwise

theorem stateArr_apply (b k d e) : ∀ n h, stateArr a0 a1 a2 n h (ix4 b k d e) = state (decays a0 a1 a2 b k) (keys a0 b k) (values a0 b k) n e d
  | 0, _ => by
    show Ideal.ofBits .f32 0#32 = 0
    simp [Ideal.ofBits, Ideal.ieee]
  | n + 1, h => by
    show factor a0 a1 a2 n h (ix4 b k d e) * stateArr a0 a1 a2 n _ (ix4 b k d e) + added a0 a1 a2 n h (ix4 b k d e) = _
    rw [factor_apply, added_apply, v37_apply, v39_apply, stateArr_apply b k d e n, mul_comm]
    rfl

end Cert.ReferenceGlaFwdIdeal.Chunks
-- ==== Proof.GlaStack.lean ====
module

public import proofs.«01_k».proof.Proof.GlaRef

@[expose] public section

set_option maxRecDepth 16384

noncomputable section

open Idealize.ShloMosaic Idealize.ShloMosaic.TcCoe Idealize.SL.Sem

namespace Cert.ReferenceGlaFwdIdeal.Chunks
open Cert.ReferenceGlaFwdIdeal Cert.ReferenceGlaFwdIdeal.Gen Cert.ReferenceGlaFwdIdeal.Read Cert.GlaMath

variable (a0 : FVec Ideal S2x2048x5552 .f32) (a1 : FVec Ideal S1x16x512 .f32) (a2 : FVec Ideal S1x512 .f32) (a3 : FVec Ideal S1x256 .f32)

/-! ### The states stacked -/

/-- Sixteen arrays stacked along the first axis. -/
abbrev sixteen {α : Type} (g : Fin 16 → S1x2x4x128x256.Idx → α) : List ((s : Shape) × (s.Idx → α)) :=
  [⟨S1x2x4x128x256, g 0⟩, ⟨S1x2x4x128x256, g 1⟩, ⟨S1x2x4x128x256, g 2⟩, ⟨S1x2x4x128x256, g 3⟩, ⟨S1x2x4x128x256, g 4⟩, ⟨S1x2x4x128x256, g 5⟩,
    ⟨S1x2x4x128x256, g 6⟩, ⟨S1x2x4x128x256, g 7⟩, ⟨S1x2x4x128x256, g 8⟩, ⟨S1x2x4x128x256, g 9⟩, ⟨S1x2x4x128x256, g 10⟩, ⟨S1x2x4x128x256, g 11⟩,
    ⟨S1x2x4x128x256, g 12⟩, ⟨S1x2x4x128x256, g 13⟩, ⟨S1x2x4x128x256, g 14⟩, ⟨S1x2x4x128x256, g 15⟩]

theorem sixteen_get {α : Type} (g : Fin 16 → S1x2x4x128x256.Idx → α) (n : Fin 16) : (sixteen g)[n.val]'n.isLt = ⟨S1x2x4x128x256, g n⟩ := by
  have h : sixteen g = List.ofFn fun i : Fin 16 => (⟨S1x2x4x128x256, g i⟩ : (s : Shape) × (s.Idx → α)) := by
    simp [List.ofFn_succ]
  simp only [h, List.getElem_ofFn]

theorem sixteen_before {α : Type} (g : Fin 16 → S1x2x4x128x256.Idx → α) (n : Fin 16) : ((((sixteen g).take n.val).map (·.1)).map fun s : Shape =>
      if h : s.rank = 5 then s.size ((0 : Fin 5).cast h.symm) else 0).sum = n.val := by
  have h : (sixteen g).map (·.1) = List.replicate 16 S1x2x4x128x256 := rfl
  rw [List.map_take, h, List.take_replicate, List.map_replicate, List.sum_replicate]
  show min n.val 16 * 1 = n.val
  omega

theorem sixteen_apply {α : Type} (g : Fin 16 → S1x2x4x128x256.Idx → α) (h : Shape.Concatenates ((sixteen g).map (·.1)) S16x2x4x128x256 0)
    (n : Fin 16) (b k d e) : concatenate S16x2x4x128x256 0 (sixteen g) h (ix5 n b k d e) = g n (ix5 0 b k d e) :=
  concatenate_apply_piece (t := S16x2x4x128x256) (0 : Fin 5) (sixteen g) h (ix5 n b k d e) n.val n.isLt _ (g n) (sixteen_get g n) rfl n.val
    (sixteen_before g n) (ix5 0 b k d e) (fun a ha => by match a with | ⟨0, _⟩ => exact absurd rfl ha | ⟨1, _⟩ => rfl | ⟨2, _⟩ => rfl | ⟨3, _⟩ => rfl | ⟨4, _⟩ => rfl) (Nat.add_zero _)

/-- The states after the sixteen chunks from chunk `lo`. -/
def piece (lo : ℕ) (h : lo + 16 ≤ 32) (n : Fin 16) : S1x2x4x128x256.Idx → Elt Ideal .f32 :=
  broadcastInDim S1x2x4x128x256 ![1, 2, 3, 4] bcast_S2x4x128x256_S1x2x4x128x256_1_2_3_4 (stateArr a0 a1 a2 (lo + n.val + 1) (by omega))

theorem piece_apply (lo h n b k d e) : piece a0 a1 a2 lo h n (ix5 0 b k d e) = stateArr a0 a1 a2 (lo + n.val + 1) (by omega) (ix4 b k d e) := by
  unfold piece
  generalize stateArr a0 a1 a2 _ _ = z
  pointwise

theorem v329_apply (n b k d e) : val_main_v329 (F := Ideal) a0 a1 a2 (ix5 n b k d e) = stateArr a0 a1 a2 (0 + n.val + 1) (by omega) (ix4 b k d e) :=
  (show _ = concatenate S16x2x4x128x256 0 (sixteen (piece a0 a1 a2 0 (by omega))) _ _ from rfl).trans
    ((sixteen_apply _ concatenates_S1x2x4x128x256_S1x2x4x128x256_S1x2x4x128x256_S1x2x4x128x256_S1x2x4x128x256_S1x2x4x128x256_S1x2x4x128x256_S1x2x4x128x256_S1x2x4x128x256_S1x2x4x128x256_S1x2x4x128x256_S1x2x4x128x256_S1x2x4x128x256_S1x2x4x128x256_S1x2x4x128x256_S1x2x4x128x256_S16x2x4x128x256_d0 n b k d e).trans (piece_apply ..))

theorem v330_apply (n b k d e) : val_main_v330 (F := Ideal) a0 a1 a2 (ix5 n b k d e) = stateArr a0 a1 a2 (16 + n.val + 1) (by omega) (ix4 b k d e) :=
  (show _ = concatenate S16x2x4x128x256 0 (sixteen (piece a0 a1 a2 16 (by omega))) _ _ from rfl).trans
    ((sixteen_apply _ _ n b k d e).trans (piece_apply ..))

theorem v332_apply (n b k d e) : val_main_v332 (F := Ideal) a0 a1 a2 (ix5 n b k d e) =
    state (decays a0 a1 a2 b k) (keys a0 b k) (values a0 b k) (n.val + 1) e d := by
  rw [← stateArr_apply a0 a1 a2 b k d e (n.val + 1) (by omega)]
  have e1 : val_main_v332 (F := Ideal) a0 a1 a2 (ix5 n b k d e) = val_main_v331 (F := Ideal) a0 a1 a2 (ix5 n b k d e) := by
    unfold val_main_v332
    generalize val_main_v331 (F := Ideal) a0 a1 a2 = z
    exact concatenate_apply_piece (t := S32x2x4x128x256) (0 : Fin 5) _ _ _ 1 (by show _ < 2; omega) S32x2x4x128x256 z rfl rfl 0 rfl (ix5 n b k d e)
      (fun a ha => rfl) (Nat.zero_add _)
  rw [e1]
  by_cases h : n.val < 16
  · have e2 : val_main_v331 (F := Ideal) a0 a1 a2 (ix5 n b k d e) = val_main_v329 (F := Ideal) a0 a1 a2 (ix5 ⟨n.val, h⟩ b k d e) := by
      unfold val_main_v331
      generalize val_main_v329 (F := Ideal) a0 a1 a2 = z
      exact concatenate_apply_piece (t := S32x2x4x128x256) (0 : Fin 5) _ _ _ 0 (by show _ < 2; omega) S16x2x4x128x256 z rfl rfl 0 rfl (ix5 ⟨n.val, h⟩ b k d e)
        (fun a ha => by match a with | ⟨0, _⟩ => exact absurd rfl ha | ⟨1, _⟩ => rfl | ⟨2, _⟩ => rfl | ⟨3, _⟩ => rfl | ⟨4, _⟩ => rfl) (Nat.zero_add _)
    rw [e2, v329_apply]
    congr 1
    show 0 + n.val + 1 = n.val + 1
    omega
  · have e2 : val_main_v331 (F := Ideal) a0 a1 a2 (ix5 n b k d e) = val_main_v330 (F := Ideal) a0 a1 a2 (ix5 ⟨n.val - 16, by omega⟩ b k d e) := by
      unfold val_main_v331
      generalize val_main_v330 (F := Ideal) a0 a1 a2 = z
      exact concatenate_apply_piece (t := S32x2x4x128x256) (0 : Fin 5) _ _ _ 1 (by show _ < 2; omega) S16x2x4x128x256 z rfl rfl 16 rfl (ix5 ⟨n.val - 16, by omega⟩ b k d e)
        (fun a ha => by match a with | ⟨0, _⟩ => exact absurd rfl ha | ⟨1, _⟩ => rfl | ⟨2, _⟩ => rfl | ⟨3, _⟩ => rfl | ⟨4, _⟩ => rfl) (by show 16 + (n.val - 16) = n.val; omega)
    rw [e2, v330_apply]
    congr 1
    show 16 + (n.val - 16) + 1 = n.val + 1
    omega

end Cert.ReferenceGlaFwdIdeal.Chunks
-- ==== Proof.GlaResults.lean ====
module

public import proofs.«01_k».proof.Proof.GlaStack

@[expose] public section

set_option maxRecDepth 16384

noncomputable section

open Idealize.ShloMosaic Idealize.ShloMosaic.TcCoe Idealize.SL.Sem

namespace Cert.ReferenceGlaFwdIdeal.Chunks
open Cert.ReferenceGlaFwdIdeal Cert.ReferenceGlaFwdIdeal.Gen Cert.ReferenceGlaFwdIdeal.Read Cert.GlaMath

variable (a0 : FVec Ideal S2x2048x5552 .f32) (a1 : FVec Ideal S1x16x512 .f32) (a2 : FVec Ideal S1x512 .f32) (a3 : FVec Ideal S1x256 .f32)

/-! ### The three results -/

theorem v356_apply (b k n e d) : val_main_v356 (F := Ideal) a0 a1 a2 (ix5 b k n e d) =
    state (decays a0 a1 a2 b k) (keys a0 b k) (values a0 b k) (n.val + 1) e d := by
  rw [← v332_apply]
  unfold val_main_v356
  generalize val_main_v332 (F := Ideal) a0 a1 a2 = z
  pointwise

/-- Row `j` is row `j % 64` of chunk `j / 64`. -/
theorem row_split (j : Fin 2048) : row (j.val / 64) ⟨j.val % 64, by omega⟩ = j :=
  Fin.ext (by show (64 * (j.val / 64) + j.val % 64) % 2048 = j.val; omega)

theorem v335_apply (b j k e) : val_main_v335 (F := Ideal) a0 a1 a2 (ix4 b j k e) =
    out (decays a0 a1 a2 b k) (keys a0 b k) (values a0 b k) (queries a0 b k) j e := by
  have h : val_main_v335 (F := Ideal) a0 a1 a2 (ix4 b j k e) = val_main_v333 (F := Ideal) a0 a1 a2 (ix5 b ⟨j.val / 64, by omega⟩ k e ⟨j.val % 64, by omega⟩) := by
    unfold val_main_v335 val_main_v334
    generalize val_main_v333 (F := Ideal) a0 a1 a2 = z
    refine (shapeCast_apply _ _ _ (ix5 b ⟨j.val / 64, by omega⟩ ⟨j.val % 64, by omega⟩ k e) ?_).trans ?_
    · rw [Shape.rowMajor_val_five, Shape.rowMajor_val_four]
      show (((b.val * 32 + j.val / 64) * 64 + j.val % 64) * 4 + k.val) * 256 + e.val = ((b.val * 2048 + j.val) * 4 + k.val) * 256 + e.val
      omega
    · pointwise
  rw [h, val_main_v333_apply]
  unfold out
  refine Finset.sum_congr rfl fun d _ => ?_
  have l : lidx_main_v333 (ix5 b ⟨j.val / 64, by omega⟩ k e ⟨j.val % 64, by omega⟩) d = ix5 ⟨j.val / 64, by omega⟩ b k d e := by
    funext a; match a with | ⟨0, _⟩ => rfl | ⟨1, _⟩ => rfl | ⟨2, _⟩ => rfl | ⟨3, _⟩ => rfl | ⟨4, _⟩ => rfl
  have r : ridx_main_v333 (ix5 b ⟨j.val / 64, by omega⟩ k e ⟨j.val % 64, by omega⟩) d = ix5 b ⟨j.val / 64, by omega⟩ ⟨j.val % 64, by omega⟩ k d := by
    funext a; match a with | ⟨0, _⟩ => rfl | ⟨1, _⟩ => rfl | ⟨2, _⟩ => rfl | ⟨3, _⟩ => rfl | ⟨4, _⟩ => rfl
  rw [l, r, v332_apply, v11_apply]
  show _ * (queries a0 b k (row (j.val / 64) ⟨j.val % 64, by omega⟩) d * _) = _
  rw [row_split, mul_comm]

theorem flat_apply {α : Type} (x : S2x2048x4x256.Idx → α) (b j k e) :
    shapeCast S2x2048x1024 x shapeCasts_S2x2048x4x256_S2x2048x1024 (ix3 b j (lane 0 256 1024 k e)) = x (ix4 b j k e) := by
  refine shapeCast_apply _ _ _ _ ?_
  rw [Shape.rowMajor_val_four, Shape.rowMajor_val_three]
  show ((b.val * 2048 + j.val) * 4 + k.val) * 256 + e.val = (b.val * 2048 + j.val) * 1024 + (0 + (k.val * 256 + e.val))
  omega

theorem v353_apply (b j k e) : val_main_v353 (F := Ideal) a0 a1 a2 (ix3 b j (lane 0 256 1024 k e)) =
    out (decays a0 a1 a2 b k) (keys a0 b k) (values a0 b k) (queries a0 b k) j e :=
  (flat_apply (val_main_v335 (F := Ideal) a0 a1 a2) b j k e).trans (v335_apply ..)

theorem v350_apply (b j k e) : val_main_v350 (F := Ideal) a0 (ix4 b j k e) = gates a0 b k j e := by
  unfold gates lane
  unfold val_main_v350
  refine (shapeCast_apply _ _ _ (ix3 b j ⟨k.val * 256 + e.val, by omega⟩) ?_).trans ?_
  · rw [Shape.rowMajor_val_four, Shape.rowMajor_val_three]
    show (b.val * 2048 + j.val) * 1024 + (k.val * 256 + e.val) = ((b.val * 2048 + j.val) * 4 + k.val) * 256 + e.val
    omega
  · pointwise [val_main_v3]

theorem v355_eq (b j k e) : val_main_v355 (F := Ideal) a0 a1 a2 a3 (ix3 b j (lane 0 256 1024 k e)) = val_main_v352 (F := Ideal) a0 a1 a2 a3 (ix4 b j k e) := by
  unfold val_main_v355 val_main_v354
  generalize val_main_v352 (F := Ideal) a0 a1 a2 a3 = x
  exact flat_apply x b j k e

/-- A result divided by the root of its mean square. -/
def normed (z : FVec Ideal S2x2048x4x256 .f32) : FVec Ideal S2x2048x4x256 .f32 :=
  mulf z (broadcastInDim S2x2048x4x256 ![0, 1, 2, 3] bcast_S2x2048x4x1_S2x2048x4x256_0_1_2_3
    (Host.rsqrt (addf (Host.divf (broadcastInDim S2x2048x4x1 ![0, 1, 2] bcast_S2x2048x4_S2x2048x4x1_0_1_2
      (Host.reduceAdd (mulf z z) (val_main_cst_3 (F := Ideal)) reducesTo_S2x2048x4x256_S2x2048x4_d3 h_S_)) (val_main_v340 (F := Ideal))) (val_main_v342 (F := Ideal)))))

theorem normed_apply (z : FVec Ideal S2x2048x4x256 .f32) (b j k e) : normed z (ix4 b j k e) =
    z (ix4 b j k e) * Ideal.rsqrt (Ideal.div (∑ x, z (ix4 b j k x) * z (ix4 b j k x)) (Ideal.ofBits .f32 0x43800000#32) + Ideal.ofBits .f32 0x358637BD#32) := by
  unfold normed val_main_v342 val_main_v340 val_main_cst_3 val_main_cst_4 val_main_cst_5
  pointwise

theorem v346_eq : val_main_v346 (F := Ideal) a0 a1 a2 = normed (val_main_v335 (F := Ideal) a0 a1 a2) := rfl

theorem v348_eq (b j k e) : val_main_v348 (F := Ideal) a3 (ix4 b j k e) = a3 (ix2 0 e) := by
  pointwise [val_main_v348, val_main_v347, val_main_v336]

theorem v351_eq (b j k e) : val_main_v351 (F := Ideal) a0 (ix4 b j k e) = gates a0 b k j e * Ideal.div 1 (1 + Ideal.exp (0 - gates a0 b k j e)) := by
  rw [← v350_apply, zero_sub]
  unfold val_main_v351 val_main_call2_v5 val_main_call2_v4 val_main_call2_cst_0 val_main_call2_v3 val_main_call2_v2 val_main_call2_cst val_main_call2_v1 val_main_call2_v0
  generalize val_main_v350 (F := Ideal) a0 = y
  pointwise

theorem product_apply {s : Shape} (x y z : FVec Ideal s .f32) (i : s.Idx) : mulf (mulf x y) z i = x i * y i * z i := rfl

theorem v352_eq : val_main_v352 (F := Ideal) a0 a1 a2 a3 =
    mulf (mulf (normed (val_main_v335 (F := Ideal) a0 a1 a2)) (val_main_v348 (F := Ideal) a3)) (val_main_v351 (F := Ideal) a0) := rfl

theorem v355_apply (b j k e) : val_main_v355 (F := Ideal) a0 a1 a2 a3 (ix3 b j (lane 0 256 1024 k e)) =
    gated (out (decays a0 a1 a2 b k) (keys a0 b k) (values a0 b k) (queries a0 b k)) (gates a0 b k) (fun x => a3 (ix2 0 x)) j e := by
  rw [v355_eq, v352_eq, product_apply, normed_apply, v348_eq, v351_eq]
  simp only [v335_apply]
  rfl

end Cert.ReferenceGlaFwdIdeal.Chunks
-- ==== Proof.GlaFwd.lean ====
module

public import proofs.«01_k».proof.Proof.GlaChunk
public import proofs.«01_k».proof.Proof.GlaWindows
public import proofs.«01_k».proof.Proof.GlaResults

@[expose] public section

set_option maxRecDepth 16384

noncomputable section

open Idealize.ShloMosaic Idealize.ShloMosaic.TcCoe Idealize.SL.Sem
open Idealize.ShloMosaic.Pipeline (Dat)

namespace Cert.KernelGlaFwdIdeal.Chunks
open Cert.KernelGlaFwdIdeal Cert.KernelGlaFwdIdeal.Gen Cert.GlaMath Cert.ReferenceGlaFwdIdeal.Chunks

variable (m : (ℓ : Loc nD τ sig) → Buf (Elt Ideal) ℓ)

/-! ### The arrays the kernel writes are the reference's -/

section
variable (c : Dev nD) (t : Fin cfg0.N)

theorem first_lane {n w : ℕ} (k : Fin 4) (x : Fin n) (h) (h') : (⟨k.val * n + x.val, h⟩ : Fin w) = lane 0 n w k x h' :=
  Fin.ext (Nat.zero_add _).symm

/-- A sum over lanes of which only the first sixteen count. -/
theorem sum_first (f : Fin 128 → EReal) (g : Fin 16 → EReal) (h1 : ∀ i : Fin 16, f ⟨i.val, by omega⟩ = g i) (h2 : ∀ i : Fin 128, 16 ≤ i.val → f i = 0) :
    ∑ i, f i = ∑ i, g i := by
  refine (Fin.sum_univ_add (a := 16) (b := 112) f).trans ?_
  exact (congrArg₂ (fun x y : EReal => x + y) (Finset.sum_congr rfl fun i _ => h1 i)
    (Finset.sum_eq_zero fun i _ => h2 _ (Nat.le_add_right 16 i.val))).trans (add_zero _)

theorem decay_block (j d) : k0_pay2 (F := Ideal) (iblk m c 4 t) (iblk m c 5 t) (iblk m c 6 t) (ix2 j d) =
    decays (projArg m c) (weightArg m c) (biasArg m c) (bat t) (head t) j d := by
  refine (Chunks.decay_apply (iblk m c 4 t) (iblk m c 5 t) (iblk m c 6 t) j d).trans (congrArg logDecay ?_)
  unfold logit
  refine congrArg₂ (fun x y : EReal => x + y) ?_ ((block6 m c t d).trans (congrArg (fun k => biasArg m c (ix2 0 k)) (first_lane ..)))
  refine sum_first _ _ (fun i => ?_) fun i hi => ?_
  · refine congrArg₂ (fun x y : EReal => x * y) (block4 m c t j i) ((block5 m c t _ d).trans ?_)
    rw [dif_pos i.isLt]
    exact congrArg (fun k => weightArg m c (ix3 0 i k)) (first_lane ..)
  · refine (congrArg₂ (fun x y : EReal => x * y) rfl ((block5 m c t i d).trans (dif_neg (by omega)))).trans (mul_zero _)

theorem query_block (j d) : (iblk m c 0 t : Vec Ideal S1x2048x128 .bf16) (ix3 0 j d) = queries (projArg m c) (bat t) (head t) j d :=
  (block0 m c t j d).trans (congrArg (fun k => projArg m c (ix3 (bat t) j k)) (first_lane ..))

theorem key_block (j d) : (iblk m c 1 t : Vec Ideal S1x2048x128 .bf16) (ix3 0 j d) = Cert.ReferenceGlaFwdIdeal.Chunks.keys (projArg m c) (bat t) (head t) j d := block1 m c t j d
theorem value_block (j e) : (X0_2 m c t : Vec Ideal S1x2048x256 .bf16) (ix3 0 j e) = values (projArg m c) (bat t) (head t) j e := block2 m c t j e
theorem gate_block (j e) : (X0_3 m c t : Vec Ideal S1x2048x256 .bf16) (ix3 0 j e) = gates (projArg m c) (bat t) (head t) j e := block3 m c t j e

end

theorem point3 {a b : ℕ} (y : (⟨3, ![1, a, b]⟩ : Shape).Idx) : ∃ (j : Fin a) (e : Fin b), y = ix3 0 j e :=
  ⟨y 1, y 2, funext fun i => match i with | ⟨0, _⟩ => Subsingleton.elim (α := Fin 1) _ _ | ⟨1, _⟩ => rfl | ⟨2, _⟩ => rfl⟩

theorem point5 {a b d : ℕ} (y : (⟨5, ![1, 1, a, b, d]⟩ : Shape).Idx) : ∃ (n : Fin a) (j : Fin b) (e : Fin d), y = ix5 0 0 n j e :=
  ⟨y 2, y 3, y 4, funext fun i => match i with
    | ⟨0, _⟩ => Subsingleton.elim (α := Fin 1) _ _ | ⟨1, _⟩ => Subsingleton.elim (α := Fin 1) _ _ | ⟨2, _⟩ => rfl | ⟨3, _⟩ => rfl | ⟨4, _⟩ => rfl⟩

set_option maxHeartbeats 1000000 in
theorem final_8 (c : Dev nD) : (dats m 0 c).arrAt 8 (cfgs 0).N = Cert.ReferenceGlaFwdIdeal.Read.val_main_v353 (F := Ideal) (projArg m c) (weightArg m c) (biasArg m c) := by
  refine (dats m 0 c).arrAt_eq_of_covers 8 _ (by decide +kernel) fun t hf y => ?_
  obtain ⟨j, e, rfl⟩ := point3 y
  have hy : ((cfg0.win 8).blk t).view.emb (ix3 0 j e) = ix3 (bat t) j (lane 0 256 1024 (head t) e) := by
    have e := idx t
    blk_ext [e, lane, bat, head]
  rw [hy, v353_apply]
  blk_simp
  rw [after0_8]
  exact out_apply m c t (decay_block m c t) (query_block m c t) (key_block m c t) (value_block m c t) j e

set_option maxHeartbeats 1000000 in
theorem final_9 (c : Dev nD) : (dats m 0 c).arrAt 9 (cfgs 0).N = Cert.ReferenceGlaFwdIdeal.Read.val_main_v355 (F := Ideal) (projArg m c) (weightArg m c) (biasArg m c) (gainArg m c) := by
  refine (dats m 0 c).arrAt_eq_of_covers 9 _ (by decide +kernel) fun t hf y => ?_
  obtain ⟨j, e, rfl⟩ := point3 y
  have hy : ((cfg0.win 9).blk t).view.emb (ix3 0 j e) = ix3 (bat t) j (lane 0 256 1024 (head t) e) := by
    have e := idx t
    blk_ext [e, lane, bat, head]
  rw [hy, v355_apply]
  blk_simp
  rw [after0_9]
  exact gated_apply m c t (decay_block m c t) (query_block m c t) (key_block m c t) (value_block m c t) (gate_block m c t) (block7 m c t) j e

set_option maxHeartbeats 1000000 in
theorem final_10 (c : Dev nD) : (dats m 0 c).arrAt 10 (cfgs 0).N = Cert.ReferenceGlaFwdIdeal.Read.val_main_v356 (F := Ideal) (projArg m c) (weightArg m c) (biasArg m c) := by
  refine (dats m 0 c).arrAt_eq_of_covers 10 _ (by decide +kernel) fun t hf y => ?_
  obtain ⟨n, e, d, rfl⟩ := point5 y
  have hy : ((cfg0.win 10).blk t).view.emb (ix5 0 0 n e d) = ix5 (bat t) (head t) n e d := by
    have e := idx t
    blk_ext [e, bat, head]
  rw [hy, v356_apply]
  blk_simp
  rw [after0_10]
  exact state_apply m c t (decay_block m c t) (key_block m c t) (value_block m c t) n e d

end Cert.KernelGlaFwdIdeal.Chunks
-- ==== Proof.GlaFwdClaim.lean ====
module

public import proofs.«01_k».proof.Defs
public import proofs.«01_k».proof.Proof.GlaFwd
public import proofs.«01_k».proof.Proof.Gen.ReferenceGlaFwdIdeal.Run
public import Idealize.ShloMosaic.Init
public import Idealize.ShloMosaic.Adequacy

@[expose] public section

set_option maxRecDepth 16384

/-! The claims about the forward recurrence, from the two programs' runs. -/

namespace Cert.Proof.GlaFwd

open Idealize.ShloMosaic Idealize.ShloMosaic.TcCoe Idealize.SL.Sem

section
open Cert.ReferenceGlaFwdIdeal Cert.ReferenceGlaFwdIdeal.Read

/-- The reference's run with each result named by its stage. -/
theorem run_stages (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v353) = val_main_v353 (F := Ideal) (m ((c.tc : Thread nD τ).loc main_arg0)) (m ((c.tc : Thread nD τ).loc main_arg1)) (m ((c.tc : Thread nD τ).loc main_arg2))
      ∧ r.2.mem ((c.tc : Thread nD τ).loc main_v355) = val_main_v355 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v356) = val_main_v356 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ReferenceGlaFwdIdeal.Value.run m g)

end

theorem frame_reference : Cert.quiescent_ReferenceGlaFwdIdeal := fun m g _ =>
  (θ_run Cert.ReferenceGlaFwdIdeal.defs _ _).mono
    (fun r h => ⟨fun c => (h c).2.2.2, sem_eq_zero_of_no_sems (by decide) r.2⟩) (run_stages m g)

theorem algebraic : Cert.algebraic_KernelGlaFwdIdeal_ReferenceGlaFwdIdeal := by
  intro m g m' g' hpre hagree
  refine ⟨_, _, _, Cert.KernelGlaFwdIdeal.Value.run_blocks m g,
    (θ_run Cert.ReferenceGlaFwdIdeal.defs _ _).mono (fun r h c => ?_) (run_stages m' g')⟩
  obtain ⟨e0, e1, e2, e3⟩ := hagree c
  obtain ⟨h0, h1, h2, hargs⟩ := h c
  rw [e0, e1, e2] at h0
  rw [e0, e1, e2, e3] at h1
  rw [e0, e1, e2] at h2
  exact ⟨h0.trans (KernelGlaFwdIdeal.Chunks.final_8 m c).symm,
    h1.trans (KernelGlaFwdIdeal.Chunks.final_9 m c).symm,
    h2.trans (KernelGlaFwdIdeal.Chunks.final_10 m c).symm, hargs⟩

end Cert.Proof.GlaFwd
-- ==== Proof.lean ====
module

public import proofs.«01_k».proof.Defs
public import proofs.«01_k».proof.Proof.MergeClaim
public import proofs.«01_k».proof.Proof.AttnClaim
public import proofs.«01_k».proof.Proof.AttnFwdClaim
public import proofs.«01_k».proof.Proof.LatClaim
public import proofs.«01_k».proof.Proof.Norm1Claim
public import proofs.«01_k».proof.Proof.Norm2Claim
public import proofs.«01_k».proof.Proof.LossClaim
public import proofs.«01_k».proof.Proof.Relu2Claim
public import proofs.«01_k».proof.Proof.QkClaim
public import proofs.«01_k».proof.Proof.MergeFwdClaim
public import proofs.«01_k».proof.Proof.Norm1FwdClaim
public import proofs.«01_k».proof.Proof.Norm2FwdClaim
public import proofs.«01_k».proof.Proof.LatFwdClaim
public import proofs.«01_k».proof.Proof.QkFwdClaim
public import proofs.«01_k».proof.Proof.AdamClaim
public import proofs.«01_k».proof.Proof.ProjClaim
public import proofs.«01_k».proof.Proof.ProjDxClaim
public import proofs.«01_k».proof.Proof.ProjDwClaim
public import proofs.«01_k».proof.Proof.GlaFwdClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelAttn
public import proofs.«01_k».proof.Proof.Gen.KernelAttn.Skeleton
public import proofs.«01_k».proof.Proof.Gen.KernelAttn.Launch
public import proofs.«01_k».proof.Proof.Gen.KernelAttn.Points
public import proofs.«01_k».proof.Proof.Gen.KernelAttn.Frame
public import proofs.«01_k».proof.Proof.Gen.KernelAttnIdeal
public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.ReferenceAttnIdeal
public import proofs.«01_k».proof.Proof.Gen.KernelAttnFwd
public import proofs.«01_k».proof.Proof.Gen.KernelAttnFwd.Skeleton
public import proofs.«01_k».proof.Proof.Gen.KernelAttnFwd.Launch
public import proofs.«01_k».proof.Proof.Gen.KernelAttnFwd.Points
public import proofs.«01_k».proof.Proof.Gen.KernelAttnFwd.Frame
public import proofs.«01_k».proof.Proof.Gen.KernelAttnFwdIdeal
public import proofs.«01_k».proof.Proof.Gen.KernelAttnFwdIdeal.Skeleton
public import proofs.«01_k».proof.Proof.Gen.KernelAttnFwdIdeal.Launch
public import proofs.«01_k».proof.Proof.Gen.KernelAttnFwdIdeal.Points
public import proofs.«01_k».proof.Proof.Gen.KernelAttnFwdIdeal.Frame
public import proofs.«01_k».proof.Proof.Gen.ReferenceAttnFwdIdeal
public import proofs.«01_k».proof.Proof.Gen.KernelLat
public import proofs.«01_k».proof.Proof.Gen.KernelLat.Skeleton
public import proofs.«01_k».proof.Proof.Gen.KernelLat.Launch
public import proofs.«01_k».proof.Proof.Gen.KernelLat.Points
public import proofs.«01_k».proof.Proof.Gen.KernelLat.Frame
public import proofs.«01_k».proof.Proof.Gen.KernelLatIdeal
public import proofs.«01_k».proof.Proof.Gen.KernelLatIdeal.Skeleton
public import proofs.«01_k».proof.Proof.Gen.KernelLatIdeal.Launch
public import proofs.«01_k».proof.Proof.Gen.KernelLatIdeal.Points
public import proofs.«01_k».proof.Proof.Gen.KernelLatIdeal.Frame
public import proofs.«01_k».proof.Proof.Gen.ReferenceLatIdeal
public import proofs.«01_k».proof.Proof.Gen.KernelNorm1
public import proofs.«01_k».proof.Proof.Gen.KernelNorm1.Skeleton
public import proofs.«01_k».proof.Proof.Gen.KernelNorm1.Launch
public import proofs.«01_k».proof.Proof.Gen.KernelNorm1.Points
public import proofs.«01_k».proof.Proof.Gen.KernelNorm1.Frame
public import proofs.«01_k».proof.Proof.Gen.KernelNorm1Ideal
public import proofs.«01_k».proof.Proof.Gen.KernelNorm1Ideal.Skeleton
public import proofs.«01_k».proof.Proof.Gen.KernelNorm1Ideal.Launch
public import proofs.«01_k».proof.Proof.Gen.KernelNorm1Ideal.Points
public import proofs.«01_k».proof.Proof.Gen.KernelNorm1Ideal.Frame
public import proofs.«01_k».proof.Proof.Gen.ReferenceNorm1Ideal
public import proofs.«01_k».proof.Proof.Gen.KernelNorm2
public import proofs.«01_k».proof.Proof.Gen.KernelNorm2.Skeleton
public import proofs.«01_k».proof.Proof.Gen.KernelNorm2.Launch
public import proofs.«01_k».proof.Proof.Gen.KernelNorm2.Points
public import proofs.«01_k».proof.Proof.Gen.KernelNorm2.Frame
public import proofs.«01_k».proof.Proof.Gen.KernelNorm2Ideal
public import proofs.«01_k».proof.Proof.Gen.KernelNorm2Ideal.Skeleton
public import proofs.«01_k».proof.Proof.Gen.KernelNorm2Ideal.Launch
public import proofs.«01_k».proof.Proof.Gen.KernelNorm2Ideal.Points
public import proofs.«01_k».proof.Proof.Gen.KernelNorm2Ideal.Frame
public import proofs.«01_k».proof.Proof.Gen.ReferenceNorm2Ideal
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.KernelRelu2
public import proofs.«01_k».proof.Proof.Gen.KernelRelu2.Skeleton
public import proofs.«01_k».proof.Proof.Gen.KernelRelu2.Launch
public import proofs.«01_k».proof.Proof.Gen.KernelRelu2.Points
public import proofs.«01_k».proof.Proof.Gen.KernelRelu2.Frame
public import proofs.«01_k».proof.Proof.Gen.KernelRelu2Ideal
public import proofs.«01_k».proof.Proof.Gen.KernelRelu2Ideal.Skeleton
public import proofs.«01_k».proof.Proof.Gen.KernelRelu2Ideal.Launch
public import proofs.«01_k».proof.Proof.Gen.KernelRelu2Ideal.Points
public import proofs.«01_k».proof.Proof.Gen.KernelRelu2Ideal.Frame
public import proofs.«01_k».proof.Proof.Gen.ReferenceRelu2Ideal
public import proofs.«01_k».proof.Proof.Gen.KernelQk
public import proofs.«01_k».proof.Proof.Gen.KernelQk.Skeleton
public import proofs.«01_k».proof.Proof.Gen.KernelQk.Launch
public import proofs.«01_k».proof.Proof.Gen.KernelQk.Points
public import proofs.«01_k».proof.Proof.Gen.KernelQk.Frame
public import proofs.«01_k».proof.Proof.Gen.KernelQkIdeal
public import proofs.«01_k».proof.Proof.Gen.KernelQkIdeal.Skeleton
public import proofs.«01_k».proof.Proof.Gen.KernelQkIdeal.Launch
public import proofs.«01_k».proof.Proof.Gen.KernelQkIdeal.Points
public import proofs.«01_k».proof.Proof.Gen.KernelQkIdeal.Frame
public import proofs.«01_k».proof.Proof.Gen.ReferenceQkIdeal
public import proofs.«01_k».proof.Proof.Gen.KernelMergeFwd
public import proofs.«01_k».proof.Proof.Gen.KernelMergeFwd.Skeleton
public import proofs.«01_k».proof.Proof.Gen.KernelMergeFwd.Launch
public import proofs.«01_k».proof.Proof.Gen.KernelMergeFwd.Points
public import proofs.«01_k».proof.Proof.Gen.KernelMergeFwd.Frame
public import proofs.«01_k».proof.Proof.Gen.KernelMergeFwdIdeal
public import proofs.«01_k».proof.Proof.Gen.KernelMergeFwdIdeal.Skeleton
public import proofs.«01_k».proof.Proof.Gen.KernelMergeFwdIdeal.Launch
public import proofs.«01_k».proof.Proof.Gen.KernelMergeFwdIdeal.Points
public import proofs.«01_k».proof.Proof.Gen.KernelMergeFwdIdeal.Frame
public import proofs.«01_k».proof.Proof.Gen.ReferenceMergeFwdIdeal
public import proofs.«01_k».proof.Proof.Gen.KernelNorm1Fwd
public import proofs.«01_k».proof.Proof.Gen.KernelNorm1Fwd.Skeleton
public import proofs.«01_k».proof.Proof.Gen.KernelNorm1Fwd.Launch
public import proofs.«01_k».proof.Proof.Gen.KernelNorm1Fwd.Points
public import proofs.«01_k».proof.Proof.Gen.KernelNorm1Fwd.Frame
public import proofs.«01_k».proof.Proof.Gen.KernelNorm1FwdIdeal
public import proofs.«01_k».proof.Proof.Gen.KernelNorm1FwdIdeal.Skeleton
public import proofs.«01_k».proof.Proof.Gen.KernelNorm1FwdIdeal.Launch
public import proofs.«01_k».proof.Proof.Gen.KernelNorm1FwdIdeal.Points
public import proofs.«01_k».proof.Proof.Gen.KernelNorm1FwdIdeal.Frame
public import proofs.«01_k».proof.Proof.Gen.ReferenceNorm1FwdIdeal
public import proofs.«01_k».proof.Proof.Gen.KernelNorm2Fwd
public import proofs.«01_k».proof.Proof.Gen.KernelNorm2Fwd.Skeleton
public import proofs.«01_k».proof.Proof.Gen.KernelNorm2Fwd.Launch
public import proofs.«01_k».proof.Proof.Gen.KernelNorm2Fwd.Points
public import proofs.«01_k».proof.Proof.Gen.KernelNorm2Fwd.Frame
public import proofs.«01_k».proof.Proof.Gen.KernelNorm2FwdIdeal
public import proofs.«01_k».proof.Proof.Gen.KernelNorm2FwdIdeal.Skeleton
public import proofs.«01_k».proof.Proof.Gen.KernelNorm2FwdIdeal.Launch
public import proofs.«01_k».proof.Proof.Gen.KernelNorm2FwdIdeal.Points
public import proofs.«01_k».proof.Proof.Gen.KernelNorm2FwdIdeal.Frame
public import proofs.«01_k».proof.Proof.Gen.ReferenceNorm2FwdIdeal
public import proofs.«01_k».proof.Proof.Gen.KernelLatFwd
public import proofs.«01_k».proof.Proof.Gen.KernelLatFwd.Skeleton
public import proofs.«01_k».proof.Proof.Gen.KernelLatFwd.Launch
public import proofs.«01_k».proof.Proof.Gen.KernelLatFwd.Points
public import proofs.«01_k».proof.Proof.Gen.KernelLatFwd.Frame
public import proofs.«01_k».proof.Proof.Gen.KernelLatFwdIdeal
public import proofs.«01_k».proof.Proof.Gen.KernelLatFwdIdeal.Skeleton
public import proofs.«01_k».proof.Proof.Gen.KernelLatFwdIdeal.Launch
public import proofs.«01_k».proof.Proof.Gen.KernelLatFwdIdeal.Points
public import proofs.«01_k».proof.Proof.Gen.KernelLatFwdIdeal.Frame
public import proofs.«01_k».proof.Proof.Gen.ReferenceLatFwdIdeal
public import proofs.«01_k».proof.Proof.Gen.KernelQkFwd
public import proofs.«01_k».proof.Proof.Gen.KernelQkFwd.Skeleton
public import proofs.«01_k».proof.Proof.Gen.KernelQkFwd.Launch
public import proofs.«01_k».proof.Proof.Gen.KernelQkFwd.Points
public import proofs.«01_k».proof.Proof.Gen.KernelQkFwd.Frame
public import proofs.«01_k».proof.Proof.Gen.KernelQkFwdIdeal
public import proofs.«01_k».proof.Proof.Gen.KernelQkFwdIdeal.Skeleton
public import proofs.«01_k».proof.Proof.Gen.KernelQkFwdIdeal.Launch
public import proofs.«01_k».proof.Proof.Gen.KernelQkFwdIdeal.Points
public import proofs.«01_k».proof.Proof.Gen.KernelQkFwdIdeal.Frame
public import proofs.«01_k».proof.Proof.Gen.ReferenceQkFwdIdeal
public import proofs.«01_k».proof.Proof.Gen.KernelGla
public import proofs.«01_k».proof.Proof.Gen.KernelGla.Skeleton
public import proofs.«01_k».proof.Proof.Gen.KernelGla.Launch
public import proofs.«01_k».proof.Proof.Gen.KernelGla.Points
public import proofs.«01_k».proof.Proof.Gen.KernelGla.Frame
public import proofs.«01_k».proof.Proof.Gen.KernelGlaIdeal
public import proofs.«01_k».proof.Proof.Gen.KernelGlaIdeal.Skeleton
public import proofs.«01_k».proof.Proof.Gen.KernelGlaIdeal.Launch
public import proofs.«01_k».proof.Proof.Gen.KernelGlaIdeal.Points
public import proofs.«01_k».proof.Proof.Gen.KernelGlaIdeal.Frame
public import proofs.«01_k».proof.Proof.Gen.KernelGlaFwd
public import proofs.«01_k».proof.Proof.Gen.KernelGlaFwd.Skeleton
public import proofs.«01_k».proof.Proof.Gen.KernelGlaFwd.Launch
public import proofs.«01_k».proof.Proof.Gen.KernelGlaFwd.Points
public import proofs.«01_k».proof.Proof.Gen.KernelGlaFwd.Frame
public import proofs.«01_k».proof.Proof.Gen.KernelGlaFwdIdeal
public import proofs.«01_k».proof.Proof.Gen.KernelGlaFwdIdeal.Skeleton
public import proofs.«01_k».proof.Proof.Gen.KernelGlaFwdIdeal.Launch
public import proofs.«01_k».proof.Proof.Gen.KernelGlaFwdIdeal.Points
public import proofs.«01_k».proof.Proof.Gen.KernelGlaFwdIdeal.Frame
public import proofs.«01_k».proof.Proof.Gen.ReferenceGlaFwdIdeal
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.ReferenceProjIdeal
public import proofs.«01_k».proof.Proof.Gen.KernelAdam
public import proofs.«01_k».proof.Proof.Gen.KernelAdam.Skeleton
public import proofs.«01_k».proof.Proof.Gen.KernelAdam.Launch
public import proofs.«01_k».proof.Proof.Gen.KernelAdam.Points
public import proofs.«01_k».proof.Proof.Gen.KernelAdam.Frame
public import proofs.«01_k».proof.Proof.Gen.KernelAdamIdeal
public import proofs.«01_k».proof.Proof.Gen.KernelAdamIdeal.Skeleton
public import proofs.«01_k».proof.Proof.Gen.KernelAdamIdeal.Launch
public import proofs.«01_k».proof.Proof.Gen.KernelAdamIdeal.Points
public import proofs.«01_k».proof.Proof.Gen.KernelAdamIdeal.Frame
public import proofs.«01_k».proof.Proof.Gen.ReferenceAdamIdeal
public import proofs.«01_k».proof.Proof.Gen.KernelProjDx
public import proofs.«01_k».proof.Proof.Gen.KernelProjDx.Skeleton
public import proofs.«01_k».proof.Proof.Gen.KernelProjDx.Launch
public import proofs.«01_k».proof.Proof.Gen.KernelProjDx.Points
public import proofs.«01_k».proof.Proof.Gen.KernelProjDx.Frame
public import proofs.«01_k».proof.Proof.Gen.KernelProjDxIdeal
public import proofs.«01_k».proof.Proof.Gen.KernelProjDxIdeal.Skeleton
public import proofs.«01_k».proof.Proof.Gen.KernelProjDxIdeal.Launch
public import proofs.«01_k».proof.Proof.Gen.KernelProjDxIdeal.Points
public import proofs.«01_k».proof.Proof.Gen.KernelProjDxIdeal.Frame
public import proofs.«01_k».proof.Proof.Gen.ReferenceProjDxIdeal
public import proofs.«01_k».proof.Proof.Gen.KernelProjDw
public import proofs.«01_k».proof.Proof.Gen.KernelProjDw.Skeleton
public import proofs.«01_k».proof.Proof.Gen.KernelProjDw.Launch
public import proofs.«01_k».proof.Proof.Gen.KernelProjDw.Points
public import proofs.«01_k».proof.Proof.Gen.KernelProjDw.Frame
public import proofs.«01_k».proof.Proof.Gen.KernelProjDwIdeal
public import proofs.«01_k».proof.Proof.Gen.KernelProjDwIdeal.Skeleton
public import proofs.«01_k».proof.Proof.Gen.KernelProjDwIdeal.Launch
public import proofs.«01_k».proof.Proof.Gen.KernelProjDwIdeal.Points
public import proofs.«01_k».proof.Proof.Gen.KernelProjDwIdeal.Frame
public import proofs.«01_k».proof.Proof.Gen.ReferenceProjDwIdeal
public import proofs.«01_k».proof.Proof.Gen.Pre_finite_attn
public import proofs.«01_k».proof.Proof.Gen.Pre_finite_scores
public import proofs.«01_k».proof.Proof.Gen.Pre_finite_lat
public import proofs.«01_k».proof.Proof.Gen.Pre_finite_norm1
public import proofs.«01_k».proof.Proof.Gen.Pre_finite_norm2
public import proofs.«01_k».proof.Proof.Gen.Pre_finite_qk
public import proofs.«01_k».proof.Proof.AdamClaim
public import proofs.«01_k».proof.Proof.AttnClaim
public import proofs.«01_k».proof.Proof.AttnFwdClaim
public import proofs.«01_k».proof.Proof.GlaFwdClaim
public import proofs.«01_k».proof.Proof.LatClaim
public import proofs.«01_k».proof.Proof.LatFwdClaim
public import proofs.«01_k».proof.Proof.LossClaim
public import proofs.«01_k».proof.Proof.MergeClaim
public import proofs.«01_k».proof.Proof.MergeFwdClaim
public import proofs.«01_k».proof.Proof.Norm1Claim
public import proofs.«01_k».proof.Proof.Norm1FwdClaim
public import proofs.«01_k».proof.Proof.Norm2Claim
public import proofs.«01_k».proof.Proof.Norm2FwdClaim
public import proofs.«01_k».proof.Proof.ProjClaim
public import proofs.«01_k».proof.Proof.ProjDwClaim
public import proofs.«01_k».proof.Proof.ProjDxClaim
public import proofs.«01_k».proof.Proof.QkClaim
public import proofs.«01_k».proof.Proof.QkFwdClaim
public import proofs.«01_k».proof.Proof.Relu2Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelAttn.Gen.facts, Cert.KernelAttnIdeal.Gen.facts, Cert.ReferenceAttnIdeal.Gen.facts, Cert.KernelAttnFwd.Gen.facts, Cert.KernelAttnFwdIdeal.Gen.facts, Cert.ReferenceAttnFwdIdeal.Gen.facts, Cert.KernelLat.Gen.facts, Cert.KernelLatIdeal.Gen.facts, Cert.ReferenceLatIdeal.Gen.facts, Cert.KernelNorm1.Gen.facts, Cert.KernelNorm1Ideal.Gen.facts, Cert.ReferenceNorm1Ideal.Gen.facts, Cert.KernelNorm2.Gen.facts, Cert.KernelNorm2Ideal.Gen.facts, Cert.ReferenceNorm2Ideal.Gen.facts, Cert.KernelLoss.Gen.facts, Cert.KernelLossIdeal.Gen.facts, Cert.ReferenceLossIdeal.Gen.facts, Cert.KernelRelu2.Gen.facts, Cert.KernelRelu2Ideal.Gen.facts, Cert.ReferenceRelu2Ideal.Gen.facts, Cert.KernelQk.Gen.facts, Cert.KernelQkIdeal.Gen.facts, Cert.ReferenceQkIdeal.Gen.facts, Cert.KernelMergeFwd.Gen.facts, Cert.KernelMergeFwdIdeal.Gen.facts, Cert.ReferenceMergeFwdIdeal.Gen.facts, Cert.KernelNorm1Fwd.Gen.facts, Cert.KernelNorm1FwdIdeal.Gen.facts, Cert.ReferenceNorm1FwdIdeal.Gen.facts, Cert.KernelNorm2Fwd.Gen.facts, Cert.KernelNorm2FwdIdeal.Gen.facts, Cert.ReferenceNorm2FwdIdeal.Gen.facts, Cert.KernelLatFwd.Gen.facts, Cert.KernelLatFwdIdeal.Gen.facts, Cert.ReferenceLatFwdIdeal.Gen.facts, Cert.KernelQkFwd.Gen.facts, Cert.KernelQkFwdIdeal.Gen.facts, Cert.ReferenceQkFwdIdeal.Gen.facts, Cert.KernelGla.Gen.facts, Cert.KernelGlaIdeal.Gen.facts, Cert.KernelGlaFwd.Gen.facts, Cert.KernelGlaFwdIdeal.Gen.facts, Cert.ReferenceGlaFwdIdeal.Gen.facts, Cert.KernelProj.Gen.facts, Cert.KernelProjIdeal.Gen.facts, Cert.ReferenceProjIdeal.Gen.facts, Cert.KernelAdam.Gen.facts, Cert.KernelAdamIdeal.Gen.facts, Cert.ReferenceAdamIdeal.Gen.facts, Cert.KernelProjDx.Gen.facts, Cert.KernelProjDxIdeal.Gen.facts, Cert.ReferenceProjDxIdeal.Gen.facts, Cert.KernelProjDw.Gen.facts, Cert.KernelProjDwIdeal.Gen.facts, Cert.ReferenceProjDwIdeal.Gen.facts, Cert.Pre_finite_attn.Gen.facts, Cert.Pre_finite_scores.Gen.facts, Cert.Pre_finite_lat.Gen.facts, Cert.Pre_finite_norm1.Gen.facts, Cert.Pre_finite_norm2.Gen.facts, Cert.Pre_finite_qk.Gen.facts, by
  exact ⟨fun m ρ _ => Cert.Kernel.Gen.frame m ρ,
    fun m ρ _ => Cert.KernelIdeal.Gen.frame m ρ,
    Merge.frame_reference,
    fun m ρ _ => Cert.KernelAttn.Gen.frame m ρ,
    fun m ρ _ => Cert.KernelAttnIdeal.Gen.frame m ρ,
    fun m ρ _ => Cert.KernelAttnIdeal.Gen.frame m ρ,
    Attn.frame_reference,
    fun m g _ => Attn.frame_reference m g trivial,
    fun m ρ _ => Cert.KernelAttnFwd.Gen.frame m ρ,
    fun m ρ _ => Cert.KernelAttnFwdIdeal.Gen.frame m ρ,
    fun m ρ _ => Cert.KernelAttnFwdIdeal.Gen.frame m ρ,
    AttnFwd.frame_reference,
    fun m g _ => AttnFwd.frame_reference m g trivial,
    fun m ρ _ => Cert.KernelLat.Gen.frame m ρ,
    fun m ρ _ => Cert.KernelLatIdeal.Gen.frame m ρ,
    fun m ρ _ => Cert.KernelLatIdeal.Gen.frame m ρ,
    Lat.frame_reference,
    fun m g _ => Lat.frame_reference m g trivial,
    fun m ρ _ => Cert.KernelNorm1.Gen.frame m ρ,
    fun m ρ _ => Cert.KernelNorm1Ideal.Gen.frame m ρ,
    fun m ρ _ => Cert.KernelNorm1Ideal.Gen.frame m ρ,
    Norm1.frame_reference,
    fun m g _ => Norm1.frame_reference m g trivial,
    fun m ρ _ => Cert.KernelNorm2.Gen.frame m ρ,
    fun m ρ _ => Cert.KernelNorm2Ideal.Gen.frame m ρ,
    fun m ρ _ => Cert.KernelNorm2Ideal.Gen.frame m ρ,
    Norm2.frame_reference,
    fun m g _ => Norm2.frame_reference m g trivial,
    fun m ρ _ => Cert.KernelLoss.Gen.frame m ρ,
    fun m ρ _ => Cert.KernelLossIdeal.Gen.frame m ρ,
    Loss.frame_reference,
    fun m ρ _ => Cert.KernelRelu2.Gen.frame m ρ,
    fun m ρ _ => Cert.KernelRelu2Ideal.Gen.frame m ρ,
    Relu2.frame_reference,
    fun m ρ _ => Cert.KernelQk.Gen.frame m ρ,
    fun m ρ _ => Cert.KernelQkIdeal.Gen.frame m ρ,
    fun m ρ _ => Cert.KernelQkIdeal.Gen.frame m ρ,
    Qk.frame_reference,
    fun m g _ => Qk.frame_reference m g trivial,
    fun m ρ _ => Cert.KernelMergeFwd.Gen.frame m ρ,
    fun m ρ _ => Cert.KernelMergeFwdIdeal.Gen.frame m ρ,
    MergeFwd.frame_reference,
    fun m ρ _ => Cert.KernelNorm1Fwd.Gen.frame m ρ,
    fun m ρ _ => Cert.KernelNorm1FwdIdeal.Gen.frame m ρ,
    Norm1Fwd.frame_reference,
    fun m ρ _ => Cert.KernelNorm2Fwd.Gen.frame m ρ,
    fun m ρ _ => Cert.KernelNorm2FwdIdeal.Gen.frame m ρ,
    Norm2Fwd.frame_reference,
    fun m ρ _ => Cert.KernelLatFwd.Gen.frame m ρ,
    fun m ρ _ => Cert.KernelLatFwdIdeal.Gen.frame m ρ,
    LatFwd.frame_reference,
    fun m ρ _ => Cert.KernelQkFwd.Gen.frame m ρ,
    fun m ρ _ => Cert.KernelQkFwdIdeal.Gen.frame m ρ,
    QkFwd.frame_reference,
    fun m ρ _ => Cert.KernelGla.Gen.frame m ρ,
    fun m ρ _ => Cert.KernelGlaIdeal.Gen.frame m ρ,
    fun m ρ _ => Cert.KernelGlaFwd.Gen.frame m ρ,
    fun m ρ _ => Cert.KernelGlaFwdIdeal.Gen.frame m ρ,
    GlaFwd.frame_reference,
    fun m ρ _ => Cert.KernelProj.Gen.frame m ρ,
    fun m ρ _ => Cert.KernelProjIdeal.Gen.frame m ρ,
    Proj.frame_reference,
    fun m ρ _ => Cert.KernelAdam.Gen.frame m ρ,
    fun m ρ _ => Cert.KernelAdamIdeal.Gen.frame m ρ,
    Adam.frame_reference,
    fun m ρ _ => Cert.KernelProjDx.Gen.frame m ρ,
    fun m ρ _ => Cert.KernelProjDxIdeal.Gen.frame m ρ,
    ProjDx.frame_reference,
    fun m ρ _ => Cert.KernelProjDw.Gen.frame m ρ,
    fun m ρ _ => Cert.KernelProjDwIdeal.Gen.frame m ρ,
    ProjDw.frame_reference,
    trivial,
    Merge.algebraic,
    Attn.preserves,
    Attn.algebraic,
    AttnFwd.preserves,
    AttnFwd.algebraic,
    trivial,
    Lat.algebraic,
    trivial,
    Norm1.algebraic,
    trivial,
    Norm2.algebraic,
    trivial,
    Loss.algebraic,
    trivial,
    Relu2.algebraic,
    Qk.preserves,
    Qk.algebraic,
    trivial,
    MergeFwd.algebraic,
    trivial,
    Norm1Fwd.algebraic,
    trivial,
    Norm2Fwd.algebraic,
    trivial,
    LatFwd.algebraic,
    QkFwd.preserves,
    QkFwd.algebraic,
    trivial,
    trivial,
    GlaFwd.algebraic,
    trivial,
    Proj.algebraic,
    trivial,
    Adam.algebraic,
    trivial,
    ProjDx.algebraic,
    trivial,
    ProjDw.algebraic⟩⟩

end Cert.Proof

end
